-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v19)) (v2 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_v21) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_v77) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x131072x1280 : Shape := ⟨3, ![2, 131072, 1280]⟩
abbrev S2x131072x10 : Shape := ⟨3, ![2, 131072, 10]⟩
abbrev S1280x2x3456 : Shape := ⟨3, ![1280, 2, 3456]⟩
abbrev S10x2x27 : Shape := ⟨3, ![10, 2, 27]⟩
abbrev S3456x1280 : Shape := ⟨2, ![3456, 1280]⟩
abbrev S27x10 : Shape := ⟨2, ![27, 10]⟩
abbrev S262144x1280 : Shape := ⟨2, ![262144, 1280]⟩
abbrev S262144x10 : Shape := ⟨2, ![262144, 10]⟩
abbrev S1280x1x3456 : Shape := ⟨3, ![1280, 1, 3456]⟩
abbrev S1280x3456 : Shape := ⟨2, ![1280, 3456]⟩
abbrev S10x1x27 : Shape := ⟨3, ![10, 1, 27]⟩
abbrev S10x27 : Shape := ⟨2, ![10, 27]⟩
abbrev S1280x6912 : Shape := ⟨2, ![1280, 6912]⟩
abbrev S1280x128 : Shape := ⟨2, ![1280, 128]⟩
abbrev S128x1280 : Shape := ⟨2, ![128, 1280]⟩
abbrev S1280x256 : Shape := ⟨2, ![1280, 256]⟩
abbrev S128x128 : Shape := ⟨2, ![128, 128]⟩
abbrev S1x1 : Shape := ⟨2, ![1, 1]⟩
abbrev S1280x2560 : Shape := ⟨2, ![1280, 2560]⟩
abbrev S1280x1280 : Shape := ⟨2, ![1280, 1280]⟩
abbrev S512x1280 : Shape := ⟨2, ![512, 1280]⟩
abbrev S512x10 : Shape := ⟨2, ![512, 10]⟩
abbrev S1280x512 : Shape := ⟨2, ![1280, 512]⟩
abbrev S512x2560 : Shape := ⟨2, ![512, 2560]⟩
abbrev S2 : Shape := ⟨1, ![2]⟩
abbrev S1 : Shape := ⟨1, ![1]⟩
abbrev S_ : Shape := ⟨0, ![]⟩
abbrev S512x128 : Shape := ⟨2, ![512, 128]⟩
abbrev S512x1 : Shape := ⟨2, ![512, 1]⟩
abbrev S128x512 : Shape := ⟨2, ![128, 512]⟩
abbrev S512x256 : Shape := ⟨2, ![512, 256]⟩
abbrev S256x512 : Shape := ⟨2, ![256, 512]⟩
abbrev S512x512 : Shape := ⟨2, ![512, 512]⟩
abbrev S256x1280 : Shape := ⟨2, ![256, 1280]⟩
abbrev S1280x1792 : Shape := ⟨2, ![1280, 1792]⟩
abbrev S1280x896 : Shape := ⟨2, ![1280, 896]⟩
abbrev S896x1280 : Shape := ⟨2, ![896, 1280]⟩
abbrev S512x896 : Shape := ⟨2, ![512, 896]⟩
abbrev S512x1792 : Shape := ⟨2, ![512, 1792]⟩
abbrev S256x256 : Shape := ⟨2, ![256, 256]⟩
abbrev S1280x27x2x128 : Shape := ⟨4, ![1280, 27, 2, 128]⟩
abbrev S1280x2x27x128 : Shape := ⟨4, ![1280, 2, 27, 128]⟩

abbrev nBuf : Space → Nat
  | .hbm => 38
  | .vmem => 74
  | .smem => 3
  | _ => 0

abbrev bufTy : (tb : Table) → Fin (tcTables nBuf tb) → BufTy
  | .hbm, ⟨0, _⟩ => ⟨S2x131072x1280, .fp8e4m3⟩
  | .hbm, ⟨1, _⟩ => ⟨S2x131072x10, .f32⟩
  | .hbm, ⟨2, _⟩ => ⟨S2x131072x1280, .fp8e5m2⟩
  | .hbm, ⟨3, _⟩ => ⟨S2x131072x10, .f32⟩
  | .hbm, ⟨4, _⟩ => ⟨S1280x2x3456, .fp8e4m3⟩
  | .hbm, ⟨5, _⟩ => ⟨S10x2x27, .f32⟩
  | .hbm, ⟨6, _⟩ => ⟨S3456x1280, .fp8e4m3⟩
  | .hbm, ⟨7, _⟩ => ⟨S27x10, .f32⟩
  | .hbm, ⟨8, _⟩ => ⟨S262144x1280, .fp8e4m3⟩
  | .hbm, ⟨9, _⟩ => ⟨S262144x1280, .fp8e5m2⟩
  | .hbm, ⟨10, _⟩ => ⟨S262144x10, .f32⟩
  | .hbm, ⟨11, _⟩ => ⟨S262144x10, .f32⟩
  | .hbm, ⟨12, _⟩ => ⟨S1280x1x3456, .fp8e4m3⟩
  | .hbm, ⟨13, _⟩ => ⟨S1280x3456, .fp8e4m3⟩
  | .hbm, ⟨14, _⟩ => ⟨S1280x1x3456, .fp8e4m3⟩
  | .hbm, ⟨15, _⟩ => ⟨S1280x3456, .fp8e4m3⟩
  | .hbm, ⟨16, _⟩ => ⟨S10x1x27, .f32⟩
  | .hbm, ⟨17, _⟩ => ⟨S10x27, .f32⟩
  | .hbm, ⟨18, _⟩ => ⟨S10x1x27, .f32⟩
  | .hbm, ⟨19, _⟩ => ⟨S10x27, .f32⟩
  | .hbm, ⟨20, _⟩ => ⟨S1280x6912, .bf16⟩
  | .hbm, ⟨21, _⟩ => ⟨S3456x1280, .bf16⟩
  | .hbm, ⟨22, _⟩ => ⟨S262144x1280, .f32⟩
  | .hbm, ⟨23, _⟩ => ⟨S1280x2560, .f32⟩
  | .hbm, ⟨24, _⟩ => ⟨S1280x1280, .f32⟩
  | .hbm, ⟨25, _⟩ => ⟨S262144x1280, .f32⟩
  | .hbm, ⟨26, _⟩ => ⟨S1280x2560, .f32⟩
  | .hbm, ⟨27, _⟩ => ⟨S1280x1280, .f32⟩
  | .hbm, ⟨28, _⟩ => ⟨S262144x1280, .bf16⟩
  | .hbm, ⟨29, _⟩ => ⟨S1280x1792, .f32⟩
  | .hbm, ⟨30, _⟩ => ⟨S1280x896, .f32⟩
  | .hbm, ⟨31, _⟩ => ⟨S1280x6912, .f32⟩
  | .hbm, ⟨32, _⟩ => ⟨S1280x27x2x128, .f32⟩
  | .hbm, ⟨33, _⟩ => ⟨S1280x2x27x128, .f32⟩
  | .hbm, ⟨34, _⟩ => ⟨S1280x2x3456, .f32⟩
  | .hbm, ⟨35, _⟩ => ⟨S1280x3456, .f32⟩
  | .hbm, ⟨36, _⟩ => ⟨S3456x1280, .f32⟩
  | .hbm, ⟨37, _⟩ => ⟨S2x131072x1280, .bf16⟩
  | .local _ .vmem, ⟨0, _⟩ => ⟨S1280x128, .fp8e4m3⟩
  | .local _ .vmem, ⟨1, _⟩ => ⟨S1280x128, .fp8e4m3⟩
  | .local _ .vmem, ⟨2, _⟩ => ⟨S1280x128, .fp8e4m3⟩
  | .local _ .vmem, ⟨3, _⟩ => ⟨S1280x128, .fp8e4m3⟩
  | .local _ .vmem, ⟨4, _⟩ => ⟨S128x1280, .fp8e4m3⟩
  | .local _ .vmem, ⟨5, _⟩ => ⟨S128x1280, .fp8e4m3⟩
  | .local _ .vmem, ⟨6, _⟩ => ⟨S1280x256, .bf16⟩
  | .local _ .vmem, ⟨7, _⟩ => ⟨S1280x256, .bf16⟩
  | .local _ .vmem, ⟨8, _⟩ => ⟨S128x1280, .bf16⟩
  | .local _ .vmem, ⟨9, _⟩ => ⟨S128x1280, .bf16⟩
  | .local _ .vmem, ⟨10, _⟩ => ⟨S512x1280, .fp8e4m3⟩
  | .local _ .vmem, ⟨11, _⟩ => ⟨S512x1280, .fp8e4m3⟩
  | .local _ .vmem, ⟨12, _⟩ => ⟨S512x10, .f32⟩
  | .local _ .vmem, ⟨13, _⟩ => ⟨S512x10, .f32⟩
  | .local _ .vmem, ⟨14, _⟩ => ⟨S512x1280, .fp8e5m2⟩
  | .local _ .vmem, ⟨15, _⟩ => ⟨S512x1280, .fp8e5m2⟩
  | .local _ .vmem, ⟨16, _⟩ => ⟨S512x10, .f32⟩
  | .local _ .vmem, ⟨17, _⟩ => ⟨S512x10, .f32⟩
  | .local _ .vmem, ⟨18, _⟩ => ⟨S512x1280, .f32⟩
  | .local _ .vmem, ⟨19, _⟩ => ⟨S512x1280, .f32⟩
  | .local _ .vmem, ⟨20, _⟩ => ⟨S1280x2560, .bf16⟩
  | .local _ .vmem, ⟨21, _⟩ => ⟨S1280x1280, .bf16⟩
  | .local _ .vmem, ⟨22, _⟩ => ⟨S1280x2560, .f32⟩
  | .local _ .vmem, ⟨23, _⟩ => ⟨S1280x1280, .f32⟩
  | .local _ .vmem, ⟨24, _⟩ => ⟨S512x1280, .bf16⟩
  | .local _ .vmem, ⟨25, _⟩ => ⟨S512x1280, .bf16⟩
  | .local _ .vmem, ⟨26, _⟩ => ⟨S1280x512, .bf16⟩
  | .local _ .vmem, ⟨27, _⟩ => ⟨S1280x512, .bf16⟩
  | .local _ .vmem, ⟨28, _⟩ => ⟨S512x1280, .bf16⟩
  | .local _ .vmem, ⟨29, _⟩ => ⟨S512x2560, .bf16⟩
  | .local _ .vmem, ⟨30, _⟩ => ⟨S512x1280, .fp8e4m3⟩
  | .local _ .vmem, ⟨31, _⟩ => ⟨S512x1280, .fp8e4m3⟩
  | .local _ .vmem, ⟨32, _⟩ => ⟨S512x10, .f32⟩
  | .local _ .vmem, ⟨33, _⟩ => ⟨S512x10, .f32⟩
  | .local _ .vmem, ⟨34, _⟩ => ⟨S512x1280, .fp8e5m2⟩
  | .local _ .vmem, ⟨35, _⟩ => ⟨S512x1280, .fp8e5m2⟩
  | .local _ .vmem, ⟨36, _⟩ => ⟨S512x10, .f32⟩
  | .local _ .vmem, ⟨37, _⟩ => ⟨S512x10, .f32⟩
  | .local _ .vmem, ⟨38, _⟩ => ⟨S512x1280, .f32⟩
  | .local _ .vmem, ⟨39, _⟩ => ⟨S512x1280, .f32⟩
  | .local _ .vmem, ⟨40, _⟩ => ⟨S512x1280, .f32⟩
  | .local _ .vmem, ⟨41, _⟩ => ⟨S512x1280, .f32⟩
  | .local _ .vmem, ⟨42, _⟩ => ⟨S1280x2560, .bf16⟩
  | .local _ .vmem, ⟨43, _⟩ => ⟨S1280x1280, .bf16⟩
  | .local _ .vmem, ⟨44, _⟩ => ⟨S1280x2560, .f32⟩
  | .local _ .vmem, ⟨45, _⟩ => ⟨S1280x1280, .f32⟩
  | .local _ .vmem, ⟨46, _⟩ => ⟨S512x1280, .bf16⟩
  | .local _ .vmem, ⟨47, _⟩ => ⟨S512x1280, .bf16⟩
  | .local _ .vmem, ⟨48, _⟩ => ⟨S1280x512, .bf16⟩
  | .local _ .vmem, ⟨49, _⟩ => ⟨S1280x512, .bf16⟩
  | .local _ .vmem, ⟨50, _⟩ => ⟨S512x1280, .bf16⟩
  | .local _ .vmem, ⟨51, _⟩ => ⟨S512x2560, .bf16⟩
  | .local _ .vmem, ⟨52, _⟩ => ⟨S512x1280, .fp8e4m3⟩
  | .local _ .vmem, ⟨53, _⟩ => ⟨S512x1280, .fp8e4m3⟩
  | .local _ .vmem, ⟨54, _⟩ => ⟨S512x10, .f32⟩
  | .local _ .vmem, ⟨55, _⟩ => ⟨S512x10, .f32⟩
  | .local _ .vmem, ⟨56, _⟩ => ⟨S512x1280, .fp8e5m2⟩
  | .local _ .vmem, ⟨57, _⟩ => ⟨S512x1280, .fp8e5m2⟩
  | .local _ .vmem, ⟨58, _⟩ => ⟨S512x10, .f32⟩
  | .local _ .vmem, ⟨59, _⟩ => ⟨S512x10, .f32⟩
  | .local _ .vmem, ⟨60, _⟩ => ⟨S512x1280, .f32⟩
  | .local _ .vmem, ⟨61, _⟩ => ⟨S512x1280, .f32⟩
  | .local _ .vmem, ⟨62, _⟩ => ⟨S512x1280, .bf16⟩
  | .local _ .vmem, ⟨63, _⟩ => ⟨S512x1280, .bf16⟩
  | .local _ .vmem, ⟨64, _⟩ => ⟨S1280x1792, .bf16⟩
  | .local _ .vmem, ⟨65, _⟩ => ⟨S896x1280, .bf16⟩
  | .local _ .vmem, ⟨66, _⟩ => ⟨S1280x1792, .f32⟩
  | .local _ .vmem, ⟨67, _⟩ => ⟨S1280x896, .f32⟩
  | .local _ .vmem, ⟨68, _⟩ => ⟨S512x1280, .bf16⟩
  | .local _ .vmem, ⟨69, _⟩ => ⟨S512x1280, .bf16⟩
  | .local _ .vmem, ⟨70, _⟩ => ⟨S1280x512, .bf16⟩
  | .local _ .vmem, ⟨71, _⟩ => ⟨S1280x512, .bf16⟩
  | .local _ .vmem, ⟨72, _⟩ => ⟨S512x896, .bf16⟩
  | .local _ .vmem, ⟨73, _⟩ => ⟨S512x1792, .bf16⟩
  | .local _ .smem, ⟨0, _⟩ => ⟨S10x27, .f32⟩
  | .local _ .smem, ⟨1, _⟩ => ⟨S10x27, .f32⟩
  | .local _ .smem, ⟨2, _⟩ => ⟨S27x10, .f32⟩
  | _, _ => ⟨S2x131072x1280, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev main_v13_0 : Ref sig .tc := ⟨.hbm, 22, rfl⟩
abbrev main_v13_1 : Ref sig .tc := ⟨.hbm, 23, rfl⟩
abbrev main_v13_2 : Ref sig .tc := ⟨.hbm, 24, rfl⟩
abbrev main_v14_0 : Ref sig .tc := ⟨.hbm, 25, rfl⟩
abbrev main_v14_1 : Ref sig .tc := ⟨.hbm, 26, rfl⟩
abbrev main_v14_2 : Ref sig .tc := ⟨.hbm, 27, rfl⟩
abbrev main_v15_0 : Ref sig .tc := ⟨.hbm, 28, rfl⟩
abbrev main_v15_1 : Ref sig .tc := ⟨.hbm, 29, rfl⟩
abbrev main_v15_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_scratch0 : Ref sig .tc := ⟨.vmem, 20, rfl⟩
abbrev cc1_scratch1 : Ref sig .tc := ⟨.vmem, 21, rfl⟩
abbrev cc1_scratch2 : Ref sig .tc := ⟨.vmem, 22, rfl⟩
abbrev cc1_scratch3 : Ref sig .tc := ⟨.vmem, 23, rfl⟩
abbrev cc1_scratch4 : Ref sig .tc := ⟨.vmem, 24, rfl⟩
abbrev cc1_scratch5 : Ref sig .tc := ⟨.vmem, 25, rfl⟩
abbrev cc1_scratch6 : Ref sig .tc := ⟨.vmem, 26, rfl⟩
abbrev cc1_scratch7 : Ref sig .tc := ⟨.vmem, 27, rfl⟩
abbrev cc1_scratch8 : Ref sig .tc := ⟨.vmem, 28, rfl⟩
abbrev cc1_scratch9 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc2_stg2_0 : Ref sig .tc := ⟨.vmem, 34, rfl⟩
abbrev cc2_stg2_1 : Ref sig .tc := ⟨.vmem, 35, rfl⟩
abbrev cc2_stg3_0 : Ref sig .tc := ⟨.vmem, 36, rfl⟩
abbrev cc2_stg3_1 : Ref sig .tc := ⟨.vmem, 37, rfl⟩
abbrev cc2_stg4_0 : Ref sig .tc := ⟨.vmem, 38, rfl⟩
abbrev cc2_stg4_1 : Ref sig .tc := ⟨.vmem, 39, rfl⟩
abbrev cc2_stg5_0 : Ref sig .tc := ⟨.vmem, 40, rfl⟩
abbrev cc2_stg5_1 : Ref sig .tc := ⟨.vmem, 41, rfl⟩
abbrev cc2_scratch0 : Ref sig .tc := ⟨.vmem, 42, rfl⟩
abbrev cc2_scratch1 : Ref sig .tc := ⟨.vmem, 43, rfl⟩
abbrev cc2_scratch2 : Ref sig .tc := ⟨.vmem, 44, rfl⟩
abbrev cc2_scratch3 : Ref sig .tc := ⟨.vmem, 45, rfl⟩
abbrev cc2_scratch4 : Ref sig .tc := ⟨.vmem, 46, rfl⟩
abbrev cc2_scratch5 : Ref sig .tc := ⟨.vmem, 47, rfl⟩
abbrev cc2_scratch6 : Ref sig .tc := ⟨.vmem, 48, rfl⟩
abbrev cc2_scratch7 : Ref sig .tc := ⟨.vmem, 49, rfl⟩
abbrev cc2_scratch8 : Ref sig .tc := ⟨.vmem, 50, rfl⟩
abbrev cc2_scratch9 : Ref sig .tc := ⟨.vmem, 51, rfl⟩
abbrev cc3_stg0_0 : Ref sig .tc := ⟨.vmem, 52, rfl⟩
abbrev cc3_stg0_1 : Ref sig .tc := ⟨.vmem, 53, rfl⟩
abbrev cc3_stg1_0 : Ref sig .tc := ⟨.vmem, 54, rfl⟩
abbrev cc3_stg1_1 : Ref sig .tc := ⟨.vmem, 55, rfl⟩
abbrev cc3_stg2_0 : Ref sig .tc := ⟨.vmem, 56, rfl⟩
abbrev cc3_stg2_1 : Ref sig .tc := ⟨.vmem, 57, rfl⟩
abbrev cc3_stg3_0 : Ref sig .tc := ⟨.vmem, 58, rfl⟩
abbrev cc3_stg3_1 : Ref sig .tc := ⟨.vmem, 59, rfl⟩
abbrev cc3_stg4_0 : Ref sig .tc := ⟨.vmem, 60, rfl⟩
abbrev cc3_stg4_1 : Ref sig .tc := ⟨.vmem, 61, rfl⟩
abbrev cc3_stg5_0 : Ref sig .tc := ⟨.vmem, 62, rfl⟩
abbrev cc3_stg5_1 : Ref sig .tc := ⟨.vmem, 63, rfl⟩
abbrev cc3_scratch0 : Ref sig .tc := ⟨.vmem, 64, rfl⟩
abbrev cc3_scratch1 : Ref sig .tc := ⟨.vmem, 65, rfl⟩
abbrev cc3_scratch2 : Ref sig .tc := ⟨.vmem, 66, rfl⟩
abbrev cc3_scratch3 : Ref sig .tc := ⟨.vmem, 67, rfl⟩
abbrev cc3_scratch4 : Ref sig .tc := ⟨.vmem, 68, rfl⟩
abbrev cc3_scratch5 : Ref sig .tc := ⟨.vmem, 69, rfl⟩
abbrev cc3_scratch6 : Ref sig .tc := ⟨.vmem, 70, rfl⟩
abbrev cc3_scratch7 : Ref sig .tc := ⟨.vmem, 71, rfl⟩
abbrev cc3_scratch8 : Ref sig .tc := ⟨.vmem, 72, rfl⟩
abbrev cc3_scratch9 : Ref sig .tc := ⟨.vmem, 73, rfl⟩
abbrev cc0_stg3_0 : Ref sig .tc := ⟨.smem, 0, rfl⟩
abbrev cc0_stg4_0 : Ref sig .tc := ⟨.smem, 1, rfl⟩
abbrev cc0_stg5_0 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem4_1 : DmaSem sig := 22
abbrev cc2_sem0_0 : DmaSem sig := 25
abbrev cc2_sem0_1 : DmaSem sig := 26
abbrev cc2_sem1_0 : DmaSem sig := 27
abbrev cc2_sem1_1 : DmaSem sig := 28
abbrev cc2_sem2_0 : DmaSem sig := 29
abbrev cc2_sem2_1 : DmaSem sig := 30
abbrev cc2_sem3_0 : DmaSem sig := 31
abbrev cc2_sem3_1 : DmaSem sig := 32
abbrev cc2_sem4_0 : DmaSem sig := 33
abbrev cc2_sem4_1 : DmaSem sig := 34
abbrev cc2_sem5_0 : DmaSem sig := 35
abbrev cc2_sem5_1 : DmaSem sig := 36
abbrev cc3_sem0_0 : DmaSem sig := 39
abbrev cc3_sem0_1 : DmaSem sig := 40
abbrev cc3_sem1_0 : DmaSem sig := 41
abbrev cc3_sem1_1 : DmaSem sig := 42
abbrev cc3_sem2_0 : DmaSem sig := 43
abbrev cc3_sem2_1 : DmaSem sig := 44
abbrev cc3_sem3_0 : DmaSem sig := 45
abbrev cc3_sem3_1 : DmaSem sig := 46
abbrev cc3_sem4_0 : DmaSem sig := 47
abbrev cc3_sem4_1 : DmaSem sig := 48
abbrev cc3_sem5_0 : DmaSem sig := 49
abbrev cc3_sem5_1 : DmaSem sig := 50

abbrev nD : Nat := 1
abbrev τ : Topo := Topo.v7x

variable {F : FTy → Type} [FloatOps F]

abbrev grid0 : Pipeline.Grid := ⟨1, ![27], ![false]⟩

def k0_off1 (i : grid0.Coords) : Fin 2 → Nat :=
  let c0_1 : Index := 0#32
  let arg0 : BitVec 32 := BitVec.ofNat 32 (i 0).val
  let v3 : Index := Scalar.indexCast arg0
  ![0, v3.toNat]
def k0_off2 (i : grid0.Coords) : Fin 2 → Nat :=
  let arg0 : BitVec 32 := BitVec.ofNat 32 (i 0).val
  let v20 : Index := Scalar.indexCast arg0
  let c0_10 : Index := 0#32
  ![v20.toNat, 0]
def k0_off3 (i : grid0.Coords) : Fin 2 → Nat :=
  let c1 : Index := 1#32
  let arg0 : BitVec 32 := BitVec.ofNat 32 (i 0).val
  let v29 : Index := Scalar.indexCast arg0
  ![1, v29.toNat]
def k0_off4 (i : grid0.Coords) : Fin 2 → Nat :=
  let arg0 : BitVec 32 := BitVec.ofNat 32 (i 0).val
  let v46 : Index := Scalar.indexCast arg0
  let c1_24 : Index := 1#32
  ![v46.toNat, 1]
def k0_off5 (i : grid0.Coords) : Fin 2 → Nat :=
  let c2 : Index := 2#32
  let arg0 : BitVec 32 := BitVec.ofNat 32 (i 0).val
  let v55 : Index := Scalar.indexCast arg0
  ![2, v55.toNat]
def k0_off6 (i : grid0.Coords) : Fin 2 → Nat :=
  let arg0 : BitVec 32 := BitVec.ofNat 32 (i 0).val
  let v72 : Index := Scalar.indexCast arg0
  let c2_37 : Index := 2#32
  ![v72.toNat, 2]
def k0_off7 (i : grid0.Coords) : Fin 2 → Nat :=
  let c3 : Index := 3#32
  let arg0 : BitVec 32 := BitVec.ofNat 32 (i 0).val
  let v81 : Index := Scalar.indexCast arg0
  ![3, v81.toNat]
def k0_off8 (i : grid0.Coords) : Fin 2 → Nat :=
  let arg0 : BitVec 32 := BitVec.ofNat 32 (i 0).val
  let v98 : Index := Scalar.indexCast arg0
  let c3_50 : Index := 3#32
  ![v98.toNat, 3]
def k0_off9 (i : grid0.Coords) : Fin 2 → Nat :=
  let c4 : Index := 4#32
  let arg0 : BitVec 32 := BitVec.ofNat 32 (i 0).val
  let v107 : Index := Scalar.indexCast arg0
  ![4, v107.toNat]
def k0_off10 (i : grid0.Coords) : Fin 2 → Nat :=
  let arg0 : BitVec 32 := BitVec.ofNat 32 (i 0).val
  let v124 : Index := Scalar.indexCast arg0
  let c4_63 : Index := 4#32
  ![v124.toNat, 4]
def k0_off11 (i : grid0.Coords) : Fin 2 → Nat :=
  let c5 : Index := 5#32
  let arg0 : BitVec 32 := BitVec.ofNat 32 (i 0).val
  let v133 : Index := Scalar.indexCast arg0
  ![5, v133.toNat]
def k0_off12 (i : grid0.Coords) : Fin 2 → Nat :=
  let arg0 : BitVec 32 := BitVec.ofNat 32 (i 0).val
  let v150 : Index := Scalar.indexCast arg0
  let c5_76 : Index := 5#32
  ![v150.toNat, 5]
def k0_off13 (i : grid0.Coords) : Fin 2 → Nat :=
  let c6 : Index := 6#32
  let arg0 : BitVec 32 := BitVec.ofNat 32 (i 0).val
  let v159 : Index := Scalar.indexCast arg0
  ![6, v159.toNat]
def k0_off14 (i : grid0.Coords) : Fin 2 → Nat :=
  let arg0 : BitVec 32 := BitVec.ofNat 32 (i 0).val
  let v176 : Index := Scalar.indexCast arg0
  let c6_89 : Index := 6#32
  ![v176.toNat, 6]
def k0_off15 (i : grid0.Coords) : Fin 2 → Nat :=
  let c7 : Index := 7#32
  let arg0 : BitVec 32 := BitVec.ofNat 32 (i 0).val
  let v185 : Index := Scalar.indexCast arg0
  ![7, v185.toNat]
def k0_off16 (i : grid0.Coords) : Fin 2 → Nat :=
  let arg0 : BitVec 32 := BitVec.ofNat 32 (i 0).val
  let v202 : Index := Scalar.indexCast arg0
  let c7_102 : Index := 7#32
  ![v202.toNat, 7]
def k0_off17 (i : grid0.Coords) : Fin 2 → Nat :=
  let c8 : Index := 8#32
  let arg0 : BitVec 32 := BitVec.ofNat 32 (i 0).val
  let v211 : Index := Scalar.indexCast arg0
  ![8, v211.toNat]
def k0_off18 (i : grid0.Coords) : Fin 2 → Nat :=
  let arg0 : BitVec 32 := BitVec.ofNat 32 (i 0).val
  let v228 : Index := Scalar.indexCast arg0
  let c8_115 : Index := 8#32
  ![v228.toNat, 8]
def k0_off19 (i : grid0.Coords) : Fin 2 → Nat :=
  let c9 : Index := 9#32
  let arg0 : BitVec 32 := BitVec.ofNat 32 (i 0).val
  let v237 : Index := Scalar.indexCast arg0
  ![9, v237.toNat]
def k0_off20 (i : grid0.Coords) : Fin 2 → Nat :=
  let arg0 : BitVec 32 := BitVec.ofNat 32 (i 0).val
  let v254 : Index := Scalar.indexCast arg0
  let c9_128 : Index := 9#32
  ![v254.toNat, 9]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1280x128 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1280x128 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1280 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S10x27 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S10x27 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S27x10 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1280x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1280 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![512], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1280 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x10 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1280 .fp8e5m2 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x10 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x1280 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![512], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1280 .fp8e4m3 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x10 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x1280 .fp8e5m2 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512x10 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S512x1280 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S512x1280 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![512], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x1280 .fp8e4m3 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x10 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S512x1280 .fp8e5m2 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S512x10 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S512x1280 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S512x1280 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]
-- ==== ReferenceIdeal.lean ====
abbrev S2x131072x1280 : Shape := ⟨3, ![2, 131072, 1280]⟩
abbrev S2x131072x10 : Shape := ⟨3, ![2, 131072, 10]⟩
abbrev S1280x2x3456 : Shape := ⟨3, ![1280, 2, 3456]⟩
abbrev S10x2x27 : Shape := ⟨3, ![10, 2, 27]⟩
abbrev S3456x1280 : Shape := ⟨2, ![3456, 1280]⟩
abbrev S27x10 : Shape := ⟨2, ![27, 10]⟩
abbrev S10x128x2x27x128 : Shape := ⟨5, ![10, 128, 2, 27, 128]⟩
abbrev S10x1x2x27x1 : Shape := ⟨5, ![10, 1, 2, 27, 1]⟩
abbrev S27x128x10x128 : Shape := ⟨4, ![27, 128, 10, 128]⟩
abbrev S27x1x10x1 : Shape := ⟨4, ![27, 1, 10, 1]⟩
abbrev S262144x10x128 : Shape := ⟨3, ![262144, 10, 128]⟩
abbrev S262144x10 : Shape := ⟨2, ![262144, 10]⟩
abbrev S262144x10x1 : Shape := ⟨3, ![262144, 10, 1]⟩
abbrev S262144x1280 : Shape := ⟨2, ![262144, 1280]⟩
abbrev S262144x2x3456 : Shape := ⟨3, ![262144, 2, 3456]⟩
abbrev S262144x1x3456 : Shape := ⟨3, ![262144, 1, 3456]⟩
abbrev S262144x3456 : Shape := ⟨2, ![262144, 3456]⟩
abbrev S_ : Shape := ⟨0, ![]⟩

abbrev nBuf : Space → Nat
  | .hbm => 114
  | .vmem => 8
  | .smem => 0
  | _ => 0

abbrev bufTy : (tb : Table) → Fin (tcTables nBuf tb) → BufTy
  | .hbm, ⟨0, _⟩ => ⟨S2x131072x1280, .fp8e4m3⟩
  | .hbm, ⟨1, _⟩ => ⟨S2x131072x10, .f32⟩
  | .hbm, ⟨2, _⟩ => ⟨S2x131072x1280, .fp8e5m2⟩
  | .hbm, ⟨3, _⟩ => ⟨S2x131072x10, .f32⟩
  | .hbm, ⟨4, _⟩ => ⟨S1280x2x3456, .fp8e4m3⟩
  | .hbm, ⟨5, _⟩ => ⟨S10x2x27, .f32⟩
  | .hbm, ⟨6, _⟩ => ⟨S3456x1280, .fp8e4m3⟩
  | .hbm, ⟨7, _⟩ => ⟨S27x10, .f32⟩
  | .hbm, ⟨8, _⟩ => ⟨S2x131072x1280, .bf16⟩
  | .hbm, ⟨9, _⟩ => ⟨S2x131072x1280, .bf16⟩
  | .hbm, ⟨10, _⟩ => ⟨S1280x2x3456, .bf16⟩
  | .hbm, ⟨11, _⟩ => ⟨S3456x1280, .bf16⟩
  | .hbm, ⟨12, _⟩ => ⟨S10x128x2x27x128, .bf16⟩
  | .hbm, ⟨13, _⟩ => ⟨S10x2x27, .bf16⟩
  | .hbm, ⟨14, _⟩ => ⟨S10x1x2x27x1, .bf16⟩
  | .hbm, ⟨15, _⟩ => ⟨S10x128x2x27x128, .bf16⟩
  | .hbm, ⟨16, _⟩ => ⟨S10x128x2x27x128, .bf16⟩
  | .hbm, ⟨17, _⟩ => ⟨S1280x2x3456, .bf16⟩
  | .hbm, ⟨18, _⟩ => ⟨S27x128x10x128, .bf16⟩
  | .hbm, ⟨19, _⟩ => ⟨S27x10, .bf16⟩
  | .hbm, ⟨20, _⟩ => ⟨S27x1x10x1, .bf16⟩
  | .hbm, ⟨21, _⟩ => ⟨S27x128x10x128, .bf16⟩
  | .hbm, ⟨22, _⟩ => ⟨S27x128x10x128, .bf16⟩
  | .hbm, ⟨23, _⟩ => ⟨S3456x1280, .bf16⟩
  | .hbm, ⟨24, _⟩ => ⟨S262144x10x128, .bf16⟩
  | .hbm, ⟨25, _⟩ => ⟨S262144x10, .f32⟩
  | .hbm, ⟨26, _⟩ => ⟨S262144x10, .bf16⟩
  | .hbm, ⟨27, _⟩ => ⟨S262144x10x1, .bf16⟩
  | .hbm, ⟨28, _⟩ => ⟨S262144x10x128, .bf16⟩
  | .hbm, ⟨29, _⟩ => ⟨S262144x10x128, .bf16⟩
  | .hbm, ⟨30, _⟩ => ⟨S262144x1280, .bf16⟩
  | .hbm, ⟨31, _⟩ => ⟨S262144x10x128, .bf16⟩
  | .hbm, ⟨32, _⟩ => ⟨S262144x10, .f32⟩
  | .hbm, ⟨33, _⟩ => ⟨S262144x10, .bf16⟩
  | .hbm, ⟨34, _⟩ => ⟨S262144x10x1, .bf16⟩
  | .hbm, ⟨35, _⟩ => ⟨S262144x10x128, .bf16⟩
  | .hbm, ⟨36, _⟩ => ⟨S262144x10x128, .bf16⟩
  | .hbm, ⟨37, _⟩ => ⟨S262144x1280, .bf16⟩
  | .hbm, ⟨38, _⟩ => ⟨S262144x2x3456, .f32⟩
  | .hbm, ⟨39, _⟩ => ⟨S262144x1x3456, .f32⟩
  | .hbm, ⟨40, _⟩ => ⟨S262144x3456, .f32⟩
  | .hbm, ⟨41, _⟩ => ⟨S262144x1x3456, .f32⟩
  | .hbm, ⟨42, _⟩ => ⟨S262144x3456, .f32⟩
  | .hbm, ⟨43, _⟩ => ⟨S_, .f32⟩
  | .hbm, ⟨44, _⟩ => ⟨S262144x3456, .f32⟩
  | .hbm, ⟨45, _⟩ => ⟨S262144x3456, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S262144x3456, .f32⟩
  | .hbm, ⟨50, _⟩ => ⟨S262144x3456, .f32⟩
  | .hbm, ⟨51, _⟩ => ⟨S_, .f32⟩
  | .hbm, ⟨52, _⟩ => ⟨S262144x3456, .f32⟩
  | .hbm, ⟨53, _⟩ => ⟨S262144x3456, .f32⟩
  | .hbm, ⟨54, _⟩ => ⟨S_, .f32⟩
  | .hbm, ⟨55, _⟩ => ⟨S262144x3456, .f32⟩
  | .hbm, ⟨56, _⟩ => ⟨S262144x3456, .f32⟩
  | .hbm, ⟨57, _⟩ => ⟨S262144x3456, .f32⟩
  | .hbm, ⟨58, _⟩ => ⟨S262144x3456, .f32⟩
  | .hbm, ⟨59, _⟩ => ⟨S_, .f32⟩
  | .hbm, ⟨60, _⟩ => ⟨S262144x3456, .f32⟩
  | .hbm, ⟨61, _⟩ => ⟨S262144x3456, .f32⟩
  | .hbm, ⟨62, _⟩ => ⟨S_, .f32⟩
  | .hbm, ⟨63, _⟩ => ⟨S262144x3456, .f32⟩
  | .hbm, ⟨64, _⟩ => ⟨S262144x3456, .f32⟩
  | .hbm, ⟨65, _⟩ => ⟨S262144x3456, .f32⟩
  | .hbm, ⟨66, _⟩ => ⟨S_, .f32⟩
  | .hbm, ⟨67, _⟩ => ⟨S262144x3456, .f32⟩
  | .hbm, ⟨68, _⟩ => ⟨S262144x3456, .f32⟩
  | .hbm, ⟨69, _⟩ => ⟨S262144x3456, .f32⟩
  | .hbm, ⟨70, _⟩ => ⟨S262144x3456, .bf16⟩
  | .hbm, ⟨71, _⟩ => ⟨S262144x3456, .f32⟩
  | .hbm, ⟨72, _⟩ => ⟨S_, .f32⟩
  | .hbm, ⟨73, _⟩ => ⟨S262144x3456, .f32⟩
  | .hbm, ⟨74, _⟩ => ⟨S262144x3456, .i1⟩
  | .hbm, ⟨75, _⟩ => ⟨S_, .f32⟩
  | .hbm, ⟨76, _⟩ => ⟨S262144x3456, .f32⟩
  | .hbm, ⟨77, _⟩ => ⟨S262144x3456, .f32⟩
  | .hbm, ⟨78, _⟩ => ⟨S262144x3456, .f32⟩
  | .hbm, ⟨79, _⟩ => ⟨S262144x3456, .f32⟩
  | .hbm, ⟨80, _⟩ => ⟨S_, .f32⟩
  | .hbm, ⟨81, _⟩ => ⟨S262144x3456, .f32⟩
  | .hbm, ⟨82, _⟩ => ⟨S262144x3456, .f32⟩
  | .hbm, ⟨83, _⟩ => ⟨S_, .f32⟩
  | .hbm, ⟨84, _⟩ => ⟨S262144x3456, .f32⟩
  | .hbm, ⟨85, _⟩ => ⟨S262144x3456, .f32⟩
  | .hbm, ⟨86, _⟩ => ⟨S262144x3456, .f32⟩
  | .hbm, ⟨87, _⟩ => ⟨S_, .f32⟩
  | .hbm, ⟨88, _⟩ => ⟨S262144x3456, .f32⟩
  | .hbm, ⟨89, _⟩ => ⟨S262144x3456, .f32⟩
  | .hbm, ⟨90, _⟩ => ⟨S262144x3456, .f32⟩
  | .hbm, ⟨91, _⟩ => ⟨S_, .f32⟩
  | .hbm, ⟨92, _⟩ => ⟨S_, .f32⟩
  | .hbm, ⟨93, _⟩ => ⟨S262144x3456, .f32⟩
  | .hbm, ⟨94, _⟩ => ⟨S262144x3456, .f32⟩
  | .hbm, ⟨95, _⟩ => ⟨S262144x3456, .f32⟩
  | .hbm, ⟨96, _⟩ => ⟨S_, .f32⟩
  | .hbm, ⟨97, _⟩ => ⟨S262144x3456, .f32⟩
  | .hbm, ⟨98, _⟩ => ⟨S262144x3456, .i1⟩
  | .hbm, ⟨99, _⟩ => ⟨S262144x3456, .f32⟩
  | .hbm, ⟨100, _⟩ => ⟨S262144x3456, .f32⟩
  | .hbm, ⟨101, _⟩ => ⟨S_, .f32⟩
  | .hbm, ⟨102, _⟩ => ⟨S_, .f32⟩
  | .hbm, ⟨103, _⟩ => ⟨S262144x3456, .f32⟩
  | .hbm, ⟨104, _⟩ => ⟨S262144x3456, .f32⟩
  | .hbm, ⟨105, _⟩ => ⟨S262144x1x3456, .f32⟩
  | .hbm, ⟨106, _⟩ => ⟨S262144x1x3456, .f32⟩
  | .hbm, ⟨107, _⟩ => ⟨S262144x2x3456, .f32⟩
  | .hbm, ⟨108, _⟩ => ⟨S262144x2x3456, .bf16⟩
  | .hbm, ⟨109, _⟩ => ⟨S262144x1280, .f32⟩
  | .hbm, ⟨110, _⟩ => ⟨S262144x1280, .bf16⟩
  | .hbm, ⟨111, _⟩ => ⟨S1280x2x3456, .f32⟩
  | .hbm, ⟨112, _⟩ => ⟨S3456x1280, .f32⟩
  | .hbm, ⟨113, _⟩ => ⟨S2x131072x1280, .bf16⟩
  | .local _ .vmem, ⟨0, _⟩ => ⟨S2x131072x1280, .fp8e4m3⟩
  | .local _ .vmem, ⟨1, _⟩ => ⟨S2x131072x1280, .fp8e5m2⟩
  | .local _ .vmem, ⟨2, _⟩ => ⟨S1280x2x3456, .fp8e4m3⟩
  | .local _ .vmem, ⟨3, _⟩ => ⟨S3456x1280, .fp8e4m3⟩
  | .local _ .vmem, ⟨4, _⟩ => ⟨S2x131072x1280, .bf16⟩
  | .local _ .vmem, ⟨5, _⟩ => ⟨S2x131072x1280, .bf16⟩
  | .local _ .vmem, ⟨6, _⟩ => ⟨S1280x2x3456, .bf16⟩
  | .local _ .vmem, ⟨7, _⟩ => ⟨S3456x1280, .bf16⟩
  | _, _ => ⟨S2x131072x1280, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst : Ref sig .tc := ⟨.hbm, 43, rfl⟩
abbrev main_v32 : Ref sig .tc := ⟨.hbm, 44, rfl⟩
abbrev main_v33 : Ref sig .tc := ⟨.hbm, 45, rfl⟩
abbrev main_cst_0 : Ref sig .tc := ⟨.hbm, 46, rfl⟩
abbrev main_cst_1 : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_v34 : Ref sig .tc := ⟨.hbm, 53, rfl⟩
abbrev main_cst_2 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_3 : Ref sig .tc := ⟨.hbm, 59, rfl⟩
abbrev main_v39 : Ref sig .tc := ⟨.hbm, 60, rfl⟩
abbrev main_v40 : Ref sig .tc := ⟨.hbm, 61, rfl⟩
abbrev main_cst_4 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_5 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_6 : Ref sig .tc := ⟨.hbm, 72, rfl⟩
abbrev main_v49 : Ref sig .tc := ⟨.hbm, 73, rfl⟩
abbrev main_v50 : Ref sig .tc := ⟨.hbm, 74, rfl⟩
abbrev main_cst_7 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_8 : Ref sig .tc := ⟨.hbm, 80, rfl⟩
abbrev main_v55 : Ref sig .tc := ⟨.hbm, 81, rfl⟩
abbrev main_v56 : Ref sig .tc := ⟨.hbm, 82, rfl⟩
abbrev main_cst_9 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_10 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_11 : Ref sig .tc := ⟨.hbm, 91, rfl⟩
abbrev main_call1_v0 : Ref sig .tc := ⟨.hbm, 92, rfl⟩
abbrev main_call1_v1 : Ref sig .tc := ⟨.hbm, 93, rfl⟩
abbrev main_v63 : Ref sig .tc := ⟨.hbm, 94, rfl⟩
abbrev main_v64 : Ref sig .tc := ⟨.hbm, 95, rfl⟩
abbrev main_cst_12 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_13 : Ref sig .tc := ⟨.hbm, 101, rfl⟩
abbrev main_call2_v0 : Ref sig .tc := ⟨.hbm, 102, rfl⟩
abbrev main_call2_v1 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S2x131072x1280 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x131072x1280 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1280x2x3456 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3456x1280 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x131072x1280 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x131072x1280 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1280x2x3456 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3456x1280 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Base.lean ====
/-
  Small facts about buffers held whole, used by every module beside it: writing a whole buffer leaves the contents
  that read the payload, whatever was there before.
-/
module

public import Idealize.ShloMosaic.Lib.Tactic
public import Idealize.ShloMosaic.Lib.Pipeline.Kit
public import Idealize.ShloMosaic.Lib.Pipeline.Frame
public import Idealize.ShloMosaic.Lib.WritesUnit

@[expose] public section

noncomputable section

namespace Cert.Base

open Idealize.ShloMosaic Idealize.ShloMosaic.TcCoe
section Whole

variable {sig : RefSig} {κ : Kind} {sp : Space} {s : Shape} {e : EltTy} {Val : EltTy → Type}
variable {m : Memref sig κ sp s e}

/-- A whole write leaves the contents that read its payload. -/
theorem write_whole (h : m.IsWhole) (f : m.view.ty.Contents Val) (w : s.Idx → Val e) :
    m.view.write Val f w Finset.univ = h.unread w :=
  h.eq_unread (View.read_write_univ f w)

/-- One listed piece over the whole buffer leaves the contents that read its payload. -/
theorem writes_whole (h : m.IsWhole) (f : m.view.ty.Contents Val) {off : Fin s.rank → ℕ} (h0 : off = fun _ => 0)
    (inb : ∀ a, off a + s.size a ≤ s.size a) (w : s.Idx → Val e) :
    m.view.writes Val f [(⟨Rect.unit off s.size inb, w⟩ : View.Piece Val s e)] = h.unread w :=
  h.eq_unread (funext fun y =>
    View.read_writes_cons_unit_of_mem m.view f inb w [] y y h0 fun a => by simp)

end Whole

/-- The first point's test: the grid coordinate, compared with a literal, widened and compared with zero. -/
theorem coord_test (n k : ℕ) (hn : n < 2 ^ 32) (hk : k < 2 ^ 32) :
    (Scalar.cmpi .ne (Scalar.extui (Scalar.cmpi .eq (BitVec.ofNat 32 n) (BitVec.ofNat 32 k)) : BitVec 32) 0#32 = 1#1) ↔ n = k := by
  by_cases h : n = k
  · subst h
    simp only [Scalar.cmpi, Scalar.extui, IntOp.cmpi, beq_self_eq_true, iff_true]
    decide
  · have hne : (BitVec.ofNat 32 n == BitVec.ofNat 32 k) = false := beq_eq_false_iff_ne.2 fun he => h (by
      have := congrArg BitVec.toNat he
      rwa [BitVec.toNat_ofNat, BitVec.toNat_ofNat, Nat.mod_eq_of_lt hn, Nat.mod_eq_of_lt hk] at this)
    simp only [Scalar.cmpi, Scalar.extui, IntOp.cmpi, hne, h, iff_false]
    decide

section Owns

open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

/-- A whole memref owned at what it reads is its buffer held at the contents that read that. -/
theorem owns_unread {c : Thread nD τ} {sp : Space} {sh : Shape} {e : EltTy} {m : Memref sig c.2.kind sp sh e} (h : m.IsWhole)
    (q : PosShare TreeShare) (X : sh.Idx → Val e) :
    ((owns c m q X : sProp 𝕄) ⊢ ((m.view.loc c) ↦{q} h.unread X)) ∧ (((m.view.loc c) ↦{q} h.unread X : sProp 𝕄) ⊢ owns c m q X) := by
  unfold owns
  rw [h.set_eq_univ]
  constructor
  · iintro ⟨%f, %hf, H⟩
    rw [h.eq_unread hf]
    iexact H
  · iintro H
    iexists _
    isplitr
    swap
    · iexact H
    ipureintro
    exact h.read_unread X

/-- A list of two, conjoined. -/
theorem bigSepL_pair {M I : Type} [URA M] (i j : I) (Φ : I → sProp M) : bigSepL [i, j] Φ = iprop(Φ i ∗ Φ j) := rfl

end Owns

end Cert.Base

end
-- ==== Proof.KernRegion0.lean ====
/-
  The pipelined region that dequantises the weights: one grid point of `cc0_prep` run once at symbolic operands, the
  region's proof data over it, and that every point meets them.
-/
module

public import proofs.«01_k».proof.Proof.Gen.Kernel.Launch
public import proofs.«01_k».proof.Proof.Gen.Kernel.Points
public import proofs.«01_k».proof.Proof.Gen.Kernel.Skeleton
public import proofs.«01_k».proof.Proof.Base
public import Idealize.ShloMosaic.Lib.Pipeline.FrameBody

@[expose] public section

set_option maxRecDepth 16384

noncomputable section

namespace Cert.Kernel.Region0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

abbrev UU : Type := UR sig nD τ × Counters

local notation "𝕄" => MT nD τ sig Unit (Elt F) ℕ UU ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

theorem pt_eq (c : Dev nD) {sp : Space} {S : Shape} {e : EltTy} (M : Memref sig .tc sp S e) {f g : Bf (F := F) c M} (h : f = g) :
    pt c M f ⊢ pt c M g := by
  subst h; exact .rfl

theorem writes_canon {sp : Space} {S : Shape} {e : EltTy} {M : Memref sig .tc sp S e} (h : M.IsWhole) (f : M.view.ty.Contents (Elt F))
    (L : List (View.Piece (Elt F) S e)) (size : Fin S.rank → ℕ) (hL : View.Piece.tiled L size = true) :
    M.view.writes (Elt F) f L = h.unread (View.canon L) :=
  h.eq_unread (View.read_writes_eq_canon _ _ _ (View.cover_of_tiled L size hL))

set_option maxHeartbeats 1000000 in
/-- What one point leaves in the two result blocks, with the proof that the point runs to its return. -/
def run (c : Dev nD) (i : grid0.Coords)
    (M1 : Memref sig .tc .vmem S1280x128 .fp8e4m3) (h1 : M1.IsWhole)
    (M2 : Memref sig .tc .vmem S1280x128 .fp8e4m3) (h2 : M2.IsWhole)
    (M3 : Memref sig .tc .vmem S128x1280 .fp8e4m3) (h3 : M3.IsWhole)
    (M4 : Memref sig .tc .smem S10x27 .f32) (h4 : M4.IsWhole)
    (M5 : Memref sig .tc .smem S10x27 .f32) (h5 : M5.IsWhole)
    (M6 : Memref sig .tc .smem S27x10 .f32) (h6 : M6.IsWhole)
    (M7 : Memref sig .tc .vmem S1280x256 .bf16) (h7 : M7.IsWhole)
    (M8 : Memref sig .tc .vmem S128x1280 .bf16) (h8 : M8.IsWhole)
    (x1 : Vec F S1280x128 .fp8e4m3) (x2 : Vec F S1280x128 .fp8e4m3) (x3 : Vec F S128x1280 .fp8e4m3) (x4 : Vec F S10x27 .f32) (x5 : Vec F S10x27 .f32) (x6 : Vec F S27x10 .f32) :
    { W : Vec F S1280x256 .bf16 × Vec F S128x1280 .bf16 //
      ∀ (f7 : Bf (F := F) c M7) (f8 : Bf (F := F) c M8) (Q : PUnit → sProp 𝕄),
        iprop(pt c M1 (h1.unread x1) ∗ pt c M2 (h2.unread x2) ∗ pt c M3 (h3.unread x3) ∗ pt c M4 (h4.unread x4) ∗ pt c M5 (h5.unread x5) ∗ pt c M6 (h6.unread x6) ∗ pt c M7 f7 ∗ pt c M8 f8
          ∗ (iprop(pt c M1 (h1.unread x1) ∗ pt c M2 (h2.unread x2) ∗ pt c M3 (h3.unread x3) ∗ pt c M4 (h4.unread x4) ∗ pt c M5 (h5.unread x5) ∗ pt c M6 (h6.unread x6) ∗ pt c M7 (h7.unread W.1) ∗ pt c M8 (h8.unread W.2)) -∗ Q ⟨⟩))
        ⊢ wp frame (wpE (defs₀ (F := F)) Variants.none c none) Set.univ
            (cc0_prep i M1 h1 M2 h2 M3 h3 M4 h4 M5 h5 M6 h6 M7 h7 M8 h8) Q } := by
  refine ⟨⟨?_, ?_⟩, fun f7 f8 Q => ?run⟩
  case run =>
    dsimp only
    simp only [cc0_prep_eq_skeleton]; unfold cc0_prep_skel
    iintro ⟨H1, H2, H3, H4, H5, H6, H7, H8, Hk⟩
    sl_exec_parts!
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]
    · iapply (pt_eq c M7 ?e7)
      all_goals try iexact H7
      refine writes_canon (F := F) h7 _ _ ![128, 128] ?_
      sl_kernel_rfl
    iapply (pt_eq c M8 ?e8)
    all_goals try iexact H8
    refine writes_canon (F := F) h8 _ _ ![128, 128] ?_
    sl_kernel_rfl

-- the unscoped buffers as the region finds them
variable (V : Dev nD → Valuation τ sig (Elt F))

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- The body at point `t`, run at the point's buffers and blocks. -/
abbrev step (c : Dev nD) (t : Fin cfg0.N) := run (F := F) c (grid0.coords t)
    (st0_0 t) (hstage0_0 ((cfg0.slots t 0).cast nbuf0_0))
    (st0_1 t) (hstage0_1 ((cfg0.slots t 1).cast nbuf0_1))
    (st0_2 t) (hstage0_2 ((cfg0.slots t 2).cast nbuf0_2))
    (st0_3 t) (hstage0_3 ((cfg0.slots t 3).cast nbuf0_3))
    (st0_4 t) (hstage0_4 ((cfg0.slots t 4).cast nbuf0_4))
    (st0_5 t) (hstage0_5 ((cfg0.slots t 5).cast nbuf0_5))
    (st0_6 t) (hstage0_6 ((cfg0.slots t 6).cast nbuf0_6))
    (st0_7 t) (hstage0_7 ((cfg0.slots t 7).cast nbuf0_7))
    (blk V c 0 t) (blk V c 1 t) (blk V c 2 t) (blk V c 3 t) (blk V c 4 t) (blk V c 5 t)

/-- The two result blocks point `t` writes. -/
def out1 (c : Dev nD) (t : Fin cfg0.N) : Vec F S1280x256 .bf16 := (step V c t).1.1
def out2 (c : Dev nD) (t : Fin cfg0.N) : Vec F S128x1280 .bf16 := (step V c t).1.2

/-- The region's proof data on core `c`. -/
def dat (c : Dev nD) : Dat τ (Elt F) Unit ℕ UU ℕ cfg0 c where
  A w := V c (Proc.devRef .tc (Pipeline.arrRef spec0 w))
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => out1 V c t
    | ⟨7, _⟩ => out2 V c t
  Φ _ := Pipeline.ΦA spec0 c
  q _ := fullShare
  owed _ := 0

theorem A_eq (c : Dev nD) (w : Fin cfg0.W) : (dat V c).A w = V c (Proc.devRef .tc (Pipeline.arrRef spec0 w)) := by
  dsimp only [dat]

theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) : (dat V c).after 3 t = blk V c 3 t := by dsimp only [dat]
theorem after_4 (c : Dev nD) (t : Fin cfg0.N) : (dat V c).after 4 t = blk V c 4 t := by dsimp only [dat]
theorem after_5 (c : Dev nD) (t : Fin cfg0.N) : (dat V c).after 5 t = blk V c 5 t := by dsimp only [dat]
theorem after_6 (c : Dev nD) (t : Fin cfg0.N) : (dat V c).after 6 t = out1 V c t := by dsimp only [dat]
theorem after_7 (c : Dev nD) (t : Fin cfg0.N) : (dat V c).after 7 t = out2 V c t := by dsimp only [dat]

/-- Each input's staging buffer holds its block when the body runs. -/
theorem before_0 (c : Dev nD) (t : Fin cfg0.N) (d) : (dat V c).before 0 t d = blk V c 0 t :=
  ((dat V c).before_in_eq_fetched 0 rfl (fun _ => rfl) (fun _ _ _ => rfl) (fun t => by rw [after_0]; unfold Dat.blockOf blk; rw [A_eq]; try rfl) t d).trans
    (by unfold Dat.fetched Dat.blockOf blk; rw [A_eq]; try rfl)
theorem before_1 (c : Dev nD) (t : Fin cfg0.N) (d) : (dat V c).before 1 t d = blk V c 1 t :=
  ((dat V c).before_in_eq_fetched 1 rfl (fun _ => rfl) (fun _ _ _ => rfl) (fun t => by rw [after_1]; unfold Dat.blockOf blk; rw [A_eq]; try rfl) t d).trans
    (by unfold Dat.fetched Dat.blockOf blk; rw [A_eq]; try rfl)
theorem before_2 (c : Dev nD) (t : Fin cfg0.N) (d) : (dat V c).before 2 t d = blk V c 2 t :=
  ((dat V c).before_in_eq_fetched 2 rfl (fun _ => rfl) (fun _ _ _ => rfl) (fun t => by rw [after_2]; unfold Dat.blockOf blk; rw [A_eq]; try rfl) t d).trans
    (by unfold Dat.fetched Dat.blockOf blk; rw [A_eq]; try rfl)
theorem before_3 (c : Dev nD) (t : Fin cfg0.N) (d) : (dat V c).before 3 t d = blk V c 3 t :=
  ((dat V c).before_in_eq_fetched 3 rfl (fun _ => rfl) (fun _ _ _ => rfl) (fun t => by rw [after_3]; unfold Dat.blockOf blk; rw [A_eq]; try rfl) t d).trans
    (by unfold Dat.fetched Dat.blockOf blk; rw [A_eq]; try rfl)
theorem before_4 (c : Dev nD) (t : Fin cfg0.N) (d) : (dat V c).before 4 t d = blk V c 4 t :=
  ((dat V c).before_in_eq_fetched 4 rfl (fun _ => rfl) (fun _ _ _ => rfl) (fun t => by rw [after_4]; unfold Dat.blockOf blk; rw [A_eq]; try rfl) t d).trans
    (by unfold Dat.fetched Dat.blockOf blk; rw [A_eq]; try rfl)
theorem before_5 (c : Dev nD) (t : Fin cfg0.N) (d) : (dat V c).before 5 t d = blk V c 5 t :=
  ((dat V c).before_in_eq_fetched 5 rfl (fun _ => rfl) (fun _ _ _ => rfl) (fun t => by rw [after_5]; unfold Dat.blockOf blk; rw [A_eq]; try rfl) t d).trans
    (by unfold Dat.fetched Dat.blockOf blk; rw [A_eq]; try rfl)

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t))

set_option maxHeartbeats 2000000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5]
  rw [show (dat V c).Φ t.succ = (dat V c).Φ t.castSucc from rfl,
    show (dat V c).owesAt () t.succ = (dat V c).owesAt () t.castSucc from rfl,
    after_0, after_1, after_2, after_3, after_4, after_5, after_6, after_7]
  iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩⟩
  ihave H0 := (Cert.Base.owns_unread (hstage0_0 ((cfg0.slots t 0).cast nbuf0_0)) fullShare (blk V c 0 t)).1 $$ H0
  ihave H1 := (Cert.Base.owns_unread (hstage0_1 ((cfg0.slots t 1).cast nbuf0_1)) fullShare (blk V c 1 t)).1 $$ H1
  ihave H2 := (Cert.Base.owns_unread (hstage0_2 ((cfg0.slots t 2).cast nbuf0_2)) fullShare (blk V c 2 t)).1 $$ H2
  ihave H3 := (Cert.Base.owns_unread (hstage0_3 ((cfg0.slots t 3).cast nbuf0_3)) fullShare (blk V c 3 t)).1 $$ H3
  ihave H4 := (Cert.Base.owns_unread (hstage0_4 ((cfg0.slots t 4).cast nbuf0_4)) fullShare (blk V c 4 t)).1 $$ H4
  ihave H5 := (Cert.Base.owns_unread (hstage0_5 ((cfg0.slots t 5).cast nbuf0_5)) fullShare (blk V c 5 t)).1 $$ H5
  ihave H6 := (Cert.Base.owns_unread (hstage0_6 ((cfg0.slots t 6).cast nbuf0_6)) _ _).1 $$ H6
  ihave H7 := (Cert.Base.owns_unread (hstage0_7 ((cfg0.slots t 7).cast nbuf0_7)) _ _).1 $$ H7
  iapply ((step V c t).2 _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  isplitl [HΦ]; · iexact HΦ
  isplitl [HO]; · iexact HO
  isplitl [H0]
  · iapply (Cert.Base.owns_unread (hstage0_0 ((cfg0.slots t 0).cast nbuf0_0)) _ _).2; iexact H0
  isplitl [H1]
  · iapply (Cert.Base.owns_unread (hstage0_1 ((cfg0.slots t 1).cast nbuf0_1)) _ _).2; iexact H1
  isplitl [H2]
  · iapply (Cert.Base.owns_unread (hstage0_2 ((cfg0.slots t 2).cast nbuf0_2)) _ _).2; iexact H2
  isplitl [H3]
  · iapply (Cert.Base.owns_unread (hstage0_3 ((cfg0.slots t 3).cast nbuf0_3)) _ _).2; iexact H3
  isplitl [H4]
  · iapply (Cert.Base.owns_unread (hstage0_4 ((cfg0.slots t 4).cast nbuf0_4)) _ _).2; iexact H4
  isplitl [H5]
  · iapply (Cert.Base.owns_unread (hstage0_5 ((cfg0.slots t 5).cast nbuf0_5)) _ _).2; iexact H5
  isplitl [H6]
  · iapply (Cert.Base.owns_unread (hstage0_6 ((cfg0.slots t 6).cast nbuf0_6)) _ _).2; iexact H6
  iapply (Cert.Base.owns_unread (hstage0_7 ((cfg0.slots t 7).cast nbuf0_7)) _ _).2; iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dat V c) (defs₀ (F := F)) Variants.none () Set.univ := fun t => by
  rw [bigSep_W0, bigSep_W0, defs₀_row]
  exact triple_restated (sound_body V c t) rfl .rfl fun _ => .rfl

theorem arr_start (c : Dev nD) (w : Fin cfg0.W) : (dat V c).arrAt w 0 = V c (Proc.devRef .tc (Pipeline.arrRef spec0 w)) :=
  A_eq V c w

end Cert.Kernel.Region0

end
-- ==== Proof.KernBody1.lean ====
/-
  One grid point of the fused pass `cc1_mlp_f0`, run once at symbolic operands. The first point loads the weight slices
  and clears the two accumulators; every point then computes the result block and adds to the accumulators; the last
  point writes the accumulators out. `run` says what a point leaves, as functions of the four carried buffers.
-/
module

public import proofs.«01_k».proof.Proof.Gen.Kernel.Skeleton
public import proofs.«01_k».proof.Proof.Base

@[expose] public section

set_option maxRecDepth 16384

noncomputable section

namespace Cert.Kernel.Body1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipeline library's, beside the counters of the body's own transfers. -/
abbrev UU : Type := UR sig nD τ × Counters

local notation "𝕄" => MT nD τ sig Unit (Elt F) ℕ UU ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

theorem pt_eq (c : Dev nD) {sp : Space} {S : Shape} {e : EltTy} (M : Memref sig .tc sp S e) {f g : Bf (F := F) c M} (h : f = g) :
    pt c M f ⊢ pt c M g := by
  subst h; exact .rfl

/-- The slice of the first weight array that this pass uses. -/
def wguSlice (x : Vec F S1280x6912 .bf16) : Vec F S1280x2560 .bf16 :=
  fun y => x ((Rect.unit (s := S1280x6912) ![0, 0] S1280x2560.size inb_S1280x6912_S1280x2560_0_0).emb y)

/-- The slice of the second weight array that this pass uses. -/
def wdnSlice (x : Vec F S3456x1280 .bf16) : Vec F S1280x1280 .bf16 :=
  fun y => x ((Rect.unit (s := S3456x1280) ![0, 0] S1280x1280.size inb_S3456x1280_S1280x1280_0_0).emb y)

/-- What a point finds in the first weight buffer: the slice if it is the first point, what was there otherwise. -/
def wguIn (i : grid1.Coords) (x : Vec F S1280x6912 .bf16) (g : Vec F S1280x2560 .bf16) : Vec F S1280x2560 .bf16 := if (i 0).val = 0 then wguSlice x else g

/-- What a point finds in the second weight buffer. -/
def wdnIn (i : grid1.Coords) (x : Vec F S3456x1280 .bf16) (g : Vec F S1280x1280 .bf16) : Vec F S1280x1280 .bf16 := if (i 0).val = 0 then wdnSlice x else g

/-- What a point finds in an accumulator: zeros if it is the first point. -/
def accIn (i : grid1.Coords) {S : Shape} (z g : Vec F S .f32) : Vec F S .f32 := if (i 0).val = 0 then z else g

/-- What a point leaves in an output array: the accumulator if it is the last point. -/
def accOut (i : grid1.Coords) {S : Shape} (a g : Vec F S .f32) : Vec F S .f32 := if (i 0).val = 511 then a else g

theorem coord_lt (i : grid1.Coords) : (i 0).val < 2 ^ 32 :=
  lt_trans (i 0).isLt (by decide)

/-- Contents under the printed first-point test are the contents that read the values under the plain test. -/
theorem dif_first (i : grid1.Coords) {b : BitVec 1}
    (hb : b = Scalar.cmpi .ne (Scalar.extui (Scalar.cmpi .eq (BitVec.ofNat 32 (i 0).val) (BitVec.ofNat 32 0))) 0#32)
    {sp : Space} {S : Shape} {e : EltTy} {M : Memref sig .tc sp S e} (h : M.IsWhole) {x : M.view.ty.Contents (Elt F)} {x' y : Vec F S e} (hx : x = h.unread x') :
    (if _ : b = 1#1 then x else h.unread y) = h.unread (if (i 0).val = 0 then x' else y) := by
  subst hb hx
  have := Cert.Base.coord_test (i 0).val 0 (coord_lt i) (by decide)
  by_cases h : (i 0).val = 0
  · rw [dif_pos (this.2 h), if_pos h]
  · rw [dif_neg (mt this.1 h), if_neg h]

/-- The same for the last-point test. -/
theorem dif_last (i : grid1.Coords) {b : BitVec 1}
    (hb : b = Scalar.cmpi .ne (Scalar.extui (Scalar.cmpi .eq (BitVec.ofNat 32 (i 0).val) (BitVec.ofNat 32 511))) 0#32)
    {sp : Space} {S : Shape} {e : EltTy} {M : Memref sig .tc sp S e} (h : M.IsWhole) {x : M.view.ty.Contents (Elt F)} {x' y : Vec F S e} (hx : x = h.unread x') :
    (if _ : b = 1#1 then x else h.unread y) = h.unread (if (i 0).val = 511 then x' else y) := by
  subst hb hx
  have := Cert.Base.coord_test (i 0).val 511 (coord_lt i) (by decide)
  by_cases h : (i 0).val = 511
  · rw [dif_pos (this.2 h), if_pos h]
  · rw [dif_neg (mt this.1 h), if_neg h]

/-- A copy of a whole buffer that was written whole leaves the contents that read what was written. -/
theorem copy_whole {sp sp' : Space} {S : Shape} {M : Memref sig .tc sp S .f32} (h : M.IsWhole) {M' : Memref sig .tc sp' S .f32} (h' : M'.IsWhole)
    (f : M.view.ty.Contents (Elt F)) {g : M'.view.ty.Contents (Elt F)} {w : Vec F S .f32} (hg : g = h'.unread w) :
    M.view.write (Elt F) f (M'.view.read (Elt F) g) Finset.univ = h.unread w := by
  rw [Cert.Base.write_whole h, hg, h'.read_unread]

/-- Reading a slice of a whole array reads the array at the slice's indices. -/
theorem slice_read {sp : Space} {S : Shape} {e : EltTy} {M : Memref sig .tc sp S e} (h : M.IsWhole) (x : Vec F S e) (r : Rect S) :
    (M.view.slice r).read (Elt F) (h.unread x) = fun y => x (r.emb y) :=
  funext fun y => congrFun (h.read_unread x) (r.emb y)

set_option maxHeartbeats 600000 in
/-- What one point leaves in the result block and the two accumulators, as functions of the four carried buffers, with
    the proof that the point runs to its return from every buffer held whole. -/
def run (c : Dev nD)
    (M1 : Memref sig .tc .vmem S512x1280 .fp8e4m3) (h1 : M1.IsWhole)
    (M2 : Memref sig .tc .vmem S512x10 .f32) (h2 : M2.IsWhole)
    (M3 : Memref sig .tc .vmem S512x1280 .fp8e5m2) (h3 : M3.IsWhole)
    (M4 : Memref sig .tc .vmem S512x10 .f32) (h4 : M4.IsWhole)
    (M5 : Memref sig .tc .hbm S1280x6912 .bf16) (h5 : M5.IsWhole)
    (M6 : Memref sig .tc .hbm S3456x1280 .bf16) (h6 : M6.IsWhole)
    (M7 : Memref sig .tc .vmem S512x1280 .f32) (h7 : M7.IsWhole)
    (M8 : Memref sig .tc .hbm S1280x2560 .f32) (h8 : M8.IsWhole)
    (M9 : Memref sig .tc .hbm S1280x1280 .f32) (h9 : M9.IsWhole)
    (M10 : Memref sig .tc .vmem S1280x2560 .bf16) (h10 : M10.IsWhole)
    (M11 : Memref sig .tc .vmem S1280x1280 .bf16) (h11 : M11.IsWhole)
    (M12 : Memref sig .tc .vmem S1280x2560 .f32) (h12 : M12.IsWhole)
    (M13 : Memref sig .tc .vmem S1280x1280 .f32) (h13 : M13.IsWhole)
    (M14 : Memref sig .tc .vmem S512x1280 .bf16) (h14 : M14.IsWhole)
    (M15 : Memref sig .tc .vmem S512x1280 .bf16) (h15 : M15.IsWhole)
    (M16 : Memref sig .tc .vmem S1280x512 .bf16) (h16 : M16.IsWhole)
    (M17 : Memref sig .tc .vmem S1280x512 .bf16) (h17 : M17.IsWhole)
    (M18 : Memref sig .tc .vmem S512x1280 .bf16) (h18 : M18.IsWhole)
    (M19 : Memref sig .tc .vmem S512x2560 .bf16) (h19 : M19.IsWhole)
    (x1 : Vec F S512x1280 .fp8e4m3) (x2 : Vec F S512x10 .f32) (x3 : Vec F S512x1280 .fp8e5m2) (x4 : Vec F S512x10 .f32) :
    { W : (Vec F S1280x2560 .bf16 → Vec F S1280x1280 .bf16 → Vec F S1280x2560 .f32 → Vec F S1280x1280 .f32 → Vec F S512x1280 .f32) × (Vec F S1280x2560 .bf16 → Vec F S1280x1280 .bf16 → Vec F S1280x2560 .f32 → Vec F S1280x1280 .f32 → Vec F S1280x2560 .f32) × (Vec F S1280x2560 .bf16 → Vec F S1280x1280 .bf16 → Vec F S1280x2560 .f32 → Vec F S1280x1280 .f32 → Vec F S1280x1280 .f32) //
      ∀ (i : grid1.Coords) (x5 : Vec F S1280x6912 .bf16) (x6 : Vec F S3456x1280 .bf16) (x8 : Vec F S1280x2560 .f32) (x9 : Vec F S1280x1280 .f32) (x10 : Vec F S1280x2560 .bf16) (x11 : Vec F S1280x1280 .bf16) (x12 : Vec F S1280x2560 .f32) (x13 : Vec F S1280x1280 .f32) (f7 : Bf (F := F) c M7) (f14 : Bf (F := F) c M14) (f15 : Bf (F := F) c M15) (f16 : Bf (F := F) c M16) (f17 : Bf (F := F) c M17) (f18 : Bf (F := F) c M18) (f19 : Bf (F := F) c M19) (Wt : Waits sig Unit) (Q : PUnit → sProp 𝕄),
        iprop(pt c M1 (h1.unread x1) ∗ pt c M2 (h2.unread x2) ∗ pt c M3 (h3.unread x3) ∗ pt c M4 (h4.unread x4) ∗ pt c M5 (h5.unread x5) ∗ pt c M6 (h6.unread x6) ∗ pt c M7 f7 ∗ pt c M8 (h8.unread x8) ∗ pt c M9 (h9.unread x9) ∗ pt c M10 (h10.unread x10) ∗ pt c M11 (h11.unread x11) ∗ pt c M12 (h12.unread x12) ∗ pt c M13 (h13.unread x13) ∗ pt c M14 f14 ∗ pt c M15 f15 ∗ pt c M16 f16 ∗ pt c M17 f17 ∗ pt c M18 f18 ∗ pt c M19 f19
          ∗ semVal ((c : Thread nD τ), SemLoc.dma 23) 0 ∗ semVal ((c : Thread nD τ), SemLoc.dma 24) 0 ∗ owes (c : Thread nD τ) 0 Wt
          ∗ (iprop(pt c M12 (h12.unread (W.2.1 (wguIn i x5 x10) (wdnIn i x6 x11) (accIn i (k1_pay3 (F := F)) x12) (accIn i (k1_pay4 (F := F)) x13)))
            ∗ pt c M13 (h13.unread (W.2.2 (wguIn i x5 x10) (wdnIn i x6 x11) (accIn i (k1_pay3 (F := F)) x12) (accIn i (k1_pay4 (F := F)) x13)))
            ∗ pt c M1 (h1.unread x1)
            ∗ pt c M2 (h2.unread x2)
            ∗ pt c M3 (h3.unread x3)
            ∗ pt c M4 (h4.unread x4)
            ∗ pt c M5 (h5.unread x5)
            ∗ pt c M6 (h6.unread x6)
            ∗ pt c M7 (h7.unread (W.1 (wguIn i x5 x10) (wdnIn i x6 x11) (accIn i (k1_pay3 (F := F)) x12) (accIn i (k1_pay4 (F := F)) x13)))
            ∗ pt c M8 (h8.unread (accOut i (W.2.1 (wguIn i x5 x10) (wdnIn i x6 x11) (accIn i (k1_pay3 (F := F)) x12) (accIn i (k1_pay4 (F := F)) x13)) x8))
            ∗ pt c M9 (h9.unread (accOut i (W.2.2 (wguIn i x5 x10) (wdnIn i x6 x11) (accIn i (k1_pay3 (F := F)) x12) (accIn i (k1_pay4 (F := F)) x13)) x9))
            ∗ pt c M10 (h10.unread (wguIn i x5 x10))
            ∗ pt c M11 (h11.unread (wdnIn i x6 x11))
            ∗ (∃ f, pt c M14 f)
            ∗ (∃ f, pt c M15 f)
            ∗ (∃ f, pt c M16 f)
            ∗ (∃ f, pt c M17 f)
            ∗ (∃ f, pt c M18 f)
            ∗ (∃ f, pt c M19 f)
          ∗ semVal ((c : Thread nD τ), SemLoc.dma 23) 0 ∗ semVal ((c : Thread nD τ), SemLoc.dma 24) 0
          ∗ (∃ W', owes (c : Thread nD τ) 0 W')) -∗ Q ⟨⟩))
        ⊢ wp frame (wpE (defs₀ (F := F)) Variants.none c none) Set.univ
            (cc1_mlp_f0 i M1 h1 M2 h2 M3 h3 M4 h4 M5 h5 M6 h6 M7 h7 M8 h8 M9 h9 M10 h10 M11 h11 M12 h12 M13 h13 M14 h14 M15 h15 M16 h16 M17 h17 M18 h18 M19 h19 cc1_scratch10) Q } := by
  refine ⟨⟨?_, ?_, ?_⟩, fun i x5 x6 x8 x9 x10 x11 x12 x13 f7 f14 f15 f16 f17 f18 f19 Wt Q => ?run⟩
  case run =>
    dsimp only
    iintro ⟨H1, H2, H3, H4, H5, H6, H7, H8, H9, H10, H11, H12, H13, H14, H15, H16, H17, H18, H19, Hs0, Hs1, HO, Hk⟩
    set_option sl_exec.maxSteps 16 in sl_exec
    rw [show (if hc : run.sl.v2 i = 1#1 then View.write (Elt F) M10.view (h10.unread x10) (run.sl.dma0 M5 h5 x5) Finset.univ else h10.unread x10) = h10.unread (wguIn i x5 x10) from
        dif_first i rfl h10 ((Cert.Base.write_whole h10 _ _).trans (congrArg h10.unread (slice_read h5 x5 (Rect.unit (s := S1280x6912) ![0, 0] S1280x2560.size inb_S1280x6912_S1280x2560_0_0)))),
      show (if hc : run.sl.v2 i = 1#1 then View.write (Elt F) M11.view (h11.unread x11) (run.sl.dma0_1 M6 h6 x6) Finset.univ else h11.unread x11) = h11.unread (wdnIn i x6 x11) from
        dif_first i rfl h11 ((Cert.Base.write_whole h11 _ _).trans (congrArg h11.unread (slice_read h6 x6 (Rect.unit (s := S3456x1280) ![0, 0] S1280x1280.size inb_S3456x1280_S1280x1280_0_0)))),
      show (if hc : run.sl.v2 i = 1#1 then M12.view.writes (Elt F) (h12.unread x12) [⟨Rect.unit ![0, 0] S1280x2560.size inb_S1280x2560_S1280x2560_0_0, k1_pay3⟩] else h12.unread x12) = h12.unread (accIn i (k1_pay3 (F := F)) x12) from
        dif_first i rfl h12 (Cert.Base.writes_whole h12 _ (by decide) _ _),
      show (if hc : run.sl.v2 i = 1#1 then M13.view.writes (Elt F) (h13.unread x13) [⟨Rect.unit ![0, 0] S1280x1280.size inb_S1280x1280_S1280x1280_0_0, k1_pay4⟩] else h13.unread x13) = h13.unread (accIn i (k1_pay4 (F := F)) x13) from
        dif_first i rfl h13 (Cert.Base.writes_whole h13 _ (by decide) _ _)]
    generalize wguIn i x5 x10 = xG, wdnIn i x6 x11 = xD, accIn i (k1_pay3 (F := F)) x12 = xA, accIn i (k1_pay4 (F := F)) x13 = xB
    sl_exec_parts!
    sl_step
    iapply Hk
    isplitl [H12]
    · iapply (pt_eq c M12 ?e12)
      all_goals try iexact H12
      exact Cert.Base.writes_whole (off := ![0, 0]) h12 _ (by decide) _ _
    isplitl [H13]
    · iapply (pt_eq c M13 ?e13)
      all_goals try iexact H13
      exact Cert.Base.writes_whole (off := ![0, 0]) h13 _ (by decide) _ _
    isplitl [H1]; · iexact H1
    isplitl [H2]; · iexact H2
    isplitl [H3]; · iexact H3
    isplitl [H4]; · iexact H4
    isplitl [H5]; · iexact H5
    isplitl [H6]; · iexact H6
    isplitl [H7]
    · iapply (pt_eq c M7 ?e7)
      all_goals try iexact H7
      exact Cert.Base.writes_whole (off := ![0, 0]) h7 _ (by decide) _ _
    isplitl [H8]
    · iapply (pt_eq c M8 ?e8)
      all_goals try iexact H8
      exact dif_last i rfl h8 (copy_whole h8 h12 _ (Cert.Base.writes_whole (off := ![0, 0]) h12 _ (by decide) _ _))
    isplitl [H9]
    · iapply (pt_eq c M9 ?e9)
      all_goals try iexact H9
      exact dif_last i rfl h9 (copy_whole h9 h13 _ (Cert.Base.writes_whole (off := ![0, 0]) h13 _ (by decide) _ _))
    isplitl [H10]; · iexact H10
    isplitl [H11]; · iexact H11
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [Hs0]; · iexact Hs0
    isplitl [Hs1]; · iexact Hs1
    iexists _; iexact HO

end Cert.Kernel.Body1

end
-- ==== Proof.KernRegion1.lean ====
/-
  The pipelined region of the fused pass `cc1_mlp_f0`: what it carries from one grid point to the next, and that every point
  keeps it. The weight slices are loaded at the first point and stay; the two accumulators after point `n` are `acc n`;
  after the last point the two output arrays hold the accumulators.
-/
module

public import proofs.«01_k».proof.Proof.Gen.Kernel.Launch
public import proofs.«01_k».proof.Proof.Gen.Kernel.Points
public import proofs.«01_k».proof.Proof.KernBody1
public import Idealize.ShloMosaic.Lib.Pipeline.FrameBody

@[expose] public section

set_option maxRecDepth 16384

noncomputable section

namespace Cert.Kernel.Region1

open Cert.Kernel Cert.Kernel.Gen Cert.Kernel.Body1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

-- the unscoped buffers as the region finds them
variable (V : Dev nD → Valuation τ sig (Elt F))

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- The two weight arrays, the slices of them this pass uses, and the two output arrays at entry, by index. -/
def wgu (c : Dev nD) : Vec F S1280x6912 .bf16 := (Memref.whole main_v12_0).view.read (Elt F) (V c (Proc.devRef .tc main_v12_0))
def wdn (c : Dev nD) : Vec F S3456x1280 .bf16 := (Memref.whole main_v12_1).view.read (Elt F) (V c (Proc.devRef .tc main_v12_1))
def wguS (c : Dev nD) : Vec F S1280x2560 .bf16 := wguSlice (wgu V c)
def wdnS (c : Dev nD) : Vec F S1280x1280 .bf16 := wdnSlice (wdn V c)
def old1 (c : Dev nD) : Vec F S1280x2560 .f32 := (Memref.whole main_v13_1).view.read (Elt F) (V c (Proc.devRef .tc main_v13_1))
def old2 (c : Dev nD) : Vec F S1280x1280 .f32 := (Memref.whole main_v13_2).view.read (Elt F) (V c (Proc.devRef .tc main_v13_2))

/-- The body at point `t`, run at the point's buffers and blocks. -/
abbrev step (c : Dev nD) (t : Fin cfg1.N) := run (F := F) c
    (st1_0 t) (hstage1_0 ((cfg1.slots t 0).cast nbuf1_0))
    (st1_1 t) (hstage1_1 ((cfg1.slots t 1).cast nbuf1_1))
    (st1_2 t) (hstage1_2 ((cfg1.slots t 2).cast nbuf1_2))
    (st1_3 t) (hstage1_3 ((cfg1.slots t 3).cast nbuf1_3))
    (Memref.whole main_v12_0) (Memref.isWhole_whole _)
    (Memref.whole main_v12_1) (Memref.isWhole_whole _)
    (st1_4 t) (hstage1_4 ((cfg1.slots t 4).cast nbuf1_4))
    (Memref.whole main_v13_1) (Memref.isWhole_whole _)
    (Memref.whole main_v13_2) (Memref.isWhole_whole _)
    (Memref.whole cc1_scratch0) (Memref.isWhole_whole _)
    (Memref.whole cc1_scratch1) (Memref.isWhole_whole _)
    (Memref.whole cc1_scratch2) (Memref.isWhole_whole _)
    (Memref.whole cc1_scratch3) (Memref.isWhole_whole _)
    (Memref.whole cc1_scratch4) (Memref.isWhole_whole _)
    (Memref.whole cc1_scratch5) (Memref.isWhole_whole _)
    (Memref.whole cc1_scratch6) (Memref.isWhole_whole _)
    (Memref.whole cc1_scratch7) (Memref.isWhole_whole _)
    (Memref.whole cc1_scratch8) (Memref.isWhole_whole _)
    (Memref.whole cc1_scratch9) (Memref.isWhole_whole _)
    (blk V c 0 t) (blk V c 1 t) (blk V c 2 t) (blk V c 3 t)

/-- The two accumulators after `n` points. -/
def acc (c : Dev nD) : ℕ → Vec F S1280x2560 .f32 × Vec F S1280x1280 .f32
  | 0 => (k1_pay3 (F := F), k1_pay4 (F := F))
  | n + 1 => if h : n < cfg1.N then
      ((step V c ⟨n, h⟩).1.2.1 (wguS V c) (wdnS V c) (acc c n).1 (acc c n).2, (step V c ⟨n, h⟩).1.2.2 (wguS V c) (wdnS V c) (acc c n).1 (acc c n).2)
    else acc c n

theorem acc_zero (c : Dev nD) : acc V c 0 = (k1_pay3 (F := F), k1_pay4 (F := F)) := by unfold acc; rfl

theorem acc_succ (c : Dev nD) (t : Fin cfg1.N) : acc V c (t.val + 1) =
    ((step V c t).1.2.1 (wguS V c) (wdnS V c) (acc V c t.val).1 (acc V c t.val).2, (step V c t).1.2.2 (wguS V c) (wdnS V c) (acc V c t.val).1 (acc V c t.val).2) := by
  rw [acc, dif_pos t.isLt]

/-- The result block point `t` writes. -/
def dxo (c : Dev nD) (t : Fin cfg1.N) : Vec F S512x1280 .f32 := (step V c t).1.1 (wguS V c) (wdnS V c) (acc V c t.val).1 (acc V c t.val).2

/-- The output arrays before point `n`: untouched until the last point has run. -/
def outv1 (c : Dev nD) (n : ℕ) : Vec F S1280x2560 .f32 := if n = 512 then (acc V c 512).1 else old1 V c
def outv2 (c : Dev nD) (n : ℕ) : Vec F S1280x1280 .f32 := if n = 512 then (acc V c 512).2 else old2 V c

/-- What the four carried buffers hold before point `n`, once a point has run. -/
def Carried (c : Dev nD) (n : ℕ) (g : Vec F S1280x2560 .bf16) (d : Vec F S1280x1280 .bf16) (a : Vec F S1280x2560 .f32) (b : Vec F S1280x1280 .f32) : Prop :=
  n ≠ 0 → g = wguS V c ∧ d = wdnS V c ∧ a = (acc V c n).1 ∧ b = (acc V c n).2

/-- The invariant before point `n`. -/
def Phi (c : Dev nD) (n : ℕ) : sProp 𝕄 :=
  iprop(pt c (Memref.whole main_v12_0) ((Memref.isWhole_whole main_v12_0).unread (wgu V c)) ∗ pt c (Memref.whole main_v12_1) ((Memref.isWhole_whole main_v12_1).unread (wdn V c))
    ∗ pt c (Memref.whole main_v13_1) ((Memref.isWhole_whole main_v13_1).unread (outv1 V c n)) ∗ pt c (Memref.whole main_v13_2) ((Memref.isWhole_whole main_v13_2).unread (outv2 V c n))
    ∗ (∃ g d a b, ⌜Carried V c n g d a b⌝ ∗ pt c (Memref.whole cc1_scratch0) ((Memref.isWhole_whole cc1_scratch0).unread g) ∗ pt c (Memref.whole cc1_scratch1) ((Memref.isWhole_whole cc1_scratch1).unread d) ∗ pt c (Memref.whole cc1_scratch2) ((Memref.isWhole_whole cc1_scratch2).unread a) ∗ pt c (Memref.whole cc1_scratch3) ((Memref.isWhole_whole cc1_scratch3).unread b))
    ∗ (∃ f, pt (F := F) c (Memref.whole cc1_scratch4) f)
    ∗ (∃ f, pt (F := F) c (Memref.whole cc1_scratch5) f)
    ∗ (∃ f, pt (F := F) c (Memref.whole cc1_scratch6) f)
    ∗ (∃ f, pt (F := F) c (Memref.whole cc1_scratch7) f)
    ∗ (∃ f, pt (F := F) c (Memref.whole cc1_scratch8) f)
    ∗ (∃ f, pt (F := F) c (Memref.whole cc1_scratch9) f)
    ∗ Pipeline.scopedRestBut (Ix := Unit) (Name := ℕ) (U := UU) (Lvl := ℕ) (Val := Elt F) spec1 c [cc1_scratch0, cc1_scratch1, cc1_scratch2, cc1_scratch3, cc1_scratch4, cc1_scratch5, cc1_scratch6, cc1_scratch7, cc1_scratch8, cc1_scratch9]
    ∗ semVal ((c : Thread nD τ), SemLoc.dma 23) 0 ∗ semVal ((c : Thread nD τ), SemLoc.dma 24) 0
    ∗ (∃ r, prngReg c r))

/-- The region's proof data on core `c`. -/
def dat (c : Dev nD) : Dat τ (Elt F) Unit ℕ UU ℕ cfg1 c where
  A w := V c (Proc.devRef .tc (Pipeline.arrRef spec1 w))
  after w t := match w with
    | ⟨0, _⟩ => blk V c 0 t
    | ⟨1, _⟩ => blk V c 1 t
    | ⟨2, _⟩ => blk V c 2 t
    | ⟨3, _⟩ => blk V c 3 t
    | ⟨4, _⟩ => dxo V c t
  Φ t := Phi V c t.val
  q _ := fullShare
  owed _ := 0

theorem A_eq (c : Dev nD) (w : Fin cfg1.W) : (dat V c).A w = V c (Proc.devRef .tc (Pipeline.arrRef spec1 w)) := by
  dsimp only [dat]

theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = blk V c 3 t := by dsimp only [dat]
theorem after_4 (c : Dev nD) (t : Fin cfg1.N) : (dat V c).after 4 t = dxo V c t := by dsimp only [dat]

/-- Each input's staging buffer holds its block when the body runs. -/
theorem before_0 (c : Dev nD) (t : Fin cfg1.N) (d) : (dat V c).before 0 t d = blk V c 0 t :=
  ((dat V c).before_in_eq_fetched 0 rfl (fun _ => rfl) (fun _ _ _ => rfl) (fun t => by rw [after_0]; unfold Dat.blockOf blk; rw [A_eq]; try rfl) t d).trans
    (by unfold Dat.fetched Dat.blockOf blk; rw [A_eq]; try rfl)
theorem before_1 (c : Dev nD) (t : Fin cfg1.N) (d) : (dat V c).before 1 t d = blk V c 1 t :=
  ((dat V c).before_in_eq_fetched 1 rfl (fun _ => rfl) (fun _ _ _ => rfl) (fun t => by rw [after_1]; unfold Dat.blockOf blk; rw [A_eq]; try rfl) t d).trans
    (by unfold Dat.fetched Dat.blockOf blk; rw [A_eq]; try rfl)
theorem before_2 (c : Dev nD) (t : Fin cfg1.N) (d) : (dat V c).before 2 t d = blk V c 2 t :=
  ((dat V c).before_in_eq_fetched 2 rfl (fun _ => rfl) (fun _ _ _ => rfl) (fun t => by rw [after_2]; unfold Dat.blockOf blk; rw [A_eq]; try rfl) t d).trans
    (by unfold Dat.fetched Dat.blockOf blk; rw [A_eq]; try rfl)
theorem before_3 (c : Dev nD) (t : Fin cfg1.N) (d) : (dat V c).before 3 t d = blk V c 3 t :=
  ((dat V c).before_in_eq_fetched 3 rfl (fun _ => rfl) (fun _ _ _ => rfl) (fun t => by rw [after_3]; unfold Dat.blockOf blk; rw [A_eq]; try rfl) t d).trans
    (by unfold Dat.fetched Dat.blockOf blk; rw [A_eq]; try rfl)

theorem N_eq : cfg1.N = 512 := N_1

/-- A point's only coordinate is its number. -/
theorem coord_val (t : Fin cfg1.N) : (grid1.coords t 0).val = t.val := by
  have h := Pipeline.Grid.coords_val (G := grid1) t 0 (S := 1) (B := 512) (by decide) rfl
  have := t.isLt; have := N_eq
  rw [h, Nat.div_one, Nat.mod_eq_of_lt (by omega)]

/-! ## What a point finds and leaves, in terms of the invariant -/

theorem wguIn_eq (c : Dev nD) (t : Fin cfg1.N) {g : Vec F S1280x2560 .bf16} (h : t.val ≠ 0 → g = wguS V c) :
    wguIn (grid1.coords t) (wgu V c) g = wguS V c := by
  unfold wguIn
  by_cases h0 : t.val = 0
  · rw [if_pos (by rw [coord_val, h0])]; rfl
  · rw [if_neg (by rw [coord_val]; exact h0), h h0]

theorem wdnIn_eq (c : Dev nD) (t : Fin cfg1.N) {g : Vec F S1280x1280 .bf16} (h : t.val ≠ 0 → g = wdnS V c) :
    wdnIn (grid1.coords t) (wdn V c) g = wdnS V c := by
  unfold wdnIn
  by_cases h0 : t.val = 0
  · rw [if_pos (by rw [coord_val, h0])]; rfl
  · rw [if_neg (by rw [coord_val]; exact h0), h h0]

theorem accIn_eq1 (c : Dev nD) (t : Fin cfg1.N) {a : Vec F S1280x2560 .f32} (h : t.val ≠ 0 → a = (acc V c t.val).1) :
    accIn (grid1.coords t) (k1_pay3 (F := F)) a = (acc V c t.val).1 := by
  unfold accIn
  by_cases h0 : t.val = 0
  · rw [if_pos (by rw [coord_val, h0]), h0, acc_zero]
  · rw [if_neg (by rw [coord_val]; exact h0), h h0]

theorem accIn_eq2 (c : Dev nD) (t : Fin cfg1.N) {a : Vec F S1280x1280 .f32} (h : t.val ≠ 0 → a = (acc V c t.val).2) :
    accIn (grid1.coords t) (k1_pay4 (F := F)) a = (acc V c t.val).2 := by
  unfold accIn
  by_cases h0 : t.val = 0
  · rw [if_pos (by rw [coord_val, h0]), h0, acc_zero]
  · rw [if_neg (by rw [coord_val]; exact h0), h h0]

theorem accOut_eq1 (c : Dev nD) (t : Fin cfg1.N) :
    accOut (grid1.coords t) (acc V c (t.val + 1)).1 (outv1 V c t.val) = outv1 V c (t.val + 1) := by
  have := t.isLt; have := N_eq
  unfold accOut outv1
  by_cases h0 : t.val = 511
  · rw [if_pos (by rw [coord_val, h0]), if_pos (by omega), h0]
  · rw [if_neg (by rw [coord_val]; exact h0), if_neg (by omega), if_neg (by omega)]

theorem accOut_eq2 (c : Dev nD) (t : Fin cfg1.N) :
    accOut (grid1.coords t) (acc V c (t.val + 1)).2 (outv2 V c t.val) = outv2 V c (t.val + 1) := by
  have := t.isLt; have := N_eq
  unfold accOut outv2
  by_cases h0 : t.val = 511
  · rw [if_pos (by rw [coord_val, h0]), if_pos (by omega), h0]
  · rw [if_neg (by rw [coord_val]; exact h0), if_neg (by omega), if_neg (by omega)]

theorem acc1_succ (c : Dev nD) (t : Fin cfg1.N) :
    (step V c t).1.2.1 (wguS V c) (wdnS V c) (acc V c t.val).1 (acc V c t.val).2 = (acc V c (t.val + 1)).1 := by rw [acc_succ]
theorem acc2_succ (c : Dev nD) (t : Fin cfg1.N) :
    (step V c t).1.2.2 (wguS V c) (wdnS V c) (acc V c t.val).1 (acc V c t.val).2 = (acc V c (t.val + 1)).2 := by rw [acc_succ]

/-! ## The body obligation -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t))

theorem Phi_castSucc (c : Dev nD) (t : Fin cfg1.N) : (dat V c).Φ t.castSucc = Phi V c t.val := by
  dsimp only [dat]; rfl
theorem Phi_succ (c : Dev nD) (t : Fin cfg1.N) : (dat V c).Φ t.succ = Phi V c (t.val + 1) := by
  dsimp only [dat]; rfl

set_option maxHeartbeats 2000000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, after_0, after_1, after_2, after_3, after_4]
  rw [Phi_castSucc, Phi_succ]
  unfold Dat.owesAt Pipeline.owesWithin
  rw [show (dat V c).owed t.castSucc = 0 from rfl, show (dat V c).owed t.succ = 0 from rfl]
  unfold Phi
  iintro ⟨⟨Hw1, Hw2, Ho1, Ho2, ⟨%g, %d, %a, %b, %hcar, Hg, Hd, Ha, Hb⟩, ⟨%f4, S4⟩, ⟨%f5, S5⟩, ⟨%f6, S6⟩, ⟨%f7, S7⟩, ⟨%f8, S8⟩, ⟨%f9, S9⟩, Hrest, Hs0, Hs1, Hp⟩, ⟨%Wt, -, HO⟩, ⟨%e0, H0⟩, ⟨%e1, H1⟩, ⟨%e2, H2⟩, ⟨%e3, H3⟩, ⟨%e4, H4⟩⟩
  ihave H0 := (Cert.Base.owns_unread (hstage1_0 ((cfg1.slots t 0).cast nbuf1_0)) _ _).1 $$ H0
  ihave H1 := (Cert.Base.owns_unread (hstage1_1 ((cfg1.slots t 1).cast nbuf1_1)) _ _).1 $$ H1
  ihave H2 := (Cert.Base.owns_unread (hstage1_2 ((cfg1.slots t 2).cast nbuf1_2)) _ _).1 $$ H2
  ihave H3 := (Cert.Base.owns_unread (hstage1_3 ((cfg1.slots t 3).cast nbuf1_3)) _ _).1 $$ H3
  ihave H4 := (Cert.Base.owns_unread (hstage1_4 ((cfg1.slots t 4).cast nbuf1_4)) _ _).1 $$ H4
  iapply ((step V c t).2 (grid1.coords t) (wgu V c) (wdn V c) (outv1 V c t.val) (outv2 V c t.val) g d a b _ f4 f5 f6 f7 f8 f9 Wt _)
  rw [wguIn_eq V c t fun h => (hcar h).1, wdnIn_eq V c t fun h => (hcar h).2.1, accIn_eq1 V c t fun h => (hcar h).2.2.1, accIn_eq2 V c t fun h => (hcar h).2.2.2,
    acc1_succ, acc2_succ, accOut_eq1, accOut_eq2]
  isplitl [H0]; · iexact H0
  isplitl [H1]; · iexact H1
  isplitl [H2]; · iexact H2
  isplitl [H3]; · iexact H3
  isplitl [Hw1]; · iexact Hw1
  isplitl [Hw2]; · iexact Hw2
  isplitl [H4]; · iexact H4
  isplitl [Ho1]; · iexact Ho1
  isplitl [Ho2]; · iexact Ho2
  isplitl [Hg]; · iexact Hg
  isplitl [Hd]; · iexact Hd
  isplitl [Ha]; · iexact Ha
  isplitl [Hb]; · iexact Hb
  isplitl [S4]; · iexact S4
  isplitl [S5]; · iexact S5
  isplitl [S6]; · iexact S6
  isplitl [S7]; · iexact S7
  isplitl [S8]; · iexact S8
  isplitl [S9]; · iexact S9
  isplitl [Hs0]; · iexact Hs0
  isplitl [Hs1]; · iexact Hs1
  isplitl [HO]; · iexact HO
  iintro ⟨Ha, Hb, H0, H1, H2, H3, Hw1, Hw2, H4, Ho1, Ho2, Hg, Hd, S4, S5, S6, S7, S8, S9, Hs0, Hs1, ⟨%W', HO⟩⟩
  isplitl [Hw1 Hw2 Ho1 Ho2 Hg Hd Ha Hb S4 S5 S6 S7 S8 S9 Hrest Hs0 Hs1 Hp]
  · isplitl [Hw1]; · iexact Hw1
    isplitl [Hw2]; · iexact Hw2
    isplitl [Ho1]; · iexact Ho1
    isplitl [Ho2]; · iexact Ho2
    isplitl [Hg Hd Ha Hb]
    · iexists _, _, _, _
      isplitr
      swap
      · isplitl [Hg]; · iexact Hg
        isplitl [Hd]; · iexact Hd
        isplitl [Ha]; · iexact Ha
        iexact Hb
      ipureintro
      exact fun _ => ⟨rfl, rfl, rfl, rfl⟩
    isplitl [S4]; · iexact S4
    isplitl [S5]; · iexact S5
    isplitl [S6]; · iexact S6
    isplitl [S7]; · iexact S7
    isplitl [S8]; · iexact S8
    isplitl [S9]; · iexact S9
    isplitl [Hrest]; · iexact Hrest
    isplitl [Hs0]; · iexact Hs0
    isplitl [Hs1]; · iexact Hs1
    iexact Hp
  isplitl [HO]
  · iexists W'; isplitr; · ipureintro; exact fun _ _ => Or.inl trivial
    iexact HO
  isplitl [H0]
  · iapply (Cert.Base.owns_unread (hstage1_0 ((cfg1.slots t 0).cast nbuf1_0)) _ _).2; iexact H0
  isplitl [H1]
  · iapply (Cert.Base.owns_unread (hstage1_1 ((cfg1.slots t 1).cast nbuf1_1)) _ _).2; iexact H1
  isplitl [H2]
  · iapply (Cert.Base.owns_unread (hstage1_2 ((cfg1.slots t 2).cast nbuf1_2)) _ _).2; iexact H2
  isplitl [H3]
  · iapply (Cert.Base.owns_unread (hstage1_3 ((cfg1.slots t 3).cast nbuf1_3)) _ _).2; iexact H3
  iapply (Cert.Base.owns_unread (hstage1_4 ((cfg1.slots t 4).cast nbuf1_4)) _ _).2; iexact H4

theorem defs₀_row (t : Fin cfg1.N) :
    defs₀ (F := F) .tc cfg1.body (cfg1.bodyArgs t (cfg1.slots t)) = bodyAt1 t := by
  unfold defs₀; rw [Defs.onTc_tc]

theorem body_obligation (c : Dev nD) : BodyObligation (dat V c) (defs₀ (F := F)) Variants.none () Set.univ := fun t => by
  rw [bigSep_W1, bigSep_W1, defs₀_row]
  exact triple_restated (sound_body V c t) rfl .rfl fun _ => .rfl

/-! ## Entering and leaving the region -/

/-- The body's own two semaphores, the arrays its copies read, and those they write. -/
abbrev osem : Fin 2 → SemLoc sig := ![SemLoc.dma 23, SemLoc.dma 24]
theorem ownSemFacts : Pipeline.OwnSemFacts spec1 osem := by decide
abbrev Hr : Finset (Ref sig .tc) := {main_v12_0, main_v12_1}
abbrev Hw : Finset (Ref sig .tc) := {main_v13_1, main_v13_2}

/-- The unscoped buffers as the region leaves them. -/
def leave (c : Dev nD) : Valuation τ sig (Elt F) :=
  Function.update (Function.update (Function.update (V c) (Proc.devRef .tc main_v13_0) ((dat V c).arrAt 4 cfg1.N))
    (Proc.devRef .tc main_v13_1) ((Memref.isWhole_whole main_v13_1).unread (acc V c 512).1))
    (Proc.devRef .tc main_v13_2) ((Memref.isWhole_whole main_v13_2).unread (acc V c 512).2)

theorem leave_of (c : Dev nD) (b : DevRef τ sig) (h0 : b ≠ Proc.devRef .tc main_v13_0) (h1 : b ≠ Proc.devRef .tc main_v13_1) (h2 : b ≠ Proc.devRef .tc main_v13_2) :
    leave V c b = V c b := by
  unfold leave
  rw [Function.update_of_ne h2, Function.update_of_ne h1, Function.update_of_ne h0]
theorem leave_0 (c : Dev nD) : leave V c (Proc.devRef .tc main_v13_0) = (dat V c).arrAt 4 cfg1.N := by
  unfold leave
  rw [Function.update_of_ne (by decide), Function.update_of_ne (by decide), Function.update_self]
theorem leave_1 (c : Dev nD) : leave V c (Proc.devRef .tc main_v13_1) = (Memref.isWhole_whole main_v13_1).unread (acc V c 512).1 := by
  unfold leave
  rw [Function.update_of_ne (by decide), Function.update_self]
theorem leave_2 (c : Dev nD) : leave V c (Proc.devRef .tc main_v13_2) = (Memref.isWhole_whole main_v13_2).unread (acc V c 512).2 := by
  unfold leave
  rw [Function.update_self]

theorem arr_start (c : Dev nD) (w : Fin cfg1.W) : (dat V c).arrAt w 0 = V c (Proc.devRef .tc (Pipeline.arrRef spec1 w)) :=
  A_eq V c w

theorem arr_end (c : Dev nD) (w : Fin cfg1.W) : (dat V c).arrAt w cfg1.N = leave V c (Proc.devRef .tc (Pipeline.arrRef spec1 w)) := by
  fin_cases w
  · exact ((dat V c).arrAt_in 0 rfl _).trans ((A_eq V c 0).trans (leave_of V c _ (by decide) (by decide) (by decide)).symm)
  · exact ((dat V c).arrAt_in 1 rfl _).trans ((A_eq V c 1).trans (leave_of V c _ (by decide) (by decide) (by decide)).symm)
  · exact ((dat V c).arrAt_in 2 rfl _).trans ((A_eq V c 2).trans (leave_of V c _ (by decide) (by decide) (by decide)).symm)
  · exact ((dat V c).arrAt_in 3 rfl _).trans ((A_eq V c 3).trans (leave_of V c _ (by decide) (by decide) (by decide)).symm)
  · exact (leave_0 V c).symm

set_option maxHeartbeats 2000000 in
theorem hin (c : Dev nD) :
    iprop(Pipeline.scopedRest (Ix := Unit) (Name := ℕ) (U := UU) (Lvl := ℕ) (Val := Elt F) spec1 c ∗ (∃ r, prngReg c r) ∗ Pipeline.ownSems0 osem c
        ∗ (bigSep Hr fun b => ((c.tc : Thread nD τ).loc b) ↦{fullShare} V c (Proc.devRef .tc b))
        ∗ (bigSep Hw fun b => ((c.tc : Thread nD τ).loc b) ↦{fullShare} V c (Proc.devRef .tc b))
        ∗ Transfers.MayWaits (c : Thread nD τ) () (0 : CellTallies nD τ sig Unit)) ⊢ (Phi V c 0 : sProp 𝕄) := by
  rw [scopedRest1_split, Pipeline.ownSems0_eq_of_list c osem [0, 1] (by decide) (by decide),
    bigSep_eq_bigSepL_of_eq [main_v12_0, main_v12_1] (S := Hr) (by decide) (by decide),
    bigSep_eq_bigSepL_of_eq [main_v13_1, main_v13_2] (S := Hw) (by decide) (by decide)]
  rw [Cert.Base.bigSepL_pair, Cert.Base.bigSepL_pair, Cert.Base.bigSepL_pair]
  unfold Phi
  have e1 : (Memref.isWhole_whole main_v12_0).unread (wgu V c) = V c (Proc.devRef .tc main_v12_0) := Memref.IsWhole.unread_read _ _
  have e2 : (Memref.isWhole_whole main_v12_1).unread (wdn V c) = V c (Proc.devRef .tc main_v12_1) := Memref.IsWhole.unread_read _ _
  have e3 : (Memref.isWhole_whole main_v13_1).unread (outv1 V c 0) = V c (Proc.devRef .tc main_v13_1) := Memref.IsWhole.unread_read _ _
  have e4 : (Memref.isWhole_whole main_v13_2).unread (outv2 V c 0) = V c (Proc.devRef .tc main_v13_2) := Memref.IsWhole.unread_read _ _
  rw [e1, e2, e3, e4]
  iintro ⟨⟨⟨⟨%f0, S0⟩, ⟨%f1, S1⟩, ⟨%f2, S2⟩, ⟨%f3, S3⟩, ⟨%f4, S4⟩, ⟨%f5, S5⟩, ⟨%f6, S6⟩, ⟨%f7, S7⟩, ⟨%f8, S8⟩, ⟨%f9, S9⟩⟩, Hrest⟩, Hp, ⟨Hs0, Hs1⟩, ⟨Hw1, Hw2⟩, ⟨Ho1, Ho2⟩, -⟩
  isplitl [Hw1]; · iexact Hw1
  isplitl [Hw2]; · iexact Hw2
  isplitl [Ho1]; · iexact Ho1
  isplitl [Ho2]; · iexact Ho2
  isplitl [S0 S1 S2 S3]
  · iexists (Memref.whole cc1_scratch0).view.read (Elt F) f0, (Memref.whole cc1_scratch1).view.read (Elt F) f1, (Memref.whole cc1_scratch2).view.read (Elt F) f2, (Memref.whole cc1_scratch3).view.read (Elt F) f3
    rw [Memref.IsWhole.unread_read, Memref.IsWhole.unread_read, Memref.IsWhole.unread_read, Memref.IsWhole.unread_read]
    isplitr; · ipureintro; exact fun h => absurd rfl h
    isplitl [S0]; · iexact S0
    isplitl [S1]; · iexact S1
    isplitl [S2]; · iexact S2
    iexact S3
  isplitl [S4]; · iexists f4; iexact S4
  isplitl [S5]; · iexists f5; iexact S5
  isplitl [S6]; · iexists f6; iexact S6
  isplitl [S7]; · iexists f7; iexact S7
  isplitl [S8]; · iexists f8; iexact S8
  isplitl [S9]; · iexists f9; iexact S9
  isplitl [Hrest]; · iexact Hrest
  isplitl [Hs0]; · iexact Hs0
  isplitl [Hs1]; · iexact Hs1
  iexact Hp

set_option maxHeartbeats 2000000 in
theorem hout (c : Dev nD) :
    (Phi V c 512 : sProp 𝕄) ⊢ iprop(Pipeline.scopedRest (Ix := Unit) (Name := ℕ) (U := UU) (Lvl := ℕ) (Val := Elt F) spec1 c ∗ (∃ r, prngReg c r) ∗ Pipeline.ownSems0 osem c
        ∗ (bigSep Hr fun b => ((c.tc : Thread nD τ).loc b) ↦{fullShare} V c (Proc.devRef .tc b))
        ∗ (bigSep Hw fun b => ((c.tc : Thread nD τ).loc b) ↦{fullShare} leave V c (Proc.devRef .tc b))) := by
  rw [scopedRest1_split, Pipeline.ownSems0_eq_of_list c osem [0, 1] (by decide) (by decide),
    bigSep_eq_bigSepL_of_eq [main_v12_0, main_v12_1] (S := Hr) (by decide) (by decide),
    bigSep_eq_bigSepL_of_eq [main_v13_1, main_v13_2] (S := Hw) (by decide) (by decide)]
  rw [Cert.Base.bigSepL_pair, Cert.Base.bigSepL_pair, Cert.Base.bigSepL_pair]
  unfold Phi
  have e1 : (Memref.isWhole_whole main_v12_0).unread (wgu V c) = V c (Proc.devRef .tc main_v12_0) := Memref.IsWhole.unread_read _ _
  have e2 : (Memref.isWhole_whole main_v12_1).unread (wdn V c) = V c (Proc.devRef .tc main_v12_1) := Memref.IsWhole.unread_read _ _
  rw [e1, e2, leave_1, leave_2, show outv1 V c 512 = (acc V c 512).1 from if_pos rfl, show outv2 V c 512 = (acc V c 512).2 from if_pos rfl]
  iintro ⟨Hw1, Hw2, Ho1, Ho2, ⟨%g, %d, %a, %b, -, S0, S1, S2, S3⟩, ⟨%f4, S4⟩, ⟨%f5, S5⟩, ⟨%f6, S6⟩, ⟨%f7, S7⟩, ⟨%f8, S8⟩, ⟨%f9, S9⟩, Hrest, Hs0, Hs1, Hp⟩
  isplitl [S0 S1 S2 S3 S4 S5 S6 S7 S8 S9 Hrest]
  · isplitl [S0 S1 S2 S3 S4 S5 S6 S7 S8 S9]
    · isplitl [S0]; · iexists _; iexact S0
      isplitl [S1]; · iexists _; iexact S1
      isplitl [S2]; · iexists _; iexact S2
      isplitl [S3]; · iexists _; iexact S3
      isplitl [S4]; · iexists _; iexact S4
      isplitl [S5]; · iexists _; iexact S5
      isplitl [S6]; · iexists _; iexact S6
      isplitl [S7]; · iexists _; iexact S7
      isplitl [S8]; · iexists _; iexact S8
      iexists _; iexact S9
    iexact Hrest
  isplitl [Hp]; · iexact Hp
  isplitl [Hs0 Hs1]
  · isplitl [Hs0]; · iexact Hs0
    iexact Hs1
  isplitl [Hw1 Hw2]
  · isplitl [Hw1]; · iexact Hw1
    iexact Hw2
  isplitl [Ho1]; · iexact Ho1
  iexact Ho2

end Cert.Kernel.Region1

end
-- ==== Proof.KernBody2.lean ====
/-
  One grid point of the fused pass `cc2_mlp_f1280`, run once at symbolic operands. The first point loads the weight slices
  and clears the two accumulators; every point then computes the result block and adds to the accumulators; the last
  point writes the accumulators out. `run` says what a point leaves, as functions of the four carried buffers.
-/
module

public import proofs.«01_k».proof.Proof.Gen.Kernel.Skeleton
public import proofs.«01_k».proof.Proof.Base

@[expose] public section

set_option maxRecDepth 16384

noncomputable section

namespace Cert.Kernel.Body2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipeline library's, beside the counters of the body's own transfers. -/
abbrev UU : Type := UR sig nD τ × Counters

local notation "𝕄" => MT nD τ sig Unit (Elt F) ℕ UU ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

theorem pt_eq (c : Dev nD) {sp : Space} {S : Shape} {e : EltTy} (M : Memref sig .tc sp S e) {f g : Bf (F := F) c M} (h : f = g) :
    pt c M f ⊢ pt c M g := by
  subst h; exact .rfl

/-- The slice of the first weight array that this pass uses. -/
def wguSlice (x : Vec F S1280x6912 .bf16) : Vec F S1280x2560 .bf16 :=
  fun y => x ((Rect.unit (s := S1280x6912) ![0, 2560] S1280x2560.size inb_S1280x6912_S1280x2560_0_2560).emb y)

/-- The slice of the second weight array that this pass uses. -/
def wdnSlice (x : Vec F S3456x1280 .bf16) : Vec F S1280x1280 .bf16 :=
  fun y => x ((Rect.unit (s := S3456x1280) ![1280, 0] S1280x1280.size inb_S3456x1280_S1280x1280_1280_0).emb y)

/-- What a point finds in the first weight buffer: the slice if it is the first point, what was there otherwise. -/
def wguIn (i : grid2.Coords) (x : Vec F S1280x6912 .bf16) (g : Vec F S1280x2560 .bf16) : Vec F S1280x2560 .bf16 := if (i 0).val = 0 then wguSlice x else g

/-- What a point finds in the second weight buffer. -/
def wdnIn (i : grid2.Coords) (x : Vec F S3456x1280 .bf16) (g : Vec F S1280x1280 .bf16) : Vec F S1280x1280 .bf16 := if (i 0).val = 0 then wdnSlice x else g

/-- What a point finds in an accumulator: zeros if it is the first point. -/
def accIn (i : grid2.Coords) {S : Shape} (z g : Vec F S .f32) : Vec F S .f32 := if (i 0).val = 0 then z else g

/-- What a point leaves in an output array: the accumulator if it is the last point. -/
def accOut (i : grid2.Coords) {S : Shape} (a g : Vec F S .f32) : Vec F S .f32 := if (i 0).val = 511 then a else g

theorem coord_lt (i : grid2.Coords) : (i 0).val < 2 ^ 32 :=
  lt_trans (i 0).isLt (by decide)

/-- Contents under the printed first-point test are the contents that read the values under the plain test. -/
theorem dif_first (i : grid2.Coords) {b : BitVec 1}
    (hb : b = Scalar.cmpi .ne (Scalar.extui (Scalar.cmpi .eq (BitVec.ofNat 32 (i 0).val) (BitVec.ofNat 32 0))) 0#32)
    {sp : Space} {S : Shape} {e : EltTy} {M : Memref sig .tc sp S e} (h : M.IsWhole) {x : M.view.ty.Contents (Elt F)} {x' y : Vec F S e} (hx : x = h.unread x') :
    (if _ : b = 1#1 then x else h.unread y) = h.unread (if (i 0).val = 0 then x' else y) := by
  subst hb hx
  have := Cert.Base.coord_test (i 0).val 0 (coord_lt i) (by decide)
  by_cases h : (i 0).val = 0
  · rw [dif_pos (this.2 h), if_pos h]
  · rw [dif_neg (mt this.1 h), if_neg h]

/-- The same for the last-point test. -/
theorem dif_last (i : grid2.Coords) {b : BitVec 1}
    (hb : b = Scalar.cmpi .ne (Scalar.extui (Scalar.cmpi .eq (BitVec.ofNat 32 (i 0).val) (BitVec.ofNat 32 511))) 0#32)
    {sp : Space} {S : Shape} {e : EltTy} {M : Memref sig .tc sp S e} (h : M.IsWhole) {x : M.view.ty.Contents (Elt F)} {x' y : Vec F S e} (hx : x = h.unread x') :
    (if _ : b = 1#1 then x else h.unread y) = h.unread (if (i 0).val = 511 then x' else y) := by
  subst hb hx
  have := Cert.Base.coord_test (i 0).val 511 (coord_lt i) (by decide)
  by_cases h : (i 0).val = 511
  · rw [dif_pos (this.2 h), if_pos h]
  · rw [dif_neg (mt this.1 h), if_neg h]

/-- A copy of a whole buffer that was written whole leaves the contents that read what was written. -/
theorem copy_whole {sp sp' : Space} {S : Shape} {M : Memref sig .tc sp S .f32} (h : M.IsWhole) {M' : Memref sig .tc sp' S .f32} (h' : M'.IsWhole)
    (f : M.view.ty.Contents (Elt F)) {g : M'.view.ty.Contents (Elt F)} {w : Vec F S .f32} (hg : g = h'.unread w) :
    M.view.write (Elt F) f (M'.view.read (Elt F) g) Finset.univ = h.unread w := by
  rw [Cert.Base.write_whole h, hg, h'.read_unread]

/-- Reading a slice of a whole array reads the array at the slice's indices. -/
theorem slice_read {sp : Space} {S : Shape} {e : EltTy} {M : Memref sig .tc sp S e} (h : M.IsWhole) (x : Vec F S e) (r : Rect S) :
    (M.view.slice r).read (Elt F) (h.unread x) = fun y => x (r.emb y) :=
  funext fun y => congrFun (h.read_unread x) (r.emb y)

set_option maxHeartbeats 600000 in
/-- What one point leaves in the result block and the two accumulators, as functions of the four carried buffers, with
    the proof that the point runs to its return from every buffer held whole. -/
def run (c : Dev nD)
    (M1 : Memref sig .tc .vmem S512x1280 .fp8e4m3) (h1 : M1.IsWhole)
    (M2 : Memref sig .tc .vmem S512x10 .f32) (h2 : M2.IsWhole)
    (M3 : Memref sig .tc .vmem S512x1280 .fp8e5m2) (h3 : M3.IsWhole)
    (M4 : Memref sig .tc .vmem S512x10 .f32) (h4 : M4.IsWhole)
    (M5 : Memref sig .tc .vmem S512x1280 .f32) (h5 : M5.IsWhole)
    (M6 : Memref sig .tc .hbm S1280x6912 .bf16) (h6 : M6.IsWhole)
    (M7 : Memref sig .tc .hbm S3456x1280 .bf16) (h7 : M7.IsWhole)
    (M8 : Memref sig .tc .vmem S512x1280 .f32) (h8 : M8.IsWhole)
    (M9 : Memref sig .tc .hbm S1280x2560 .f32) (h9 : M9.IsWhole)
    (M10 : Memref sig .tc .hbm S1280x1280 .f32) (h10 : M10.IsWhole)
    (M11 : Memref sig .tc .vmem S1280x2560 .bf16) (h11 : M11.IsWhole)
    (M12 : Memref sig .tc .vmem S1280x1280 .bf16) (h12 : M12.IsWhole)
    (M13 : Memref sig .tc .vmem S1280x2560 .f32) (h13 : M13.IsWhole)
    (M14 : Memref sig .tc .vmem S1280x1280 .f32) (h14 : M14.IsWhole)
    (M15 : Memref sig .tc .vmem S512x1280 .bf16) (h15 : M15.IsWhole)
    (M16 : Memref sig .tc .vmem S512x1280 .bf16) (h16 : M16.IsWhole)
    (M17 : Memref sig .tc .vmem S1280x512 .bf16) (h17 : M17.IsWhole)
    (M18 : Memref sig .tc .vmem S1280x512 .bf16) (h18 : M18.IsWhole)
    (M19 : Memref sig .tc .vmem S512x1280 .bf16) (h19 : M19.IsWhole)
    (M20 : Memref sig .tc .vmem S512x2560 .bf16) (h20 : M20.IsWhole)
    (x1 : Vec F S512x1280 .fp8e4m3) (x2 : Vec F S512x10 .f32) (x3 : Vec F S512x1280 .fp8e5m2) (x4 : Vec F S512x10 .f32) (x5 : Vec F S512x1280 .f32) :
    { W : (Vec F S1280x2560 .bf16 → Vec F S1280x1280 .bf16 → Vec F S1280x2560 .f32 → Vec F S1280x1280 .f32 → Vec F S512x1280 .f32) × (Vec F S1280x2560 .bf16 → Vec F S1280x1280 .bf16 → Vec F S1280x2560 .f32 → Vec F S1280x1280 .f32 → Vec F S1280x2560 .f32) × (Vec F S1280x2560 .bf16 → Vec F S1280x1280 .bf16 → Vec F S1280x2560 .f32 → Vec F S1280x1280 .f32 → Vec F S1280x1280 .f32) //
      ∀ (i : grid2.Coords) (x6 : Vec F S1280x6912 .bf16) (x7 : Vec F S3456x1280 .bf16) (x9 : Vec F S1280x2560 .f32) (x10 : Vec F S1280x1280 .f32) (x11 : Vec F S1280x2560 .bf16) (x12 : Vec F S1280x1280 .bf16) (x13 : Vec F S1280x2560 .f32) (x14 : Vec F S1280x1280 .f32) (f8 : Bf (F := F) c M8) (f15 : Bf (F := F) c M15) (f16 : Bf (F := F) c M16) (f17 : Bf (F := F) c M17) (f18 : Bf (F := F) c M18) (f19 : Bf (F := F) c M19) (f20 : Bf (F := F) c M20) (Wt : Waits sig Unit) (Q : PUnit → sProp 𝕄),
        iprop(pt c M1 (h1.unread x1) ∗ pt c M2 (h2.unread x2) ∗ pt c M3 (h3.unread x3) ∗ pt c M4 (h4.unread x4) ∗ pt c M5 (h5.unread x5) ∗ pt c M6 (h6.unread x6) ∗ pt c M7 (h7.unread x7) ∗ pt c M8 f8 ∗ pt c M9 (h9.unread x9) ∗ pt c M10 (h10.unread x10) ∗ pt c M11 (h11.unread x11) ∗ pt c M12 (h12.unread x12) ∗ pt c M13 (h13.unread x13) ∗ pt c M14 (h14.unread x14) ∗ pt c M15 f15 ∗ pt c M16 f16 ∗ pt c M17 f17 ∗ pt c M18 f18 ∗ pt c M19 f19 ∗ pt c M20 f20
          ∗ semVal ((c : Thread nD τ), SemLoc.dma 37) 0 ∗ semVal ((c : Thread nD τ), SemLoc.dma 38) 0 ∗ owes (c : Thread nD τ) 0 Wt
          ∗ (iprop(pt c M13 (h13.unread (W.2.1 (wguIn i x6 x11) (wdnIn i x7 x12) (accIn i (k2_pay1 (F := F)) x13) (accIn i (k2_pay2 (F := F)) x14)))
            ∗ pt c M14 (h14.unread (W.2.2 (wguIn i x6 x11) (wdnIn i x7 x12) (accIn i (k2_pay1 (F := F)) x13) (accIn i (k2_pay2 (F := F)) x14)))
            ∗ pt c M1 (h1.unread x1)
            ∗ pt c M2 (h2.unread x2)
            ∗ pt c M3 (h3.unread x3)
            ∗ pt c M4 (h4.unread x4)
            ∗ pt c M5 (h5.unread x5)
            ∗ pt c M6 (h6.unread x6)
            ∗ pt c M7 (h7.unread x7)
            ∗ pt c M8 (h8.unread (W.1 (wguIn i x6 x11) (wdnIn i x7 x12) (accIn i (k2_pay1 (F := F)) x13) (accIn i (k2_pay2 (F := F)) x14)))
            ∗ pt c M9 (h9.unread (accOut i (W.2.1 (wguIn i x6 x11) (wdnIn i x7 x12) (accIn i (k2_pay1 (F := F)) x13) (accIn i (k2_pay2 (F := F)) x14)) x9))
            ∗ pt c M10 (h10.unread (accOut i (W.2.2 (wguIn i x6 x11) (wdnIn i x7 x12) (accIn i (k2_pay1 (F := F)) x13) (accIn i (k2_pay2 (F := F)) x14)) x10))
            ∗ pt c M11 (h11.unread (wguIn i x6 x11))
            ∗ pt c M12 (h12.unread (wdnIn i x7 x12))
            ∗ (∃ f, pt c M15 f)
            ∗ (∃ f, pt c M16 f)
            ∗ (∃ f, pt c M17 f)
            ∗ (∃ f, pt c M18 f)
            ∗ (∃ f, pt c M19 f)
            ∗ (∃ f, pt c M20 f)
          ∗ semVal ((c : Thread nD τ), SemLoc.dma 37) 0 ∗ semVal ((c : Thread nD τ), SemLoc.dma 38) 0
          ∗ (∃ W', owes (c : Thread nD τ) 0 W')) -∗ Q ⟨⟩))
        ⊢ wp frame (wpE (defs₀ (F := F)) Variants.none c none) Set.univ
            (cc2_mlp_f1280 i M1 h1 M2 h2 M3 h3 M4 h4 M5 h5 M6 h6 M7 h7 M8 h8 M9 h9 M10 h10 M11 h11 M12 h12 M13 h13 M14 h14 M15 h15 M16 h16 M17 h17 M18 h18 M19 h19 M20 h20 cc2_scratch10) Q } := by
  refine ⟨⟨?_, ?_, ?_⟩, fun i x6 x7 x9 x10 x11 x12 x13 x14 f8 f15 f16 f17 f18 f19 f20 Wt Q => ?run⟩
  case run =>
    dsimp only
    iintro ⟨H1, H2, H3, H4, H5, H6, H7, H8, H9, H10, H11, H12, H13, H14, H15, H16, H17, H18, H19, H20, Hs0, Hs1, HO, Hk⟩
    set_option sl_exec.maxSteps 16 in sl_exec
    rw [show (if hc : run.sl.v2 i = 1#1 then View.write (Elt F) M11.view (h11.unread x11) (run.sl.dma0 M6 h6 x6) Finset.univ else h11.unread x11) = h11.unread (wguIn i x6 x11) from
        dif_first i rfl h11 ((Cert.Base.write_whole h11 _ _).trans (congrArg h11.unread (slice_read h6 x6 (Rect.unit (s := S1280x6912) ![0, 2560] S1280x2560.size inb_S1280x6912_S1280x2560_0_2560)))),
      show (if hc : run.sl.v2 i = 1#1 then View.write (Elt F) M12.view (h12.unread x12) (run.sl.dma0_1 M7 h7 x7) Finset.univ else h12.unread x12) = h12.unread (wdnIn i x7 x12) from
        dif_first i rfl h12 ((Cert.Base.write_whole h12 _ _).trans (congrArg h12.unread (slice_read h7 x7 (Rect.unit (s := S3456x1280) ![1280, 0] S1280x1280.size inb_S3456x1280_S1280x1280_1280_0)))),
      show (if hc : run.sl.v2 i = 1#1 then M13.view.writes (Elt F) (h13.unread x13) [⟨Rect.unit ![0, 0] S1280x2560.size inb_S1280x2560_S1280x2560_0_0, k2_pay1⟩] else h13.unread x13) = h13.unread (accIn i (k2_pay1 (F := F)) x13) from
        dif_first i rfl h13 (Cert.Base.writes_whole h13 _ (by decide) _ _),
      show (if hc : run.sl.v2 i = 1#1 then M14.view.writes (Elt F) (h14.unread x14) [⟨Rect.unit ![0, 0] S1280x1280.size inb_S1280x1280_S1280x1280_0_0, k2_pay2⟩] else h14.unread x14) = h14.unread (accIn i (k2_pay2 (F := F)) x14) from
        dif_first i rfl h14 (Cert.Base.writes_whole h14 _ (by decide) _ _)]
    generalize wguIn i x6 x11 = xG, wdnIn i x7 x12 = xD, accIn i (k2_pay1 (F := F)) x13 = xA, accIn i (k2_pay2 (F := F)) x14 = xB
    sl_exec_parts!
    sl_step
    iapply Hk
    isplitl [H13]
    · iapply (pt_eq c M13 ?e13)
      all_goals try iexact H13
      exact Cert.Base.writes_whole (off := ![0, 0]) h13 _ (by decide) _ _
    isplitl [H14]
    · iapply (pt_eq c M14 ?e14)
      all_goals try iexact H14
      exact Cert.Base.writes_whole (off := ![0, 0]) h14 _ (by decide) _ _
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · iapply (pt_eq c M8 ?e8)
      all_goals try iexact H8
      exact Cert.Base.writes_whole (off := ![0, 0]) h8 _ (by decide) _ _
    isplitl [H9]
    · iapply (pt_eq c M9 ?e9)
      all_goals try iexact H9
      exact dif_last i rfl h9 (copy_whole h9 h13 _ (Cert.Base.writes_whole (off := ![0, 0]) h13 _ (by decide) _ _))
    isplitl [H10]
    · iapply (pt_eq c M10 ?e10)
      all_goals try iexact H10
      exact dif_last i rfl h10 (copy_whole h10 h14 _ (Cert.Base.writes_whole (off := ![0, 0]) h14 _ (by decide) _ _))
    isplitl [H11]; · iexact H11
    isplitl [H12]; · iexact H12
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [Hs0]; · iexact Hs0
    isplitl [Hs1]; · iexact Hs1
    iexists _; iexact HO

end Cert.Kernel.Body2

end
-- ==== Proof.KernRegion2.lean ====
/-
  The pipelined region of the fused pass `cc2_mlp_f1280`: what it carries from one grid point to the next, and that every point
  keeps it. The weight slices are loaded at the first point and stay; the two accumulators after point `n` are `acc n`;
  after the last point the two output arrays hold the accumulators.
-/
module

public import proofs.«01_k».proof.Proof.Gen.Kernel.Launch
public import proofs.«01_k».proof.Proof.Gen.Kernel.Points
public import proofs.«01_k».proof.Proof.KernBody2
public import Idealize.ShloMosaic.Lib.Pipeline.FrameBody

@[expose] public section

set_option maxRecDepth 16384

noncomputable section

namespace Cert.Kernel.Region2

open Cert.Kernel Cert.Kernel.Gen Cert.Kernel.Body2
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

-- the unscoped buffers as the region finds them
variable (V : Dev nD → Valuation τ sig (Elt F))

/-- Window `w`'s block at point `t`, read off its array as the region finds it. -/
def blk (c : Dev nD) (w : Fin cfg2.W) (t : Fin cfg2.N) : ((cfg2.win w).xblock (cfg2.grid.coords t)).Idx → Elt F (cfg2.win w).elt :=
  ((cfg2.win w).blk t).view.read (Elt F) (V c (Proc.devRef .tc (Pipeline.arrRef spec2 w)))

/-- The two weight arrays, the slices of them this pass uses, and the two output arrays at entry, by index. -/
def wgu (c : Dev nD) : Vec F S1280x6912 .bf16 := (Memref.whole main_v12_0).view.read (Elt F) (V c (Proc.devRef .tc main_v12_0))
def wdn (c : Dev nD) : Vec F S3456x1280 .bf16 := (Memref.whole main_v12_1).view.read (Elt F) (V c (Proc.devRef .tc main_v12_1))
def wguS (c : Dev nD) : Vec F S1280x2560 .bf16 := wguSlice (wgu V c)
def wdnS (c : Dev nD) : Vec F S1280x1280 .bf16 := wdnSlice (wdn V c)
def old1 (c : Dev nD) : Vec F S1280x2560 .f32 := (Memref.whole main_v14_1).view.read (Elt F) (V c (Proc.devRef .tc main_v14_1))
def old2 (c : Dev nD) : Vec F S1280x1280 .f32 := (Memref.whole main_v14_2).view.read (Elt F) (V c (Proc.devRef .tc main_v14_2))

/-- The body at point `t`, run at the point's buffers and blocks. -/
abbrev step (c : Dev nD) (t : Fin cfg2.N) := run (F := F) c
    (st2_0 t) (hstage2_0 ((cfg2.slots t 0).cast nbuf2_0))
    (st2_1 t) (hstage2_1 ((cfg2.slots t 1).cast nbuf2_1))
    (st2_2 t) (hstage2_2 ((cfg2.slots t 2).cast nbuf2_2))
    (st2_3 t) (hstage2_3 ((cfg2.slots t 3).cast nbuf2_3))
    (st2_4 t) (hstage2_4 ((cfg2.slots t 4).cast nbuf2_4))
    (Memref.whole main_v12_0) (Memref.isWhole_whole _)
    (Memref.whole main_v12_1) (Memref.isWhole_whole _)
    (st2_5 t) (hstage2_5 ((cfg2.slots t 5).cast nbuf2_5))
    (Memref.whole main_v14_1) (Memref.isWhole_whole _)
    (Memref.whole main_v14_2) (Memref.isWhole_whole _)
    (Memref.whole cc2_scratch0) (Memref.isWhole_whole _)
    (Memref.whole cc2_scratch1) (Memref.isWhole_whole _)
    (Memref.whole cc2_scratch2) (Memref.isWhole_whole _)
    (Memref.whole cc2_scratch3) (Memref.isWhole_whole _)
    (Memref.whole cc2_scratch4) (Memref.isWhole_whole _)
    (Memref.whole cc2_scratch5) (Memref.isWhole_whole _)
    (Memref.whole cc2_scratch6) (Memref.isWhole_whole _)
    (Memref.whole cc2_scratch7) (Memref.isWhole_whole _)
    (Memref.whole cc2_scratch8) (Memref.isWhole_whole _)
    (Memref.whole cc2_scratch9) (Memref.isWhole_whole _)
    (blk V c 0 t) (blk V c 1 t) (blk V c 2 t) (blk V c 3 t) (blk V c 4 t)

/-- The two accumulators after `n` points. -/
def acc (c : Dev nD) : ℕ → Vec F S1280x2560 .f32 × Vec F S1280x1280 .f32
  | 0 => (k2_pay1 (F := F), k2_pay2 (F := F))
  | n + 1 => if h : n < cfg2.N then
      ((step V c ⟨n, h⟩).1.2.1 (wguS V c) (wdnS V c) (acc c n).1 (acc c n).2, (step V c ⟨n, h⟩).1.2.2 (wguS V c) (wdnS V c) (acc c n).1 (acc c n).2)
    else acc c n

theorem acc_zero (c : Dev nD) : acc V c 0 = (k2_pay1 (F := F), k2_pay2 (F := F)) := by unfold acc; rfl

theorem acc_succ (c : Dev nD) (t : Fin cfg2.N) : acc V c (t.val + 1) =
    ((step V c t).1.2.1 (wguS V c) (wdnS V c) (acc V c t.val).1 (acc V c t.val).2, (step V c t).1.2.2 (wguS V c) (wdnS V c) (acc V c t.val).1 (acc V c t.val).2) := by
  rw [acc, dif_pos t.isLt]

/-- The result block point `t` writes. -/
def dxo (c : Dev nD) (t : Fin cfg2.N) : Vec F S512x1280 .f32 := (step V c t).1.1 (wguS V c) (wdnS V c) (acc V c t.val).1 (acc V c t.val).2

/-- The output arrays before point `n`: untouched until the last point has run. -/
def outv1 (c : Dev nD) (n : ℕ) : Vec F S1280x2560 .f32 := if n = 512 then (acc V c 512).1 else old1 V c
def outv2 (c : Dev nD) (n : ℕ) : Vec F S1280x1280 .f32 := if n = 512 then (acc V c 512).2 else old2 V c

/-- What the four carried buffers hold before point `n`, once a point has run. -/
def Carried (c : Dev nD) (n : ℕ) (g : Vec F S1280x2560 .bf16) (d : Vec F S1280x1280 .bf16) (a : Vec F S1280x2560 .f32) (b : Vec F S1280x1280 .f32) : Prop :=
  n ≠ 0 → g = wguS V c ∧ d = wdnS V c ∧ a = (acc V c n).1 ∧ b = (acc V c n).2

/-- The invariant before point `n`. -/
def Phi (c : Dev nD) (n : ℕ) : sProp 𝕄 :=
  iprop(pt c (Memref.whole main_v12_0) ((Memref.isWhole_whole main_v12_0).unread (wgu V c)) ∗ pt c (Memref.whole main_v12_1) ((Memref.isWhole_whole main_v12_1).unread (wdn V c))
    ∗ pt c (Memref.whole main_v14_1) ((Memref.isWhole_whole main_v14_1).unread (outv1 V c n)) ∗ pt c (Memref.whole main_v14_2) ((Memref.isWhole_whole main_v14_2).unread (outv2 V c n))
    ∗ (∃ g d a b, ⌜Carried V c n g d a b⌝ ∗ pt c (Memref.whole cc2_scratch0) ((Memref.isWhole_whole cc2_scratch0).unread g) ∗ pt c (Memref.whole cc2_scratch1) ((Memref.isWhole_whole cc2_scratch1).unread d) ∗ pt c (Memref.whole cc2_scratch2) ((Memref.isWhole_whole cc2_scratch2).unread a) ∗ pt c (Memref.whole cc2_scratch3) ((Memref.isWhole_whole cc2_scratch3).unread b))
    ∗ (∃ f, pt (F := F) c (Memref.whole cc2_scratch4) f)
    ∗ (∃ f, pt (F := F) c (Memref.whole cc2_scratch5) f)
    ∗ (∃ f, pt (F := F) c (Memref.whole cc2_scratch6) f)
    ∗ (∃ f, pt (F := F) c (Memref.whole cc2_scratch7) f)
    ∗ (∃ f, pt (F := F) c (Memref.whole cc2_scratch8) f)
    ∗ (∃ f, pt (F := F) c (Memref.whole cc2_scratch9) f)
    ∗ Pipeline.scopedRestBut (Ix := Unit) (Name := ℕ) (U := UU) (Lvl := ℕ) (Val := Elt F) spec2 c [cc2_scratch0, cc2_scratch1, cc2_scratch2, cc2_scratch3, cc2_scratch4, cc2_scratch5, cc2_scratch6, cc2_scratch7, cc2_scratch8, cc2_scratch9]
    ∗ semVal ((c : Thread nD τ), SemLoc.dma 37) 0 ∗ semVal ((c : Thread nD τ), SemLoc.dma 38) 0
    ∗ (∃ r, prngReg c r))

/-- The region's proof data on core `c`. -/
def dat (c : Dev nD) : Dat τ (Elt F) Unit ℕ UU ℕ cfg2 c where
  A w := V c (Proc.devRef .tc (Pipeline.arrRef spec2 w))
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => dxo V c t
  Φ t := Phi V c t.val
  q _ := fullShare
  owed _ := 0

theorem A_eq (c : Dev nD) (w : Fin cfg2.W) : (dat V c).A w = V c (Proc.devRef .tc (Pipeline.arrRef spec2 w)) := by
  dsimp only [dat]

theorem after_0 (c : Dev nD) (t : Fin cfg2.N) : (dat V c).after 0 t = blk V c 0 t := by dsimp only [dat]
theorem after_1 (c : Dev nD) (t : Fin cfg2.N) : (dat V c).after 1 t = blk V c 1 t := by dsimp only [dat]
theorem after_2 (c : Dev nD) (t : Fin cfg2.N) : (dat V c).after 2 t = blk V c 2 t := by dsimp only [dat]
theorem after_3 (c : Dev nD) (t : Fin cfg2.N) : (dat V c).after 3 t = blk V c 3 t := by dsimp only [dat]
theorem after_4 (c : Dev nD) (t : Fin cfg2.N) : (dat V c).after 4 t = blk V c 4 t := by dsimp only [dat]
theorem after_5 (c : Dev nD) (t : Fin cfg2.N) : (dat V c).after 5 t = dxo V c t := by dsimp only [dat]

/-- Each input's staging buffer holds its block when the body runs. -/
theorem before_0 (c : Dev nD) (t : Fin cfg2.N) (d) : (dat V c).before 0 t d = blk V c 0 t :=
  ((dat V c).before_in_eq_fetched 0 rfl (fun _ => rfl) (fun _ _ _ => rfl) (fun t => by rw [after_0]; unfold Dat.blockOf blk; rw [A_eq]; try rfl) t d).trans
    (by unfold Dat.fetched Dat.blockOf blk; rw [A_eq]; try rfl)
theorem before_1 (c : Dev nD) (t : Fin cfg2.N) (d) : (dat V c).before 1 t d = blk V c 1 t :=
  ((dat V c).before_in_eq_fetched 1 rfl (fun _ => rfl) (fun _ _ _ => rfl) (fun t => by rw [after_1]; unfold Dat.blockOf blk; rw [A_eq]; try rfl) t d).trans
    (by unfold Dat.fetched Dat.blockOf blk; rw [A_eq]; try rfl)
theorem before_2 (c : Dev nD) (t : Fin cfg2.N) (d) : (dat V c).before 2 t d = blk V c 2 t :=
  ((dat V c).before_in_eq_fetched 2 rfl (fun _ => rfl) (fun _ _ _ => rfl) (fun t => by rw [after_2]; unfold Dat.blockOf blk; rw [A_eq]; try rfl) t d).trans
    (by unfold Dat.fetched Dat.blockOf blk; rw [A_eq]; try rfl)
theorem before_3 (c : Dev nD) (t : Fin cfg2.N) (d) : (dat V c).before 3 t d = blk V c 3 t :=
  ((dat V c).before_in_eq_fetched 3 rfl (fun _ => rfl) (fun _ _ _ => rfl) (fun t => by rw [after_3]; unfold Dat.blockOf blk; rw [A_eq]; try rfl) t d).trans
    (by unfold Dat.fetched Dat.blockOf blk; rw [A_eq]; try rfl)
theorem before_4 (c : Dev nD) (t : Fin cfg2.N) (d) : (dat V c).before 4 t d = blk V c 4 t :=
  ((dat V c).before_in_eq_fetched 4 rfl (fun _ => rfl) (fun _ _ _ => rfl) (fun t => by rw [after_4]; unfold Dat.blockOf blk; rw [A_eq]; try rfl) t d).trans
    (by unfold Dat.fetched Dat.blockOf blk; rw [A_eq]; try rfl)

theorem N_eq : cfg2.N = 512 := N_2

/-- A point's only coordinate is its number. -/
theorem coord_val (t : Fin cfg2.N) : (grid2.coords t 0).val = t.val := by
  have h := Pipeline.Grid.coords_val (G := grid2) t 0 (S := 1) (B := 512) (by decide) rfl
  have := t.isLt; have := N_eq
  rw [h, Nat.div_one, Nat.mod_eq_of_lt (by omega)]

/-! ## What a point finds and leaves, in terms of the invariant -/

theorem wguIn_eq (c : Dev nD) (t : Fin cfg2.N) {g : Vec F S1280x2560 .bf16} (h : t.val ≠ 0 → g = wguS V c) :
    wguIn (grid2.coords t) (wgu V c) g = wguS V c := by
  unfold wguIn
  by_cases h0 : t.val = 0
  · rw [if_pos (by rw [coord_val, h0])]; rfl
  · rw [if_neg (by rw [coord_val]; exact h0), h h0]

theorem wdnIn_eq (c : Dev nD) (t : Fin cfg2.N) {g : Vec F S1280x1280 .bf16} (h : t.val ≠ 0 → g = wdnS V c) :
    wdnIn (grid2.coords t) (wdn V c) g = wdnS V c := by
  unfold wdnIn
  by_cases h0 : t.val = 0
  · rw [if_pos (by rw [coord_val, h0])]; rfl
  · rw [if_neg (by rw [coord_val]; exact h0), h h0]

theorem accIn_eq1 (c : Dev nD) (t : Fin cfg2.N) {a : Vec F S1280x2560 .f32} (h : t.val ≠ 0 → a = (acc V c t.val).1) :
    accIn (grid2.coords t) (k2_pay1 (F := F)) a = (acc V c t.val).1 := by
  unfold accIn
  by_cases h0 : t.val = 0
  · rw [if_pos (by rw [coord_val, h0]), h0, acc_zero]
  · rw [if_neg (by rw [coord_val]; exact h0), h h0]

theorem accIn_eq2 (c : Dev nD) (t : Fin cfg2.N) {a : Vec F S1280x1280 .f32} (h : t.val ≠ 0 → a = (acc V c t.val).2) :
    accIn (grid2.coords t) (k2_pay2 (F := F)) a = (acc V c t.val).2 := by
  unfold accIn
  by_cases h0 : t.val = 0
  · rw [if_pos (by rw [coord_val, h0]), h0, acc_zero]
  · rw [if_neg (by rw [coord_val]; exact h0), h h0]

theorem accOut_eq1 (c : Dev nD) (t : Fin cfg2.N) :
    accOut (grid2.coords t) (acc V c (t.val + 1)).1 (outv1 V c t.val) = outv1 V c (t.val + 1) := by
  have := t.isLt; have := N_eq
  unfold accOut outv1
  by_cases h0 : t.val = 511
  · rw [if_pos (by rw [coord_val, h0]), if_pos (by omega), h0]
  · rw [if_neg (by rw [coord_val]; exact h0), if_neg (by omega), if_neg (by omega)]

theorem accOut_eq2 (c : Dev nD) (t : Fin cfg2.N) :
    accOut (grid2.coords t) (acc V c (t.val + 1)).2 (outv2 V c t.val) = outv2 V c (t.val + 1) := by
  have := t.isLt; have := N_eq
  unfold accOut outv2
  by_cases h0 : t.val = 511
  · rw [if_pos (by rw [coord_val, h0]), if_pos (by omega), h0]
  · rw [if_neg (by rw [coord_val]; exact h0), if_neg (by omega), if_neg (by omega)]

theorem acc1_succ (c : Dev nD) (t : Fin cfg2.N) :
    (step V c t).1.2.1 (wguS V c) (wdnS V c) (acc V c t.val).1 (acc V c t.val).2 = (acc V c (t.val + 1)).1 := by rw [acc_succ]
theorem acc2_succ (c : Dev nD) (t : Fin cfg2.N) :
    (step V c t).1.2.2 (wguS V c) (wdnS V c) (acc V c t.val).1 (acc V c t.val).2 = (acc V c (t.val + 1)).2 := by rw [acc_succ]

/-! ## The body obligation -/

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t))

theorem Phi_castSucc (c : Dev nD) (t : Fin cfg2.N) : (dat V c).Φ t.castSucc = Phi V c t.val := by
  dsimp only [dat]; rfl
theorem Phi_succ (c : Dev nD) (t : Fin cfg2.N) : (dat V c).Φ t.succ = Phi V c (t.val + 1) := by
  dsimp only [dat]; rfl

set_option maxHeartbeats 2000000 in
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4, after_0, after_1, after_2, after_3, after_4, after_5]
  rw [Phi_castSucc, Phi_succ]
  unfold Dat.owesAt Pipeline.owesWithin
  rw [show (dat V c).owed t.castSucc = 0 from rfl, show (dat V c).owed t.succ = 0 from rfl]
  unfold Phi
  iintro ⟨⟨Hw1, Hw2, Ho1, Ho2, ⟨%g, %d, %a, %b, %hcar, Hg, Hd, Ha, Hb⟩, ⟨%f4, S4⟩, ⟨%f5, S5⟩, ⟨%f6, S6⟩, ⟨%f7, S7⟩, ⟨%f8, S8⟩, ⟨%f9, S9⟩, Hrest, Hs0, Hs1, Hp⟩, ⟨%Wt, -, HO⟩, ⟨%e0, H0⟩, ⟨%e1, H1⟩, ⟨%e2, H2⟩, ⟨%e3, H3⟩, ⟨%e4, H4⟩, ⟨%e5, H5⟩⟩
  ihave H0 := (Cert.Base.owns_unread (hstage2_0 ((cfg2.slots t 0).cast nbuf2_0)) _ _).1 $$ H0
  ihave H1 := (Cert.Base.owns_unread (hstage2_1 ((cfg2.slots t 1).cast nbuf2_1)) _ _).1 $$ H1
  ihave H2 := (Cert.Base.owns_unread (hstage2_2 ((cfg2.slots t 2).cast nbuf2_2)) _ _).1 $$ H2
  ihave H3 := (Cert.Base.owns_unread (hstage2_3 ((cfg2.slots t 3).cast nbuf2_3)) _ _).1 $$ H3
  ihave H4 := (Cert.Base.owns_unread (hstage2_4 ((cfg2.slots t 4).cast nbuf2_4)) _ _).1 $$ H4
  ihave H5 := (Cert.Base.owns_unread (hstage2_5 ((cfg2.slots t 5).cast nbuf2_5)) _ _).1 $$ H5
  iapply ((step V c t).2 (grid2.coords t) (wgu V c) (wdn V c) (outv1 V c t.val) (outv2 V c t.val) g d a b _ f4 f5 f6 f7 f8 f9 Wt _)
  rw [wguIn_eq V c t fun h => (hcar h).1, wdnIn_eq V c t fun h => (hcar h).2.1, accIn_eq1 V c t fun h => (hcar h).2.2.1, accIn_eq2 V c t fun h => (hcar h).2.2.2,
    acc1_succ, acc2_succ, accOut_eq1, accOut_eq2]
  isplitl [H0]; · iexact H0
  isplitl [H1]; · iexact H1
  isplitl [H2]; · iexact H2
  isplitl [H3]; · iexact H3
  isplitl [H4]; · iexact H4
  isplitl [Hw1]; · iexact Hw1
  isplitl [Hw2]; · iexact Hw2
  isplitl [H5]; · iexact H5
  isplitl [Ho1]; · iexact Ho1
  isplitl [Ho2]; · iexact Ho2
  isplitl [Hg]; · iexact Hg
  isplitl [Hd]; · iexact Hd
  isplitl [Ha]; · iexact Ha
  isplitl [Hb]; · iexact Hb
  isplitl [S4]; · iexact S4
  isplitl [S5]; · iexact S5
  isplitl [S6]; · iexact S6
  isplitl [S7]; · iexact S7
  isplitl [S8]; · iexact S8
  isplitl [S9]; · iexact S9
  isplitl [Hs0]; · iexact Hs0
  isplitl [Hs1]; · iexact Hs1
  isplitl [HO]; · iexact HO
  iintro ⟨Ha, Hb, H0, H1, H2, H3, H4, Hw1, Hw2, H5, Ho1, Ho2, Hg, Hd, S4, S5, S6, S7, S8, S9, Hs0, Hs1, ⟨%W', HO⟩⟩
  isplitl [Hw1 Hw2 Ho1 Ho2 Hg Hd Ha Hb S4 S5 S6 S7 S8 S9 Hrest Hs0 Hs1 Hp]
  · isplitl [Hw1]; · iexact Hw1
    isplitl [Hw2]; · iexact Hw2
    isplitl [Ho1]; · iexact Ho1
    isplitl [Ho2]; · iexact Ho2
    isplitl [Hg Hd Ha Hb]
    · iexists _, _, _, _
      isplitr
      swap
      · isplitl [Hg]; · iexact Hg
        isplitl [Hd]; · iexact Hd
        isplitl [Ha]; · iexact Ha
        iexact Hb
      ipureintro
      exact fun _ => ⟨rfl, rfl, rfl, rfl⟩
    isplitl [S4]; · iexact S4
    isplitl [S5]; · iexact S5
    isplitl [S6]; · iexact S6
    isplitl [S7]; · iexact S7
    isplitl [S8]; · iexact S8
    isplitl [S9]; · iexact S9
    isplitl [Hrest]; · iexact Hrest
    isplitl [Hs0]; · iexact Hs0
    isplitl [Hs1]; · iexact Hs1
    iexact Hp
  isplitl [HO]
  · iexists W'; isplitr; · ipureintro; exact fun _ _ => Or.inl trivial
    iexact HO
  isplitl [H0]
  · iapply (Cert.Base.owns_unread (hstage2_0 ((cfg2.slots t 0).cast nbuf2_0)) _ _).2; iexact H0
  isplitl [H1]
  · iapply (Cert.Base.owns_unread (hstage2_1 ((cfg2.slots t 1).cast nbuf2_1)) _ _).2; iexact H1
  isplitl [H2]
  · iapply (Cert.Base.owns_unread (hstage2_2 ((cfg2.slots t 2).cast nbuf2_2)) _ _).2; iexact H2
  isplitl [H3]
  · iapply (Cert.Base.owns_unread (hstage2_3 ((cfg2.slots t 3).cast nbuf2_3)) _ _).2; iexact H3
  isplitl [H4]
  · iapply (Cert.Base.owns_unread (hstage2_4 ((cfg2.slots t 4).cast nbuf2_4)) _ _).2; iexact H4
  iapply (Cert.Base.owns_unread (hstage2_5 ((cfg2.slots t 5).cast nbuf2_5)) _ _).2; iexact H5

theorem defs₀_row (t : Fin cfg2.N) :
    defs₀ (F := F) .tc cfg2.body (cfg2.bodyArgs t (cfg2.slots t)) = bodyAt2 t := by
  unfold defs₀; rw [Defs.onTc_tc]

theorem body_obligation (c : Dev nD) : BodyObligation (dat V c) (defs₀ (F := F)) Variants.none () Set.univ := fun t => by
  rw [bigSep_W2, bigSep_W2, defs₀_row]
  exact triple_restated (sound_body V c t) rfl .rfl fun _ => .rfl

/-! ## Entering and leaving the region -/

/-- The body's own two semaphores, the arrays its copies read, and those they write. -/
abbrev osem : Fin 2 → SemLoc sig := ![SemLoc.dma 37, SemLoc.dma 38]
theorem ownSemFacts : Pipeline.OwnSemFacts spec2 osem := by decide
abbrev Hr : Finset (Ref sig .tc) := {main_v12_0, main_v12_1}
abbrev Hw : Finset (Ref sig .tc) := {main_v14_1, main_v14_2}

/-- The unscoped buffers as the region leaves them. -/
def leave (c : Dev nD) : Valuation τ sig (Elt F) :=
  Function.update (Function.update (Function.update (V c) (Proc.devRef .tc main_v14_0) ((dat V c).arrAt 5 cfg2.N))
    (Proc.devRef .tc main_v14_1) ((Memref.isWhole_whole main_v14_1).unread (acc V c 512).1))
    (Proc.devRef .tc main_v14_2) ((Memref.isWhole_whole main_v14_2).unread (acc V c 512).2)

theorem leave_of (c : Dev nD) (b : DevRef τ sig) (h0 : b ≠ Proc.devRef .tc main_v14_0) (h1 : b ≠ Proc.devRef .tc main_v14_1) (h2 : b ≠ Proc.devRef .tc main_v14_2) :
    leave V c b = V c b := by
  unfold leave
  rw [Function.update_of_ne h2, Function.update_of_ne h1, Function.update_of_ne h0]
theorem leave_0 (c : Dev nD) : leave V c (Proc.devRef .tc main_v14_0) = (dat V c).arrAt 5 cfg2.N := by
  unfold leave
  rw [Function.update_of_ne (by decide), Function.update_of_ne (by decide), Function.update_self]
theorem leave_1 (c : Dev nD) : leave V c (Proc.devRef .tc main_v14_1) = (Memref.isWhole_whole main_v14_1).unread (acc V c 512).1 := by
  unfold leave
  rw [Function.update_of_ne (by decide), Function.update_self]
theorem leave_2 (c : Dev nD) : leave V c (Proc.devRef .tc main_v14_2) = (Memref.isWhole_whole main_v14_2).unread (acc V c 512).2 := by
  unfold leave
  rw [Function.update_self]

theorem arr_start (c : Dev nD) (w : Fin cfg2.W) : (dat V c).arrAt w 0 = V c (Proc.devRef .tc (Pipeline.arrRef spec2 w)) :=
  A_eq V c w

theorem arr_end (c : Dev nD) (w : Fin cfg2.W) : (dat V c).arrAt w cfg2.N = leave V c (Proc.devRef .tc (Pipeline.arrRef spec2 w)) := by
  fin_cases w
  · exact ((dat V c).arrAt_in 0 rfl _).trans ((A_eq V c 0).trans (leave_of V c _ (by decide) (by decide) (by decide)).symm)
  · exact ((dat V c).arrAt_in 1 rfl _).trans ((A_eq V c 1).trans (leave_of V c _ (by decide) (by decide) (by decide)).symm)
  · exact ((dat V c).arrAt_in 2 rfl _).trans ((A_eq V c 2).trans (leave_of V c _ (by decide) (by decide) (by decide)).symm)
  · exact ((dat V c).arrAt_in 3 rfl _).trans ((A_eq V c 3).trans (leave_of V c _ (by decide) (by decide) (by decide)).symm)
  · exact ((dat V c).arrAt_in 4 rfl _).trans ((A_eq V c 4).trans (leave_of V c _ (by decide) (by decide) (by decide)).symm)
  · exact (leave_0 V c).symm

set_option maxHeartbeats 2000000 in
theorem hin (c : Dev nD) :
    iprop(Pipeline.scopedRest (Ix := Unit) (Name := ℕ) (U := UU) (Lvl := ℕ) (Val := Elt F) spec2 c ∗ (∃ r, prngReg c r) ∗ Pipeline.ownSems0 osem c
        ∗ (bigSep Hr fun b => ((c.tc : Thread nD τ).loc b) ↦{fullShare} V c (Proc.devRef .tc b))
        ∗ (bigSep Hw fun b => ((c.tc : Thread nD τ).loc b) ↦{fullShare} V c (Proc.devRef .tc b))
        ∗ Transfers.MayWaits (c : Thread nD τ) () (0 : CellTallies nD τ sig Unit)) ⊢ (Phi V c 0 : sProp 𝕄) := by
  rw [scopedRest2_split, Pipeline.ownSems0_eq_of_list c osem [0, 1] (by decide) (by decide),
    bigSep_eq_bigSepL_of_eq [main_v12_0, main_v12_1] (S := Hr) (by decide) (by decide),
    bigSep_eq_bigSepL_of_eq [main_v14_1, main_v14_2] (S := Hw) (by decide) (by decide)]
  rw [Cert.Base.bigSepL_pair, Cert.Base.bigSepL_pair, Cert.Base.bigSepL_pair]
  unfold Phi
  have e1 : (Memref.isWhole_whole main_v12_0).unread (wgu V c) = V c (Proc.devRef .tc main_v12_0) := Memref.IsWhole.unread_read _ _
  have e2 : (Memref.isWhole_whole main_v12_1).unread (wdn V c) = V c (Proc.devRef .tc main_v12_1) := Memref.IsWhole.unread_read _ _
  have e3 : (Memref.isWhole_whole main_v14_1).unread (outv1 V c 0) = V c (Proc.devRef .tc main_v14_1) := Memref.IsWhole.unread_read _ _
  have e4 : (Memref.isWhole_whole main_v14_2).unread (outv2 V c 0) = V c (Proc.devRef .tc main_v14_2) := Memref.IsWhole.unread_read _ _
  rw [e1, e2, e3, e4]
  iintro ⟨⟨⟨⟨%f0, S0⟩, ⟨%f1, S1⟩, ⟨%f2, S2⟩, ⟨%f3, S3⟩, ⟨%f4, S4⟩, ⟨%f5, S5⟩, ⟨%f6, S6⟩, ⟨%f7, S7⟩, ⟨%f8, S8⟩, ⟨%f9, S9⟩⟩, Hrest⟩, Hp, ⟨Hs0, Hs1⟩, ⟨Hw1, Hw2⟩, ⟨Ho1, Ho2⟩, -⟩
  isplitl [Hw1]; · iexact Hw1
  isplitl [Hw2]; · iexact Hw2
  isplitl [Ho1]; · iexact Ho1
  isplitl [Ho2]; · iexact Ho2
  isplitl [S0 S1 S2 S3]
  · iexists (Memref.whole cc2_scratch0).view.read (Elt F) f0, (Memref.whole cc2_scratch1).view.read (Elt F) f1, (Memref.whole cc2_scratch2).view.read (Elt F) f2, (Memref.whole cc2_scratch3).view.read (Elt F) f3
    rw [Memref.IsWhole.unread_read, Memref.IsWhole.unread_read, Memref.IsWhole.unread_read, Memref.IsWhole.unread_read]
    isplitr; · ipureintro; exact fun h => absurd rfl h
    isplitl [S0]; · iexact S0
    isplitl [S1]; · iexact S1
    isplitl [S2]; · iexact S2
    iexact S3
  isplitl [S4]; · iexists f4; iexact S4
  isplitl [S5]; · iexists f5; iexact S5
  isplitl [S6]; · iexists f6; iexact S6
  isplitl [S7]; · iexists f7; iexact S7
  isplitl [S8]; · iexists f8; iexact S8
  isplitl [S9]; · iexists f9; iexact S9
  isplitl [Hrest]; · iexact Hrest
  isplitl [Hs0]; · iexact Hs0
  isplitl [Hs1]; · iexact Hs1
  iexact Hp

set_option maxHeartbeats 2000000 in
theorem hout (c : Dev nD) :
    (Phi V c 512 : sProp 𝕄) ⊢ iprop(Pipeline.scopedRest (Ix := Unit) (Name := ℕ) (U := UU) (Lvl := ℕ) (Val := Elt F) spec2 c ∗ (∃ r, prngReg c r) ∗ Pipeline.ownSems0 osem c
        ∗ (bigSep Hr fun b => ((c.tc : Thread nD τ).loc b) ↦{fullShare} V c (Proc.devRef .tc b))
        ∗ (bigSep Hw fun b => ((c.tc : Thread nD τ).loc b) ↦{fullShare} leave V c (Proc.devRef .tc b))) := by
  rw [scopedRest2_split, Pipeline.ownSems0_eq_of_list c osem [0, 1] (by decide) (by decide),
    bigSep_eq_bigSepL_of_eq [main_v12_0, main_v12_1] (S := Hr) (by decide) (by decide),
    bigSep_eq_bigSepL_of_eq [main_v14_1, main_v14_2] (S := Hw) (by decide) (by decide)]
  rw [Cert.Base.bigSepL_pair, Cert.Base.bigSepL_pair, Cert.Base.bigSepL_pair]
  unfold Phi
  have e1 : (Memref.isWhole_whole main_v12_0).unread (wgu V c) = V c (Proc.devRef .tc main_v12_0) := Memref.IsWhole.unread_read _ _
  have e2 : (Memref.isWhole_whole main_v12_1).unread (wdn V c) = V c (Proc.devRef .tc main_v12_1) := Memref.IsWhole.unread_read _ _
  rw [e1, e2, leave_1, leave_2, show outv1 V c 512 = (acc V c 512).1 from if_pos rfl, show outv2 V c 512 = (acc V c 512).2 from if_pos rfl]
  iintro ⟨Hw1, Hw2, Ho1, Ho2, ⟨%g, %d, %a, %b, -, S0, S1, S2, S3⟩, ⟨%f4, S4⟩, ⟨%f5, S5⟩, ⟨%f6, S6⟩, ⟨%f7, S7⟩, ⟨%f8, S8⟩, ⟨%f9, S9⟩, Hrest, Hs0, Hs1, Hp⟩
  isplitl [S0 S1 S2 S3 S4 S5 S6 S7 S8 S9 Hrest]
  · isplitl [S0 S1 S2 S3 S4 S5 S6 S7 S8 S9]
    · isplitl [S0]; · iexists _; iexact S0
      isplitl [S1]; · iexists _; iexact S1
      isplitl [S2]; · iexists _; iexact S2
      isplitl [S3]; · iexists _; iexact S3
      isplitl [S4]; · iexists _; iexact S4
      isplitl [S5]; · iexists _; iexact S5
      isplitl [S6]; · iexists _; iexact S6
      isplitl [S7]; · iexists _; iexact S7
      isplitl [S8]; · iexists _; iexact S8
      iexists _; iexact S9
    iexact Hrest
  isplitl [Hp]; · iexact Hp
  isplitl [Hs0 Hs1]
  · isplitl [Hs0]; · iexact Hs0
    iexact Hs1
  isplitl [Hw1 Hw2]
  · isplitl [Hw1]; · iexact Hw1
    iexact Hw2
  isplitl [Ho1]; · iexact Ho1
  iexact Ho2

end Cert.Kernel.Region2

end
-- ==== Proof.KernBody3.lean ====
/-
  One grid point of the fused pass `cc3_mlp_f2560`, run once at symbolic operands. The first point loads the weight slices
  and clears the two accumulators; every point then computes the result block and adds to the accumulators; the last
  point writes the accumulators out. `run` says what a point leaves, as functions of the four carried buffers.
-/
module

public import proofs.«01_k».proof.Proof.Gen.Kernel.Skeleton
public import proofs.«01_k».proof.Proof.Base

@[expose] public section

set_option maxRecDepth 16384

noncomputable section

namespace Cert.Kernel.Body3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipeline library's, beside the counters of the body's own transfers. -/
abbrev UU : Type := UR sig nD τ × Counters

local notation "𝕄" => MT nD τ sig Unit (Elt F) ℕ UU ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

theorem pt_eq (c : Dev nD) {sp : Space} {S : Shape} {e : EltTy} (M : Memref sig .tc sp S e) {f g : Bf (F := F) c M} (h : f = g) :
    pt c M f ⊢ pt c M g := by
  subst h; exact .rfl

/-- The slice of the first weight array that this pass uses. -/
def wguSlice (x : Vec F S1280x6912 .bf16) : Vec F S1280x1792 .bf16 :=
  fun y => x ((Rect.unit (s := S1280x6912) ![0, 5120] S1280x1792.size inb_S1280x6912_S1280x1792_0_5120).emb y)

/-- The slice of the second weight array that this pass uses. -/
def wdnSlice (x : Vec F S3456x1280 .bf16) : Vec F S896x1280 .bf16 :=
  fun y => x ((Rect.unit (s := S3456x1280) ![2560, 0] S896x1280.size inb_S3456x1280_S896x1280_2560_0).emb y)

/-- What a point finds in the first weight buffer: the slice if it is the first point, what was there otherwise. -/
def wguIn (i : grid3.Coords) (x : Vec F S1280x6912 .bf16) (g : Vec F S1280x1792 .bf16) : Vec F S1280x1792 .bf16 := if (i 0).val = 0 then wguSlice x else g

/-- What a point finds in the second weight buffer. -/
def wdnIn (i : grid3.Coords) (x : Vec F S3456x1280 .bf16) (g : Vec F S896x1280 .bf16) : Vec F S896x1280 .bf16 := if (i 0).val = 0 then wdnSlice x else g

/-- What a point finds in an accumulator: zeros if it is the first point. -/
def accIn (i : grid3.Coords) {S : Shape} (z g : Vec F S .f32) : Vec F S .f32 := if (i 0).val = 0 then z else g

/-- What a point leaves in an output array: the accumulator if it is the last point. -/
def accOut (i : grid3.Coords) {S : Shape} (a g : Vec F S .f32) : Vec F S .f32 := if (i 0).val = 511 then a else g

theorem coord_lt (i : grid3.Coords) : (i 0).val < 2 ^ 32 :=
  lt_trans (i 0).isLt (by decide)

/-- Contents under the printed first-point test are the contents that read the values under the plain test. -/
theorem dif_first (i : grid3.Coords) {b : BitVec 1}
    (hb : b = Scalar.cmpi .ne (Scalar.extui (Scalar.cmpi .eq (BitVec.ofNat 32 (i 0).val) (BitVec.ofNat 32 0))) 0#32)
    {sp : Space} {S : Shape} {e : EltTy} {M : Memref sig .tc sp S e} (h : M.IsWhole) {x : M.view.ty.Contents (Elt F)} {x' y : Vec F S e} (hx : x = h.unread x') :
    (if _ : b = 1#1 then x else h.unread y) = h.unread (if (i 0).val = 0 then x' else y) := by
  subst hb hx
  have := Cert.Base.coord_test (i 0).val 0 (coord_lt i) (by decide)
  by_cases h : (i 0).val = 0
  · rw [dif_pos (this.2 h), if_pos h]
  · rw [dif_neg (mt this.1 h), if_neg h]

/-- The same for the last-point test. -/
theorem dif_last (i : grid3.Coords) {b : BitVec 1}
    (hb : b = Scalar.cmpi .ne (Scalar.extui (Scalar.cmpi .eq (BitVec.ofNat 32 (i 0).val) (BitVec.ofNat 32 511))) 0#32)
    {sp : Space} {S : Shape} {e : EltTy} {M : Memref sig .tc sp S e} (h : M.IsWhole) {x : M.view.ty.Contents (Elt F)} {x' y : Vec F S e} (hx : x = h.unread x') :
    (if _ : b = 1#1 then x else h.unread y) = h.unread (if (i 0).val = 511 then x' else y) := by
  subst hb hx
  have := Cert.Base.coord_test (i 0).val 511 (coord_lt i) (by decide)
  by_cases h : (i 0).val = 511
  · rw [dif_pos (this.2 h), if_pos h]
  · rw [dif_neg (mt this.1 h), if_neg h]

/-- A copy of a whole buffer that was written whole leaves the contents that read what was written. -/
theorem copy_whole {sp sp' : Space} {S : Shape} {M : Memref sig .tc sp S .f32} (h : M.IsWhole) {M' : Memref sig .tc sp' S .f32} (h' : M'.IsWhole)
    (f : M.view.ty.Contents (Elt F)) {g : M'.view.ty.Contents (Elt F)} {w : Vec F S .f32} (hg : g = h'.unread w) :
    M.view.write (Elt F) f (M'.view.read (Elt F) g) Finset.univ = h.unread w := by
  rw [Cert.Base.write_whole h, hg, h'.read_unread]

/-- Reading a slice of a whole array reads the array at the slice's indices. -/
theorem slice_read {sp : Space} {S : Shape} {e : EltTy} {M : Memref sig .tc sp S e} (h : M.IsWhole) (x : Vec F S e) (r : Rect S) :
    (M.view.slice r).read (Elt F) (h.unread x) = fun y => x (r.emb y) :=
  funext fun y => congrFun (h.read_unread x) (r.emb y)

set_option maxHeartbeats 600000 in
/-- What one point leaves in the result block and the two accumulators, as functions of the four carried buffers, with
    the proof that the point runs to its return from every buffer held whole. -/
def run (c : Dev nD)
    (M1 : Memref sig .tc .vmem S512x1280 .fp8e4m3) (h1 : M1.IsWhole)
    (M2 : Memref sig .tc .vmem S512x10 .f32) (h2 : M2.IsWhole)
    (M3 : Memref sig .tc .vmem S512x1280 .fp8e5m2) (h3 : M3.IsWhole)
    (M4 : Memref sig .tc .vmem S512x10 .f32) (h4 : M4.IsWhole)
    (M5 : Memref sig .tc .vmem S512x1280 .f32) (h5 : M5.IsWhole)
    (M6 : Memref sig .tc .hbm S1280x6912 .bf16) (h6 : M6.IsWhole)
    (M7 : Memref sig .tc .hbm S3456x1280 .bf16) (h7 : M7.IsWhole)
    (M8 : Memref sig .tc .vmem S512x1280 .bf16) (h8 : M8.IsWhole)
    (M9 : Memref sig .tc .hbm S1280x1792 .f32) (h9 : M9.IsWhole)
    (M10 : Memref sig .tc .hbm S1280x896 .f32) (h10 : M10.IsWhole)
    (M11 : Memref sig .tc .vmem S1280x1792 .bf16) (h11 : M11.IsWhole)
    (M12 : Memref sig .tc .vmem S896x1280 .bf16) (h12 : M12.IsWhole)
    (M13 : Memref sig .tc .vmem S1280x1792 .f32) (h13 : M13.IsWhole)
    (M14 : Memref sig .tc .vmem S1280x896 .f32) (h14 : M14.IsWhole)
    (M15 : Memref sig .tc .vmem S512x1280 .bf16) (h15 : M15.IsWhole)
    (M16 : Memref sig .tc .vmem S512x1280 .bf16) (h16 : M16.IsWhole)
    (M17 : Memref sig .tc .vmem S1280x512 .bf16) (h17 : M17.IsWhole)
    (M18 : Memref sig .tc .vmem S1280x512 .bf16) (h18 : M18.IsWhole)
    (M19 : Memref sig .tc .vmem S512x896 .bf16) (h19 : M19.IsWhole)
    (M20 : Memref sig .tc .vmem S512x1792 .bf16) (h20 : M20.IsWhole)
    (x1 : Vec F S512x1280 .fp8e4m3) (x2 : Vec F S512x10 .f32) (x3 : Vec F S512x1280 .fp8e5m2) (x4 : Vec F S512x10 .f32) (x5 : Vec F S512x1280 .f32) :
    { W : (Vec F S1280x1792 .bf16 → Vec F S896x1280 .bf16 → Vec F S1280x1792 .f32 → Vec F S1280x896 .f32 → Vec F S512x1280 .bf16) × (Vec F S1280x1792 .bf16 → Vec F S896x1280 .bf16 → Vec F S1280x1792 .f32 → Vec F S1280x896 .f32 → Vec F S1280x1792 .f32) × (Vec F S1280x1792 .bf16 → Vec F S896x1280 .bf16 → Vec F S1280x1792 .f32 → Vec F S1280x896 .f32 → Vec F S1280x896 .f32) //
      ∀ (i : grid3.Coords) (x6 : Vec F S1280x6912 .bf16) (x7 : Vec F S3456x1280 .bf16) (x9 : Vec F S1280x1792 .f32) (x10 : Vec F S1280x896 .f32) (x11 : Vec F S1280x1792 .bf16) (x12 : Vec F S896x1280 .bf16) (x13 : Vec F S1280x1792 .f32) (x14 : Vec F S1280x896 .f32) (f8 : Bf (F := F) c M8) (f15 : Bf (F := F) c M15) (f16 : Bf (F := F) c M16) (f17 : Bf (F := F) c M17) (f18 : Bf (F := F) c M18) (f19 : Bf (F := F) c M19) (f20 : Bf (F := F) c M20) (Wt : Waits sig Unit) (Q : PUnit → sProp 𝕄),
        iprop(pt c M1 (h1.unread x1) ∗ pt c M2 (h2.unread x2) ∗ pt c M3 (h3.unread x3) ∗ pt c M4 (h4.unread x4) ∗ pt c M5 (h5.unread x5) ∗ pt c M6 (h6.unread x6) ∗ pt c M7 (h7.unread x7) ∗ pt c M8 f8 ∗ pt c M9 (h9.unread x9) ∗ pt c M10 (h10.unread x10) ∗ pt c M11 (h11.unread x11) ∗ pt c M12 (h12.unread x12) ∗ pt c M13 (h13.unread x13) ∗ pt c M14 (h14.unread x14) ∗ pt c M15 f15 ∗ pt c M16 f16 ∗ pt c M17 f17 ∗ pt c M18 f18 ∗ pt c M19 f19 ∗ pt c M20 f20
          ∗ semVal ((c : Thread nD τ), SemLoc.dma 51) 0 ∗ semVal ((c : Thread nD τ), SemLoc.dma 52) 0 ∗ owes (c : Thread nD τ) 0 Wt
          ∗ (iprop(pt c M13 (h13.unread (W.2.1 (wguIn i x6 x11) (wdnIn i x7 x12) (accIn i (k3_pay2 (F := F)) x13) (accIn i (k3_pay3 (F := F)) x14)))
            ∗ pt c M14 (h14.unread (W.2.2 (wguIn i x6 x11) (wdnIn i x7 x12) (accIn i (k3_pay2 (F := F)) x13) (accIn i (k3_pay3 (F := F)) x14)))
            ∗ pt c M1 (h1.unread x1)
            ∗ pt c M2 (h2.unread x2)
            ∗ pt c M3 (h3.unread x3)
            ∗ pt c M4 (h4.unread x4)
            ∗ pt c M5 (h5.unread x5)
            ∗ pt c M6 (h6.unread x6)
            ∗ pt c M7 (h7.unread x7)
            ∗ pt c M8 (h8.unread (W.1 (wguIn i x6 x11) (wdnIn i x7 x12) (accIn i (k3_pay2 (F := F)) x13) (accIn i (k3_pay3 (F := F)) x14)))
            ∗ pt c M9 (h9.unread (accOut i (W.2.1 (wguIn i x6 x11) (wdnIn i x7 x12) (accIn i (k3_pay2 (F := F)) x13) (accIn i (k3_pay3 (F := F)) x14)) x9))
            ∗ pt c M10 (h10.unread (accOut i (W.2.2 (wguIn i x6 x11) (wdnIn i x7 x12) (accIn i (k3_pay2 (F := F)) x13) (accIn i (k3_pay3 (F := F)) x14)) x10))
            ∗ pt c M11 (h11.unread (wguIn i x6 x11))
            ∗ pt c M12 (h12.unread (wdnIn i x7 x12))
            ∗ (∃ f, pt c M15 f)
            ∗ (∃ f, pt c M16 f)
            ∗ (∃ f, pt c M17 f)
            ∗ (∃ f, pt c M18 f)
            ∗ (∃ f, pt c M19 f)
            ∗ (∃ f, pt c M20 f)
          ∗ semVal ((c : Thread nD τ), SemLoc.dma 51) 0 ∗ semVal ((c : Thread nD τ), SemLoc.dma 52) 0
          ∗ (∃ W', owes (c : Thread nD τ) 0 W')) -∗ Q ⟨⟩))
        ⊢ wp frame (wpE (defs₀ (F := F)) Variants.none c none) Set.univ
            (cc3_mlp_f2560 i M1 h1 M2 h2 M3 h3 M4 h4 M5 h5 M6 h6 M7 h7 M8 h8 M9 h9 M10 h10 M11 h11 M12 h12 M13 h13 M14 h14 M15 h15 M16 h16 M17 h17 M18 h18 M19 h19 M20 h20 cc3_scratch10) Q } := by
  refine ⟨⟨?_, ?_, ?_⟩, fun i x6 x7 x9 x10 x11 x12 x13 x14 f8 f15 f16 f17 f18 f19 f20 Wt Q => ?run⟩
  case run =>
    dsimp only
    iintro ⟨H1, H2, H3, H4, H5, H6, H7, H8, H9, H10, H11, H12, H13, H14, H15, H16, H17, H18, H19, H20, Hs0, Hs1, HO, Hk⟩
    set_option sl_exec.maxSteps 16 in sl_exec
    rw [show (if hc : run.sl.v2 i = 1#1 then View.write (Elt F) M11.view (h11.unread x11) (run.sl.dma0 M6 h6 x6) Finset.univ else h11.unread x11) = h11.unread (wguIn i x6 x11) from
        dif_first i rfl h11 ((Cert.Base.write_whole h11 _ _).trans (congrArg h11.unread (slice_read h6 x6 (Rect.unit (s := S1280x6912) ![0, 5120] S1280x1792.size inb_S1280x6912_S1280x1792_0_5120)))),
      show (if hc : run.sl.v2 i = 1#1 then View.write (Elt F) M12.view (h12.unread x12) (run.sl.dma0_1 M7 h7 x7) Finset.univ else h12.unread x12) = h12.unread (wdnIn i x7 x12) from
        dif_first i rfl h12 ((Cert.Base.write_whole h12 _ _).trans (congrArg h12.unread (slice_read h7 x7 (Rect.unit (s := S3456x1280) ![2560, 0] S896x1280.size inb_S3456x1280_S896x1280_2560_0)))),
      show (if hc : run.sl.v2 i = 1#1 then M13.view.writes (Elt F) (h13.unread x13) [⟨Rect.unit ![0, 0] S1280x1792.size inb_S1280x1792_S1280x1792_0_0, k3_pay2⟩] else h13.unread x13) = h13.unread (accIn i (k3_pay2 (F := F)) x13) from
        dif_first i rfl h13 (Cert.Base.writes_whole h13 _ (by decide) _ _),
      show (if hc : run.sl.v2 i = 1#1 then M14.view.writes (Elt F) (h14.unread x14) [⟨Rect.unit ![0, 0] S1280x896.size inb_S1280x896_S1280x896_0_0, k3_pay3⟩] else h14.unread x14) = h14.unread (accIn i (k3_pay3 (F := F)) x14) from
        dif_first i rfl h14 (Cert.Base.writes_whole h14 _ (by decide) _ _)]
    generalize wguIn i x6 x11 = xG, wdnIn i x7 x12 = xD, accIn i (k3_pay2 (F := F)) x13 = xA, accIn i (k3_pay3 (F := F)) x14 = xB
    sl_exec_parts!
    sl_step
    iapply Hk
    isplitl [H13]
    · iapply (pt_eq c M13 ?e13)
      all_goals try iexact H13
      exact Cert.Base.writes_whole (off := ![0, 0]) h13 _ (by decide) _ _
    isplitl [H14]
    · iapply (pt_eq c M14 ?e14)
      all_goals try iexact H14
      exact Cert.Base.writes_whole (off := ![0, 0]) h14 _ (by decide) _ _
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · iapply (pt_eq c M8 ?e8)
      all_goals try iexact H8
      exact Cert.Base.writes_whole (off := ![0, 0]) h8 _ (by decide) _ _
    isplitl [H9]
    · iapply (pt_eq c M9 ?e9)
      all_goals try iexact H9
      exact dif_last i rfl h9 (copy_whole h9 h13 _ (Cert.Base.writes_whole (off := ![0, 0]) h13 _ (by decide) _ _))
    isplitl [H10]
    · iapply (pt_eq c M10 ?e10)
      all_goals try iexact H10
      exact dif_last i rfl h10 (copy_whole h10 h14 _ (Cert.Base.writes_whole (off := ![0, 0]) h14 _ (by decide) _ _))
    isplitl [H11]; · iexact H11
    isplitl [H12]; · iexact H12
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [Hs0]; · iexact Hs0
    isplitl [Hs1]; · iexact Hs1
    iexists _; iexact HO

end Cert.Kernel.Body3

end
-- ==== Proof.KernRegion3.lean ====
/-
  The pipelined region of the fused pass `cc3_mlp_f2560`: what it carries from one grid point to the next, and that every point
  keeps it. The weight slices are loaded at the first point and stay; the two accumulators after point `n` are `acc n`;
  after the last point the two output arrays hold the accumulators.
-/
module

public import proofs.«01_k».proof.Proof.Gen.Kernel.Launch
public import proofs.«01_k».proof.Proof.Gen.Kernel.Points
public import proofs.«01_k».proof.Proof.KernBody3
public import Idealize.ShloMosaic.Lib.Pipeline.FrameBody

@[expose] public section

set_option maxRecDepth 16384

noncomputable section

namespace Cert.Kernel.Region3

open Cert.Kernel Cert.Kernel.Gen Cert.Kernel.Body3
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

-- the unscoped buffers as the region finds them
variable (V : Dev nD → Valuation τ sig (Elt F))

/-- Window `w`'s block at point `t`, read off its array as the region finds it. -/
def blk (c : Dev nD) (w : Fin cfg3.W) (t : Fin cfg3.N) : ((cfg3.win w).xblock (cfg3.grid.coords t)).Idx → Elt F (cfg3.win w).elt :=
  ((cfg3.win w).blk t).view.read (Elt F) (V c (Proc.devRef .tc (Pipeline.arrRef spec3 w)))

/-- The two weight arrays, the slices of them this pass uses, and the two output arrays at entry, by index. -/
def wgu (c : Dev nD) : Vec F S1280x6912 .bf16 := (Memref.whole main_v12_0).view.read (Elt F) (V c (Proc.devRef .tc main_v12_0))
def wdn (c : Dev nD) : Vec F S3456x1280 .bf16 := (Memref.whole main_v12_1).view.read (Elt F) (V c (Proc.devRef .tc main_v12_1))
def wguS (c : Dev nD) : Vec F S1280x1792 .bf16 := wguSlice (wgu V c)
def wdnS (c : Dev nD) : Vec F S896x1280 .bf16 := wdnSlice (wdn V c)
def old1 (c : Dev nD) : Vec F S1280x1792 .f32 := (Memref.whole main_v15_1).view.read (Elt F) (V c (Proc.devRef .tc main_v15_1))
def old2 (c : Dev nD) : Vec F S1280x896 .f32 := (Memref.whole main_v15_2).view.read (Elt F) (V c (Proc.devRef .tc main_v15_2))

/-- The body at point `t`, run at the point's buffers and blocks. -/
abbrev step (c : Dev nD) (t : Fin cfg3.N) := run (F := F) c
    (st3_0 t) (hstage3_0 ((cfg3.slots t 0).cast nbuf3_0))
    (st3_1 t) (hstage3_1 ((cfg3.slots t 1).cast nbuf3_1))
    (st3_2 t) (hstage3_2 ((cfg3.slots t 2).cast nbuf3_2))
    (st3_3 t) (hstage3_3 ((cfg3.slots t 3).cast nbuf3_3))
    (st3_4 t) (hstage3_4 ((cfg3.slots t 4).cast nbuf3_4))
    (Memref.whole main_v12_0) (Memref.isWhole_whole _)
    (Memref.whole main_v12_1) (Memref.isWhole_whole _)
    (st3_5 t) (hstage3_5 ((cfg3.slots t 5).cast nbuf3_5))
    (Memref.whole main_v15_1) (Memref.isWhole_whole _)
    (Memref.whole main_v15_2) (Memref.isWhole_whole _)
    (Memref.whole cc3_scratch0) (Memref.isWhole_whole _)
    (Memref.whole cc3_scratch1) (Memref.isWhole_whole _)
    (Memref.whole cc3_scratch2) (Memref.isWhole_whole _)
    (Memref.whole cc3_scratch3) (Memref.isWhole_whole _)
    (Memref.whole cc3_scratch4) (Memref.isWhole_whole _)
    (Memref.whole cc3_scratch5) (Memref.isWhole_whole _)
    (Memref.whole cc3_scratch6) (Memref.isWhole_whole _)
    (Memref.whole cc3_scratch7) (Memref.isWhole_whole _)
    (Memref.whole cc3_scratch8) (Memref.isWhole_whole _)
    (Memref.whole cc3_scratch9) (Memref.isWhole_whole _)
    (blk V c 0 t) (blk V c 1 t) (blk V c 2 t) (blk V c 3 t) (blk V c 4 t)

/-- The two accumulators after `n` points. -/
def acc (c : Dev nD) : ℕ → Vec F S1280x1792 .f32 × Vec F S1280x896 .f32
  | 0 => (k3_pay2 (F := F), k3_pay3 (F := F))
  | n + 1 => if h : n < cfg3.N then
      ((step V c ⟨n, h⟩).1.2.1 (wguS V c) (wdnS V c) (acc c n).1 (acc c n).2, (step V c ⟨n, h⟩).1.2.2 (wguS V c) (wdnS V c) (acc c n).1 (acc c n).2)
    else acc c n

theorem acc_zero (c : Dev nD) : acc V c 0 = (k3_pay2 (F := F), k3_pay3 (F := F)) := by unfold acc; rfl

theorem acc_succ (c : Dev nD) (t : Fin cfg3.N) : acc V c (t.val + 1) =
    ((step V c t).1.2.1 (wguS V c) (wdnS V c) (acc V c t.val).1 (acc V c t.val).2, (step V c t).1.2.2 (wguS V c) (wdnS V c) (acc V c t.val).1 (acc V c t.val).2) := by
  rw [acc, dif_pos t.isLt]

/-- The result block point `t` writes. -/
def dxo (c : Dev nD) (t : Fin cfg3.N) : Vec F S512x1280 .bf16 := (step V c t).1.1 (wguS V c) (wdnS V c) (acc V c t.val).1 (acc V c t.val).2

/-- The output arrays before point `n`: untouched until the last point has run. -/
def outv1 (c : Dev nD) (n : ℕ) : Vec F S1280x1792 .f32 := if n = 512 then (acc V c 512).1 else old1 V c
def outv2 (c : Dev nD) (n : ℕ) : Vec F S1280x896 .f32 := if n = 512 then (acc V c 512).2 else old2 V c

/-- What the four carried buffers hold before point `n`, once a point has run. -/
def Carried (c : Dev nD) (n : ℕ) (g : Vec F S1280x1792 .bf16) (d : Vec F S896x1280 .bf16) (a : Vec F S1280x1792 .f32) (b : Vec F S1280x896 .f32) : Prop :=
  n ≠ 0 → g = wguS V c ∧ d = wdnS V c ∧ a = (acc V c n).1 ∧ b = (acc V c n).2

/-- The invariant before point `n`. -/
def Phi (c : Dev nD) (n : ℕ) : sProp 𝕄 :=
  iprop(pt c (Memref.whole main_v12_0) ((Memref.isWhole_whole main_v12_0).unread (wgu V c)) ∗ pt c (Memref.whole main_v12_1) ((Memref.isWhole_whole main_v12_1).unread (wdn V c))
    ∗ pt c (Memref.whole main_v15_1) ((Memref.isWhole_whole main_v15_1).unread (outv1 V c n)) ∗ pt c (Memref.whole main_v15_2) ((Memref.isWhole_whole main_v15_2).unread (outv2 V c n))
    ∗ (∃ g d a b, ⌜Carried V c n g d a b⌝ ∗ pt c (Memref.whole cc3_scratch0) ((Memref.isWhole_whole cc3_scratch0).unread g) ∗ pt c (Memref.whole cc3_scratch1) ((Memref.isWhole_whole cc3_scratch1).unread d) ∗ pt c (Memref.whole cc3_scratch2) ((Memref.isWhole_whole cc3_scratch2).unread a) ∗ pt c (Memref.whole cc3_scratch3) ((Memref.isWhole_whole cc3_scratch3).unread b))
    ∗ (∃ f, pt (F := F) c (Memref.whole cc3_scratch4) f)
    ∗ (∃ f, pt (F := F) c (Memref.whole cc3_scratch5) f)
    ∗ (∃ f, pt (F := F) c (Memref.whole cc3_scratch6) f)
    ∗ (∃ f, pt (F := F) c (Memref.whole cc3_scratch7) f)
    ∗ (∃ f, pt (F := F) c (Memref.whole cc3_scratch8) f)
    ∗ (∃ f, pt (F := F) c (Memref.whole cc3_scratch9) f)
    ∗ Pipeline.scopedRestBut (Ix := Unit) (Name := ℕ) (U := UU) (Lvl := ℕ) (Val := Elt F) spec3 c [cc3_scratch0, cc3_scratch1, cc3_scratch2, cc3_scratch3, cc3_scratch4, cc3_scratch5, cc3_scratch6, cc3_scratch7, cc3_scratch8, cc3_scratch9]
    ∗ semVal ((c : Thread nD τ), SemLoc.dma 51) 0 ∗ semVal ((c : Thread nD τ), SemLoc.dma 52) 0
    ∗ (∃ r, prngReg c r))

/-- The region's proof data on core `c`. -/
def dat (c : Dev nD) : Dat τ (Elt F) Unit ℕ UU ℕ cfg3 c where
  A w := V c (Proc.devRef .tc (Pipeline.arrRef spec3 w))
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => dxo V c t
  Φ t := Phi V c t.val
  q _ := fullShare
  owed _ := 0

theorem A_eq (c : Dev nD) (w : Fin cfg3.W) : (dat V c).A w = V c (Proc.devRef .tc (Pipeline.arrRef spec3 w)) := by
  dsimp only [dat]

theorem after_0 (c : Dev nD) (t : Fin cfg3.N) : (dat V c).after 0 t = blk V c 0 t := by dsimp only [dat]
theorem after_1 (c : Dev nD) (t : Fin cfg3.N) : (dat V c).after 1 t = blk V c 1 t := by dsimp only [dat]
theorem after_2 (c : Dev nD) (t : Fin cfg3.N) : (dat V c).after 2 t = blk V c 2 t := by dsimp only [dat]
theorem after_3 (c : Dev nD) (t : Fin cfg3.N) : (dat V c).after 3 t = blk V c 3 t := by dsimp only [dat]
theorem after_4 (c : Dev nD) (t : Fin cfg3.N) : (dat V c).after 4 t = blk V c 4 t := by dsimp only [dat]
theorem after_5 (c : Dev nD) (t : Fin cfg3.N) : (dat V c).after 5 t = dxo V c t := by dsimp only [dat]

/-- Each input's staging buffer holds its block when the body runs. -/
theorem before_0 (c : Dev nD) (t : Fin cfg3.N) (d) : (dat V c).before 0 t d = blk V c 0 t :=
  ((dat V c).before_in_eq_fetched 0 rfl (fun _ => rfl) (fun _ _ _ => rfl) (fun t => by rw [after_0]; unfold Dat.blockOf blk; rw [A_eq]; try rfl) t d).trans
    (by unfold Dat.fetched Dat.blockOf blk; rw [A_eq]; try rfl)
theorem before_1 (c : Dev nD) (t : Fin cfg3.N) (d) : (dat V c).before 1 t d = blk V c 1 t :=
  ((dat V c).before_in_eq_fetched 1 rfl (fun _ => rfl) (fun _ _ _ => rfl) (fun t => by rw [after_1]; unfold Dat.blockOf blk; rw [A_eq]; try rfl) t d).trans
    (by unfold Dat.fetched Dat.blockOf blk; rw [A_eq]; try rfl)
theorem before_2 (c : Dev nD) (t : Fin cfg3.N) (d) : (dat V c).before 2 t d = blk V c 2 t :=
  ((dat V c).before_in_eq_fetched 2 rfl (fun _ => rfl) (fun _ _ _ => rfl) (fun t => by rw [after_2]; unfold Dat.blockOf blk; rw [A_eq]; try rfl) t d).trans
    (by unfold Dat.fetched Dat.blockOf blk; rw [A_eq]; try rfl)
theorem before_3 (c : Dev nD) (t : Fin cfg3.N) (d) : (dat V c).before 3 t d = blk V c 3 t :=
  ((dat V c).before_in_eq_fetched 3 rfl (fun _ => rfl) (fun _ _ _ => rfl) (fun t => by rw [after_3]; unfold Dat.blockOf blk; rw [A_eq]; try rfl) t d).trans
    (by unfold Dat.fetched Dat.blockOf blk; rw [A_eq]; try rfl)
theorem before_4 (c : Dev nD) (t : Fin cfg3.N) (d) : (dat V c).before 4 t d = blk V c 4 t :=
  ((dat V c).before_in_eq_fetched 4 rfl (fun _ => rfl) (fun _ _ _ => rfl) (fun t => by rw [after_4]; unfold Dat.blockOf blk; rw [A_eq]; try rfl) t d).trans
    (by unfold Dat.fetched Dat.blockOf blk; rw [A_eq]; try rfl)

theorem N_eq : cfg3.N = 512 := N_3

/-- A point's only coordinate is its number. -/
theorem coord_val (t : Fin cfg3.N) : (grid3.coords t 0).val = t.val := by
  have h := Pipeline.Grid.coords_val (G := grid3) t 0 (S := 1) (B := 512) (by decide) rfl
  have := t.isLt; have := N_eq
  rw [h, Nat.div_one, Nat.mod_eq_of_lt (by omega)]

/-! ## What a point finds and leaves, in terms of the invariant -/

theorem wguIn_eq (c : Dev nD) (t : Fin cfg3.N) {g : Vec F S1280x1792 .bf16} (h : t.val ≠ 0 → g = wguS V c) :
    wguIn (grid3.coords t) (wgu V c) g = wguS V c := by
  unfold wguIn
  by_cases h0 : t.val = 0
  · rw [if_pos (by rw [coord_val, h0])]; rfl
  · rw [if_neg (by rw [coord_val]; exact h0), h h0]

theorem wdnIn_eq (c : Dev nD) (t : Fin cfg3.N) {g : Vec F S896x1280 .bf16} (h : t.val ≠ 0 → g = wdnS V c) :
    wdnIn (grid3.coords t) (wdn V c) g = wdnS V c := by
  unfold wdnIn
  by_cases h0 : t.val = 0
  · rw [if_pos (by rw [coord_val, h0])]; rfl
  · rw [if_neg (by rw [coord_val]; exact h0), h h0]

theorem accIn_eq1 (c : Dev nD) (t : Fin cfg3.N) {a : Vec F S1280x1792 .f32} (h : t.val ≠ 0 → a = (acc V c t.val).1) :
    accIn (grid3.coords t) (k3_pay2 (F := F)) a = (acc V c t.val).1 := by
  unfold accIn
  by_cases h0 : t.val = 0
  · rw [if_pos (by rw [coord_val, h0]), h0, acc_zero]
  · rw [if_neg (by rw [coord_val]; exact h0), h h0]

theorem accIn_eq2 (c : Dev nD) (t : Fin cfg3.N) {a : Vec F S1280x896 .f32} (h : t.val ≠ 0 → a = (acc V c t.val).2) :
    accIn (grid3.coords t) (k3_pay3 (F := F)) a = (acc V c t.val).2 := by
  unfold accIn
  by_cases h0 : t.val = 0
  · rw [if_pos (by rw [coord_val, h0]), h0, acc_zero]
  · rw [if_neg (by rw [coord_val]; exact h0), h h0]

theorem accOut_eq1 (c : Dev nD) (t : Fin cfg3.N) :
    accOut (grid3.coords t) (acc V c (t.val + 1)).1 (outv1 V c t.val) = outv1 V c (t.val + 1) := by
  have := t.isLt; have := N_eq
  unfold accOut outv1
  by_cases h0 : t.val = 511
  · rw [if_pos (by rw [coord_val, h0]), if_pos (by omega), h0]
  · rw [if_neg (by rw [coord_val]; exact h0), if_neg (by omega), if_neg (by omega)]

theorem accOut_eq2 (c : Dev nD) (t : Fin cfg3.N) :
    accOut (grid3.coords t) (acc V c (t.val + 1)).2 (outv2 V c t.val) = outv2 V c (t.val + 1) := by
  have := t.isLt; have := N_eq
  unfold accOut outv2
  by_cases h0 : t.val = 511
  · rw [if_pos (by rw [coord_val, h0]), if_pos (by omega), h0]
  · rw [if_neg (by rw [coord_val]; exact h0), if_neg (by omega), if_neg (by omega)]

theorem acc1_succ (c : Dev nD) (t : Fin cfg3.N) :
    (step V c t).1.2.1 (wguS V c) (wdnS V c) (acc V c t.val).1 (acc V c t.val).2 = (acc V c (t.val + 1)).1 := by rw [acc_succ]
theorem acc2_succ (c : Dev nD) (t : Fin cfg3.N) :
    (step V c t).1.2.2 (wguS V c) (wdnS V c) (acc V c t.val).1 (acc V c t.val).2 = (acc V c (t.val + 1)).2 := by rw [acc_succ]

/-! ## The body obligation -/

/-- What the body is called with at point `t`, the windows one by one, -/
def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d))
    ∗ (∃ d, owns (c : Thread nD τ) (st3_4 t) fullShare ((dat V c).before 4 t d))
    ∗ (∃ d, owns (c : Thread nD τ) (st3_5 t) fullShare ((dat V c).before 5 t d)))

/-- and what it returns. -/
def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t)
    ∗ owns (c : Thread nD τ) (st3_3 t) fullShare ((dat V c).after 3 t)
    ∗ owns (c : Thread nD τ) (st3_4 t) fullShare ((dat V c).after 4 t)
    ∗ owns (c : Thread nD τ) (st3_5 t) fullShare ((dat V c).after 5 t))

theorem Phi_castSucc (c : Dev nD) (t : Fin cfg3.N) : (dat V c).Φ t.castSucc = Phi V c t.val := by
  dsimp only [dat]; rfl
theorem Phi_succ (c : Dev nD) (t : Fin cfg3.N) : (dat V c).Φ t.succ = Phi V c (t.val + 1) := by
  dsimp only [dat]; rfl

set_option maxHeartbeats 2000000 in
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1, before_2, before_3, before_4, after_0, after_1, after_2, after_3, after_4, after_5]
  rw [Phi_castSucc, Phi_succ]
  unfold Dat.owesAt Pipeline.owesWithin
  rw [show (dat V c).owed t.castSucc = 0 from rfl, show (dat V c).owed t.succ = 0 from rfl]
  unfold Phi
  iintro ⟨⟨Hw1, Hw2, Ho1, Ho2, ⟨%g, %d, %a, %b, %hcar, Hg, Hd, Ha, Hb⟩, ⟨%f4, S4⟩, ⟨%f5, S5⟩, ⟨%f6, S6⟩, ⟨%f7, S7⟩, ⟨%f8, S8⟩, ⟨%f9, S9⟩, Hrest, Hs0, Hs1, Hp⟩, ⟨%Wt, -, HO⟩, ⟨%e0, H0⟩, ⟨%e1, H1⟩, ⟨%e2, H2⟩, ⟨%e3, H3⟩, ⟨%e4, H4⟩, ⟨%e5, H5⟩⟩
  ihave H0 := (Cert.Base.owns_unread (hstage3_0 ((cfg3.slots t 0).cast nbuf3_0)) _ _).1 $$ H0
  ihave H1 := (Cert.Base.owns_unread (hstage3_1 ((cfg3.slots t 1).cast nbuf3_1)) _ _).1 $$ H1
  ihave H2 := (Cert.Base.owns_unread (hstage3_2 ((cfg3.slots t 2).cast nbuf3_2)) _ _).1 $$ H2
  ihave H3 := (Cert.Base.owns_unread (hstage3_3 ((cfg3.slots t 3).cast nbuf3_3)) _ _).1 $$ H3
  ihave H4 := (Cert.Base.owns_unread (hstage3_4 ((cfg3.slots t 4).cast nbuf3_4)) _ _).1 $$ H4
  ihave H5 := (Cert.Base.owns_unread (hstage3_5 ((cfg3.slots t 5).cast nbuf3_5)) _ _).1 $$ H5
  iapply ((step V c t).2 (grid3.coords t) (wgu V c) (wdn V c) (outv1 V c t.val) (outv2 V c t.val) g d a b _ f4 f5 f6 f7 f8 f9 Wt _)
  rw [wguIn_eq V c t fun h => (hcar h).1, wdnIn_eq V c t fun h => (hcar h).2.1, accIn_eq1 V c t fun h => (hcar h).2.2.1, accIn_eq2 V c t fun h => (hcar h).2.2.2,
    acc1_succ, acc2_succ, accOut_eq1, accOut_eq2]
  isplitl [H0]; · iexact H0
  isplitl [H1]; · iexact H1
  isplitl [H2]; · iexact H2
  isplitl [H3]; · iexact H3
  isplitl [H4]; · iexact H4
  isplitl [Hw1]; · iexact Hw1
  isplitl [Hw2]; · iexact Hw2
  isplitl [H5]; · iexact H5
  isplitl [Ho1]; · iexact Ho1
  isplitl [Ho2]; · iexact Ho2
  isplitl [Hg]; · iexact Hg
  isplitl [Hd]; · iexact Hd
  isplitl [Ha]; · iexact Ha
  isplitl [Hb]; · iexact Hb
  isplitl [S4]; · iexact S4
  isplitl [S5]; · iexact S5
  isplitl [S6]; · iexact S6
  isplitl [S7]; · iexact S7
  isplitl [S8]; · iexact S8
  isplitl [S9]; · iexact S9
  isplitl [Hs0]; · iexact Hs0
  isplitl [Hs1]; · iexact Hs1
  isplitl [HO]; · iexact HO
  iintro ⟨Ha, Hb, H0, H1, H2, H3, H4, Hw1, Hw2, H5, Ho1, Ho2, Hg, Hd, S4, S5, S6, S7, S8, S9, Hs0, Hs1, ⟨%W', HO⟩⟩
  isplitl [Hw1 Hw2 Ho1 Ho2 Hg Hd Ha Hb S4 S5 S6 S7 S8 S9 Hrest Hs0 Hs1 Hp]
  · isplitl [Hw1]; · iexact Hw1
    isplitl [Hw2]; · iexact Hw2
    isplitl [Ho1]; · iexact Ho1
    isplitl [Ho2]; · iexact Ho2
    isplitl [Hg Hd Ha Hb]
    · iexists _, _, _, _
      isplitr
      swap
      · isplitl [Hg]; · iexact Hg
        isplitl [Hd]; · iexact Hd
        isplitl [Ha]; · iexact Ha
        iexact Hb
      ipureintro
      exact fun _ => ⟨rfl, rfl, rfl, rfl⟩
    isplitl [S4]; · iexact S4
    isplitl [S5]; · iexact S5
    isplitl [S6]; · iexact S6
    isplitl [S7]; · iexact S7
    isplitl [S8]; · iexact S8
    isplitl [S9]; · iexact S9
    isplitl [Hrest]; · iexact Hrest
    isplitl [Hs0]; · iexact Hs0
    isplitl [Hs1]; · iexact Hs1
    iexact Hp
  isplitl [HO]
  · iexists W'; isplitr; · ipureintro; exact fun _ _ => Or.inl trivial
    iexact HO
  isplitl [H0]
  · iapply (Cert.Base.owns_unread (hstage3_0 ((cfg3.slots t 0).cast nbuf3_0)) _ _).2; iexact H0
  isplitl [H1]
  · iapply (Cert.Base.owns_unread (hstage3_1 ((cfg3.slots t 1).cast nbuf3_1)) _ _).2; iexact H1
  isplitl [H2]
  · iapply (Cert.Base.owns_unread (hstage3_2 ((cfg3.slots t 2).cast nbuf3_2)) _ _).2; iexact H2
  isplitl [H3]
  · iapply (Cert.Base.owns_unread (hstage3_3 ((cfg3.slots t 3).cast nbuf3_3)) _ _).2; iexact H3
  isplitl [H4]
  · iapply (Cert.Base.owns_unread (hstage3_4 ((cfg3.slots t 4).cast nbuf3_4)) _ _).2; iexact H4
  iapply (Cert.Base.owns_unread (hstage3_5 ((cfg3.slots t 5).cast nbuf3_5)) _ _).2; iexact H5

theorem defs₀_row (t : Fin cfg3.N) :
    defs₀ (F := F) .tc cfg3.body (cfg3.bodyArgs t (cfg3.slots t)) = bodyAt3 t := by
  unfold defs₀; rw [Defs.onTc_tc]

theorem body_obligation (c : Dev nD) : BodyObligation (dat V c) (defs₀ (F := F)) Variants.none () Set.univ := fun t => by
  rw [bigSep_W3, bigSep_W3, defs₀_row]
  exact triple_restated (sound_body V c t) rfl .rfl fun _ => .rfl

/-! ## Entering and leaving the region -/

/-- The body's own two semaphores, the arrays its copies read, and those they write. -/
abbrev osem : Fin 2 → SemLoc sig := ![SemLoc.dma 51, SemLoc.dma 52]
theorem ownSemFacts : Pipeline.OwnSemFacts spec3 osem := by decide
abbrev Hr : Finset (Ref sig .tc) := {main_v12_0, main_v12_1}
abbrev Hw : Finset (Ref sig .tc) := {main_v15_1, main_v15_2}

/-- The unscoped buffers as the region leaves them. -/
def leave (c : Dev nD) : Valuation τ sig (Elt F) :=
  Function.update (Function.update (Function.update (V c) (Proc.devRef .tc main_v15_0) ((dat V c).arrAt 5 cfg3.N))
    (Proc.devRef .tc main_v15_1) ((Memref.isWhole_whole main_v15_1).unread (acc V c 512).1))
    (Proc.devRef .tc main_v15_2) ((Memref.isWhole_whole main_v15_2).unread (acc V c 512).2)

theorem leave_of (c : Dev nD) (b : DevRef τ sig) (h0 : b ≠ Proc.devRef .tc main_v15_0) (h1 : b ≠ Proc.devRef .tc main_v15_1) (h2 : b ≠ Proc.devRef .tc main_v15_2) :
    leave V c b = V c b := by
  unfold leave
  rw [Function.update_of_ne h2, Function.update_of_ne h1, Function.update_of_ne h0]
theorem leave_0 (c : Dev nD) : leave V c (Proc.devRef .tc main_v15_0) = (dat V c).arrAt 5 cfg3.N := by
  unfold leave
  rw [Function.update_of_ne (by decide), Function.update_of_ne (by decide), Function.update_self]
theorem leave_1 (c : Dev nD) : leave V c (Proc.devRef .tc main_v15_1) = (Memref.isWhole_whole main_v15_1).unread (acc V c 512).1 := by
  unfold leave
  rw [Function.update_of_ne (by decide), Function.update_self]
theorem leave_2 (c : Dev nD) : leave V c (Proc.devRef .tc main_v15_2) = (Memref.isWhole_whole main_v15_2).unread (acc V c 512).2 := by
  unfold leave
  rw [Function.update_self]

theorem arr_start (c : Dev nD) (w : Fin cfg3.W) : (dat V c).arrAt w 0 = V c (Proc.devRef .tc (Pipeline.arrRef spec3 w)) :=
  A_eq V c w

theorem arr_end (c : Dev nD) (w : Fin cfg3.W) : (dat V c).arrAt w cfg3.N = leave V c (Proc.devRef .tc (Pipeline.arrRef spec3 w)) := by
  fin_cases w
  · exact ((dat V c).arrAt_in 0 rfl _).trans ((A_eq V c 0).trans (leave_of V c _ (by decide) (by decide) (by decide)).symm)
  · exact ((dat V c).arrAt_in 1 rfl _).trans ((A_eq V c 1).trans (leave_of V c _ (by decide) (by decide) (by decide)).symm)
  · exact ((dat V c).arrAt_in 2 rfl _).trans ((A_eq V c 2).trans (leave_of V c _ (by decide) (by decide) (by decide)).symm)
  · exact ((dat V c).arrAt_in 3 rfl _).trans ((A_eq V c 3).trans (leave_of V c _ (by decide) (by decide) (by decide)).symm)
  · exact ((dat V c).arrAt_in 4 rfl _).trans ((A_eq V c 4).trans (leave_of V c _ (by decide) (by decide) (by decide)).symm)
  · exact (leave_0 V c).symm

set_option maxHeartbeats 2000000 in
theorem hin (c : Dev nD) :
    iprop(Pipeline.scopedRest (Ix := Unit) (Name := ℕ) (U := UU) (Lvl := ℕ) (Val := Elt F) spec3 c ∗ (∃ r, prngReg c r) ∗ Pipeline.ownSems0 osem c
        ∗ (bigSep Hr fun b => ((c.tc : Thread nD τ).loc b) ↦{fullShare} V c (Proc.devRef .tc b))
        ∗ (bigSep Hw fun b => ((c.tc : Thread nD τ).loc b) ↦{fullShare} V c (Proc.devRef .tc b))
        ∗ Transfers.MayWaits (c : Thread nD τ) () (0 : CellTallies nD τ sig Unit)) ⊢ (Phi V c 0 : sProp 𝕄) := by
  rw [scopedRest3_split, Pipeline.ownSems0_eq_of_list c osem [0, 1] (by decide) (by decide),
    bigSep_eq_bigSepL_of_eq [main_v12_0, main_v12_1] (S := Hr) (by decide) (by decide),
    bigSep_eq_bigSepL_of_eq [main_v15_1, main_v15_2] (S := Hw) (by decide) (by decide)]
  rw [Cert.Base.bigSepL_pair, Cert.Base.bigSepL_pair, Cert.Base.bigSepL_pair]
  unfold Phi
  have e1 : (Memref.isWhole_whole main_v12_0).unread (wgu V c) = V c (Proc.devRef .tc main_v12_0) := Memref.IsWhole.unread_read _ _
  have e2 : (Memref.isWhole_whole main_v12_1).unread (wdn V c) = V c (Proc.devRef .tc main_v12_1) := Memref.IsWhole.unread_read _ _
  have e3 : (Memref.isWhole_whole main_v15_1).unread (outv1 V c 0) = V c (Proc.devRef .tc main_v15_1) := Memref.IsWhole.unread_read _ _
  have e4 : (Memref.isWhole_whole main_v15_2).unread (outv2 V c 0) = V c (Proc.devRef .tc main_v15_2) := Memref.IsWhole.unread_read _ _
  rw [e1, e2, e3, e4]
  iintro ⟨⟨⟨⟨%f0, S0⟩, ⟨%f1, S1⟩, ⟨%f2, S2⟩, ⟨%f3, S3⟩, ⟨%f4, S4⟩, ⟨%f5, S5⟩, ⟨%f6, S6⟩, ⟨%f7, S7⟩, ⟨%f8, S8⟩, ⟨%f9, S9⟩⟩, Hrest⟩, Hp, ⟨Hs0, Hs1⟩, ⟨Hw1, Hw2⟩, ⟨Ho1, Ho2⟩, -⟩
  isplitl [Hw1]; · iexact Hw1
  isplitl [Hw2]; · iexact Hw2
  isplitl [Ho1]; · iexact Ho1
  isplitl [Ho2]; · iexact Ho2
  isplitl [S0 S1 S2 S3]
  · iexists (Memref.whole cc3_scratch0).view.read (Elt F) f0, (Memref.whole cc3_scratch1).view.read (Elt F) f1, (Memref.whole cc3_scratch2).view.read (Elt F) f2, (Memref.whole cc3_scratch3).view.read (Elt F) f3
    rw [Memref.IsWhole.unread_read, Memref.IsWhole.unread_read, Memref.IsWhole.unread_read, Memref.IsWhole.unread_read]
    isplitr; · ipureintro; exact fun h => absurd rfl h
    isplitl [S0]; · iexact S0
    isplitl [S1]; · iexact S1
    isplitl [S2]; · iexact S2
    iexact S3
  isplitl [S4]; · iexists f4; iexact S4
  isplitl [S5]; · iexists f5; iexact S5
  isplitl [S6]; · iexists f6; iexact S6
  isplitl [S7]; · iexists f7; iexact S7
  isplitl [S8]; · iexists f8; iexact S8
  isplitl [S9]; · iexists f9; iexact S9
  isplitl [Hrest]; · iexact Hrest
  isplitl [Hs0]; · iexact Hs0
  isplitl [Hs1]; · iexact Hs1
  iexact Hp

set_option maxHeartbeats 2000000 in
theorem hout (c : Dev nD) :
    (Phi V c 512 : sProp 𝕄) ⊢ iprop(Pipeline.scopedRest (Ix := Unit) (Name := ℕ) (U := UU) (Lvl := ℕ) (Val := Elt F) spec3 c ∗ (∃ r, prngReg c r) ∗ Pipeline.ownSems0 osem c
        ∗ (bigSep Hr fun b => ((c.tc : Thread nD τ).loc b) ↦{fullShare} V c (Proc.devRef .tc b))
        ∗ (bigSep Hw fun b => ((c.tc : Thread nD τ).loc b) ↦{fullShare} leave V c (Proc.devRef .tc b))) := by
  rw [scopedRest3_split, Pipeline.ownSems0_eq_of_list c osem [0, 1] (by decide) (by decide),
    bigSep_eq_bigSepL_of_eq [main_v12_0, main_v12_1] (S := Hr) (by decide) (by decide),
    bigSep_eq_bigSepL_of_eq [main_v15_1, main_v15_2] (S := Hw) (by decide) (by decide)]
  rw [Cert.Base.bigSepL_pair, Cert.Base.bigSepL_pair, Cert.Base.bigSepL_pair]
  unfold Phi
  have e1 : (Memref.isWhole_whole main_v12_0).unread (wgu V c) = V c (Proc.devRef .tc main_v12_0) := Memref.IsWhole.unread_read _ _
  have e2 : (Memref.isWhole_whole main_v12_1).unread (wdn V c) = V c (Proc.devRef .tc main_v12_1) := Memref.IsWhole.unread_read _ _
  rw [e1, e2, leave_1, leave_2, show outv1 V c 512 = (acc V c 512).1 from if_pos rfl, show outv2 V c 512 = (acc V c 512).2 from if_pos rfl]
  iintro ⟨Hw1, Hw2, Ho1, Ho2, ⟨%g, %d, %a, %b, -, S0, S1, S2, S3⟩, ⟨%f4, S4⟩, ⟨%f5, S5⟩, ⟨%f6, S6⟩, ⟨%f7, S7⟩, ⟨%f8, S8⟩, ⟨%f9, S9⟩, Hrest, Hs0, Hs1, Hp⟩
  isplitl [S0 S1 S2 S3 S4 S5 S6 S7 S8 S9 Hrest]
  · isplitl [S0 S1 S2 S3 S4 S5 S6 S7 S8 S9]
    · isplitl [S0]; · iexists _; iexact S0
      isplitl [S1]; · iexists _; iexact S1
      isplitl [S2]; · iexists _; iexact S2
      isplitl [S3]; · iexists _; iexact S3
      isplitl [S4]; · iexists _; iexact S4
      isplitl [S5]; · iexists _; iexact S5
      isplitl [S6]; · iexists _; iexact S6
      isplitl [S7]; · iexists _; iexact S7
      isplitl [S8]; · iexists _; iexact S8
      iexists _; iexact S9
    iexact Hrest
  isplitl [Hp]; · iexact Hp
  isplitl [Hs0 Hs1]
  · isplitl [Hs0]; · iexact Hs0
    iexact Hs1
  isplitl [Hw1 Hw2]
  · isplitl [Hw1]; · iexact Hw1
    iexact Hw2
  isplitl [Ho1]; · iexact Ho1
  iexact Ho2

end Cert.Kernel.Region3

end
-- ==== Proof.KernRun.lean ====
/-
  The whole program: the unscoped buffers after each of its items, the four pipelined regions as segments between them,
  and the run of the main function from any memory with zero counters, which ends with the unscoped buffers at the last of these
  valuations and every counter at zero.
-/
module

public import proofs.«01_k».proof.Proof.Gen.Kernel.Regions
public import proofs.«01_k».proof.Proof.KernRegion0
public import proofs.«01_k».proof.Proof.KernRegion1
public import proofs.«01_k».proof.Proof.KernRegion2
public import proofs.«01_k».proof.Proof.KernRegion3
public import Idealize.ShloMosaic.Lib.Pipeline.RegionArraysS
public import Idealize.ShloMosaic.Lib.Pipeline.RegionArraysD

@[expose] public section

set_option maxRecDepth 16384

noncomputable section

namespace Cert.Kernel.Run

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

abbrev UU : Type := UR sig nD τ × Counters

local notation "𝕄" => MT nD τ sig Unit (Elt F) ℕ UU ℕ

variable (m : (ℓ : Loc nD τ sig) → Buf (Elt F) ℓ)

/-! ## The unscoped buffers after each item -/

def W1 (c : Dev nD) : Valuation τ sig (Elt F) := StableHlo.after hostOps0 (V0 m c)
def W2 (c : Dev nD) : Valuation τ sig (Elt F) := Pipeline.afterRegion (Region0.dat (W1 m) c) (W1 m c)
def W3 (c : Dev nD) : Valuation τ sig (Elt F) := Region1.leave (W2 m) c
def W4 (c : Dev nD) : Valuation τ sig (Elt F) := StableHlo.after hostOps2 (W3 m c)
def W5 (c : Dev nD) : Valuation τ sig (Elt F) := Region2.leave (W4 m) c
def W6 (c : Dev nD) : Valuation τ sig (Elt F) := Region3.leave (W5 m) c
def W7 (c : Dev nD) : Valuation τ sig (Elt F) := StableHlo.after hostOps4 (W6 m c)

/-- Each region's proof data. -/
def pdats : (p : Fin 4) → (c : Dev nD) → Dat τ (Elt F) Unit ℕ UU ℕ (cfgs p) c
  | ⟨0, _⟩, c => Region0.dat (W1 m) c
  | ⟨1, _⟩, c => Region1.dat (W2 m) c
  | ⟨2, _⟩, c => Region2.dat (W4 m) c
  | ⟨3, _⟩, c => Region3.dat (W5 m) c

/-! ## Levels: one index, assigned at every cell of the TensorCores, at one level -/

def L : GSem nD τ sig → Finset Unit := fun g => if g.1.2 = .tc then {()} else ∅
def lv : GSem nD τ sig → Unit → ℕ := fun _ _ => 0

theorem L_off (g : GSem nD τ sig) (h : g.1.2 ≠ .tc) : L g = ∅ := if_neg h

theorem cut (p : Fin 4) : Pipeline.LevelCut (pcfgs (F := F)) adm () L lv p (fun _ => (0 : CellTallies nD τ sig Unit)) (fun _ => 0) where
  hι _ _ _ := by unfold L; rw [if_pos rfl]; exact Finset.mem_singleton_self _
  hιb _ _ _ := le_refl _
  hD _ _ _ h := absurd h (by simp)

/-! ## The regions as segments -/

/-- What rides along between the items: the generator register and the core owing nothing. -/
def E (c : Dev nD) : sProp 𝕄 := iprop((∃ r, prngReg c r) ∗ ∃ Wd, owes (c : Thread nD τ) (0 : CellTallies nD τ sig Unit) Wd)

/-- The state between two items: the unscoped buffers at a valuation, and the rest. -/
def T (V : Dev nD → Valuation τ sig (Elt F)) (c : Dev nD) : sProp 𝕄 :=
  iprop(StableHlo.held (c : Thread nD τ) (Pipeline.ucRefs τ sig) (V c) ∗ E c)

def R0 : RegionSeg (pcfgs (F := F)) adm (pdats m) () defs₀ Variants.none L lv 0 :=
  RegionSeg.ofHeldIn (pcfgs (F := F)) adm (pdats m) () defs₀ Variants.none L lv 0 (fun _ => 0) (Pipeline.ucRefs τ sig)
    (fun c => iprop(∃ r, prngReg c r)) (fun c => iprop(∃ r, prngReg c r)) launch0.toP rfl
    (fun c => (Region0.body_obligation (W1 m) c).loose) (fun _ _ => rfl) (fun _ => rfl)
    (fun c w => by
      show (if _ then fullShare else fullShare) = fullShare
      exact ite_self _)
    (fun c => by
      show _ ⊢ Pipeline.ΦA spec0 c
      unfold Pipeline.ΦA; exact .rfl)
    (fun c => by
      show Pipeline.ΦA spec0 c ⊢ _
      unfold Pipeline.ΦA; exact .rfl)
    (fun _ => 0) (cut 0) (fun _ => iprop(emp)) (W1 m) (fun c w => Region0.arr_start (W1 m) c w)

theorem uc0 : Pipeline.arrRefs (τ := τ) spec0 ⊆ Pipeline.ucRefs τ sig := Pipeline.arrRefs_sub_ucRefs spec0 launch0.win.arr_unscoped

theorem pre0 (c : Dev nD) : T (W1 m) c ⊢ (R0 m).pre c := by
  show _ ⊢ iprop(StableHlo.held (c.tc : Thread nD τ) (Pipeline.arrRefs spec0) (W1 m c) ∗ (∃ r, prngReg c r)
      ∗ (StableHlo.held (c.tc : Thread nD τ) (Pipeline.ucRefs τ sig \ Pipeline.arrRefs (τ := τ) spec0) (W1 m c) ∗ emp) ∗ ∃ Wd, owes (c : Thread nD τ) (0 : CellTallies nD τ sig Unit) Wd)
  unfold T E
  rw [StableHlo.held_sub_split (c.tc : Thread nD τ) uc0 (W1 m c)]
  iintro ⟨⟨Ha, Hu⟩, Hp, HO⟩
  isplitl [Ha]; · iexact Ha
  isplitl [Hp]; · iexact Hp
  isplitl [Hu]
  · isplitl [Hu]; · iexact Hu
    iempintro
  iexact HO

theorem off0 (c : Dev nD) (b : DevRef τ sig) (hb : b ∈ Pipeline.ucRefs τ sig \ Pipeline.arrRefs (τ := τ) spec0) : W2 m c b = W1 m c b :=
  Pipeline.afterRegion_off (Region0.dat (W1 m) c) (W1 m c) (Pipeline.ucRefs τ sig) b hb

theorem post0 (c : Dev nD) : (R0 m).post c ⊢ T (W2 m) c := by
  show iprop(StableHlo.held (c.tc : Thread nD τ) (Pipeline.arrRefs spec0) (W2 m c) ∗ (∃ r, prngReg c r)
      ∗ (StableHlo.held (c.tc : Thread nD τ) (Pipeline.ucRefs τ sig \ Pipeline.arrRefs (τ := τ) spec0) (W1 m c) ∗ emp) ∗ ∃ Wd, owes (c : Thread nD τ) (0 : CellTallies nD τ sig Unit) Wd) ⊢ _
  unfold T E
  rw [StableHlo.held_sub_split (c.tc : Thread nD τ) uc0 (W2 m c),
    StableHlo.held_congr (c.tc : Thread nD τ) (S := Pipeline.ucRefs τ sig \ Pipeline.arrRefs (τ := τ) spec0) (V := W2 m c) (V' := W1 m c) (off0 m c)]
  iintro ⟨Ha, Hp, ⟨Hu, -⟩, HO⟩
  isplitl [Ha Hu]
  · isplitl [Ha]; · iexact Ha
    iexact Hu
  isplitl [Hp]; · iexact Hp
  iexact HO

/-- The unscoped buffers other than region 1's arrays. -/
def S1 : Finset (DevRef τ sig) := Pipeline.ucRefs τ sig \ Pipeline.arrRefs (τ := τ) spec1

theorem uc1 : Pipeline.arrRefs (τ := τ) spec1 ⊆ Pipeline.ucRefs τ sig := Pipeline.arrRefs_sub_ucRefs spec1 launch1.win.arr_unscoped

theorem mem_S1 (b : DevRef τ sig) : b ∈ S1 → ∀ w, b ≠ Proc.devRef .tc (Pipeline.arrRef spec1 w) := fun h w e =>
  (Finset.mem_sdiff.mp h).2 (Finset.mem_map.mpr ⟨_, Finset.mem_image.mpr ⟨w, Finset.mem_univ _, rfl⟩, e.symm⟩)

theorem off1 (c : Dev nD) (b : DevRef τ sig) (hb : b ∈ S1 \ Pipeline.hbmRefs (τ := τ) Region1.Hw) : W3 m c b = W2 m c b :=
  Region1.leave_of (W2 m) c b (mem_S1 b (Finset.mem_sdiff.mp hb).1 4)
    (fun e => (Finset.mem_sdiff.mp hb).2 (Finset.mem_map.mpr ⟨main_v13_1, by decide, e.symm⟩))
    (fun e => (Finset.mem_sdiff.mp hb).2 (Finset.mem_map.mpr ⟨main_v13_2, by decide, e.symm⟩))

def R1 : RegionSeg (pcfgs (F := F)) adm (pdats m) () defs₀ Variants.none L lv 1 :=
  RegionSeg.ofHeldDW (pcfgs (F := F)) adm (pdats m) () defs₀ Variants.none L lv 1 (fun _ => 0) () Region1.osem Region1.ownSemFacts
    Region1.Hr Region1.Hw S1 (by decide) (by decide) launch1.toP rfl
    (fun c => (Region1.body_obligation (W2 m) c).loose) (fun _ _ => rfl) (fun _ => rfl)
    (fun c w => by
      show (if _ then fullShare else fullShare) = fullShare
      exact ite_self _)
    (fun c => by
      iintro -
      iapply (Transfers.MayWaits.zero c.tc ())
      iempintro)
    (W2 m) (W3 m) (off1 m) (Region1.hin (W2 m))
    (fun c => Region1.hout (W2 m) c)
    (fun _ => 0) (cut 1) (fun _ => iprop(emp)) (fun c w => Region1.arr_start (W2 m) c w) (fun c w => Region1.arr_end (W2 m) c w)

theorem pre1 (c : Dev nD) : T (W2 m) c ⊢ (R1 m).pre c := by
  show _ ⊢ iprop(StableHlo.held (c.tc : Thread nD τ) (Pipeline.arrRefs spec1) (W2 m c) ∗ (∃ r, prngReg c r)
      ∗ (StableHlo.held (c.tc : Thread nD τ) S1 (W2 m c) ∗ emp) ∗ ∃ Wd, owes (c : Thread nD τ) (0 : CellTallies nD τ sig Unit) Wd)
  unfold T E
  rw [StableHlo.held_sub_split (c.tc : Thread nD τ) uc1 (W2 m c)]
  iintro ⟨⟨Ha, Hu⟩, Hp, HO⟩
  isplitl [Ha]; · iexact Ha
  isplitl [Hp]; · iexact Hp
  isplitl [Hu]
  · isplitl [Hu]; · iexact Hu
    iempintro
  iexact HO

theorem post1 (c : Dev nD) : (R1 m).post c ⊢ T (W3 m) c := by
  show iprop(StableHlo.held (c.tc : Thread nD τ) (Pipeline.arrRefs spec1) (W3 m c) ∗ (∃ r, prngReg c r)
      ∗ (StableHlo.held (c.tc : Thread nD τ) S1 (W3 m c) ∗ emp) ∗ ∃ Wd, owes (c : Thread nD τ) (0 : CellTallies nD τ sig Unit) Wd) ⊢ _
  unfold T E
  rw [StableHlo.held_sub_split (c.tc : Thread nD τ) uc1 (W3 m c)]
  iintro ⟨Ha, Hp, ⟨Hu, -⟩, HO⟩
  isplitl [Ha Hu]
  · isplitl [Ha]; · iexact Ha
    iexact Hu
  isplitl [Hp]; · iexact Hp
  iexact HO

/-- The unscoped buffers other than region 2's arrays. -/
def S2 : Finset (DevRef τ sig) := Pipeline.ucRefs τ sig \ Pipeline.arrRefs (τ := τ) spec2

theorem uc2 : Pipeline.arrRefs (τ := τ) spec2 ⊆ Pipeline.ucRefs τ sig := Pipeline.arrRefs_sub_ucRefs spec2 launch2.win.arr_unscoped

theorem mem_S2 (b : DevRef τ sig) : b ∈ S2 → ∀ w, b ≠ Proc.devRef .tc (Pipeline.arrRef spec2 w) := fun h w e =>
  (Finset.mem_sdiff.mp h).2 (Finset.mem_map.mpr ⟨_, Finset.mem_image.mpr ⟨w, Finset.mem_univ _, rfl⟩, e.symm⟩)

theorem off2 (c : Dev nD) (b : DevRef τ sig) (hb : b ∈ S2 \ Pipeline.hbmRefs (τ := τ) Region2.Hw) : W5 m c b = W4 m c b :=
  Region2.leave_of (W4 m) c b (mem_S2 b (Finset.mem_sdiff.mp hb).1 5)
    (fun e => (Finset.mem_sdiff.mp hb).2 (Finset.mem_map.mpr ⟨main_v14_1, by decide, e.symm⟩))
    (fun e => (Finset.mem_sdiff.mp hb).2 (Finset.mem_map.mpr ⟨main_v14_2, by decide, e.symm⟩))

def R2 : RegionSeg (pcfgs (F := F)) adm (pdats m) () defs₀ Variants.none L lv 2 :=
  RegionSeg.ofHeldDW (pcfgs (F := F)) adm (pdats m) () defs₀ Variants.none L lv 2 (fun _ => 0) () Region2.osem Region2.ownSemFacts
    Region2.Hr Region2.Hw S2 (by decide) (by decide) launch2.toP rfl
    (fun c => (Region2.body_obligation (W4 m) c).loose) (fun _ _ => rfl) (fun _ => rfl)
    (fun c w => by
      show (if _ then fullShare else fullShare) = fullShare
      exact ite_self _)
    (fun c => by
      iintro -
      iapply (Transfers.MayWaits.zero c.tc ())
      iempintro)
    (W4 m) (W5 m) (off2 m) (Region2.hin (W4 m))
    (fun c => Region2.hout (W4 m) c)
    (fun _ => 0) (cut 2) (fun _ => iprop(emp)) (fun c w => Region2.arr_start (W4 m) c w) (fun c w => Region2.arr_end (W4 m) c w)

theorem pre2 (c : Dev nD) : T (W4 m) c ⊢ (R2 m).pre c := by
  show _ ⊢ iprop(StableHlo.held (c.tc : Thread nD τ) (Pipeline.arrRefs spec2) (W4 m c) ∗ (∃ r, prngReg c r)
      ∗ (StableHlo.held (c.tc : Thread nD τ) S2 (W4 m c) ∗ emp) ∗ ∃ Wd, owes (c : Thread nD τ) (0 : CellTallies nD τ sig Unit) Wd)
  unfold T E
  rw [StableHlo.held_sub_split (c.tc : Thread nD τ) uc2 (W4 m c)]
  iintro ⟨⟨Ha, Hu⟩, Hp, HO⟩
  isplitl [Ha]; · iexact Ha
  isplitl [Hp]; · iexact Hp
  isplitl [Hu]
  · isplitl [Hu]; · iexact Hu
    iempintro
  iexact HO

theorem post2 (c : Dev nD) : (R2 m).post c ⊢ T (W5 m) c := by
  show iprop(StableHlo.held (c.tc : Thread nD τ) (Pipeline.arrRefs spec2) (W5 m c) ∗ (∃ r, prngReg c r)
      ∗ (StableHlo.held (c.tc : Thread nD τ) S2 (W5 m c) ∗ emp) ∗ ∃ Wd, owes (c : Thread nD τ) (0 : CellTallies nD τ sig Unit) Wd) ⊢ _
  unfold T E
  rw [StableHlo.held_sub_split (c.tc : Thread nD τ) uc2 (W5 m c)]
  iintro ⟨Ha, Hp, ⟨Hu, -⟩, HO⟩
  isplitl [Ha Hu]
  · isplitl [Ha]; · iexact Ha
    iexact Hu
  isplitl [Hp]; · iexact Hp
  iexact HO

/-- The unscoped buffers other than region 3's arrays. -/
def S3 : Finset (DevRef τ sig) := Pipeline.ucRefs τ sig \ Pipeline.arrRefs (τ := τ) spec3

theorem uc3 : Pipeline.arrRefs (τ := τ) spec3 ⊆ Pipeline.ucRefs τ sig := Pipeline.arrRefs_sub_ucRefs spec3 launch3.win.arr_unscoped

theorem mem_S3 (b : DevRef τ sig) : b ∈ S3 → ∀ w, b ≠ Proc.devRef .tc (Pipeline.arrRef spec3 w) := fun h w e =>
  (Finset.mem_sdiff.mp h).2 (Finset.mem_map.mpr ⟨_, Finset.mem_image.mpr ⟨w, Finset.mem_univ _, rfl⟩, e.symm⟩)

theorem off3 (c : Dev nD) (b : DevRef τ sig) (hb : b ∈ S3 \ Pipeline.hbmRefs (τ := τ) Region3.Hw) : W6 m c b = W5 m c b :=
  Region3.leave_of (W5 m) c b (mem_S3 b (Finset.mem_sdiff.mp hb).1 5)
    (fun e => (Finset.mem_sdiff.mp hb).2 (Finset.mem_map.mpr ⟨main_v15_1, by decide, e.symm⟩))
    (fun e => (Finset.mem_sdiff.mp hb).2 (Finset.mem_map.mpr ⟨main_v15_2, by decide, e.symm⟩))

def R3 : RegionSeg (pcfgs (F := F)) adm (pdats m) () defs₀ Variants.none L lv 3 :=
  RegionSeg.ofHeldDW (pcfgs (F := F)) adm (pdats m) () defs₀ Variants.none L lv 3 (fun _ => 0) () Region3.osem Region3.ownSemFacts
    Region3.Hr Region3.Hw S3 (by decide) (by decide) launch3.toP rfl
    (fun c => (Region3.body_obligation (W5 m) c).loose) (fun _ _ => rfl) (fun _ => rfl)
    (fun c w => by
      show (if _ then fullShare else fullShare) = fullShare
      exact ite_self _)
    (fun c => by
      iintro -
      iapply (Transfers.MayWaits.zero c.tc ())
      iempintro)
    (W5 m) (W6 m) (off3 m) (Region3.hin (W5 m))
    (fun c => Region3.hout (W5 m) c)
    (fun _ => 0) (cut 3) (fun _ => iprop(emp)) (fun c w => Region3.arr_start (W5 m) c w) (fun c w => Region3.arr_end (W5 m) c w)

theorem pre3 (c : Dev nD) : T (W5 m) c ⊢ (R3 m).pre c := by
  show _ ⊢ iprop(StableHlo.held (c.tc : Thread nD τ) (Pipeline.arrRefs spec3) (W5 m c) ∗ (∃ r, prngReg c r)
      ∗ (StableHlo.held (c.tc : Thread nD τ) S3 (W5 m c) ∗ emp) ∗ ∃ Wd, owes (c : Thread nD τ) (0 : CellTallies nD τ sig Unit) Wd)
  unfold T E
  rw [StableHlo.held_sub_split (c.tc : Thread nD τ) uc3 (W5 m c)]
  iintro ⟨⟨Ha, Hu⟩, Hp, HO⟩
  isplitl [Ha]; · iexact Ha
  isplitl [Hp]; · iexact Hp
  isplitl [Hu]
  · isplitl [Hu]; · iexact Hu
    iempintro
  iexact HO

theorem post3 (c : Dev nD) : (R3 m).post c ⊢ T (W6 m) c := by
  show iprop(StableHlo.held (c.tc : Thread nD τ) (Pipeline.arrRefs spec3) (W6 m c) ∗ (∃ r, prngReg c r)
      ∗ (StableHlo.held (c.tc : Thread nD τ) S3 (W6 m c) ∗ emp) ∗ ∃ Wd, owes (c : Thread nD τ) (0 : CellTallies nD τ sig Unit) Wd) ⊢ _
  unfold T E
  rw [StableHlo.held_sub_split (c.tc : Thread nD τ) uc3 (W6 m c)]
  iintro ⟨Ha, Hp, ⟨Hu, -⟩, HO⟩
  isplitl [Ha Hu]
  · isplitl [Ha]; · iexact Ha
    iexact Hu
  isplitl [Hp]; · iexact Hp
  iexact HO

/-! ## The host stretches as segments, and the run -/

def H0 : HostSeg (Ix := Unit) (Name := ℕ) (U := UU) (Lvl := ℕ) (pcfgs (F := F)) defs₀ Variants.none L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) E
def H2 : HostSeg (Ix := Unit) (Name := ℕ) (U := UU) (Lvl := ℕ) (pcfgs (F := F)) defs₀ Variants.none L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W3 m) E
def H4 : HostSeg (Ix := Unit) (Name := ℕ) (U := UU) (Lvl := ℕ) (pcfgs (F := F)) defs₀ Variants.none L lv :=
  HostSeg.ofOps _ _ _ _ _ (Pipeline.ucRefs τ sig) hostOps4
    (fun op h => Pipeline.sub_ucRefs op ((List.forall_iff_forall_mem.mp hostOps4_sub) op h))
    (fun op h => (List.forall_iff_forall_mem.mp hostOps4_fresh) op h) (W6 m) E

abbrev segs (_ : Dev nD) : List (Seg (pcfgs (F := F)) adm (pdats m) () defs₀ Variants.none L lv) :=
  [.host (H0 m), .region (R0 m), .region (R1 m), .host (H2 m), .region (R2 m), .region (R3 m), .host (H4 m)]

def EP : Emb (URounds (GSem nD τ sig) Unit) 𝕄 := embL
instance : (EP (F := F)).LandsIn (upEmb : UEmb _ 𝕄) := by unfold EP; infer_instance
def u₀ : UU := (initOf (Pipeline.cells cfgs cellOf_inj) (Pipeline.launchToks cfgs cellOf_inj), 1)

/-- What the launch gives core `c` is the first item's state. -/
theorem launch_state (ρ : Dev nD → PrngReg) (c : Dev nD) :
    (iprop(unscopedBufs c (fun b => m ((c.tc : Thread nD τ).loc b)) ∗ unscopedSems0 c
          ∗ owes (c.tc : Thread nD τ) 0 ∅ ∗ Pipeline.launchCred (fun _ => (0 : CellTallies nD τ sig Unit)) c ∗ prngReg c (ρ c) ∗ emp) : sProp 𝕄)
      ⊢ T (V0 m) c := by
  unfold T E
  rw [← Pipeline.unscopedBufs_held (Ix := Unit) (Name := ℕ) (U := UU) (Lvl := ℕ) c (V0 m c)]
  iintro ⟨Hb, -, HO, -, Hp, -⟩
  isplitl [Hb]; · iexact Hb
  isplitl [Hp]; · iexists _; iexact Hp
  iexists _; iexact HO

-- the implicit arguments of the segment theorem are found by unifying its conclusion with this one, which takes unfolding
-- plain definitions in a metavariable's type
set_option backward.isDefEq.respectTransparency.types false in
theorem run_main (ρ : Dev nD → PrngReg) :
    θ_run defs (onTc (τ := τ) (main (F := F))) ⟨m, fun _ => 0, ρ⟩ (fun r =>
      (∀ c : Dev nD, ∀ b ∈ Pipeline.ucRefs τ sig, r.2.mem (c, b) = W7 m c b) ∧ r.2.sem = fun _ => 0) := by
  refine Pipeline.θ_run_regions_kit_dev_sems (pcfgs (F := F)) adm (pdats m) () cellOf_inj EP defs₀ Variants.none L lv m ρ main
    (segs m)
    (fun c Q => by
      rewrite [main_chain c, Seg.run_eq_chain,
        show (segs m c).map Seg.prog = [
          StableHlo.seq hostOps0,
          Prog.lift (.customCall (Pipeline.entry 0) ()),
          Prog.lift (.customCall (Pipeline.entry 1) ()),
          StableHlo.seq hostOps2,
          Prog.lift (.customCall (Pipeline.entry 2) ()),
          Prog.lift (.customCall (Pipeline.entry 3) ()),
          StableHlo.seq hostOps4 ] from rfl]
      dsimp (config := { failIfUnchanged := false }) only
      exact .rfl)
    (fun c => by simp only [segs, Seg.pipes_host, Seg.pipes_region, Seg.pipes_nil]; decide) (fun _ => 0) L_off (fun _ => iprop(emp)) u₀ ?hu
    (T₀ := T (V0 m))
    (Tₙ := fun c => StableHlo.held (c : Thread nD τ) (Pipeline.ucRefs τ sig) (W7 m c))
    (hch := fun c => ⟨.rfl, pre0 m c, (post0 m c).trans (pre1 m c), post1 m c, pre2 m c, (post2 m c).trans (pre3 m c), post3 m c,
      sep_mono .rfl (by unfold E; iintro ⟨-, HO⟩; iexact HO)⟩)
    (hinit := ?_) (QY := fun c s => ∀ b ∈ Pipeline.ucRefs τ sig, s.mem (c, b) = W7 m c b)
    (hfin := fun c s' => ?_) (hQ := fun _ h hz => ⟨h, funext fun g => hz g (.inr (regions_no_unscoped g.2))⟩)
  case hu =>
    iintro Hu
    ihave H := (ownU_pair _ _) $$ Hu
    icases H with ⟨HP, -⟩
    imodintro
    isplitl [HP]; · iexact HP
    iapply (show (BI.emp) ⊢ bigSep Finset.univ (fun _ => BI.emp) from by rw [BI.bigSep_emp_const])
    iempintro
  · iintro ⟨H, -⟩
    imodintro
    iapply (show (bigSep Finset.univ fun c : Dev nD => iprop(unscopedBufs c (fun b => m ((c.tc : Thread nD τ).loc b)) ∗ unscopedSems0 c
          ∗ owes (c.tc : Thread nD τ) 0 ∅ ∗ Pipeline.launchCred (fun _ => (0 : CellTallies nD τ sig Unit)) c ∗ prngReg c (ρ c) ∗ emp))
        ⊢ (bigSep Finset.univ (T (V0 m)) : sProp 𝕄) from bigSep_mono fun c _ => launch_state m ρ c)
    iexact H
  · unfold StableHlo.held
    iintro ⟨Hh, HSI⟩
    ihave Hr := (pointsTo_read_all (Pipeline.ucRefs τ sig) (fun b => ((c : Thread nD τ).1, b)) (W7 m c) s') $$ [Hh HSI]
    · isplitl [Hh] <;> iassumption
    icases Hr with ⟨%h, HSI⟩
    imodintro
    isplitr
    · ipureintro; exact h
    · iexact HSI

/-! ## No item writes an argument -/

theorem W1_of (c : Dev nD) (r : Ref sig .tc) (h : r ∉ hostOps0_W) : W1 m c r = V0 m c r :=
  StableHlo.after_of_writes_sub hostOps0 _ hostOps0_writes h
theorem W2_of (c : Dev nD) (r : Ref sig .tc) (h : ∀ w, Pipeline.arrRef cfg0.spec w = r → (cfg0.win w).isOut = false) : W2 m c r = W1 m c r :=
  Pipeline.afterRegion_keeps (Region0.dat (W1 m) c) (W1 m c) launch0.win.arr_inj (fun w => Region0.A_eq (W1 m) c w) r h
theorem W3_of (c : Dev nD) (r : Ref sig .tc) (h : r ∉ ([main_v13_0, main_v13_1, main_v13_2] : List (Ref sig .tc))) : W3 m c r = W2 m c r :=
  Region1.leave_of (W2 m) c _ (StableHlo.devRef_ne_of_ne (by rintro rfl; exact h (by decide))) (StableHlo.devRef_ne_of_ne (by rintro rfl; exact h (by decide)))
    (StableHlo.devRef_ne_of_ne (by rintro rfl; exact h (by decide)))
theorem W4_of (c : Dev nD) (r : Ref sig .tc) (h : r ∉ hostOps2_W) : W4 m c r = W3 m c r :=
  StableHlo.after_of_writes_sub hostOps2 _ hostOps2_writes h
theorem W5_of (c : Dev nD) (r : Ref sig .tc) (h : r ∉ ([main_v14_0, main_v14_1, main_v14_2] : List (Ref sig .tc))) : W5 m c r = W4 m c r :=
  Region2.leave_of (W4 m) c _ (StableHlo.devRef_ne_of_ne (by rintro rfl; exact h (by decide))) (StableHlo.devRef_ne_of_ne (by rintro rfl; exact h (by decide)))
    (StableHlo.devRef_ne_of_ne (by rintro rfl; exact h (by decide)))
theorem W6_of (c : Dev nD) (r : Ref sig .tc) (h : r ∉ ([main_v15_0, main_v15_1, main_v15_2] : List (Ref sig .tc))) : W6 m c r = W5 m c r :=
  Region3.leave_of (W5 m) c _ (StableHlo.devRef_ne_of_ne (by rintro rfl; exact h (by decide))) (StableHlo.devRef_ne_of_ne (by rintro rfl; exact h (by decide)))
    (StableHlo.devRef_ne_of_ne (by rintro rfl; exact h (by decide)))
theorem W7_of (c : Dev nD) (r : Ref sig .tc) (h : r ∉ hostOps4_W) : W7 m c r = W6 m c r :=
  StableHlo.after_of_writes_sub hostOps4 _ hostOps4_writes h

/-- A buffer that no item writes ends as launched. -/
theorem W7_kept (c : Dev nD) (r : Ref sig .tc) (h0 : r ∉ hostOps0_W) (h1 : ∀ w, Pipeline.arrRef cfg0.spec w = r → (cfg0.win w).isOut = false)
    (h2 : r ∉ ([main_v13_0, main_v13_1, main_v13_2] : List (Ref sig .tc))) (h3 : r ∉ hostOps2_W)
    (h4 : r ∉ ([main_v14_0, main_v14_1, main_v14_2] : List (Ref sig .tc))) (h5 : r ∉ ([main_v15_0, main_v15_1, main_v15_2] : List (Ref sig .tc)))
    (h6 : r ∉ hostOps4_W) : W7 m c r = m ((c : Thread nD τ).loc r) :=
  (W7_of m c r h6).trans <| (W6_of m c r h5).trans <| (W5_of m c r h4).trans <| (W4_of m c r h3).trans <| (W3_of m c r h2).trans <|
    (W2_of m c r h1).trans <| (W1_of m c r h0).trans rfl

/-- What the end reads at a buffer of the TensorCore that is not scoped. -/
theorem read_end {s : MemSt nD τ sig (Elt F)} {c : Dev nD} (h : ∀ b ∈ Pipeline.ucRefs τ sig, s.mem (c, b) = W7 m c b) (r : Ref sig .tc)
    (hr : (Proc.devRef .tc r : DevRef τ sig) ∈ Pipeline.ucRefs τ sig) : s.mem ((c.tc : Thread nD τ).loc r) = W7 m c r := h _ hr

theorem arg0 {s : MemSt nD τ sig (Elt F)} {c : Dev nD} (h : ∀ b ∈ Pipeline.ucRefs τ sig, s.mem (c, b) = W7 m c b) :
    s.mem ((c.tc : Thread nD τ).loc main_arg0) = m ((c.tc : Thread nD τ).loc main_arg0) :=
  (h (Proc.devRef .tc main_arg0) (Finset.mem_filter.mpr ⟨StableHlo.devRef_mem_tcRefs main_arg0, by decide⟩)).trans
    (W7_kept m c main_arg0 (by decide) (by decide) (by decide) (by decide) (by decide) (by decide) (by decide))
theorem arg1 {s : MemSt nD τ sig (Elt F)} {c : Dev nD} (h : ∀ b ∈ Pipeline.ucRefs τ sig, s.mem (c, b) = W7 m c b) :
    s.mem ((c.tc : Thread nD τ).loc main_arg1) = m ((c.tc : Thread nD τ).loc main_arg1) :=
  (h (Proc.devRef .tc main_arg1) (Finset.mem_filter.mpr ⟨StableHlo.devRef_mem_tcRefs main_arg1, by decide⟩)).trans
    (W7_kept m c main_arg1 (by decide) (by decide) (by decide) (by decide) (by decide) (by decide) (by decide))
theorem arg2 {s : MemSt nD τ sig (Elt F)} {c : Dev nD} (h : ∀ b ∈ Pipeline.ucRefs τ sig, s.mem (c, b) = W7 m c b) :
    s.mem ((c.tc : Thread nD τ).loc main_arg2) = m ((c.tc : Thread nD τ).loc main_arg2) :=
  (h (Proc.devRef .tc main_arg2) (Finset.mem_filter.mpr ⟨StableHlo.devRef_mem_tcRefs main_arg2, by decide⟩)).trans
    (W7_kept m c main_arg2 (by decide) (by decide) (by decide) (by decide) (by decide) (by decide) (by decide))
theorem arg3 {s : MemSt nD τ sig (Elt F)} {c : Dev nD} (h : ∀ b ∈ Pipeline.ucRefs τ sig, s.mem (c, b) = W7 m c b) :
    s.mem ((c.tc : Thread nD τ).loc main_arg3) = m ((c.tc : Thread nD τ).loc main_arg3) :=
  (h (Proc.devRef .tc main_arg3) (Finset.mem_filter.mpr ⟨StableHlo.devRef_mem_tcRefs main_arg3, by decide⟩)).trans
    (W7_kept m c main_arg3 (by decide) (by decide) (by decide) (by decide) (by decide) (by decide) (by decide))
theorem arg4 {s : MemSt nD τ sig (Elt F)} {c : Dev nD} (h : ∀ b ∈ Pipeline.ucRefs τ sig, s.mem (c, b) = W7 m c b) :
    s.mem ((c.tc : Thread nD τ).loc main_arg4) = m ((c.tc : Thread nD τ).loc main_arg4) :=
  (h (Proc.devRef .tc main_arg4) (Finset.mem_filter.mpr ⟨StableHlo.devRef_mem_tcRefs main_arg4, by decide⟩)).trans
    (W7_kept m c main_arg4 (by decide) (by decide) (by decide) (by decide) (by decide) (by decide) (by decide))
theorem arg5 {s : MemSt nD τ sig (Elt F)} {c : Dev nD} (h : ∀ b ∈ Pipeline.ucRefs τ sig, s.mem (c, b) = W7 m c b) :
    s.mem ((c.tc : Thread nD τ).loc main_arg5) = m ((c.tc : Thread nD τ).loc main_arg5) :=
  (h (Proc.devRef .tc main_arg5) (Finset.mem_filter.mpr ⟨StableHlo.devRef_mem_tcRefs main_arg5, by decide⟩)).trans
    (W7_kept m c main_arg5 (by decide) (by decide) (by decide) (by decide) (by decide) (by decide) (by decide))
theorem arg6 {s : MemSt nD τ sig (Elt F)} {c : Dev nD} (h : ∀ b ∈ Pipeline.ucRefs τ sig, s.mem (c, b) = W7 m c b) :
    s.mem ((c.tc : Thread nD τ).loc main_arg6) = m ((c.tc : Thread nD τ).loc main_arg6) :=
  (h (Proc.devRef .tc main_arg6) (Finset.mem_filter.mpr ⟨StableHlo.devRef_mem_tcRefs main_arg6, by decide⟩)).trans
    (W7_kept m c main_arg6 (by decide) (by decide) (by decide) (by decide) (by decide) (by decide) (by decide))
theorem arg7 {s : MemSt nD τ sig (Elt F)} {c : Dev nD} (h : ∀ b ∈ Pipeline.ucRefs τ sig, s.mem (c, b) = W7 m c b) :
    s.mem ((c.tc : Thread nD τ).loc main_arg7) = m ((c.tc : Thread nD τ).loc main_arg7) :=
  (h (Proc.devRef .tc main_arg7) (Finset.mem_filter.mpr ⟨StableHlo.devRef_mem_tcRefs main_arg7, by decide⟩)).trans
    (W7_kept m c main_arg7 (by decide) (by decide) (by decide) (by decide) (by decide) (by decide) (by decide))

theorem args {s : MemSt nD τ sig (Elt F)} {c : Dev nD} (h : ∀ b ∈ Pipeline.ucRefs τ sig, s.mem (c, b) = W7 m c b) :
    s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7) :=
  ⟨arg0 m h, arg1 m h, arg2 m h, arg3 m h, arg4 m h, arg5 m h, arg6 m h, arg7 m h⟩

end Cert.Kernel.Run

end
-- ==== Proof.IdealRegion0.lean ====
/-
  The pipelined region that dequantises the weights: one grid point of `cc0_prep` run once at symbolic operands, the
  region's proof data over it, and that every point meets them.
-/
module

public import proofs.«01_k».proof.Proof.Gen.KernelIdeal.Launch
public import proofs.«01_k».proof.Proof.Gen.KernelIdeal.Points
public import proofs.«01_k».proof.Proof.Gen.KernelIdeal.Skeleton
public import proofs.«01_k».proof.Proof.Base
public import Idealize.ShloMosaic.Lib.Pipeline.FrameBody

@[expose] public section

set_option maxRecDepth 16384

noncomputable section

namespace Cert.KernelIdeal.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

abbrev UU : Type := UR sig nD τ × Counters

local notation "𝕄" => MT nD τ sig Unit (Elt F) ℕ UU ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

theorem pt_eq (c : Dev nD) {sp : Space} {S : Shape} {e : EltTy} (M : Memref sig .tc sp S e) {f g : Bf (F := F) c M} (h : f = g) :
    pt c M f ⊢ pt c M g := by
  subst h; exact .rfl

theorem writes_canon {sp : Space} {S : Shape} {e : EltTy} {M : Memref sig .tc sp S e} (h : M.IsWhole) (f : M.view.ty.Contents (Elt F))
    (L : List (View.Piece (Elt F) S e)) (size : Fin S.rank → ℕ) (hL : View.Piece.tiled L size = true) :
    M.view.writes (Elt F) f L = h.unread (View.canon L) :=
  h.eq_unread (View.read_writes_eq_canon _ _ _ (View.cover_of_tiled L size hL))

set_option maxHeartbeats 1000000 in
/-- What one point leaves in the two result blocks, with the proof that the point runs to its return. -/
def run (c : Dev nD) (i : grid0.Coords)
    (M1 : Memref sig .tc .vmem S1280x128 .fp8e4m3) (h1 : M1.IsWhole)
    (M2 : Memref sig .tc .vmem S1280x128 .fp8e4m3) (h2 : M2.IsWhole)
    (M3 : Memref sig .tc .vmem S128x1280 .fp8e4m3) (h3 : M3.IsWhole)
    (M4 : Memref sig .tc .smem S10x27 .f32) (h4 : M4.IsWhole)
    (M5 : Memref sig .tc .smem S10x27 .f32) (h5 : M5.IsWhole)
    (M6 : Memref sig .tc .smem S27x10 .f32) (h6 : M6.IsWhole)
    (M7 : Memref sig .tc .vmem S1280x256 .bf16) (h7 : M7.IsWhole)
    (M8 : Memref sig .tc .vmem S128x1280 .bf16) (h8 : M8.IsWhole)
    (x1 : Vec F S1280x128 .fp8e4m3) (x2 : Vec F S1280x128 .fp8e4m3) (x3 : Vec F S128x1280 .fp8e4m3) (x4 : Vec F S10x27 .f32) (x5 : Vec F S10x27 .f32) (x6 : Vec F S27x10 .f32) :
    { W : Vec F S1280x256 .bf16 × Vec F S128x1280 .bf16 //
      ∀ (f7 : Bf (F := F) c M7) (f8 : Bf (F := F) c M8) (Q : PUnit → sProp 𝕄),
        iprop(pt c M1 (h1.unread x1) ∗ pt c M2 (h2.unread x2) ∗ pt c M3 (h3.unread x3) ∗ pt c M4 (h4.unread x4) ∗ pt c M5 (h5.unread x5) ∗ pt c M6 (h6.unread x6) ∗ pt c M7 f7 ∗ pt c M8 f8
          ∗ (iprop(pt c M1 (h1.unread x1) ∗ pt c M2 (h2.unread x2) ∗ pt c M3 (h3.unread x3) ∗ pt c M4 (h4.unread x4) ∗ pt c M5 (h5.unread x5) ∗ pt c M6 (h6.unread x6) ∗ pt c M7 (h7.unread W.1) ∗ pt c M8 (h8.unread W.2)) -∗ Q ⟨⟩))
        ⊢ wp frame (wpE (defs₀ (F := F)) Variants.none c none) Set.univ
            (cc0_prep i M1 h1 M2 h2 M3 h3 M4 h4 M5 h5 M6 h6 M7 h7 M8 h8) Q } := by
  refine ⟨⟨?_, ?_⟩, fun f7 f8 Q => ?run⟩
  case run =>
    dsimp only
    simp only [cc0_prep_eq_skeleton]; unfold cc0_prep_skel
    iintro ⟨H1, H2, H3, H4, H5, H6, H7, H8, Hk⟩
    sl_exec_parts!
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]
    · iapply (pt_eq c M7 ?e7)
      all_goals try iexact H7
      refine writes_canon (F := F) h7 _ _ ![128, 128] ?_
      sl_kernel_rfl
    iapply (pt_eq c M8 ?e8)
    all_goals try iexact H8
    refine writes_canon (F := F) h8 _ _ ![128, 128] ?_
    sl_kernel_rfl

-- the unscoped buffers as the region finds them
variable (V : Dev nD → Valuation τ sig (Elt F))

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- The body at point `t`, run at the point's buffers and blocks. -/
abbrev step (c : Dev nD) (t : Fin cfg0.N) := run (F := F) c (grid0.coords t)
    (st0_0 t) (hstage0_0 ((cfg0.slots t 0).cast nbuf0_0))
    (st0_1 t) (hstage0_1 ((cfg0.slots t 1).cast nbuf0_1))
    (st0_2 t) (hstage0_2 ((cfg0.slots t 2).cast nbuf0_2))
    (st0_3 t) (hstage0_3 ((cfg0.slots t 3).cast nbuf0_3))
    (st0_4 t) (hstage0_4 ((cfg0.slots t 4).cast nbuf0_4))
    (st0_5 t) (hstage0_5 ((cfg0.slots t 5).cast nbuf0_5))
    (st0_6 t) (hstage0_6 ((cfg0.slots t 6).cast nbuf0_6))
    (st0_7 t) (hstage0_7 ((cfg0.slots t 7).cast nbuf0_7))
    (blk V c 0 t) (blk V c 1 t) (blk V c 2 t) (blk V c 3 t) (blk V c 4 t) (blk V c 5 t)

/-- The two result blocks point `t` writes. -/
def out1 (c : Dev nD) (t : Fin cfg0.N) : Vec F S1280x256 .bf16 := (step V c t).1.1
def out2 (c : Dev nD) (t : Fin cfg0.N) : Vec F S128x1280 .bf16 := (step V c t).1.2

/-- The region's proof data on core `c`. -/
def dat (c : Dev nD) : Dat τ (Elt F) Unit ℕ UU ℕ cfg0 c where
  A w := V c (Proc.devRef .tc (Pipeline.arrRef spec0 w))
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => out1 V c t
    | ⟨7, _⟩ => out2 V c t
  Φ _ := Pipeline.ΦA spec0 c
  q _ := fullShare
  owed _ := 0

theorem A_eq (c : Dev nD) (w : Fin cfg0.W) : (dat V c).A w = V c (Proc.devRef .tc (Pipeline.arrRef spec0 w)) := by
  dsimp only [dat]

theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) : (dat V c).after 3 t = blk V c 3 t := by dsimp only [dat]
theorem after_4 (c : Dev nD) (t : Fin cfg0.N) : (dat V c).after 4 t = blk V c 4 t := by dsimp only [dat]
theorem after_5 (c : Dev nD) (t : Fin cfg0.N) : (dat V c).after 5 t = blk V c 5 t := by dsimp only [dat]
theorem after_6 (c : Dev nD) (t : Fin cfg0.N) : (dat V c).after 6 t = out1 V c t := by dsimp only [dat]
theorem after_7 (c : Dev nD) (t : Fin cfg0.N) : (dat V c).after 7 t = out2 V c t := by dsimp only [dat]

/-- Each input's staging buffer holds its block when the body runs. -/
theorem before_0 (c : Dev nD) (t : Fin cfg0.N) (d) : (dat V c).before 0 t d = blk V c 0 t :=
  ((dat V c).before_in_eq_fetched 0 rfl (fun _ => rfl) (fun _ _ _ => rfl) (fun t => by rw [after_0]; unfold Dat.blockOf blk; rw [A_eq]; try rfl) t d).trans
    (by unfold Dat.fetched Dat.blockOf blk; rw [A_eq]; try rfl)
theorem before_1 (c : Dev nD) (t : Fin cfg0.N) (d) : (dat V c).before 1 t d = blk V c 1 t :=
  ((dat V c).before_in_eq_fetched 1 rfl (fun _ => rfl) (fun _ _ _ => rfl) (fun t => by rw [after_1]; unfold Dat.blockOf blk; rw [A_eq]; try rfl) t d).trans
    (by unfold Dat.fetched Dat.blockOf blk; rw [A_eq]; try rfl)
theorem before_2 (c : Dev nD) (t : Fin cfg0.N) (d) : (dat V c).before 2 t d = blk V c 2 t :=
  ((dat V c).before_in_eq_fetched 2 rfl (fun _ => rfl) (fun _ _ _ => rfl) (fun t => by rw [after_2]; unfold Dat.blockOf blk; rw [A_eq]; try rfl) t d).trans
    (by unfold Dat.fetched Dat.blockOf blk; rw [A_eq]; try rfl)
theorem before_3 (c : Dev nD) (t : Fin cfg0.N) (d) : (dat V c).before 3 t d = blk V c 3 t :=
  ((dat V c).before_in_eq_fetched 3 rfl (fun _ => rfl) (fun _ _ _ => rfl) (fun t => by rw [after_3]; unfold Dat.blockOf blk; rw [A_eq]; try rfl) t d).trans
    (by unfold Dat.fetched Dat.blockOf blk; rw [A_eq]; try rfl)
theorem before_4 (c : Dev nD) (t : Fin cfg0.N) (d) : (dat V c).before 4 t d = blk V c 4 t :=
  ((dat V c).before_in_eq_fetched 4 rfl (fun _ => rfl) (fun _ _ _ => rfl) (fun t => by rw [after_4]; unfold Dat.blockOf blk; rw [A_eq]; try rfl) t d).trans
    (by unfold Dat.fetched Dat.blockOf blk; rw [A_eq]; try rfl)
theorem before_5 (c : Dev nD) (t : Fin cfg0.N) (d) : (dat V c).before 5 t d = blk V c 5 t :=
  ((dat V c).before_in_eq_fetched 5 rfl (fun _ => rfl) (fun _ _ _ => rfl) (fun t => by rw [after_5]; unfold Dat.blockOf blk; rw [A_eq]; try rfl) t d).trans
    (by unfold Dat.fetched Dat.blockOf blk; rw [A_eq]; try rfl)

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t))

set_option maxHeartbeats 2000000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5]
  rw [show (dat V c).Φ t.succ = (dat V c).Φ t.castSucc from rfl,
    show (dat V c).owesAt () t.succ = (dat V c).owesAt () t.castSucc from rfl,
    after_0, after_1, after_2, after_3, after_4, after_5, after_6, after_7]
  iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩⟩
  ihave H0 := (Cert.Base.owns_unread (hstage0_0 ((cfg0.slots t 0).cast nbuf0_0)) fullShare (blk V c 0 t)).1 $$ H0
  ihave H1 := (Cert.Base.owns_unread (hstage0_1 ((cfg0.slots t 1).cast nbuf0_1)) fullShare (blk V c 1 t)).1 $$ H1
  ihave H2 := (Cert.Base.owns_unread (hstage0_2 ((cfg0.slots t 2).cast nbuf0_2)) fullShare (blk V c 2 t)).1 $$ H2
  ihave H3 := (Cert.Base.owns_unread (hstage0_3 ((cfg0.slots t 3).cast nbuf0_3)) fullShare (blk V c 3 t)).1 $$ H3
  ihave H4 := (Cert.Base.owns_unread (hstage0_4 ((cfg0.slots t 4).cast nbuf0_4)) fullShare (blk V c 4 t)).1 $$ H4
  ihave H5 := (Cert.Base.owns_unread (hstage0_5 ((cfg0.slots t 5).cast nbuf0_5)) fullShare (blk V c 5 t)).1 $$ H5
  ihave H6 := (Cert.Base.owns_unread (hstage0_6 ((cfg0.slots t 6).cast nbuf0_6)) _ _).1 $$ H6
  ihave H7 := (Cert.Base.owns_unread (hstage0_7 ((cfg0.slots t 7).cast nbuf0_7)) _ _).1 $$ H7
  iapply ((step V c t).2 _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  isplitl [HΦ]; · iexact HΦ
  isplitl [HO]; · iexact HO
  isplitl [H0]
  · iapply (Cert.Base.owns_unread (hstage0_0 ((cfg0.slots t 0).cast nbuf0_0)) _ _).2; iexact H0
  isplitl [H1]
  · iapply (Cert.Base.owns_unread (hstage0_1 ((cfg0.slots t 1).cast nbuf0_1)) _ _).2; iexact H1
  isplitl [H2]
  · iapply (Cert.Base.owns_unread (hstage0_2 ((cfg0.slots t 2).cast nbuf0_2)) _ _).2; iexact H2
  isplitl [H3]
  · iapply (Cert.Base.owns_unread (hstage0_3 ((cfg0.slots t 3).cast nbuf0_3)) _ _).2; iexact H3
  isplitl [H4]
  · iapply (Cert.Base.owns_unread (hstage0_4 ((cfg0.slots t 4).cast nbuf0_4)) _ _).2; iexact H4
  isplitl [H5]
  · iapply (Cert.Base.owns_unread (hstage0_5 ((cfg0.slots t 5).cast nbuf0_5)) _ _).2; iexact H5
  isplitl [H6]
  · iapply (Cert.Base.owns_unread (hstage0_6 ((cfg0.slots t 6).cast nbuf0_6)) _ _).2; iexact H6
  iapply (Cert.Base.owns_unread (hstage0_7 ((cfg0.slots t 7).cast nbuf0_7)) _ _).2; iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dat V c) (defs₀ (F := F)) Variants.none () Set.univ := fun t => by
  rw [bigSep_W0, bigSep_W0, defs₀_row]
  exact triple_restated (sound_body V c t) rfl .rfl fun _ => .rfl

theorem arr_start (c : Dev nD) (w : Fin cfg0.W) : (dat V c).arrAt w 0 = V c (Proc.devRef .tc (Pipeline.arrRef spec0 w)) :=
  A_eq V c w

end Cert.KernelIdeal.Region0

end
-- ==== Proof.IdealBody1.lean ====
/-
  One grid point of the fused pass `cc1_mlp_f0`, run once at symbolic operands. The first point loads the weight slices
  and clears the two accumulators; every point then computes the result block and adds to the accumulators; the last
  point writes the accumulators out. `run` says what a point leaves, as functions of the four carried buffers.
-/
module

public import proofs.«01_k».proof.Proof.Gen.KernelIdeal.Skeleton
public import proofs.«01_k».proof.Proof.Base

@[expose] public section

set_option maxRecDepth 16384

noncomputable section

namespace Cert.KernelIdeal.Body1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipeline library's, beside the counters of the body's own transfers. -/
abbrev UU : Type := UR sig nD τ × Counters

local notation "𝕄" => MT nD τ sig Unit (Elt F) ℕ UU ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

theorem pt_eq (c : Dev nD) {sp : Space} {S : Shape} {e : EltTy} (M : Memref sig .tc sp S e) {f g : Bf (F := F) c M} (h : f = g) :
    pt c M f ⊢ pt c M g := by
  subst h; exact .rfl

/-- The slice of the first weight array that this pass uses. -/
def wguSlice (x : Vec F S1280x6912 .bf16) : Vec F S1280x2560 .bf16 :=
  fun y => x ((Rect.unit (s := S1280x6912) ![0, 0] S1280x2560.size inb_S1280x6912_S1280x2560_0_0).emb y)

/-- The slice of the second weight array that this pass uses. -/
def wdnSlice (x : Vec F S3456x1280 .bf16) : Vec F S1280x1280 .bf16 :=
  fun y => x ((Rect.unit (s := S3456x1280) ![0, 0] S1280x1280.size inb_S3456x1280_S1280x1280_0_0).emb y)

/-- What a point finds in the first weight buffer: the slice if it is the first point, what was there otherwise. -/
def wguIn (i : grid1.Coords) (x : Vec F S1280x6912 .bf16) (g : Vec F S1280x2560 .bf16) : Vec F S1280x2560 .bf16 := if (i 0).val = 0 then wguSlice x else g

/-- What a point finds in the second weight buffer. -/
def wdnIn (i : grid1.Coords) (x : Vec F S3456x1280 .bf16) (g : Vec F S1280x1280 .bf16) : Vec F S1280x1280 .bf16 := if (i 0).val = 0 then wdnSlice x else g

/-- What a point finds in an accumulator: zeros if it is the first point. -/
def accIn (i : grid1.Coords) {S : Shape} (z g : Vec F S .f32) : Vec F S .f32 := if (i 0).val = 0 then z else g

/-- What a point leaves in an output array: the accumulator if it is the last point. -/
def accOut (i : grid1.Coords) {S : Shape} (a g : Vec F S .f32) : Vec F S .f32 := if (i 0).val = 511 then a else g

theorem coord_lt (i : grid1.Coords) : (i 0).val < 2 ^ 32 :=
  lt_trans (i 0).isLt (by decide)

/-- Contents under the printed first-point test are the contents that read the values under the plain test. -/
theorem dif_first (i : grid1.Coords) {b : BitVec 1}
    (hb : b = Scalar.cmpi .ne (Scalar.extui (Scalar.cmpi .eq (BitVec.ofNat 32 (i 0).val) (BitVec.ofNat 32 0))) 0#32)
    {sp : Space} {S : Shape} {e : EltTy} {M : Memref sig .tc sp S e} (h : M.IsWhole) {x : M.view.ty.Contents (Elt F)} {x' y : Vec F S e} (hx : x = h.unread x') :
    (if _ : b = 1#1 then x else h.unread y) = h.unread (if (i 0).val = 0 then x' else y) := by
  subst hb hx
  have := Cert.Base.coord_test (i 0).val 0 (coord_lt i) (by decide)
  by_cases h : (i 0).val = 0
  · rw [dif_pos (this.2 h), if_pos h]
  · rw [dif_neg (mt this.1 h), if_neg h]

/-- The same for the last-point test. -/
theorem dif_last (i : grid1.Coords) {b : BitVec 1}
    (hb : b = Scalar.cmpi .ne (Scalar.extui (Scalar.cmpi .eq (BitVec.ofNat 32 (i 0).val) (BitVec.ofNat 32 511))) 0#32)
    {sp : Space} {S : Shape} {e : EltTy} {M : Memref sig .tc sp S e} (h : M.IsWhole) {x : M.view.ty.Contents (Elt F)} {x' y : Vec F S e} (hx : x = h.unread x') :
    (if _ : b = 1#1 then x else h.unread y) = h.unread (if (i 0).val = 511 then x' else y) := by
  subst hb hx
  have := Cert.Base.coord_test (i 0).val 511 (coord_lt i) (by decide)
  by_cases h : (i 0).val = 511
  · rw [dif_pos (this.2 h), if_pos h]
  · rw [dif_neg (mt this.1 h), if_neg h]

/-- A copy of a whole buffer that was written whole leaves the contents that read what was written. -/
theorem copy_whole {sp sp' : Space} {S : Shape} {M : Memref sig .tc sp S .f32} (h : M.IsWhole) {M' : Memref sig .tc sp' S .f32} (h' : M'.IsWhole)
    (f : M.view.ty.Contents (Elt F)) {g : M'.view.ty.Contents (Elt F)} {w : Vec F S .f32} (hg : g = h'.unread w) :
    M.view.write (Elt F) f (M'.view.read (Elt F) g) Finset.univ = h.unread w := by
  rw [Cert.Base.write_whole h, hg, h'.read_unread]

/-- Reading a slice of a whole array reads the array at the slice's indices. -/
theorem slice_read {sp : Space} {S : Shape} {e : EltTy} {M : Memref sig .tc sp S e} (h : M.IsWhole) (x : Vec F S e) (r : Rect S) :
    (M.view.slice r).read (Elt F) (h.unread x) = fun y => x (r.emb y) :=
  funext fun y => congrFun (h.read_unread x) (r.emb y)

set_option maxHeartbeats 600000 in
/-- What one point leaves in the result block and the two accumulators, as functions of the four carried buffers, with
    the proof that the point runs to its return from every buffer held whole. -/
def run (c : Dev nD)
    (M1 : Memref sig .tc .vmem S512x1280 .fp8e4m3) (h1 : M1.IsWhole)
    (M2 : Memref sig .tc .vmem S512x10 .f32) (h2 : M2.IsWhole)
    (M3 : Memref sig .tc .vmem S512x1280 .fp8e5m2) (h3 : M3.IsWhole)
    (M4 : Memref sig .tc .vmem S512x10 .f32) (h4 : M4.IsWhole)
    (M5 : Memref sig .tc .hbm S1280x6912 .bf16) (h5 : M5.IsWhole)
    (M6 : Memref sig .tc .hbm S3456x1280 .bf16) (h6 : M6.IsWhole)
    (M7 : Memref sig .tc .vmem S512x1280 .f32) (h7 : M7.IsWhole)
    (M8 : Memref sig .tc .hbm S1280x2560 .f32) (h8 : M8.IsWhole)
    (M9 : Memref sig .tc .hbm S1280x1280 .f32) (h9 : M9.IsWhole)
    (M10 : Memref sig .tc .vmem S1280x2560 .bf16) (h10 : M10.IsWhole)
    (M11 : Memref sig .tc .vmem S1280x1280 .bf16) (h11 : M11.IsWhole)
    (M12 : Memref sig .tc .vmem S1280x2560 .f32) (h12 : M12.IsWhole)
    (M13 : Memref sig .tc .vmem S1280x1280 .f32) (h13 : M13.IsWhole)
    (M14 : Memref sig .tc .vmem S512x1280 .bf16) (h14 : M14.IsWhole)
    (M15 : Memref sig .tc .vmem S512x1280 .bf16) (h15 : M15.IsWhole)
    (M16 : Memref sig .tc .vmem S1280x512 .bf16) (h16 : M16.IsWhole)
    (M17 : Memref sig .tc .vmem S1280x512 .bf16) (h17 : M17.IsWhole)
    (M18 : Memref sig .tc .vmem S512x1280 .bf16) (h18 : M18.IsWhole)
    (M19 : Memref sig .tc .vmem S512x2560 .bf16) (h19 : M19.IsWhole)
    (x1 : Vec F S512x1280 .fp8e4m3) (x2 : Vec F S512x10 .f32) (x3 : Vec F S512x1280 .fp8e5m2) (x4 : Vec F S512x10 .f32) :
    { W : (Vec F S1280x2560 .bf16 → Vec F S1280x1280 .bf16 → Vec F S1280x2560 .f32 → Vec F S1280x1280 .f32 → Vec F S512x1280 .f32) × (Vec F S1280x2560 .bf16 → Vec F S1280x1280 .bf16 → Vec F S1280x2560 .f32 → Vec F S1280x1280 .f32 → Vec F S1280x2560 .f32) × (Vec F S1280x2560 .bf16 → Vec F S1280x1280 .bf16 → Vec F S1280x2560 .f32 → Vec F S1280x1280 .f32 → Vec F S1280x1280 .f32) //
      ∀ (i : grid1.Coords) (x5 : Vec F S1280x6912 .bf16) (x6 : Vec F S3456x1280 .bf16) (x8 : Vec F S1280x2560 .f32) (x9 : Vec F S1280x1280 .f32) (x10 : Vec F S1280x2560 .bf16) (x11 : Vec F S1280x1280 .bf16) (x12 : Vec F S1280x2560 .f32) (x13 : Vec F S1280x1280 .f32) (f7 : Bf (F := F) c M7) (f14 : Bf (F := F) c M14) (f15 : Bf (F := F) c M15) (f16 : Bf (F := F) c M16) (f17 : Bf (F := F) c M17) (f18 : Bf (F := F) c M18) (f19 : Bf (F := F) c M19) (Wt : Waits sig Unit) (Q : PUnit → sProp 𝕄),
        iprop(pt c M1 (h1.unread x1) ∗ pt c M2 (h2.unread x2) ∗ pt c M3 (h3.unread x3) ∗ pt c M4 (h4.unread x4) ∗ pt c M5 (h5.unread x5) ∗ pt c M6 (h6.unread x6) ∗ pt c M7 f7 ∗ pt c M8 (h8.unread x8) ∗ pt c M9 (h9.unread x9) ∗ pt c M10 (h10.unread x10) ∗ pt c M11 (h11.unread x11) ∗ pt c M12 (h12.unread x12) ∗ pt c M13 (h13.unread x13) ∗ pt c M14 f14 ∗ pt c M15 f15 ∗ pt c M16 f16 ∗ pt c M17 f17 ∗ pt c M18 f18 ∗ pt c M19 f19
          ∗ semVal ((c : Thread nD τ), SemLoc.dma 23) 0 ∗ semVal ((c : Thread nD τ), SemLoc.dma 24) 0 ∗ owes (c : Thread nD τ) 0 Wt
          ∗ (iprop(pt c M12 (h12.unread (W.2.1 (wguIn i x5 x10) (wdnIn i x6 x11) (accIn i (k1_pay3 (F := F)) x12) (accIn i (k1_pay4 (F := F)) x13)))
            ∗ pt c M13 (h13.unread (W.2.2 (wguIn i x5 x10) (wdnIn i x6 x11) (accIn i (k1_pay3 (F := F)) x12) (accIn i (k1_pay4 (F := F)) x13)))
            ∗ pt c M1 (h1.unread x1)
            ∗ pt c M2 (h2.unread x2)
            ∗ pt c M3 (h3.unread x3)
            ∗ pt c M4 (h4.unread x4)
            ∗ pt c M5 (h5.unread x5)
            ∗ pt c M6 (h6.unread x6)
            ∗ pt c M7 (h7.unread (W.1 (wguIn i x5 x10) (wdnIn i x6 x11) (accIn i (k1_pay3 (F := F)) x12) (accIn i (k1_pay4 (F := F)) x13)))
            ∗ pt c M8 (h8.unread (accOut i (W.2.1 (wguIn i x5 x10) (wdnIn i x6 x11) (accIn i (k1_pay3 (F := F)) x12) (accIn i (k1_pay4 (F := F)) x13)) x8))
            ∗ pt c M9 (h9.unread (accOut i (W.2.2 (wguIn i x5 x10) (wdnIn i x6 x11) (accIn i (k1_pay3 (F := F)) x12) (accIn i (k1_pay4 (F := F)) x13)) x9))
            ∗ pt c M10 (h10.unread (wguIn i x5 x10))
            ∗ pt c M11 (h11.unread (wdnIn i x6 x11))
            ∗ (∃ f, pt c M14 f)
            ∗ (∃ f, pt c M15 f)
            ∗ (∃ f, pt c M16 f)
            ∗ (∃ f, pt c M17 f)
            ∗ (∃ f, pt c M18 f)
            ∗ (∃ f, pt c M19 f)
          ∗ semVal ((c : Thread nD τ), SemLoc.dma 23) 0 ∗ semVal ((c : Thread nD τ), SemLoc.dma 24) 0
          ∗ (∃ W', owes (c : Thread nD τ) 0 W')) -∗ Q ⟨⟩))
        ⊢ wp frame (wpE (defs₀ (F := F)) Variants.none c none) Set.univ
            (cc1_mlp_f0 i M1 h1 M2 h2 M3 h3 M4 h4 M5 h5 M6 h6 M7 h7 M8 h8 M9 h9 M10 h10 M11 h11 M12 h12 M13 h13 M14 h14 M15 h15 M16 h16 M17 h17 M18 h18 M19 h19 cc1_scratch10) Q } := by
  refine ⟨⟨?_, ?_, ?_⟩, fun i x5 x6 x8 x9 x10 x11 x12 x13 f7 f14 f15 f16 f17 f18 f19 Wt Q => ?run⟩
  case run =>
    dsimp only
    iintro ⟨H1, H2, H3, H4, H5, H6, H7, H8, H9, H10, H11, H12, H13, H14, H15, H16, H17, H18, H19, Hs0, Hs1, HO, Hk⟩
    set_option sl_exec.maxSteps 16 in sl_exec
    rw [show (if hc : run.sl.v2 i = 1#1 then View.write (Elt F) M10.view (h10.unread x10) (run.sl.dma0 M5 h5 x5) Finset.univ else h10.unread x10) = h10.unread (wguIn i x5 x10) from
        dif_first i rfl h10 ((Cert.Base.write_whole h10 _ _).trans (congrArg h10.unread (slice_read h5 x5 (Rect.unit (s := S1280x6912) ![0, 0] S1280x2560.size inb_S1280x6912_S1280x2560_0_0)))),
      show (if hc : run.sl.v2 i = 1#1 then View.write (Elt F) M11.view (h11.unread x11) (run.sl.dma0_1 M6 h6 x6) Finset.univ else h11.unread x11) = h11.unread (wdnIn i x6 x11) from
        dif_first i rfl h11 ((Cert.Base.write_whole h11 _ _).trans (congrArg h11.unread (slice_read h6 x6 (Rect.unit (s := S3456x1280) ![0, 0] S1280x1280.size inb_S3456x1280_S1280x1280_0_0)))),
      show (if hc : run.sl.v2 i = 1#1 then M12.view.writes (Elt F) (h12.unread x12) [⟨Rect.unit ![0, 0] S1280x2560.size inb_S1280x2560_S1280x2560_0_0, k1_pay3⟩] else h12.unread x12) = h12.unread (accIn i (k1_pay3 (F := F)) x12) from
        dif_first i rfl h12 (Cert.Base.writes_whole h12 _ (by decide) _ _),
      show (if hc : run.sl.v2 i = 1#1 then M13.view.writes (Elt F) (h13.unread x13) [⟨Rect.unit ![0, 0] S1280x1280.size inb_S1280x1280_S1280x1280_0_0, k1_pay4⟩] else h13.unread x13) = h13.unread (accIn i (k1_pay4 (F := F)) x13) from
        dif_first i rfl h13 (Cert.Base.writes_whole h13 _ (by decide) _ _)]
    generalize wguIn i x5 x10 = xG, wdnIn i x6 x11 = xD, accIn i (k1_pay3 (F := F)) x12 = xA, accIn i (k1_pay4 (F := F)) x13 = xB
    sl_exec_parts!
    sl_step
    iapply Hk
    isplitl [H12]
    · iapply (pt_eq c M12 ?e12)
      all_goals try iexact H12
      exact Cert.Base.writes_whole (off := ![0, 0]) h12 _ (by decide) _ _
    isplitl [H13]
    · iapply (pt_eq c M13 ?e13)
      all_goals try iexact H13
      exact Cert.Base.writes_whole (off := ![0, 0]) h13 _ (by decide) _ _
    isplitl [H1]; · iexact H1
    isplitl [H2]; · iexact H2
    isplitl [H3]; · iexact H3
    isplitl [H4]; · iexact H4
    isplitl [H5]; · iexact H5
    isplitl [H6]; · iexact H6
    isplitl [H7]
    · iapply (pt_eq c M7 ?e7)
      all_goals try iexact H7
      exact Cert.Base.writes_whole (off := ![0, 0]) h7 _ (by decide) _ _
    isplitl [H8]
    · iapply (pt_eq c M8 ?e8)
      all_goals try iexact H8
      exact dif_last i rfl h8 (copy_whole h8 h12 _ (Cert.Base.writes_whole (off := ![0, 0]) h12 _ (by decide) _ _))
    isplitl [H9]
    · iapply (pt_eq c M9 ?e9)
      all_goals try iexact H9
      exact dif_last i rfl h9 (copy_whole h9 h13 _ (Cert.Base.writes_whole (off := ![0, 0]) h13 _ (by decide) _ _))
    isplitl [H10]; · iexact H10
    isplitl [H11]; · iexact H11
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [Hs0]; · iexact Hs0
    isplitl [Hs1]; · iexact Hs1
    iexists _; iexact HO

end Cert.KernelIdeal.Body1

end
-- ==== Proof.IdealRegion1.lean ====
/-
  The pipelined region of the fused pass `cc1_mlp_f0`: what it carries from one grid point to the next, and that every point
  keeps it. The weight slices are loaded at the first point and stay; the two accumulators after point `n` are `acc n`;
  after the last point the two output arrays hold the accumulators.
-/
module

public import proofs.«01_k».proof.Proof.Gen.KernelIdeal.Launch
public import proofs.«01_k».proof.Proof.Gen.KernelIdeal.Points
public import proofs.«01_k».proof.Proof.IdealBody1
public import Idealize.ShloMosaic.Lib.Pipeline.FrameBody

@[expose] public section

set_option maxRecDepth 16384

noncomputable section

namespace Cert.KernelIdeal.Region1

open Cert.KernelIdeal Cert.KernelIdeal.Gen Cert.KernelIdeal.Body1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

-- the unscoped buffers as the region finds them
variable (V : Dev nD → Valuation τ sig (Elt F))

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- The two weight arrays, the slices of them this pass uses, and the two output arrays at entry, by index. -/
def wgu (c : Dev nD) : Vec F S1280x6912 .bf16 := (Memref.whole main_v12_0).view.read (Elt F) (V c (Proc.devRef .tc main_v12_0))
def wdn (c : Dev nD) : Vec F S3456x1280 .bf16 := (Memref.whole main_v12_1).view.read (Elt F) (V c (Proc.devRef .tc main_v12_1))
def wguS (c : Dev nD) : Vec F S1280x2560 .bf16 := wguSlice (wgu V c)
def wdnS (c : Dev nD) : Vec F S1280x1280 .bf16 := wdnSlice (wdn V c)
def old1 (c : Dev nD) : Vec F S1280x2560 .f32 := (Memref.whole main_v13_1).view.read (Elt F) (V c (Proc.devRef .tc main_v13_1))
def old2 (c : Dev nD) : Vec F S1280x1280 .f32 := (Memref.whole main_v13_2).view.read (Elt F) (V c (Proc.devRef .tc main_v13_2))

/-- The body at point `t`, run at the point's buffers and blocks. -/
abbrev step (c : Dev nD) (t : Fin cfg1.N) := run (F := F) c
    (st1_0 t) (hstage1_0 ((cfg1.slots t 0).cast nbuf1_0))
    (st1_1 t) (hstage1_1 ((cfg1.slots t 1).cast nbuf1_1))
    (st1_2 t) (hstage1_2 ((cfg1.slots t 2).cast nbuf1_2))
    (st1_3 t) (hstage1_3 ((cfg1.slots t 3).cast nbuf1_3))
    (Memref.whole main_v12_0) (Memref.isWhole_whole _)
    (Memref.whole main_v12_1) (Memref.isWhole_whole _)
    (st1_4 t) (hstage1_4 ((cfg1.slots t 4).cast nbuf1_4))
    (Memref.whole main_v13_1) (Memref.isWhole_whole _)
    (Memref.whole main_v13_2) (Memref.isWhole_whole _)
    (Memref.whole cc1_scratch0) (Memref.isWhole_whole _)
    (Memref.whole cc1_scratch1) (Memref.isWhole_whole _)
    (Memref.whole cc1_scratch2) (Memref.isWhole_whole _)
    (Memref.whole cc1_scratch3) (Memref.isWhole_whole _)
    (Memref.whole cc1_scratch4) (Memref.isWhole_whole _)
    (Memref.whole cc1_scratch5) (Memref.isWhole_whole _)
    (Memref.whole cc1_scratch6) (Memref.isWhole_whole _)
    (Memref.whole cc1_scratch7) (Memref.isWhole_whole _)
    (Memref.whole cc1_scratch8) (Memref.isWhole_whole _)
    (Memref.whole cc1_scratch9) (Memref.isWhole_whole _)
    (blk V c 0 t) (blk V c 1 t) (blk V c 2 t) (blk V c 3 t)

/-- The two accumulators after `n` points. -/
def acc (c : Dev nD) : ℕ → Vec F S1280x2560 .f32 × Vec F S1280x1280 .f32
  | 0 => (k1_pay3 (F := F), k1_pay4 (F := F))
  | n + 1 => if h : n < cfg1.N then
      ((step V c ⟨n, h⟩).1.2.1 (wguS V c) (wdnS V c) (acc c n).1 (acc c n).2, (step V c ⟨n, h⟩).1.2.2 (wguS V c) (wdnS V c) (acc c n).1 (acc c n).2)
    else acc c n

theorem acc_zero (c : Dev nD) : acc V c 0 = (k1_pay3 (F := F), k1_pay4 (F := F)) := by unfold acc; rfl

theorem acc_succ (c : Dev nD) (t : Fin cfg1.N) : acc V c (t.val + 1) =
    ((step V c t).1.2.1 (wguS V c) (wdnS V c) (acc V c t.val).1 (acc V c t.val).2, (step V c t).1.2.2 (wguS V c) (wdnS V c) (acc V c t.val).1 (acc V c t.val).2) := by
  rw [acc, dif_pos t.isLt]

/-- The result block point `t` writes. -/
def dxo (c : Dev nD) (t : Fin cfg1.N) : Vec F S512x1280 .f32 := (step V c t).1.1 (wguS V c) (wdnS V c) (acc V c t.val).1 (acc V c t.val).2

/-- The output arrays before point `n`: untouched until the last point has run. -/
def outv1 (c : Dev nD) (n : ℕ) : Vec F S1280x2560 .f32 := if n = 512 then (acc V c 512).1 else old1 V c
def outv2 (c : Dev nD) (n : ℕ) : Vec F S1280x1280 .f32 := if n = 512 then (acc V c 512).2 else old2 V c

/-- What the four carried buffers hold before point `n`, once a point has run. -/
def Carried (c : Dev nD) (n : ℕ) (g : Vec F S1280x2560 .bf16) (d : Vec F S1280x1280 .bf16) (a : Vec F S1280x2560 .f32) (b : Vec F S1280x1280 .f32) : Prop :=
  n ≠ 0 → g = wguS V c ∧ d = wdnS V c ∧ a = (acc V c n).1 ∧ b = (acc V c n).2

/-- The invariant before point `n`. -/
def Phi (c : Dev nD) (n : ℕ) : sProp 𝕄 :=
  iprop(pt c (Memref.whole main_v12_0) ((Memref.isWhole_whole main_v12_0).unread (wgu V c)) ∗ pt c (Memref.whole main_v12_1) ((Memref.isWhole_whole main_v12_1).unread (wdn V c))
    ∗ pt c (Memref.whole main_v13_1) ((Memref.isWhole_whole main_v13_1).unread (outv1 V c n)) ∗ pt c (Memref.whole main_v13_2) ((Memref.isWhole_whole main_v13_2).unread (outv2 V c n))
    ∗ (∃ g d a b, ⌜Carried V c n g d a b⌝ ∗ pt c (Memref.whole cc1_scratch0) ((Memref.isWhole_whole cc1_scratch0).unread g) ∗ pt c (Memref.whole cc1_scratch1) ((Memref.isWhole_whole cc1_scratch1).unread d) ∗ pt c (Memref.whole cc1_scratch2) ((Memref.isWhole_whole cc1_scratch2).unread a) ∗ pt c (Memref.whole cc1_scratch3) ((Memref.isWhole_whole cc1_scratch3).unread b))
    ∗ (∃ f, pt (F := F) c (Memref.whole cc1_scratch4) f)
    ∗ (∃ f, pt (F := F) c (Memref.whole cc1_scratch5) f)
    ∗ (∃ f, pt (F := F) c (Memref.whole cc1_scratch6) f)
    ∗ (∃ f, pt (F := F) c (Memref.whole cc1_scratch7) f)
    ∗ (∃ f, pt (F := F) c (Memref.whole cc1_scratch8) f)
    ∗ (∃ f, pt (F := F) c (Memref.whole cc1_scratch9) f)
    ∗ Pipeline.scopedRestBut (Ix := Unit) (Name := ℕ) (U := UU) (Lvl := ℕ) (Val := Elt F) spec1 c [cc1_scratch0, cc1_scratch1, cc1_scratch2, cc1_scratch3, cc1_scratch4, cc1_scratch5, cc1_scratch6, cc1_scratch7, cc1_scratch8, cc1_scratch9]
    ∗ semVal ((c : Thread nD τ), SemLoc.dma 23) 0 ∗ semVal ((c : Thread nD τ), SemLoc.dma 24) 0
    ∗ (∃ r, prngReg c r))

/-- The region's proof data on core `c`. -/
def dat (c : Dev nD) : Dat τ (Elt F) Unit ℕ UU ℕ cfg1 c where
  A w := V c (Proc.devRef .tc (Pipeline.arrRef spec1 w))
  after w t := match w with
    | ⟨0, _⟩ => blk V c 0 t
    | ⟨1, _⟩ => blk V c 1 t
    | ⟨2, _⟩ => blk V c 2 t
    | ⟨3, _⟩ => blk V c 3 t
    | ⟨4, _⟩ => dxo V c t
  Φ t := Phi V c t.val
  q _ := fullShare
  owed _ := 0

theorem A_eq (c : Dev nD) (w : Fin cfg1.W) : (dat V c).A w = V c (Proc.devRef .tc (Pipeline.arrRef spec1 w)) := by
  dsimp only [dat]

theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = blk V c 3 t := by dsimp only [dat]
theorem after_4 (c : Dev nD) (t : Fin cfg1.N) : (dat V c).after 4 t = dxo V c t := by dsimp only [dat]

/-- Each input's staging buffer holds its block when the body runs. -/
theorem before_0 (c : Dev nD) (t : Fin cfg1.N) (d) : (dat V c).before 0 t d = blk V c 0 t :=
  ((dat V c).before_in_eq_fetched 0 rfl (fun _ => rfl) (fun _ _ _ => rfl) (fun t => by rw [after_0]; unfold Dat.blockOf blk; rw [A_eq]; try rfl) t d).trans
    (by unfold Dat.fetched Dat.blockOf blk; rw [A_eq]; try rfl)
theorem before_1 (c : Dev nD) (t : Fin cfg1.N) (d) : (dat V c).before 1 t d = blk V c 1 t :=
  ((dat V c).before_in_eq_fetched 1 rfl (fun _ => rfl) (fun _ _ _ => rfl) (fun t => by rw [after_1]; unfold Dat.blockOf blk; rw [A_eq]; try rfl) t d).trans
    (by unfold Dat.fetched Dat.blockOf blk; rw [A_eq]; try rfl)
theorem before_2 (c : Dev nD) (t : Fin cfg1.N) (d) : (dat V c).before 2 t d = blk V c 2 t :=
  ((dat V c).before_in_eq_fetched 2 rfl (fun _ => rfl) (fun _ _ _ => rfl) (fun t => by rw [after_2]; unfold Dat.blockOf blk; rw [A_eq]; try rfl) t d).trans
    (by unfold Dat.fetched Dat.blockOf blk; rw [A_eq]; try rfl)
theorem before_3 (c : Dev nD) (t : Fin cfg1.N) (d) : (dat V c).before 3 t d = blk V c 3 t :=
  ((dat V c).before_in_eq_fetched 3 rfl (fun _ => rfl) (fun _ _ _ => rfl) (fun t => by rw [after_3]; unfold Dat.blockOf blk; rw [A_eq]; try rfl) t d).trans
    (by unfold Dat.fetched Dat.blockOf blk; rw [A_eq]; try rfl)

theorem N_eq : cfg1.N = 512 := N_1

/-- A point's only coordinate is its number. -/
theorem coord_val (t : Fin cfg1.N) : (grid1.coords t 0).val = t.val := by
  have h := Pipeline.Grid.coords_val (G := grid1) t 0 (S := 1) (B := 512) (by decide) rfl
  have := t.isLt; have := N_eq
  rw [h, Nat.div_one, Nat.mod_eq_of_lt (by omega)]

/-! ## What a point finds and leaves, in terms of the invariant -/

theorem wguIn_eq (c : Dev nD) (t : Fin cfg1.N) {g : Vec F S1280x2560 .bf16} (h : t.val ≠ 0 → g = wguS V c) :
    wguIn (grid1.coords t) (wgu V c) g = wguS V c := by
  unfold wguIn
  by_cases h0 : t.val = 0
  · rw [if_pos (by rw [coord_val, h0])]; rfl
  · rw [if_neg (by rw [coord_val]; exact h0), h h0]

theorem wdnIn_eq (c : Dev nD) (t : Fin cfg1.N) {g : Vec F S1280x1280 .bf16} (h : t.val ≠ 0 → g = wdnS V c) :
    wdnIn (grid1.coords t) (wdn V c) g = wdnS V c := by
  unfold wdnIn
  by_cases h0 : t.val = 0
  · rw [if_pos (by rw [coord_val, h0])]; rfl
  · rw [if_neg (by rw [coord_val]; exact h0), h h0]

theorem accIn_eq1 (c : Dev nD) (t : Fin cfg1.N) {a : Vec F S1280x2560 .f32} (h : t.val ≠ 0 → a = (acc V c t.val).1) :
    accIn (grid1.coords t) (k1_pay3 (F := F)) a = (acc V c t.val).1 := by
  unfold accIn
  by_cases h0 : t.val = 0
  · rw [if_pos (by rw [coord_val, h0]), h0, acc_zero]
  · rw [if_neg (by rw [coord_val]; exact h0), h h0]

theorem accIn_eq2 (c : Dev nD) (t : Fin cfg1.N) {a : Vec F S1280x1280 .f32} (h : t.val ≠ 0 → a = (acc V c t.val).2) :
    accIn (grid1.coords t) (k1_pay4 (F := F)) a = (acc V c t.val).2 := by
  unfold accIn
  by_cases h0 : t.val = 0
  · rw [if_pos (by rw [coord_val, h0]), h0, acc_zero]
  · rw [if_neg (by rw [coord_val]; exact h0), h h0]

theorem accOut_eq1 (c : Dev nD) (t : Fin cfg1.N) :
    accOut (grid1.coords t) (acc V c (t.val + 1)).1 (outv1 V c t.val) = outv1 V c (t.val + 1) := by
  have := t.isLt; have := N_eq
  unfold accOut outv1
  by_cases h0 : t.val = 511
  · rw [if_pos (by rw [coord_val, h0]), if_pos (by omega), h0]
  · rw [if_neg (by rw [coord_val]; exact h0), if_neg (by omega), if_neg (by omega)]

theorem accOut_eq2 (c : Dev nD) (t : Fin cfg1.N) :
    accOut (grid1.coords t) (acc V c (t.val + 1)).2 (outv2 V c t.val) = outv2 V c (t.val + 1) := by
  have := t.isLt; have := N_eq
  unfold accOut outv2
  by_cases h0 : t.val = 511
  · rw [if_pos (by rw [coord_val, h0]), if_pos (by omega), h0]
  · rw [if_neg (by rw [coord_val]; exact h0), if_neg (by omega), if_neg (by omega)]

theorem acc1_succ (c : Dev nD) (t : Fin cfg1.N) :
    (step V c t).1.2.1 (wguS V c) (wdnS V c) (acc V c t.val).1 (acc V c t.val).2 = (acc V c (t.val + 1)).1 := by rw [acc_succ]
theorem acc2_succ (c : Dev nD) (t : Fin cfg1.N) :
    (step V c t).1.2.2 (wguS V c) (wdnS V c) (acc V c t.val).1 (acc V c t.val).2 = (acc V c (t.val + 1)).2 := by rw [acc_succ]

/-! ## The body obligation -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t))

theorem Phi_castSucc (c : Dev nD) (t : Fin cfg1.N) : (dat V c).Φ t.castSucc = Phi V c t.val := by
  dsimp only [dat]; rfl
theorem Phi_succ (c : Dev nD) (t : Fin cfg1.N) : (dat V c).Φ t.succ = Phi V c (t.val + 1) := by
  dsimp only [dat]; rfl

set_option maxHeartbeats 2000000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, after_0, after_1, after_2, after_3, after_4]
  rw [Phi_castSucc, Phi_succ]
  unfold Dat.owesAt Pipeline.owesWithin
  rw [show (dat V c).owed t.castSucc = 0 from rfl, show (dat V c).owed t.succ = 0 from rfl]
  unfold Phi
  iintro ⟨⟨Hw1, Hw2, Ho1, Ho2, ⟨%g, %d, %a, %b, %hcar, Hg, Hd, Ha, Hb⟩, ⟨%f4, S4⟩, ⟨%f5, S5⟩, ⟨%f6, S6⟩, ⟨%f7, S7⟩, ⟨%f8, S8⟩, ⟨%f9, S9⟩, Hrest, Hs0, Hs1, Hp⟩, ⟨%Wt, -, HO⟩, ⟨%e0, H0⟩, ⟨%e1, H1⟩, ⟨%e2, H2⟩, ⟨%e3, H3⟩, ⟨%e4, H4⟩⟩
  ihave H0 := (Cert.Base.owns_unread (hstage1_0 ((cfg1.slots t 0).cast nbuf1_0)) _ _).1 $$ H0
  ihave H1 := (Cert.Base.owns_unread (hstage1_1 ((cfg1.slots t 1).cast nbuf1_1)) _ _).1 $$ H1
  ihave H2 := (Cert.Base.owns_unread (hstage1_2 ((cfg1.slots t 2).cast nbuf1_2)) _ _).1 $$ H2
  ihave H3 := (Cert.Base.owns_unread (hstage1_3 ((cfg1.slots t 3).cast nbuf1_3)) _ _).1 $$ H3
  ihave H4 := (Cert.Base.owns_unread (hstage1_4 ((cfg1.slots t 4).cast nbuf1_4)) _ _).1 $$ H4
  iapply ((step V c t).2 (grid1.coords t) (wgu V c) (wdn V c) (outv1 V c t.val) (outv2 V c t.val) g d a b _ f4 f5 f6 f7 f8 f9 Wt _)
  rw [wguIn_eq V c t fun h => (hcar h).1, wdnIn_eq V c t fun h => (hcar h).2.1, accIn_eq1 V c t fun h => (hcar h).2.2.1, accIn_eq2 V c t fun h => (hcar h).2.2.2,
    acc1_succ, acc2_succ, accOut_eq1, accOut_eq2]
  isplitl [H0]; · iexact H0
  isplitl [H1]; · iexact H1
  isplitl [H2]; · iexact H2
  isplitl [H3]; · iexact H3
  isplitl [Hw1]; · iexact Hw1
  isplitl [Hw2]; · iexact Hw2
  isplitl [H4]; · iexact H4
  isplitl [Ho1]; · iexact Ho1
  isplitl [Ho2]; · iexact Ho2
  isplitl [Hg]; · iexact Hg
  isplitl [Hd]; · iexact Hd
  isplitl [Ha]; · iexact Ha
  isplitl [Hb]; · iexact Hb
  isplitl [S4]; · iexact S4
  isplitl [S5]; · iexact S5
  isplitl [S6]; · iexact S6
  isplitl [S7]; · iexact S7
  isplitl [S8]; · iexact S8
  isplitl [S9]; · iexact S9
  isplitl [Hs0]; · iexact Hs0
  isplitl [Hs1]; · iexact Hs1
  isplitl [HO]; · iexact HO
  iintro ⟨Ha, Hb, H0, H1, H2, H3, Hw1, Hw2, H4, Ho1, Ho2, Hg, Hd, S4, S5, S6, S7, S8, S9, Hs0, Hs1, ⟨%W', HO⟩⟩
  isplitl [Hw1 Hw2 Ho1 Ho2 Hg Hd Ha Hb S4 S5 S6 S7 S8 S9 Hrest Hs0 Hs1 Hp]
  · isplitl [Hw1]; · iexact Hw1
    isplitl [Hw2]; · iexact Hw2
    isplitl [Ho1]; · iexact Ho1
    isplitl [Ho2]; · iexact Ho2
    isplitl [Hg Hd Ha Hb]
    · iexists _, _, _, _
      isplitr
      swap
      · isplitl [Hg]; · iexact Hg
        isplitl [Hd]; · iexact Hd
        isplitl [Ha]; · iexact Ha
        iexact Hb
      ipureintro
      exact fun _ => ⟨rfl, rfl, rfl, rfl⟩
    isplitl [S4]; · iexact S4
    isplitl [S5]; · iexact S5
    isplitl [S6]; · iexact S6
    isplitl [S7]; · iexact S7
    isplitl [S8]; · iexact S8
    isplitl [S9]; · iexact S9
    isplitl [Hrest]; · iexact Hrest
    isplitl [Hs0]; · iexact Hs0
    isplitl [Hs1]; · iexact Hs1
    iexact Hp
  isplitl [HO]
  · iexists W'; isplitr; · ipureintro; exact fun _ _ => Or.inl trivial
    iexact HO
  isplitl [H0]
  · iapply (Cert.Base.owns_unread (hstage1_0 ((cfg1.slots t 0).cast nbuf1_0)) _ _).2; iexact H0
  isplitl [H1]
  · iapply (Cert.Base.owns_unread (hstage1_1 ((cfg1.slots t 1).cast nbuf1_1)) _ _).2; iexact H1
  isplitl [H2]
  · iapply (Cert.Base.owns_unread (hstage1_2 ((cfg1.slots t 2).cast nbuf1_2)) _ _).2; iexact H2
  isplitl [H3]
  · iapply (Cert.Base.owns_unread (hstage1_3 ((cfg1.slots t 3).cast nbuf1_3)) _ _).2; iexact H3
  iapply (Cert.Base.owns_unread (hstage1_4 ((cfg1.slots t 4).cast nbuf1_4)) _ _).2; iexact H4

theorem defs₀_row (t : Fin cfg1.N) :
    defs₀ (F := F) .tc cfg1.body (cfg1.bodyArgs t (cfg1.slots t)) = bodyAt1 t := by
  unfold defs₀; rw [Defs.onTc_tc]

theorem body_obligation (c : Dev nD) : BodyObligation (dat V c) (defs₀ (F := F)) Variants.none () Set.univ := fun t => by
  rw [bigSep_W1, bigSep_W1, defs₀_row]
  exact triple_restated (sound_body V c t) rfl .rfl fun _ => .rfl

/-! ## Entering and leaving the region -/

/-- The body's own two semaphores, the arrays its copies read, and those they write. -/
abbrev osem : Fin 2 → SemLoc sig := ![SemLoc.dma 23, SemLoc.dma 24]
theorem ownSemFacts : Pipeline.OwnSemFacts spec1 osem := by decide
abbrev Hr : Finset (Ref sig .tc) := {main_v12_0, main_v12_1}
abbrev Hw : Finset (Ref sig .tc) := {main_v13_1, main_v13_2}

/-- The unscoped buffers as the region leaves them. -/
def leave (c : Dev nD) : Valuation τ sig (Elt F) :=
  Function.update (Function.update (Function.update (V c) (Proc.devRef .tc main_v13_0) ((dat V c).arrAt 4 cfg1.N))
    (Proc.devRef .tc main_v13_1) ((Memref.isWhole_whole main_v13_1).unread (acc V c 512).1))
    (Proc.devRef .tc main_v13_2) ((Memref.isWhole_whole main_v13_2).unread (acc V c 512).2)

theorem leave_of (c : Dev nD) (b : DevRef τ sig) (h0 : b ≠ Proc.devRef .tc main_v13_0) (h1 : b ≠ Proc.devRef .tc main_v13_1) (h2 : b ≠ Proc.devRef .tc main_v13_2) :
    leave V c b = V c b := by
  unfold leave
  rw [Function.update_of_ne h2, Function.update_of_ne h1, Function.update_of_ne h0]
theorem leave_0 (c : Dev nD) : leave V c (Proc.devRef .tc main_v13_0) = (dat V c).arrAt 4 cfg1.N := by
  unfold leave
  rw [Function.update_of_ne (by decide), Function.update_of_ne (by decide), Function.update_self]
theorem leave_1 (c : Dev nD) : leave V c (Proc.devRef .tc main_v13_1) = (Memref.isWhole_whole main_v13_1).unread (acc V c 512).1 := by
  unfold leave
  rw [Function.update_of_ne (by decide), Function.update_self]
theorem leave_2 (c : Dev nD) : leave V c (Proc.devRef .tc main_v13_2) = (Memref.isWhole_whole main_v13_2).unread (acc V c 512).2 := by
  unfold leave
  rw [Function.update_self]

theorem arr_start (c : Dev nD) (w : Fin cfg1.W) : (dat V c).arrAt w 0 = V c (Proc.devRef .tc (Pipeline.arrRef spec1 w)) :=
  A_eq V c w

theorem arr_end (c : Dev nD) (w : Fin cfg1.W) : (dat V c).arrAt w cfg1.N = leave V c (Proc.devRef .tc (Pipeline.arrRef spec1 w)) := by
  fin_cases w
  · exact ((dat V c).arrAt_in 0 rfl _).trans ((A_eq V c 0).trans (leave_of V c _ (by decide) (by decide) (by decide)).symm)
  · exact ((dat V c).arrAt_in 1 rfl _).trans ((A_eq V c 1).trans (leave_of V c _ (by decide) (by decide) (by decide)).symm)
  · exact ((dat V c).arrAt_in 2 rfl _).trans ((A_eq V c 2).trans (leave_of V c _ (by decide) (by decide) (by decide)).symm)
  · exact ((dat V c).arrAt_in 3 rfl _).trans ((A_eq V c 3).trans (leave_of V c _ (by decide) (by decide) (by decide)).symm)
  · exact (leave_0 V c).symm

set_option maxHeartbeats 2000000 in
theorem hin (c : Dev nD) :
    iprop(Pipeline.scopedRest (Ix := Unit) (Name := ℕ) (U := UU) (Lvl := ℕ) (Val := Elt F) spec1 c ∗ (∃ r, prngReg c r) ∗ Pipeline.ownSems0 osem c
        ∗ (bigSep Hr fun b => ((c.tc : Thread nD τ).loc b) ↦{fullShare} V c (Proc.devRef .tc b))
        ∗ (bigSep Hw fun b => ((c.tc : Thread nD τ).loc b) ↦{fullShare} V c (Proc.devRef .tc b))
        ∗ Transfers.MayWaits (c : Thread nD τ) () (0 : CellTallies nD τ sig Unit)) ⊢ (Phi V c 0 : sProp 𝕄) := by
  rw [scopedRest1_split, Pipeline.ownSems0_eq_of_list c osem [0, 1] (by decide) (by decide),
    bigSep_eq_bigSepL_of_eq [main_v12_0, main_v12_1] (S := Hr) (by decide) (by decide),
    bigSep_eq_bigSepL_of_eq [main_v13_1, main_v13_2] (S := Hw) (by decide) (by decide)]
  rw [Cert.Base.bigSepL_pair, Cert.Base.bigSepL_pair, Cert.Base.bigSepL_pair]
  unfold Phi
  have e1 : (Memref.isWhole_whole main_v12_0).unread (wgu V c) = V c (Proc.devRef .tc main_v12_0) := Memref.IsWhole.unread_read _ _
  have e2 : (Memref.isWhole_whole main_v12_1).unread (wdn V c) = V c (Proc.devRef .tc main_v12_1) := Memref.IsWhole.unread_read _ _
  have e3 : (Memref.isWhole_whole main_v13_1).unread (outv1 V c 0) = V c (Proc.devRef .tc main_v13_1) := Memref.IsWhole.unread_read _ _
  have e4 : (Memref.isWhole_whole main_v13_2).unread (outv2 V c 0) = V c (Proc.devRef .tc main_v13_2) := Memref.IsWhole.unread_read _ _
  rw [e1, e2, e3, e4]
  iintro ⟨⟨⟨⟨%f0, S0⟩, ⟨%f1, S1⟩, ⟨%f2, S2⟩, ⟨%f3, S3⟩, ⟨%f4, S4⟩, ⟨%f5, S5⟩, ⟨%f6, S6⟩, ⟨%f7, S7⟩, ⟨%f8, S8⟩, ⟨%f9, S9⟩⟩, Hrest⟩, Hp, ⟨Hs0, Hs1⟩, ⟨Hw1, Hw2⟩, ⟨Ho1, Ho2⟩, -⟩
  isplitl [Hw1]; · iexact Hw1
  isplitl [Hw2]; · iexact Hw2
  isplitl [Ho1]; · iexact Ho1
  isplitl [Ho2]; · iexact Ho2
  isplitl [S0 S1 S2 S3]
  · iexists (Memref.whole cc1_scratch0).view.read (Elt F) f0, (Memref.whole cc1_scratch1).view.read (Elt F) f1, (Memref.whole cc1_scratch2).view.read (Elt F) f2, (Memref.whole cc1_scratch3).view.read (Elt F) f3
    rw [Memref.IsWhole.unread_read, Memref.IsWhole.unread_read, Memref.IsWhole.unread_read, Memref.IsWhole.unread_read]
    isplitr; · ipureintro; exact fun h => absurd rfl h
    isplitl [S0]; · iexact S0
    isplitl [S1]; · iexact S1
    isplitl [S2]; · iexact S2
    iexact S3
  isplitl [S4]; · iexists f4; iexact S4
  isplitl [S5]; · iexists f5; iexact S5
  isplitl [S6]; · iexists f6; iexact S6
  isplitl [S7]; · iexists f7; iexact S7
  isplitl [S8]; · iexists f8; iexact S8
  isplitl [S9]; · iexists f9; iexact S9
  isplitl [Hrest]; · iexact Hrest
  isplitl [Hs0]; · iexact Hs0
  isplitl [Hs1]; · iexact Hs1
  iexact Hp

set_option maxHeartbeats 2000000 in
theorem hout (c : Dev nD) :
    (Phi V c 512 : sProp 𝕄) ⊢ iprop(Pipeline.scopedRest (Ix := Unit) (Name := ℕ) (U := UU) (Lvl := ℕ) (Val := Elt F) spec1 c ∗ (∃ r, prngReg c r) ∗ Pipeline.ownSems0 osem c
        ∗ (bigSep Hr fun b => ((c.tc : Thread nD τ).loc b) ↦{fullShare} V c (Proc.devRef .tc b))
        ∗ (bigSep Hw fun b => ((c.tc : Thread nD τ).loc b) ↦{fullShare} leave V c (Proc.devRef .tc b))) := by
  rw [scopedRest1_split, Pipeline.ownSems0_eq_of_list c osem [0, 1] (by decide) (by decide),
    bigSep_eq_bigSepL_of_eq [main_v12_0, main_v12_1] (S := Hr) (by decide) (by decide),
    bigSep_eq_bigSepL_of_eq [main_v13_1, main_v13_2] (S := Hw) (by decide) (by decide)]
  rw [Cert.Base.bigSepL_pair, Cert.Base.bigSepL_pair, Cert.Base.bigSepL_pair]
  unfold Phi
  have e1 : (Memref.isWhole_whole main_v12_0).unread (wgu V c) = V c (Proc.devRef .tc main_v12_0) := Memref.IsWhole.unread_read _ _
  have e2 : (Memref.isWhole_whole main_v12_1).unread (wdn V c) = V c (Proc.devRef .tc main_v12_1) := Memref.IsWhole.unread_read _ _
  rw [e1, e2, leave_1, leave_2, show outv1 V c 512 = (acc V c 512).1 from if_pos rfl, show outv2 V c 512 = (acc V c 512).2 from if_pos rfl]
  iintro ⟨Hw1, Hw2, Ho1, Ho2, ⟨%g, %d, %a, %b, -, S0, S1, S2, S3⟩, ⟨%f4, S4⟩, ⟨%f5, S5⟩, ⟨%f6, S6⟩, ⟨%f7, S7⟩, ⟨%f8, S8⟩, ⟨%f9, S9⟩, Hrest, Hs0, Hs1, Hp⟩
  isplitl [S0 S1 S2 S3 S4 S5 S6 S7 S8 S9 Hrest]
  · isplitl [S0 S1 S2 S3 S4 S5 S6 S7 S8 S9]
    · isplitl [S0]; · iexists _; iexact S0
      isplitl [S1]; · iexists _; iexact S1
      isplitl [S2]; · iexists _; iexact S2
      isplitl [S3]; · iexists _; iexact S3
      isplitl [S4]; · iexists _; iexact S4
      isplitl [S5]; · iexists _; iexact S5
      isplitl [S6]; · iexists _; iexact S6
      isplitl [S7]; · iexists _; iexact S7
      isplitl [S8]; · iexists _; iexact S8
      iexists _; iexact S9
    iexact Hrest
  isplitl [Hp]; · iexact Hp
  isplitl [Hs0 Hs1]
  · isplitl [Hs0]; · iexact Hs0
    iexact Hs1
  isplitl [Hw1 Hw2]
  · isplitl [Hw1]; · iexact Hw1
    iexact Hw2
  isplitl [Ho1]; · iexact Ho1
  iexact Ho2

end Cert.KernelIdeal.Region1

end
-- ==== Proof.IdealBody2.lean ====
/-
  One grid point of the fused pass `cc2_mlp_f1280`, run once at symbolic operands. The first point loads the weight slices
  and clears the two accumulators; every point then computes the result block and adds to the accumulators; the last
  point writes the accumulators out. `run` says what a point leaves, as functions of the four carried buffers.
-/
module

public import proofs.«01_k».proof.Proof.Gen.KernelIdeal.Skeleton
public import proofs.«01_k».proof.Proof.Base

@[expose] public section

set_option maxRecDepth 16384

noncomputable section

namespace Cert.KernelIdeal.Body2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipeline library's, beside the counters of the body's own transfers. -/
abbrev UU : Type := UR sig nD τ × Counters

local notation "𝕄" => MT nD τ sig Unit (Elt F) ℕ UU ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

theorem pt_eq (c : Dev nD) {sp : Space} {S : Shape} {e : EltTy} (M : Memref sig .tc sp S e) {f g : Bf (F := F) c M} (h : f = g) :
    pt c M f ⊢ pt c M g := by
  subst h; exact .rfl

/-- The slice of the first weight array that this pass uses. -/
def wguSlice (x : Vec F S1280x6912 .bf16) : Vec F S1280x2560 .bf16 :=
  fun y => x ((Rect.unit (s := S1280x6912) ![0, 2560] S1280x2560.size inb_S1280x6912_S1280x2560_0_2560).emb y)

/-- The slice of the second weight array that this pass uses. -/
def wdnSlice (x : Vec F S3456x1280 .bf16) : Vec F S1280x1280 .bf16 :=
  fun y => x ((Rect.unit (s := S3456x1280) ![1280, 0] S1280x1280.size inb_S3456x1280_S1280x1280_1280_0).emb y)

/-- What a point finds in the first weight buffer: the slice if it is the first point, what was there otherwise. -/
def wguIn (i : grid2.Coords) (x : Vec F S1280x6912 .bf16) (g : Vec F S1280x2560 .bf16) : Vec F S1280x2560 .bf16 := if (i 0).val = 0 then wguSlice x else g

/-- What a point finds in the second weight buffer. -/
def wdnIn (i : grid2.Coords) (x : Vec F S3456x1280 .bf16) (g : Vec F S1280x1280 .bf16) : Vec F S1280x1280 .bf16 := if (i 0).val = 0 then wdnSlice x else g

/-- What a point finds in an accumulator: zeros if it is the first point. -/
def accIn (i : grid2.Coords) {S : Shape} (z g : Vec F S .f32) : Vec F S .f32 := if (i 0).val = 0 then z else g

/-- What a point leaves in an output array: the accumulator if it is the last point. -/
def accOut (i : grid2.Coords) {S : Shape} (a g : Vec F S .f32) : Vec F S .f32 := if (i 0).val = 511 then a else g

theorem coord_lt (i : grid2.Coords) : (i 0).val < 2 ^ 32 :=
  lt_trans (i 0).isLt (by decide)

/-- Contents under the printed first-point test are the contents that read the values under the plain test. -/
theorem dif_first (i : grid2.Coords) {b : BitVec 1}
    (hb : b = Scalar.cmpi .ne (Scalar.extui (Scalar.cmpi .eq (BitVec.ofNat 32 (i 0).val) (BitVec.ofNat 32 0))) 0#32)
    {sp : Space} {S : Shape} {e : EltTy} {M : Memref sig .tc sp S e} (h : M.IsWhole) {x : M.view.ty.Contents (Elt F)} {x' y : Vec F S e} (hx : x = h.unread x') :
    (if _ : b = 1#1 then x else h.unread y) = h.unread (if (i 0).val = 0 then x' else y) := by
  subst hb hx
  have := Cert.Base.coord_test (i 0).val 0 (coord_lt i) (by decide)
  by_cases h : (i 0).val = 0
  · rw [dif_pos (this.2 h), if_pos h]
  · rw [dif_neg (mt this.1 h), if_neg h]

/-- The same for the last-point test. -/
theorem dif_last (i : grid2.Coords) {b : BitVec 1}
    (hb : b = Scalar.cmpi .ne (Scalar.extui (Scalar.cmpi .eq (BitVec.ofNat 32 (i 0).val) (BitVec.ofNat 32 511))) 0#32)
    {sp : Space} {S : Shape} {e : EltTy} {M : Memref sig .tc sp S e} (h : M.IsWhole) {x : M.view.ty.Contents (Elt F)} {x' y : Vec F S e} (hx : x = h.unread x') :
    (if _ : b = 1#1 then x else h.unread y) = h.unread (if (i 0).val = 511 then x' else y) := by
  subst hb hx
  have := Cert.Base.coord_test (i 0).val 511 (coord_lt i) (by decide)
  by_cases h : (i 0).val = 511
  · rw [dif_pos (this.2 h), if_pos h]
  · rw [dif_neg (mt this.1 h), if_neg h]

/-- A copy of a whole buffer that was written whole leaves the contents that read what was written. -/
theorem copy_whole {sp sp' : Space} {S : Shape} {M : Memref sig .tc sp S .f32} (h : M.IsWhole) {M' : Memref sig .tc sp' S .f32} (h' : M'.IsWhole)
    (f : M.view.ty.Contents (Elt F)) {g : M'.view.ty.Contents (Elt F)} {w : Vec F S .f32} (hg : g = h'.unread w) :
    M.view.write (Elt F) f (M'.view.read (Elt F) g) Finset.univ = h.unread w := by
  rw [Cert.Base.write_whole h, hg, h'.read_unread]

/-- Reading a slice of a whole array reads the array at the slice's indices. -/
theorem slice_read {sp : Space} {S : Shape} {e : EltTy} {M : Memref sig .tc sp S e} (h : M.IsWhole) (x : Vec F S e) (r : Rect S) :
    (M.view.slice r).read (Elt F) (h.unread x) = fun y => x (r.emb y) :=
  funext fun y => congrFun (h.read_unread x) (r.emb y)

set_option maxHeartbeats 600000 in
/-- What one point leaves in the result block and the two accumulators, as functions of the four carried buffers, with
    the proof that the point runs to its return from every buffer held whole. -/
def run (c : Dev nD)
    (M1 : Memref sig .tc .vmem S512x1280 .fp8e4m3) (h1 : M1.IsWhole)
    (M2 : Memref sig .tc .vmem S512x10 .f32) (h2 : M2.IsWhole)
    (M3 : Memref sig .tc .vmem S512x1280 .fp8e5m2) (h3 : M3.IsWhole)
    (M4 : Memref sig .tc .vmem S512x10 .f32) (h4 : M4.IsWhole)
    (M5 : Memref sig .tc .vmem S512x1280 .f32) (h5 : M5.IsWhole)
    (M6 : Memref sig .tc .hbm S1280x6912 .bf16) (h6 : M6.IsWhole)
    (M7 : Memref sig .tc .hbm S3456x1280 .bf16) (h7 : M7.IsWhole)
    (M8 : Memref sig .tc .vmem S512x1280 .f32) (h8 : M8.IsWhole)
    (M9 : Memref sig .tc .hbm S1280x2560 .f32) (h9 : M9.IsWhole)
    (M10 : Memref sig .tc .hbm S1280x1280 .f32) (h10 : M10.IsWhole)
    (M11 : Memref sig .tc .vmem S1280x2560 .bf16) (h11 : M11.IsWhole)
    (M12 : Memref sig .tc .vmem S1280x1280 .bf16) (h12 : M12.IsWhole)
    (M13 : Memref sig .tc .vmem S1280x2560 .f32) (h13 : M13.IsWhole)
    (M14 : Memref sig .tc .vmem S1280x1280 .f32) (h14 : M14.IsWhole)
    (M15 : Memref sig .tc .vmem S512x1280 .bf16) (h15 : M15.IsWhole)
    (M16 : Memref sig .tc .vmem S512x1280 .bf16) (h16 : M16.IsWhole)
    (M17 : Memref sig .tc .vmem S1280x512 .bf16) (h17 : M17.IsWhole)
    (M18 : Memref sig .tc .vmem S1280x512 .bf16) (h18 : M18.IsWhole)
    (M19 : Memref sig .tc .vmem S512x1280 .bf16) (h19 : M19.IsWhole)
    (M20 : Memref sig .tc .vmem S512x2560 .bf16) (h20 : M20.IsWhole)
    (x1 : Vec F S512x1280 .fp8e4m3) (x2 : Vec F S512x10 .f32) (x3 : Vec F S512x1280 .fp8e5m2) (x4 : Vec F S512x10 .f32) (x5 : Vec F S512x1280 .f32) :
    { W : (Vec F S1280x2560 .bf16 → Vec F S1280x1280 .bf16 → Vec F S1280x2560 .f32 → Vec F S1280x1280 .f32 → Vec F S512x1280 .f32) × (Vec F S1280x2560 .bf16 → Vec F S1280x1280 .bf16 → Vec F S1280x2560 .f32 → Vec F S1280x1280 .f32 → Vec F S1280x2560 .f32) × (Vec F S1280x2560 .bf16 → Vec F S1280x1280 .bf16 → Vec F S1280x2560 .f32 → Vec F S1280x1280 .f32 → Vec F S1280x1280 .f32) //
      ∀ (i : grid2.Coords) (x6 : Vec F S1280x6912 .bf16) (x7 : Vec F S3456x1280 .bf16) (x9 : Vec F S1280x2560 .f32) (x10 : Vec F S1280x1280 .f32) (x11 : Vec F S1280x2560 .bf16) (x12 : Vec F S1280x1280 .bf16) (x13 : Vec F S1280x2560 .f32) (x14 : Vec F S1280x1280 .f32) (f8 : Bf (F := F) c M8) (f15 : Bf (F := F) c M15) (f16 : Bf (F := F) c M16) (f17 : Bf (F := F) c M17) (f18 : Bf (F := F) c M18) (f19 : Bf (F := F) c M19) (f20 : Bf (F := F) c M20) (Wt : Waits sig Unit) (Q : PUnit → sProp 𝕄),
        iprop(pt c M1 (h1.unread x1) ∗ pt c M2 (h2.unread x2) ∗ pt c M3 (h3.unread x3) ∗ pt c M4 (h4.unread x4) ∗ pt c M5 (h5.unread x5) ∗ pt c M6 (h6.unread x6) ∗ pt c M7 (h7.unread x7) ∗ pt c M8 f8 ∗ pt c M9 (h9.unread x9) ∗ pt c M10 (h10.unread x10) ∗ pt c M11 (h11.unread x11) ∗ pt c M12 (h12.unread x12) ∗ pt c M13 (h13.unread x13) ∗ pt c M14 (h14.unread x14) ∗ pt c M15 f15 ∗ pt c M16 f16 ∗ pt c M17 f17 ∗ pt c M18 f18 ∗ pt c M19 f19 ∗ pt c M20 f20
          ∗ semVal ((c : Thread nD τ), SemLoc.dma 37) 0 ∗ semVal ((c : Thread nD τ), SemLoc.dma 38) 0 ∗ owes (c : Thread nD τ) 0 Wt
          ∗ (iprop(pt c M13 (h13.unread (W.2.1 (wguIn i x6 x11) (wdnIn i x7 x12) (accIn i (k2_pay1 (F := F)) x13) (accIn i (k2_pay2 (F := F)) x14)))
            ∗ pt c M14 (h14.unread (W.2.2 (wguIn i x6 x11) (wdnIn i x7 x12) (accIn i (k2_pay1 (F := F)) x13) (accIn i (k2_pay2 (F := F)) x14)))
            ∗ pt c M1 (h1.unread x1)
            ∗ pt c M2 (h2.unread x2)
            ∗ pt c M3 (h3.unread x3)
            ∗ pt c M4 (h4.unread x4)
            ∗ pt c M5 (h5.unread x5)
            ∗ pt c M6 (h6.unread x6)
            ∗ pt c M7 (h7.unread x7)
            ∗ pt c M8 (h8.unread (W.1 (wguIn i x6 x11) (wdnIn i x7 x12) (accIn i (k2_pay1 (F := F)) x13) (accIn i (k2_pay2 (F := F)) x14)))
            ∗ pt c M9 (h9.unread (accOut i (W.2.1 (wguIn i x6 x11) (wdnIn i x7 x12) (accIn i (k2_pay1 (F := F)) x13) (accIn i (k2_pay2 (F := F)) x14)) x9))
            ∗ pt c M10 (h10.unread (accOut i (W.2.2 (wguIn i x6 x11) (wdnIn i x7 x12) (accIn i (k2_pay1 (F := F)) x13) (accIn i (k2_pay2 (F := F)) x14)) x10))
            ∗ pt c M11 (h11.unread (wguIn i x6 x11))
            ∗ pt c M12 (h12.unread (wdnIn i x7 x12))
            ∗ (∃ f, pt c M15 f)
            ∗ (∃ f, pt c M16 f)
            ∗ (∃ f, pt c M17 f)
            ∗ (∃ f, pt c M18 f)
            ∗ (∃ f, pt c M19 f)
            ∗ (∃ f, pt c M20 f)
          ∗ semVal ((c : Thread nD τ), SemLoc.dma 37) 0 ∗ semVal ((c : Thread nD τ), SemLoc.dma 38) 0
          ∗ (∃ W', owes (c : Thread nD τ) 0 W')) -∗ Q ⟨⟩))
        ⊢ wp frame (wpE (defs₀ (F := F)) Variants.none c none) Set.univ
            (cc2_mlp_f1280 i M1 h1 M2 h2 M3 h3 M4 h4 M5 h5 M6 h6 M7 h7 M8 h8 M9 h9 M10 h10 M11 h11 M12 h12 M13 h13 M14 h14 M15 h15 M16 h16 M17 h17 M18 h18 M19 h19 M20 h20 cc2_scratch10) Q } := by
  refine ⟨⟨?_, ?_, ?_⟩, fun i x6 x7 x9 x10 x11 x12 x13 x14 f8 f15 f16 f17 f18 f19 f20 Wt Q => ?run⟩
  case run =>
    dsimp only
    iintro ⟨H1, H2, H3, H4, H5, H6, H7, H8, H9, H10, H11, H12, H13, H14, H15, H16, H17, H18, H19, H20, Hs0, Hs1, HO, Hk⟩
    set_option sl_exec.maxSteps 16 in sl_exec
    rw [show (if hc : run.sl.v2 i = 1#1 then View.write (Elt F) M11.view (h11.unread x11) (run.sl.dma0 M6 h6 x6) Finset.univ else h11.unread x11) = h11.unread (wguIn i x6 x11) from
        dif_first i rfl h11 ((Cert.Base.write_whole h11 _ _).trans (congrArg h11.unread (slice_read h6 x6 (Rect.unit (s := S1280x6912) ![0, 2560] S1280x2560.size inb_S1280x6912_S1280x2560_0_2560)))),
      show (if hc : run.sl.v2 i = 1#1 then View.write (Elt F) M12.view (h12.unread x12) (run.sl.dma0_1 M7 h7 x7) Finset.univ else h12.unread x12) = h12.unread (wdnIn i x7 x12) from
        dif_first i rfl h12 ((Cert.Base.write_whole h12 _ _).trans (congrArg h12.unread (slice_read h7 x7 (Rect.unit (s := S3456x1280) ![1280, 0] S1280x1280.size inb_S3456x1280_S1280x1280_1280_0)))),
      show (if hc : run.sl.v2 i = 1#1 then M13.view.writes (Elt F) (h13.unread x13) [⟨Rect.unit ![0, 0] S1280x2560.size inb_S1280x2560_S1280x2560_0_0, k2_pay1⟩] else h13.unread x13) = h13.unread (accIn i (k2_pay1 (F := F)) x13) from
        dif_first i rfl h13 (Cert.Base.writes_whole h13 _ (by decide) _ _),
      show (if hc : run.sl.v2 i = 1#1 then M14.view.writes (Elt F) (h14.unread x14) [⟨Rect.unit ![0, 0] S1280x1280.size inb_S1280x1280_S1280x1280_0_0, k2_pay2⟩] else h14.unread x14) = h14.unread (accIn i (k2_pay2 (F := F)) x14) from
        dif_first i rfl h14 (Cert.Base.writes_whole h14 _ (by decide) _ _)]
    generalize wguIn i x6 x11 = xG, wdnIn i x7 x12 = xD, accIn i (k2_pay1 (F := F)) x13 = xA, accIn i (k2_pay2 (F := F)) x14 = xB
    sl_exec_parts!
    sl_step
    iapply Hk
    isplitl [H13]
    · iapply (pt_eq c M13 ?e13)
      all_goals try iexact H13
      exact Cert.Base.writes_whole (off := ![0, 0]) h13 _ (by decide) _ _
    isplitl [H14]
    · iapply (pt_eq c M14 ?e14)
      all_goals try iexact H14
      exact Cert.Base.writes_whole (off := ![0, 0]) h14 _ (by decide) _ _
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · iapply (pt_eq c M8 ?e8)
      all_goals try iexact H8
      exact Cert.Base.writes_whole (off := ![0, 0]) h8 _ (by decide) _ _
    isplitl [H9]
    · iapply (pt_eq c M9 ?e9)
      all_goals try iexact H9
      exact dif_last i rfl h9 (copy_whole h9 h13 _ (Cert.Base.writes_whole (off := ![0, 0]) h13 _ (by decide) _ _))
    isplitl [H10]
    · iapply (pt_eq c M10 ?e10)
      all_goals try iexact H10
      exact dif_last i rfl h10 (copy_whole h10 h14 _ (Cert.Base.writes_whole (off := ![0, 0]) h14 _ (by decide) _ _))
    isplitl [H11]; · iexact H11
    isplitl [H12]; · iexact H12
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [Hs0]; · iexact Hs0
    isplitl [Hs1]; · iexact Hs1
    iexists _; iexact HO

end Cert.KernelIdeal.Body2

end
-- ==== Proof.IdealRegion2.lean ====
/-
  The pipelined region of the fused pass `cc2_mlp_f1280`: what it carries from one grid point to the next, and that every point
  keeps it. The weight slices are loaded at the first point and stay; the two accumulators after point `n` are `acc n`;
  after the last point the two output arrays hold the accumulators.
-/
module

public import proofs.«01_k».proof.Proof.Gen.KernelIdeal.Launch
public import proofs.«01_k».proof.Proof.Gen.KernelIdeal.Points
public import proofs.«01_k».proof.Proof.IdealBody2
public import Idealize.ShloMosaic.Lib.Pipeline.FrameBody

@[expose] public section

set_option maxRecDepth 16384

noncomputable section

namespace Cert.KernelIdeal.Region2

open Cert.KernelIdeal Cert.KernelIdeal.Gen Cert.KernelIdeal.Body2
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

-- the unscoped buffers as the region finds them
variable (V : Dev nD → Valuation τ sig (Elt F))

/-- Window `w`'s block at point `t`, read off its array as the region finds it. -/
def blk (c : Dev nD) (w : Fin cfg2.W) (t : Fin cfg2.N) : ((cfg2.win w).xblock (cfg2.grid.coords t)).Idx → Elt F (cfg2.win w).elt :=
  ((cfg2.win w).blk t).view.read (Elt F) (V c (Proc.devRef .tc (Pipeline.arrRef spec2 w)))

/-- The two weight arrays, the slices of them this pass uses, and the two output arrays at entry, by index. -/
def wgu (c : Dev nD) : Vec F S1280x6912 .bf16 := (Memref.whole main_v12_0).view.read (Elt F) (V c (Proc.devRef .tc main_v12_0))
def wdn (c : Dev nD) : Vec F S3456x1280 .bf16 := (Memref.whole main_v12_1).view.read (Elt F) (V c (Proc.devRef .tc main_v12_1))
def wguS (c : Dev nD) : Vec F S1280x2560 .bf16 := wguSlice (wgu V c)
def wdnS (c : Dev nD) : Vec F S1280x1280 .bf16 := wdnSlice (wdn V c)
def old1 (c : Dev nD) : Vec F S1280x2560 .f32 := (Memref.whole main_v14_1).view.read (Elt F) (V c (Proc.devRef .tc main_v14_1))
def old2 (c : Dev nD) : Vec F S1280x1280 .f32 := (Memref.whole main_v14_2).view.read (Elt F) (V c (Proc.devRef .tc main_v14_2))

/-- The body at point `t`, run at the point's buffers and blocks. -/
abbrev step (c : Dev nD) (t : Fin cfg2.N) := run (F := F) c
    (st2_0 t) (hstage2_0 ((cfg2.slots t 0).cast nbuf2_0))
    (st2_1 t) (hstage2_1 ((cfg2.slots t 1).cast nbuf2_1))
    (st2_2 t) (hstage2_2 ((cfg2.slots t 2).cast nbuf2_2))
    (st2_3 t) (hstage2_3 ((cfg2.slots t 3).cast nbuf2_3))
    (st2_4 t) (hstage2_4 ((cfg2.slots t 4).cast nbuf2_4))
    (Memref.whole main_v12_0) (Memref.isWhole_whole _)
    (Memref.whole main_v12_1) (Memref.isWhole_whole _)
    (st2_5 t) (hstage2_5 ((cfg2.slots t 5).cast nbuf2_5))
    (Memref.whole main_v14_1) (Memref.isWhole_whole _)
    (Memref.whole main_v14_2) (Memref.isWhole_whole _)
    (Memref.whole cc2_scratch0) (Memref.isWhole_whole _)
    (Memref.whole cc2_scratch1) (Memref.isWhole_whole _)
    (Memref.whole cc2_scratch2) (Memref.isWhole_whole _)
    (Memref.whole cc2_scratch3) (Memref.isWhole_whole _)
    (Memref.whole cc2_scratch4) (Memref.isWhole_whole _)
    (Memref.whole cc2_scratch5) (Memref.isWhole_whole _)
    (Memref.whole cc2_scratch6) (Memref.isWhole_whole _)
    (Memref.whole cc2_scratch7) (Memref.isWhole_whole _)
    (Memref.whole cc2_scratch8) (Memref.isWhole_whole _)
    (Memref.whole cc2_scratch9) (Memref.isWhole_whole _)
    (blk V c 0 t) (blk V c 1 t) (blk V c 2 t) (blk V c 3 t) (blk V c 4 t)

/-- The two accumulators after `n` points. -/
def acc (c : Dev nD) : ℕ → Vec F S1280x2560 .f32 × Vec F S1280x1280 .f32
  | 0 => (k2_pay1 (F := F), k2_pay2 (F := F))
  | n + 1 => if h : n < cfg2.N then
      ((step V c ⟨n, h⟩).1.2.1 (wguS V c) (wdnS V c) (acc c n).1 (acc c n).2, (step V c ⟨n, h⟩).1.2.2 (wguS V c) (wdnS V c) (acc c n).1 (acc c n).2)
    else acc c n

theorem acc_zero (c : Dev nD) : acc V c 0 = (k2_pay1 (F := F), k2_pay2 (F := F)) := by unfold acc; rfl

theorem acc_succ (c : Dev nD) (t : Fin cfg2.N) : acc V c (t.val + 1) =
    ((step V c t).1.2.1 (wguS V c) (wdnS V c) (acc V c t.val).1 (acc V c t.val).2, (step V c t).1.2.2 (wguS V c) (wdnS V c) (acc V c t.val).1 (acc V c t.val).2) := by
  rw [acc, dif_pos t.isLt]

/-- The result block point `t` writes. -/
def dxo (c : Dev nD) (t : Fin cfg2.N) : Vec F S512x1280 .f32 := (step V c t).1.1 (wguS V c) (wdnS V c) (acc V c t.val).1 (acc V c t.val).2

/-- The output arrays before point `n`: untouched until the last point has run. -/
def outv1 (c : Dev nD) (n : ℕ) : Vec F S1280x2560 .f32 := if n = 512 then (acc V c 512).1 else old1 V c
def outv2 (c : Dev nD) (n : ℕ) : Vec F S1280x1280 .f32 := if n = 512 then (acc V c 512).2 else old2 V c

/-- What the four carried buffers hold before point `n`, once a point has run. -/
def Carried (c : Dev nD) (n : ℕ) (g : Vec F S1280x2560 .bf16) (d : Vec F S1280x1280 .bf16) (a : Vec F S1280x2560 .f32) (b : Vec F S1280x1280 .f32) : Prop :=
  n ≠ 0 → g = wguS V c ∧ d = wdnS V c ∧ a = (acc V c n).1 ∧ b = (acc V c n).2

/-- The invariant before point `n`. -/
def Phi (c : Dev nD) (n : ℕ) : sProp 𝕄 :=
  iprop(pt c (Memref.whole main_v12_0) ((Memref.isWhole_whole main_v12_0).unread (wgu V c)) ∗ pt c (Memref.whole main_v12_1) ((Memref.isWhole_whole main_v12_1).unread (wdn V c))
    ∗ pt c (Memref.whole main_v14_1) ((Memref.isWhole_whole main_v14_1).unread (outv1 V c n)) ∗ pt c (Memref.whole main_v14_2) ((Memref.isWhole_whole main_v14_2).unread (outv2 V c n))
    ∗ (∃ g d a b, ⌜Carried V c n g d a b⌝ ∗ pt c (Memref.whole cc2_scratch0) ((Memref.isWhole_whole cc2_scratch0).unread g) ∗ pt c (Memref.whole cc2_scratch1) ((Memref.isWhole_whole cc2_scratch1).unread d) ∗ pt c (Memref.whole cc2_scratch2) ((Memref.isWhole_whole cc2_scratch2).unread a) ∗ pt c (Memref.whole cc2_scratch3) ((Memref.isWhole_whole cc2_scratch3).unread b))
    ∗ (∃ f, pt (F := F) c (Memref.whole cc2_scratch4) f)
    ∗ (∃ f, pt (F := F) c (Memref.whole cc2_scratch5) f)
    ∗ (∃ f, pt (F := F) c (Memref.whole cc2_scratch6) f)
    ∗ (∃ f, pt (F := F) c (Memref.whole cc2_scratch7) f)
    ∗ (∃ f, pt (F := F) c (Memref.whole cc2_scratch8) f)
    ∗ (∃ f, pt (F := F) c (Memref.whole cc2_scratch9) f)
    ∗ Pipeline.scopedRestBut (Ix := Unit) (Name := ℕ) (U := UU) (Lvl := ℕ) (Val := Elt F) spec2 c [cc2_scratch0, cc2_scratch1, cc2_scratch2, cc2_scratch3, cc2_scratch4, cc2_scratch5, cc2_scratch6, cc2_scratch7, cc2_scratch8, cc2_scratch9]
    ∗ semVal ((c : Thread nD τ), SemLoc.dma 37) 0 ∗ semVal ((c : Thread nD τ), SemLoc.dma 38) 0
    ∗ (∃ r, prngReg c r))

/-- The region's proof data on core `c`. -/
def dat (c : Dev nD) : Dat τ (Elt F) Unit ℕ UU ℕ cfg2 c where
  A w := V c (Proc.devRef .tc (Pipeline.arrRef spec2 w))
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => dxo V c t
  Φ t := Phi V c t.val
  q _ := fullShare
  owed _ := 0

theorem A_eq (c : Dev nD) (w : Fin cfg2.W) : (dat V c).A w = V c (Proc.devRef .tc (Pipeline.arrRef spec2 w)) := by
  dsimp only [dat]

theorem after_0 (c : Dev nD) (t : Fin cfg2.N) : (dat V c).after 0 t = blk V c 0 t := by dsimp only [dat]
theorem after_1 (c : Dev nD) (t : Fin cfg2.N) : (dat V c).after 1 t = blk V c 1 t := by dsimp only [dat]
theorem after_2 (c : Dev nD) (t : Fin cfg2.N) : (dat V c).after 2 t = blk V c 2 t := by dsimp only [dat]
theorem after_3 (c : Dev nD) (t : Fin cfg2.N) : (dat V c).after 3 t = blk V c 3 t := by dsimp only [dat]
theorem after_4 (c : Dev nD) (t : Fin cfg2.N) : (dat V c).after 4 t = blk V c 4 t := by dsimp only [dat]
theorem after_5 (c : Dev nD) (t : Fin cfg2.N) : (dat V c).after 5 t = dxo V c t := by dsimp only [dat]

/-- Each input's staging buffer holds its block when the body runs. -/
theorem before_0 (c : Dev nD) (t : Fin cfg2.N) (d) : (dat V c).before 0 t d = blk V c 0 t :=
  ((dat V c).before_in_eq_fetched 0 rfl (fun _ => rfl) (fun _ _ _ => rfl) (fun t => by rw [after_0]; unfold Dat.blockOf blk; rw [A_eq]; try rfl) t d).trans
    (by unfold Dat.fetched Dat.blockOf blk; rw [A_eq]; try rfl)
theorem before_1 (c : Dev nD) (t : Fin cfg2.N) (d) : (dat V c).before 1 t d = blk V c 1 t :=
  ((dat V c).before_in_eq_fetched 1 rfl (fun _ => rfl) (fun _ _ _ => rfl) (fun t => by rw [after_1]; unfold Dat.blockOf blk; rw [A_eq]; try rfl) t d).trans
    (by unfold Dat.fetched Dat.blockOf blk; rw [A_eq]; try rfl)
theorem before_2 (c : Dev nD) (t : Fin cfg2.N) (d) : (dat V c).before 2 t d = blk V c 2 t :=
  ((dat V c).before_in_eq_fetched 2 rfl (fun _ => rfl) (fun _ _ _ => rfl) (fun t => by rw [after_2]; unfold Dat.blockOf blk; rw [A_eq]; try rfl) t d).trans
    (by unfold Dat.fetched Dat.blockOf blk; rw [A_eq]; try rfl)
theorem before_3 (c : Dev nD) (t : Fin cfg2.N) (d) : (dat V c).before 3 t d = blk V c 3 t :=
  ((dat V c).before_in_eq_fetched 3 rfl (fun _ => rfl) (fun _ _ _ => rfl) (fun t => by rw [after_3]; unfold Dat.blockOf blk; rw [A_eq]; try rfl) t d).trans
    (by unfold Dat.fetched Dat.blockOf blk; rw [A_eq]; try rfl)
theorem before_4 (c : Dev nD) (t : Fin cfg2.N) (d) : (dat V c).before 4 t d = blk V c 4 t :=
  ((dat V c).before_in_eq_fetched 4 rfl (fun _ => rfl) (fun _ _ _ => rfl) (fun t => by rw [after_4]; unfold Dat.blockOf blk; rw [A_eq]; try rfl) t d).trans
    (by unfold Dat.fetched Dat.blockOf blk; rw [A_eq]; try rfl)

theorem N_eq : cfg2.N = 512 := N_2

/-- A point's only coordinate is its number. -/
theorem coord_val (t : Fin cfg2.N) : (grid2.coords t 0).val = t.val := by
  have h := Pipeline.Grid.coords_val (G := grid2) t 0 (S := 1) (B := 512) (by decide) rfl
  have := t.isLt; have := N_eq
  rw [h, Nat.div_one, Nat.mod_eq_of_lt (by omega)]

/-! ## What a point finds and leaves, in terms of the invariant -/

theorem wguIn_eq (c : Dev nD) (t : Fin cfg2.N) {g : Vec F S1280x2560 .bf16} (h : t.val ≠ 0 → g = wguS V c) :
    wguIn (grid2.coords t) (wgu V c) g = wguS V c := by
  unfold wguIn
  by_cases h0 : t.val = 0
  · rw [if_pos (by rw [coord_val, h0])]; rfl
  · rw [if_neg (by rw [coord_val]; exact h0), h h0]

theorem wdnIn_eq (c : Dev nD) (t : Fin cfg2.N) {g : Vec F S1280x1280 .bf16} (h : t.val ≠ 0 → g = wdnS V c) :
    wdnIn (grid2.coords t) (wdn V c) g = wdnS V c := by
  unfold wdnIn
  by_cases h0 : t.val = 0
  · rw [if_pos (by rw [coord_val, h0])]; rfl
  · rw [if_neg (by rw [coord_val]; exact h0), h h0]

theorem accIn_eq1 (c : Dev nD) (t : Fin cfg2.N) {a : Vec F S1280x2560 .f32} (h : t.val ≠ 0 → a = (acc V c t.val).1) :
    accIn (grid2.coords t) (k2_pay1 (F := F)) a = (acc V c t.val).1 := by
  unfold accIn
  by_cases h0 : t.val = 0
  · rw [if_pos (by rw [coord_val, h0]), h0, acc_zero]
  · rw [if_neg (by rw [coord_val]; exact h0), h h0]

theorem accIn_eq2 (c : Dev nD) (t : Fin cfg2.N) {a : Vec F S1280x1280 .f32} (h : t.val ≠ 0 → a = (acc V c t.val).2) :
    accIn (grid2.coords t) (k2_pay2 (F := F)) a = (acc V c t.val).2 := by
  unfold accIn
  by_cases h0 : t.val = 0
  · rw [if_pos (by rw [coord_val, h0]), h0, acc_zero]
  · rw [if_neg (by rw [coord_val]; exact h0), h h0]

theorem accOut_eq1 (c : Dev nD) (t : Fin cfg2.N) :
    accOut (grid2.coords t) (acc V c (t.val + 1)).1 (outv1 V c t.val) = outv1 V c (t.val + 1) := by
  have := t.isLt; have := N_eq
  unfold accOut outv1
  by_cases h0 : t.val = 511
  · rw [if_pos (by rw [coord_val, h0]), if_pos (by omega), h0]
  · rw [if_neg (by rw [coord_val]; exact h0), if_neg (by omega), if_neg (by omega)]

theorem accOut_eq2 (c : Dev nD) (t : Fin cfg2.N) :
    accOut (grid2.coords t) (acc V c (t.val + 1)).2 (outv2 V c t.val) = outv2 V c (t.val + 1) := by
  have := t.isLt; have := N_eq
  unfold accOut outv2
  by_cases h0 : t.val = 511
  · rw [if_pos (by rw [coord_val, h0]), if_pos (by omega), h0]
  · rw [if_neg (by rw [coord_val]; exact h0), if_neg (by omega), if_neg (by omega)]

theorem acc1_succ (c : Dev nD) (t : Fin cfg2.N) :
    (step V c t).1.2.1 (wguS V c) (wdnS V c) (acc V c t.val).1 (acc V c t.val).2 = (acc V c (t.val + 1)).1 := by rw [acc_succ]
theorem acc2_succ (c : Dev nD) (t : Fin cfg2.N) :
    (step V c t).1.2.2 (wguS V c) (wdnS V c) (acc V c t.val).1 (acc V c t.val).2 = (acc V c (t.val + 1)).2 := by rw [acc_succ]

/-! ## The body obligation -/

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t))

theorem Phi_castSucc (c : Dev nD) (t : Fin cfg2.N) : (dat V c).Φ t.castSucc = Phi V c t.val := by
  dsimp only [dat]; rfl
theorem Phi_succ (c : Dev nD) (t : Fin cfg2.N) : (dat V c).Φ t.succ = Phi V c (t.val + 1) := by
  dsimp only [dat]; rfl

set_option maxHeartbeats 2000000 in
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4, after_0, after_1, after_2, after_3, after_4, after_5]
  rw [Phi_castSucc, Phi_succ]
  unfold Dat.owesAt Pipeline.owesWithin
  rw [show (dat V c).owed t.castSucc = 0 from rfl, show (dat V c).owed t.succ = 0 from rfl]
  unfold Phi
  iintro ⟨⟨Hw1, Hw2, Ho1, Ho2, ⟨%g, %d, %a, %b, %hcar, Hg, Hd, Ha, Hb⟩, ⟨%f4, S4⟩, ⟨%f5, S5⟩, ⟨%f6, S6⟩, ⟨%f7, S7⟩, ⟨%f8, S8⟩, ⟨%f9, S9⟩, Hrest, Hs0, Hs1, Hp⟩, ⟨%Wt, -, HO⟩, ⟨%e0, H0⟩, ⟨%e1, H1⟩, ⟨%e2, H2⟩, ⟨%e3, H3⟩, ⟨%e4, H4⟩, ⟨%e5, H5⟩⟩
  ihave H0 := (Cert.Base.owns_unread (hstage2_0 ((cfg2.slots t 0).cast nbuf2_0)) _ _).1 $$ H0
  ihave H1 := (Cert.Base.owns_unread (hstage2_1 ((cfg2.slots t 1).cast nbuf2_1)) _ _).1 $$ H1
  ihave H2 := (Cert.Base.owns_unread (hstage2_2 ((cfg2.slots t 2).cast nbuf2_2)) _ _).1 $$ H2
  ihave H3 := (Cert.Base.owns_unread (hstage2_3 ((cfg2.slots t 3).cast nbuf2_3)) _ _).1 $$ H3
  ihave H4 := (Cert.Base.owns_unread (hstage2_4 ((cfg2.slots t 4).cast nbuf2_4)) _ _).1 $$ H4
  ihave H5 := (Cert.Base.owns_unread (hstage2_5 ((cfg2.slots t 5).cast nbuf2_5)) _ _).1 $$ H5
  iapply ((step V c t).2 (grid2.coords t) (wgu V c) (wdn V c) (outv1 V c t.val) (outv2 V c t.val) g d a b _ f4 f5 f6 f7 f8 f9 Wt _)
  rw [wguIn_eq V c t fun h => (hcar h).1, wdnIn_eq V c t fun h => (hcar h).2.1, accIn_eq1 V c t fun h => (hcar h).2.2.1, accIn_eq2 V c t fun h => (hcar h).2.2.2,
    acc1_succ, acc2_succ, accOut_eq1, accOut_eq2]
  isplitl [H0]; · iexact H0
  isplitl [H1]; · iexact H1
  isplitl [H2]; · iexact H2
  isplitl [H3]; · iexact H3
  isplitl [H4]; · iexact H4
  isplitl [Hw1]; · iexact Hw1
  isplitl [Hw2]; · iexact Hw2
  isplitl [H5]; · iexact H5
  isplitl [Ho1]; · iexact Ho1
  isplitl [Ho2]; · iexact Ho2
  isplitl [Hg]; · iexact Hg
  isplitl [Hd]; · iexact Hd
  isplitl [Ha]; · iexact Ha
  isplitl [Hb]; · iexact Hb
  isplitl [S4]; · iexact S4
  isplitl [S5]; · iexact S5
  isplitl [S6]; · iexact S6
  isplitl [S7]; · iexact S7
  isplitl [S8]; · iexact S8
  isplitl [S9]; · iexact S9
  isplitl [Hs0]; · iexact Hs0
  isplitl [Hs1]; · iexact Hs1
  isplitl [HO]; · iexact HO
  iintro ⟨Ha, Hb, H0, H1, H2, H3, H4, Hw1, Hw2, H5, Ho1, Ho2, Hg, Hd, S4, S5, S6, S7, S8, S9, Hs0, Hs1, ⟨%W', HO⟩⟩
  isplitl [Hw1 Hw2 Ho1 Ho2 Hg Hd Ha Hb S4 S5 S6 S7 S8 S9 Hrest Hs0 Hs1 Hp]
  · isplitl [Hw1]; · iexact Hw1
    isplitl [Hw2]; · iexact Hw2
    isplitl [Ho1]; · iexact Ho1
    isplitl [Ho2]; · iexact Ho2
    isplitl [Hg Hd Ha Hb]
    · iexists _, _, _, _
      isplitr
      swap
      · isplitl [Hg]; · iexact Hg
        isplitl [Hd]; · iexact Hd
        isplitl [Ha]; · iexact Ha
        iexact Hb
      ipureintro
      exact fun _ => ⟨rfl, rfl, rfl, rfl⟩
    isplitl [S4]; · iexact S4
    isplitl [S5]; · iexact S5
    isplitl [S6]; · iexact S6
    isplitl [S7]; · iexact S7
    isplitl [S8]; · iexact S8
    isplitl [S9]; · iexact S9
    isplitl [Hrest]; · iexact Hrest
    isplitl [Hs0]; · iexact Hs0
    isplitl [Hs1]; · iexact Hs1
    iexact Hp
  isplitl [HO]
  · iexists W'; isplitr; · ipureintro; exact fun _ _ => Or.inl trivial
    iexact HO
  isplitl [H0]
  · iapply (Cert.Base.owns_unread (hstage2_0 ((cfg2.slots t 0).cast nbuf2_0)) _ _).2; iexact H0
  isplitl [H1]
  · iapply (Cert.Base.owns_unread (hstage2_1 ((cfg2.slots t 1).cast nbuf2_1)) _ _).2; iexact H1
  isplitl [H2]
  · iapply (Cert.Base.owns_unread (hstage2_2 ((cfg2.slots t 2).cast nbuf2_2)) _ _).2; iexact H2
  isplitl [H3]
  · iapply (Cert.Base.owns_unread (hstage2_3 ((cfg2.slots t 3).cast nbuf2_3)) _ _).2; iexact H3
  isplitl [H4]
  · iapply (Cert.Base.owns_unread (hstage2_4 ((cfg2.slots t 4).cast nbuf2_4)) _ _).2; iexact H4
  iapply (Cert.Base.owns_unread (hstage2_5 ((cfg2.slots t 5).cast nbuf2_5)) _ _).2; iexact H5

theorem defs₀_row (t : Fin cfg2.N) :
    defs₀ (F := F) .tc cfg2.body (cfg2.bodyArgs t (cfg2.slots t)) = bodyAt2 t := by
  unfold defs₀; rw [Defs.onTc_tc]

theorem body_obligation (c : Dev nD) : BodyObligation (dat V c) (defs₀ (F := F)) Variants.none () Set.univ := fun t => by
  rw [bigSep_W2, bigSep_W2, defs₀_row]
  exact triple_restated (sound_body V c t) rfl .rfl fun _ => .rfl

/-! ## Entering and leaving the region -/

/-- The body's own two semaphores, the arrays its copies read, and those they write. -/
abbrev osem : Fin 2 → SemLoc sig := ![SemLoc.dma 37, SemLoc.dma 38]
theorem ownSemFacts : Pipeline.OwnSemFacts spec2 osem := by decide
abbrev Hr : Finset (Ref sig .tc) := {main_v12_0, main_v12_1}
abbrev Hw : Finset (Ref sig .tc) := {main_v14_1, main_v14_2}

/-- The unscoped buffers as the region leaves them. -/
def leave (c : Dev nD) : Valuation τ sig (Elt F) :=
  Function.update (Function.update (Function.update (V c) (Proc.devRef .tc main_v14_0) ((dat V c).arrAt 5 cfg2.N))
    (Proc.devRef .tc main_v14_1) ((Memref.isWhole_whole main_v14_1).unread (acc V c 512).1))
    (Proc.devRef .tc main_v14_2) ((Memref.isWhole_whole main_v14_2).unread (acc V c 512).2)

theorem leave_of (c : Dev nD) (b : DevRef τ sig) (h0 : b ≠ Proc.devRef .tc main_v14_0) (h1 : b ≠ Proc.devRef .tc main_v14_1) (h2 : b ≠ Proc.devRef .tc main_v14_2) :
    leave V c b = V c b := by
  unfold leave
  rw [Function.update_of_ne h2, Function.update_of_ne h1, Function.update_of_ne h0]
theorem leave_0 (c : Dev nD) : leave V c (Proc.devRef .tc main_v14_0) = (dat V c).arrAt 5 cfg2.N := by
  unfold leave
  rw [Function.update_of_ne (by decide), Function.update_of_ne (by decide), Function.update_self]
theorem leave_1 (c : Dev nD) : leave V c (Proc.devRef .tc main_v14_1) = (Memref.isWhole_whole main_v14_1).unread (acc V c 512).1 := by
  unfold leave
  rw [Function.update_of_ne (by decide), Function.update_self]
theorem leave_2 (c : Dev nD) : leave V c (Proc.devRef .tc main_v14_2) = (Memref.isWhole_whole main_v14_2).unread (acc V c 512).2 := by
  unfold leave
  rw [Function.update_self]

theorem arr_start (c : Dev nD) (w : Fin cfg2.W) : (dat V c).arrAt w 0 = V c (Proc.devRef .tc (Pipeline.arrRef spec2 w)) :=
  A_eq V c w

theorem arr_end (c : Dev nD) (w : Fin cfg2.W) : (dat V c).arrAt w cfg2.N = leave V c (Proc.devRef .tc (Pipeline.arrRef spec2 w)) := by
  fin_cases w
  · exact ((dat V c).arrAt_in 0 rfl _).trans ((A_eq V c 0).trans (leave_of V c _ (by decide) (by decide) (by decide)).symm)
  · exact ((dat V c).arrAt_in 1 rfl _).trans ((A_eq V c 1).trans (leave_of V c _ (by decide) (by decide) (by decide)).symm)
  · exact ((dat V c).arrAt_in 2 rfl _).trans ((A_eq V c 2).trans (leave_of V c _ (by decide) (by decide) (by decide)).symm)
  · exact ((dat V c).arrAt_in 3 rfl _).trans ((A_eq V c 3).trans (leave_of V c _ (by decide) (by decide) (by decide)).symm)
  · exact ((dat V c).arrAt_in 4 rfl _).trans ((A_eq V c 4).trans (leave_of V c _ (by decide) (by decide) (by decide)).symm)
  · exact (leave_0 V c).symm

set_option maxHeartbeats 2000000 in
theorem hin (c : Dev nD) :
    iprop(Pipeline.scopedRest (Ix := Unit) (Name := ℕ) (U := UU) (Lvl := ℕ) (Val := Elt F) spec2 c ∗ (∃ r, prngReg c r) ∗ Pipeline.ownSems0 osem c
        ∗ (bigSep Hr fun b => ((c.tc : Thread nD τ).loc b) ↦{fullShare} V c (Proc.devRef .tc b))
        ∗ (bigSep Hw fun b => ((c.tc : Thread nD τ).loc b) ↦{fullShare} V c (Proc.devRef .tc b))
        ∗ Transfers.MayWaits (c : Thread nD τ) () (0 : CellTallies nD τ sig Unit)) ⊢ (Phi V c 0 : sProp 𝕄) := by
  rw [scopedRest2_split, Pipeline.ownSems0_eq_of_list c osem [0, 1] (by decide) (by decide),
    bigSep_eq_bigSepL_of_eq [main_v12_0, main_v12_1] (S := Hr) (by decide) (by decide),
    bigSep_eq_bigSepL_of_eq [main_v14_1, main_v14_2] (S := Hw) (by decide) (by decide)]
  rw [Cert.Base.bigSepL_pair, Cert.Base.bigSepL_pair, Cert.Base.bigSepL_pair]
  unfold Phi
  have e1 : (Memref.isWhole_whole main_v12_0).unread (wgu V c) = V c (Proc.devRef .tc main_v12_0) := Memref.IsWhole.unread_read _ _
  have e2 : (Memref.isWhole_whole main_v12_1).unread (wdn V c) = V c (Proc.devRef .tc main_v12_1) := Memref.IsWhole.unread_read _ _
  have e3 : (Memref.isWhole_whole main_v14_1).unread (outv1 V c 0) = V c (Proc.devRef .tc main_v14_1) := Memref.IsWhole.unread_read _ _
  have e4 : (Memref.isWhole_whole main_v14_2).unread (outv2 V c 0) = V c (Proc.devRef .tc main_v14_2) := Memref.IsWhole.unread_read _ _
  rw [e1, e2, e3, e4]
  iintro ⟨⟨⟨⟨%f0, S0⟩, ⟨%f1, S1⟩, ⟨%f2, S2⟩, ⟨%f3, S3⟩, ⟨%f4, S4⟩, ⟨%f5, S5⟩, ⟨%f6, S6⟩, ⟨%f7, S7⟩, ⟨%f8, S8⟩, ⟨%f9, S9⟩⟩, Hrest⟩, Hp, ⟨Hs0, Hs1⟩, ⟨Hw1, Hw2⟩, ⟨Ho1, Ho2⟩, -⟩
  isplitl [Hw1]; · iexact Hw1
  isplitl [Hw2]; · iexact Hw2
  isplitl [Ho1]; · iexact Ho1
  isplitl [Ho2]; · iexact Ho2
  isplitl [S0 S1 S2 S3]
  · iexists (Memref.whole cc2_scratch0).view.read (Elt F) f0, (Memref.whole cc2_scratch1).view.read (Elt F) f1, (Memref.whole cc2_scratch2).view.read (Elt F) f2, (Memref.whole cc2_scratch3).view.read (Elt F) f3
    rw [Memref.IsWhole.unread_read, Memref.IsWhole.unread_read, Memref.IsWhole.unread_read, Memref.IsWhole.unread_read]
    isplitr; · ipureintro; exact fun h => absurd rfl h
    isplitl [S0]; · iexact S0
    isplitl [S1]; · iexact S1
    isplitl [S2]; · iexact S2
    iexact S3
  isplitl [S4]; · iexists f4; iexact S4
  isplitl [S5]; · iexists f5; iexact S5
  isplitl [S6]; · iexists f6; iexact S6
  isplitl [S7]; · iexists f7; iexact S7
  isplitl [S8]; · iexists f8; iexact S8
  isplitl [S9]; · iexists f9; iexact S9
  isplitl [Hrest]; · iexact Hrest
  isplitl [Hs0]; · iexact Hs0
  isplitl [Hs1]; · iexact Hs1
  iexact Hp

set_option maxHeartbeats 2000000 in
theorem hout (c : Dev nD) :
    (Phi V c 512 : sProp 𝕄) ⊢ iprop(Pipeline.scopedRest (Ix := Unit) (Name := ℕ) (U := UU) (Lvl := ℕ) (Val := Elt F) spec2 c ∗ (∃ r, prngReg c r) ∗ Pipeline.ownSems0 osem c
        ∗ (bigSep Hr fun b => ((c.tc : Thread nD τ).loc b) ↦{fullShare} V c (Proc.devRef .tc b))
        ∗ (bigSep Hw fun b => ((c.tc : Thread nD τ).loc b) ↦{fullShare} leave V c (Proc.devRef .tc b))) := by
  rw [scopedRest2_split, Pipeline.ownSems0_eq_of_list c osem [0, 1] (by decide) (by decide),
    bigSep_eq_bigSepL_of_eq [main_v12_0, main_v12_1] (S := Hr) (by decide) (by decide),
    bigSep_eq_bigSepL_of_eq [main_v14_1, main_v14_2] (S := Hw) (by decide) (by decide)]
  rw [Cert.Base.bigSepL_pair, Cert.Base.bigSepL_pair, Cert.Base.bigSepL_pair]
  unfold Phi
  have e1 : (Memref.isWhole_whole main_v12_0).unread (wgu V c) = V c (Proc.devRef .tc main_v12_0) := Memref.IsWhole.unread_read _ _
  have e2 : (Memref.isWhole_whole main_v12_1).unread (wdn V c) = V c (Proc.devRef .tc main_v12_1) := Memref.IsWhole.unread_read _ _
  rw [e1, e2, leave_1, leave_2, show outv1 V c 512 = (acc V c 512).1 from if_pos rfl, show outv2 V c 512 = (acc V c 512).2 from if_pos rfl]
  iintro ⟨Hw1, Hw2, Ho1, Ho2, ⟨%g, %d, %a, %b, -, S0, S1, S2, S3⟩, ⟨%f4, S4⟩, ⟨%f5, S5⟩, ⟨%f6, S6⟩, ⟨%f7, S7⟩, ⟨%f8, S8⟩, ⟨%f9, S9⟩, Hrest, Hs0, Hs1, Hp⟩
  isplitl [S0 S1 S2 S3 S4 S5 S6 S7 S8 S9 Hrest]
  · isplitl [S0 S1 S2 S3 S4 S5 S6 S7 S8 S9]
    · isplitl [S0]; · iexists _; iexact S0
      isplitl [S1]; · iexists _; iexact S1
      isplitl [S2]; · iexists _; iexact S2
      isplitl [S3]; · iexists _; iexact S3
      isplitl [S4]; · iexists _; iexact S4
      isplitl [S5]; · iexists _; iexact S5
      isplitl [S6]; · iexists _; iexact S6
      isplitl [S7]; · iexists _; iexact S7
      isplitl [S8]; · iexists _; iexact S8
      iexists _; iexact S9
    iexact Hrest
  isplitl [Hp]; · iexact Hp
  isplitl [Hs0 Hs1]
  · isplitl [Hs0]; · iexact Hs0
    iexact Hs1
  isplitl [Hw1 Hw2]
  · isplitl [Hw1]; · iexact Hw1
    iexact Hw2
  isplitl [Ho1]; · iexact Ho1
  iexact Ho2

end Cert.KernelIdeal.Region2

end
-- ==== Proof.IdealBody3.lean ====
/-
  One grid point of the fused pass `cc3_mlp_f2560`, run once at symbolic operands. The first point loads the weight slices
  and clears the two accumulators; every point then computes the result block and adds to the accumulators; the last
  point writes the accumulators out. `run` says what a point leaves, as functions of the four carried buffers.
-/
module

public import proofs.«01_k».proof.Proof.Gen.KernelIdeal.Skeleton
public import proofs.«01_k».proof.Proof.Base

@[expose] public section

set_option maxRecDepth 16384

noncomputable section

namespace Cert.KernelIdeal.Body3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipeline library's, beside the counters of the body's own transfers. -/
abbrev UU : Type := UR sig nD τ × Counters

local notation "𝕄" => MT nD τ sig Unit (Elt F) ℕ UU ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

theorem pt_eq (c : Dev nD) {sp : Space} {S : Shape} {e : EltTy} (M : Memref sig .tc sp S e) {f g : Bf (F := F) c M} (h : f = g) :
    pt c M f ⊢ pt c M g := by
  subst h; exact .rfl

/-- The slice of the first weight array that this pass uses. -/
def wguSlice (x : Vec F S1280x6912 .bf16) : Vec F S1280x1792 .bf16 :=
  fun y => x ((Rect.unit (s := S1280x6912) ![0, 5120] S1280x1792.size inb_S1280x6912_S1280x1792_0_5120).emb y)

/-- The slice of the second weight array that this pass uses. -/
def wdnSlice (x : Vec F S3456x1280 .bf16) : Vec F S896x1280 .bf16 :=
  fun y => x ((Rect.unit (s := S3456x1280) ![2560, 0] S896x1280.size inb_S3456x1280_S896x1280_2560_0).emb y)

/-- What a point finds in the first weight buffer: the slice if it is the first point, what was there otherwise. -/
def wguIn (i : grid3.Coords) (x : Vec F S1280x6912 .bf16) (g : Vec F S1280x1792 .bf16) : Vec F S1280x1792 .bf16 := if (i 0).val = 0 then wguSlice x else g

/-- What a point finds in the second weight buffer. -/
def wdnIn (i : grid3.Coords) (x : Vec F S3456x1280 .bf16) (g : Vec F S896x1280 .bf16) : Vec F S896x1280 .bf16 := if (i 0).val = 0 then wdnSlice x else g

/-- What a point finds in an accumulator: zeros if it is the first point. -/
def accIn (i : grid3.Coords) {S : Shape} (z g : Vec F S .f32) : Vec F S .f32 := if (i 0).val = 0 then z else g

/-- What a point leaves in an output array: the accumulator if it is the last point. -/
def accOut (i : grid3.Coords) {S : Shape} (a g : Vec F S .f32) : Vec F S .f32 := if (i 0).val = 511 then a else g

theorem coord_lt (i : grid3.Coords) : (i 0).val < 2 ^ 32 :=
  lt_trans (i 0).isLt (by decide)

/-- Contents under the printed first-point test are the contents that read the values under the plain test. -/
theorem dif_first (i : grid3.Coords) {b : BitVec 1}
    (hb : b = Scalar.cmpi .ne (Scalar.extui (Scalar.cmpi .eq (BitVec.ofNat 32 (i 0).val) (BitVec.ofNat 32 0))) 0#32)
    {sp : Space} {S : Shape} {e : EltTy} {M : Memref sig .tc sp S e} (h : M.IsWhole) {x : M.view.ty.Contents (Elt F)} {x' y : Vec F S e} (hx : x = h.unread x') :
    (if _ : b = 1#1 then x else h.unread y) = h.unread (if (i 0).val = 0 then x' else y) := by
  subst hb hx
  have := Cert.Base.coord_test (i 0).val 0 (coord_lt i) (by decide)
  by_cases h : (i 0).val = 0
  · rw [dif_pos (this.2 h), if_pos h]
  · rw [dif_neg (mt this.1 h), if_neg h]

/-- The same for the last-point test. -/
theorem dif_last (i : grid3.Coords) {b : BitVec 1}
    (hb : b = Scalar.cmpi .ne (Scalar.extui (Scalar.cmpi .eq (BitVec.ofNat 32 (i 0).val) (BitVec.ofNat 32 511))) 0#32)
    {sp : Space} {S : Shape} {e : EltTy} {M : Memref sig .tc sp S e} (h : M.IsWhole) {x : M.view.ty.Contents (Elt F)} {x' y : Vec F S e} (hx : x = h.unread x') :
    (if _ : b = 1#1 then x else h.unread y) = h.unread (if (i 0).val = 511 then x' else y) := by
  subst hb hx
  have := Cert.Base.coord_test (i 0).val 511 (coord_lt i) (by decide)
  by_cases h : (i 0).val = 511
  · rw [dif_pos (this.2 h), if_pos h]
  · rw [dif_neg (mt this.1 h), if_neg h]

/-- A copy of a whole buffer that was written whole leaves the contents that read what was written. -/
theorem copy_whole {sp sp' : Space} {S : Shape} {M : Memref sig .tc sp S .f32} (h : M.IsWhole) {M' : Memref sig .tc sp' S .f32} (h' : M'.IsWhole)
    (f : M.view.ty.Contents (Elt F)) {g : M'.view.ty.Contents (Elt F)} {w : Vec F S .f32} (hg : g = h'.unread w) :
    M.view.write (Elt F) f (M'.view.read (Elt F) g) Finset.univ = h.unread w := by
  rw [Cert.Base.write_whole h, hg, h'.read_unread]

/-- Reading a slice of a whole array reads the array at the slice's indices. -/
theorem slice_read {sp : Space} {S : Shape} {e : EltTy} {M : Memref sig .tc sp S e} (h : M.IsWhole) (x : Vec F S e) (r : Rect S) :
    (M.view.slice r).read (Elt F) (h.unread x) = fun y => x (r.emb y) :=
  funext fun y => congrFun (h.read_unread x) (r.emb y)

set_option maxHeartbeats 600000 in
/-- What one point leaves in the result block and the two accumulators, as functions of the four carried buffers, with
    the proof that the point runs to its return from every buffer held whole. -/
def run (c : Dev nD)
    (M1 : Memref sig .tc .vmem S512x1280 .fp8e4m3) (h1 : M1.IsWhole)
    (M2 : Memref sig .tc .vmem S512x10 .f32) (h2 : M2.IsWhole)
    (M3 : Memref sig .tc .vmem S512x1280 .fp8e5m2) (h3 : M3.IsWhole)
    (M4 : Memref sig .tc .vmem S512x10 .f32) (h4 : M4.IsWhole)
    (M5 : Memref sig .tc .vmem S512x1280 .f32) (h5 : M5.IsWhole)
    (M6 : Memref sig .tc .hbm S1280x6912 .bf16) (h6 : M6.IsWhole)
    (M7 : Memref sig .tc .hbm S3456x1280 .bf16) (h7 : M7.IsWhole)
    (M8 : Memref sig .tc .vmem S512x1280 .bf16) (h8 : M8.IsWhole)
    (M9 : Memref sig .tc .hbm S1280x1792 .f32) (h9 : M9.IsWhole)
    (M10 : Memref sig .tc .hbm S1280x896 .f32) (h10 : M10.IsWhole)
    (M11 : Memref sig .tc .vmem S1280x1792 .bf16) (h11 : M11.IsWhole)
    (M12 : Memref sig .tc .vmem S896x1280 .bf16) (h12 : M12.IsWhole)
    (M13 : Memref sig .tc .vmem S1280x1792 .f32) (h13 : M13.IsWhole)
    (M14 : Memref sig .tc .vmem S1280x896 .f32) (h14 : M14.IsWhole)
    (M15 : Memref sig .tc .vmem S512x1280 .bf16) (h15 : M15.IsWhole)
    (M16 : Memref sig .tc .vmem S512x1280 .bf16) (h16 : M16.IsWhole)
    (M17 : Memref sig .tc .vmem S1280x512 .bf16) (h17 : M17.IsWhole)
    (M18 : Memref sig .tc .vmem S1280x512 .bf16) (h18 : M18.IsWhole)
    (M19 : Memref sig .tc .vmem S512x896 .bf16) (h19 : M19.IsWhole)
    (M20 : Memref sig .tc .vmem S512x1792 .bf16) (h20 : M20.IsWhole)
    (x1 : Vec F S512x1280 .fp8e4m3) (x2 : Vec F S512x10 .f32) (x3 : Vec F S512x1280 .fp8e5m2) (x4 : Vec F S512x10 .f32) (x5 : Vec F S512x1280 .f32) :
    { W : (Vec F S1280x1792 .bf16 → Vec F S896x1280 .bf16 → Vec F S1280x1792 .f32 → Vec F S1280x896 .f32 → Vec F S512x1280 .bf16) × (Vec F S1280x1792 .bf16 → Vec F S896x1280 .bf16 → Vec F S1280x1792 .f32 → Vec F S1280x896 .f32 → Vec F S1280x1792 .f32) × (Vec F S1280x1792 .bf16 → Vec F S896x1280 .bf16 → Vec F S1280x1792 .f32 → Vec F S1280x896 .f32 → Vec F S1280x896 .f32) //
      ∀ (i : grid3.Coords) (x6 : Vec F S1280x6912 .bf16) (x7 : Vec F S3456x1280 .bf16) (x9 : Vec F S1280x1792 .f32) (x10 : Vec F S1280x896 .f32) (x11 : Vec F S1280x1792 .bf16) (x12 : Vec F S896x1280 .bf16) (x13 : Vec F S1280x1792 .f32) (x14 : Vec F S1280x896 .f32) (f8 : Bf (F := F) c M8) (f15 : Bf (F := F) c M15) (f16 : Bf (F := F) c M16) (f17 : Bf (F := F) c M17) (f18 : Bf (F := F) c M18) (f19 : Bf (F := F) c M19) (f20 : Bf (F := F) c M20) (Wt : Waits sig Unit) (Q : PUnit → sProp 𝕄),
        iprop(pt c M1 (h1.unread x1) ∗ pt c M2 (h2.unread x2) ∗ pt c M3 (h3.unread x3) ∗ pt c M4 (h4.unread x4) ∗ pt c M5 (h5.unread x5) ∗ pt c M6 (h6.unread x6) ∗ pt c M7 (h7.unread x7) ∗ pt c M8 f8 ∗ pt c M9 (h9.unread x9) ∗ pt c M10 (h10.unread x10) ∗ pt c M11 (h11.unread x11) ∗ pt c M12 (h12.unread x12) ∗ pt c M13 (h13.unread x13) ∗ pt c M14 (h14.unread x14) ∗ pt c M15 f15 ∗ pt c M16 f16 ∗ pt c M17 f17 ∗ pt c M18 f18 ∗ pt c M19 f19 ∗ pt c M20 f20
          ∗ semVal ((c : Thread nD τ), SemLoc.dma 51) 0 ∗ semVal ((c : Thread nD τ), SemLoc.dma 52) 0 ∗ owes (c : Thread nD τ) 0 Wt
          ∗ (iprop(pt c M13 (h13.unread (W.2.1 (wguIn i x6 x11) (wdnIn i x7 x12) (accIn i (k3_pay2 (F := F)) x13) (accIn i (k3_pay3 (F := F)) x14)))
            ∗ pt c M14 (h14.unread (W.2.2 (wguIn i x6 x11) (wdnIn i x7 x12) (accIn i (k3_pay2 (F := F)) x13) (accIn i (k3_pay3 (F := F)) x14)))
            ∗ pt c M1 (h1.unread x1)
            ∗ pt c M2 (h2.unread x2)
            ∗ pt c M3 (h3.unread x3)
            ∗ pt c M4 (h4.unread x4)
            ∗ pt c M5 (h5.unread x5)
            ∗ pt c M6 (h6.unread x6)
            ∗ pt c M7 (h7.unread x7)
            ∗ pt c M8 (h8.unread (W.1 (wguIn i x6 x11) (wdnIn i x7 x12) (accIn i (k3_pay2 (F := F)) x13) (accIn i (k3_pay3 (F := F)) x14)))
            ∗ pt c M9 (h9.unread (accOut i (W.2.1 (wguIn i x6 x11) (wdnIn i x7 x12) (accIn i (k3_pay2 (F := F)) x13) (accIn i (k3_pay3 (F := F)) x14)) x9))
            ∗ pt c M10 (h10.unread (accOut i (W.2.2 (wguIn i x6 x11) (wdnIn i x7 x12) (accIn i (k3_pay2 (F := F)) x13) (accIn i (k3_pay3 (F := F)) x14)) x10))
            ∗ pt c M11 (h11.unread (wguIn i x6 x11))
            ∗ pt c M12 (h12.unread (wdnIn i x7 x12))
            ∗ (∃ f, pt c M15 f)
            ∗ (∃ f, pt c M16 f)
            ∗ (∃ f, pt c M17 f)
            ∗ (∃ f, pt c M18 f)
            ∗ (∃ f, pt c M19 f)
            ∗ (∃ f, pt c M20 f)
          ∗ semVal ((c : Thread nD τ), SemLoc.dma 51) 0 ∗ semVal ((c : Thread nD τ), SemLoc.dma 52) 0
          ∗ (∃ W', owes (c : Thread nD τ) 0 W')) -∗ Q ⟨⟩))
        ⊢ wp frame (wpE (defs₀ (F := F)) Variants.none c none) Set.univ
            (cc3_mlp_f2560 i M1 h1 M2 h2 M3 h3 M4 h4 M5 h5 M6 h6 M7 h7 M8 h8 M9 h9 M10 h10 M11 h11 M12 h12 M13 h13 M14 h14 M15 h15 M16 h16 M17 h17 M18 h18 M19 h19 M20 h20 cc3_scratch10) Q } := by
  refine ⟨⟨?_, ?_, ?_⟩, fun i x6 x7 x9 x10 x11 x12 x13 x14 f8 f15 f16 f17 f18 f19 f20 Wt Q => ?run⟩
  case run =>
    dsimp only
    iintro ⟨H1, H2, H3, H4, H5, H6, H7, H8, H9, H10, H11, H12, H13, H14, H15, H16, H17, H18, H19, H20, Hs0, Hs1, HO, Hk⟩
    set_option sl_exec.maxSteps 16 in sl_exec
    rw [show (if hc : run.sl.v2 i = 1#1 then View.write (Elt F) M11.view (h11.unread x11) (run.sl.dma0 M6 h6 x6) Finset.univ else h11.unread x11) = h11.unread (wguIn i x6 x11) from
        dif_first i rfl h11 ((Cert.Base.write_whole h11 _ _).trans (congrArg h11.unread (slice_read h6 x6 (Rect.unit (s := S1280x6912) ![0, 5120] S1280x1792.size inb_S1280x6912_S1280x1792_0_5120)))),
      show (if hc : run.sl.v2 i = 1#1 then View.write (Elt F) M12.view (h12.unread x12) (run.sl.dma0_1 M7 h7 x7) Finset.univ else h12.unread x12) = h12.unread (wdnIn i x7 x12) from
        dif_first i rfl h12 ((Cert.Base.write_whole h12 _ _).trans (congrArg h12.unread (slice_read h7 x7 (Rect.unit (s := S3456x1280) ![2560, 0] S896x1280.size inb_S3456x1280_S896x1280_2560_0)))),
      show (if hc : run.sl.v2 i = 1#1 then M13.view.writes (Elt F) (h13.unread x13) [⟨Rect.unit ![0, 0] S1280x1792.size inb_S1280x1792_S1280x1792_0_0, k3_pay2⟩] else h13.unread x13) = h13.unread (accIn i (k3_pay2 (F := F)) x13) from
        dif_first i rfl h13 (Cert.Base.writes_whole h13 _ (by decide) _ _),
      show (if hc : run.sl.v2 i = 1#1 then M14.view.writes (Elt F) (h14.unread x14) [⟨Rect.unit ![0, 0] S1280x896.size inb_S1280x896_S1280x896_0_0, k3_pay3⟩] else h14.unread x14) = h14.unread (accIn i (k3_pay3 (F := F)) x14) from
        dif_first i rfl h14 (Cert.Base.writes_whole h14 _ (by decide) _ _)]
    generalize wguIn i x6 x11 = xG, wdnIn i x7 x12 = xD, accIn i (k3_pay2 (F := F)) x13 = xA, accIn i (k3_pay3 (F := F)) x14 = xB
    sl_exec_parts!
    sl_step
    iapply Hk
    isplitl [H13]
    · iapply (pt_eq c M13 ?e13)
      all_goals try iexact H13
      exact Cert.Base.writes_whole (off := ![0, 0]) h13 _ (by decide) _ _
    isplitl [H14]
    · iapply (pt_eq c M14 ?e14)
      all_goals try iexact H14
      exact Cert.Base.writes_whole (off := ![0, 0]) h14 _ (by decide) _ _
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · iapply (pt_eq c M8 ?e8)
      all_goals try iexact H8
      exact Cert.Base.writes_whole (off := ![0, 0]) h8 _ (by decide) _ _
    isplitl [H9]
    · iapply (pt_eq c M9 ?e9)
      all_goals try iexact H9
      exact dif_last i rfl h9 (copy_whole h9 h13 _ (Cert.Base.writes_whole (off := ![0, 0]) h13 _ (by decide) _ _))
    isplitl [H10]
    · iapply (pt_eq c M10 ?e10)
      all_goals try iexact H10
      exact dif_last i rfl h10 (copy_whole h10 h14 _ (Cert.Base.writes_whole (off := ![0, 0]) h14 _ (by decide) _ _))
    isplitl [H11]; · iexact H11
    isplitl [H12]; · iexact H12
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [Hs0]; · iexact Hs0
    isplitl [Hs1]; · iexact Hs1
    iexists _; iexact HO

end Cert.KernelIdeal.Body3

end
-- ==== Proof.IdealRegion3.lean ====
/-
  The pipelined region of the fused pass `cc3_mlp_f2560`: what it carries from one grid point to the next, and that every point
  keeps it. The weight slices are loaded at the first point and stay; the two accumulators after point `n` are `acc n`;
  after the last point the two output arrays hold the accumulators.
-/
module

public import proofs.«01_k».proof.Proof.Gen.KernelIdeal.Launch
public import proofs.«01_k».proof.Proof.Gen.KernelIdeal.Points
public import proofs.«01_k».proof.Proof.IdealBody3
public import Idealize.ShloMosaic.Lib.Pipeline.FrameBody

@[expose] public section

set_option maxRecDepth 16384

noncomputable section

namespace Cert.KernelIdeal.Region3

open Cert.KernelIdeal Cert.KernelIdeal.Gen Cert.KernelIdeal.Body3
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

-- the unscoped buffers as the region finds them
variable (V : Dev nD → Valuation τ sig (Elt F))

/-- Window `w`'s block at point `t`, read off its array as the region finds it. -/
def blk (c : Dev nD) (w : Fin cfg3.W) (t : Fin cfg3.N) : ((cfg3.win w).xblock (cfg3.grid.coords t)).Idx → Elt F (cfg3.win w).elt :=
  ((cfg3.win w).blk t).view.read (Elt F) (V c (Proc.devRef .tc (Pipeline.arrRef spec3 w)))

/-- The two weight arrays, the slices of them this pass uses, and the two output arrays at entry, by index. -/
def wgu (c : Dev nD) : Vec F S1280x6912 .bf16 := (Memref.whole main_v12_0).view.read (Elt F) (V c (Proc.devRef .tc main_v12_0))
def wdn (c : Dev nD) : Vec F S3456x1280 .bf16 := (Memref.whole main_v12_1).view.read (Elt F) (V c (Proc.devRef .tc main_v12_1))
def wguS (c : Dev nD) : Vec F S1280x1792 .bf16 := wguSlice (wgu V c)
def wdnS (c : Dev nD) : Vec F S896x1280 .bf16 := wdnSlice (wdn V c)
def old1 (c : Dev nD) : Vec F S1280x1792 .f32 := (Memref.whole main_v15_1).view.read (Elt F) (V c (Proc.devRef .tc main_v15_1))
def old2 (c : Dev nD) : Vec F S1280x896 .f32 := (Memref.whole main_v15_2).view.read (Elt F) (V c (Proc.devRef .tc main_v15_2))

/-- The body at point `t`, run at the point's buffers and blocks. -/
abbrev step (c : Dev nD) (t : Fin cfg3.N) := run (F := F) c
    (st3_0 t) (hstage3_0 ((cfg3.slots t 0).cast nbuf3_0))
    (st3_1 t) (hstage3_1 ((cfg3.slots t 1).cast nbuf3_1))
    (st3_2 t) (hstage3_2 ((cfg3.slots t 2).cast nbuf3_2))
    (st3_3 t) (hstage3_3 ((cfg3.slots t 3).cast nbuf3_3))
    (st3_4 t) (hstage3_4 ((cfg3.slots t 4).cast nbuf3_4))
    (Memref.whole main_v12_0) (Memref.isWhole_whole _)
    (Memref.whole main_v12_1) (Memref.isWhole_whole _)
    (st3_5 t) (hstage3_5 ((cfg3.slots t 5).cast nbuf3_5))
    (Memref.whole main_v15_1) (Memref.isWhole_whole _)
    (Memref.whole main_v15_2) (Memref.isWhole_whole _)
    (Memref.whole cc3_scratch0) (Memref.isWhole_whole _)
    (Memref.whole cc3_scratch1) (Memref.isWhole_whole _)
    (Memref.whole cc3_scratch2) (Memref.isWhole_whole _)
    (Memref.whole cc3_scratch3) (Memref.isWhole_whole _)
    (Memref.whole cc3_scratch4) (Memref.isWhole_whole _)
    (Memref.whole cc3_scratch5) (Memref.isWhole_whole _)
    (Memref.whole cc3_scratch6) (Memref.isWhole_whole _)
    (Memref.whole cc3_scratch7) (Memref.isWhole_whole _)
    (Memref.whole cc3_scratch8) (Memref.isWhole_whole _)
    (Memref.whole cc3_scratch9) (Memref.isWhole_whole _)
    (blk V c 0 t) (blk V c 1 t) (blk V c 2 t) (blk V c 3 t) (blk V c 4 t)

/-- The two accumulators after `n` points. -/
def acc (c : Dev nD) : ℕ → Vec F S1280x1792 .f32 × Vec F S1280x896 .f32
  | 0 => (k3_pay2 (F := F), k3_pay3 (F := F))
  | n + 1 => if h : n < cfg3.N then
      ((step V c ⟨n, h⟩).1.2.1 (wguS V c) (wdnS V c) (acc c n).1 (acc c n).2, (step V c ⟨n, h⟩).1.2.2 (wguS V c) (wdnS V c) (acc c n).1 (acc c n).2)
    else acc c n

theorem acc_zero (c : Dev nD) : acc V c 0 = (k3_pay2 (F := F), k3_pay3 (F := F)) := by unfold acc; rfl

theorem acc_succ (c : Dev nD) (t : Fin cfg3.N) : acc V c (t.val + 1) =
    ((step V c t).1.2.1 (wguS V c) (wdnS V c) (acc V c t.val).1 (acc V c t.val).2, (step V c t).1.2.2 (wguS V c) (wdnS V c) (acc V c t.val).1 (acc V c t.val).2) := by
  rw [acc, dif_pos t.isLt]

/-- The result block point `t` writes. -/
def dxo (c : Dev nD) (t : Fin cfg3.N) : Vec F S512x1280 .bf16 := (step V c t).1.1 (wguS V c) (wdnS V c) (acc V c t.val).1 (acc V c t.val).2

/-- The output arrays before point `n`: untouched until the last point has run. -/
def outv1 (c : Dev nD) (n : ℕ) : Vec F S1280x1792 .f32 := if n = 512 then (acc V c 512).1 else old1 V c
def outv2 (c : Dev nD) (n : ℕ) : Vec F S1280x896 .f32 := if n = 512 then (acc V c 512).2 else old2 V c

/-- What the four carried buffers hold before point `n`, once a point has run. -/
def Carried (c : Dev nD) (n : ℕ) (g : Vec F S1280x1792 .bf16) (d : Vec F S896x1280 .bf16) (a : Vec F S1280x1792 .f32) (b : Vec F S1280x896 .f32) : Prop :=
  n ≠ 0 → g = wguS V c ∧ d = wdnS V c ∧ a = (acc V c n).1 ∧ b = (acc V c n).2

/-- The invariant before point `n`. -/
def Phi (c : Dev nD) (n : ℕ) : sProp 𝕄 :=
  iprop(pt c (Memref.whole main_v12_0) ((Memref.isWhole_whole main_v12_0).unread (wgu V c)) ∗ pt c (Memref.whole main_v12_1) ((Memref.isWhole_whole main_v12_1).unread (wdn V c))
    ∗ pt c (Memref.whole main_v15_1) ((Memref.isWhole_whole main_v15_1).unread (outv1 V c n)) ∗ pt c (Memref.whole main_v15_2) ((Memref.isWhole_whole main_v15_2).unread (outv2 V c n))
    ∗ (∃ g d a b, ⌜Carried V c n g d a b⌝ ∗ pt c (Memref.whole cc3_scratch0) ((Memref.isWhole_whole cc3_scratch0).unread g) ∗ pt c (Memref.whole cc3_scratch1) ((Memref.isWhole_whole cc3_scratch1).unread d) ∗ pt c (Memref.whole cc3_scratch2) ((Memref.isWhole_whole cc3_scratch2).unread a) ∗ pt c (Memref.whole cc3_scratch3) ((Memref.isWhole_whole cc3_scratch3).unread b))
    ∗ (∃ f, pt (F := F) c (Memref.whole cc3_scratch4) f)
    ∗ (∃ f, pt (F := F) c (Memref.whole cc3_scratch5) f)
    ∗ (∃ f, pt (F := F) c (Memref.whole cc3_scratch6) f)
    ∗ (∃ f, pt (F := F) c (Memref.whole cc3_scratch7) f)
    ∗ (∃ f, pt (F := F) c (Memref.whole cc3_scratch8) f)
    ∗ (∃ f, pt (F := F) c (Memref.whole cc3_scratch9) f)
    ∗ Pipeline.scopedRestBut (Ix := Unit) (Name := ℕ) (U := UU) (Lvl := ℕ) (Val := Elt F) spec3 c [cc3_scratch0, cc3_scratch1, cc3_scratch2, cc3_scratch3, cc3_scratch4, cc3_scratch5, cc3_scratch6, cc3_scratch7, cc3_scratch8, cc3_scratch9]
    ∗ semVal ((c : Thread nD τ), SemLoc.dma 51) 0 ∗ semVal ((c : Thread nD τ), SemLoc.dma 52) 0
    ∗ (∃ r, prngReg c r))

/-- The region's proof data on core `c`. -/
def dat (c : Dev nD) : Dat τ (Elt F) Unit ℕ UU ℕ cfg3 c where
  A w := V c (Proc.devRef .tc (Pipeline.arrRef spec3 w))
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => dxo V c t
  Φ t := Phi V c t.val
  q _ := fullShare
  owed _ := 0

theorem A_eq (c : Dev nD) (w : Fin cfg3.W) : (dat V c).A w = V c (Proc.devRef .tc (Pipeline.arrRef spec3 w)) := by
  dsimp only [dat]

theorem after_0 (c : Dev nD) (t : Fin cfg3.N) : (dat V c).after 0 t = blk V c 0 t := by dsimp only [dat]
theorem after_1 (c : Dev nD) (t : Fin cfg3.N) : (dat V c).after 1 t = blk V c 1 t := by dsimp only [dat]
theorem after_2 (c : Dev nD) (t : Fin cfg3.N) : (dat V c).after 2 t = blk V c 2 t := by dsimp only [dat]
theorem after_3 (c : Dev nD) (t : Fin cfg3.N) : (dat V c).after 3 t = blk V c 3 t := by dsimp only [dat]
theorem after_4 (c : Dev nD) (t : Fin cfg3.N) : (dat V c).after 4 t = blk V c 4 t := by dsimp only [dat]
theorem after_5 (c : Dev nD) (t : Fin cfg3.N) : (dat V c).after 5 t = dxo V c t := by dsimp only [dat]

/-- Each input's staging buffer holds its block when the body runs. -/
theorem before_0 (c : Dev nD) (t : Fin cfg3.N) (d) : (dat V c).before 0 t d = blk V c 0 t :=
  ((dat V c).before_in_eq_fetched 0 rfl (fun _ => rfl) (fun _ _ _ => rfl) (fun t => by rw [after_0]; unfold Dat.blockOf blk; rw [A_eq]; try rfl) t d).trans
    (by unfold Dat.fetched Dat.blockOf blk; rw [A_eq]; try rfl)
theorem before_1 (c : Dev nD) (t : Fin cfg3.N) (d) : (dat V c).before 1 t d = blk V c 1 t :=
  ((dat V c).before_in_eq_fetched 1 rfl (fun _ => rfl) (fun _ _ _ => rfl) (fun t => by rw [after_1]; unfold Dat.blockOf blk; rw [A_eq]; try rfl) t d).trans
    (by unfold Dat.fetched Dat.blockOf blk; rw [A_eq]; try rfl)
theorem before_2 (c : Dev nD) (t : Fin cfg3.N) (d) : (dat V c).before 2 t d = blk V c 2 t :=
  ((dat V c).before_in_eq_fetched 2 rfl (fun _ => rfl) (fun _ _ _ => rfl) (fun t => by rw [after_2]; unfold Dat.blockOf blk; rw [A_eq]; try rfl) t d).trans
    (by unfold Dat.fetched Dat.blockOf blk; rw [A_eq]; try rfl)
theorem before_3 (c : Dev nD) (t : Fin cfg3.N) (d) : (dat V c).before 3 t d = blk V c 3 t :=
  ((dat V c).before_in_eq_fetched 3 rfl (fun _ => rfl) (fun _ _ _ => rfl) (fun t => by rw [after_3]; unfold Dat.blockOf blk; rw [A_eq]; try rfl) t d).trans
    (by unfold Dat.fetched Dat.blockOf blk; rw [A_eq]; try rfl)
theorem before_4 (c : Dev nD) (t : Fin cfg3.N) (d) : (dat V c).before 4 t d = blk V c 4 t :=
  ((dat V c).before_in_eq_fetched 4 rfl (fun _ => rfl) (fun _ _ _ => rfl) (fun t => by rw [after_4]; unfold Dat.blockOf blk; rw [A_eq]; try rfl) t d).trans
    (by unfold Dat.fetched Dat.blockOf blk; rw [A_eq]; try rfl)

theorem N_eq : cfg3.N = 512 := N_3

/-- A point's only coordinate is its number. -/
theorem coord_val (t : Fin cfg3.N) : (grid3.coords t 0).val = t.val := by
  have h := Pipeline.Grid.coords_val (G := grid3) t 0 (S := 1) (B := 512) (by decide) rfl
  have := t.isLt; have := N_eq
  rw [h, Nat.div_one, Nat.mod_eq_of_lt (by omega)]

/-! ## What a point finds and leaves, in terms of the invariant -/

theorem wguIn_eq (c : Dev nD) (t : Fin cfg3.N) {g : Vec F S1280x1792 .bf16} (h : t.val ≠ 0 → g = wguS V c) :
    wguIn (grid3.coords t) (wgu V c) g = wguS V c := by
  unfold wguIn
  by_cases h0 : t.val = 0
  · rw [if_pos (by rw [coord_val, h0])]; rfl
  · rw [if_neg (by rw [coord_val]; exact h0), h h0]

theorem wdnIn_eq (c : Dev nD) (t : Fin cfg3.N) {g : Vec F S896x1280 .bf16} (h : t.val ≠ 0 → g = wdnS V c) :
    wdnIn (grid3.coords t) (wdn V c) g = wdnS V c := by
  unfold wdnIn
  by_cases h0 : t.val = 0
  · rw [if_pos (by rw [coord_val, h0])]; rfl
  · rw [if_neg (by rw [coord_val]; exact h0), h h0]

theorem accIn_eq1 (c : Dev nD) (t : Fin cfg3.N) {a : Vec F S1280x1792 .f32} (h : t.val ≠ 0 → a = (acc V c t.val).1) :
    accIn (grid3.coords t) (k3_pay2 (F := F)) a = (acc V c t.val).1 := by
  unfold accIn
  by_cases h0 : t.val = 0
  · rw [if_pos (by rw [coord_val, h0]), h0, acc_zero]
  · rw [if_neg (by rw [coord_val]; exact h0), h h0]

theorem accIn_eq2 (c : Dev nD) (t : Fin cfg3.N) {a : Vec F S1280x896 .f32} (h : t.val ≠ 0 → a = (acc V c t.val).2) :
    accIn (grid3.coords t) (k3_pay3 (F := F)) a = (acc V c t.val).2 := by
  unfold accIn
  by_cases h0 : t.val = 0
  · rw [if_pos (by rw [coord_val, h0]), h0, acc_zero]
  · rw [if_neg (by rw [coord_val]; exact h0), h h0]

theorem accOut_eq1 (c : Dev nD) (t : Fin cfg3.N) :
    accOut (grid3.coords t) (acc V c (t.val + 1)).1 (outv1 V c t.val) = outv1 V c (t.val + 1) := by
  have := t.isLt; have := N_eq
  unfold accOut outv1
  by_cases h0 : t.val = 511
  · rw [if_pos (by rw [coord_val, h0]), if_pos (by omega), h0]
  · rw [if_neg (by rw [coord_val]; exact h0), if_neg (by omega), if_neg (by omega)]

theorem accOut_eq2 (c : Dev nD) (t : Fin cfg3.N) :
    accOut (grid3.coords t) (acc V c (t.val + 1)).2 (outv2 V c t.val) = outv2 V c (t.val + 1) := by
  have := t.isLt; have := N_eq
  unfold accOut outv2
  by_cases h0 : t.val = 511
  · rw [if_pos (by rw [coord_val, h0]), if_pos (by omega), h0]
  · rw [if_neg (by rw [coord_val]; exact h0), if_neg (by omega), if_neg (by omega)]

theorem acc1_succ (c : Dev nD) (t : Fin cfg3.N) :
    (step V c t).1.2.1 (wguS V c) (wdnS V c) (acc V c t.val).1 (acc V c t.val).2 = (acc V c (t.val + 1)).1 := by rw [acc_succ]
theorem acc2_succ (c : Dev nD) (t : Fin cfg3.N) :
    (step V c t).1.2.2 (wguS V c) (wdnS V c) (acc V c t.val).1 (acc V c t.val).2 = (acc V c (t.val + 1)).2 := by rw [acc_succ]

/-! ## The body obligation -/

/-- What the body is called with at point `t`, the windows one by one, -/
def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d))
    ∗ (∃ d, owns (c : Thread nD τ) (st3_4 t) fullShare ((dat V c).before 4 t d))
    ∗ (∃ d, owns (c : Thread nD τ) (st3_5 t) fullShare ((dat V c).before 5 t d)))

/-- and what it returns. -/
def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t)
    ∗ owns (c : Thread nD τ) (st3_3 t) fullShare ((dat V c).after 3 t)
    ∗ owns (c : Thread nD τ) (st3_4 t) fullShare ((dat V c).after 4 t)
    ∗ owns (c : Thread nD τ) (st3_5 t) fullShare ((dat V c).after 5 t))

theorem Phi_castSucc (c : Dev nD) (t : Fin cfg3.N) : (dat V c).Φ t.castSucc = Phi V c t.val := by
  dsimp only [dat]; rfl
theorem Phi_succ (c : Dev nD) (t : Fin cfg3.N) : (dat V c).Φ t.succ = Phi V c (t.val + 1) := by
  dsimp only [dat]; rfl

set_option maxHeartbeats 2000000 in
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1, before_2, before_3, before_4, after_0, after_1, after_2, after_3, after_4, after_5]
  rw [Phi_castSucc, Phi_succ]
  unfold Dat.owesAt Pipeline.owesWithin
  rw [show (dat V c).owed t.castSucc = 0 from rfl, show (dat V c).owed t.succ = 0 from rfl]
  unfold Phi
  iintro ⟨⟨Hw1, Hw2, Ho1, Ho2, ⟨%g, %d, %a, %b, %hcar, Hg, Hd, Ha, Hb⟩, ⟨%f4, S4⟩, ⟨%f5, S5⟩, ⟨%f6, S6⟩, ⟨%f7, S7⟩, ⟨%f8, S8⟩, ⟨%f9, S9⟩, Hrest, Hs0, Hs1, Hp⟩, ⟨%Wt, -, HO⟩, ⟨%e0, H0⟩, ⟨%e1, H1⟩, ⟨%e2, H2⟩, ⟨%e3, H3⟩, ⟨%e4, H4⟩, ⟨%e5, H5⟩⟩
  ihave H0 := (Cert.Base.owns_unread (hstage3_0 ((cfg3.slots t 0).cast nbuf3_0)) _ _).1 $$ H0
  ihave H1 := (Cert.Base.owns_unread (hstage3_1 ((cfg3.slots t 1).cast nbuf3_1)) _ _).1 $$ H1
  ihave H2 := (Cert.Base.owns_unread (hstage3_2 ((cfg3.slots t 2).cast nbuf3_2)) _ _).1 $$ H2
  ihave H3 := (Cert.Base.owns_unread (hstage3_3 ((cfg3.slots t 3).cast nbuf3_3)) _ _).1 $$ H3
  ihave H4 := (Cert.Base.owns_unread (hstage3_4 ((cfg3.slots t 4).cast nbuf3_4)) _ _).1 $$ H4
  ihave H5 := (Cert.Base.owns_unread (hstage3_5 ((cfg3.slots t 5).cast nbuf3_5)) _ _).1 $$ H5
  iapply ((step V c t).2 (grid3.coords t) (wgu V c) (wdn V c) (outv1 V c t.val) (outv2 V c t.val) g d a b _ f4 f5 f6 f7 f8 f9 Wt _)
  rw [wguIn_eq V c t fun h => (hcar h).1, wdnIn_eq V c t fun h => (hcar h).2.1, accIn_eq1 V c t fun h => (hcar h).2.2.1, accIn_eq2 V c t fun h => (hcar h).2.2.2,
    acc1_succ, acc2_succ, accOut_eq1, accOut_eq2]
  isplitl [H0]; · iexact H0
  isplitl [H1]; · iexact H1
  isplitl [H2]; · iexact H2
  isplitl [H3]; · iexact H3
  isplitl [H4]; · iexact H4
  isplitl [Hw1]; · iexact Hw1
  isplitl [Hw2]; · iexact Hw2
  isplitl [H5]; · iexact H5
  isplitl [Ho1]; · iexact Ho1
  isplitl [Ho2]; · iexact Ho2
  isplitl [Hg]; · iexact Hg
  isplitl [Hd]; · iexact Hd
  isplitl [Ha]; · iexact Ha
  isplitl [Hb]; · iexact Hb
  isplitl [S4]; · iexact S4
  isplitl [S5]; · iexact S5
  isplitl [S6]; · iexact S6
  isplitl [S7]; · iexact S7
  isplitl [S8]; · iexact S8
  isplitl [S9]; · iexact S9
  isplitl [Hs0]; · iexact Hs0
  isplitl [Hs1]; · iexact Hs1
  isplitl [HO]; · iexact HO
  iintro ⟨Ha, Hb, H0, H1, H2, H3, H4, Hw1, Hw2, H5, Ho1, Ho2, Hg, Hd, S4, S5, S6, S7, S8, S9, Hs0, Hs1, ⟨%W', HO⟩⟩
  isplitl [Hw1 Hw2 Ho1 Ho2 Hg Hd Ha Hb S4 S5 S6 S7 S8 S9 Hrest Hs0 Hs1 Hp]
  · isplitl [Hw1]; · iexact Hw1
    isplitl [Hw2]; · iexact Hw2
    isplitl [Ho1]; · iexact Ho1
    isplitl [Ho2]; · iexact Ho2
    isplitl [Hg Hd Ha Hb]
    · iexists _, _, _, _
      isplitr
      swap
      · isplitl [Hg]; · iexact Hg
        isplitl [Hd]; · iexact Hd
        isplitl [Ha]; · iexact Ha
        iexact Hb
      ipureintro
      exact fun _ => ⟨rfl, rfl, rfl, rfl⟩
    isplitl [S4]; · iexact S4
    isplitl [S5]; · iexact S5
    isplitl [S6]; · iexact S6
    isplitl [S7]; · iexact S7
    isplitl [S8]; · iexact S8
    isplitl [S9]; · iexact S9
    isplitl [Hrest]; · iexact Hrest
    isplitl [Hs0]; · iexact Hs0
    isplitl [Hs1]; · iexact Hs1
    iexact Hp
  isplitl [HO]
  · iexists W'; isplitr; · ipureintro; exact fun _ _ => Or.inl trivial
    iexact HO
  isplitl [H0]
  · iapply (Cert.Base.owns_unread (hstage3_0 ((cfg3.slots t 0).cast nbuf3_0)) _ _).2; iexact H0
  isplitl [H1]
  · iapply (Cert.Base.owns_unread (hstage3_1 ((cfg3.slots t 1).cast nbuf3_1)) _ _).2; iexact H1
  isplitl [H2]
  · iapply (Cert.Base.owns_unread (hstage3_2 ((cfg3.slots t 2).cast nbuf3_2)) _ _).2; iexact H2
  isplitl [H3]
  · iapply (Cert.Base.owns_unread (hstage3_3 ((cfg3.slots t 3).cast nbuf3_3)) _ _).2; iexact H3
  isplitl [H4]
  · iapply (Cert.Base.owns_unread (hstage3_4 ((cfg3.slots t 4).cast nbuf3_4)) _ _).2; iexact H4
  iapply (Cert.Base.owns_unread (hstage3_5 ((cfg3.slots t 5).cast nbuf3_5)) _ _).2; iexact H5

theorem defs₀_row (t : Fin cfg3.N) :
    defs₀ (F := F) .tc cfg3.body (cfg3.bodyArgs t (cfg3.slots t)) = bodyAt3 t := by
  unfold defs₀; rw [Defs.onTc_tc]

theorem body_obligation (c : Dev nD) : BodyObligation (dat V c) (defs₀ (F := F)) Variants.none () Set.univ := fun t => by
  rw [bigSep_W3, bigSep_W3, defs₀_row]
  exact triple_restated (sound_body V c t) rfl .rfl fun _ => .rfl

/-! ## Entering and leaving the region -/

/-- The body's own two semaphores, the arrays its copies read, and those they write. -/
abbrev osem : Fin 2 → SemLoc sig := ![SemLoc.dma 51, SemLoc.dma 52]
theorem ownSemFacts : Pipeline.OwnSemFacts spec3 osem := by decide
abbrev Hr : Finset (Ref sig .tc) := {main_v12_0, main_v12_1}
abbrev Hw : Finset (Ref sig .tc) := {main_v15_1, main_v15_2}

/-- The unscoped buffers as the region leaves them. -/
def leave (c : Dev nD) : Valuation τ sig (Elt F) :=
  Function.update (Function.update (Function.update (V c) (Proc.devRef .tc main_v15_0) ((dat V c).arrAt 5 cfg3.N))
    (Proc.devRef .tc main_v15_1) ((Memref.isWhole_whole main_v15_1).unread (acc V c 512).1))
    (Proc.devRef .tc main_v15_2) ((Memref.isWhole_whole main_v15_2).unread (acc V c 512).2)

theorem leave_of (c : Dev nD) (b : DevRef τ sig) (h0 : b ≠ Proc.devRef .tc main_v15_0) (h1 : b ≠ Proc.devRef .tc main_v15_1) (h2 : b ≠ Proc.devRef .tc main_v15_2) :
    leave V c b = V c b := by
  unfold leave
  rw [Function.update_of_ne h2, Function.update_of_ne h1, Function.update_of_ne h0]
theorem leave_0 (c : Dev nD) : leave V c (Proc.devRef .tc main_v15_0) = (dat V c).arrAt 5 cfg3.N := by
  unfold leave
  rw [Function.update_of_ne (by decide), Function.update_of_ne (by decide), Function.update_self]
theorem leave_1 (c : Dev nD) : leave V c (Proc.devRef .tc main_v15_1) = (Memref.isWhole_whole main_v15_1).unread (acc V c 512).1 := by
  unfold leave
  rw [Function.update_of_ne (by decide), Function.update_self]
theorem leave_2 (c : Dev nD) : leave V c (Proc.devRef .tc main_v15_2) = (Memref.isWhole_whole main_v15_2).unread (acc V c 512).2 := by
  unfold leave
  rw [Function.update_self]

theorem arr_start (c : Dev nD) (w : Fin cfg3.W) : (dat V c).arrAt w 0 = V c (Proc.devRef .tc (Pipeline.arrRef spec3 w)) :=
  A_eq V c w

theorem arr_end (c : Dev nD) (w : Fin cfg3.W) : (dat V c).arrAt w cfg3.N = leave V c (Proc.devRef .tc (Pipeline.arrRef spec3 w)) := by
  fin_cases w
  · exact ((dat V c).arrAt_in 0 rfl _).trans ((A_eq V c 0).trans (leave_of V c _ (by decide) (by decide) (by decide)).symm)
  · exact ((dat V c).arrAt_in 1 rfl _).trans ((A_eq V c 1).trans (leave_of V c _ (by decide) (by decide) (by decide)).symm)
  · exact ((dat V c).arrAt_in 2 rfl _).trans ((A_eq V c 2).trans (leave_of V c _ (by decide) (by decide) (by decide)).symm)
  · exact ((dat V c).arrAt_in 3 rfl _).trans ((A_eq V c 3).trans (leave_of V c _ (by decide) (by decide) (by decide)).symm)
  · exact ((dat V c).arrAt_in 4 rfl _).trans ((A_eq V c 4).trans (leave_of V c _ (by decide) (by decide) (by decide)).symm)
  · exact (leave_0 V c).symm

set_option maxHeartbeats 2000000 in
theorem hin (c : Dev nD) :
    iprop(Pipeline.scopedRest (Ix := Unit) (Name := ℕ) (U := UU) (Lvl := ℕ) (Val := Elt F) spec3 c ∗ (∃ r, prngReg c r) ∗ Pipeline.ownSems0 osem c
        ∗ (bigSep Hr fun b => ((c.tc : Thread nD τ).loc b) ↦{fullShare} V c (Proc.devRef .tc b))
        ∗ (bigSep Hw fun b => ((c.tc : Thread nD τ).loc b) ↦{fullShare} V c (Proc.devRef .tc b))
        ∗ Transfers.MayWaits (c : Thread nD τ) () (0 : CellTallies nD τ sig Unit)) ⊢ (Phi V c 0 : sProp 𝕄) := by
  rw [scopedRest3_split, Pipeline.ownSems0_eq_of_list c osem [0, 1] (by decide) (by decide),
    bigSep_eq_bigSepL_of_eq [main_v12_0, main_v12_1] (S := Hr) (by decide) (by decide),
    bigSep_eq_bigSepL_of_eq [main_v15_1, main_v15_2] (S := Hw) (by decide) (by decide)]
  rw [Cert.Base.bigSepL_pair, Cert.Base.bigSepL_pair, Cert.Base.bigSepL_pair]
  unfold Phi
  have e1 : (Memref.isWhole_whole main_v12_0).unread (wgu V c) = V c (Proc.devRef .tc main_v12_0) := Memref.IsWhole.unread_read _ _
  have e2 : (Memref.isWhole_whole main_v12_1).unread (wdn V c) = V c (Proc.devRef .tc main_v12_1) := Memref.IsWhole.unread_read _ _
  have e3 : (Memref.isWhole_whole main_v15_1).unread (outv1 V c 0) = V c (Proc.devRef .tc main_v15_1) := Memref.IsWhole.unread_read _ _
  have e4 : (Memref.isWhole_whole main_v15_2).unread (outv2 V c 0) = V c (Proc.devRef .tc main_v15_2) := Memref.IsWhole.unread_read _ _
  rw [e1, e2, e3, e4]
  iintro ⟨⟨⟨⟨%f0, S0⟩, ⟨%f1, S1⟩, ⟨%f2, S2⟩, ⟨%f3, S3⟩, ⟨%f4, S4⟩, ⟨%f5, S5⟩, ⟨%f6, S6⟩, ⟨%f7, S7⟩, ⟨%f8, S8⟩, ⟨%f9, S9⟩⟩, Hrest⟩, Hp, ⟨Hs0, Hs1⟩, ⟨Hw1, Hw2⟩, ⟨Ho1, Ho2⟩, -⟩
  isplitl [Hw1]; · iexact Hw1
  isplitl [Hw2]; · iexact Hw2
  isplitl [Ho1]; · iexact Ho1
  isplitl [Ho2]; · iexact Ho2
  isplitl [S0 S1 S2 S3]
  · iexists (Memref.whole cc3_scratch0).view.read (Elt F) f0, (Memref.whole cc3_scratch1).view.read (Elt F) f1, (Memref.whole cc3_scratch2).view.read (Elt F) f2, (Memref.whole cc3_scratch3).view.read (Elt F) f3
    rw [Memref.IsWhole.unread_read, Memref.IsWhole.unread_read, Memref.IsWhole.unread_read, Memref.IsWhole.unread_read]
    isplitr; · ipureintro; exact fun h => absurd rfl h
    isplitl [S0]; · iexact S0
    isplitl [S1]; · iexact S1
    isplitl [S2]; · iexact S2
    iexact S3
  isplitl [S4]; · iexists f4; iexact S4
  isplitl [S5]; · iexists f5; iexact S5
  isplitl [S6]; · iexists f6; iexact S6
  isplitl [S7]; · iexists f7; iexact S7
  isplitl [S8]; · iexists f8; iexact S8
  isplitl [S9]; · iexists f9; iexact S9
  isplitl [Hrest]; · iexact Hrest
  isplitl [Hs0]; · iexact Hs0
  isplitl [Hs1]; · iexact Hs1
  iexact Hp

set_option maxHeartbeats 2000000 in
theorem hout (c : Dev nD) :
    (Phi V c 512 : sProp 𝕄) ⊢ iprop(Pipeline.scopedRest (Ix := Unit) (Name := ℕ) (U := UU) (Lvl := ℕ) (Val := Elt F) spec3 c ∗ (∃ r, prngReg c r) ∗ Pipeline.ownSems0 osem c
        ∗ (bigSep Hr fun b => ((c.tc : Thread nD τ).loc b) ↦{fullShare} V c (Proc.devRef .tc b))
        ∗ (bigSep Hw fun b => ((c.tc : Thread nD τ).loc b) ↦{fullShare} leave V c (Proc.devRef .tc b))) := by
  rw [scopedRest3_split, Pipeline.ownSems0_eq_of_list c osem [0, 1] (by decide) (by decide),
    bigSep_eq_bigSepL_of_eq [main_v12_0, main_v12_1] (S := Hr) (by decide) (by decide),
    bigSep_eq_bigSepL_of_eq [main_v15_1, main_v15_2] (S := Hw) (by decide) (by decide)]
  rw [Cert.Base.bigSepL_pair, Cert.Base.bigSepL_pair, Cert.Base.bigSepL_pair]
  unfold Phi
  have e1 : (Memref.isWhole_whole main_v12_0).unread (wgu V c) = V c (Proc.devRef .tc main_v12_0) := Memref.IsWhole.unread_read _ _
  have e2 : (Memref.isWhole_whole main_v12_1).unread (wdn V c) = V c (Proc.devRef .tc main_v12_1) := Memref.IsWhole.unread_read _ _
  rw [e1, e2, leave_1, leave_2, show outv1 V c 512 = (acc V c 512).1 from if_pos rfl, show outv2 V c 512 = (acc V c 512).2 from if_pos rfl]
  iintro ⟨Hw1, Hw2, Ho1, Ho2, ⟨%g, %d, %a, %b, -, S0, S1, S2, S3⟩, ⟨%f4, S4⟩, ⟨%f5, S5⟩, ⟨%f6, S6⟩, ⟨%f7, S7⟩, ⟨%f8, S8⟩, ⟨%f9, S9⟩, Hrest, Hs0, Hs1, Hp⟩
  isplitl [S0 S1 S2 S3 S4 S5 S6 S7 S8 S9 Hrest]
  · isplitl [S0 S1 S2 S3 S4 S5 S6 S7 S8 S9]
    · isplitl [S0]; · iexists _; iexact S0
      isplitl [S1]; · iexists _; iexact S1
      isplitl [S2]; · iexists _; iexact S2
      isplitl [S3]; · iexists _; iexact S3
      isplitl [S4]; · iexists _; iexact S4
      isplitl [S5]; · iexists _; iexact S5
      isplitl [S6]; · iexists _; iexact S6
      isplitl [S7]; · iexists _; iexact S7
      isplitl [S8]; · iexists _; iexact S8
      iexists _; iexact S9
    iexact Hrest
  isplitl [Hp]; · iexact Hp
  isplitl [Hs0 Hs1]
  · isplitl [Hs0]; · iexact Hs0
    iexact Hs1
  isplitl [Hw1 Hw2]
  · isplitl [Hw1]; · iexact Hw1
    iexact Hw2
  isplitl [Ho1]; · iexact Ho1
  iexact Ho2

end Cert.KernelIdeal.Region3

end
-- ==== Proof.IdealRun.lean ====
/-
  The whole program: the unscoped buffers after each of its items, the four pipelined regions as segments between them,
  and the run of the main function from any memory with zero counters, which ends with the unscoped buffers at the last of these
  valuations and every counter at zero.
-/
module

public import proofs.«01_k».proof.Proof.Gen.KernelIdeal.Regions
public import proofs.«01_k».proof.Proof.IdealRegion0
public import proofs.«01_k».proof.Proof.IdealRegion1
public import proofs.«01_k».proof.Proof.IdealRegion2
public import proofs.«01_k».proof.Proof.IdealRegion3
public import Idealize.ShloMosaic.Lib.Pipeline.RegionArraysS
public import Idealize.ShloMosaic.Lib.Pipeline.RegionArraysD

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

abbrev UU : Type := UR sig nD τ × Counters

local notation "𝕄" => MT nD τ sig Unit (Elt F) ℕ UU ℕ

variable (m : (ℓ : Loc nD τ sig) → Buf (Elt F) ℓ)

/-! ## The unscoped buffers after each item -/

def W1 (c : Dev nD) : Valuation τ sig (Elt F) := StableHlo.after hostOps0 (V0 m c)
def W2 (c : Dev nD) : Valuation τ sig (Elt F) := Pipeline.afterRegion (Region0.dat (W1 m) c) (W1 m c)
def W3 (c : Dev nD) : Valuation τ sig (Elt F) := Region1.leave (W2 m) c
def W4 (c : Dev nD) : Valuation τ sig (Elt F) := StableHlo.after hostOps2 (W3 m c)
def W5 (c : Dev nD) : Valuation τ sig (Elt F) := Region2.leave (W4 m) c
def W6 (c : Dev nD) : Valuation τ sig (Elt F) := Region3.leave (W5 m) c
def W7 (c : Dev nD) : Valuation τ sig (Elt F) := StableHlo.after hostOps4 (W6 m c)

/-- Each region's proof data. -/
def pdats : (p : Fin 4) → (c : Dev nD) → Dat τ (Elt F) Unit ℕ UU ℕ (cfgs p) c
  | ⟨0, _⟩, c => Region0.dat (W1 m) c
  | ⟨1, _⟩, c => Region1.dat (W2 m) c
  | ⟨2, _⟩, c => Region2.dat (W4 m) c
  | ⟨3, _⟩, c => Region3.dat (W5 m) c

/-! ## Levels: one index, assigned at every cell of the TensorCores, at one level -/

def L : GSem nD τ sig → Finset Unit := fun g => if g.1.2 = .tc then {()} else ∅
def lv : GSem nD τ sig → Unit → ℕ := fun _ _ => 0

theorem L_off (g : GSem nD τ sig) (h : g.1.2 ≠ .tc) : L g = ∅ := if_neg h

theorem cut (p : Fin 4) : Pipeline.LevelCut (pcfgs (F := F)) adm () L lv p (fun _ => (0 : CellTallies nD τ sig Unit)) (fun _ => 0) where
  hι _ _ _ := by unfold L; rw [if_pos rfl]; exact Finset.mem_singleton_self _
  hιb _ _ _ := le_refl _
  hD _ _ _ h := absurd h (by simp)

/-! ## The regions as segments -/

/-- What rides along between the items: the generator register and the core owing nothing. -/
def E (c : Dev nD) : sProp 𝕄 := iprop((∃ r, prngReg c r) ∗ ∃ Wd, owes (c : Thread nD τ) (0 : CellTallies nD τ sig Unit) Wd)

/-- The state between two items: the unscoped buffers at a valuation, and the rest. -/
def T (V : Dev nD → Valuation τ sig (Elt F)) (c : Dev nD) : sProp 𝕄 :=
  iprop(StableHlo.held (c : Thread nD τ) (Pipeline.ucRefs τ sig) (V c) ∗ E c)

def R0 : RegionSeg (pcfgs (F := F)) adm (pdats m) () defs₀ Variants.none L lv 0 :=
  RegionSeg.ofHeldIn (pcfgs (F := F)) adm (pdats m) () defs₀ Variants.none L lv 0 (fun _ => 0) (Pipeline.ucRefs τ sig)
    (fun c => iprop(∃ r, prngReg c r)) (fun c => iprop(∃ r, prngReg c r)) launch0.toP rfl
    (fun c => (Region0.body_obligation (W1 m) c).loose) (fun _ _ => rfl) (fun _ => rfl)
    (fun c w => by
      show (if _ then fullShare else fullShare) = fullShare
      exact ite_self _)
    (fun c => by
      show _ ⊢ Pipeline.ΦA spec0 c
      unfold Pipeline.ΦA; exact .rfl)
    (fun c => by
      show Pipeline.ΦA spec0 c ⊢ _
      unfold Pipeline.ΦA; exact .rfl)
    (fun _ => 0) (cut 0) (fun _ => iprop(emp)) (W1 m) (fun c w => Region0.arr_start (W1 m) c w)

theorem uc0 : Pipeline.arrRefs (τ := τ) spec0 ⊆ Pipeline.ucRefs τ sig := Pipeline.arrRefs_sub_ucRefs spec0 launch0.win.arr_unscoped

theorem pre0 (c : Dev nD) : T (W1 m) c ⊢ (R0 m).pre c := by
  show _ ⊢ iprop(StableHlo.held (c.tc : Thread nD τ) (Pipeline.arrRefs spec0) (W1 m c) ∗ (∃ r, prngReg c r)
      ∗ (StableHlo.held (c.tc : Thread nD τ) (Pipeline.ucRefs τ sig \ Pipeline.arrRefs (τ := τ) spec0) (W1 m c) ∗ emp) ∗ ∃ Wd, owes (c : Thread nD τ) (0 : CellTallies nD τ sig Unit) Wd)
  unfold T E
  rw [StableHlo.held_sub_split (c.tc : Thread nD τ) uc0 (W1 m c)]
  iintro ⟨⟨Ha, Hu⟩, Hp, HO⟩
  isplitl [Ha]; · iexact Ha
  isplitl [Hp]; · iexact Hp
  isplitl [Hu]
  · isplitl [Hu]; · iexact Hu
    iempintro
  iexact HO

theorem off0 (c : Dev nD) (b : DevRef τ sig) (hb : b ∈ Pipeline.ucRefs τ sig \ Pipeline.arrRefs (τ := τ) spec0) : W2 m c b = W1 m c b :=
  Pipeline.afterRegion_off (Region0.dat (W1 m) c) (W1 m c) (Pipeline.ucRefs τ sig) b hb

theorem post0 (c : Dev nD) : (R0 m).post c ⊢ T (W2 m) c := by
  show iprop(StableHlo.held (c.tc : Thread nD τ) (Pipeline.arrRefs spec0) (W2 m c) ∗ (∃ r, prngReg c r)
      ∗ (StableHlo.held (c.tc : Thread nD τ) (Pipeline.ucRefs τ sig \ Pipeline.arrRefs (τ := τ) spec0) (W1 m c) ∗ emp) ∗ ∃ Wd, owes (c : Thread nD τ) (0 : CellTallies nD τ sig Unit) Wd) ⊢ _
  unfold T E
  rw [StableHlo.held_sub_split (c.tc : Thread nD τ) uc0 (W2 m c),
    StableHlo.held_congr (c.tc : Thread nD τ) (S := Pipeline.ucRefs τ sig \ Pipeline.arrRefs (τ := τ) spec0) (V := W2 m c) (V' := W1 m c) (off0 m c)]
  iintro ⟨Ha, Hp, ⟨Hu, -⟩, HO⟩
  isplitl [Ha Hu]
  · isplitl [Ha]; · iexact Ha
    iexact Hu
  isplitl [Hp]; · iexact Hp
  iexact HO

/-- The unscoped buffers other than region 1's arrays. -/
def S1 : Finset (DevRef τ sig) := Pipeline.ucRefs τ sig \ Pipeline.arrRefs (τ := τ) spec1

theorem uc1 : Pipeline.arrRefs (τ := τ) spec1 ⊆ Pipeline.ucRefs τ sig := Pipeline.arrRefs_sub_ucRefs spec1 launch1.win.arr_unscoped

theorem mem_S1 (b : DevRef τ sig) : b ∈ S1 → ∀ w, b ≠ Proc.devRef .tc (Pipeline.arrRef spec1 w) := fun h w e =>
  (Finset.mem_sdiff.mp h).2 (Finset.mem_map.mpr ⟨_, Finset.mem_image.mpr ⟨w, Finset.mem_univ _, rfl⟩, e.symm⟩)

theorem off1 (c : Dev nD) (b : DevRef τ sig) (hb : b ∈ S1 \ Pipeline.hbmRefs (τ := τ) Region1.Hw) : W3 m c b = W2 m c b :=
  Region1.leave_of (W2 m) c b (mem_S1 b (Finset.mem_sdiff.mp hb).1 4)
    (fun e => (Finset.mem_sdiff.mp hb).2 (Finset.mem_map.mpr ⟨main_v13_1, by decide, e.symm⟩))
    (fun e => (Finset.mem_sdiff.mp hb).2 (Finset.mem_map.mpr ⟨main_v13_2, by decide, e.symm⟩))

def R1 : RegionSeg (pcfgs (F := F)) adm (pdats m) () defs₀ Variants.none L lv 1 :=
  RegionSeg.ofHeldDW (pcfgs (F := F)) adm (pdats m) () defs₀ Variants.none L lv 1 (fun _ => 0) () Region1.osem Region1.ownSemFacts
    Region1.Hr Region1.Hw S1 (by decide) (by decide) launch1.toP rfl
    (fun c => (Region1.body_obligation (W2 m) c).loose) (fun _ _ => rfl) (fun _ => rfl)
    (fun c w => by
      show (if _ then fullShare else fullShare) = fullShare
      exact ite_self _)
    (fun c => by
      iintro -
      iapply (Transfers.MayWaits.zero c.tc ())
      iempintro)
    (W2 m) (W3 m) (off1 m) (Region1.hin (W2 m))
    (fun c => Region1.hout (W2 m) c)
    (fun _ => 0) (cut 1) (fun _ => iprop(emp)) (fun c w => Region1.arr_start (W2 m) c w) (fun c w => Region1.arr_end (W2 m) c w)

theorem pre1 (c : Dev nD) : T (W2 m) c ⊢ (R1 m).pre c := by
  show _ ⊢ iprop(StableHlo.held (c.tc : Thread nD τ) (Pipeline.arrRefs spec1) (W2 m c) ∗ (∃ r, prngReg c r)
      ∗ (StableHlo.held (c.tc : Thread nD τ) S1 (W2 m c) ∗ emp) ∗ ∃ Wd, owes (c : Thread nD τ) (0 : CellTallies nD τ sig Unit) Wd)
  unfold T E
  rw [StableHlo.held_sub_split (c.tc : Thread nD τ) uc1 (W2 m c)]
  iintro ⟨⟨Ha, Hu⟩, Hp, HO⟩
  isplitl [Ha]; · iexact Ha
  isplitl [Hp]; · iexact Hp
  isplitl [Hu]
  · isplitl [Hu]; · iexact Hu
    iempintro
  iexact HO

theorem post1 (c : Dev nD) : (R1 m).post c ⊢ T (W3 m) c := by
  show iprop(StableHlo.held (c.tc : Thread nD τ) (Pipeline.arrRefs spec1) (W3 m c) ∗ (∃ r, prngReg c r)
      ∗ (StableHlo.held (c.tc : Thread nD τ) S1 (W3 m c) ∗ emp) ∗ ∃ Wd, owes (c : Thread nD τ) (0 : CellTallies nD τ sig Unit) Wd) ⊢ _
  unfold T E
  rw [StableHlo.held_sub_split (c.tc : Thread nD τ) uc1 (W3 m c)]
  iintro ⟨Ha, Hp, ⟨Hu, -⟩, HO⟩
  isplitl [Ha Hu]
  · isplitl [Ha]; · iexact Ha
    iexact Hu
  isplitl [Hp]; · iexact Hp
  iexact HO

/-- The unscoped buffers other than region 2's arrays. -/
def S2 : Finset (DevRef τ sig) := Pipeline.ucRefs τ sig \ Pipeline.arrRefs (τ := τ) spec2

theorem uc2 : Pipeline.arrRefs (τ := τ) spec2 ⊆ Pipeline.ucRefs τ sig := Pipeline.arrRefs_sub_ucRefs spec2 launch2.win.arr_unscoped

theorem mem_S2 (b : DevRef τ sig) : b ∈ S2 → ∀ w, b ≠ Proc.devRef .tc (Pipeline.arrRef spec2 w) := fun h w e =>
  (Finset.mem_sdiff.mp h).2 (Finset.mem_map.mpr ⟨_, Finset.mem_image.mpr ⟨w, Finset.mem_univ _, rfl⟩, e.symm⟩)

theorem off2 (c : Dev nD) (b : DevRef τ sig) (hb : b ∈ S2 \ Pipeline.hbmRefs (τ := τ) Region2.Hw) : W5 m c b = W4 m c b :=
  Region2.leave_of (W4 m) c b (mem_S2 b (Finset.mem_sdiff.mp hb).1 5)
    (fun e => (Finset.mem_sdiff.mp hb).2 (Finset.mem_map.mpr ⟨main_v14_1, by decide, e.symm⟩))
    (fun e => (Finset.mem_sdiff.mp hb).2 (Finset.mem_map.mpr ⟨main_v14_2, by decide, e.symm⟩))

def R2 : RegionSeg (pcfgs (F := F)) adm (pdats m) () defs₀ Variants.none L lv 2 :=
  RegionSeg.ofHeldDW (pcfgs (F := F)) adm (pdats m) () defs₀ Variants.none L lv 2 (fun _ => 0) () Region2.osem Region2.ownSemFacts
    Region2.Hr Region2.Hw S2 (by decide) (by decide) launch2.toP rfl
    (fun c => (Region2.body_obligation (W4 m) c).loose) (fun _ _ => rfl) (fun _ => rfl)
    (fun c w => by
      show (if _ then fullShare else fullShare) = fullShare
      exact ite_self _)
    (fun c => by
      iintro -
      iapply (Transfers.MayWaits.zero c.tc ())
      iempintro)
    (W4 m) (W5 m) (off2 m) (Region2.hin (W4 m))
    (fun c => Region2.hout (W4 m) c)
    (fun _ => 0) (cut 2) (fun _ => iprop(emp)) (fun c w => Region2.arr_start (W4 m) c w) (fun c w => Region2.arr_end (W4 m) c w)

theorem pre2 (c : Dev nD) : T (W4 m) c ⊢ (R2 m).pre c := by
  show _ ⊢ iprop(StableHlo.held (c.tc : Thread nD τ) (Pipeline.arrRefs spec2) (W4 m c) ∗ (∃ r, prngReg c r)
      ∗ (StableHlo.held (c.tc : Thread nD τ) S2 (W4 m c) ∗ emp) ∗ ∃ Wd, owes (c : Thread nD τ) (0 : CellTallies nD τ sig Unit) Wd)
  unfold T E
  rw [StableHlo.held_sub_split (c.tc : Thread nD τ) uc2 (W4 m c)]
  iintro ⟨⟨Ha, Hu⟩, Hp, HO⟩
  isplitl [Ha]; · iexact Ha
  isplitl [Hp]; · iexact Hp
  isplitl [Hu]
  · isplitl [Hu]; · iexact Hu
    iempintro
  iexact HO

theorem post2 (c : Dev nD) : (R2 m).post c ⊢ T (W5 m) c := by
  show iprop(StableHlo.held (c.tc : Thread nD τ) (Pipeline.arrRefs spec2) (W5 m c) ∗ (∃ r, prngReg c r)
      ∗ (StableHlo.held (c.tc : Thread nD τ) S2 (W5 m c) ∗ emp) ∗ ∃ Wd, owes (c : Thread nD τ) (0 : CellTallies nD τ sig Unit) Wd) ⊢ _
  unfold T E
  rw [StableHlo.held_sub_split (c.tc : Thread nD τ) uc2 (W5 m c)]
  iintro ⟨Ha, Hp, ⟨Hu, -⟩, HO⟩
  isplitl [Ha Hu]
  · isplitl [Ha]; · iexact Ha
    iexact Hu
  isplitl [Hp]; · iexact Hp
  iexact HO

/-- The unscoped buffers other than region 3's arrays. -/
def S3 : Finset (DevRef τ sig) := Pipeline.ucRefs τ sig \ Pipeline.arrRefs (τ := τ) spec3

theorem uc3 : Pipeline.arrRefs (τ := τ) spec3 ⊆ Pipeline.ucRefs τ sig := Pipeline.arrRefs_sub_ucRefs spec3 launch3.win.arr_unscoped

theorem mem_S3 (b : DevRef τ sig) : b ∈ S3 → ∀ w, b ≠ Proc.devRef .tc (Pipeline.arrRef spec3 w) := fun h w e =>
  (Finset.mem_sdiff.mp h).2 (Finset.mem_map.mpr ⟨_, Finset.mem_image.mpr ⟨w, Finset.mem_univ _, rfl⟩, e.symm⟩)

theorem off3 (c : Dev nD) (b : DevRef τ sig) (hb : b ∈ S3 \ Pipeline.hbmRefs (τ := τ) Region3.Hw) : W6 m c b = W5 m c b :=
  Region3.leave_of (W5 m) c b (mem_S3 b (Finset.mem_sdiff.mp hb).1 5)
    (fun e => (Finset.mem_sdiff.mp hb).2 (Finset.mem_map.mpr ⟨main_v15_1, by decide, e.symm⟩))
    (fun e => (Finset.mem_sdiff.mp hb).2 (Finset.mem_map.mpr ⟨main_v15_2, by decide, e.symm⟩))

def R3 : RegionSeg (pcfgs (F := F)) adm (pdats m) () defs₀ Variants.none L lv 3 :=
  RegionSeg.ofHeldDW (pcfgs (F := F)) adm (pdats m) () defs₀ Variants.none L lv 3 (fun _ => 0) () Region3.osem Region3.ownSemFacts
    Region3.Hr Region3.Hw S3 (by decide) (by decide) launch3.toP rfl
    (fun c => (Region3.body_obligation (W5 m) c).loose) (fun _ _ => rfl) (fun _ => rfl)
    (fun c w => by
      show (if _ then fullShare else fullShare) = fullShare
      exact ite_self _)
    (fun c => by
      iintro -
      iapply (Transfers.MayWaits.zero c.tc ())
      iempintro)
    (W5 m) (W6 m) (off3 m) (Region3.hin (W5 m))
    (fun c => Region3.hout (W5 m) c)
    (fun _ => 0) (cut 3) (fun _ => iprop(emp)) (fun c w => Region3.arr_start (W5 m) c w) (fun c w => Region3.arr_end (W5 m) c w)

theorem pre3 (c : Dev nD) : T (W5 m) c ⊢ (R3 m).pre c := by
  show _ ⊢ iprop(StableHlo.held (c.tc : Thread nD τ) (Pipeline.arrRefs spec3) (W5 m c) ∗ (∃ r, prngReg c r)
      ∗ (StableHlo.held (c.tc : Thread nD τ) S3 (W5 m c) ∗ emp) ∗ ∃ Wd, owes (c : Thread nD τ) (0 : CellTallies nD τ sig Unit) Wd)
  unfold T E
  rw [StableHlo.held_sub_split (c.tc : Thread nD τ) uc3 (W5 m c)]
  iintro ⟨⟨Ha, Hu⟩, Hp, HO⟩
  isplitl [Ha]; · iexact Ha
  isplitl [Hp]; · iexact Hp
  isplitl [Hu]
  · isplitl [Hu]; · iexact Hu
    iempintro
  iexact HO

theorem post3 (c : Dev nD) : (R3 m).post c ⊢ T (W6 m) c := by
  show iprop(StableHlo.held (c.tc : Thread nD τ) (Pipeline.arrRefs spec3) (W6 m c) ∗ (∃ r, prngReg c r)
      ∗ (StableHlo.held (c.tc : Thread nD τ) S3 (W6 m c) ∗ emp) ∗ ∃ Wd, owes (c : Thread nD τ) (0 : CellTallies nD τ sig Unit) Wd) ⊢ _
  unfold T E
  rw [StableHlo.held_sub_split (c.tc : Thread nD τ) uc3 (W6 m c)]
  iintro ⟨Ha, Hp, ⟨Hu, -⟩, HO⟩
  isplitl [Ha Hu]
  · isplitl [Ha]; · iexact Ha
    iexact Hu
  isplitl [Hp]; · iexact Hp
  iexact HO

/-! ## The host stretches as segments, and the run -/

def H0 : HostSeg (Ix := Unit) (Name := ℕ) (U := UU) (Lvl := ℕ) (pcfgs (F := F)) defs₀ Variants.none L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) E
def H2 : HostSeg (Ix := Unit) (Name := ℕ) (U := UU) (Lvl := ℕ) (pcfgs (F := F)) defs₀ Variants.none L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W3 m) E
def H4 : HostSeg (Ix := Unit) (Name := ℕ) (U := UU) (Lvl := ℕ) (pcfgs (F := F)) defs₀ Variants.none L lv :=
  HostSeg.ofOps _ _ _ _ _ (Pipeline.ucRefs τ sig) hostOps4
    (fun op h => Pipeline.sub_ucRefs op ((List.forall_iff_forall_mem.mp hostOps4_sub) op h))
    (fun op h => (List.forall_iff_forall_mem.mp hostOps4_fresh) op h) (W6 m) E

abbrev segs (_ : Dev nD) : List (Seg (pcfgs (F := F)) adm (pdats m) () defs₀ Variants.none L lv) :=
  [.host (H0 m), .region (R0 m), .region (R1 m), .host (H2 m), .region (R2 m), .region (R3 m), .host (H4 m)]

def EP : Emb (URounds (GSem nD τ sig) Unit) 𝕄 := embL
instance : (EP (F := F)).LandsIn (upEmb : UEmb _ 𝕄) := by unfold EP; infer_instance
def u₀ : UU := (initOf (Pipeline.cells cfgs cellOf_inj) (Pipeline.launchToks cfgs cellOf_inj), 1)

/-- What the launch gives core `c` is the first item's state. -/
theorem launch_state (ρ : Dev nD → PrngReg) (c : Dev nD) :
    (iprop(unscopedBufs c (fun b => m ((c.tc : Thread nD τ).loc b)) ∗ unscopedSems0 c
          ∗ owes (c.tc : Thread nD τ) 0 ∅ ∗ Pipeline.launchCred (fun _ => (0 : CellTallies nD τ sig Unit)) c ∗ prngReg c (ρ c) ∗ emp) : sProp 𝕄)
      ⊢ T (V0 m) c := by
  unfold T E
  rw [← Pipeline.unscopedBufs_held (Ix := Unit) (Name := ℕ) (U := UU) (Lvl := ℕ) c (V0 m c)]
  iintro ⟨Hb, -, HO, -, Hp, -⟩
  isplitl [Hb]; · iexact Hb
  isplitl [Hp]; · iexists _; iexact Hp
  iexists _; iexact HO

-- the implicit arguments of the segment theorem are found by unifying its conclusion with this one, which takes unfolding
-- plain definitions in a metavariable's type
set_option backward.isDefEq.respectTransparency.types false in
theorem run_main (ρ : Dev nD → PrngReg) :
    θ_run defs (onTc (τ := τ) (main (F := F))) ⟨m, fun _ => 0, ρ⟩ (fun r =>
      (∀ c : Dev nD, ∀ b ∈ Pipeline.ucRefs τ sig, r.2.mem (c, b) = W7 m c b) ∧ r.2.sem = fun _ => 0) := by
  refine Pipeline.θ_run_regions_kit_dev_sems (pcfgs (F := F)) adm (pdats m) () cellOf_inj EP defs₀ Variants.none L lv m ρ main
    (segs m)
    (fun c Q => by
      rewrite [main_chain c, Seg.run_eq_chain,
        show (segs m c).map Seg.prog = [
          StableHlo.seq hostOps0,
          Prog.lift (.customCall (Pipeline.entry 0) ()),
          Prog.lift (.customCall (Pipeline.entry 1) ()),
          StableHlo.seq hostOps2,
          Prog.lift (.customCall (Pipeline.entry 2) ()),
          Prog.lift (.customCall (Pipeline.entry 3) ()),
          StableHlo.seq hostOps4 ] from rfl]
      dsimp (config := { failIfUnchanged := false }) only
      exact .rfl)
    (fun c => by simp only [segs, Seg.pipes_host, Seg.pipes_region, Seg.pipes_nil]; decide) (fun _ => 0) L_off (fun _ => iprop(emp)) u₀ ?hu
    (T₀ := T (V0 m))
    (Tₙ := fun c => StableHlo.held (c : Thread nD τ) (Pipeline.ucRefs τ sig) (W7 m c))
    (hch := fun c => ⟨.rfl, pre0 m c, (post0 m c).trans (pre1 m c), post1 m c, pre2 m c, (post2 m c).trans (pre3 m c), post3 m c,
      sep_mono .rfl (by unfold E; iintro ⟨-, HO⟩; iexact HO)⟩)
    (hinit := ?_) (QY := fun c s => ∀ b ∈ Pipeline.ucRefs τ sig, s.mem (c, b) = W7 m c b)
    (hfin := fun c s' => ?_) (hQ := fun _ h hz => ⟨h, funext fun g => hz g (.inr (regions_no_unscoped g.2))⟩)
  case hu =>
    iintro Hu
    ihave H := (ownU_pair _ _) $$ Hu
    icases H with ⟨HP, -⟩
    imodintro
    isplitl [HP]; · iexact HP
    iapply (show (BI.emp) ⊢ bigSep Finset.univ (fun _ => BI.emp) from by rw [BI.bigSep_emp_const])
    iempintro
  · iintro ⟨H, -⟩
    imodintro
    iapply (show (bigSep Finset.univ fun c : Dev nD => iprop(unscopedBufs c (fun b => m ((c.tc : Thread nD τ).loc b)) ∗ unscopedSems0 c
          ∗ owes (c.tc : Thread nD τ) 0 ∅ ∗ Pipeline.launchCred (fun _ => (0 : CellTallies nD τ sig Unit)) c ∗ prngReg c (ρ c) ∗ emp))
        ⊢ (bigSep Finset.univ (T (V0 m)) : sProp 𝕄) from bigSep_mono fun c _ => launch_state m ρ c)
    iexact H
  · unfold StableHlo.held
    iintro ⟨Hh, HSI⟩
    ihave Hr := (pointsTo_read_all (Pipeline.ucRefs τ sig) (fun b => ((c : Thread nD τ).1, b)) (W7 m c) s') $$ [Hh HSI]
    · isplitl [Hh] <;> iassumption
    icases Hr with ⟨%h, HSI⟩
    imodintro
    isplitr
    · ipureintro; exact h
    · iexact HSI

/-! ## No item writes an argument -/

theorem W1_of (c : Dev nD) (r : Ref sig .tc) (h : r ∉ hostOps0_W) : W1 m c r = V0 m c r :=
  StableHlo.after_of_writes_sub hostOps0 _ hostOps0_writes h
theorem W2_of (c : Dev nD) (r : Ref sig .tc) (h : ∀ w, Pipeline.arrRef cfg0.spec w = r → (cfg0.win w).isOut = false) : W2 m c r = W1 m c r :=
  Pipeline.afterRegion_keeps (Region0.dat (W1 m) c) (W1 m c) launch0.win.arr_inj (fun w => Region0.A_eq (W1 m) c w) r h
theorem W3_of (c : Dev nD) (r : Ref sig .tc) (h : r ∉ ([main_v13_0, main_v13_1, main_v13_2] : List (Ref sig .tc))) : W3 m c r = W2 m c r :=
  Region1.leave_of (W2 m) c _ (StableHlo.devRef_ne_of_ne (by rintro rfl; exact h (by decide))) (StableHlo.devRef_ne_of_ne (by rintro rfl; exact h (by decide)))
    (StableHlo.devRef_ne_of_ne (by rintro rfl; exact h (by decide)))
theorem W4_of (c : Dev nD) (r : Ref sig .tc) (h : r ∉ hostOps2_W) : W4 m c r = W3 m c r :=
  StableHlo.after_of_writes_sub hostOps2 _ hostOps2_writes h
theorem W5_of (c : Dev nD) (r : Ref sig .tc) (h : r ∉ ([main_v14_0, main_v14_1, main_v14_2] : List (Ref sig .tc))) : W5 m c r = W4 m c r :=
  Region2.leave_of (W4 m) c _ (StableHlo.devRef_ne_of_ne (by rintro rfl; exact h (by decide))) (StableHlo.devRef_ne_of_ne (by rintro rfl; exact h (by decide)))
    (StableHlo.devRef_ne_of_ne (by rintro rfl; exact h (by decide)))
theorem W6_of (c : Dev nD) (r : Ref sig .tc) (h : r ∉ ([main_v15_0, main_v15_1, main_v15_2] : List (Ref sig .tc))) : W6 m c r = W5 m c r :=
  Region3.leave_of (W5 m) c _ (StableHlo.devRef_ne_of_ne (by rintro rfl; exact h (by decide))) (StableHlo.devRef_ne_of_ne (by rintro rfl; exact h (by decide)))
    (StableHlo.devRef_ne_of_ne (by rintro rfl; exact h (by decide)))
theorem W7_of (c : Dev nD) (r : Ref sig .tc) (h : r ∉ hostOps4_W) : W7 m c r = W6 m c r :=
  StableHlo.after_of_writes_sub hostOps4 _ hostOps4_writes h

/-- A buffer that no item writes ends as launched. -/
theorem W7_kept (c : Dev nD) (r : Ref sig .tc) (h0 : r ∉ hostOps0_W) (h1 : ∀ w, Pipeline.arrRef cfg0.spec w = r → (cfg0.win w).isOut = false)
    (h2 : r ∉ ([main_v13_0, main_v13_1, main_v13_2] : List (Ref sig .tc))) (h3 : r ∉ hostOps2_W)
    (h4 : r ∉ ([main_v14_0, main_v14_1, main_v14_2] : List (Ref sig .tc))) (h5 : r ∉ ([main_v15_0, main_v15_1, main_v15_2] : List (Ref sig .tc)))
    (h6 : r ∉ hostOps4_W) : W7 m c r = m ((c : Thread nD τ).loc r) :=
  (W7_of m c r h6).trans <| (W6_of m c r h5).trans <| (W5_of m c r h4).trans <| (W4_of m c r h3).trans <| (W3_of m c r h2).trans <|
    (W2_of m c r h1).trans <| (W1_of m c r h0).trans rfl

/-- What the end reads at a buffer of the TensorCore that is not scoped. -/
theorem read_end {s : MemSt nD τ sig (Elt F)} {c : Dev nD} (h : ∀ b ∈ Pipeline.ucRefs τ sig, s.mem (c, b) = W7 m c b) (r : Ref sig .tc)
    (hr : (Proc.devRef .tc r : DevRef τ sig) ∈ Pipeline.ucRefs τ sig) : s.mem ((c.tc : Thread nD τ).loc r) = W7 m c r := h _ hr

theorem arg0 {s : MemSt nD τ sig (Elt F)} {c : Dev nD} (h : ∀ b ∈ Pipeline.ucRefs τ sig, s.mem (c, b) = W7 m c b) :
    s.mem ((c.tc : Thread nD τ).loc main_arg0) = m ((c.tc : Thread nD τ).loc main_arg0) :=
  (h (Proc.devRef .tc main_arg0) (Finset.mem_filter.mpr ⟨StableHlo.devRef_mem_tcRefs main_arg0, by decide⟩)).trans
    (W7_kept m c main_arg0 (by decide) (by decide) (by decide) (by decide) (by decide) (by decide) (by decide))
theorem arg1 {s : MemSt nD τ sig (Elt F)} {c : Dev nD} (h : ∀ b ∈ Pipeline.ucRefs τ sig, s.mem (c, b) = W7 m c b) :
    s.mem ((c.tc : Thread nD τ).loc main_arg1) = m ((c.tc : Thread nD τ).loc main_arg1) :=
  (h (Proc.devRef .tc main_arg1) (Finset.mem_filter.mpr ⟨StableHlo.devRef_mem_tcRefs main_arg1, by decide⟩)).trans
    (W7_kept m c main_arg1 (by decide) (by decide) (by decide) (by decide) (by decide) (by decide) (by decide))
theorem arg2 {s : MemSt nD τ sig (Elt F)} {c : Dev nD} (h : ∀ b ∈ Pipeline.ucRefs τ sig, s.mem (c, b) = W7 m c b) :
    s.mem ((c.tc : Thread nD τ).loc main_arg2) = m ((c.tc : Thread nD τ).loc main_arg2) :=
  (h (Proc.devRef .tc main_arg2) (Finset.mem_filter.mpr ⟨StableHlo.devRef_mem_tcRefs main_arg2, by decide⟩)).trans
    (W7_kept m c main_arg2 (by decide) (by decide) (by decide) (by decide) (by decide) (by decide) (by decide))
theorem arg3 {s : MemSt nD τ sig (Elt F)} {c : Dev nD} (h : ∀ b ∈ Pipeline.ucRefs τ sig, s.mem (c, b) = W7 m c b) :
    s.mem ((c.tc : Thread nD τ).loc main_arg3) = m ((c.tc : Thread nD τ).loc main_arg3) :=
  (h (Proc.devRef .tc main_arg3) (Finset.mem_filter.mpr ⟨StableHlo.devRef_mem_tcRefs main_arg3, by decide⟩)).trans
    (W7_kept m c main_arg3 (by decide) (by decide) (by decide) (by decide) (by decide) (by decide) (by decide))
theorem arg4 {s : MemSt nD τ sig (Elt F)} {c : Dev nD} (h : ∀ b ∈ Pipeline.ucRefs τ sig, s.mem (c, b) = W7 m c b) :
    s.mem ((c.tc : Thread nD τ).loc main_arg4) = m ((c.tc : Thread nD τ).loc main_arg4) :=
  (h (Proc.devRef .tc main_arg4) (Finset.mem_filter.mpr ⟨StableHlo.devRef_mem_tcRefs main_arg4, by decide⟩)).trans
    (W7_kept m c main_arg4 (by decide) (by decide) (by decide) (by decide) (by decide) (by decide) (by decide))
theorem arg5 {s : MemSt nD τ sig (Elt F)} {c : Dev nD} (h : ∀ b ∈ Pipeline.ucRefs τ sig, s.mem (c, b) = W7 m c b) :
    s.mem ((c.tc : Thread nD τ).loc main_arg5) = m ((c.tc : Thread nD τ).loc main_arg5) :=
  (h (Proc.devRef .tc main_arg5) (Finset.mem_filter.mpr ⟨StableHlo.devRef_mem_tcRefs main_arg5, by decide⟩)).trans
    (W7_kept m c main_arg5 (by decide) (by decide) (by decide) (by decide) (by decide) (by decide) (by decide))
theorem arg6 {s : MemSt nD τ sig (Elt F)} {c : Dev nD} (h : ∀ b ∈ Pipeline.ucRefs τ sig, s.mem (c, b) = W7 m c b) :
    s.mem ((c.tc : Thread nD τ).loc main_arg6) = m ((c.tc : Thread nD τ).loc main_arg6) :=
  (h (Proc.devRef .tc main_arg6) (Finset.mem_filter.mpr ⟨StableHlo.devRef_mem_tcRefs main_arg6, by decide⟩)).trans
    (W7_kept m c main_arg6 (by decide) (by decide) (by decide) (by decide) (by decide) (by decide) (by decide))
theorem arg7 {s : MemSt nD τ sig (Elt F)} {c : Dev nD} (h : ∀ b ∈ Pipeline.ucRefs τ sig, s.mem (c, b) = W7 m c b) :
    s.mem ((c.tc : Thread nD τ).loc main_arg7) = m ((c.tc : Thread nD τ).loc main_arg7) :=
  (h (Proc.devRef .tc main_arg7) (Finset.mem_filter.mpr ⟨StableHlo.devRef_mem_tcRefs main_arg7, by decide⟩)).trans
    (W7_kept m c main_arg7 (by decide) (by decide) (by decide) (by decide) (by decide) (by decide) (by decide))

theorem args {s : MemSt nD τ sig (Elt F)} {c : Dev nD} (h : ∀ b ∈ Pipeline.ucRefs τ sig, s.mem (c, b) = W7 m c b) :
    s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7) :=
  ⟨arg0 m h, arg1 m h, arg2 m h, arg3 m h, arg4 m h, arg5 m h, arg6 m h, arg7 m h⟩

end Cert.KernelIdeal.Run

end
-- ==== Proof.IdealPoint.lean ====
/-
  The vocabulary of the value proof: a rank-two vector read by a function of two natural numbers (`Reads`), how each
  vector operation of the fused passes changes that function, and the functions that a grid point computes.
-/
module

public import proofs.«01_k».proof.Proof.Gen.KernelIdeal.Skeleton
public import Idealize.ShloMosaic.Lib.Pointwise
public import Idealize.ShloMosaic.Lib.Pipeline.ValueKit.Tiles
public import Idealize.ShloMosaic.Lib.WholeRead

@[expose] public section

set_option maxRecDepth 16384

noncomputable section

namespace Cert.KernelIdeal.Point

open Cert.KernelIdeal Cert.KernelIdeal.Gen
open Idealize.ShloMosaic

/-- The two-dimensional shape with `a` rows and `b` columns. -/
abbrev Sh (a b : ℕ) : Shape := ⟨2, ![a, b]⟩

/-- The vector `f` reads `φ`: its entry in row `i` and column `j` is `φ i j`. -/
def Reads {α : Type} {a b : ℕ} (f : (Sh a b).Idx → α) (φ : ℕ → ℕ → α) : Prop := ∀ (i : Fin a) (j : Fin b), f (ix2 i j) = φ i.val j.val

/-- A vector as a function of two natural numbers, zero outside. -/
def nat2 {a b : ℕ} (f : (Sh a b).Idx → EReal) : ℕ → ℕ → EReal :=
  fun i j => if h : i < a ∧ j < b then f (ix2 ⟨i, h.1⟩ ⟨j, h.2⟩) else 0

theorem reads_nat2 {a b : ℕ} (f : (Sh a b).Idx → EReal) : Reads f (nat2 f) := by
  intro i j
  unfold nat2
  rw [dif_pos ⟨i.isLt, j.isLt⟩]

theorem Reads.at {α : Type} {a b : ℕ} {f : (Sh a b).Idx → α} {φ : ℕ → ℕ → α} (h : Reads f φ) (y : (Sh a b).Idx) :
    f y = φ (y 0).val (y 1).val := by
  rw [eq_ix2 y]; exact h (y 0) (y 1)

theorem Reads.of {α : Type} {a b : ℕ} {f : (Sh a b).Idx → α} {φ : ℕ → ℕ → α} (h : ∀ y : (Sh a b).Idx, f y = φ (y 0).val (y 1).val) :
    Reads f φ := fun i j => h (ix2 i j)

theorem Reads.congr {α : Type} {a b : ℕ} {f : (Sh a b).Idx → α} {φ ψ : ℕ → ℕ → α} (h : Reads f φ)
    (e : ∀ i j, i < a → j < b → φ i j = ψ i j) : Reads f ψ := fun i j => (h i j).trans (e _ _ i.isLt j.isLt)

theorem Reads.nat2_eq {a b : ℕ} {f : (Sh a b).Idx → EReal} {φ : ℕ → ℕ → EReal} (h : Reads f φ) {i j : ℕ} (hi : i < a) (hj : j < b) :
    nat2 f i j = φ i j := by
  unfold nat2
  rw [dif_pos ⟨hi, hj⟩]; exact h ⟨i, hi⟩ ⟨j, hj⟩

/-! ## Loads and stores -/

/-- A load of a rectangle of a whole buffer. -/
theorem reads_load {κ : Kind} {sp : Space} {A B a b : ℕ} {e : EltTy} {M : Memref sig κ sp (Sh A B) e}
    (h : M.IsWhole) {X : (Sh A B).Idx → Elt Ideal e} {φ : ℕ → ℕ → Elt Ideal e} (hX : Reads X φ) (o0 o1 : ℕ)
    (inb : ∀ x, (![o0, o1] : Fin 2 → ℕ) x + (Sh a b).size x ≤ (Sh A B).size x) :
    Reads (View.readAt (Elt Ideal) M.view (Rect.unit (s := Sh A B) ![o0, o1] (Sh a b).size inb).toLoadRect (h.unread X))
      (fun i j => φ (o0 + i) (o1 + j)) := by
  intro i j
  rw [h.readAt_unread]
  refine (hX.at _).trans ?_
  have h0 : ((Rect.unit (s := Sh A B) ![o0, o1] (Sh a b).size inb).idx (ix2 i j) 0).val = o0 + i.val := by
    show o0 + 1 * i.val = _; omega
  have h1 : ((Rect.unit (s := Sh A B) ![o0, o1] (Sh a b).size inb).idx (ix2 i j) 1).val = o1 + j.val := by
    show o1 + 1 * j.val = _; omega
  exact congrArg₂ φ h0 h1

/-- A load of a rectangle of what stores left. -/
theorem reads_cov {κ : Kind} {sp : Space} {A B a b : ℕ} {e : EltTy} (v : View sig κ sp (Sh A B) e)
    {L : List (View.Piece (Elt Ideal) (Sh A B) e)} {φ : ℕ → ℕ → Elt Ideal e} (hX : Reads (View.canon L) φ) (o0 o1 : ℕ)
    (inb : ∀ x, (![o0, o1] : Fin 2 → ℕ) x + (Sh a b).size x ≤ (Sh A B).size x) :
    Reads (v.readCov L (Rect.unit (s := Sh A B) ![o0, o1] (Sh a b).size inb).toLoadRect) (fun i j => φ (o0 + i) (o1 + j)) := by
  intro i j
  rw [View.readCov_eq_canon']
  refine (hX.at _).trans ?_
  have h0 : ((Rect.unit (s := Sh A B) ![o0, o1] (Sh a b).size inb).idx (ix2 i j) 0).val = o0 + i.val := by
    show o0 + 1 * i.val = _; omega
  have h1 : ((Rect.unit (s := Sh A B) ![o0, o1] (Sh a b).size inb).idx (ix2 i j) 1).val = o1 + j.val := by
    show o1 + 1 * j.val = _; omega
  exact congrArg₂ φ h0 h1

/-- All pieces of a list of stores agree with `φ` where they lie. -/
def Fit {A B : ℕ} {e : EltTy} (L : List (View.Piece (Elt Ideal) (Sh A B) e)) (φ : ℕ → ℕ → Elt Ideal e) : Prop :=
  ∀ y : (Sh A B).Idx, View.AllAt L y (φ (y 0).val (y 1).val)

theorem fit_nil {A B : ℕ} {e : EltTy} (φ : ℕ → ℕ → Elt Ideal e) : Fit ([] : List (View.Piece (Elt Ideal) (Sh A B) e)) φ :=
  fun y => View.allAt_nil y _

theorem fit_cons {A B a b : ℕ} {e : EltTy} {φ : ℕ → ℕ → Elt Ideal e} (o0 o1 : ℕ)
    (inb : ∀ x, (![o0, o1] : Fin 2 → ℕ) x + (Sh a b).size x ≤ (Sh A B).size x) {w : (Sh a b).Idx → Elt Ideal e}
    {L : List (View.Piece (Elt Ideal) (Sh A B) e)} (ψ : ℕ → ℕ → Elt Ideal e) (hw : Reads w ψ)
    (he : ∀ i j, i < a → j < b → ψ i j = φ (o0 + i) (o1 + j)) (hL : Fit L φ) :
    Fit ((⟨Rect.unit (s := Sh A B) ![o0, o1] (Sh a b).size inb, w⟩ : View.Piece (Elt Ideal) (Sh A B) e) :: L) φ := by
  intro y
  refine View.allAt_cons_unit _ _ inb w L ?_ (hL y)
  intro x hx
  have h0 := hx 0
  have h1 := hx 1
  refine (hw.at x).trans ((he _ _ (x 0).isLt (x 1).isLt).trans ?_)
  exact congrArg₂ φ h0.symm h1.symm

theorem reads_canon {A B : ℕ} {e : EltTy} {L : List (View.Piece (Elt Ideal) (Sh A B) e)} {φ : ℕ → ℕ → Elt Ideal e}
    (hc : ∀ y, ∃ p ∈ L, y ∈ p.1.set) (h : Fit L φ) : Reads (View.canon L) φ :=
  Reads.of fun y => View.canon_eq_of_allAt L y _ (hc y) (h y)

/-! ## The vector operations -/

/-- The block of an operand, its scale multiplied in. -/
theorem reads_dq {φt : FTy} (h1 : (Sh 512 128).ShapeCasts (Sh 512 128)) (h2 : φt.bits < FTy.bf16.bits) (h3 : (Sh 512 1).ShapeCasts (Sh 512 1))
    (h4 : (Sh 512 1).ShapeCasts (Sh 512 1)) (h5 : (Sh 512 1).Broadcasts (Sh 512 128)) (h6 : FTy.bf16.bits < FTy.f32.bits)
    (h7 : (Sh 512 128).ShapeCasts (Sh 512 128)) {v : FVec Ideal (Sh 512 128) φt} {s : FVec Ideal (Sh 512 1) .f32} {φ ψ : ℕ → ℕ → EReal}
    (hv : Reads v φ) (hs : Reads s ψ) :
    Reads (shapeCast (Sh 512 128) (mulf (extf .bf16 (shapeCast (Sh 512 128) v h1) h2)
      (truncf .bf16 (broadcastTo (Sh 512 128) (shapeCast (Sh 512 1) (shapeCast (Sh 512 1) s h3) h4) h5) h6)) h7)
      (fun i j => φ i j * ψ i 0) := by
  intro i j
  have e1 := hv i j
  have e2 := hs i 0
  pointwise
  rw [e1, e2]; rfl

/-- The same block transposed. -/
theorem reads_dqT {φt : FTy} (h1 : (Sh 512 128).ShapeCasts (Sh 512 128)) (h2 : φt.bits < FTy.bf16.bits) (h3 : (Sh 512 1).ShapeCasts (Sh 512 1))
    (h4 : (Sh 512 1).ShapeCasts (Sh 512 1)) (h5 : (Sh 512 1).Broadcasts (Sh 512 128)) (h6 : FTy.bf16.bits < FTy.f32.bits)
    (h7 : (Sh 512 128).Transposes [1, 0] (Sh 128 512)) (h8 : (Sh 128 512).ShapeCasts (Sh 128 512))
    {v : FVec Ideal (Sh 512 128) φt} {s : FVec Ideal (Sh 512 1) .f32} {φ ψ : ℕ → ℕ → EReal}
    (hv : Reads v φ) (hs : Reads s ψ) :
    Reads (shapeCast (Sh 128 512) (transpose (Sh 128 512) [1, 0] (mulf (extf .bf16 (shapeCast (Sh 512 128) v h1) h2)
      (truncf .bf16 (broadcastTo (Sh 512 128) (shapeCast (Sh 512 1) (shapeCast (Sh 512 1) s h3) h4) h5) h6)) h7) h8)
      (fun i j => φ j i * ψ j 0) := by
  intro i j
  have e1 := hv j i
  have e2 := hs j 0
  pointwise
  rw [e1, e2]; rfl

theorem reads_slice {A B a b : ℕ} {φt : FTy} (o0 o1 : ℕ) {v : FVec Ideal (Sh A B) φt} (h : (Sh A B).Slices ![o0, o1] (Sh a b)) {φ : ℕ → ℕ → EReal}
    (hv : Reads v φ) : Reads (extractStridedSlice (Sh a b) ![o0, o1] v h) (fun i j => φ (o0 + i) (o1 + j)) :=
  fun _ _ => hv.at _

theorem reads_cast {a b : ℕ} {v : (Sh a b).Idx → EReal} (h : (Sh a b).ShapeCasts (Sh a b)) {φ : ℕ → ℕ → EReal} (hv : Reads v φ) :
    Reads (shapeCast (Sh a b) v h) φ := by rw [shapeCast_self]; exact hv

theorem reads_add {a b : ℕ} {φt : FTy} {v w : FVec Ideal (Sh a b) φt} {φ ψ : ℕ → ℕ → EReal} (hv : Reads v φ) (hw : Reads w ψ) :
    Reads (addf v w) (fun i j => φ i j + ψ i j) := fun i j => congrArg₂ (· + ·) (hv i j) (hw i j)

/-- What the hidden block holds, of a gate entry and an up entry. -/
def hval (g u : EReal) : EReal :=
  FloatOps.mulf (F := Ideal) (φ := .f32)
    (FloatOps.mulf (F := Ideal) (φ := .f32) (FloatOps.minimumf (F := Ideal) (φ := .f32) g (Scalar.ofBits .f32 0x40E00000#32))
      (FloatOps.logistic (F := Ideal) (φ := .f32) (FloatOps.mulf (F := Ideal) (φ := .f32) (Scalar.ofBits .f32 0x3FD9DB23#32)
        (FloatOps.minimumf (F := Ideal) (φ := .f32) g (Scalar.ofBits .f32 0x40E00000#32)))))
    (FloatOps.addf (F := Ideal) (φ := .f32) (FloatOps.minimumf (F := Ideal) (φ := .f32) (Scalar.ofBits .f32 0x40E00000#32)
      (FloatOps.maximumf (F := Ideal) (φ := .f32) (Scalar.ofBits .f32 0xC0E00000#32) u)) (Scalar.ofBits .f32 0x3F800000#32))

/-- A constant block. -/
abbrev cst (b : BitVec 32) : FVec Ideal (Sh 512 128) .f32 := broadcast (Sh 512 128) (Scalar.ofBits .f32 b)
/-- The clipped gate block. -/
abbrev gcv (g : FVec Ideal (Sh 512 128) .f32) : FVec Ideal (Sh 512 128) .f32 := minimumf g (cst 0x40E00000#32)
/-- The clipped up block, plus one. -/
abbrev upv (u : FVec Ideal (Sh 512 128) .f32) : FVec Ideal (Sh 512 128) .f32 :=
  addf (minimumf (cst 0x40E00000#32) (maximumf (cst 0xC0E00000#32) u)) (cst 0x3F800000#32)
/-- The logistic factor. -/
abbrev sgv (g : FVec Ideal (Sh 512 128) .f32) : FVec Ideal (Sh 512 128) .f32 := logistic (mulf (cst 0x3FD9DB23#32) (gcv g))
/-- The hidden block. -/
abbrev hvec (g u : FVec Ideal (Sh 512 128) .f32) : FVec Ideal (Sh 512 128) .f32 := mulf (mulf (gcv g) (sgv g)) (upv u)
/-- The gate gradient block. -/
abbrev dgvec (g u d : FVec Ideal (Sh 512 128) .f32) : FVec Ideal (Sh 512 128) .f32 :=
  select (cmpf .olt g (cst 0x40E00000#32)) (mulf (mulf (mulf d (upv u)) (sgv g)) (addf (cst 0x3F800000#32)
    (mulf (mulf (cst 0x3FD9DB23#32) (gcv g)) (subf (cst 0x3F800000#32) (sgv g))))) (cst 0x00000000#32)
/-- The up gradient block. -/
abbrev duvec (g u d : FVec Ideal (Sh 512 128) .f32) : FVec Ideal (Sh 512 128) .f32 :=
  select (cmpf .olt (absf u) (cst 0x40E00000#32)) (mulf d (mulf (gcv g) (sgv g))) (cst 0x00000000#32)

/-- The gate gradient of one entry, from its gate, up and hidden-gradient values. -/
def dgval (g u d : EReal) : EReal :=
  dgvec (fun _ => g) (fun _ => u) (fun _ => d) (ix2 (0 : Fin 512) (0 : Fin 128))
/-- The up gradient of one entry. -/
def duval (g u d : EReal) : EReal :=
  duvec (fun _ => g) (fun _ => u) (fun _ => d) (ix2 (0 : Fin 512) (0 : Fin 128))

theorem reads_h {g u : FVec Ideal (Sh 512 128) .f32} (h1 : FTy.bf16.bits < FTy.f32.bits) (h2 : (Sh 512 128).ShapeCasts (Sh 512 128))
    {φ ψ : ℕ → ℕ → EReal} (hg : Reads g φ) (hu : Reads u ψ) :
    Reads (shapeCast (Sh 512 128) (truncf .bf16 (hvec g u) h1) h2) (fun i j => hval (φ i j) (ψ i j)) := by
  intro i j
  rw [shapeCast_self]
  show hval (g (ix2 i j)) (u (ix2 i j)) = _
  rw [hg i j, hu i j]

theorem reads_dg {g u d : FVec Ideal (Sh 512 128) .f32} (h1 : FTy.bf16.bits < FTy.f32.bits) (h2 : (Sh 512 128).ShapeCasts (Sh 512 128))
    {φ ψ χ : ℕ → ℕ → EReal} (hg : Reads g φ) (hu : Reads u ψ) (hd : Reads d χ) :
    Reads (shapeCast (Sh 512 128) (truncf .bf16 (dgvec g u d) h1) h2) (fun i j => dgval (φ i j) (ψ i j) (χ i j)) := by
  intro i j
  rw [shapeCast_self]
  show dgval (g (ix2 i j)) (u (ix2 i j)) (d (ix2 i j)) = _
  rw [hg i j, hu i j, hd i j]

theorem reads_du {g u d : FVec Ideal (Sh 512 128) .f32} (h1 : FTy.bf16.bits < FTy.f32.bits) (h2 : (Sh 512 128).ShapeCasts (Sh 512 128))
    {φ ψ χ : ℕ → ℕ → EReal} (hg : Reads g φ) (hu : Reads u ψ) (hd : Reads d χ) :
    Reads (shapeCast (Sh 512 128) (truncf .bf16 (duvec g u d) h1) h2) (fun i j => duval (φ i j) (ψ i j) (χ i j)) := by
  intro i j
  rw [shapeCast_self]
  show duval (g (ix2 i j)) (u (ix2 i j)) (d (ix2 i j)) = _
  rw [hg i j, hu i j, hd i j]

/-! ## Products -/

/-- Row `i` of `X` times column `k` of `G`. -/
def S (K : ℕ) (X G : ℕ → ℕ → EReal) (i k : ℕ) : EReal := ∑ h ∈ Finset.range K, X i h * G h k
/-- Row `i` of `Y` times row `k` of `D`. -/
def T (K : ℕ) (Y D : ℕ → ℕ → EReal) (i k : ℕ) : EReal := ∑ h ∈ Finset.range K, Y i h * D k h

theorem sum_fin (K : ℕ) (f : ℕ → EReal) : ∑ k : Fin K, f k.val = ∑ k ∈ Finset.range K, f k := Fin.sum_univ_eq_sum_range f K

/-- Five products over 256 make one over 1280. -/
theorem sum5 (f : ℕ → EReal) : ∑ k ∈ Finset.range 256, f k + ∑ k ∈ Finset.range 256, f (256 + k) + ∑ k ∈ Finset.range 256, f (512 + k)
    + ∑ k ∈ Finset.range 256, f (768 + k) + ∑ k ∈ Finset.range 256, f (1024 + k) = ∑ k ∈ Finset.range 1280, f k := by
  rw [show (1280 : ℕ) = 1024 + 256 from rfl, Finset.sum_range_add, show (1024 : ℕ) = 768 + 256 from rfl, Finset.sum_range_add,
    show (768 : ℕ) = 512 + 256 from rfl, Finset.sum_range_add, show (512 : ℕ) = 256 + 256 from rfl, Finset.sum_range_add]

theorem reads_mm {M K N : ℕ} {φ₁ φ₂ : FTy} {x : FVec Ideal (Sh M K) φ₁} {w : FVec Ideal (Sh K N) φ₂} {φ ψ : ℕ → ℕ → EReal}
    {d : DotDims (Sh M K) (Sh K N) (Sh M N)}
    (hd : ∀ i j, matmul d none x w (constant (Sh M N) .f32 0x00000000#32) (ix2 i j) = ∑ k : Fin K, x (ix2 i k) * w (ix2 k j))
    (hx : Reads x φ) (hw : Reads w ψ) :
    Reads (matmul d none x w (constant (Sh M N) .f32 0x00000000#32)) (fun i j => S K φ ψ i j) := by
  intro i j
  rw [hd]; refine Eq.trans ?_ (sum_fin K fun h => φ i h * ψ h j)
  exact Finset.sum_congr rfl fun k _ => congrArg₂ (· * ·) (hx i k) (hw k j)

theorem reads_mmT {M K N : ℕ} {φ₁ φ₂ : FTy} {x : FVec Ideal (Sh M K) φ₁} {w : FVec Ideal (Sh N K) φ₂} {φ ψ : ℕ → ℕ → EReal}
    {d : DotDims (Sh M K) (Sh N K) (Sh M N)}
    (hd : ∀ i j, matmul d none x w (constant (Sh M N) .f32 0x00000000#32) (ix2 i j) = ∑ k : Fin K, x (ix2 i k) * w (ix2 j k))
    (hx : Reads x φ) (hw : Reads w ψ) :
    Reads (matmul d none x w (constant (Sh M N) .f32 0x00000000#32)) (fun i j => T K φ ψ i j) := by
  intro i j
  rw [hd]; refine Eq.trans ?_ (sum_fin K fun h => φ i h * ψ j h)
  exact Finset.sum_congr rfl fun k _ => congrArg₂ (· * ·) (hx i k) (hw j k)

/-- The five-term product of a feature group. -/
theorem reads_five {M N : ℕ} {φ₁ φ₂ : FTy} {d : DotDims (Sh M 256) (Sh 256 N) (Sh M N)}
    (hd : ∀ (x : FVec Ideal (Sh M 256) φ₁) (w : FVec Ideal (Sh 256 N) φ₂) i j,
      matmul d none x w (constant (Sh M N) .f32 0x00000000#32) (ix2 i j) = ∑ k : Fin 256, x (ix2 i k) * w (ix2 k j))
    {x0 x1 x2 x3 x4 : FVec Ideal (Sh M 256) φ₁} {w0 w1 w2 w3 w4 : FVec Ideal (Sh 256 N) φ₂} {X G : ℕ → ℕ → EReal} (c : ℕ)
    (hx0 : Reads x0 fun i j => X (0 + i) (0 + j)) (hw0 : Reads w0 fun i j => G (0 + i) (c + j))
    (hx1 : Reads x1 fun i j => X (0 + i) (256 + j)) (hw1 : Reads w1 fun i j => G (256 + i) (c + j))
    (hx2 : Reads x2 fun i j => X (0 + i) (512 + j)) (hw2 : Reads w2 fun i j => G (512 + i) (c + j))
    (hx3 : Reads x3 fun i j => X (0 + i) (768 + j)) (hw3 : Reads w3 fun i j => G (768 + i) (c + j))
    (hx4 : Reads x4 fun i j => X (0 + i) (1024 + j)) (hw4 : Reads w4 fun i j => G (1024 + i) (c + j)) :
    Reads (addf (addf (addf (addf (matmul d none x0 w0 (constant (Sh M N) .f32 0x00000000#32))
      (matmul d none x1 w1 (constant (Sh M N) .f32 0x00000000#32))) (matmul d none x2 w2 (constant (Sh M N) .f32 0x00000000#32)))
      (matmul d none x3 w3 (constant (Sh M N) .f32 0x00000000#32))) (matmul d none x4 w4 (constant (Sh M N) .f32 0x00000000#32)))
      (fun i j => S 1280 X G i (c + j)) := by
  refine (reads_add (reads_add (reads_add (reads_add (reads_mm (hd _ _) hx0 hw0) (reads_mm (hd _ _) hx1 hw1))
    (reads_mm (hd _ _) hx2 hw2)) (reads_mm (hd _ _) hx3 hw3)) (reads_mm (hd _ _) hx4 hw4)).congr ?_
  intro i j _ _
  unfold S
  rw [← sum5]
  simp only [Nat.zero_add]

/-! ## The functions of a grid point -/

/-- The column of the packed gate/up weights that holds gate feature `c`; up feature `c` is 128 columns later. -/
def gam (c : ℕ) : ℕ := 256 * (c / 128) + c % 128
/-- The feature that column `k` of the packed weights belongs to. -/
def fea (k : ℕ) : ℕ := 128 * (k / 256) + k % 128

/-- The hidden entry of row `r`, feature `c`. -/
def hb (X G : ℕ → ℕ → EReal) (r c : ℕ) : EReal := hval (S 1280 X G r (gam c)) (S 1280 X G r (gam c + 128))
/-- The gradient at row `r` and column `k` of the packed weights. -/
def dgu (X Y G D : ℕ → ℕ → EReal) (r k : ℕ) : EReal :=
  if k % 256 < 128 then dgval (S 1280 X G r (gam (fea k))) (S 1280 X G r (gam (fea k) + 128)) (T 1280 Y D r (fea k))
  else duval (S 1280 X G r (gam (fea k))) (S 1280 X G r (gam (fea k) + 128)) (T 1280 Y D r (fea k))

end Cert.KernelIdeal.Point

end
-- ==== Proof.IdealGlobal.lean ====
/-
  From one grid point to the whole arrays: the functions a grid point computes, at a row and a column offset, are the same
  functions of the whole arrays.
-/
module

public import proofs.«01_k».proof.Proof.IdealPoint
public import proofs.«01_k».proof.Proof.Gen.KernelIdeal.Launch

@[expose] public section

set_option maxRecDepth 16384

noncomputable section

namespace Cert.KernelIdeal.Point

open Cert.KernelIdeal Cert.KernelIdeal.Gen
open Idealize.ShloMosaic

/-- An operand with the scales of its blocks of 128 columns multiplied in. -/
def scaled (x s : ℕ → ℕ → EReal) : ℕ → ℕ → EReal := fun n h => x n h * s n (h / 128)

theorem S_congr {K : ℕ} {X G X' G' : ℕ → ℕ → EReal} {i k i' k' : ℕ} (hX : ∀ h, h < K → X i h = X' i' h)
    (hG : ∀ h, h < K → G h k = G' h k') : S K X G i k = S K X' G' i' k' :=
  Finset.sum_congr rfl fun h hh => by rw [hX h (Finset.mem_range.mp hh), hG h (Finset.mem_range.mp hh)]

theorem T_congr {K : ℕ} {Y D Y' D' : ℕ → ℕ → EReal} {i k i' k' : ℕ} (hY : ∀ h, h < K → Y i h = Y' i' h)
    (hD : ∀ h, h < K → D k h = D' k' h) : Point.T K Y D i k = Point.T K Y' D' i' k' :=
  Finset.sum_congr rfl fun h hh => by rw [hY h (Finset.mem_range.mp hh), hD h (Finset.mem_range.mp hh)]

/-- The hidden entry of a block, as an entry of the whole. -/
theorem hb_shift {X G X' G' : ℕ → ℕ → EReal} (r r' f0 fb : ℕ) (hf : f0 % 128 = 0) (hfb : fb % 128 = 0)
    (hX : ∀ h, h < 1280 → X r h = X' r' h) (hG : ∀ h k, h < 1280 → k < 2 * fb → G h k = G' h (2 * f0 + k))
    {c : ℕ} (hc : c < fb) : hb X G r c = hb X' G' r' (f0 + c) := by
  unfold hb
  have e : gam (f0 + c) = 2 * f0 + gam c := by unfold gam; omega
  have b : gam c + 128 < 2 * fb := by unfold gam; omega
  rw [S_congr hX fun h hh => (hG h (gam c) hh (by omega)).trans (congrArg (G' h) e.symm),
    S_congr hX fun h hh => (hG h (gam c + 128) hh b).trans (congrArg (G' h) (show 2 * f0 + (gam c + 128) = gam (f0 + c) + 128 by omega))]

/-- The gradient of a block, as an entry of the whole. -/
theorem dgu_shift {X Y G D X' Y' G' D' : ℕ → ℕ → EReal} (r r' f0 fb : ℕ) (hf : f0 % 128 = 0) (hfb : fb % 128 = 0)
    (hX : ∀ h, h < 1280 → X r h = X' r' h) (hY : ∀ h, h < 1280 → Y r h = Y' r' h)
    (hG : ∀ h k, h < 1280 → k < 2 * fb → G h k = G' h (2 * f0 + k))
    (hD : ∀ c h, c < fb → h < 1280 → D c h = D' (f0 + c) h)
    {k : ℕ} (hk : k < 2 * fb) : dgu X Y G D r k = dgu X' Y' G' D' r' (2 * f0 + k) := by
  have e1 : fea (2 * f0 + k) = f0 + fea k := by unfold fea; omega
  have b1 : fea k < fb := by unfold fea; omega
  have e : gam (f0 + fea k) = 2 * f0 + gam (fea k) := by unfold gam; omega
  have b : gam (fea k) + 128 < 2 * fb := by unfold gam fea; omega
  have em : (2 * f0 + k) % 256 = k % 256 := by omega
  have s1 : S 1280 X G r (gam (fea k)) = S 1280 X' G' r' (gam (f0 + fea k)) :=
    S_congr hX fun h hh => (hG h (gam (fea k)) hh (by omega)).trans (congrArg (G' h) e.symm)
  have s2 : S 1280 X G r (gam (fea k) + 128) = S 1280 X' G' r' (gam (f0 + fea k) + 128) :=
    S_congr hX fun h hh => (hG h (gam (fea k) + 128) hh b).trans (congrArg (G' h) (show 2 * f0 + (gam (fea k) + 128) = gam (f0 + fea k) + 128 by omega))
  have s3 : Point.T 1280 Y D r (fea k) = Point.T 1280 Y' D' r' (f0 + fea k) :=
    T_congr hY fun h hh => hD (fea k) h b1 hh
  unfold dgu
  rw [em, e1, s1, s2, s3]

/-- A rectangle of an array of which a vector holds the entries. -/
theorem reads_rect {A B a b : ℕ} {α : Type} {X : (Sh A B).Idx → α} {φ : ℕ → ℕ → α} (hX : Reads X φ) (o0 o1 : ℕ)
    (inb : ∀ x, (![o0, o1] : Fin 2 → ℕ) x + (Sh a b).size x ≤ (Sh A B).size x) :
    Reads (a := a) (b := b) (fun y => X ((Rect.unit (s := Sh A B) ![o0, o1] (Sh a b).size inb).emb y)) (fun i j => φ (o0 + i) (o1 + j)) := by
  intro i j
  refine (hX.at _).trans ?_
  have h0 : ((Rect.unit (s := Sh A B) ![o0, o1] (Sh a b).size inb).emb (ix2 i j) 0).val = o0 + i.val := by
    show o0 + 1 * i.val = _; omega
  have h1 : ((Rect.unit (s := Sh A B) ![o0, o1] (Sh a b).size inb).emb (ix2 i j) 1).val = o1 + j.val := by
    show o1 + 1 * j.val = _; omega
  exact congrArg₂ φ h0 h1

/-- One more block of 512 terms of a sum over the rows. -/
theorem S_succ (X G : ℕ → ℕ → EReal) (n i k : ℕ) :
    S (512 * n) X G i k + S 512 (fun h r => X h (512 * n + r)) (fun r k => G (512 * n + r) k) i k = S (512 * (n + 1)) X G i k := by
  unfold S
  rw [show 512 * (n + 1) = 512 * n + 512 by omega, Finset.sum_range_add]

end Cert.KernelIdeal.Point

end
-- ==== Proof.IdealMath.lean ====
/-
  The three results as sums over the arguments: the scaled operands and weights as functions of natural numbers, the
  gradients of the hidden entries, and the three products.
-/
module

public import proofs.«01_k».proof.Proof.IdealGlobal

@[expose] public section

set_option maxRecDepth 16384

noncomputable section

namespace Cert.KernelIdeal.Point

open Idealize.ShloMosaic

abbrev Sh3 (a b c : ℕ) : Shape := ⟨3, ![a, b, c]⟩

/-- A rank-3 vector as a function of three natural numbers, zero outside. -/
def nat3 {a b c : ℕ} (f : (Sh3 a b c).Idx → EReal) : ℕ → ℕ → ℕ → EReal :=
  fun i j k => if h : i < a ∧ j < b ∧ k < c then f (ix3 ⟨i, h.1⟩ ⟨j, h.2.1⟩ ⟨k, h.2.2⟩) else 0

theorem nat3_ix {a b c : ℕ} (f : (Sh3 a b c).Idx → EReal) (i : Fin a) (j : Fin b) (k : Fin c) : f (ix3 i j k) = nat3 f i.val j.val k.val := by
  unfold nat3
  rw [dif_pos ⟨i.isLt, j.isLt, k.isLt⟩]

/-- The eight arguments. -/
structure Args where
  x : (Sh3 2 131072 1280).Idx → EReal
  xs : (Sh3 2 131072 10).Idx → EReal
  y : (Sh3 2 131072 1280).Idx → EReal
  ys : (Sh3 2 131072 10).Idx → EReal
  w : (Sh3 1280 2 3456).Idx → EReal
  ws : (Sh3 10 2 27).Idx → EReal
  d : (Sh 3456 1280).Idx → EReal
  ds : (Sh 27 10).Idx → EReal

namespace Args

variable (A : Args)

/-- The scaled operand, token by hidden column. -/
def X (n h : ℕ) : EReal := nat3 A.x (n / 131072) (n % 131072) h * nat3 A.xs (n / 131072) (n % 131072) (h / 128)
/-- The scaled incoming gradient. -/
def Y (n h : ℕ) : EReal := nat3 A.y (n / 131072) (n % 131072) h * nat3 A.ys (n / 131072) (n % 131072) (h / 128)
/-- The scaled first weights, gate (`j = 0`) and up (`j = 1`). -/
def R (h j c : ℕ) : EReal := nat3 A.w h j c * nat3 A.ws (h / 128) j (c / 128)
/-- The scaled first weights, gate and up columns interleaved by blocks of 128. -/
def G (h k : ℕ) : EReal :=
  if k % 256 < 128 then A.R h 0 (128 * (k / 256) + k % 256) else A.R h 1 (128 * (k / 256) + (k % 256 - 128))
/-- The scaled second weights. -/
def D (f h : ℕ) : EReal := nat2 (a := 3456) (b := 1280) A.d f h * nat2 (a := 27) (b := 10) A.ds (f / 128) (h / 128)
/-- The gradients of the gate and up values, interleaved as `G`. -/
def gr (n k : ℕ) : EReal := dgu A.X A.Y A.G A.D n k
/-- The hidden values. -/
def hid (n c : ℕ) : EReal := hb A.X A.G n c
/-- The three results. -/
def dx (n h : ℕ) : EReal := ∑ k ∈ Finset.range 6912, A.gr n k * A.G h k
def agu (h k : ℕ) : EReal := ∑ n ∈ Finset.range 262144, A.X n h * A.gr n k
def adn (h c : ℕ) : EReal := ∑ n ∈ Finset.range 262144, A.Y n h * A.hid n c

end Args

/-- Four functions that are the scaled arguments inside the ranges. -/
structure Fits (X Y G D : ℕ → ℕ → EReal) (A : Args) : Prop where
  hX : ∀ n h, n < 262144 → h < 1280 → X n h = A.X n h
  hY : ∀ n h, n < 262144 → h < 1280 → Y n h = A.Y n h
  hG : ∀ h k, h < 1280 → k < 6912 → G h k = A.G h k
  hD : ∀ f h, f < 3456 → h < 1280 → D f h = A.D f h

theorem Fits.gr {X Y G D : ℕ → ℕ → EReal} {A : Args} (F : Fits X Y G D A) {n k : ℕ} (hn : n < 262144) (hk : k < 6912) :
    dgu X Y G D n k = A.gr n k := by
  have e := dgu_shift (X := X) (Y := Y) (G := G) (D := D) (X' := A.X) (Y' := A.Y) (G' := A.G) (D' := A.D) n n 0 3456 rfl rfl
    (fun h hh => F.hX n h hn hh) (fun h hh => F.hY n h hn hh)
    (fun h k hh hk => (F.hG h k hh hk).trans (congrArg (A.G h) (by omega)))
    (fun c h hc hh => (F.hD c h hc hh).trans (congrArg (fun f => A.D f h) (by omega))) (k := k) hk
  rw [e]
  unfold Args.gr
  congr 1
  omega

theorem Fits.hid {X Y G D : ℕ → ℕ → EReal} {A : Args} (F : Fits X Y G D A) {n c : ℕ} (hn : n < 262144) (hc : c < 3456) :
    hb X G n c = A.hid n c := by
  have e := hb_shift (X := X) (G := G) (X' := A.X) (G' := A.G) n n 0 3456 rfl rfl
    (fun h hh => F.hX n h hn hh) (fun h k hh hk => (F.hG h k hh hk).trans (congrArg (A.G h) (by omega))) (c := c) hc
  rw [e]
  unfold Args.hid
  congr 1
  omega

theorem Fits.agu {X Y G D : ℕ → ℕ → EReal} {A : Args} (F : Fits X Y G D A) {h k : ℕ} (e : ℕ) (hh : h < 1280) (hk : e + k < 6912) :
    S (512 * 512) (fun h m => X m h) (fun m k => dgu X Y G D m (e + k)) h k = A.agu h (e + k) :=
  Finset.sum_congr rfl fun n hn => by
    have hn := Finset.mem_range.mp hn
    show X n h * dgu X Y G D n (e + k) = _
    rw [F.hX n h (by omega) hh, F.gr (by omega) hk]

theorem Fits.adn {X Y G D : ℕ → ℕ → EReal} {A : Args} (F : Fits X Y G D A) {h c : ℕ} (e : ℕ) (hh : h < 1280) (hc : e + c < 3456) :
    S (512 * 512) (fun h m => Y m h) (fun m f => hb X G m (e + f)) h c = A.adn h (e + c) :=
  Finset.sum_congr rfl fun n hn => by
    have hn := Finset.mem_range.mp hn
    show Y n h * hb X G n (e + c) = _
    rw [F.hY n h (by omega) hh, F.hid (by omega) hc]

theorem Fits.dx {X Y G D : ℕ → ℕ → EReal} {A : Args} (F : Fits X Y G D A) {n h : ℕ} (e N : ℕ) (hn : n < 262144) (hh : h < 1280)
    (hN : e + N ≤ 6912) :
    ∑ k ∈ Finset.range N, dgu X Y G D n (e + k) * G h (e + k) = ∑ k ∈ Finset.range N, A.gr n (e + k) * A.G h (e + k) :=
  Finset.sum_congr rfl fun k hk => by
    have hk := Finset.mem_range.mp hk
    rw [F.gr hn (by omega), F.hG h _ hh (by omega)]

/-- The three passes' columns are all the columns. -/
theorem Args.dx_split (A : Args) (n h : ℕ) :
    ∑ k ∈ Finset.range 1792, A.gr n (2 * 2560 + k) * A.G h (2 * 2560 + k)
      + (∑ k ∈ Finset.range 2560, A.gr n (2 * 1280 + k) * A.G h (2 * 1280 + k)
        + ∑ k ∈ Finset.range 2560, A.gr n (2 * 0 + k) * A.G h (2 * 0 + k)) = A.dx n h := by
  unfold Args.dx
  rw [show (6912 : ℕ) = 2560 + 2560 + 1792 from rfl, Finset.sum_range_add, Finset.sum_range_add]
  simp only [Nat.mul_zero, Nat.zero_add, Nat.reduceMul, Nat.reduceAdd]
  rw [add_comm, add_comm (∑ k ∈ Finset.range 2560, A.gr n (2560 + k) * A.G h (2560 + k))]

end Cert.KernelIdeal.Point
-- ==== Proof.IdealVal0.lean ====
/-
  What the dequantising pass leaves: the two weight arrays in bf16, as functions of the codes and the scales.
-/
module

public import proofs.«01_k».proof.Proof.IdealRegion0
public import proofs.«01_k».proof.Proof.IdealGlobal
public import Idealize.ShloMosaic.Lib.Pipeline.ValueKit

@[expose] public section

set_option maxRecDepth 16384
set_option maxHeartbeats 2000000

noncomputable section

namespace Cert.KernelIdeal.Region0

open Cert.KernelIdeal Cert.KernelIdeal.Gen Cert.KernelIdeal.Point
open Idealize.ShloMosaic Idealize.ShloMosaic.TcCoe

/-- A scalar load from a whole array. -/
theorem read_smem {κ : Kind} {sp : Space} {A B : ℕ} {M : Memref sig κ sp (Sh A B) .f32} (h : M.IsWhole) (X : (Sh A B).Idx → EReal)
    (off : Fin 2 → ℕ) (a b : ℕ) (e : off = ![a, b]) (inb : ∀ x, off x + (Sh 1 1).size x ≤ (Sh A B).size x) (y : (Sh 1 1).Idx) :
    View.readAt (Elt Ideal) M.view (Rect.unit (s := Sh A B) off (Sh 1 1).size inb).toLoadRect (h.unread (Val := Elt Ideal) X) y = nat2 X a b := by
  subst e
  have r := reads_load (a := 1) (b := 1) h (e := .f32) (reads_nat2 X) a b inb
  refine (r.at y).trans ?_
  have h0 : (y 0).val < 1 := (y 0).isLt
  have h1 : (y 1).val < 1 := (y 1).isLt
  rw [show (y 0).val = 0 by omega, show (y 1).val = 0 by omega]
  rfl

/-- A block of codes times its scale. -/
theorem reads_code {v : FVec Ideal (Sh 128 128) .fp8e4m3} {s : Elt Ideal .f32} {φ : ℕ → ℕ → EReal} {σ : EReal}
    (h1 : (Sh 128 128).ShapeCasts (Sh 128 128)) (h2 : FTy.fp8e4m3.bits < FTy.bf16.bits) (h3 : FTy.bf16.bits < FTy.f32.bits)
    (hv : Reads v φ) (hs : s = σ) :
    Reads (mulf (extf .bf16 (shapeCast (Sh 128 128) v h1) h2) (broadcast (Sh 128 128) (Scalar.truncf (F := Ideal) .bf16 h3 s))) (fun i j => φ i j * σ) := by
  intro i j
  have e := hv i j
  subst hs
  pointwise
  rw [e]

theorem reads_code' {v : FVec Ideal (Sh 128 128) .fp8e4m3} {s : Elt Ideal .f32} {φ : ℕ → ℕ → EReal} {σ : EReal}
    (h2 : FTy.fp8e4m3.bits < FTy.bf16.bits) (h3 : FTy.bf16.bits < FTy.f32.bits)
    (hv : Reads v φ) (hs : s = σ) :
    Reads (mulf (extf .bf16 v h2) (broadcast (Sh 128 128) (Scalar.truncf (F := Ideal) .bf16 h3 s))) (fun i j => φ i j * σ) := by
  intro i j
  have e := hv i j
  subst hs
  pointwise
  rw [e]

variable (i : grid0.Coords)
  (M1 : Memref sig .tc .vmem S1280x128 .fp8e4m3) (h1 : M1.IsWhole)
  (M2 : Memref sig .tc .vmem S1280x128 .fp8e4m3) (h2 : M2.IsWhole)
  (M3 : Memref sig .tc .vmem S128x1280 .fp8e4m3) (h3 : M3.IsWhole)
  (M4 : Memref sig .tc .smem S10x27 .f32) (h4 : M4.IsWhole)
  (M5 : Memref sig .tc .smem S10x27 .f32) (h5 : M5.IsWhole)
  (M6 : Memref sig .tc .smem S27x10 .f32) (h6 : M6.IsWhole)
  (x1 : Vec Ideal S1280x128 .fp8e4m3) (x2 : Vec Ideal S1280x128 .fp8e4m3) (x3 : Vec Ideal S128x1280 .fp8e4m3) (x4 : Vec Ideal S10x27 .f32) (x5 : Vec Ideal S10x27 .f32) (x6 : Vec Ideal S27x10 .f32)

/-- The block of the first weights: gate columns, then up columns. -/
def wf (n : ℕ) (r q : ℕ) : EReal :=
  if q < 128 then nat2 (a := 1280) (b := 128) x1 r q * nat2 (a := 10) (b := 27) x4 (r / 128) n
  else nat2 (a := 1280) (b := 128) x2 r (q - 128) * nat2 (a := 10) (b := 27) x5 (r / 128) n

/-- The block of the second weights. -/
def vf (n : ℕ) (r q : ℕ) : EReal := nat2 (a := 128) (b := 1280) x3 r q * nat2 (a := 27) (b := 10) x6 n (q / 128)

theorem reads_w1 : Reads (a := 1280) (b := 256) (View.canon (run.sl.H7_20 (F := Ideal) i M1 h1 M2 h2 M4 h4 M5 h5 x1 x2 x4 x5)) (wf x1 x2 x4 x5 (i 0).val) := by
  refine reads_canon (View.cover_of_tiled_head _ _ _ rfl) ?_
  refine fit_cons 1152 128 _ _ (reads_code _ _ _ (reads_load h2 (reads_nat2 x2) 1152 0 _) (read_smem h5 x5 _ 9 (i 0).val (k0_off19_eq i) _ _)) ?_ ?_
  · intro r q hr hq; have e : (1152 + r) / 128 = 9 := by omega
    unfold wf; rw [if_neg (show ¬ 128 + q < 128 by omega), e, show 128 + q - 128 = 0 + q by omega]
  refine fit_cons 1152 0 _ _ (reads_code _ _ _ (reads_load h1 (reads_nat2 x1) 1152 0 _) (read_smem h4 x4 _ 9 (i 0).val (k0_off19_eq i) _ _)) ?_ ?_
  · intro r q hr hq; have e : (1152 + r) / 128 = 9 := by omega
    unfold wf; rw [if_pos (show 0 + q < 128 by omega), e]
  refine fit_cons 1024 128 _ _ (reads_code _ _ _ (reads_load h2 (reads_nat2 x2) 1024 0 _) (read_smem h5 x5 _ 8 (i 0).val (k0_off17_eq i) _ _)) ?_ ?_
  · intro r q hr hq; have e : (1024 + r) / 128 = 8 := by omega
    unfold wf; rw [if_neg (show ¬ 128 + q < 128 by omega), e, show 128 + q - 128 = 0 + q by omega]
  refine fit_cons 1024 0 _ _ (reads_code _ _ _ (reads_load h1 (reads_nat2 x1) 1024 0 _) (read_smem h4 x4 _ 8 (i 0).val (k0_off17_eq i) _ _)) ?_ ?_
  · intro r q hr hq; have e : (1024 + r) / 128 = 8 := by omega
    unfold wf; rw [if_pos (show 0 + q < 128 by omega), e]
  refine fit_cons 896 128 _ _ (reads_code _ _ _ (reads_load h2 (reads_nat2 x2) 896 0 _) (read_smem h5 x5 _ 7 (i 0).val (k0_off15_eq i) _ _)) ?_ ?_
  · intro r q hr hq; have e : (896 + r) / 128 = 7 := by omega
    unfold wf; rw [if_neg (show ¬ 128 + q < 128 by omega), e, show 128 + q - 128 = 0 + q by omega]
  refine fit_cons 896 0 _ _ (reads_code _ _ _ (reads_load h1 (reads_nat2 x1) 896 0 _) (read_smem h4 x4 _ 7 (i 0).val (k0_off15_eq i) _ _)) ?_ ?_
  · intro r q hr hq; have e : (896 + r) / 128 = 7 := by omega
    unfold wf; rw [if_pos (show 0 + q < 128 by omega), e]
  refine fit_cons 768 128 _ _ (reads_code _ _ _ (reads_load h2 (reads_nat2 x2) 768 0 _) (read_smem h5 x5 _ 6 (i 0).val (k0_off13_eq i) _ _)) ?_ ?_
  · intro r q hr hq; have e : (768 + r) / 128 = 6 := by omega
    unfold wf; rw [if_neg (show ¬ 128 + q < 128 by omega), e, show 128 + q - 128 = 0 + q by omega]
  refine fit_cons 768 0 _ _ (reads_code _ _ _ (reads_load h1 (reads_nat2 x1) 768 0 _) (read_smem h4 x4 _ 6 (i 0).val (k0_off13_eq i) _ _)) ?_ ?_
  · intro r q hr hq; have e : (768 + r) / 128 = 6 := by omega
    unfold wf; rw [if_pos (show 0 + q < 128 by omega), e]
  refine fit_cons 640 128 _ _ (reads_code _ _ _ (reads_load h2 (reads_nat2 x2) 640 0 _) (read_smem h5 x5 _ 5 (i 0).val (k0_off11_eq i) _ _)) ?_ ?_
  · intro r q hr hq; have e : (640 + r) / 128 = 5 := by omega
    unfold wf; rw [if_neg (show ¬ 128 + q < 128 by omega), e, show 128 + q - 128 = 0 + q by omega]
  refine fit_cons 640 0 _ _ (reads_code _ _ _ (reads_load h1 (reads_nat2 x1) 640 0 _) (read_smem h4 x4 _ 5 (i 0).val (k0_off11_eq i) _ _)) ?_ ?_
  · intro r q hr hq; have e : (640 + r) / 128 = 5 := by omega
    unfold wf; rw [if_pos (show 0 + q < 128 by omega), e]
  refine fit_cons 512 128 _ _ (reads_code _ _ _ (reads_load h2 (reads_nat2 x2) 512 0 _) (read_smem h5 x5 _ 4 (i 0).val (k0_off9_eq i) _ _)) ?_ ?_
  · intro r q hr hq; have e : (512 + r) / 128 = 4 := by omega
    unfold wf; rw [if_neg (show ¬ 128 + q < 128 by omega), e, show 128 + q - 128 = 0 + q by omega]
  refine fit_cons 512 0 _ _ (reads_code _ _ _ (reads_load h1 (reads_nat2 x1) 512 0 _) (read_smem h4 x4 _ 4 (i 0).val (k0_off9_eq i) _ _)) ?_ ?_
  · intro r q hr hq; have e : (512 + r) / 128 = 4 := by omega
    unfold wf; rw [if_pos (show 0 + q < 128 by omega), e]
  refine fit_cons 384 128 _ _ (reads_code _ _ _ (reads_load h2 (reads_nat2 x2) 384 0 _) (read_smem h5 x5 _ 3 (i 0).val (k0_off7_eq i) _ _)) ?_ ?_
  · intro r q hr hq; have e : (384 + r) / 128 = 3 := by omega
    unfold wf; rw [if_neg (show ¬ 128 + q < 128 by omega), e, show 128 + q - 128 = 0 + q by omega]
  refine fit_cons 384 0 _ _ (reads_code _ _ _ (reads_load h1 (reads_nat2 x1) 384 0 _) (read_smem h4 x4 _ 3 (i 0).val (k0_off7_eq i) _ _)) ?_ ?_
  · intro r q hr hq; have e : (384 + r) / 128 = 3 := by omega
    unfold wf; rw [if_pos (show 0 + q < 128 by omega), e]
  refine fit_cons 256 128 _ _ (reads_code _ _ _ (reads_load h2 (reads_nat2 x2) 256 0 _) (read_smem h5 x5 _ 2 (i 0).val (k0_off5_eq i) _ _)) ?_ ?_
  · intro r q hr hq; have e : (256 + r) / 128 = 2 := by omega
    unfold wf; rw [if_neg (show ¬ 128 + q < 128 by omega), e, show 128 + q - 128 = 0 + q by omega]
  refine fit_cons 256 0 _ _ (reads_code _ _ _ (reads_load h1 (reads_nat2 x1) 256 0 _) (read_smem h4 x4 _ 2 (i 0).val (k0_off5_eq i) _ _)) ?_ ?_
  · intro r q hr hq; have e : (256 + r) / 128 = 2 := by omega
    unfold wf; rw [if_pos (show 0 + q < 128 by omega), e]
  refine fit_cons 128 128 _ _ (reads_code _ _ _ (reads_load h2 (reads_nat2 x2) 128 0 _) (read_smem h5 x5 _ 1 (i 0).val (k0_off3_eq i) _ _)) ?_ ?_
  · intro r q hr hq; have e : (128 + r) / 128 = 1 := by omega
    unfold wf; rw [if_neg (show ¬ 128 + q < 128 by omega), e, show 128 + q - 128 = 0 + q by omega]
  refine fit_cons 128 0 _ _ (reads_code _ _ _ (reads_load h1 (reads_nat2 x1) 128 0 _) (read_smem h4 x4 _ 1 (i 0).val (k0_off3_eq i) _ _)) ?_ ?_
  · intro r q hr hq; have e : (128 + r) / 128 = 1 := by omega
    unfold wf; rw [if_pos (show 0 + q < 128 by omega), e]
  refine fit_cons 0 128 _ _ (reads_code _ _ _ (reads_load h2 (reads_nat2 x2) 0 0 _) (read_smem h5 x5 _ 0 (i 0).val (k0_off1_eq i) _ _)) ?_ ?_
  · intro r q hr hq; have e : (0 + r) / 128 = 0 := by omega
    unfold wf; rw [if_neg (show ¬ 128 + q < 128 by omega), e, show 128 + q - 128 = 0 + q by omega]
  refine fit_cons 0 0 _ _ (reads_code _ _ _ (reads_load h1 (reads_nat2 x1) 0 0 _) (read_smem h4 x4 _ 0 (i 0).val (k0_off1_eq i) _ _)) ?_ ?_
  · intro r q hr hq; have e : (0 + r) / 128 = 0 := by omega
    unfold wf; rw [if_pos (show 0 + q < 128 by omega), e]
  exact fit_nil _

theorem reads_w2 : Reads (a := 128) (b := 1280) (View.canon (run.sl.H8_10 (F := Ideal) i M3 h3 M6 h6 x3 x6)) (vf x3 x6 (i 0).val) := by
  refine reads_canon (View.cover_of_tiled_head _ _ _ rfl) ?_
  refine fit_cons 0 1152 _ _ (reads_code' _ _ (reads_load h3 (reads_nat2 x3) 0 1152 _) (read_smem h6 x6 _ (i 0).val 9 (k0_off20_eq i) _ _)) ?_ ?_
  · intro r q hr hq; have e : (1152 + q) / 128 = 9 := by omega
    unfold vf; rw [e]
  refine fit_cons 0 1024 _ _ (reads_code' _ _ (reads_load h3 (reads_nat2 x3) 0 1024 _) (read_smem h6 x6 _ (i 0).val 8 (k0_off18_eq i) _ _)) ?_ ?_
  · intro r q hr hq; have e : (1024 + q) / 128 = 8 := by omega
    unfold vf; rw [e]
  refine fit_cons 0 896 _ _ (reads_code' _ _ (reads_load h3 (reads_nat2 x3) 0 896 _) (read_smem h6 x6 _ (i 0).val 7 (k0_off16_eq i) _ _)) ?_ ?_
  · intro r q hr hq; have e : (896 + q) / 128 = 7 := by omega
    unfold vf; rw [e]
  refine fit_cons 0 768 _ _ (reads_code' _ _ (reads_load h3 (reads_nat2 x3) 0 768 _) (read_smem h6 x6 _ (i 0).val 6 (k0_off14_eq i) _ _)) ?_ ?_
  · intro r q hr hq; have e : (768 + q) / 128 = 6 := by omega
    unfold vf; rw [e]
  refine fit_cons 0 640 _ _ (reads_code' _ _ (reads_load h3 (reads_nat2 x3) 0 640 _) (read_smem h6 x6 _ (i 0).val 5 (k0_off12_eq i) _ _)) ?_ ?_
  · intro r q hr hq; have e : (640 + q) / 128 = 5 := by omega
    unfold vf; rw [e]
  refine fit_cons 0 512 _ _ (reads_code' _ _ (reads_load h3 (reads_nat2 x3) 0 512 _) (read_smem h6 x6 _ (i 0).val 4 (k0_off10_eq i) _ _)) ?_ ?_
  · intro r q hr hq; have e : (512 + q) / 128 = 4 := by omega
    unfold vf; rw [e]
  refine fit_cons 0 384 _ _ (reads_code' _ _ (reads_load h3 (reads_nat2 x3) 0 384 _) (read_smem h6 x6 _ (i 0).val 3 (k0_off8_eq i) _ _)) ?_ ?_
  · intro r q hr hq; have e : (384 + q) / 128 = 3 := by omega
    unfold vf; rw [e]
  refine fit_cons 0 256 _ _ (reads_code' _ _ (reads_load h3 (reads_nat2 x3) 0 256 _) (read_smem h6 x6 _ (i 0).val 2 (k0_off6_eq i) _ _)) ?_ ?_
  · intro r q hr hq; have e : (256 + q) / 128 = 2 := by omega
    unfold vf; rw [e]
  refine fit_cons 0 128 _ _ (reads_code' _ _ (reads_load h3 (reads_nat2 x3) 0 128 _) (read_smem h6 x6 _ (i 0).val 1 (k0_off4_eq i) _ _)) ?_ ?_
  · intro r q hr hq; have e : (128 + q) / 128 = 1 := by omega
    unfold vf; rw [e]
  refine fit_cons 0 0 _ _ (reads_code' _ _ (reads_load h3 (reads_nat2 x3) 0 0 _) (read_smem h6 x6 _ (i 0).val 0 (k0_off2_eq i) _ _)) ?_ ?_
  · intro r q hr hq; have e : (0 + q) / 128 = 0 := by omega
    unfold vf; rw [e]
  exact fit_nil _

variable (V : Dev nD → Valuation τ sig (Elt Ideal)) (c : Dev nD)

/-- The arrays the pass reads, by index. -/
def cg : Vec Ideal S1280x3456 .fp8e4m3 := (Memref.whole main_v5).view.read (Elt Ideal) (V c (Proc.devRef .tc main_v5))
def cu : Vec Ideal S1280x3456 .fp8e4m3 := (Memref.whole main_v7).view.read (Elt Ideal) (V c (Proc.devRef .tc main_v7))
def cd : Vec Ideal S3456x1280 .fp8e4m3 := (Memref.whole main_arg6).view.read (Elt Ideal) (V c (Proc.devRef .tc main_arg6))
def sg : Vec Ideal S10x27 .f32 := (Memref.whole main_v9).view.read (Elt Ideal) (V c (Proc.devRef .tc main_v9))
def su : Vec Ideal S10x27 .f32 := (Memref.whole main_v11).view.read (Elt Ideal) (V c (Proc.devRef .tc main_v11))
def sd : Vec Ideal S27x10 .f32 := (Memref.whole main_arg7).view.read (Elt Ideal) (V c (Proc.devRef .tc main_arg7))

theorem coord_val (t : Fin cfg0.N) : (grid0.coords t 0).val = t.val := by
  first | (revert t; exact (by decide +kernel : ∀ t : Fin grid0.N, (grid0.coords t 0).val = t.val)) | rfl

theorem index_0 : ∀ t : Fin cfg0.N, win0_0.index t = ![0, (grid0.coords t 0).val] := (by decide +kernel : ∀ t : Fin grid0.N, _)
theorem index_1 : ∀ t : Fin cfg0.N, win0_1.index t = ![0, (grid0.coords t 0).val] := (by decide +kernel : ∀ t : Fin grid0.N, _)
theorem index_2 : ∀ t : Fin cfg0.N, win0_2.index t = ![(grid0.coords t 0).val, 0] := (by decide +kernel : ∀ t : Fin grid0.N, _)
theorem index_3 : ∀ t : Fin cfg0.N, win0_3.index t = ![0, 0] := (by decide +kernel : ∀ t : Fin grid0.N, _)
theorem index_4 : ∀ t : Fin cfg0.N, win0_4.index t = ![0, 0] := (by decide +kernel : ∀ t : Fin grid0.N, _)
theorem index_5 : ∀ t : Fin cfg0.N, win0_5.index t = ![0, 0] := (by decide +kernel : ∀ t : Fin grid0.N, _)
theorem index_6 : ∀ t : Fin cfg0.N, win0_6.index t = ![0, (grid0.coords t 0).val] := (by decide +kernel : ∀ t : Fin grid0.N, _)
theorem index_7 : ∀ t : Fin cfg0.N, win0_7.index t = ![(grid0.coords t 0).val, 0] := (by decide +kernel : ∀ t : Fin grid0.N, _)

theorem reads_blk0 (t : Fin cfg0.N) : Reads (a := 1280) (b := 128) (blk V c 0 t) (fun i j => nat2 (a := 1280) (b := 3456) (cg V c) i (128 * t.val + j)) := by
  intro i j
  have ht : t.val < 27 := (show cfg0.N = 27 from N_0) ▸ t.isLt
  have hi := i.isLt
  have hj := j.isLt
  refine Eq.trans ?_ (Reads.at (reads_nat2 (a := 1280) (b := 3456) (cg V c)) (ix2 i ⟨128 * t.val + j.val, by omega⟩))
  unfold cg
  blk_simp [blk]
  refine congrArg (V c (Proc.devRef .tc main_v5)) ?_
  refine Shape.idx_ext₂ ?_ ?_
  · blk_simp [index_0, coord_val]
  · blk_simp [index_0, coord_val]; show t.val * 128 + j.val = 128 * t.val + j.val; omega

theorem reads_blk1 (t : Fin cfg0.N) : Reads (a := 1280) (b := 128) (blk V c 1 t) (fun i j => nat2 (a := 1280) (b := 3456) (cu V c) i (128 * t.val + j)) := by
  intro i j
  have ht : t.val < 27 := (show cfg0.N = 27 from N_0) ▸ t.isLt
  have hi := i.isLt
  have hj := j.isLt
  refine Eq.trans ?_ (Reads.at (reads_nat2 (a := 1280) (b := 3456) (cu V c)) (ix2 i ⟨128 * t.val + j.val, by omega⟩))
  unfold cu
  blk_simp [blk]
  refine congrArg (V c (Proc.devRef .tc main_v7)) ?_
  refine Shape.idx_ext₂ ?_ ?_
  · blk_simp [index_1, coord_val]
  · blk_simp [index_1, coord_val]; show t.val * 128 + j.val = 128 * t.val + j.val; omega

theorem reads_blk2 (t : Fin cfg0.N) : Reads (a := 128) (b := 1280) (blk V c 2 t) (fun i j => nat2 (a := 3456) (b := 1280) (cd V c) (128 * t.val + i) j) := by
  intro i j
  have ht : t.val < 27 := (show cfg0.N = 27 from N_0) ▸ t.isLt
  have hi := i.isLt
  have hj := j.isLt
  refine Eq.trans ?_ (Reads.at (reads_nat2 (a := 3456) (b := 1280) (cd V c)) (ix2 ⟨128 * t.val + i.val, by omega⟩ j))
  unfold cd
  blk_simp [blk]
  refine congrArg (V c (Proc.devRef .tc main_arg6)) ?_
  refine Shape.idx_ext₂ ?_ ?_
  · blk_simp [index_2, coord_val]; show t.val * 128 + i.val = 128 * t.val + i.val; omega
  · blk_simp [index_2, coord_val]

theorem reads_blk3 (t : Fin cfg0.N) : Reads (a := 10) (b := 27) (blk V c 3 t) (fun i j => nat2 (a := 10) (b := 27) (sg V c) i j) := by
  intro i j
  have ht : t.val < 27 := (show cfg0.N = 27 from N_0) ▸ t.isLt
  have hi := i.isLt
  have hj := j.isLt
  refine Eq.trans ?_ (Reads.at (reads_nat2 (a := 10) (b := 27) (sg V c)) (ix2 i j))
  unfold sg
  blk_simp [blk]
  refine congrArg (V c (Proc.devRef .tc main_v9)) ?_
  refine Shape.idx_ext₂ ?_ ?_
  · blk_simp [index_3, coord_val]
  · blk_simp [index_3, coord_val]

theorem reads_blk4 (t : Fin cfg0.N) : Reads (a := 10) (b := 27) (blk V c 4 t) (fun i j => nat2 (a := 10) (b := 27) (su V c) i j) := by
  intro i j
  have ht : t.val < 27 := (show cfg0.N = 27 from N_0) ▸ t.isLt
  have hi := i.isLt
  have hj := j.isLt
  refine Eq.trans ?_ (Reads.at (reads_nat2 (a := 10) (b := 27) (su V c)) (ix2 i j))
  unfold su
  blk_simp [blk]
  refine congrArg (V c (Proc.devRef .tc main_v11)) ?_
  refine Shape.idx_ext₂ ?_ ?_
  · blk_simp [index_4, coord_val]
  · blk_simp [index_4, coord_val]

theorem reads_blk5 (t : Fin cfg0.N) : Reads (a := 27) (b := 10) (blk V c 5 t) (fun i j => nat2 (a := 27) (b := 10) (sd V c) i j) := by
  intro i j
  have ht : t.val < 27 := (show cfg0.N = 27 from N_0) ▸ t.isLt
  have hi := i.isLt
  have hj := j.isLt
  refine Eq.trans ?_ (Reads.at (reads_nat2 (a := 27) (b := 10) (sd V c)) (ix2 i j))
  unfold sd
  blk_simp [blk]
  refine congrArg (V c (Proc.devRef .tc main_arg7)) ?_
  refine Shape.idx_ext₂ ?_ ?_
  · blk_simp [index_5, coord_val]
  · blk_simp [index_5, coord_val]

/-- The first weight array in bf16: blocks of 128 gate columns and 128 up columns in turn. -/
def wG (h k : ℕ) : EReal :=
  if k % 256 < 128 then nat2 (a := 1280) (b := 3456) (cg V c) h (128 * (k / 256) + k % 256) * nat2 (a := 10) (b := 27) (sg V c) (h / 128) (k / 256)
  else nat2 (a := 1280) (b := 3456) (cu V c) h (128 * (k / 256) + (k % 256 - 128)) * nat2 (a := 10) (b := 27) (su V c) (h / 128) (k / 256)

/-- The second weight array in bf16. -/
def wD (f h : ℕ) : EReal := nat2 (a := 3456) (b := 1280) (cd V c) f h * nat2 (a := 27) (b := 10) (sd V c) (f / 128) (h / 128)

theorem reads_out1 (t : Fin cfg0.N) : Reads (a := 1280) (b := 256) (out1 V c t) (fun h k => wG V c h (256 * t.val + k)) := by
  refine Reads.congr (f := out1 V c t) (reads_w1 (grid0.coords t) (st0_0 t) (hstage0_0 ((cfg0.slots t 0).cast nbuf0_0)) (st0_1 t) (hstage0_1 ((cfg0.slots t 1).cast nbuf0_1)) (st0_3 t) (hstage0_3 ((cfg0.slots t 3).cast nbuf0_3)) (st0_4 t) (hstage0_4 ((cfg0.slots t 4).cast nbuf0_4)) (blk V c 0 t) (blk V c 1 t) (blk V c 3 t) (blk V c 4 t)) ?_
  intro h k hh hk
  have ht : t.val < 27 := (show cfg0.N = 27 from N_0) ▸ t.isLt
  have e1 : (256 * t.val + k) / 256 = t.val := by omega
  have e2 : (256 * t.val + k) % 256 = k := by omega
  unfold wf wG
  rw [e1, e2, coord_val]
  by_cases hq : k < 128
  · rw [if_pos hq, if_pos hq, (reads_blk0 V c t).nat2_eq hh hq, (reads_blk3 V c t).nat2_eq (by omega) ht]
  · rw [if_neg hq, if_neg hq, (reads_blk1 V c t).nat2_eq hh (by omega), (reads_blk4 V c t).nat2_eq (by omega) ht]

theorem reads_out2 (t : Fin cfg0.N) : Reads (a := 128) (b := 1280) (out2 V c t) (fun f h => wD V c (128 * t.val + f) h) := by
  refine Reads.congr (f := out2 V c t) (reads_w2 (grid0.coords t) (st0_2 t) (hstage0_2 ((cfg0.slots t 2).cast nbuf0_2)) (st0_5 t) (hstage0_5 ((cfg0.slots t 5).cast nbuf0_5)) (blk V c 2 t) (blk V c 5 t)) ?_
  intro f h hf hh
  have ht : t.val < 27 := (show cfg0.N = 27 from N_0) ▸ t.isLt
  have e1 : (128 * t.val + f) / 128 = t.val := by omega
  unfold vf wD
  rw [e1, coord_val, (reads_blk2 V c t).nat2_eq hf hh, (reads_blk5 V c t).nat2_eq ht (by omega)]

/-- The two arrays after the pass. -/
theorem reads_arr1 : Reads (a := 1280) (b := 6912) ((Memref.whole main_v12_0).view.read (Elt Ideal) ((dat V c).arrAt 6 cfg0.N)) (wG V c) := by
  intro h k
  have e : (dat V c).arrAt 6 cfg0.N = (fun y => wG V c (y 0).val (y 1).val) := by
    refine (dat V c).arrAt_eq_of_covers 6 _ (by decide +kernel) fun t hf y => ?_
    blk_simp
    rw [after_6]
    refine ((reads_out1 V c t).at y).trans ?_
    refine congrArg₂ (wG V c) ?_ ?_
    · blk_simp [index_6, coord_val]
    · blk_simp [index_6, coord_val]; omega
  rw [e]
  rfl

theorem reads_arr2 : Reads (a := 3456) (b := 1280) ((Memref.whole main_v12_1).view.read (Elt Ideal) ((dat V c).arrAt 7 cfg0.N)) (wD V c) := by
  intro h k
  have e : (dat V c).arrAt 7 cfg0.N = (fun y => wD V c (y 0).val (y 1).val) := by
    refine (dat V c).arrAt_eq_of_covers 7 _ (by decide +kernel) fun t hf y => ?_
    blk_simp
    rw [after_7]
    refine ((reads_out2 V c t).at y).trans ?_
    refine congrArg₂ (wD V c) ?_ ?_
    · blk_simp [index_7, coord_val]; omega
    · blk_simp [index_7, coord_val]
  rw [e]
  rfl

end Cert.KernelIdeal.Region0

end
-- ==== Proof.IdealPoint1.lean ====
/-
  What one grid point of the fused pass `cc1_mlp_f0` computes over the extended reals: its result block and what it adds
  to the two accumulators, as sums of products of the point's own blocks and of the weight slices.
-/
module

public import proofs.«01_k».proof.Proof.IdealBody1
public import proofs.«01_k».proof.Proof.IdealPoint

@[expose] public section

set_option maxRecDepth 16384
set_option maxHeartbeats 2000000

noncomputable section

namespace Cert.KernelIdeal.Body1

open Cert.KernelIdeal Cert.KernelIdeal.Gen Cert.KernelIdeal.Point
open Idealize.ShloMosaic Idealize.ShloMosaic.TcCoe

variable (c : Dev nD)
  (M1 : Memref sig .tc .vmem S512x1280 .fp8e4m3) (h1 : M1.IsWhole)
  (M2 : Memref sig .tc .vmem S512x10 .f32) (h2 : M2.IsWhole)
  (M3 : Memref sig .tc .vmem S512x1280 .fp8e5m2) (h3 : M3.IsWhole)
  (M4 : Memref sig .tc .vmem S512x10 .f32) (h4 : M4.IsWhole)
  (M5 : Memref sig .tc .hbm S1280x6912 .bf16) (h5 : M5.IsWhole)
  (M6 : Memref sig .tc .hbm S3456x1280 .bf16) (h6 : M6.IsWhole)
  (M7 : Memref sig .tc .vmem S512x1280 .f32) (h7 : M7.IsWhole)
  (M8 : Memref sig .tc .hbm S1280x2560 .f32) (h8 : M8.IsWhole)
  (M9 : Memref sig .tc .hbm S1280x1280 .f32) (h9 : M9.IsWhole)
  (M10 : Memref sig .tc .vmem S1280x2560 .bf16) (h10 : M10.IsWhole)
  (M11 : Memref sig .tc .vmem S1280x1280 .bf16) (h11 : M11.IsWhole)
  (M12 : Memref sig .tc .vmem S1280x2560 .f32) (h12 : M12.IsWhole)
  (M13 : Memref sig .tc .vmem S1280x1280 .f32) (h13 : M13.IsWhole)
  (M14 : Memref sig .tc .vmem S512x1280 .bf16) (h14 : M14.IsWhole)
  (M15 : Memref sig .tc .vmem S512x1280 .bf16) (h15 : M15.IsWhole)
  (M16 : Memref sig .tc .vmem S1280x512 .bf16) (h16 : M16.IsWhole)
  (M17 : Memref sig .tc .vmem S1280x512 .bf16) (h17 : M17.IsWhole)
  (M18 : Memref sig .tc .vmem S512x1280 .bf16) (h18 : M18.IsWhole)
  (M19 : Memref sig .tc .vmem S512x2560 .bf16) (h19 : M19.IsWhole)
  (x1 : Vec Ideal S512x1280 .fp8e4m3) (x2 : Vec Ideal S512x10 .f32) (x3 : Vec Ideal S512x1280 .fp8e5m2) (x4 : Vec Ideal S512x10 .f32)
  (xG : Vec Ideal S1280x2560 .bf16) (xD : Vec Ideal S1280x1280 .bf16) (xA : Vec Ideal S1280x2560 .f32) (xB : Vec Ideal S1280x1280 .f32)

/-- The point's rows of the first operand, scales multiplied in. -/
abbrev xf (x1 : Vec Ideal S512x1280 .fp8e4m3) (x2 : Vec Ideal S512x10 .f32) : ℕ → ℕ → EReal := fun i j => nat2 (a := 512) (b := 1280) x1 i j * nat2 (a := 512) (b := 10) x2 i (j / 128)
/-- The point's rows of the second operand, scales multiplied in. -/
abbrev yf (x3 : Vec Ideal S512x1280 .fp8e5m2) (x4 : Vec Ideal S512x10 .f32) : ℕ → ℕ → EReal := fun i j => nat2 (a := 512) (b := 1280) x3 i j * nat2 (a := 512) (b := 10) x4 i (j / 128)
/-- The weight slices. -/
abbrev gf (xG : Vec Ideal S1280x2560 .bf16) : ℕ → ℕ → EReal := nat2 (a := 1280) (b := 2560) xG
abbrev df (xD : Vec Ideal S1280x1280 .bf16) : ℕ → ℕ → EReal := nat2 (a := 1280) (b := 1280) xD

theorem mm_gu (x : FVec Ideal (Sh 512 256) .bf16) (w : FVec Ideal (Sh 256 512) .bf16) (i : Fin 512) (j : Fin 512) :
    matmul dot_S512x256_S256x512_S512x512_1_0_0_1_n_n none x w (constant (Sh 512 512) .f32 0x00000000#32) (ix2 i j) = ∑ k : Fin 256, x (ix2 i k) * w (ix2 k j) := by
  pointwise

theorem mm_dh (x : FVec Ideal (Sh 512 1280) .bf16) (w : FVec Ideal (Sh 256 1280) .bf16) (i : Fin 512) (j : Fin 256) :
    matmul dot_S512x1280_S256x1280_S512x256_1_1_0_0_n_n none x w (constant (Sh 512 256) .f32 0x00000000#32) (ix2 i j) = ∑ k : Fin 1280, x (ix2 i k) * w (ix2 j k) := by
  pointwise

theorem mm_dx (x : FVec Ideal (Sh 512 2560) .bf16) (w : FVec Ideal (Sh 1280 2560) .bf16) (i : Fin 512) (j : Fin 1280) :
    matmul dot_S512x2560_S1280x2560_S512x1280_1_1_0_0_n_n none x w (constant (Sh 512 1280) .f32 0x00000000#32) (ix2 i j) = ∑ k : Fin 2560, x (ix2 i k) * w (ix2 j k) := by
  pointwise

theorem mm_ag (x : FVec Ideal (Sh 1280 512) .bf16) (w : FVec Ideal (Sh 512 2560) .bf16) (i : Fin 1280) (j : Fin 2560) :
    matmul dot_S1280x512_S512x2560_S1280x2560_1_0_0_1_n_n none x w (constant (Sh 1280 2560) .f32 0x00000000#32) (ix2 i j) = ∑ k : Fin 512, x (ix2 i k) * w (ix2 k j) := by
  pointwise

theorem mm_ad (x : FVec Ideal (Sh 1280 512) .bf16) (w : FVec Ideal (Sh 512 1280) .bf16) (i : Fin 1280) (j : Fin 1280) :
    matmul dot_S1280x512_S512x1280_S1280x1280_1_0_0_1_n_n none x w (constant (Sh 1280 1280) .f32 0x00000000#32) (ix2 i j) = ∑ k : Fin 512, x (ix2 i k) * w (ix2 k j) := by
  pointwise

theorem reads_xb : Reads (a := 512) (b := 1280) (View.canon (run.sl.H14_10 (F := Ideal) M1 h1 M2 h2 x1 x2)) (fun i j => xf x1 x2 i j) := by
  refine reads_canon (View.cover_of_tiled_head _ _ _ rfl) ?_
  refine fit_cons 0 1152 _ _ (reads_dq _ _ _ _ _ _ _ (reads_load h1 (reads_nat2 x1) 0 1152 _) (reads_load h2 (reads_nat2 x2) 0 9 _)) ?_ ?_
  · intro i j hi hj; have e : (1152 + j) / 128 = 9 := by omega
    simp only [xf, e]; try simp only [Nat.add_zero, Nat.zero_add]
  refine fit_cons 0 1024 _ _ (reads_dq _ _ _ _ _ _ _ (reads_load h1 (reads_nat2 x1) 0 1024 _) (reads_load h2 (reads_nat2 x2) 0 8 _)) ?_ ?_
  · intro i j hi hj; have e : (1024 + j) / 128 = 8 := by omega
    simp only [xf, e]; try simp only [Nat.add_zero, Nat.zero_add]
  refine fit_cons 0 896 _ _ (reads_dq _ _ _ _ _ _ _ (reads_load h1 (reads_nat2 x1) 0 896 _) (reads_load h2 (reads_nat2 x2) 0 7 _)) ?_ ?_
  · intro i j hi hj; have e : (896 + j) / 128 = 7 := by omega
    simp only [xf, e]; try simp only [Nat.add_zero, Nat.zero_add]
  refine fit_cons 0 768 _ _ (reads_dq _ _ _ _ _ _ _ (reads_load h1 (reads_nat2 x1) 0 768 _) (reads_load h2 (reads_nat2 x2) 0 6 _)) ?_ ?_
  · intro i j hi hj; have e : (768 + j) / 128 = 6 := by omega
    simp only [xf, e]; try simp only [Nat.add_zero, Nat.zero_add]
  refine fit_cons 0 640 _ _ (reads_dq _ _ _ _ _ _ _ (reads_load h1 (reads_nat2 x1) 0 640 _) (reads_load h2 (reads_nat2 x2) 0 5 _)) ?_ ?_
  · intro i j hi hj; have e : (640 + j) / 128 = 5 := by omega
    simp only [xf, e]; try simp only [Nat.add_zero, Nat.zero_add]
  refine fit_cons 0 512 _ _ (reads_dq _ _ _ _ _ _ _ (reads_load h1 (reads_nat2 x1) 0 512 _) (reads_load h2 (reads_nat2 x2) 0 4 _)) ?_ ?_
  · intro i j hi hj; have e : (512 + j) / 128 = 4 := by omega
    simp only [xf, e]; try simp only [Nat.add_zero, Nat.zero_add]
  refine fit_cons 0 384 _ _ (reads_dq _ _ _ _ _ _ _ (reads_load h1 (reads_nat2 x1) 0 384 _) (reads_load h2 (reads_nat2 x2) 0 3 _)) ?_ ?_
  · intro i j hi hj; have e : (384 + j) / 128 = 3 := by omega
    simp only [xf, e]; try simp only [Nat.add_zero, Nat.zero_add]
  dsimp only [run.sl.H14_3, run.sl.r, run.sl.r_1, k1_pay17, k1_pay18, k1_pay19, k1_pay20]
  refine fit_cons 0 256 _ _ (reads_dq _ _ _ _ _ _ _ (reads_load h1 (reads_nat2 x1) 0 256 _) (reads_load h2 (reads_nat2 x2) 0 2 _)) ?_ ?_
  · intro i j hi hj; have e : (256 + j) / 128 = 2 := by omega
    simp only [xf, e]; try simp only [Nat.add_zero, Nat.zero_add]
  refine fit_cons 0 128 _ _ (reads_dq _ _ _ _ _ _ _ (reads_load h1 (reads_nat2 x1) 0 128 _) (reads_load h2 (reads_nat2 x2) 0 1 _)) ?_ ?_
  · intro i j hi hj; have e : (128 + j) / 128 = 1 := by omega
    simp only [xf, e]; try simp only [Nat.add_zero, Nat.zero_add]
  refine fit_cons 0 0 _ _ (reads_dq _ _ _ _ _ _ _ (reads_load h1 (reads_nat2 x1) 0 0 _) (reads_load h2 (reads_nat2 x2) 0 0 _)) ?_ ?_
  · intro i j hi hj; have e : (0 + j) / 128 = 0 := by omega
    simp only [xf, e]; try simp only [Nat.add_zero, Nat.zero_add]
  exact fit_nil _

theorem reads_yb : Reads (a := 512) (b := 1280) (View.canon (run.sl.H15_10 (F := Ideal) M3 h3 M4 h4 x3 x4)) (fun i j => yf x3 x4 i j) := by
  refine reads_canon (View.cover_of_tiled_head _ _ _ rfl) ?_
  refine fit_cons 0 1152 _ _ (reads_dq _ _ _ _ _ _ _ (reads_load h3 (reads_nat2 x3) 0 1152 _) (reads_load h4 (reads_nat2 x4) 0 9 _)) ?_ ?_
  · intro i j hi hj; have e : (1152 + j) / 128 = 9 := by omega
    simp only [yf, e]; try simp only [Nat.add_zero, Nat.zero_add]
  refine fit_cons 0 1024 _ _ (reads_dq _ _ _ _ _ _ _ (reads_load h3 (reads_nat2 x3) 0 1024 _) (reads_load h4 (reads_nat2 x4) 0 8 _)) ?_ ?_
  · intro i j hi hj; have e : (1024 + j) / 128 = 8 := by omega
    simp only [yf, e]; try simp only [Nat.add_zero, Nat.zero_add]
  refine fit_cons 0 896 _ _ (reads_dq _ _ _ _ _ _ _ (reads_load h3 (reads_nat2 x3) 0 896 _) (reads_load h4 (reads_nat2 x4) 0 7 _)) ?_ ?_
  · intro i j hi hj; have e : (896 + j) / 128 = 7 := by omega
    simp only [yf, e]; try simp only [Nat.add_zero, Nat.zero_add]
  refine fit_cons 0 768 _ _ (reads_dq _ _ _ _ _ _ _ (reads_load h3 (reads_nat2 x3) 0 768 _) (reads_load h4 (reads_nat2 x4) 0 6 _)) ?_ ?_
  · intro i j hi hj; have e : (768 + j) / 128 = 6 := by omega
    simp only [yf, e]; try simp only [Nat.add_zero, Nat.zero_add]
  refine fit_cons 0 640 _ _ (reads_dq _ _ _ _ _ _ _ (reads_load h3 (reads_nat2 x3) 0 640 _) (reads_load h4 (reads_nat2 x4) 0 5 _)) ?_ ?_
  · intro i j hi hj; have e : (640 + j) / 128 = 5 := by omega
    simp only [yf, e]; try simp only [Nat.add_zero, Nat.zero_add]
  refine fit_cons 0 512 _ _ (reads_dq _ _ _ _ _ _ _ (reads_load h3 (reads_nat2 x3) 0 512 _) (reads_load h4 (reads_nat2 x4) 0 4 _)) ?_ ?_
  · intro i j hi hj; have e : (512 + j) / 128 = 4 := by omega
    simp only [yf, e]; try simp only [Nat.add_zero, Nat.zero_add]
  refine fit_cons 0 384 _ _ (reads_dq _ _ _ _ _ _ _ (reads_load h3 (reads_nat2 x3) 0 384 _) (reads_load h4 (reads_nat2 x4) 0 3 _)) ?_ ?_
  · intro i j hi hj; have e : (384 + j) / 128 = 3 := by omega
    simp only [yf, e]; try simp only [Nat.add_zero, Nat.zero_add]
  refine fit_cons 0 256 _ _ (reads_dq _ _ _ _ _ _ _ (reads_load h3 (reads_nat2 x3) 0 256 _) (reads_load h4 (reads_nat2 x4) 0 2 _)) ?_ ?_
  · intro i j hi hj; have e : (256 + j) / 128 = 2 := by omega
    simp only [yf, e]; try simp only [Nat.add_zero, Nat.zero_add]
  refine fit_cons 0 128 _ _ (reads_dq _ _ _ _ _ _ _ (reads_load h3 (reads_nat2 x3) 0 128 _) (reads_load h4 (reads_nat2 x4) 0 1 _)) ?_ ?_
  · intro i j hi hj; have e : (128 + j) / 128 = 1 := by omega
    simp only [yf, e]; try simp only [Nat.add_zero, Nat.zero_add]
  refine fit_cons 0 0 _ _ (reads_dq _ _ _ _ _ _ _ (reads_load h3 (reads_nat2 x3) 0 0 _) (reads_load h4 (reads_nat2 x4) 0 0 _)) ?_ ?_
  · intro i j hi hj; have e : (0 + j) / 128 = 0 := by omega
    simp only [yf, e]; try simp only [Nat.add_zero, Nat.zero_add]
  exact fit_nil _

theorem reads_xt : Reads (a := 1280) (b := 512) (View.canon (run.sl.H16_10 (F := Ideal) M1 h1 M2 h2 x1 x2)) (fun i j => xf x1 x2 j i) := by
  refine reads_canon (View.cover_of_tiled_head _ _ _ rfl) ?_
  refine fit_cons 1152 0 _ _ (reads_dqT _ _ _ _ _ _ _ _ (reads_load h1 (reads_nat2 x1) 0 1152 _) (reads_load h2 (reads_nat2 x2) 0 9 _)) ?_ ?_
  · intro i j hi hj; have e : (1152 + i) / 128 = 9 := by omega
    simp only [xf, e]; try simp only [Nat.add_zero, Nat.zero_add]
  refine fit_cons 1024 0 _ _ (reads_dqT _ _ _ _ _ _ _ _ (reads_load h1 (reads_nat2 x1) 0 1024 _) (reads_load h2 (reads_nat2 x2) 0 8 _)) ?_ ?_
  · intro i j hi hj; have e : (1024 + i) / 128 = 8 := by omega
    simp only [xf, e]; try simp only [Nat.add_zero, Nat.zero_add]
  refine fit_cons 896 0 _ _ (reads_dqT _ _ _ _ _ _ _ _ (reads_load h1 (reads_nat2 x1) 0 896 _) (reads_load h2 (reads_nat2 x2) 0 7 _)) ?_ ?_
  · intro i j hi hj; have e : (896 + i) / 128 = 7 := by omega
    simp only [xf, e]; try simp only [Nat.add_zero, Nat.zero_add]
  refine fit_cons 768 0 _ _ (reads_dqT _ _ _ _ _ _ _ _ (reads_load h1 (reads_nat2 x1) 0 768 _) (reads_load h2 (reads_nat2 x2) 0 6 _)) ?_ ?_
  · intro i j hi hj; have e : (768 + i) / 128 = 6 := by omega
    simp only [xf, e]; try simp only [Nat.add_zero, Nat.zero_add]
  refine fit_cons 640 0 _ _ (reads_dqT _ _ _ _ _ _ _ _ (reads_load h1 (reads_nat2 x1) 0 640 _) (reads_load h2 (reads_nat2 x2) 0 5 _)) ?_ ?_
  · intro i j hi hj; have e : (640 + i) / 128 = 5 := by omega
    simp only [xf, e]; try simp only [Nat.add_zero, Nat.zero_add]
  refine fit_cons 512 0 _ _ (reads_dqT _ _ _ _ _ _ _ _ (reads_load h1 (reads_nat2 x1) 0 512 _) (reads_load h2 (reads_nat2 x2) 0 4 _)) ?_ ?_
  · intro i j hi hj; have e : (512 + i) / 128 = 4 := by omega
    simp only [xf, e]; try simp only [Nat.add_zero, Nat.zero_add]
  refine fit_cons 384 0 _ _ (reads_dqT _ _ _ _ _ _ _ _ (reads_load h1 (reads_nat2 x1) 0 384 _) (reads_load h2 (reads_nat2 x2) 0 3 _)) ?_ ?_
  · intro i j hi hj; have e : (384 + i) / 128 = 3 := by omega
    simp only [xf, e]; try simp only [Nat.add_zero, Nat.zero_add]
  dsimp only [run.sl.H16_3, run.sl.r, run.sl.r_1, k1_pay17, k1_pay18, k1_pay19, k1_pay21]
  refine fit_cons 256 0 _ _ (reads_dqT _ _ _ _ _ _ _ _ (reads_load h1 (reads_nat2 x1) 0 256 _) (reads_load h2 (reads_nat2 x2) 0 2 _)) ?_ ?_
  · intro i j hi hj; have e : (256 + i) / 128 = 2 := by omega
    simp only [xf, e]; try simp only [Nat.add_zero, Nat.zero_add]
  refine fit_cons 128 0 _ _ (reads_dqT _ _ _ _ _ _ _ _ (reads_load h1 (reads_nat2 x1) 0 128 _) (reads_load h2 (reads_nat2 x2) 0 1 _)) ?_ ?_
  · intro i j hi hj; have e : (128 + i) / 128 = 1 := by omega
    simp only [xf, e]; try simp only [Nat.add_zero, Nat.zero_add]
  refine fit_cons 0 0 _ _ (reads_dqT _ _ _ _ _ _ _ _ (reads_load h1 (reads_nat2 x1) 0 0 _) (reads_load h2 (reads_nat2 x2) 0 0 _)) ?_ ?_
  · intro i j hi hj; have e : (0 + i) / 128 = 0 := by omega
    simp only [xf, e]; try simp only [Nat.add_zero, Nat.zero_add]
  exact fit_nil _

theorem reads_yt : Reads (a := 1280) (b := 512) (View.canon (run.sl.H17_10 (F := Ideal) M3 h3 M4 h4 x3 x4)) (fun i j => yf x3 x4 j i) := by
  refine reads_canon (View.cover_of_tiled_head _ _ _ rfl) ?_
  refine fit_cons 1152 0 _ _ (reads_dqT _ _ _ _ _ _ _ _ (reads_load h3 (reads_nat2 x3) 0 1152 _) (reads_load h4 (reads_nat2 x4) 0 9 _)) ?_ ?_
  · intro i j hi hj; have e : (1152 + i) / 128 = 9 := by omega
    simp only [yf, e]; try simp only [Nat.add_zero, Nat.zero_add]
  refine fit_cons 1024 0 _ _ (reads_dqT _ _ _ _ _ _ _ _ (reads_load h3 (reads_nat2 x3) 0 1024 _) (reads_load h4 (reads_nat2 x4) 0 8 _)) ?_ ?_
  · intro i j hi hj; have e : (1024 + i) / 128 = 8 := by omega
    simp only [yf, e]; try simp only [Nat.add_zero, Nat.zero_add]
  refine fit_cons 896 0 _ _ (reads_dqT _ _ _ _ _ _ _ _ (reads_load h3 (reads_nat2 x3) 0 896 _) (reads_load h4 (reads_nat2 x4) 0 7 _)) ?_ ?_
  · intro i j hi hj; have e : (896 + i) / 128 = 7 := by omega
    simp only [yf, e]; try simp only [Nat.add_zero, Nat.zero_add]
  refine fit_cons 768 0 _ _ (reads_dqT _ _ _ _ _ _ _ _ (reads_load h3 (reads_nat2 x3) 0 768 _) (reads_load h4 (reads_nat2 x4) 0 6 _)) ?_ ?_
  · intro i j hi hj; have e : (768 + i) / 128 = 6 := by omega
    simp only [yf, e]; try simp only [Nat.add_zero, Nat.zero_add]
  refine fit_cons 640 0 _ _ (reads_dqT _ _ _ _ _ _ _ _ (reads_load h3 (reads_nat2 x3) 0 640 _) (reads_load h4 (reads_nat2 x4) 0 5 _)) ?_ ?_
  · intro i j hi hj; have e : (640 + i) / 128 = 5 := by omega
    simp only [yf, e]; try simp only [Nat.add_zero, Nat.zero_add]
  refine fit_cons 512 0 _ _ (reads_dqT _ _ _ _ _ _ _ _ (reads_load h3 (reads_nat2 x3) 0 512 _) (reads_load h4 (reads_nat2 x4) 0 4 _)) ?_ ?_
  · intro i j hi hj; have e : (512 + i) / 128 = 4 := by omega
    simp only [yf, e]; try simp only [Nat.add_zero, Nat.zero_add]
  refine fit_cons 384 0 _ _ (reads_dqT _ _ _ _ _ _ _ _ (reads_load h3 (reads_nat2 x3) 0 384 _) (reads_load h4 (reads_nat2 x4) 0 3 _)) ?_ ?_
  · intro i j hi hj; have e : (384 + i) / 128 = 3 := by omega
    simp only [yf, e]; try simp only [Nat.add_zero, Nat.zero_add]
  refine fit_cons 256 0 _ _ (reads_dqT _ _ _ _ _ _ _ _ (reads_load h3 (reads_nat2 x3) 0 256 _) (reads_load h4 (reads_nat2 x4) 0 2 _)) ?_ ?_
  · intro i j hi hj; have e : (256 + i) / 128 = 2 := by omega
    simp only [yf, e]; try simp only [Nat.add_zero, Nat.zero_add]
  refine fit_cons 128 0 _ _ (reads_dqT _ _ _ _ _ _ _ _ (reads_load h3 (reads_nat2 x3) 0 128 _) (reads_load h4 (reads_nat2 x4) 0 1 _)) ?_ ?_
  · intro i j hi hj; have e : (128 + i) / 128 = 1 := by omega
    simp only [yf, e]; try simp only [Nat.add_zero, Nat.zero_add]
  refine fit_cons 0 0 _ _ (reads_dqT _ _ _ _ _ _ _ _ (reads_load h3 (reads_nat2 x3) 0 0 _) (reads_load h4 (reads_nat2 x4) 0 0 _)) ?_ ?_
  · intro i j hi hj; have e : (0 + i) / 128 = 0 := by omega
    simp only [yf, e]; try simp only [Nat.add_zero, Nat.zero_add]
  exact fit_nil _

theorem gu_0 : Reads (a := 512) (b := 512) (run.sl.r_9 (F := Ideal) M1 h1 M2 h2 M10 h10 M14 x1 x2 xG) (fun i j => S 1280 (xf x1 x2) (gf xG) i (0 + j)) :=
  reads_five mm_gu 0
    (reads_cov M14.view (reads_xb M1 h1 M2 h2 x1 x2) 0 0 _) (reads_load h10 (reads_nat2 xG) 0 0 _)
    (reads_cov M14.view (reads_xb M1 h1 M2 h2 x1 x2) 0 256 _) (reads_load h10 (reads_nat2 xG) 256 0 _)
    (reads_cov M14.view (reads_xb M1 h1 M2 h2 x1 x2) 0 512 _) (reads_load h10 (reads_nat2 xG) 512 0 _)
    (reads_cov M14.view (reads_xb M1 h1 M2 h2 x1 x2) 0 768 _) (reads_load h10 (reads_nat2 xG) 768 0 _)
    (reads_cov M14.view (reads_xb M1 h1 M2 h2 x1 x2) 0 1024 _) (reads_load h10 (reads_nat2 xG) 1024 0 _)

theorem dh_0 : Reads (a := 512) (b := 256) (run.sl.r_10 (F := Ideal) M3 h3 M4 h4 M11 h11 M15 x3 x4 xD) (fun i j => Point.T 1280 (yf x3 x4) (df xD) i (0 + j)) := by
  refine (reads_mmT (mm_dh _ _) (reads_cov M15.view (reads_yb M3 h3 M4 h4 x3 x4) 0 0 _) (reads_load h11 (reads_nat2 xD) 0 0 _)).congr ?_
  intro i j _ _
  simp only [Point.T, Nat.zero_add]

theorem gu_1 : Reads (a := 512) (b := 512) (run.sl.r_24 (F := Ideal) M1 h1 M2 h2 M10 h10 M14 x1 x2 xG) (fun i j => S 1280 (xf x1 x2) (gf xG) i (512 + j)) :=
  reads_five mm_gu 512
    (reads_cov M14.view (reads_xb M1 h1 M2 h2 x1 x2) 0 0 _) (reads_load h10 (reads_nat2 xG) 0 512 _)
    (reads_cov M14.view (reads_xb M1 h1 M2 h2 x1 x2) 0 256 _) (reads_load h10 (reads_nat2 xG) 256 512 _)
    (reads_cov M14.view (reads_xb M1 h1 M2 h2 x1 x2) 0 512 _) (reads_load h10 (reads_nat2 xG) 512 512 _)
    (reads_cov M14.view (reads_xb M1 h1 M2 h2 x1 x2) 0 768 _) (reads_load h10 (reads_nat2 xG) 768 512 _)
    (reads_cov M14.view (reads_xb M1 h1 M2 h2 x1 x2) 0 1024 _) (reads_load h10 (reads_nat2 xG) 1024 512 _)

theorem dh_1 : Reads (a := 512) (b := 256) (run.sl.r_25 (F := Ideal) M3 h3 M4 h4 M11 h11 M15 x3 x4 xD) (fun i j => Point.T 1280 (yf x3 x4) (df xD) i (256 + j)) := by
  refine (reads_mmT (mm_dh _ _) (reads_cov M15.view (reads_yb M3 h3 M4 h4 x3 x4) 0 0 _) (reads_load h11 (reads_nat2 xD) 256 0 _)).congr ?_
  intro i j _ _
  simp only [Point.T, Nat.zero_add]

theorem gu_2 : Reads (a := 512) (b := 512) (run.sl.r_34 (F := Ideal) M1 h1 M2 h2 M10 h10 M14 x1 x2 xG) (fun i j => S 1280 (xf x1 x2) (gf xG) i (1024 + j)) :=
  reads_five mm_gu 1024
    (reads_cov M14.view (reads_xb M1 h1 M2 h2 x1 x2) 0 0 _) (reads_load h10 (reads_nat2 xG) 0 1024 _)
    (reads_cov M14.view (reads_xb M1 h1 M2 h2 x1 x2) 0 256 _) (reads_load h10 (reads_nat2 xG) 256 1024 _)
    (reads_cov M14.view (reads_xb M1 h1 M2 h2 x1 x2) 0 512 _) (reads_load h10 (reads_nat2 xG) 512 1024 _)
    (reads_cov M14.view (reads_xb M1 h1 M2 h2 x1 x2) 0 768 _) (reads_load h10 (reads_nat2 xG) 768 1024 _)
    (reads_cov M14.view (reads_xb M1 h1 M2 h2 x1 x2) 0 1024 _) (reads_load h10 (reads_nat2 xG) 1024 1024 _)

theorem dh_2 : Reads (a := 512) (b := 256) (run.sl.r_35 (F := Ideal) M3 h3 M4 h4 M11 h11 M15 x3 x4 xD) (fun i j => Point.T 1280 (yf x3 x4) (df xD) i (512 + j)) := by
  refine (reads_mmT (mm_dh _ _) (reads_cov M15.view (reads_yb M3 h3 M4 h4 x3 x4) 0 0 _) (reads_load h11 (reads_nat2 xD) 512 0 _)).congr ?_
  intro i j _ _
  simp only [Point.T, Nat.zero_add]

theorem gu_3 : Reads (a := 512) (b := 512) (run.sl.r_44 (F := Ideal) M1 h1 M2 h2 M10 h10 M14 x1 x2 xG) (fun i j => S 1280 (xf x1 x2) (gf xG) i (1536 + j)) :=
  reads_five mm_gu 1536
    (reads_cov M14.view (reads_xb M1 h1 M2 h2 x1 x2) 0 0 _) (reads_load h10 (reads_nat2 xG) 0 1536 _)
    (reads_cov M14.view (reads_xb M1 h1 M2 h2 x1 x2) 0 256 _) (reads_load h10 (reads_nat2 xG) 256 1536 _)
    (reads_cov M14.view (reads_xb M1 h1 M2 h2 x1 x2) 0 512 _) (reads_load h10 (reads_nat2 xG) 512 1536 _)
    (reads_cov M14.view (reads_xb M1 h1 M2 h2 x1 x2) 0 768 _) (reads_load h10 (reads_nat2 xG) 768 1536 _)
    (reads_cov M14.view (reads_xb M1 h1 M2 h2 x1 x2) 0 1024 _) (reads_load h10 (reads_nat2 xG) 1024 1536 _)

theorem dh_3 : Reads (a := 512) (b := 256) (run.sl.r_45 (F := Ideal) M3 h3 M4 h4 M11 h11 M15 x3 x4 xD) (fun i j => Point.T 1280 (yf x3 x4) (df xD) i (768 + j)) := by
  refine (reads_mmT (mm_dh _ _) (reads_cov M15.view (reads_yb M3 h3 M4 h4 x3 x4) 0 0 _) (reads_load h11 (reads_nat2 xD) 768 0 _)).congr ?_
  intro i j _ _
  simp only [Point.T, Nat.zero_add]

theorem gu_4 : Reads (a := 512) (b := 512) (run.sl.r_58 (F := Ideal) M1 h1 M2 h2 M10 h10 M14 x1 x2 xG) (fun i j => S 1280 (xf x1 x2) (gf xG) i (2048 + j)) :=
  reads_five mm_gu 2048
    (reads_cov M14.view (reads_xb M1 h1 M2 h2 x1 x2) 0 0 _) (reads_load h10 (reads_nat2 xG) 0 2048 _)
    (reads_cov M14.view (reads_xb M1 h1 M2 h2 x1 x2) 0 256 _) (reads_load h10 (reads_nat2 xG) 256 2048 _)
    (reads_cov M14.view (reads_xb M1 h1 M2 h2 x1 x2) 0 512 _) (reads_load h10 (reads_nat2 xG) 512 2048 _)
    (reads_cov M14.view (reads_xb M1 h1 M2 h2 x1 x2) 0 768 _) (reads_load h10 (reads_nat2 xG) 768 2048 _)
    (reads_cov M14.view (reads_xb M1 h1 M2 h2 x1 x2) 0 1024 _) (reads_load h10 (reads_nat2 xG) 1024 2048 _)

theorem dh_4 : Reads (a := 512) (b := 256) (run.sl.r_59 (F := Ideal) M3 h3 M4 h4 M11 h11 M15 x3 x4 xD) (fun i j => Point.T 1280 (yf x3 x4) (df xD) i (1024 + j)) := by
  refine (reads_mmT (mm_dh _ _) (reads_cov M15.view (reads_yb M3 h3 M4 h4 x3 x4) 0 0 _) (reads_load h11 (reads_nat2 xD) 1024 0 _)).congr ?_
  intro i j _ _
  simp only [Point.T, Nat.zero_add]

theorem reads_hb : Reads (a := 512) (b := 1280) (View.canon (run.sl.H18_10 (F := Ideal) M1 h1 M2 h2 M10 h10 M14 x1 x2 xG)) (hb (xf x1 x2) (gf xG)) := by
  refine reads_canon (View.cover_of_tiled_head _ _ _ rfl) ?_
  refine fit_cons 0 1152 _ _ (reads_h _ _ (reads_slice 0 256 slices_S512x512_o0_256_S512x128 (gu_4 M1 h1 M2 h2 M10 h10 M14 x1 x2 xG)) (reads_slice 0 384 slices_S512x512_o0_384_S512x128 (gu_4 M1 h1 M2 h2 M10 h10 M14 x1 x2 xG))) ?_ ?_
  · intro i j hi hj
    have e : gam (1152 + j) = 2048 + (256 + j) := by unfold gam; omega
    have e2 : gam (1152 + j) + 128 = 2048 + (384 + j) := by omega
    unfold hb; rw [e2, e]
  refine fit_cons 0 1024 _ _ (reads_h _ _ (reads_slice 0 0 slices_S512x512_o0_0_S512x128 (gu_4 M1 h1 M2 h2 M10 h10 M14 x1 x2 xG)) (reads_slice 0 128 slices_S512x512_o0_128_S512x128 (gu_4 M1 h1 M2 h2 M10 h10 M14 x1 x2 xG))) ?_ ?_
  · intro i j hi hj
    have e : gam (1024 + j) = 2048 + (0 + j) := by unfold gam; omega
    have e2 : gam (1024 + j) + 128 = 2048 + (128 + j) := by omega
    unfold hb; rw [e2, e]
  refine fit_cons 0 896 _ _ (reads_h _ _ (reads_slice 0 256 slices_S512x512_o0_256_S512x128 (gu_3 M1 h1 M2 h2 M10 h10 M14 x1 x2 xG)) (reads_slice 0 384 slices_S512x512_o0_384_S512x128 (gu_3 M1 h1 M2 h2 M10 h10 M14 x1 x2 xG))) ?_ ?_
  · intro i j hi hj
    have e : gam (896 + j) = 1536 + (256 + j) := by unfold gam; omega
    have e2 : gam (896 + j) + 128 = 1536 + (384 + j) := by omega
    unfold hb; rw [e2, e]
  refine fit_cons 0 768 _ _ (reads_h _ _ (reads_slice 0 0 slices_S512x512_o0_0_S512x128 (gu_3 M1 h1 M2 h2 M10 h10 M14 x1 x2 xG)) (reads_slice 0 128 slices_S512x512_o0_128_S512x128 (gu_3 M1 h1 M2 h2 M10 h10 M14 x1 x2 xG))) ?_ ?_
  · intro i j hi hj
    have e : gam (768 + j) = 1536 + (0 + j) := by unfold gam; omega
    have e2 : gam (768 + j) + 128 = 1536 + (128 + j) := by omega
    unfold hb; rw [e2, e]
  refine fit_cons 0 640 _ _ (reads_h _ _ (reads_slice 0 256 slices_S512x512_o0_256_S512x128 (gu_2 M1 h1 M2 h2 M10 h10 M14 x1 x2 xG)) (reads_slice 0 384 slices_S512x512_o0_384_S512x128 (gu_2 M1 h1 M2 h2 M10 h10 M14 x1 x2 xG))) ?_ ?_
  · intro i j hi hj
    have e : gam (640 + j) = 1024 + (256 + j) := by unfold gam; omega
    have e2 : gam (640 + j) + 128 = 1024 + (384 + j) := by omega
    unfold hb; rw [e2, e]
  refine fit_cons 0 512 _ _ (reads_h _ _ (reads_slice 0 0 slices_S512x512_o0_0_S512x128 (gu_2 M1 h1 M2 h2 M10 h10 M14 x1 x2 xG)) (reads_slice 0 128 slices_S512x512_o0_128_S512x128 (gu_2 M1 h1 M2 h2 M10 h10 M14 x1 x2 xG))) ?_ ?_
  · intro i j hi hj
    have e : gam (512 + j) = 1024 + (0 + j) := by unfold gam; omega
    have e2 : gam (512 + j) + 128 = 1024 + (128 + j) := by omega
    unfold hb; rw [e2, e]
  refine fit_cons 0 384 _ _ (reads_h _ _ (reads_slice 0 256 slices_S512x512_o0_256_S512x128 (gu_1 M1 h1 M2 h2 M10 h10 M14 x1 x2 xG)) (reads_slice 0 384 slices_S512x512_o0_384_S512x128 (gu_1 M1 h1 M2 h2 M10 h10 M14 x1 x2 xG))) ?_ ?_
  · intro i j hi hj
    have e : gam (384 + j) = 512 + (256 + j) := by unfold gam; omega
    have e2 : gam (384 + j) + 128 = 512 + (384 + j) := by omega
    unfold hb; rw [e2, e]
  refine fit_cons 0 256 _ _ (reads_h _ _ (reads_slice 0 0 slices_S512x512_o0_0_S512x128 (gu_1 M1 h1 M2 h2 M10 h10 M14 x1 x2 xG)) (reads_slice 0 128 slices_S512x512_o0_128_S512x128 (gu_1 M1 h1 M2 h2 M10 h10 M14 x1 x2 xG))) ?_ ?_
  · intro i j hi hj
    have e : gam (256 + j) = 512 + (0 + j) := by unfold gam; omega
    have e2 : gam (256 + j) + 128 = 512 + (128 + j) := by omega
    unfold hb; rw [e2, e]
  refine fit_cons 0 128 _ _ (reads_h _ _ (reads_slice 0 256 slices_S512x512_o0_256_S512x128 (gu_0 M1 h1 M2 h2 M10 h10 M14 x1 x2 xG)) (reads_slice 0 384 slices_S512x512_o0_384_S512x128 (gu_0 M1 h1 M2 h2 M10 h10 M14 x1 x2 xG))) ?_ ?_
  · intro i j hi hj
    have e : gam (128 + j) = 0 + (256 + j) := by unfold gam; omega
    have e2 : gam (128 + j) + 128 = 0 + (384 + j) := by omega
    unfold hb; rw [e2, e]
  refine fit_cons 0 0 _ _ (reads_h _ _ (reads_slice 0 0 slices_S512x512_o0_0_S512x128 (gu_0 M1 h1 M2 h2 M10 h10 M14 x1 x2 xG)) (reads_slice 0 128 slices_S512x512_o0_128_S512x128 (gu_0 M1 h1 M2 h2 M10 h10 M14 x1 x2 xG))) ?_ ?_
  · intro i j hi hj
    have e : gam (0 + j) = 0 + (0 + j) := by unfold gam; omega
    have e2 : gam (0 + j) + 128 = 0 + (128 + j) := by omega
    unfold hb; rw [e2, e]
  exact fit_nil _

theorem reads_dgu : Reads (a := 512) (b := 2560) (View.canon (run.sl.H19_20 (F := Ideal) M1 h1 M2 h2 M3 h3 M4 h4 M10 h10 M11 h11 M14 M15 x1 x2 x3 x4 xG xD)) (dgu (xf x1 x2) (yf x3 x4) (gf xG) (df xD)) := by
  refine reads_canon (View.cover_of_tiled_head _ _ _ rfl) ?_
  refine fit_cons 0 2432 _ _ (reads_du _ _ (reads_slice 0 256 slices_S512x512_o0_256_S512x128 (gu_4 M1 h1 M2 h2 M10 h10 M14 x1 x2 xG)) (reads_slice 0 384 slices_S512x512_o0_384_S512x128 (gu_4 M1 h1 M2 h2 M10 h10 M14 x1 x2 xG)) (reads_slice 0 128 slices_S512x256_o0_128_S512x128 (dh_4 M3 h3 M4 h4 M11 h11 M15 x3 x4 xD))) ?_ ?_
  · intro i j hi hj
    have e0 : fea (2432 + j) = 1024 + (128 + j) := by unfold fea; omega
    have e : gam (1024 + (128 + j)) = 2048 + (256 + j) := by unfold gam; omega
    have e2 : gam (1024 + (128 + j)) + 128 = 2048 + (384 + j) := by omega
    unfold dgu; rw [if_neg (show ¬ (2432 + j) % 256 < 128 by omega), e0, e2, e, Nat.zero_add]
  refine fit_cons 0 2304 _ _ (reads_dg _ _ (reads_slice 0 256 slices_S512x512_o0_256_S512x128 (gu_4 M1 h1 M2 h2 M10 h10 M14 x1 x2 xG)) (reads_slice 0 384 slices_S512x512_o0_384_S512x128 (gu_4 M1 h1 M2 h2 M10 h10 M14 x1 x2 xG)) (reads_slice 0 128 slices_S512x256_o0_128_S512x128 (dh_4 M3 h3 M4 h4 M11 h11 M15 x3 x4 xD))) ?_ ?_
  · intro i j hi hj
    have e0 : fea (2304 + j) = 1024 + (128 + j) := by unfold fea; omega
    have e : gam (1024 + (128 + j)) = 2048 + (256 + j) := by unfold gam; omega
    have e2 : gam (1024 + (128 + j)) + 128 = 2048 + (384 + j) := by omega
    unfold dgu; rw [if_pos (show (2304 + j) % 256 < 128 by omega), e0, e2, e, Nat.zero_add]
  refine fit_cons 0 2176 _ _ (reads_du _ _ (reads_slice 0 0 slices_S512x512_o0_0_S512x128 (gu_4 M1 h1 M2 h2 M10 h10 M14 x1 x2 xG)) (reads_slice 0 128 slices_S512x512_o0_128_S512x128 (gu_4 M1 h1 M2 h2 M10 h10 M14 x1 x2 xG)) (reads_slice 0 0 slices_S512x256_o0_0_S512x128 (dh_4 M3 h3 M4 h4 M11 h11 M15 x3 x4 xD))) ?_ ?_
  · intro i j hi hj
    have e0 : fea (2176 + j) = 1024 + (0 + j) := by unfold fea; omega
    have e : gam (1024 + (0 + j)) = 2048 + (0 + j) := by unfold gam; omega
    have e2 : gam (1024 + (0 + j)) + 128 = 2048 + (128 + j) := by omega
    unfold dgu; rw [if_neg (show ¬ (2176 + j) % 256 < 128 by omega), e0, e2, e, Nat.zero_add]
  refine fit_cons 0 2048 _ _ (reads_dg _ _ (reads_slice 0 0 slices_S512x512_o0_0_S512x128 (gu_4 M1 h1 M2 h2 M10 h10 M14 x1 x2 xG)) (reads_slice 0 128 slices_S512x512_o0_128_S512x128 (gu_4 M1 h1 M2 h2 M10 h10 M14 x1 x2 xG)) (reads_slice 0 0 slices_S512x256_o0_0_S512x128 (dh_4 M3 h3 M4 h4 M11 h11 M15 x3 x4 xD))) ?_ ?_
  · intro i j hi hj
    have e0 : fea (2048 + j) = 1024 + (0 + j) := by unfold fea; omega
    have e : gam (1024 + (0 + j)) = 2048 + (0 + j) := by unfold gam; omega
    have e2 : gam (1024 + (0 + j)) + 128 = 2048 + (128 + j) := by omega
    unfold dgu; rw [if_pos (show (2048 + j) % 256 < 128 by omega), e0, e2, e, Nat.zero_add]
  refine fit_cons 0 1920 _ _ (reads_du _ _ (reads_slice 0 256 slices_S512x512_o0_256_S512x128 (gu_3 M1 h1 M2 h2 M10 h10 M14 x1 x2 xG)) (reads_slice 0 384 slices_S512x512_o0_384_S512x128 (gu_3 M1 h1 M2 h2 M10 h10 M14 x1 x2 xG)) (reads_slice 0 128 slices_S512x256_o0_128_S512x128 (dh_3 M3 h3 M4 h4 M11 h11 M15 x3 x4 xD))) ?_ ?_
  · intro i j hi hj
    have e0 : fea (1920 + j) = 768 + (128 + j) := by unfold fea; omega
    have e : gam (768 + (128 + j)) = 1536 + (256 + j) := by unfold gam; omega
    have e2 : gam (768 + (128 + j)) + 128 = 1536 + (384 + j) := by omega
    unfold dgu; rw [if_neg (show ¬ (1920 + j) % 256 < 128 by omega), e0, e2, e, Nat.zero_add]
  refine fit_cons 0 1792 _ _ (reads_dg _ _ (reads_slice 0 256 slices_S512x512_o0_256_S512x128 (gu_3 M1 h1 M2 h2 M10 h10 M14 x1 x2 xG)) (reads_slice 0 384 slices_S512x512_o0_384_S512x128 (gu_3 M1 h1 M2 h2 M10 h10 M14 x1 x2 xG)) (reads_slice 0 128 slices_S512x256_o0_128_S512x128 (dh_3 M3 h3 M4 h4 M11 h11 M15 x3 x4 xD))) ?_ ?_
  · intro i j hi hj
    have e0 : fea (1792 + j) = 768 + (128 + j) := by unfold fea; omega
    have e : gam (768 + (128 + j)) = 1536 + (256 + j) := by unfold gam; omega
    have e2 : gam (768 + (128 + j)) + 128 = 1536 + (384 + j) := by omega
    unfold dgu; rw [if_pos (show (1792 + j) % 256 < 128 by omega), e0, e2, e, Nat.zero_add]
  refine fit_cons 0 1664 _ _ (reads_du _ _ (reads_slice 0 0 slices_S512x512_o0_0_S512x128 (gu_3 M1 h1 M2 h2 M10 h10 M14 x1 x2 xG)) (reads_slice 0 128 slices_S512x512_o0_128_S512x128 (gu_3 M1 h1 M2 h2 M10 h10 M14 x1 x2 xG)) (reads_slice 0 0 slices_S512x256_o0_0_S512x128 (dh_3 M3 h3 M4 h4 M11 h11 M15 x3 x4 xD))) ?_ ?_
  · intro i j hi hj
    have e0 : fea (1664 + j) = 768 + (0 + j) := by unfold fea; omega
    have e : gam (768 + (0 + j)) = 1536 + (0 + j) := by unfold gam; omega
    have e2 : gam (768 + (0 + j)) + 128 = 1536 + (128 + j) := by omega
    unfold dgu; rw [if_neg (show ¬ (1664 + j) % 256 < 128 by omega), e0, e2, e, Nat.zero_add]
  refine fit_cons 0 1536 _ _ (reads_dg _ _ (reads_slice 0 0 slices_S512x512_o0_0_S512x128 (gu_3 M1 h1 M2 h2 M10 h10 M14 x1 x2 xG)) (reads_slice 0 128 slices_S512x512_o0_128_S512x128 (gu_3 M1 h1 M2 h2 M10 h10 M14 x1 x2 xG)) (reads_slice 0 0 slices_S512x256_o0_0_S512x128 (dh_3 M3 h3 M4 h4 M11 h11 M15 x3 x4 xD))) ?_ ?_
  · intro i j hi hj
    have e0 : fea (1536 + j) = 768 + (0 + j) := by unfold fea; omega
    have e : gam (768 + (0 + j)) = 1536 + (0 + j) := by unfold gam; omega
    have e2 : gam (768 + (0 + j)) + 128 = 1536 + (128 + j) := by omega
    unfold dgu; rw [if_pos (show (1536 + j) % 256 < 128 by omega), e0, e2, e, Nat.zero_add]
  refine fit_cons 0 1408 _ _ (reads_du _ _ (reads_slice 0 256 slices_S512x512_o0_256_S512x128 (gu_2 M1 h1 M2 h2 M10 h10 M14 x1 x2 xG)) (reads_slice 0 384 slices_S512x512_o0_384_S512x128 (gu_2 M1 h1 M2 h2 M10 h10 M14 x1 x2 xG)) (reads_slice 0 128 slices_S512x256_o0_128_S512x128 (dh_2 M3 h3 M4 h4 M11 h11 M15 x3 x4 xD))) ?_ ?_
  · intro i j hi hj
    have e0 : fea (1408 + j) = 512 + (128 + j) := by unfold fea; omega
    have e : gam (512 + (128 + j)) = 1024 + (256 + j) := by unfold gam; omega
    have e2 : gam (512 + (128 + j)) + 128 = 1024 + (384 + j) := by omega
    unfold dgu; rw [if_neg (show ¬ (1408 + j) % 256 < 128 by omega), e0, e2, e, Nat.zero_add]
  refine fit_cons 0 1280 _ _ (reads_dg _ _ (reads_slice 0 256 slices_S512x512_o0_256_S512x128 (gu_2 M1 h1 M2 h2 M10 h10 M14 x1 x2 xG)) (reads_slice 0 384 slices_S512x512_o0_384_S512x128 (gu_2 M1 h1 M2 h2 M10 h10 M14 x1 x2 xG)) (reads_slice 0 128 slices_S512x256_o0_128_S512x128 (dh_2 M3 h3 M4 h4 M11 h11 M15 x3 x4 xD))) ?_ ?_
  · intro i j hi hj
    have e0 : fea (1280 + j) = 512 + (128 + j) := by unfold fea; omega
    have e : gam (512 + (128 + j)) = 1024 + (256 + j) := by unfold gam; omega
    have e2 : gam (512 + (128 + j)) + 128 = 1024 + (384 + j) := by omega
    unfold dgu; rw [if_pos (show (1280 + j) % 256 < 128 by omega), e0, e2, e, Nat.zero_add]
  refine fit_cons 0 1152 _ _ (reads_du _ _ (reads_slice 0 0 slices_S512x512_o0_0_S512x128 (gu_2 M1 h1 M2 h2 M10 h10 M14 x1 x2 xG)) (reads_slice 0 128 slices_S512x512_o0_128_S512x128 (gu_2 M1 h1 M2 h2 M10 h10 M14 x1 x2 xG)) (reads_slice 0 0 slices_S512x256_o0_0_S512x128 (dh_2 M3 h3 M4 h4 M11 h11 M15 x3 x4 xD))) ?_ ?_
  · intro i j hi hj
    have e0 : fea (1152 + j) = 512 + (0 + j) := by unfold fea; omega
    have e : gam (512 + (0 + j)) = 1024 + (0 + j) := by unfold gam; omega
    have e2 : gam (512 + (0 + j)) + 128 = 1024 + (128 + j) := by omega
    unfold dgu; rw [if_neg (show ¬ (1152 + j) % 256 < 128 by omega), e0, e2, e, Nat.zero_add]
  refine fit_cons 0 1024 _ _ (reads_dg _ _ (reads_slice 0 0 slices_S512x512_o0_0_S512x128 (gu_2 M1 h1 M2 h2 M10 h10 M14 x1 x2 xG)) (reads_slice 0 128 slices_S512x512_o0_128_S512x128 (gu_2 M1 h1 M2 h2 M10 h10 M14 x1 x2 xG)) (reads_slice 0 0 slices_S512x256_o0_0_S512x128 (dh_2 M3 h3 M4 h4 M11 h11 M15 x3 x4 xD))) ?_ ?_
  · intro i j hi hj
    have e0 : fea (1024 + j) = 512 + (0 + j) := by unfold fea; omega
    have e : gam (512 + (0 + j)) = 1024 + (0 + j) := by unfold gam; omega
    have e2 : gam (512 + (0 + j)) + 128 = 1024 + (128 + j) := by omega
    unfold dgu; rw [if_pos (show (1024 + j) % 256 < 128 by omega), e0, e2, e, Nat.zero_add]
  refine fit_cons 0 896 _ _ (reads_du _ _ (reads_slice 0 256 slices_S512x512_o0_256_S512x128 (gu_1 M1 h1 M2 h2 M10 h10 M14 x1 x2 xG)) (reads_slice 0 384 slices_S512x512_o0_384_S512x128 (gu_1 M1 h1 M2 h2 M10 h10 M14 x1 x2 xG)) (reads_slice 0 128 slices_S512x256_o0_128_S512x128 (dh_1 M3 h3 M4 h4 M11 h11 M15 x3 x4 xD))) ?_ ?_
  · intro i j hi hj
    have e0 : fea (896 + j) = 256 + (128 + j) := by unfold fea; omega
    have e : gam (256 + (128 + j)) = 512 + (256 + j) := by unfold gam; omega
    have e2 : gam (256 + (128 + j)) + 128 = 512 + (384 + j) := by omega
    unfold dgu; rw [if_neg (show ¬ (896 + j) % 256 < 128 by omega), e0, e2, e, Nat.zero_add]
  refine fit_cons 0 768 _ _ (reads_dg _ _ (reads_slice 0 256 slices_S512x512_o0_256_S512x128 (gu_1 M1 h1 M2 h2 M10 h10 M14 x1 x2 xG)) (reads_slice 0 384 slices_S512x512_o0_384_S512x128 (gu_1 M1 h1 M2 h2 M10 h10 M14 x1 x2 xG)) (reads_slice 0 128 slices_S512x256_o0_128_S512x128 (dh_1 M3 h3 M4 h4 M11 h11 M15 x3 x4 xD))) ?_ ?_
  · intro i j hi hj
    have e0 : fea (768 + j) = 256 + (128 + j) := by unfold fea; omega
    have e : gam (256 + (128 + j)) = 512 + (256 + j) := by unfold gam; omega
    have e2 : gam (256 + (128 + j)) + 128 = 512 + (384 + j) := by omega
    unfold dgu; rw [if_pos (show (768 + j) % 256 < 128 by omega), e0, e2, e, Nat.zero_add]
  refine fit_cons 0 640 _ _ (reads_du _ _ (reads_slice 0 0 slices_S512x512_o0_0_S512x128 (gu_1 M1 h1 M2 h2 M10 h10 M14 x1 x2 xG)) (reads_slice 0 128 slices_S512x512_o0_128_S512x128 (gu_1 M1 h1 M2 h2 M10 h10 M14 x1 x2 xG)) (reads_slice 0 0 slices_S512x256_o0_0_S512x128 (dh_1 M3 h3 M4 h4 M11 h11 M15 x3 x4 xD))) ?_ ?_
  · intro i j hi hj
    have e0 : fea (640 + j) = 256 + (0 + j) := by unfold fea; omega
    have e : gam (256 + (0 + j)) = 512 + (0 + j) := by unfold gam; omega
    have e2 : gam (256 + (0 + j)) + 128 = 512 + (128 + j) := by omega
    unfold dgu; rw [if_neg (show ¬ (640 + j) % 256 < 128 by omega), e0, e2, e, Nat.zero_add]
  refine fit_cons 0 512 _ _ (reads_dg _ _ (reads_slice 0 0 slices_S512x512_o0_0_S512x128 (gu_1 M1 h1 M2 h2 M10 h10 M14 x1 x2 xG)) (reads_slice 0 128 slices_S512x512_o0_128_S512x128 (gu_1 M1 h1 M2 h2 M10 h10 M14 x1 x2 xG)) (reads_slice 0 0 slices_S512x256_o0_0_S512x128 (dh_1 M3 h3 M4 h4 M11 h11 M15 x3 x4 xD))) ?_ ?_
  · intro i j hi hj
    have e0 : fea (512 + j) = 256 + (0 + j) := by unfold fea; omega
    have e : gam (256 + (0 + j)) = 512 + (0 + j) := by unfold gam; omega
    have e2 : gam (256 + (0 + j)) + 128 = 512 + (128 + j) := by omega
    unfold dgu; rw [if_pos (show (512 + j) % 256 < 128 by omega), e0, e2, e, Nat.zero_add]
  refine fit_cons 0 384 _ _ (reads_du _ _ (reads_slice 0 256 slices_S512x512_o0_256_S512x128 (gu_0 M1 h1 M2 h2 M10 h10 M14 x1 x2 xG)) (reads_slice 0 384 slices_S512x512_o0_384_S512x128 (gu_0 M1 h1 M2 h2 M10 h10 M14 x1 x2 xG)) (reads_slice 0 128 slices_S512x256_o0_128_S512x128 (dh_0 M3 h3 M4 h4 M11 h11 M15 x3 x4 xD))) ?_ ?_
  · intro i j hi hj
    have e0 : fea (384 + j) = 0 + (128 + j) := by unfold fea; omega
    have e : gam (0 + (128 + j)) = 0 + (256 + j) := by unfold gam; omega
    have e2 : gam (0 + (128 + j)) + 128 = 0 + (384 + j) := by omega
    unfold dgu; rw [if_neg (show ¬ (384 + j) % 256 < 128 by omega), e0, e2, e, Nat.zero_add]
  refine fit_cons 0 256 _ _ (reads_dg _ _ (reads_slice 0 256 slices_S512x512_o0_256_S512x128 (gu_0 M1 h1 M2 h2 M10 h10 M14 x1 x2 xG)) (reads_slice 0 384 slices_S512x512_o0_384_S512x128 (gu_0 M1 h1 M2 h2 M10 h10 M14 x1 x2 xG)) (reads_slice 0 128 slices_S512x256_o0_128_S512x128 (dh_0 M3 h3 M4 h4 M11 h11 M15 x3 x4 xD))) ?_ ?_
  · intro i j hi hj
    have e0 : fea (256 + j) = 0 + (128 + j) := by unfold fea; omega
    have e : gam (0 + (128 + j)) = 0 + (256 + j) := by unfold gam; omega
    have e2 : gam (0 + (128 + j)) + 128 = 0 + (384 + j) := by omega
    unfold dgu; rw [if_pos (show (256 + j) % 256 < 128 by omega), e0, e2, e, Nat.zero_add]
  refine fit_cons 0 128 _ _ (reads_du _ _ (reads_slice 0 0 slices_S512x512_o0_0_S512x128 (gu_0 M1 h1 M2 h2 M10 h10 M14 x1 x2 xG)) (reads_slice 0 128 slices_S512x512_o0_128_S512x128 (gu_0 M1 h1 M2 h2 M10 h10 M14 x1 x2 xG)) (reads_slice 0 0 slices_S512x256_o0_0_S512x128 (dh_0 M3 h3 M4 h4 M11 h11 M15 x3 x4 xD))) ?_ ?_
  · intro i j hi hj
    have e0 : fea (128 + j) = 0 + (0 + j) := by unfold fea; omega
    have e : gam (0 + (0 + j)) = 0 + (0 + j) := by unfold gam; omega
    have e2 : gam (0 + (0 + j)) + 128 = 0 + (128 + j) := by omega
    unfold dgu; rw [if_neg (show ¬ (128 + j) % 256 < 128 by omega), e0, e2, e, Nat.zero_add]
  refine fit_cons 0 0 _ _ (reads_dg _ _ (reads_slice 0 0 slices_S512x512_o0_0_S512x128 (gu_0 M1 h1 M2 h2 M10 h10 M14 x1 x2 xG)) (reads_slice 0 128 slices_S512x512_o0_128_S512x128 (gu_0 M1 h1 M2 h2 M10 h10 M14 x1 x2 xG)) (reads_slice 0 0 slices_S512x256_o0_0_S512x128 (dh_0 M3 h3 M4 h4 M11 h11 M15 x3 x4 xD))) ?_ ?_
  · intro i j hi hj
    have e0 : fea (0 + j) = 0 + (0 + j) := by unfold fea; omega
    have e : gam (0 + (0 + j)) = 0 + (0 + j) := by unfold gam; omega
    have e2 : gam (0 + (0 + j)) + 128 = 0 + (128 + j) := by omega
    unfold dgu; rw [if_pos (show (0 + j) % 256 < 128 by omega), e0, e2, e, Nat.zero_add]
  exact fit_nil _

/-- The result block. -/
theorem point_dx : Reads (a := 512) (b := 1280) ((run (F := Ideal) c M1 h1 M2 h2 M3 h3 M4 h4 M5 h5 M6 h6 M7 h7 M8 h8 M9 h9 M10 h10 M11 h11 M12 h12 M13 h13 M14 h14 M15 h15 M16 h16 M17 h17 M18 h18 M19 h19 x1 x2 x3 x4).1.1 xG xD xA xB) (fun i j => Point.T 2560 (dgu (xf x1 x2) (yf x3 x4) (gf xG) (df xD)) (gf xG) i j) := by
  refine Reads.congr (reads_mmT (mm_dx _ _) (reads_cov M19.view (reads_dgu M1 h1 M2 h2 M3 h3 M4 h4 M10 h10 M11 h11 M14 M15 x1 x2 x3 x4 xG xD) 0 0 _) (reads_load h10 (reads_nat2 xG) 0 0 _)) ?_
  intro i j _ _
  simp only [Point.T, Nat.zero_add]

/-- What the first accumulator holds after the point. -/
theorem point_agu : Reads (a := 1280) (b := 2560) ((run (F := Ideal) c M1 h1 M2 h2 M3 h3 M4 h4 M5 h5 M6 h6 M7 h7 M8 h8 M9 h9 M10 h10 M11 h11 M12 h12 M13 h13 M14 h14 M15 h15 M16 h16 M17 h17 M18 h18 M19 h19 x1 x2 x3 x4).1.2.1 xG xD xA xB) (fun i j => nat2 (a := 1280) (b := 2560) xA i j + S 512 (fun h r => xf x1 x2 r h) (dgu (xf x1 x2) (yf x3 x4) (gf xG) (df xD)) i j) := by
  refine Reads.congr (reads_cast _ (reads_add (reads_load h12 (reads_nat2 xA) 0 0 _) (reads_mm (mm_ag _ _) (reads_cov M16.view (reads_xt M1 h1 M2 h2 x1 x2) 0 0 _) (reads_cov M19.view (reads_dgu M1 h1 M2 h2 M3 h3 M4 h4 M10 h10 M11 h11 M14 M15 x1 x2 x3 x4 xG xD) 0 0 _)))) ?_
  intro i j _ _
  simp only [S, Nat.zero_add]

/-- What the second accumulator holds after the point. -/
theorem point_adn : Reads (a := 1280) (b := 1280) ((run (F := Ideal) c M1 h1 M2 h2 M3 h3 M4 h4 M5 h5 M6 h6 M7 h7 M8 h8 M9 h9 M10 h10 M11 h11 M12 h12 M13 h13 M14 h14 M15 h15 M16 h16 M17 h17 M18 h18 M19 h19 x1 x2 x3 x4).1.2.2 xG xD xA xB) (fun i j => nat2 (a := 1280) (b := 1280) xB i j + S 512 (fun h r => yf x3 x4 r h) (hb (xf x1 x2) (gf xG)) i j) := by
  refine Reads.congr (reads_cast _ (reads_add (reads_load h13 (reads_nat2 xB) 0 0 _) (reads_mm (mm_ad _ _) (reads_cov M17.view (reads_yt M3 h3 M4 h4 x3 x4) 0 0 _) (reads_cov M18.view (reads_hb M1 h1 M2 h2 M10 h10 M14 x1 x2 xG) 0 0 _)))) ?_
  intro i j _ _
  simp only [S, Nat.zero_add]

end Cert.KernelIdeal.Body1

end
-- ==== Proof.IdealVal1.lean ====
/-
  The fused pass over features 0 to 1280, all rows together: the two accumulators and the result array it leaves, as
  functions of the whole arrays it reads.
-/
module

public import proofs.«01_k».proof.Proof.IdealRegion1
public import proofs.«01_k».proof.Proof.IdealPoint1
public import proofs.«01_k».proof.Proof.IdealGlobal
public import Idealize.ShloMosaic.Lib.Pipeline.ValueKit

@[expose] public section

set_option maxRecDepth 16384
set_option maxHeartbeats 2000000

noncomputable section

namespace Cert.KernelIdeal.Region1

open Cert.KernelIdeal Cert.KernelIdeal.Gen Cert.KernelIdeal.Body1 Cert.KernelIdeal.Point
open Idealize.ShloMosaic Idealize.ShloMosaic.TcCoe

variable (V : Dev nD → Valuation τ sig (Elt Ideal)) (c : Dev nD)

/-- The arrays the pass reads, by index. -/
def ax : Vec Ideal S262144x1280 .fp8e4m3 := (Memref.whole main_v0).view.read (Elt Ideal) (V c (Proc.devRef .tc main_v0))
def axs : Vec Ideal S262144x10 .f32 := (Memref.whole main_v2).view.read (Elt Ideal) (V c (Proc.devRef .tc main_v2))
def ay : Vec Ideal S262144x1280 .fp8e5m2 := (Memref.whole main_v1).view.read (Elt Ideal) (V c (Proc.devRef .tc main_v1))
def ays : Vec Ideal S262144x10 .f32 := (Memref.whole main_v3).view.read (Elt Ideal) (V c (Proc.devRef .tc main_v3))

/-- The two operands with their scales, and the two weight arrays, as functions of row and column. -/
def gX : ℕ → ℕ → EReal := scaled (nat2 (a := 262144) (b := 1280) (ax V c)) (nat2 (a := 262144) (b := 10) (axs V c))
def gY : ℕ → ℕ → EReal := scaled (nat2 (a := 262144) (b := 1280) (ay V c)) (nat2 (a := 262144) (b := 10) (ays V c))
def gG : ℕ → ℕ → EReal := nat2 (a := 1280) (b := 6912) (wgu V c)
def gD : ℕ → ℕ → EReal := nat2 (a := 3456) (b := 1280) (wdn V c)
/-- The gradient at a row and a column of the packed weights. -/
def gdgu : ℕ → ℕ → EReal := dgu (gX V c) (gY V c) (gG V c) (gD V c)

theorem index_0 : ∀ t : Fin cfg1.N, win1_0.index t = ![(grid1.coords t 0).val, 0] := (by decide +kernel : ∀ t : Fin grid1.N, _)
theorem index_1 : ∀ t : Fin cfg1.N, win1_1.index t = ![(grid1.coords t 0).val, 0] := (by decide +kernel : ∀ t : Fin grid1.N, _)
theorem index_2 : ∀ t : Fin cfg1.N, win1_2.index t = ![(grid1.coords t 0).val, 0] := (by decide +kernel : ∀ t : Fin grid1.N, _)
theorem index_3 : ∀ t : Fin cfg1.N, win1_3.index t = ![(grid1.coords t 0).val, 0] := (by decide +kernel : ∀ t : Fin grid1.N, _)
theorem index_4 : ∀ t : Fin cfg1.N, win1_4.index t = ![(grid1.coords t 0).val, 0] := (by decide +kernel : ∀ t : Fin grid1.N, _)

theorem reads_blk0 (t : Fin cfg1.N) : Reads (a := 512) (b := 1280) (blk V c 0 t) (fun i j => nat2 (a := 262144) (b := 1280) (ax V c) (512 * t.val + i) j) := by
  intro i j
  have ht : t.val < 512 := N_eq ▸ t.isLt
  have hi := i.isLt
  refine Eq.trans ?_ (Reads.at (reads_nat2 (a := 262144) (b := 1280) (ax V c)) (ix2 ⟨512 * t.val + i.val, by omega⟩ j))
  unfold ax
  blk_simp [blk]
  refine congrArg (V c (Proc.devRef .tc main_v0)) ?_
  refine Shape.idx_ext₂ ?_ ?_
  · blk_simp [index_0, coord_val]; show t.val * 512 + i.val = 512 * t.val + i.val; omega
  · blk_simp [index_0, coord_val]

theorem reads_blk1 (t : Fin cfg1.N) : Reads (a := 512) (b := 10) (blk V c 1 t) (fun i j => nat2 (a := 262144) (b := 10) (axs V c) (512 * t.val + i) j) := by
  intro i j
  have ht : t.val < 512 := N_eq ▸ t.isLt
  have hi := i.isLt
  refine Eq.trans ?_ (Reads.at (reads_nat2 (a := 262144) (b := 10) (axs V c)) (ix2 ⟨512 * t.val + i.val, by omega⟩ j))
  unfold axs
  blk_simp [blk]
  refine congrArg (V c (Proc.devRef .tc main_v2)) ?_
  refine Shape.idx_ext₂ ?_ ?_
  · blk_simp [index_1, coord_val]; show t.val * 512 + i.val = 512 * t.val + i.val; omega
  · blk_simp [index_1, coord_val]

theorem reads_blk2 (t : Fin cfg1.N) : Reads (a := 512) (b := 1280) (blk V c 2 t) (fun i j => nat2 (a := 262144) (b := 1280) (ay V c) (512 * t.val + i) j) := by
  intro i j
  have ht : t.val < 512 := N_eq ▸ t.isLt
  have hi := i.isLt
  refine Eq.trans ?_ (Reads.at (reads_nat2 (a := 262144) (b := 1280) (ay V c)) (ix2 ⟨512 * t.val + i.val, by omega⟩ j))
  unfold ay
  blk_simp [blk]
  refine congrArg (V c (Proc.devRef .tc main_v1)) ?_
  refine Shape.idx_ext₂ ?_ ?_
  · blk_simp [index_2, coord_val]; show t.val * 512 + i.val = 512 * t.val + i.val; omega
  · blk_simp [index_2, coord_val]

theorem reads_blk3 (t : Fin cfg1.N) : Reads (a := 512) (b := 10) (blk V c 3 t) (fun i j => nat2 (a := 262144) (b := 10) (ays V c) (512 * t.val + i) j) := by
  intro i j
  have ht : t.val < 512 := N_eq ▸ t.isLt
  have hi := i.isLt
  refine Eq.trans ?_ (Reads.at (reads_nat2 (a := 262144) (b := 10) (ays V c)) (ix2 ⟨512 * t.val + i.val, by omega⟩ j))
  unfold ays
  blk_simp [blk]
  refine congrArg (V c (Proc.devRef .tc main_v3)) ?_
  refine Shape.idx_ext₂ ?_ ?_
  · blk_simp [index_3, coord_val]; show t.val * 512 + i.val = 512 * t.val + i.val; omega
  · blk_simp [index_3, coord_val]

/-- What the point's body reads: its rows of the operands, and the weight slices. -/
def Xb (t : Fin cfg1.N) : ℕ → ℕ → EReal := xf (blk V c 0 t) (blk V c 1 t)
def Yb (t : Fin cfg1.N) : ℕ → ℕ → EReal := yf (blk V c 2 t) (blk V c 3 t)
def Gb : ℕ → ℕ → EReal := gf (wguS V c)
def Db : ℕ → ℕ → EReal := df (wdnS V c)

theorem xf_eq (t : Fin cfg1.N) {i h : ℕ} (hi : i < 512) (hh : h < 1280) : Xb V c t i h = gX V c (512 * t.val + i) h := by
  unfold Xb xf gX scaled
  rw [(reads_blk0 V c t).nat2_eq hi hh, (reads_blk1 V c t).nat2_eq hi (by omega)]

theorem yf_eq (t : Fin cfg1.N) {i h : ℕ} (hi : i < 512) (hh : h < 1280) : Yb V c t i h = gY V c (512 * t.val + i) h := by
  unfold Yb yf gY scaled
  rw [(reads_blk2 V c t).nat2_eq hi hh, (reads_blk3 V c t).nat2_eq hi (by omega)]

theorem gf_eq {h k : ℕ} (hh : h < 1280) (hk : k < 2 * 1280) : Gb V c h k = gG V c h (2 * 0 + k) := by
  unfold Gb gf gG
  have e := (reads_rect (a := 1280) (b := 2560) (reads_nat2 (a := 1280) (b := 6912) (wgu V c)) 0 0 inb_S1280x6912_S1280x2560_0_0).nat2_eq hh hk
  rw [Nat.zero_add h] at e
  exact e

theorem df_eq {f h : ℕ} (hf : f < 1280) (hh : h < 1280) : Db V c f h = gD V c (0 + f) h := by
  unfold Db df gD
  have e := (reads_rect (a := 1280) (b := 1280) (reads_nat2 (a := 3456) (b := 1280) (wdn V c)) 0 0 inb_S3456x1280_S1280x1280_0_0).nat2_eq hf hh
  rw [Nat.zero_add h] at e
  exact e

theorem dgu_eq (t : Fin cfg1.N) {i k : ℕ} (hi : i < 512) (hk : k < 2 * 1280) :
    dgu (Xb V c t) (Yb V c t) (Gb V c) (Db V c) i k
      = gdgu V c (512 * t.val + i) (2 * 0 + k) :=
  by
  have hX : ∀ h, h < 1280 → Xb V c t i h = gX V c (512 * t.val + i) h := fun h hh => xf_eq V c t hi hh
  have hY : ∀ h, h < 1280 → Yb V c t i h = gY V c (512 * t.val + i) h := fun h hh => yf_eq V c t hi hh
  have e := dgu_shift (X := Xb V c t) (Y := Yb V c t) (G := Gb V c) (D := Db V c) (X' := gX V c) (Y' := gY V c) (G' := gG V c) (D' := gD V c)
    i (512 * t.val + i) 0 1280 rfl rfl hX hY (fun h k hh hk => gf_eq V c hh hk) (fun f h hf hh => df_eq V c hf hh) hk
  rw [e]
  rfl

theorem hb_eq (t : Fin cfg1.N) {i f : ℕ} (hi : i < 512) (hf : f < 1280) :
    hb (Xb V c t) (Gb V c) i f = hb (gX V c) (gG V c) (512 * t.val + i) (0 + f) :=
  by
  have hX : ∀ h, h < 1280 → Xb V c t i h = gX V c (512 * t.val + i) h := fun h hh => xf_eq V c t hi hh
  exact hb_shift (X := Xb V c t) (G := Gb V c) (X' := gX V c) (G' := gG V c) i (512 * t.val + i) 0 1280 rfl rfl hX
    (fun h k hh hk => gf_eq V c hh hk) hf

/-- What the body at point `t` computes. -/
theorem pt_dx (t : Fin cfg1.N) (A : Vec Ideal S1280x2560 .f32) (B : Vec Ideal S1280x1280 .f32) : Reads (a := 512) (b := 1280) ((step V c t).1.1 (wguS V c) (wdnS V c) A B)
    (fun i j => Point.T 2560 (dgu (Xb V c t) (Yb V c t) (Gb V c) (Db V c)) (Gb V c) i j) :=
  point_dx c (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (Memref.whole main_v12_0) (Memref.isWhole_whole _) (Memref.whole main_v12_1) (Memref.isWhole_whole _) (st1_4 t) (hstage1_4 ((cfg1.slots t 4).cast nbuf1_4)) (Memref.whole main_v13_1) (Memref.isWhole_whole _) (Memref.whole main_v13_2) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _)  (blk V c 0 t) (blk V c 1 t) (blk V c 2 t) (blk V c 3 t) (wguS V c) (wdnS V c) A B

theorem pt_agu (t : Fin cfg1.N) (A : Vec Ideal S1280x2560 .f32) (B : Vec Ideal S1280x1280 .f32) : Reads (a := 1280) (b := 2560) ((step V c t).1.2.1 (wguS V c) (wdnS V c) A B)
    (fun i j => nat2 (a := 1280) (b := 2560) A i j + S 512 (fun h r => Xb V c t r h) (dgu (Xb V c t) (Yb V c t) (Gb V c) (Db V c)) i j) :=
  point_agu c (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (Memref.whole main_v12_0) (Memref.isWhole_whole _) (Memref.whole main_v12_1) (Memref.isWhole_whole _) (st1_4 t) (hstage1_4 ((cfg1.slots t 4).cast nbuf1_4)) (Memref.whole main_v13_1) (Memref.isWhole_whole _) (Memref.whole main_v13_2) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _)  (blk V c 0 t) (blk V c 1 t) (blk V c 2 t) (blk V c 3 t) (wguS V c) (wdnS V c) A B

theorem pt_adn (t : Fin cfg1.N) (A : Vec Ideal S1280x2560 .f32) (B : Vec Ideal S1280x1280 .f32) : Reads (a := 1280) (b := 1280) ((step V c t).1.2.2 (wguS V c) (wdnS V c) A B)
    (fun i j => nat2 (a := 1280) (b := 1280) B i j + S 512 (fun h r => Yb V c t r h) (hb (Xb V c t) (Gb V c)) i j) :=
  point_adn c (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (Memref.whole main_v12_0) (Memref.isWhole_whole _) (Memref.whole main_v12_1) (Memref.isWhole_whole _) (st1_4 t) (hstage1_4 ((cfg1.slots t 4).cast nbuf1_4)) (Memref.whole main_v13_1) (Memref.isWhole_whole _) (Memref.whole main_v13_2) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _)  (blk V c 0 t) (blk V c 1 t) (blk V c 2 t) (blk V c 3 t) (wguS V c) (wdnS V c) A B

theorem zero_1 : Reads (a := 1280) (b := 2560) (k1_pay3 (F := Ideal)) (fun _ _ => 0) := by
  intro i j
  unfold k1_pay3
  pointwise

theorem zero_2 : Reads (a := 1280) (b := 1280) (k1_pay4 (F := Ideal)) (fun _ _ => 0) := by
  intro i j
  unfold k1_pay4
  pointwise

/-- The first accumulator after `n` points: the rows of the first `n` blocks are summed. -/
theorem reads_acc1 (n : ℕ) (hn : n ≤ 512) : Reads (a := 1280) (b := 2560) (acc V c n).1
    (fun h k => S (512 * n) (fun h m => gX V c m h) (fun m k => gdgu V c m (2 * 0 + k)) h k) := by
  induction n with
  | zero =>
    rw [acc_zero]
    exact zero_1.congr fun i j _ _ => by simp [S]
  | succ n ih =>
    have hlt : n < cfg1.N := by rw [N_eq]; omega
    rw [show acc V c (n + 1) = _ from acc_succ V c ⟨n, hlt⟩]
    refine (pt_agu V c ⟨n, hlt⟩ (acc V c n).1 (acc V c n).2).congr ?_
    intro i j hi hj
    rw [(ih (by omega)).nat2_eq hi hj, ← S_succ]
    refine congrArg _ (S_congr (fun r hr => xf_eq V c ⟨n, hlt⟩ hr hi) fun r hr => dgu_eq V c ⟨n, hlt⟩ hr hj)

/-- The second accumulator after `n` points. -/
theorem reads_acc2 (n : ℕ) (hn : n ≤ 512) : Reads (a := 1280) (b := 1280) (acc V c n).2
    (fun h f => S (512 * n) (fun h m => gY V c m h) (fun m f => hb (gX V c) (gG V c) m (0 + f)) h f) := by
  induction n with
  | zero =>
    rw [acc_zero]
    exact zero_2.congr fun i j _ _ => by simp [S]
  | succ n ih =>
    have hlt : n < cfg1.N := by rw [N_eq]; omega
    rw [show acc V c (n + 1) = _ from acc_succ V c ⟨n, hlt⟩]
    refine (pt_adn V c ⟨n, hlt⟩ (acc V c n).1 (acc V c n).2).congr ?_
    intro i j hi hj
    rw [(ih (by omega)).nat2_eq hi hj, ← S_succ]
    refine congrArg _ (S_congr (fun r hr => yf_eq V c ⟨n, hlt⟩ hr hi) fun r hr => hb_eq V c ⟨n, hlt⟩ hr hj)

/-- The result at row `n` and column `h`. -/
def gdx (n h : ℕ) : EReal := (∑ k ∈ Finset.range 2560, gdgu V c n (2 * 0 + k) * gG V c h (2 * 0 + k))

theorem reads_dxo (t : Fin cfg1.N) : Reads (a := 512) (b := 1280) (dxo V c t) (fun i h => gdx V c (512 * t.val + i) h) := by
  unfold dxo
  refine (pt_dx V c t (acc V c t.val).1 (acc V c t.val).2).congr ?_
  intro i h hi hh
  unfold gdx
  refine Finset.sum_congr rfl fun k hk => ?_
  have hk' := Finset.mem_range.mp hk
  exact congrArg₂ (· * ·) (dgu_eq V c t hi hk') (gf_eq V c hh hk')

/-- The result array after the pass. -/
theorem reads_leave : Reads (a := 262144) (b := 1280) ((Memref.whole main_v13_0).view.read (Elt Ideal) (leave V c (Proc.devRef .tc main_v13_0))) (gdx V c) := by
  intro n h
  rw [leave_0]
  have e : (dat V c).arrAt 4 cfg1.N = (fun y => gdx V c (y 0).val (y 1).val) := by
    refine (dat V c).arrAt_eq_of_covers 4 _ (by decide +kernel) fun t hf y => ?_
    blk_simp
    rw [after_4]
    refine ((reads_dxo V c t).at y).trans ?_
    refine congrArg₂ (gdx V c) ?_ ?_
    · blk_simp [index_4, coord_val]; omega
    · blk_simp [index_4, coord_val]
  rw [e]
  rfl

end Cert.KernelIdeal.Region1

end
-- ==== Proof.IdealPoint2.lean ====
/-
  What one grid point of the fused pass `cc2_mlp_f1280` computes over the extended reals: its result block and what it adds
  to the two accumulators, as sums of products of the point's own blocks and of the weight slices.
-/
module

public import proofs.«01_k».proof.Proof.IdealBody2
public import proofs.«01_k».proof.Proof.IdealPoint

@[expose] public section

set_option maxRecDepth 16384
set_option maxHeartbeats 2000000

noncomputable section

namespace Cert.KernelIdeal.Body2

open Cert.KernelIdeal Cert.KernelIdeal.Gen Cert.KernelIdeal.Point
open Idealize.ShloMosaic Idealize.ShloMosaic.TcCoe

variable (c : Dev nD)
  (M1 : Memref sig .tc .vmem S512x1280 .fp8e4m3) (h1 : M1.IsWhole)
  (M2 : Memref sig .tc .vmem S512x10 .f32) (h2 : M2.IsWhole)
  (M3 : Memref sig .tc .vmem S512x1280 .fp8e5m2) (h3 : M3.IsWhole)
  (M4 : Memref sig .tc .vmem S512x10 .f32) (h4 : M4.IsWhole)
  (M5 : Memref sig .tc .vmem S512x1280 .f32) (h5 : M5.IsWhole)
  (M6 : Memref sig .tc .hbm S1280x6912 .bf16) (h6 : M6.IsWhole)
  (M7 : Memref sig .tc .hbm S3456x1280 .bf16) (h7 : M7.IsWhole)
  (M8 : Memref sig .tc .vmem S512x1280 .f32) (h8 : M8.IsWhole)
  (M9 : Memref sig .tc .hbm S1280x2560 .f32) (h9 : M9.IsWhole)
  (M10 : Memref sig .tc .hbm S1280x1280 .f32) (h10 : M10.IsWhole)
  (M11 : Memref sig .tc .vmem S1280x2560 .bf16) (h11 : M11.IsWhole)
  (M12 : Memref sig .tc .vmem S1280x1280 .bf16) (h12 : M12.IsWhole)
  (M13 : Memref sig .tc .vmem S1280x2560 .f32) (h13 : M13.IsWhole)
  (M14 : Memref sig .tc .vmem S1280x1280 .f32) (h14 : M14.IsWhole)
  (M15 : Memref sig .tc .vmem S512x1280 .bf16) (h15 : M15.IsWhole)
  (M16 : Memref sig .tc .vmem S512x1280 .bf16) (h16 : M16.IsWhole)
  (M17 : Memref sig .tc .vmem S1280x512 .bf16) (h17 : M17.IsWhole)
  (M18 : Memref sig .tc .vmem S1280x512 .bf16) (h18 : M18.IsWhole)
  (M19 : Memref sig .tc .vmem S512x1280 .bf16) (h19 : M19.IsWhole)
  (M20 : Memref sig .tc .vmem S512x2560 .bf16) (h20 : M20.IsWhole)
  (x1 : Vec Ideal S512x1280 .fp8e4m3) (x2 : Vec Ideal S512x10 .f32) (x3 : Vec Ideal S512x1280 .fp8e5m2) (x4 : Vec Ideal S512x10 .f32) (x5 : Vec Ideal S512x1280 .f32)
  (xG : Vec Ideal S1280x2560 .bf16) (xD : Vec Ideal S1280x1280 .bf16) (xA : Vec Ideal S1280x2560 .f32) (xB : Vec Ideal S1280x1280 .f32)

/-- The point's rows of the first operand, scales multiplied in. -/
abbrev xf (x1 : Vec Ideal S512x1280 .fp8e4m3) (x2 : Vec Ideal S512x10 .f32) : ℕ → ℕ → EReal := fun i j => nat2 (a := 512) (b := 1280) x1 i j * nat2 (a := 512) (b := 10) x2 i (j / 128)
/-- The point's rows of the second operand, scales multiplied in. -/
abbrev yf (x3 : Vec Ideal S512x1280 .fp8e5m2) (x4 : Vec Ideal S512x10 .f32) : ℕ → ℕ → EReal := fun i j => nat2 (a := 512) (b := 1280) x3 i j * nat2 (a := 512) (b := 10) x4 i (j / 128)
/-- The weight slices. -/
abbrev gf (xG : Vec Ideal S1280x2560 .bf16) : ℕ → ℕ → EReal := nat2 (a := 1280) (b := 2560) xG
abbrev df (xD : Vec Ideal S1280x1280 .bf16) : ℕ → ℕ → EReal := nat2 (a := 1280) (b := 1280) xD

theorem mm_gu (x : FVec Ideal (Sh 512 256) .bf16) (w : FVec Ideal (Sh 256 512) .bf16) (i : Fin 512) (j : Fin 512) :
    matmul dot_S512x256_S256x512_S512x512_1_0_0_1_n_n none x w (constant (Sh 512 512) .f32 0x00000000#32) (ix2 i j) = ∑ k : Fin 256, x (ix2 i k) * w (ix2 k j) := by
  pointwise

theorem mm_dh (x : FVec Ideal (Sh 512 1280) .bf16) (w : FVec Ideal (Sh 256 1280) .bf16) (i : Fin 512) (j : Fin 256) :
    matmul dot_S512x1280_S256x1280_S512x256_1_1_0_0_n_n none x w (constant (Sh 512 256) .f32 0x00000000#32) (ix2 i j) = ∑ k : Fin 1280, x (ix2 i k) * w (ix2 j k) := by
  pointwise

theorem mm_dx (x : FVec Ideal (Sh 512 2560) .bf16) (w : FVec Ideal (Sh 1280 2560) .bf16) (i : Fin 512) (j : Fin 1280) :
    matmul dot_S512x2560_S1280x2560_S512x1280_1_1_0_0_n_n none x w (constant (Sh 512 1280) .f32 0x00000000#32) (ix2 i j) = ∑ k : Fin 2560, x (ix2 i k) * w (ix2 j k) := by
  pointwise

theorem mm_ag (x : FVec Ideal (Sh 1280 512) .bf16) (w : FVec Ideal (Sh 512 2560) .bf16) (i : Fin 1280) (j : Fin 2560) :
    matmul dot_S1280x512_S512x2560_S1280x2560_1_0_0_1_n_n none x w (constant (Sh 1280 2560) .f32 0x00000000#32) (ix2 i j) = ∑ k : Fin 512, x (ix2 i k) * w (ix2 k j) := by
  pointwise

theorem mm_ad (x : FVec Ideal (Sh 1280 512) .bf16) (w : FVec Ideal (Sh 512 1280) .bf16) (i : Fin 1280) (j : Fin 1280) :
    matmul dot_S1280x512_S512x1280_S1280x1280_1_0_0_1_n_n none x w (constant (Sh 1280 1280) .f32 0x00000000#32) (ix2 i j) = ∑ k : Fin 512, x (ix2 i k) * w (ix2 k j) := by
  pointwise

theorem reads_xb : Reads (a := 512) (b := 1280) (View.canon (run.sl.H15_10 (F := Ideal) M1 h1 M2 h2 x1 x2)) (fun i j => xf x1 x2 i j) := by
  refine reads_canon (View.cover_of_tiled_head _ _ _ rfl) ?_
  refine fit_cons 0 1152 _ _ (reads_dq _ _ _ _ _ _ _ (reads_load h1 (reads_nat2 x1) 0 1152 _) (reads_load h2 (reads_nat2 x2) 0 9 _)) ?_ ?_
  · intro i j hi hj; have e : (1152 + j) / 128 = 9 := by omega
    simp only [xf, e]; try simp only [Nat.add_zero, Nat.zero_add]
  refine fit_cons 0 1024 _ _ (reads_dq _ _ _ _ _ _ _ (reads_load h1 (reads_nat2 x1) 0 1024 _) (reads_load h2 (reads_nat2 x2) 0 8 _)) ?_ ?_
  · intro i j hi hj; have e : (1024 + j) / 128 = 8 := by omega
    simp only [xf, e]; try simp only [Nat.add_zero, Nat.zero_add]
  refine fit_cons 0 896 _ _ (reads_dq _ _ _ _ _ _ _ (reads_load h1 (reads_nat2 x1) 0 896 _) (reads_load h2 (reads_nat2 x2) 0 7 _)) ?_ ?_
  · intro i j hi hj; have e : (896 + j) / 128 = 7 := by omega
    simp only [xf, e]; try simp only [Nat.add_zero, Nat.zero_add]
  refine fit_cons 0 768 _ _ (reads_dq _ _ _ _ _ _ _ (reads_load h1 (reads_nat2 x1) 0 768 _) (reads_load h2 (reads_nat2 x2) 0 6 _)) ?_ ?_
  · intro i j hi hj; have e : (768 + j) / 128 = 6 := by omega
    simp only [xf, e]; try simp only [Nat.add_zero, Nat.zero_add]
  refine fit_cons 0 640 _ _ (reads_dq _ _ _ _ _ _ _ (reads_load h1 (reads_nat2 x1) 0 640 _) (reads_load h2 (reads_nat2 x2) 0 5 _)) ?_ ?_
  · intro i j hi hj; have e : (640 + j) / 128 = 5 := by omega
    simp only [xf, e]; try simp only [Nat.add_zero, Nat.zero_add]
  refine fit_cons 0 512 _ _ (reads_dq _ _ _ _ _ _ _ (reads_load h1 (reads_nat2 x1) 0 512 _) (reads_load h2 (reads_nat2 x2) 0 4 _)) ?_ ?_
  · intro i j hi hj; have e : (512 + j) / 128 = 4 := by omega
    simp only [xf, e]; try simp only [Nat.add_zero, Nat.zero_add]
  refine fit_cons 0 384 _ _ (reads_dq _ _ _ _ _ _ _ (reads_load h1 (reads_nat2 x1) 0 384 _) (reads_load h2 (reads_nat2 x2) 0 3 _)) ?_ ?_
  · intro i j hi hj; have e : (384 + j) / 128 = 3 := by omega
    simp only [xf, e]; try simp only [Nat.add_zero, Nat.zero_add]
  dsimp only [run.sl.H15_3, run.sl.r, run.sl.r_1, k2_pay15, k2_pay16, k2_pay17, k2_pay18]
  refine fit_cons 0 256 _ _ (reads_dq _ _ _ _ _ _ _ (reads_load h1 (reads_nat2 x1) 0 256 _) (reads_load h2 (reads_nat2 x2) 0 2 _)) ?_ ?_
  · intro i j hi hj; have e : (256 + j) / 128 = 2 := by omega
    simp only [xf, e]; try simp only [Nat.add_zero, Nat.zero_add]
  refine fit_cons 0 128 _ _ (reads_dq _ _ _ _ _ _ _ (reads_load h1 (reads_nat2 x1) 0 128 _) (reads_load h2 (reads_nat2 x2) 0 1 _)) ?_ ?_
  · intro i j hi hj; have e : (128 + j) / 128 = 1 := by omega
    simp only [xf, e]; try simp only [Nat.add_zero, Nat.zero_add]
  refine fit_cons 0 0 _ _ (reads_dq _ _ _ _ _ _ _ (reads_load h1 (reads_nat2 x1) 0 0 _) (reads_load h2 (reads_nat2 x2) 0 0 _)) ?_ ?_
  · intro i j hi hj; have e : (0 + j) / 128 = 0 := by omega
    simp only [xf, e]; try simp only [Nat.add_zero, Nat.zero_add]
  exact fit_nil _

theorem reads_yb : Reads (a := 512) (b := 1280) (View.canon (run.sl.H16_10 (F := Ideal) M3 h3 M4 h4 x3 x4)) (fun i j => yf x3 x4 i j) := by
  refine reads_canon (View.cover_of_tiled_head _ _ _ rfl) ?_
  refine fit_cons 0 1152 _ _ (reads_dq _ _ _ _ _ _ _ (reads_load h3 (reads_nat2 x3) 0 1152 _) (reads_load h4 (reads_nat2 x4) 0 9 _)) ?_ ?_
  · intro i j hi hj; have e : (1152 + j) / 128 = 9 := by omega
    simp only [yf, e]; try simp only [Nat.add_zero, Nat.zero_add]
  refine fit_cons 0 1024 _ _ (reads_dq _ _ _ _ _ _ _ (reads_load h3 (reads_nat2 x3) 0 1024 _) (reads_load h4 (reads_nat2 x4) 0 8 _)) ?_ ?_
  · intro i j hi hj; have e : (1024 + j) / 128 = 8 := by omega
    simp only [yf, e]; try simp only [Nat.add_zero, Nat.zero_add]
  refine fit_cons 0 896 _ _ (reads_dq _ _ _ _ _ _ _ (reads_load h3 (reads_nat2 x3) 0 896 _) (reads_load h4 (reads_nat2 x4) 0 7 _)) ?_ ?_
  · intro i j hi hj; have e : (896 + j) / 128 = 7 := by omega
    simp only [yf, e]; try simp only [Nat.add_zero, Nat.zero_add]
  refine fit_cons 0 768 _ _ (reads_dq _ _ _ _ _ _ _ (reads_load h3 (reads_nat2 x3) 0 768 _) (reads_load h4 (reads_nat2 x4) 0 6 _)) ?_ ?_
  · intro i j hi hj; have e : (768 + j) / 128 = 6 := by omega
    simp only [yf, e]; try simp only [Nat.add_zero, Nat.zero_add]
  refine fit_cons 0 640 _ _ (reads_dq _ _ _ _ _ _ _ (reads_load h3 (reads_nat2 x3) 0 640 _) (reads_load h4 (reads_nat2 x4) 0 5 _)) ?_ ?_
  · intro i j hi hj; have e : (640 + j) / 128 = 5 := by omega
    simp only [yf, e]; try simp only [Nat.add_zero, Nat.zero_add]
  refine fit_cons 0 512 _ _ (reads_dq _ _ _ _ _ _ _ (reads_load h3 (reads_nat2 x3) 0 512 _) (reads_load h4 (reads_nat2 x4) 0 4 _)) ?_ ?_
  · intro i j hi hj; have e : (512 + j) / 128 = 4 := by omega
    simp only [yf, e]; try simp only [Nat.add_zero, Nat.zero_add]
  refine fit_cons 0 384 _ _ (reads_dq _ _ _ _ _ _ _ (reads_load h3 (reads_nat2 x3) 0 384 _) (reads_load h4 (reads_nat2 x4) 0 3 _)) ?_ ?_
  · intro i j hi hj; have e : (384 + j) / 128 = 3 := by omega
    simp only [yf, e]; try simp only [Nat.add_zero, Nat.zero_add]
  refine fit_cons 0 256 _ _ (reads_dq _ _ _ _ _ _ _ (reads_load h3 (reads_nat2 x3) 0 256 _) (reads_load h4 (reads_nat2 x4) 0 2 _)) ?_ ?_
  · intro i j hi hj; have e : (256 + j) / 128 = 2 := by omega
    simp only [yf, e]; try simp only [Nat.add_zero, Nat.zero_add]
  refine fit_cons 0 128 _ _ (reads_dq _ _ _ _ _ _ _ (reads_load h3 (reads_nat2 x3) 0 128 _) (reads_load h4 (reads_nat2 x4) 0 1 _)) ?_ ?_
  · intro i j hi hj; have e : (128 + j) / 128 = 1 := by omega
    simp only [yf, e]; try simp only [Nat.add_zero, Nat.zero_add]
  refine fit_cons 0 0 _ _ (reads_dq _ _ _ _ _ _ _ (reads_load h3 (reads_nat2 x3) 0 0 _) (reads_load h4 (reads_nat2 x4) 0 0 _)) ?_ ?_
  · intro i j hi hj; have e : (0 + j) / 128 = 0 := by omega
    simp only [yf, e]; try simp only [Nat.add_zero, Nat.zero_add]
  exact fit_nil _

theorem reads_xt : Reads (a := 1280) (b := 512) (View.canon (run.sl.H17_10 (F := Ideal) M1 h1 M2 h2 x1 x2)) (fun i j => xf x1 x2 j i) := by
  refine reads_canon (View.cover_of_tiled_head _ _ _ rfl) ?_
  refine fit_cons 1152 0 _ _ (reads_dqT _ _ _ _ _ _ _ _ (reads_load h1 (reads_nat2 x1) 0 1152 _) (reads_load h2 (reads_nat2 x2) 0 9 _)) ?_ ?_
  · intro i j hi hj; have e : (1152 + i) / 128 = 9 := by omega
    simp only [xf, e]; try simp only [Nat.add_zero, Nat.zero_add]
  refine fit_cons 1024 0 _ _ (reads_dqT _ _ _ _ _ _ _ _ (reads_load h1 (reads_nat2 x1) 0 1024 _) (reads_load h2 (reads_nat2 x2) 0 8 _)) ?_ ?_
  · intro i j hi hj; have e : (1024 + i) / 128 = 8 := by omega
    simp only [xf, e]; try simp only [Nat.add_zero, Nat.zero_add]
  refine fit_cons 896 0 _ _ (reads_dqT _ _ _ _ _ _ _ _ (reads_load h1 (reads_nat2 x1) 0 896 _) (reads_load h2 (reads_nat2 x2) 0 7 _)) ?_ ?_
  · intro i j hi hj; have e : (896 + i) / 128 = 7 := by omega
    simp only [xf, e]; try simp only [Nat.add_zero, Nat.zero_add]
  refine fit_cons 768 0 _ _ (reads_dqT _ _ _ _ _ _ _ _ (reads_load h1 (reads_nat2 x1) 0 768 _) (reads_load h2 (reads_nat2 x2) 0 6 _)) ?_ ?_
  · intro i j hi hj; have e : (768 + i) / 128 = 6 := by omega
    simp only [xf, e]; try simp only [Nat.add_zero, Nat.zero_add]
  refine fit_cons 640 0 _ _ (reads_dqT _ _ _ _ _ _ _ _ (reads_load h1 (reads_nat2 x1) 0 640 _) (reads_load h2 (reads_nat2 x2) 0 5 _)) ?_ ?_
  · intro i j hi hj; have e : (640 + i) / 128 = 5 := by omega
    simp only [xf, e]; try simp only [Nat.add_zero, Nat.zero_add]
  refine fit_cons 512 0 _ _ (reads_dqT _ _ _ _ _ _ _ _ (reads_load h1 (reads_nat2 x1) 0 512 _) (reads_load h2 (reads_nat2 x2) 0 4 _)) ?_ ?_
  · intro i j hi hj; have e : (512 + i) / 128 = 4 := by omega
    simp only [xf, e]; try simp only [Nat.add_zero, Nat.zero_add]
  refine fit_cons 384 0 _ _ (reads_dqT _ _ _ _ _ _ _ _ (reads_load h1 (reads_nat2 x1) 0 384 _) (reads_load h2 (reads_nat2 x2) 0 3 _)) ?_ ?_
  · intro i j hi hj; have e : (384 + i) / 128 = 3 := by omega
    simp only [xf, e]; try simp only [Nat.add_zero, Nat.zero_add]
  dsimp only [run.sl.H17_3, run.sl.r, run.sl.r_1, k2_pay15, k2_pay16, k2_pay17, k2_pay19]
  refine fit_cons 256 0 _ _ (reads_dqT _ _ _ _ _ _ _ _ (reads_load h1 (reads_nat2 x1) 0 256 _) (reads_load h2 (reads_nat2 x2) 0 2 _)) ?_ ?_
  · intro i j hi hj; have e : (256 + i) / 128 = 2 := by omega
    simp only [xf, e]; try simp only [Nat.add_zero, Nat.zero_add]
  refine fit_cons 128 0 _ _ (reads_dqT _ _ _ _ _ _ _ _ (reads_load h1 (reads_nat2 x1) 0 128 _) (reads_load h2 (reads_nat2 x2) 0 1 _)) ?_ ?_
  · intro i j hi hj; have e : (128 + i) / 128 = 1 := by omega
    simp only [xf, e]; try simp only [Nat.add_zero, Nat.zero_add]
  refine fit_cons 0 0 _ _ (reads_dqT _ _ _ _ _ _ _ _ (reads_load h1 (reads_nat2 x1) 0 0 _) (reads_load h2 (reads_nat2 x2) 0 0 _)) ?_ ?_
  · intro i j hi hj; have e : (0 + i) / 128 = 0 := by omega
    simp only [xf, e]; try simp only [Nat.add_zero, Nat.zero_add]
  exact fit_nil _

theorem reads_yt : Reads (a := 1280) (b := 512) (View.canon (run.sl.H18_10 (F := Ideal) M3 h3 M4 h4 x3 x4)) (fun i j => yf x3 x4 j i) := by
  refine reads_canon (View.cover_of_tiled_head _ _ _ rfl) ?_
  refine fit_cons 1152 0 _ _ (reads_dqT _ _ _ _ _ _ _ _ (reads_load h3 (reads_nat2 x3) 0 1152 _) (reads_load h4 (reads_nat2 x4) 0 9 _)) ?_ ?_
  · intro i j hi hj; have e : (1152 + i) / 128 = 9 := by omega
    simp only [yf, e]; try simp only [Nat.add_zero, Nat.zero_add]
  refine fit_cons 1024 0 _ _ (reads_dqT _ _ _ _ _ _ _ _ (reads_load h3 (reads_nat2 x3) 0 1024 _) (reads_load h4 (reads_nat2 x4) 0 8 _)) ?_ ?_
  · intro i j hi hj; have e : (1024 + i) / 128 = 8 := by omega
    simp only [yf, e]; try simp only [Nat.add_zero, Nat.zero_add]
  refine fit_cons 896 0 _ _ (reads_dqT _ _ _ _ _ _ _ _ (reads_load h3 (reads_nat2 x3) 0 896 _) (reads_load h4 (reads_nat2 x4) 0 7 _)) ?_ ?_
  · intro i j hi hj; have e : (896 + i) / 128 = 7 := by omega
    simp only [yf, e]; try simp only [Nat.add_zero, Nat.zero_add]
  refine fit_cons 768 0 _ _ (reads_dqT _ _ _ _ _ _ _ _ (reads_load h3 (reads_nat2 x3) 0 768 _) (reads_load h4 (reads_nat2 x4) 0 6 _)) ?_ ?_
  · intro i j hi hj; have e : (768 + i) / 128 = 6 := by omega
    simp only [yf, e]; try simp only [Nat.add_zero, Nat.zero_add]
  refine fit_cons 640 0 _ _ (reads_dqT _ _ _ _ _ _ _ _ (reads_load h3 (reads_nat2 x3) 0 640 _) (reads_load h4 (reads_nat2 x4) 0 5 _)) ?_ ?_
  · intro i j hi hj; have e : (640 + i) / 128 = 5 := by omega
    simp only [yf, e]; try simp only [Nat.add_zero, Nat.zero_add]
  refine fit_cons 512 0 _ _ (reads_dqT _ _ _ _ _ _ _ _ (reads_load h3 (reads_nat2 x3) 0 512 _) (reads_load h4 (reads_nat2 x4) 0 4 _)) ?_ ?_
  · intro i j hi hj; have e : (512 + i) / 128 = 4 := by omega
    simp only [yf, e]; try simp only [Nat.add_zero, Nat.zero_add]
  refine fit_cons 384 0 _ _ (reads_dqT _ _ _ _ _ _ _ _ (reads_load h3 (reads_nat2 x3) 0 384 _) (reads_load h4 (reads_nat2 x4) 0 3 _)) ?_ ?_
  · intro i j hi hj; have e : (384 + i) / 128 = 3 := by omega
    simp only [yf, e]; try simp only [Nat.add_zero, Nat.zero_add]
  refine fit_cons 256 0 _ _ (reads_dqT _ _ _ _ _ _ _ _ (reads_load h3 (reads_nat2 x3) 0 256 _) (reads_load h4 (reads_nat2 x4) 0 2 _)) ?_ ?_
  · intro i j hi hj; have e : (256 + i) / 128 = 2 := by omega
    simp only [yf, e]; try simp only [Nat.add_zero, Nat.zero_add]
  refine fit_cons 128 0 _ _ (reads_dqT _ _ _ _ _ _ _ _ (reads_load h3 (reads_nat2 x3) 0 128 _) (reads_load h4 (reads_nat2 x4) 0 1 _)) ?_ ?_
  · intro i j hi hj; have e : (128 + i) / 128 = 1 := by omega
    simp only [yf, e]; try simp only [Nat.add_zero, Nat.zero_add]
  refine fit_cons 0 0 _ _ (reads_dqT _ _ _ _ _ _ _ _ (reads_load h3 (reads_nat2 x3) 0 0 _) (reads_load h4 (reads_nat2 x4) 0 0 _)) ?_ ?_
  · intro i j hi hj; have e : (0 + i) / 128 = 0 := by omega
    simp only [yf, e]; try simp only [Nat.add_zero, Nat.zero_add]
  exact fit_nil _

theorem gu_0 : Reads (a := 512) (b := 512) (run.sl.r_9 (F := Ideal) M1 h1 M2 h2 M11 h11 M15 x1 x2 xG) (fun i j => S 1280 (xf x1 x2) (gf xG) i (0 + j)) :=
  reads_five mm_gu 0
    (reads_cov M15.view (reads_xb M1 h1 M2 h2 x1 x2) 0 0 _) (reads_load h11 (reads_nat2 xG) 0 0 _)
    (reads_cov M15.view (reads_xb M1 h1 M2 h2 x1 x2) 0 256 _) (reads_load h11 (reads_nat2 xG) 256 0 _)
    (reads_cov M15.view (reads_xb M1 h1 M2 h2 x1 x2) 0 512 _) (reads_load h11 (reads_nat2 xG) 512 0 _)
    (reads_cov M15.view (reads_xb M1 h1 M2 h2 x1 x2) 0 768 _) (reads_load h11 (reads_nat2 xG) 768 0 _)
    (reads_cov M15.view (reads_xb M1 h1 M2 h2 x1 x2) 0 1024 _) (reads_load h11 (reads_nat2 xG) 1024 0 _)

theorem dh_0 : Reads (a := 512) (b := 256) (run.sl.r_10 (F := Ideal) M3 h3 M4 h4 M12 h12 M16 x3 x4 xD) (fun i j => Point.T 1280 (yf x3 x4) (df xD) i (0 + j)) := by
  refine (reads_mmT (mm_dh _ _) (reads_cov M16.view (reads_yb M3 h3 M4 h4 x3 x4) 0 0 _) (reads_load h12 (reads_nat2 xD) 0 0 _)).congr ?_
  intro i j _ _
  simp only [Point.T, Nat.zero_add]

theorem gu_1 : Reads (a := 512) (b := 512) (run.sl.r_24 (F := Ideal) M1 h1 M2 h2 M11 h11 M15 x1 x2 xG) (fun i j => S 1280 (xf x1 x2) (gf xG) i (512 + j)) :=
  reads_five mm_gu 512
    (reads_cov M15.view (reads_xb M1 h1 M2 h2 x1 x2) 0 0 _) (reads_load h11 (reads_nat2 xG) 0 512 _)
    (reads_cov M15.view (reads_xb M1 h1 M2 h2 x1 x2) 0 256 _) (reads_load h11 (reads_nat2 xG) 256 512 _)
    (reads_cov M15.view (reads_xb M1 h1 M2 h2 x1 x2) 0 512 _) (reads_load h11 (reads_nat2 xG) 512 512 _)
    (reads_cov M15.view (reads_xb M1 h1 M2 h2 x1 x2) 0 768 _) (reads_load h11 (reads_nat2 xG) 768 512 _)
    (reads_cov M15.view (reads_xb M1 h1 M2 h2 x1 x2) 0 1024 _) (reads_load h11 (reads_nat2 xG) 1024 512 _)

theorem dh_1 : Reads (a := 512) (b := 256) (run.sl.r_25 (F := Ideal) M3 h3 M4 h4 M12 h12 M16 x3 x4 xD) (fun i j => Point.T 1280 (yf x3 x4) (df xD) i (256 + j)) := by
  refine (reads_mmT (mm_dh _ _) (reads_cov M16.view (reads_yb M3 h3 M4 h4 x3 x4) 0 0 _) (reads_load h12 (reads_nat2 xD) 256 0 _)).congr ?_
  intro i j _ _
  simp only [Point.T, Nat.zero_add]

theorem gu_2 : Reads (a := 512) (b := 512) (run.sl.r_34 (F := Ideal) M1 h1 M2 h2 M11 h11 M15 x1 x2 xG) (fun i j => S 1280 (xf x1 x2) (gf xG) i (1024 + j)) :=
  reads_five mm_gu 1024
    (reads_cov M15.view (reads_xb M1 h1 M2 h2 x1 x2) 0 0 _) (reads_load h11 (reads_nat2 xG) 0 1024 _)
    (reads_cov M15.view (reads_xb M1 h1 M2 h2 x1 x2) 0 256 _) (reads_load h11 (reads_nat2 xG) 256 1024 _)
    (reads_cov M15.view (reads_xb M1 h1 M2 h2 x1 x2) 0 512 _) (reads_load h11 (reads_nat2 xG) 512 1024 _)
    (reads_cov M15.view (reads_xb M1 h1 M2 h2 x1 x2) 0 768 _) (reads_load h11 (reads_nat2 xG) 768 1024 _)
    (reads_cov M15.view (reads_xb M1 h1 M2 h2 x1 x2) 0 1024 _) (reads_load h11 (reads_nat2 xG) 1024 1024 _)

theorem dh_2 : Reads (a := 512) (b := 256) (run.sl.r_35 (F := Ideal) M3 h3 M4 h4 M12 h12 M16 x3 x4 xD) (fun i j => Point.T 1280 (yf x3 x4) (df xD) i (512 + j)) := by
  refine (reads_mmT (mm_dh _ _) (reads_cov M16.view (reads_yb M3 h3 M4 h4 x3 x4) 0 0 _) (reads_load h12 (reads_nat2 xD) 512 0 _)).congr ?_
  intro i j _ _
  simp only [Point.T, Nat.zero_add]

theorem gu_3 : Reads (a := 512) (b := 512) (run.sl.r_44 (F := Ideal) M1 h1 M2 h2 M11 h11 M15 x1 x2 xG) (fun i j => S 1280 (xf x1 x2) (gf xG) i (1536 + j)) :=
  reads_five mm_gu 1536
    (reads_cov M15.view (reads_xb M1 h1 M2 h2 x1 x2) 0 0 _) (reads_load h11 (reads_nat2 xG) 0 1536 _)
    (reads_cov M15.view (reads_xb M1 h1 M2 h2 x1 x2) 0 256 _) (reads_load h11 (reads_nat2 xG) 256 1536 _)
    (reads_cov M15.view (reads_xb M1 h1 M2 h2 x1 x2) 0 512 _) (reads_load h11 (reads_nat2 xG) 512 1536 _)
    (reads_cov M15.view (reads_xb M1 h1 M2 h2 x1 x2) 0 768 _) (reads_load h11 (reads_nat2 xG) 768 1536 _)
    (reads_cov M15.view (reads_xb M1 h1 M2 h2 x1 x2) 0 1024 _) (reads_load h11 (reads_nat2 xG) 1024 1536 _)

theorem dh_3 : Reads (a := 512) (b := 256) (run.sl.r_45 (F := Ideal) M3 h3 M4 h4 M12 h12 M16 x3 x4 xD) (fun i j => Point.T 1280 (yf x3 x4) (df xD) i (768 + j)) := by
  refine (reads_mmT (mm_dh _ _) (reads_cov M16.view (reads_yb M3 h3 M4 h4 x3 x4) 0 0 _) (reads_load h12 (reads_nat2 xD) 768 0 _)).congr ?_
  intro i j _ _
  simp only [Point.T, Nat.zero_add]

theorem gu_4 : Reads (a := 512) (b := 512) (run.sl.r_58 (F := Ideal) M1 h1 M2 h2 M11 h11 M15 x1 x2 xG) (fun i j => S 1280 (xf x1 x2) (gf xG) i (2048 + j)) :=
  reads_five mm_gu 2048
    (reads_cov M15.view (reads_xb M1 h1 M2 h2 x1 x2) 0 0 _) (reads_load h11 (reads_nat2 xG) 0 2048 _)
    (reads_cov M15.view (reads_xb M1 h1 M2 h2 x1 x2) 0 256 _) (reads_load h11 (reads_nat2 xG) 256 2048 _)
    (reads_cov M15.view (reads_xb M1 h1 M2 h2 x1 x2) 0 512 _) (reads_load h11 (reads_nat2 xG) 512 2048 _)
    (reads_cov M15.view (reads_xb M1 h1 M2 h2 x1 x2) 0 768 _) (reads_load h11 (reads_nat2 xG) 768 2048 _)
    (reads_cov M15.view (reads_xb M1 h1 M2 h2 x1 x2) 0 1024 _) (reads_load h11 (reads_nat2 xG) 1024 2048 _)

theorem dh_4 : Reads (a := 512) (b := 256) (run.sl.r_59 (F := Ideal) M3 h3 M4 h4 M12 h12 M16 x3 x4 xD) (fun i j => Point.T 1280 (yf x3 x4) (df xD) i (1024 + j)) := by
  refine (reads_mmT (mm_dh _ _) (reads_cov M16.view (reads_yb M3 h3 M4 h4 x3 x4) 0 0 _) (reads_load h12 (reads_nat2 xD) 1024 0 _)).congr ?_
  intro i j _ _
  simp only [Point.T, Nat.zero_add]

theorem reads_hb : Reads (a := 512) (b := 1280) (View.canon (run.sl.H19_10 (F := Ideal) M1 h1 M2 h2 M11 h11 M15 x1 x2 xG)) (hb (xf x1 x2) (gf xG)) := by
  refine reads_canon (View.cover_of_tiled_head _ _ _ rfl) ?_
  refine fit_cons 0 1152 _ _ (reads_h _ _ (reads_slice 0 256 slices_S512x512_o0_256_S512x128 (gu_4 M1 h1 M2 h2 M11 h11 M15 x1 x2 xG)) (reads_slice 0 384 slices_S512x512_o0_384_S512x128 (gu_4 M1 h1 M2 h2 M11 h11 M15 x1 x2 xG))) ?_ ?_
  · intro i j hi hj
    have e : gam (1152 + j) = 2048 + (256 + j) := by unfold gam; omega
    have e2 : gam (1152 + j) + 128 = 2048 + (384 + j) := by omega
    unfold hb; rw [e2, e]
  refine fit_cons 0 1024 _ _ (reads_h _ _ (reads_slice 0 0 slices_S512x512_o0_0_S512x128 (gu_4 M1 h1 M2 h2 M11 h11 M15 x1 x2 xG)) (reads_slice 0 128 slices_S512x512_o0_128_S512x128 (gu_4 M1 h1 M2 h2 M11 h11 M15 x1 x2 xG))) ?_ ?_
  · intro i j hi hj
    have e : gam (1024 + j) = 2048 + (0 + j) := by unfold gam; omega
    have e2 : gam (1024 + j) + 128 = 2048 + (128 + j) := by omega
    unfold hb; rw [e2, e]
  refine fit_cons 0 896 _ _ (reads_h _ _ (reads_slice 0 256 slices_S512x512_o0_256_S512x128 (gu_3 M1 h1 M2 h2 M11 h11 M15 x1 x2 xG)) (reads_slice 0 384 slices_S512x512_o0_384_S512x128 (gu_3 M1 h1 M2 h2 M11 h11 M15 x1 x2 xG))) ?_ ?_
  · intro i j hi hj
    have e : gam (896 + j) = 1536 + (256 + j) := by unfold gam; omega
    have e2 : gam (896 + j) + 128 = 1536 + (384 + j) := by omega
    unfold hb; rw [e2, e]
  refine fit_cons 0 768 _ _ (reads_h _ _ (reads_slice 0 0 slices_S512x512_o0_0_S512x128 (gu_3 M1 h1 M2 h2 M11 h11 M15 x1 x2 xG)) (reads_slice 0 128 slices_S512x512_o0_128_S512x128 (gu_3 M1 h1 M2 h2 M11 h11 M15 x1 x2 xG))) ?_ ?_
  · intro i j hi hj
    have e : gam (768 + j) = 1536 + (0 + j) := by unfold gam; omega
    have e2 : gam (768 + j) + 128 = 1536 + (128 + j) := by omega
    unfold hb; rw [e2, e]
  refine fit_cons 0 640 _ _ (reads_h _ _ (reads_slice 0 256 slices_S512x512_o0_256_S512x128 (gu_2 M1 h1 M2 h2 M11 h11 M15 x1 x2 xG)) (reads_slice 0 384 slices_S512x512_o0_384_S512x128 (gu_2 M1 h1 M2 h2 M11 h11 M15 x1 x2 xG))) ?_ ?_
  · intro i j hi hj
    have e : gam (640 + j) = 1024 + (256 + j) := by unfold gam; omega
    have e2 : gam (640 + j) + 128 = 1024 + (384 + j) := by omega
    unfold hb; rw [e2, e]
  refine fit_cons 0 512 _ _ (reads_h _ _ (reads_slice 0 0 slices_S512x512_o0_0_S512x128 (gu_2 M1 h1 M2 h2 M11 h11 M15 x1 x2 xG)) (reads_slice 0 128 slices_S512x512_o0_128_S512x128 (gu_2 M1 h1 M2 h2 M11 h11 M15 x1 x2 xG))) ?_ ?_
  · intro i j hi hj
    have e : gam (512 + j) = 1024 + (0 + j) := by unfold gam; omega
    have e2 : gam (512 + j) + 128 = 1024 + (128 + j) := by omega
    unfold hb; rw [e2, e]
  refine fit_cons 0 384 _ _ (reads_h _ _ (reads_slice 0 256 slices_S512x512_o0_256_S512x128 (gu_1 M1 h1 M2 h2 M11 h11 M15 x1 x2 xG)) (reads_slice 0 384 slices_S512x512_o0_384_S512x128 (gu_1 M1 h1 M2 h2 M11 h11 M15 x1 x2 xG))) ?_ ?_
  · intro i j hi hj
    have e : gam (384 + j) = 512 + (256 + j) := by unfold gam; omega
    have e2 : gam (384 + j) + 128 = 512 + (384 + j) := by omega
    unfold hb; rw [e2, e]
  refine fit_cons 0 256 _ _ (reads_h _ _ (reads_slice 0 0 slices_S512x512_o0_0_S512x128 (gu_1 M1 h1 M2 h2 M11 h11 M15 x1 x2 xG)) (reads_slice 0 128 slices_S512x512_o0_128_S512x128 (gu_1 M1 h1 M2 h2 M11 h11 M15 x1 x2 xG))) ?_ ?_
  · intro i j hi hj
    have e : gam (256 + j) = 512 + (0 + j) := by unfold gam; omega
    have e2 : gam (256 + j) + 128 = 512 + (128 + j) := by omega
    unfold hb; rw [e2, e]
  refine fit_cons 0 128 _ _ (reads_h _ _ (reads_slice 0 256 slices_S512x512_o0_256_S512x128 (gu_0 M1 h1 M2 h2 M11 h11 M15 x1 x2 xG)) (reads_slice 0 384 slices_S512x512_o0_384_S512x128 (gu_0 M1 h1 M2 h2 M11 h11 M15 x1 x2 xG))) ?_ ?_
  · intro i j hi hj
    have e : gam (128 + j) = 0 + (256 + j) := by unfold gam; omega
    have e2 : gam (128 + j) + 128 = 0 + (384 + j) := by omega
    unfold hb; rw [e2, e]
  refine fit_cons 0 0 _ _ (reads_h _ _ (reads_slice 0 0 slices_S512x512_o0_0_S512x128 (gu_0 M1 h1 M2 h2 M11 h11 M15 x1 x2 xG)) (reads_slice 0 128 slices_S512x512_o0_128_S512x128 (gu_0 M1 h1 M2 h2 M11 h11 M15 x1 x2 xG))) ?_ ?_
  · intro i j hi hj
    have e : gam (0 + j) = 0 + (0 + j) := by unfold gam; omega
    have e2 : gam (0 + j) + 128 = 0 + (128 + j) := by omega
    unfold hb; rw [e2, e]
  exact fit_nil _

theorem reads_dgu : Reads (a := 512) (b := 2560) (View.canon (run.sl.H20_20 (F := Ideal) M1 h1 M2 h2 M3 h3 M4 h4 M11 h11 M12 h12 M15 M16 x1 x2 x3 x4 xG xD)) (dgu (xf x1 x2) (yf x3 x4) (gf xG) (df xD)) := by
  refine reads_canon (View.cover_of_tiled_head _ _ _ rfl) ?_
  refine fit_cons 0 2432 _ _ (reads_du _ _ (reads_slice 0 256 slices_S512x512_o0_256_S512x128 (gu_4 M1 h1 M2 h2 M11 h11 M15 x1 x2 xG)) (reads_slice 0 384 slices_S512x512_o0_384_S512x128 (gu_4 M1 h1 M2 h2 M11 h11 M15 x1 x2 xG)) (reads_slice 0 128 slices_S512x256_o0_128_S512x128 (dh_4 M3 h3 M4 h4 M12 h12 M16 x3 x4 xD))) ?_ ?_
  · intro i j hi hj
    have e0 : fea (2432 + j) = 1024 + (128 + j) := by unfold fea; omega
    have e : gam (1024 + (128 + j)) = 2048 + (256 + j) := by unfold gam; omega
    have e2 : gam (1024 + (128 + j)) + 128 = 2048 + (384 + j) := by omega
    unfold dgu; rw [if_neg (show ¬ (2432 + j) % 256 < 128 by omega), e0, e2, e, Nat.zero_add]
  refine fit_cons 0 2304 _ _ (reads_dg _ _ (reads_slice 0 256 slices_S512x512_o0_256_S512x128 (gu_4 M1 h1 M2 h2 M11 h11 M15 x1 x2 xG)) (reads_slice 0 384 slices_S512x512_o0_384_S512x128 (gu_4 M1 h1 M2 h2 M11 h11 M15 x1 x2 xG)) (reads_slice 0 128 slices_S512x256_o0_128_S512x128 (dh_4 M3 h3 M4 h4 M12 h12 M16 x3 x4 xD))) ?_ ?_
  · intro i j hi hj
    have e0 : fea (2304 + j) = 1024 + (128 + j) := by unfold fea; omega
    have e : gam (1024 + (128 + j)) = 2048 + (256 + j) := by unfold gam; omega
    have e2 : gam (1024 + (128 + j)) + 128 = 2048 + (384 + j) := by omega
    unfold dgu; rw [if_pos (show (2304 + j) % 256 < 128 by omega), e0, e2, e, Nat.zero_add]
  refine fit_cons 0 2176 _ _ (reads_du _ _ (reads_slice 0 0 slices_S512x512_o0_0_S512x128 (gu_4 M1 h1 M2 h2 M11 h11 M15 x1 x2 xG)) (reads_slice 0 128 slices_S512x512_o0_128_S512x128 (gu_4 M1 h1 M2 h2 M11 h11 M15 x1 x2 xG)) (reads_slice 0 0 slices_S512x256_o0_0_S512x128 (dh_4 M3 h3 M4 h4 M12 h12 M16 x3 x4 xD))) ?_ ?_
  · intro i j hi hj
    have e0 : fea (2176 + j) = 1024 + (0 + j) := by unfold fea; omega
    have e : gam (1024 + (0 + j)) = 2048 + (0 + j) := by unfold gam; omega
    have e2 : gam (1024 + (0 + j)) + 128 = 2048 + (128 + j) := by omega
    unfold dgu; rw [if_neg (show ¬ (2176 + j) % 256 < 128 by omega), e0, e2, e, Nat.zero_add]
  refine fit_cons 0 2048 _ _ (reads_dg _ _ (reads_slice 0 0 slices_S512x512_o0_0_S512x128 (gu_4 M1 h1 M2 h2 M11 h11 M15 x1 x2 xG)) (reads_slice 0 128 slices_S512x512_o0_128_S512x128 (gu_4 M1 h1 M2 h2 M11 h11 M15 x1 x2 xG)) (reads_slice 0 0 slices_S512x256_o0_0_S512x128 (dh_4 M3 h3 M4 h4 M12 h12 M16 x3 x4 xD))) ?_ ?_
  · intro i j hi hj
    have e0 : fea (2048 + j) = 1024 + (0 + j) := by unfold fea; omega
    have e : gam (1024 + (0 + j)) = 2048 + (0 + j) := by unfold gam; omega
    have e2 : gam (1024 + (0 + j)) + 128 = 2048 + (128 + j) := by omega
    unfold dgu; rw [if_pos (show (2048 + j) % 256 < 128 by omega), e0, e2, e, Nat.zero_add]
  refine fit_cons 0 1920 _ _ (reads_du _ _ (reads_slice 0 256 slices_S512x512_o0_256_S512x128 (gu_3 M1 h1 M2 h2 M11 h11 M15 x1 x2 xG)) (reads_slice 0 384 slices_S512x512_o0_384_S512x128 (gu_3 M1 h1 M2 h2 M11 h11 M15 x1 x2 xG)) (reads_slice 0 128 slices_S512x256_o0_128_S512x128 (dh_3 M3 h3 M4 h4 M12 h12 M16 x3 x4 xD))) ?_ ?_
  · intro i j hi hj
    have e0 : fea (1920 + j) = 768 + (128 + j) := by unfold fea; omega
    have e : gam (768 + (128 + j)) = 1536 + (256 + j) := by unfold gam; omega
    have e2 : gam (768 + (128 + j)) + 128 = 1536 + (384 + j) := by omega
    unfold dgu; rw [if_neg (show ¬ (1920 + j) % 256 < 128 by omega), e0, e2, e, Nat.zero_add]
  refine fit_cons 0 1792 _ _ (reads_dg _ _ (reads_slice 0 256 slices_S512x512_o0_256_S512x128 (gu_3 M1 h1 M2 h2 M11 h11 M15 x1 x2 xG)) (reads_slice 0 384 slices_S512x512_o0_384_S512x128 (gu_3 M1 h1 M2 h2 M11 h11 M15 x1 x2 xG)) (reads_slice 0 128 slices_S512x256_o0_128_S512x128 (dh_3 M3 h3 M4 h4 M12 h12 M16 x3 x4 xD))) ?_ ?_
  · intro i j hi hj
    have e0 : fea (1792 + j) = 768 + (128 + j) := by unfold fea; omega
    have e : gam (768 + (128 + j)) = 1536 + (256 + j) := by unfold gam; omega
    have e2 : gam (768 + (128 + j)) + 128 = 1536 + (384 + j) := by omega
    unfold dgu; rw [if_pos (show (1792 + j) % 256 < 128 by omega), e0, e2, e, Nat.zero_add]
  refine fit_cons 0 1664 _ _ (reads_du _ _ (reads_slice 0 0 slices_S512x512_o0_0_S512x128 (gu_3 M1 h1 M2 h2 M11 h11 M15 x1 x2 xG)) (reads_slice 0 128 slices_S512x512_o0_128_S512x128 (gu_3 M1 h1 M2 h2 M11 h11 M15 x1 x2 xG)) (reads_slice 0 0 slices_S512x256_o0_0_S512x128 (dh_3 M3 h3 M4 h4 M12 h12 M16 x3 x4 xD))) ?_ ?_
  · intro i j hi hj
    have e0 : fea (1664 + j) = 768 + (0 + j) := by unfold fea; omega
    have e : gam (768 + (0 + j)) = 1536 + (0 + j) := by unfold gam; omega
    have e2 : gam (768 + (0 + j)) + 128 = 1536 + (128 + j) := by omega
    unfold dgu; rw [if_neg (show ¬ (1664 + j) % 256 < 128 by omega), e0, e2, e, Nat.zero_add]
  refine fit_cons 0 1536 _ _ (reads_dg _ _ (reads_slice 0 0 slices_S512x512_o0_0_S512x128 (gu_3 M1 h1 M2 h2 M11 h11 M15 x1 x2 xG)) (reads_slice 0 128 slices_S512x512_o0_128_S512x128 (gu_3 M1 h1 M2 h2 M11 h11 M15 x1 x2 xG)) (reads_slice 0 0 slices_S512x256_o0_0_S512x128 (dh_3 M3 h3 M4 h4 M12 h12 M16 x3 x4 xD))) ?_ ?_
  · intro i j hi hj
    have e0 : fea (1536 + j) = 768 + (0 + j) := by unfold fea; omega
    have e : gam (768 + (0 + j)) = 1536 + (0 + j) := by unfold gam; omega
    have e2 : gam (768 + (0 + j)) + 128 = 1536 + (128 + j) := by omega
    unfold dgu; rw [if_pos (show (1536 + j) % 256 < 128 by omega), e0, e2, e, Nat.zero_add]
  refine fit_cons 0 1408 _ _ (reads_du _ _ (reads_slice 0 256 slices_S512x512_o0_256_S512x128 (gu_2 M1 h1 M2 h2 M11 h11 M15 x1 x2 xG)) (reads_slice 0 384 slices_S512x512_o0_384_S512x128 (gu_2 M1 h1 M2 h2 M11 h11 M15 x1 x2 xG)) (reads_slice 0 128 slices_S512x256_o0_128_S512x128 (dh_2 M3 h3 M4 h4 M12 h12 M16 x3 x4 xD))) ?_ ?_
  · intro i j hi hj
    have e0 : fea (1408 + j) = 512 + (128 + j) := by unfold fea; omega
    have e : gam (512 + (128 + j)) = 1024 + (256 + j) := by unfold gam; omega
    have e2 : gam (512 + (128 + j)) + 128 = 1024 + (384 + j) := by omega
    unfold dgu; rw [if_neg (show ¬ (1408 + j) % 256 < 128 by omega), e0, e2, e, Nat.zero_add]
  refine fit_cons 0 1280 _ _ (reads_dg _ _ (reads_slice 0 256 slices_S512x512_o0_256_S512x128 (gu_2 M1 h1 M2 h2 M11 h11 M15 x1 x2 xG)) (reads_slice 0 384 slices_S512x512_o0_384_S512x128 (gu_2 M1 h1 M2 h2 M11 h11 M15 x1 x2 xG)) (reads_slice 0 128 slices_S512x256_o0_128_S512x128 (dh_2 M3 h3 M4 h4 M12 h12 M16 x3 x4 xD))) ?_ ?_
  · intro i j hi hj
    have e0 : fea (1280 + j) = 512 + (128 + j) := by unfold fea; omega
    have e : gam (512 + (128 + j)) = 1024 + (256 + j) := by unfold gam; omega
    have e2 : gam (512 + (128 + j)) + 128 = 1024 + (384 + j) := by omega
    unfold dgu; rw [if_pos (show (1280 + j) % 256 < 128 by omega), e0, e2, e, Nat.zero_add]
  refine fit_cons 0 1152 _ _ (reads_du _ _ (reads_slice 0 0 slices_S512x512_o0_0_S512x128 (gu_2 M1 h1 M2 h2 M11 h11 M15 x1 x2 xG)) (reads_slice 0 128 slices_S512x512_o0_128_S512x128 (gu_2 M1 h1 M2 h2 M11 h11 M15 x1 x2 xG)) (reads_slice 0 0 slices_S512x256_o0_0_S512x128 (dh_2 M3 h3 M4 h4 M12 h12 M16 x3 x4 xD))) ?_ ?_
  · intro i j hi hj
    have e0 : fea (1152 + j) = 512 + (0 + j) := by unfold fea; omega
    have e : gam (512 + (0 + j)) = 1024 + (0 + j) := by unfold gam; omega
    have e2 : gam (512 + (0 + j)) + 128 = 1024 + (128 + j) := by omega
    unfold dgu; rw [if_neg (show ¬ (1152 + j) % 256 < 128 by omega), e0, e2, e, Nat.zero_add]
  refine fit_cons 0 1024 _ _ (reads_dg _ _ (reads_slice 0 0 slices_S512x512_o0_0_S512x128 (gu_2 M1 h1 M2 h2 M11 h11 M15 x1 x2 xG)) (reads_slice 0 128 slices_S512x512_o0_128_S512x128 (gu_2 M1 h1 M2 h2 M11 h11 M15 x1 x2 xG)) (reads_slice 0 0 slices_S512x256_o0_0_S512x128 (dh_2 M3 h3 M4 h4 M12 h12 M16 x3 x4 xD))) ?_ ?_
  · intro i j hi hj
    have e0 : fea (1024 + j) = 512 + (0 + j) := by unfold fea; omega
    have e : gam (512 + (0 + j)) = 1024 + (0 + j) := by unfold gam; omega
    have e2 : gam (512 + (0 + j)) + 128 = 1024 + (128 + j) := by omega
    unfold dgu; rw [if_pos (show (1024 + j) % 256 < 128 by omega), e0, e2, e, Nat.zero_add]
  refine fit_cons 0 896 _ _ (reads_du _ _ (reads_slice 0 256 slices_S512x512_o0_256_S512x128 (gu_1 M1 h1 M2 h2 M11 h11 M15 x1 x2 xG)) (reads_slice 0 384 slices_S512x512_o0_384_S512x128 (gu_1 M1 h1 M2 h2 M11 h11 M15 x1 x2 xG)) (reads_slice 0 128 slices_S512x256_o0_128_S512x128 (dh_1 M3 h3 M4 h4 M12 h12 M16 x3 x4 xD))) ?_ ?_
  · intro i j hi hj
    have e0 : fea (896 + j) = 256 + (128 + j) := by unfold fea; omega
    have e : gam (256 + (128 + j)) = 512 + (256 + j) := by unfold gam; omega
    have e2 : gam (256 + (128 + j)) + 128 = 512 + (384 + j) := by omega
    unfold dgu; rw [if_neg (show ¬ (896 + j) % 256 < 128 by omega), e0, e2, e, Nat.zero_add]
  refine fit_cons 0 768 _ _ (reads_dg _ _ (reads_slice 0 256 slices_S512x512_o0_256_S512x128 (gu_1 M1 h1 M2 h2 M11 h11 M15 x1 x2 xG)) (reads_slice 0 384 slices_S512x512_o0_384_S512x128 (gu_1 M1 h1 M2 h2 M11 h11 M15 x1 x2 xG)) (reads_slice 0 128 slices_S512x256_o0_128_S512x128 (dh_1 M3 h3 M4 h4 M12 h12 M16 x3 x4 xD))) ?_ ?_
  · intro i j hi hj
    have e0 : fea (768 + j) = 256 + (128 + j) := by unfold fea; omega
    have e : gam (256 + (128 + j)) = 512 + (256 + j) := by unfold gam; omega
    have e2 : gam (256 + (128 + j)) + 128 = 512 + (384 + j) := by omega
    unfold dgu; rw [if_pos (show (768 + j) % 256 < 128 by omega), e0, e2, e, Nat.zero_add]
  refine fit_cons 0 640 _ _ (reads_du _ _ (reads_slice 0 0 slices_S512x512_o0_0_S512x128 (gu_1 M1 h1 M2 h2 M11 h11 M15 x1 x2 xG)) (reads_slice 0 128 slices_S512x512_o0_128_S512x128 (gu_1 M1 h1 M2 h2 M11 h11 M15 x1 x2 xG)) (reads_slice 0 0 slices_S512x256_o0_0_S512x128 (dh_1 M3 h3 M4 h4 M12 h12 M16 x3 x4 xD))) ?_ ?_
  · intro i j hi hj
    have e0 : fea (640 + j) = 256 + (0 + j) := by unfold fea; omega
    have e : gam (256 + (0 + j)) = 512 + (0 + j) := by unfold gam; omega
    have e2 : gam (256 + (0 + j)) + 128 = 512 + (128 + j) := by omega
    unfold dgu; rw [if_neg (show ¬ (640 + j) % 256 < 128 by omega), e0, e2, e, Nat.zero_add]
  refine fit_cons 0 512 _ _ (reads_dg _ _ (reads_slice 0 0 slices_S512x512_o0_0_S512x128 (gu_1 M1 h1 M2 h2 M11 h11 M15 x1 x2 xG)) (reads_slice 0 128 slices_S512x512_o0_128_S512x128 (gu_1 M1 h1 M2 h2 M11 h11 M15 x1 x2 xG)) (reads_slice 0 0 slices_S512x256_o0_0_S512x128 (dh_1 M3 h3 M4 h4 M12 h12 M16 x3 x4 xD))) ?_ ?_
  · intro i j hi hj
    have e0 : fea (512 + j) = 256 + (0 + j) := by unfold fea; omega
    have e : gam (256 + (0 + j)) = 512 + (0 + j) := by unfold gam; omega
    have e2 : gam (256 + (0 + j)) + 128 = 512 + (128 + j) := by omega
    unfold dgu; rw [if_pos (show (512 + j) % 256 < 128 by omega), e0, e2, e, Nat.zero_add]
  refine fit_cons 0 384 _ _ (reads_du _ _ (reads_slice 0 256 slices_S512x512_o0_256_S512x128 (gu_0 M1 h1 M2 h2 M11 h11 M15 x1 x2 xG)) (reads_slice 0 384 slices_S512x512_o0_384_S512x128 (gu_0 M1 h1 M2 h2 M11 h11 M15 x1 x2 xG)) (reads_slice 0 128 slices_S512x256_o0_128_S512x128 (dh_0 M3 h3 M4 h4 M12 h12 M16 x3 x4 xD))) ?_ ?_
  · intro i j hi hj
    have e0 : fea (384 + j) = 0 + (128 + j) := by unfold fea; omega
    have e : gam (0 + (128 + j)) = 0 + (256 + j) := by unfold gam; omega
    have e2 : gam (0 + (128 + j)) + 128 = 0 + (384 + j) := by omega
    unfold dgu; rw [if_neg (show ¬ (384 + j) % 256 < 128 by omega), e0, e2, e, Nat.zero_add]
  refine fit_cons 0 256 _ _ (reads_dg _ _ (reads_slice 0 256 slices_S512x512_o0_256_S512x128 (gu_0 M1 h1 M2 h2 M11 h11 M15 x1 x2 xG)) (reads_slice 0 384 slices_S512x512_o0_384_S512x128 (gu_0 M1 h1 M2 h2 M11 h11 M15 x1 x2 xG)) (reads_slice 0 128 slices_S512x256_o0_128_S512x128 (dh_0 M3 h3 M4 h4 M12 h12 M16 x3 x4 xD))) ?_ ?_
  · intro i j hi hj
    have e0 : fea (256 + j) = 0 + (128 + j) := by unfold fea; omega
    have e : gam (0 + (128 + j)) = 0 + (256 + j) := by unfold gam; omega
    have e2 : gam (0 + (128 + j)) + 128 = 0 + (384 + j) := by omega
    unfold dgu; rw [if_pos (show (256 + j) % 256 < 128 by omega), e0, e2, e, Nat.zero_add]
  refine fit_cons 0 128 _ _ (reads_du _ _ (reads_slice 0 0 slices_S512x512_o0_0_S512x128 (gu_0 M1 h1 M2 h2 M11 h11 M15 x1 x2 xG)) (reads_slice 0 128 slices_S512x512_o0_128_S512x128 (gu_0 M1 h1 M2 h2 M11 h11 M15 x1 x2 xG)) (reads_slice 0 0 slices_S512x256_o0_0_S512x128 (dh_0 M3 h3 M4 h4 M12 h12 M16 x3 x4 xD))) ?_ ?_
  · intro i j hi hj
    have e0 : fea (128 + j) = 0 + (0 + j) := by unfold fea; omega
    have e : gam (0 + (0 + j)) = 0 + (0 + j) := by unfold gam; omega
    have e2 : gam (0 + (0 + j)) + 128 = 0 + (128 + j) := by omega
    unfold dgu; rw [if_neg (show ¬ (128 + j) % 256 < 128 by omega), e0, e2, e, Nat.zero_add]
  refine fit_cons 0 0 _ _ (reads_dg _ _ (reads_slice 0 0 slices_S512x512_o0_0_S512x128 (gu_0 M1 h1 M2 h2 M11 h11 M15 x1 x2 xG)) (reads_slice 0 128 slices_S512x512_o0_128_S512x128 (gu_0 M1 h1 M2 h2 M11 h11 M15 x1 x2 xG)) (reads_slice 0 0 slices_S512x256_o0_0_S512x128 (dh_0 M3 h3 M4 h4 M12 h12 M16 x3 x4 xD))) ?_ ?_
  · intro i j hi hj
    have e0 : fea (0 + j) = 0 + (0 + j) := by unfold fea; omega
    have e : gam (0 + (0 + j)) = 0 + (0 + j) := by unfold gam; omega
    have e2 : gam (0 + (0 + j)) + 128 = 0 + (128 + j) := by omega
    unfold dgu; rw [if_pos (show (0 + j) % 256 < 128 by omega), e0, e2, e, Nat.zero_add]
  exact fit_nil _

/-- The result block. -/
theorem point_dx : Reads (a := 512) (b := 1280) ((run (F := Ideal) c M1 h1 M2 h2 M3 h3 M4 h4 M5 h5 M6 h6 M7 h7 M8 h8 M9 h9 M10 h10 M11 h11 M12 h12 M13 h13 M14 h14 M15 h15 M16 h16 M17 h17 M18 h18 M19 h19 M20 h20 x1 x2 x3 x4 x5).1.1 xG xD xA xB) (fun i j => Point.T 2560 (dgu (xf x1 x2) (yf x3 x4) (gf xG) (df xD)) (gf xG) i j + nat2 (a := 512) (b := 1280) x5 i j) := by
  refine Reads.congr (reads_add (reads_mmT (mm_dx _ _) (reads_cov M20.view (reads_dgu M1 h1 M2 h2 M3 h3 M4 h4 M11 h11 M12 h12 M15 M16 x1 x2 x3 x4 xG xD) 0 0 _) (reads_load h11 (reads_nat2 xG) 0 0 _)) (reads_cast _ (reads_load h5 (reads_nat2 x5) 0 0 _))) ?_
  intro i j _ _
  simp only [Point.T, Nat.zero_add]

/-- What the first accumulator holds after the point. -/
theorem point_agu : Reads (a := 1280) (b := 2560) ((run (F := Ideal) c M1 h1 M2 h2 M3 h3 M4 h4 M5 h5 M6 h6 M7 h7 M8 h8 M9 h9 M10 h10 M11 h11 M12 h12 M13 h13 M14 h14 M15 h15 M16 h16 M17 h17 M18 h18 M19 h19 M20 h20 x1 x2 x3 x4 x5).1.2.1 xG xD xA xB) (fun i j => nat2 (a := 1280) (b := 2560) xA i j + S 512 (fun h r => xf x1 x2 r h) (dgu (xf x1 x2) (yf x3 x4) (gf xG) (df xD)) i j) := by
  refine Reads.congr (reads_cast _ (reads_add (reads_load h13 (reads_nat2 xA) 0 0 _) (reads_mm (mm_ag _ _) (reads_cov M17.view (reads_xt M1 h1 M2 h2 x1 x2) 0 0 _) (reads_cov M20.view (reads_dgu M1 h1 M2 h2 M3 h3 M4 h4 M11 h11 M12 h12 M15 M16 x1 x2 x3 x4 xG xD) 0 0 _)))) ?_
  intro i j _ _
  simp only [S, Nat.zero_add]

/-- What the second accumulator holds after the point. -/
theorem point_adn : Reads (a := 1280) (b := 1280) ((run (F := Ideal) c M1 h1 M2 h2 M3 h3 M4 h4 M5 h5 M6 h6 M7 h7 M8 h8 M9 h9 M10 h10 M11 h11 M12 h12 M13 h13 M14 h14 M15 h15 M16 h16 M17 h17 M18 h18 M19 h19 M20 h20 x1 x2 x3 x4 x5).1.2.2 xG xD xA xB) (fun i j => nat2 (a := 1280) (b := 1280) xB i j + S 512 (fun h r => yf x3 x4 r h) (hb (xf x1 x2) (gf xG)) i j) := by
  refine Reads.congr (reads_cast _ (reads_add (reads_load h14 (reads_nat2 xB) 0 0 _) (reads_mm (mm_ad _ _) (reads_cov M18.view (reads_yt M3 h3 M4 h4 x3 x4) 0 0 _) (reads_cov M19.view (reads_hb M1 h1 M2 h2 M11 h11 M15 x1 x2 xG) 0 0 _)))) ?_
  intro i j _ _
  simp only [S, Nat.zero_add]

end Cert.KernelIdeal.Body2

end
-- ==== Proof.IdealVal2.lean ====
/-
  The fused pass over features 1280 to 2560, all rows together: the two accumulators and the result array it leaves, as
  functions of the whole arrays it reads.
-/
module

public import proofs.«01_k».proof.Proof.IdealRegion2
public import proofs.«01_k».proof.Proof.IdealPoint2
public import proofs.«01_k».proof.Proof.IdealGlobal
public import Idealize.ShloMosaic.Lib.Pipeline.ValueKit

@[expose] public section

set_option maxRecDepth 16384
set_option maxHeartbeats 2000000

noncomputable section

namespace Cert.KernelIdeal.Region2

open Cert.KernelIdeal Cert.KernelIdeal.Gen Cert.KernelIdeal.Body2 Cert.KernelIdeal.Point
open Idealize.ShloMosaic Idealize.ShloMosaic.TcCoe

variable (V : Dev nD → Valuation τ sig (Elt Ideal)) (c : Dev nD)

/-- The arrays the pass reads, by index. -/
def ax : Vec Ideal S262144x1280 .fp8e4m3 := (Memref.whole main_v0).view.read (Elt Ideal) (V c (Proc.devRef .tc main_v0))
def axs : Vec Ideal S262144x10 .f32 := (Memref.whole main_v2).view.read (Elt Ideal) (V c (Proc.devRef .tc main_v2))
def ay : Vec Ideal S262144x1280 .fp8e5m2 := (Memref.whole main_v1).view.read (Elt Ideal) (V c (Proc.devRef .tc main_v1))
def ays : Vec Ideal S262144x10 .f32 := (Memref.whole main_v3).view.read (Elt Ideal) (V c (Proc.devRef .tc main_v3))
def adx : Vec Ideal S262144x1280 .f32 := (Memref.whole main_v13_0).view.read (Elt Ideal) (V c (Proc.devRef .tc main_v13_0))

/-- The two operands with their scales, and the two weight arrays, as functions of row and column. -/
def gX : ℕ → ℕ → EReal := scaled (nat2 (a := 262144) (b := 1280) (ax V c)) (nat2 (a := 262144) (b := 10) (axs V c))
def gY : ℕ → ℕ → EReal := scaled (nat2 (a := 262144) (b := 1280) (ay V c)) (nat2 (a := 262144) (b := 10) (ays V c))
def gG : ℕ → ℕ → EReal := nat2 (a := 1280) (b := 6912) (wgu V c)
def gD : ℕ → ℕ → EReal := nat2 (a := 3456) (b := 1280) (wdn V c)
/-- The gradient at a row and a column of the packed weights. -/
def gdgu : ℕ → ℕ → EReal := dgu (gX V c) (gY V c) (gG V c) (gD V c)

theorem index_0 : ∀ t : Fin cfg2.N, win2_0.index t = ![(grid2.coords t 0).val, 0] := (by decide +kernel : ∀ t : Fin grid2.N, _)
theorem index_1 : ∀ t : Fin cfg2.N, win2_1.index t = ![(grid2.coords t 0).val, 0] := (by decide +kernel : ∀ t : Fin grid2.N, _)
theorem index_2 : ∀ t : Fin cfg2.N, win2_2.index t = ![(grid2.coords t 0).val, 0] := (by decide +kernel : ∀ t : Fin grid2.N, _)
theorem index_3 : ∀ t : Fin cfg2.N, win2_3.index t = ![(grid2.coords t 0).val, 0] := (by decide +kernel : ∀ t : Fin grid2.N, _)
theorem index_4 : ∀ t : Fin cfg2.N, win2_4.index t = ![(grid2.coords t 0).val, 0] := (by decide +kernel : ∀ t : Fin grid2.N, _)
theorem index_5 : ∀ t : Fin cfg2.N, win2_5.index t = ![(grid2.coords t 0).val, 0] := (by decide +kernel : ∀ t : Fin grid2.N, _)

theorem reads_blk0 (t : Fin cfg2.N) : Reads (a := 512) (b := 1280) (blk V c 0 t) (fun i j => nat2 (a := 262144) (b := 1280) (ax V c) (512 * t.val + i) j) := by
  intro i j
  have ht : t.val < 512 := N_eq ▸ t.isLt
  have hi := i.isLt
  refine Eq.trans ?_ (Reads.at (reads_nat2 (a := 262144) (b := 1280) (ax V c)) (ix2 ⟨512 * t.val + i.val, by omega⟩ j))
  unfold ax
  blk_simp [blk]
  refine congrArg (V c (Proc.devRef .tc main_v0)) ?_
  refine Shape.idx_ext₂ ?_ ?_
  · blk_simp [index_0, coord_val]; show t.val * 512 + i.val = 512 * t.val + i.val; omega
  · blk_simp [index_0, coord_val]

theorem reads_blk1 (t : Fin cfg2.N) : Reads (a := 512) (b := 10) (blk V c 1 t) (fun i j => nat2 (a := 262144) (b := 10) (axs V c) (512 * t.val + i) j) := by
  intro i j
  have ht : t.val < 512 := N_eq ▸ t.isLt
  have hi := i.isLt
  refine Eq.trans ?_ (Reads.at (reads_nat2 (a := 262144) (b := 10) (axs V c)) (ix2 ⟨512 * t.val + i.val, by omega⟩ j))
  unfold axs
  blk_simp [blk]
  refine congrArg (V c (Proc.devRef .tc main_v2)) ?_
  refine Shape.idx_ext₂ ?_ ?_
  · blk_simp [index_1, coord_val]; show t.val * 512 + i.val = 512 * t.val + i.val; omega
  · blk_simp [index_1, coord_val]

theorem reads_blk2 (t : Fin cfg2.N) : Reads (a := 512) (b := 1280) (blk V c 2 t) (fun i j => nat2 (a := 262144) (b := 1280) (ay V c) (512 * t.val + i) j) := by
  intro i j
  have ht : t.val < 512 := N_eq ▸ t.isLt
  have hi := i.isLt
  refine Eq.trans ?_ (Reads.at (reads_nat2 (a := 262144) (b := 1280) (ay V c)) (ix2 ⟨512 * t.val + i.val, by omega⟩ j))
  unfold ay
  blk_simp [blk]
  refine congrArg (V c (Proc.devRef .tc main_v1)) ?_
  refine Shape.idx_ext₂ ?_ ?_
  · blk_simp [index_2, coord_val]; show t.val * 512 + i.val = 512 * t.val + i.val; omega
  · blk_simp [index_2, coord_val]

theorem reads_blk3 (t : Fin cfg2.N) : Reads (a := 512) (b := 10) (blk V c 3 t) (fun i j => nat2 (a := 262144) (b := 10) (ays V c) (512 * t.val + i) j) := by
  intro i j
  have ht : t.val < 512 := N_eq ▸ t.isLt
  have hi := i.isLt
  refine Eq.trans ?_ (Reads.at (reads_nat2 (a := 262144) (b := 10) (ays V c)) (ix2 ⟨512 * t.val + i.val, by omega⟩ j))
  unfold ays
  blk_simp [blk]
  refine congrArg (V c (Proc.devRef .tc main_v3)) ?_
  refine Shape.idx_ext₂ ?_ ?_
  · blk_simp [index_3, coord_val]; show t.val * 512 + i.val = 512 * t.val + i.val; omega
  · blk_simp [index_3, coord_val]

theorem reads_blk4 (t : Fin cfg2.N) : Reads (a := 512) (b := 1280) (blk V c 4 t) (fun i j => nat2 (a := 262144) (b := 1280) (adx V c) (512 * t.val + i) j) := by
  intro i j
  have ht : t.val < 512 := N_eq ▸ t.isLt
  have hi := i.isLt
  refine Eq.trans ?_ (Reads.at (reads_nat2 (a := 262144) (b := 1280) (adx V c)) (ix2 ⟨512 * t.val + i.val, by omega⟩ j))
  unfold adx
  blk_simp [blk]
  refine congrArg (V c (Proc.devRef .tc main_v13_0)) ?_
  refine Shape.idx_ext₂ ?_ ?_
  · blk_simp [index_4, coord_val]; show t.val * 512 + i.val = 512 * t.val + i.val; omega
  · blk_simp [index_4, coord_val]

/-- What the point's body reads: its rows of the operands, and the weight slices. -/
def Xb (t : Fin cfg2.N) : ℕ → ℕ → EReal := xf (blk V c 0 t) (blk V c 1 t)
def Yb (t : Fin cfg2.N) : ℕ → ℕ → EReal := yf (blk V c 2 t) (blk V c 3 t)
def Gb : ℕ → ℕ → EReal := gf (wguS V c)
def Db : ℕ → ℕ → EReal := df (wdnS V c)

theorem xf_eq (t : Fin cfg2.N) {i h : ℕ} (hi : i < 512) (hh : h < 1280) : Xb V c t i h = gX V c (512 * t.val + i) h := by
  unfold Xb xf gX scaled
  rw [(reads_blk0 V c t).nat2_eq hi hh, (reads_blk1 V c t).nat2_eq hi (by omega)]

theorem yf_eq (t : Fin cfg2.N) {i h : ℕ} (hi : i < 512) (hh : h < 1280) : Yb V c t i h = gY V c (512 * t.val + i) h := by
  unfold Yb yf gY scaled
  rw [(reads_blk2 V c t).nat2_eq hi hh, (reads_blk3 V c t).nat2_eq hi (by omega)]

theorem gf_eq {h k : ℕ} (hh : h < 1280) (hk : k < 2 * 1280) : Gb V c h k = gG V c h (2 * 1280 + k) := by
  unfold Gb gf gG
  have e := (reads_rect (a := 1280) (b := 2560) (reads_nat2 (a := 1280) (b := 6912) (wgu V c)) 0 2560 inb_S1280x6912_S1280x2560_0_2560).nat2_eq hh hk
  rw [Nat.zero_add h] at e
  exact e

theorem df_eq {f h : ℕ} (hf : f < 1280) (hh : h < 1280) : Db V c f h = gD V c (1280 + f) h := by
  unfold Db df gD
  have e := (reads_rect (a := 1280) (b := 1280) (reads_nat2 (a := 3456) (b := 1280) (wdn V c)) 1280 0 inb_S3456x1280_S1280x1280_1280_0).nat2_eq hf hh
  rw [Nat.zero_add h] at e
  exact e

theorem dgu_eq (t : Fin cfg2.N) {i k : ℕ} (hi : i < 512) (hk : k < 2 * 1280) :
    dgu (Xb V c t) (Yb V c t) (Gb V c) (Db V c) i k
      = gdgu V c (512 * t.val + i) (2 * 1280 + k) :=
  by
  have hX : ∀ h, h < 1280 → Xb V c t i h = gX V c (512 * t.val + i) h := fun h hh => xf_eq V c t hi hh
  have hY : ∀ h, h < 1280 → Yb V c t i h = gY V c (512 * t.val + i) h := fun h hh => yf_eq V c t hi hh
  have e := dgu_shift (X := Xb V c t) (Y := Yb V c t) (G := Gb V c) (D := Db V c) (X' := gX V c) (Y' := gY V c) (G' := gG V c) (D' := gD V c)
    i (512 * t.val + i) 1280 1280 rfl rfl hX hY (fun h k hh hk => gf_eq V c hh hk) (fun f h hf hh => df_eq V c hf hh) hk
  rw [e]
  rfl

theorem hb_eq (t : Fin cfg2.N) {i f : ℕ} (hi : i < 512) (hf : f < 1280) :
    hb (Xb V c t) (Gb V c) i f = hb (gX V c) (gG V c) (512 * t.val + i) (1280 + f) :=
  by
  have hX : ∀ h, h < 1280 → Xb V c t i h = gX V c (512 * t.val + i) h := fun h hh => xf_eq V c t hi hh
  exact hb_shift (X := Xb V c t) (G := Gb V c) (X' := gX V c) (G' := gG V c) i (512 * t.val + i) 1280 1280 rfl rfl hX
    (fun h k hh hk => gf_eq V c hh hk) hf

/-- What the body at point `t` computes. -/
theorem pt_dx (t : Fin cfg2.N) (A : Vec Ideal S1280x2560 .f32) (B : Vec Ideal S1280x1280 .f32) : Reads (a := 512) (b := 1280) ((step V c t).1.1 (wguS V c) (wdnS V c) A B)
    (fun i j => Point.T 2560 (dgu (Xb V c t) (Yb V c t) (Gb V c) (Db V c)) (Gb V c) i j + nat2 (a := 512) (b := 1280) (blk V c 4 t) i j) :=
  point_dx c (st2_0 t) (hstage2_0 ((cfg2.slots t 0).cast nbuf2_0)) (st2_1 t) (hstage2_1 ((cfg2.slots t 1).cast nbuf2_1)) (st2_2 t) (hstage2_2 ((cfg2.slots t 2).cast nbuf2_2)) (st2_3 t) (hstage2_3 ((cfg2.slots t 3).cast nbuf2_3)) (st2_4 t) (hstage2_4 ((cfg2.slots t 4).cast nbuf2_4)) (Memref.whole main_v12_0) (Memref.isWhole_whole _) (Memref.whole main_v12_1) (Memref.isWhole_whole _) (st2_5 t) (hstage2_5 ((cfg2.slots t 5).cast nbuf2_5)) (Memref.whole main_v14_1) (Memref.isWhole_whole _) (Memref.whole main_v14_2) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _)  (blk V c 0 t) (blk V c 1 t) (blk V c 2 t) (blk V c 3 t) (blk V c 4 t) (wguS V c) (wdnS V c) A B

theorem pt_agu (t : Fin cfg2.N) (A : Vec Ideal S1280x2560 .f32) (B : Vec Ideal S1280x1280 .f32) : Reads (a := 1280) (b := 2560) ((step V c t).1.2.1 (wguS V c) (wdnS V c) A B)
    (fun i j => nat2 (a := 1280) (b := 2560) A i j + S 512 (fun h r => Xb V c t r h) (dgu (Xb V c t) (Yb V c t) (Gb V c) (Db V c)) i j) :=
  point_agu c (st2_0 t) (hstage2_0 ((cfg2.slots t 0).cast nbuf2_0)) (st2_1 t) (hstage2_1 ((cfg2.slots t 1).cast nbuf2_1)) (st2_2 t) (hstage2_2 ((cfg2.slots t 2).cast nbuf2_2)) (st2_3 t) (hstage2_3 ((cfg2.slots t 3).cast nbuf2_3)) (st2_4 t) (hstage2_4 ((cfg2.slots t 4).cast nbuf2_4)) (Memref.whole main_v12_0) (Memref.isWhole_whole _) (Memref.whole main_v12_1) (Memref.isWhole_whole _) (st2_5 t) (hstage2_5 ((cfg2.slots t 5).cast nbuf2_5)) (Memref.whole main_v14_1) (Memref.isWhole_whole _) (Memref.whole main_v14_2) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _)  (blk V c 0 t) (blk V c 1 t) (blk V c 2 t) (blk V c 3 t) (blk V c 4 t) (wguS V c) (wdnS V c) A B

theorem pt_adn (t : Fin cfg2.N) (A : Vec Ideal S1280x2560 .f32) (B : Vec Ideal S1280x1280 .f32) : Reads (a := 1280) (b := 1280) ((step V c t).1.2.2 (wguS V c) (wdnS V c) A B)
    (fun i j => nat2 (a := 1280) (b := 1280) B i j + S 512 (fun h r => Yb V c t r h) (hb (Xb V c t) (Gb V c)) i j) :=
  point_adn c (st2_0 t) (hstage2_0 ((cfg2.slots t 0).cast nbuf2_0)) (st2_1 t) (hstage2_1 ((cfg2.slots t 1).cast nbuf2_1)) (st2_2 t) (hstage2_2 ((cfg2.slots t 2).cast nbuf2_2)) (st2_3 t) (hstage2_3 ((cfg2.slots t 3).cast nbuf2_3)) (st2_4 t) (hstage2_4 ((cfg2.slots t 4).cast nbuf2_4)) (Memref.whole main_v12_0) (Memref.isWhole_whole _) (Memref.whole main_v12_1) (Memref.isWhole_whole _) (st2_5 t) (hstage2_5 ((cfg2.slots t 5).cast nbuf2_5)) (Memref.whole main_v14_1) (Memref.isWhole_whole _) (Memref.whole main_v14_2) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _)  (blk V c 0 t) (blk V c 1 t) (blk V c 2 t) (blk V c 3 t) (blk V c 4 t) (wguS V c) (wdnS V c) A B

theorem zero_1 : Reads (a := 1280) (b := 2560) (k2_pay1 (F := Ideal)) (fun _ _ => 0) := by
  intro i j
  unfold k2_pay1
  pointwise

theorem zero_2 : Reads (a := 1280) (b := 1280) (k2_pay2 (F := Ideal)) (fun _ _ => 0) := by
  intro i j
  unfold k2_pay2
  pointwise

/-- The first accumulator after `n` points: the rows of the first `n` blocks are summed. -/
theorem reads_acc1 (n : ℕ) (hn : n ≤ 512) : Reads (a := 1280) (b := 2560) (acc V c n).1
    (fun h k => S (512 * n) (fun h m => gX V c m h) (fun m k => gdgu V c m (2 * 1280 + k)) h k) := by
  induction n with
  | zero =>
    rw [acc_zero]
    exact zero_1.congr fun i j _ _ => by simp [S]
  | succ n ih =>
    have hlt : n < cfg2.N := by rw [N_eq]; omega
    rw [show acc V c (n + 1) = _ from acc_succ V c ⟨n, hlt⟩]
    refine (pt_agu V c ⟨n, hlt⟩ (acc V c n).1 (acc V c n).2).congr ?_
    intro i j hi hj
    rw [(ih (by omega)).nat2_eq hi hj, ← S_succ]
    refine congrArg _ (S_congr (fun r hr => xf_eq V c ⟨n, hlt⟩ hr hi) fun r hr => dgu_eq V c ⟨n, hlt⟩ hr hj)

/-- The second accumulator after `n` points. -/
theorem reads_acc2 (n : ℕ) (hn : n ≤ 512) : Reads (a := 1280) (b := 1280) (acc V c n).2
    (fun h f => S (512 * n) (fun h m => gY V c m h) (fun m f => hb (gX V c) (gG V c) m (1280 + f)) h f) := by
  induction n with
  | zero =>
    rw [acc_zero]
    exact zero_2.congr fun i j _ _ => by simp [S]
  | succ n ih =>
    have hlt : n < cfg2.N := by rw [N_eq]; omega
    rw [show acc V c (n + 1) = _ from acc_succ V c ⟨n, hlt⟩]
    refine (pt_adn V c ⟨n, hlt⟩ (acc V c n).1 (acc V c n).2).congr ?_
    intro i j hi hj
    rw [(ih (by omega)).nat2_eq hi hj, ← S_succ]
    refine congrArg _ (S_congr (fun r hr => yf_eq V c ⟨n, hlt⟩ hr hi) fun r hr => hb_eq V c ⟨n, hlt⟩ hr hj)

/-- The result at row `n` and column `h`. -/
def gdx (n h : ℕ) : EReal := (∑ k ∈ Finset.range 2560, gdgu V c n (2 * 1280 + k) * gG V c h (2 * 1280 + k)) + nat2 (a := 262144) (b := 1280) (adx V c) n h

theorem reads_dxo (t : Fin cfg2.N) : Reads (a := 512) (b := 1280) (dxo V c t) (fun i h => gdx V c (512 * t.val + i) h) := by
  unfold dxo
  refine (pt_dx V c t (acc V c t.val).1 (acc V c t.val).2).congr ?_
  intro i h hi hh
  unfold gdx
  refine congrArg₂ (· + ·) ?_ ((reads_blk4 V c t).nat2_eq hi hh)
  refine Finset.sum_congr rfl fun k hk => ?_
  have hk' := Finset.mem_range.mp hk
  exact congrArg₂ (· * ·) (dgu_eq V c t hi hk') (gf_eq V c hh hk')

/-- The result array after the pass. -/
theorem reads_leave : Reads (a := 262144) (b := 1280) ((Memref.whole main_v14_0).view.read (Elt Ideal) (leave V c (Proc.devRef .tc main_v14_0))) (gdx V c) := by
  intro n h
  rw [leave_0]
  have e : (dat V c).arrAt 5 cfg2.N = (fun y => gdx V c (y 0).val (y 1).val) := by
    refine (dat V c).arrAt_eq_of_covers 5 _ (by decide +kernel) fun t hf y => ?_
    blk_simp
    rw [after_5]
    refine ((reads_dxo V c t).at y).trans ?_
    refine congrArg₂ (gdx V c) ?_ ?_
    · blk_simp [index_5, coord_val]; omega
    · blk_simp [index_5, coord_val]
  rw [e]
  rfl

end Cert.KernelIdeal.Region2

end
-- ==== Proof.IdealPoint3.lean ====
/-
  What one grid point of the fused pass `cc3_mlp_f2560` computes over the extended reals: its result block and what it adds
  to the two accumulators, as sums of products of the point's own blocks and of the weight slices.
-/
module

public import proofs.«01_k».proof.Proof.IdealBody3
public import proofs.«01_k».proof.Proof.IdealPoint

@[expose] public section

set_option maxRecDepth 16384
set_option maxHeartbeats 2000000

noncomputable section

namespace Cert.KernelIdeal.Body3

open Cert.KernelIdeal Cert.KernelIdeal.Gen Cert.KernelIdeal.Point
open Idealize.ShloMosaic Idealize.ShloMosaic.TcCoe

variable (c : Dev nD)
  (M1 : Memref sig .tc .vmem S512x1280 .fp8e4m3) (h1 : M1.IsWhole)
  (M2 : Memref sig .tc .vmem S512x10 .f32) (h2 : M2.IsWhole)
  (M3 : Memref sig .tc .vmem S512x1280 .fp8e5m2) (h3 : M3.IsWhole)
  (M4 : Memref sig .tc .vmem S512x10 .f32) (h4 : M4.IsWhole)
  (M5 : Memref sig .tc .vmem S512x1280 .f32) (h5 : M5.IsWhole)
  (M6 : Memref sig .tc .hbm S1280x6912 .bf16) (h6 : M6.IsWhole)
  (M7 : Memref sig .tc .hbm S3456x1280 .bf16) (h7 : M7.IsWhole)
  (M8 : Memref sig .tc .vmem S512x1280 .bf16) (h8 : M8.IsWhole)
  (M9 : Memref sig .tc .hbm S1280x1792 .f32) (h9 : M9.IsWhole)
  (M10 : Memref sig .tc .hbm S1280x896 .f32) (h10 : M10.IsWhole)
  (M11 : Memref sig .tc .vmem S1280x1792 .bf16) (h11 : M11.IsWhole)
  (M12 : Memref sig .tc .vmem S896x1280 .bf16) (h12 : M12.IsWhole)
  (M13 : Memref sig .tc .vmem S1280x1792 .f32) (h13 : M13.IsWhole)
  (M14 : Memref sig .tc .vmem S1280x896 .f32) (h14 : M14.IsWhole)
  (M15 : Memref sig .tc .vmem S512x1280 .bf16) (h15 : M15.IsWhole)
  (M16 : Memref sig .tc .vmem S512x1280 .bf16) (h16 : M16.IsWhole)
  (M17 : Memref sig .tc .vmem S1280x512 .bf16) (h17 : M17.IsWhole)
  (M18 : Memref sig .tc .vmem S1280x512 .bf16) (h18 : M18.IsWhole)
  (M19 : Memref sig .tc .vmem S512x896 .bf16) (h19 : M19.IsWhole)
  (M20 : Memref sig .tc .vmem S512x1792 .bf16) (h20 : M20.IsWhole)
  (x1 : Vec Ideal S512x1280 .fp8e4m3) (x2 : Vec Ideal S512x10 .f32) (x3 : Vec Ideal S512x1280 .fp8e5m2) (x4 : Vec Ideal S512x10 .f32) (x5 : Vec Ideal S512x1280 .f32)
  (xG : Vec Ideal S1280x1792 .bf16) (xD : Vec Ideal S896x1280 .bf16) (xA : Vec Ideal S1280x1792 .f32) (xB : Vec Ideal S1280x896 .f32)

/-- The point's rows of the first operand, scales multiplied in. -/
abbrev xf (x1 : Vec Ideal S512x1280 .fp8e4m3) (x2 : Vec Ideal S512x10 .f32) : ℕ → ℕ → EReal := fun i j => nat2 (a := 512) (b := 1280) x1 i j * nat2 (a := 512) (b := 10) x2 i (j / 128)
/-- The point's rows of the second operand, scales multiplied in. -/
abbrev yf (x3 : Vec Ideal S512x1280 .fp8e5m2) (x4 : Vec Ideal S512x10 .f32) : ℕ → ℕ → EReal := fun i j => nat2 (a := 512) (b := 1280) x3 i j * nat2 (a := 512) (b := 10) x4 i (j / 128)
/-- The weight slices. -/
abbrev gf (xG : Vec Ideal S1280x1792 .bf16) : ℕ → ℕ → EReal := nat2 (a := 1280) (b := 1792) xG
abbrev df (xD : Vec Ideal S896x1280 .bf16) : ℕ → ℕ → EReal := nat2 (a := 896) (b := 1280) xD

theorem mm_gu (x : FVec Ideal (Sh 512 256) .bf16) (w : FVec Ideal (Sh 256 512) .bf16) (i : Fin 512) (j : Fin 512) :
    matmul dot_S512x256_S256x512_S512x512_1_0_0_1_n_n none x w (constant (Sh 512 512) .f32 0x00000000#32) (ix2 i j) = ∑ k : Fin 256, x (ix2 i k) * w (ix2 k j) := by
  pointwise

theorem mm_dh (x : FVec Ideal (Sh 512 1280) .bf16) (w : FVec Ideal (Sh 256 1280) .bf16) (i : Fin 512) (j : Fin 256) :
    matmul dot_S512x1280_S256x1280_S512x256_1_1_0_0_n_n none x w (constant (Sh 512 256) .f32 0x00000000#32) (ix2 i j) = ∑ k : Fin 1280, x (ix2 i k) * w (ix2 j k) := by
  pointwise

theorem mm_gu3 (x : FVec Ideal (Sh 512 256) .bf16) (w : FVec Ideal (Sh 256 256) .bf16) (i : Fin 512) (j : Fin 256) :
    matmul dot_S512x256_S256x256_S512x256_1_0_0_1_n_n none x w (constant (Sh 512 256) .f32 0x00000000#32) (ix2 i j) = ∑ k : Fin 256, x (ix2 i k) * w (ix2 k j) := by
  pointwise

theorem mm_dh3 (x : FVec Ideal (Sh 512 1280) .bf16) (w : FVec Ideal (Sh 128 1280) .bf16) (i : Fin 512) (j : Fin 128) :
    matmul dot_S512x1280_S128x1280_S512x128_1_1_0_0_n_n none x w (constant (Sh 512 128) .f32 0x00000000#32) (ix2 i j) = ∑ k : Fin 1280, x (ix2 i k) * w (ix2 j k) := by
  pointwise

theorem mm_dx (x : FVec Ideal (Sh 512 1792) .bf16) (w : FVec Ideal (Sh 1280 1792) .bf16) (i : Fin 512) (j : Fin 1280) :
    matmul dot_S512x1792_S1280x1792_S512x1280_1_1_0_0_n_n none x w (constant (Sh 512 1280) .f32 0x00000000#32) (ix2 i j) = ∑ k : Fin 1792, x (ix2 i k) * w (ix2 j k) := by
  pointwise

theorem mm_ag (x : FVec Ideal (Sh 1280 512) .bf16) (w : FVec Ideal (Sh 512 1792) .bf16) (i : Fin 1280) (j : Fin 1792) :
    matmul dot_S1280x512_S512x1792_S1280x1792_1_0_0_1_n_n none x w (constant (Sh 1280 1792) .f32 0x00000000#32) (ix2 i j) = ∑ k : Fin 512, x (ix2 i k) * w (ix2 k j) := by
  pointwise

theorem mm_ad (x : FVec Ideal (Sh 1280 512) .bf16) (w : FVec Ideal (Sh 512 896) .bf16) (i : Fin 1280) (j : Fin 896) :
    matmul dot_S1280x512_S512x896_S1280x896_1_0_0_1_n_n none x w (constant (Sh 1280 896) .f32 0x00000000#32) (ix2 i j) = ∑ k : Fin 512, x (ix2 i k) * w (ix2 k j) := by
  pointwise

theorem reads_xb : Reads (a := 512) (b := 1280) (View.canon (run.sl.H15_10 (F := Ideal) M1 h1 M2 h2 x1 x2)) (fun i j => xf x1 x2 i j) := by
  refine reads_canon (View.cover_of_tiled_head _ _ _ rfl) ?_
  refine fit_cons 0 1152 _ _ (reads_dq _ _ _ _ _ _ _ (reads_load h1 (reads_nat2 x1) 0 1152 _) (reads_load h2 (reads_nat2 x2) 0 9 _)) ?_ ?_
  · intro i j hi hj; have e : (1152 + j) / 128 = 9 := by omega
    simp only [xf, e]; try simp only [Nat.add_zero, Nat.zero_add]
  refine fit_cons 0 1024 _ _ (reads_dq _ _ _ _ _ _ _ (reads_load h1 (reads_nat2 x1) 0 1024 _) (reads_load h2 (reads_nat2 x2) 0 8 _)) ?_ ?_
  · intro i j hi hj; have e : (1024 + j) / 128 = 8 := by omega
    simp only [xf, e]; try simp only [Nat.add_zero, Nat.zero_add]
  refine fit_cons 0 896 _ _ (reads_dq _ _ _ _ _ _ _ (reads_load h1 (reads_nat2 x1) 0 896 _) (reads_load h2 (reads_nat2 x2) 0 7 _)) ?_ ?_
  · intro i j hi hj; have e : (896 + j) / 128 = 7 := by omega
    simp only [xf, e]; try simp only [Nat.add_zero, Nat.zero_add]
  refine fit_cons 0 768 _ _ (reads_dq _ _ _ _ _ _ _ (reads_load h1 (reads_nat2 x1) 0 768 _) (reads_load h2 (reads_nat2 x2) 0 6 _)) ?_ ?_
  · intro i j hi hj; have e : (768 + j) / 128 = 6 := by omega
    simp only [xf, e]; try simp only [Nat.add_zero, Nat.zero_add]
  refine fit_cons 0 640 _ _ (reads_dq _ _ _ _ _ _ _ (reads_load h1 (reads_nat2 x1) 0 640 _) (reads_load h2 (reads_nat2 x2) 0 5 _)) ?_ ?_
  · intro i j hi hj; have e : (640 + j) / 128 = 5 := by omega
    simp only [xf, e]; try simp only [Nat.add_zero, Nat.zero_add]
  refine fit_cons 0 512 _ _ (reads_dq _ _ _ _ _ _ _ (reads_load h1 (reads_nat2 x1) 0 512 _) (reads_load h2 (reads_nat2 x2) 0 4 _)) ?_ ?_
  · intro i j hi hj; have e : (512 + j) / 128 = 4 := by omega
    simp only [xf, e]; try simp only [Nat.add_zero, Nat.zero_add]
  refine fit_cons 0 384 _ _ (reads_dq _ _ _ _ _ _ _ (reads_load h1 (reads_nat2 x1) 0 384 _) (reads_load h2 (reads_nat2 x2) 0 3 _)) ?_ ?_
  · intro i j hi hj; have e : (384 + j) / 128 = 3 := by omega
    simp only [xf, e]; try simp only [Nat.add_zero, Nat.zero_add]
  dsimp only [run.sl.H15_3, run.sl.r, run.sl.r_1, k3_pay16, k3_pay17, k3_pay18, k3_pay19]
  refine fit_cons 0 256 _ _ (reads_dq _ _ _ _ _ _ _ (reads_load h1 (reads_nat2 x1) 0 256 _) (reads_load h2 (reads_nat2 x2) 0 2 _)) ?_ ?_
  · intro i j hi hj; have e : (256 + j) / 128 = 2 := by omega
    simp only [xf, e]; try simp only [Nat.add_zero, Nat.zero_add]
  refine fit_cons 0 128 _ _ (reads_dq _ _ _ _ _ _ _ (reads_load h1 (reads_nat2 x1) 0 128 _) (reads_load h2 (reads_nat2 x2) 0 1 _)) ?_ ?_
  · intro i j hi hj; have e : (128 + j) / 128 = 1 := by omega
    simp only [xf, e]; try simp only [Nat.add_zero, Nat.zero_add]
  refine fit_cons 0 0 _ _ (reads_dq _ _ _ _ _ _ _ (reads_load h1 (reads_nat2 x1) 0 0 _) (reads_load h2 (reads_nat2 x2) 0 0 _)) ?_ ?_
  · intro i j hi hj; have e : (0 + j) / 128 = 0 := by omega
    simp only [xf, e]; try simp only [Nat.add_zero, Nat.zero_add]
  exact fit_nil _

theorem reads_yb : Reads (a := 512) (b := 1280) (View.canon (run.sl.H16_10 (F := Ideal) M3 h3 M4 h4 x3 x4)) (fun i j => yf x3 x4 i j) := by
  refine reads_canon (View.cover_of_tiled_head _ _ _ rfl) ?_
  refine fit_cons 0 1152 _ _ (reads_dq _ _ _ _ _ _ _ (reads_load h3 (reads_nat2 x3) 0 1152 _) (reads_load h4 (reads_nat2 x4) 0 9 _)) ?_ ?_
  · intro i j hi hj; have e : (1152 + j) / 128 = 9 := by omega
    simp only [yf, e]; try simp only [Nat.add_zero, Nat.zero_add]
  refine fit_cons 0 1024 _ _ (reads_dq _ _ _ _ _ _ _ (reads_load h3 (reads_nat2 x3) 0 1024 _) (reads_load h4 (reads_nat2 x4) 0 8 _)) ?_ ?_
  · intro i j hi hj; have e : (1024 + j) / 128 = 8 := by omega
    simp only [yf, e]; try simp only [Nat.add_zero, Nat.zero_add]
  refine fit_cons 0 896 _ _ (reads_dq _ _ _ _ _ _ _ (reads_load h3 (reads_nat2 x3) 0 896 _) (reads_load h4 (reads_nat2 x4) 0 7 _)) ?_ ?_
  · intro i j hi hj; have e : (896 + j) / 128 = 7 := by omega
    simp only [yf, e]; try simp only [Nat.add_zero, Nat.zero_add]
  refine fit_cons 0 768 _ _ (reads_dq _ _ _ _ _ _ _ (reads_load h3 (reads_nat2 x3) 0 768 _) (reads_load h4 (reads_nat2 x4) 0 6 _)) ?_ ?_
  · intro i j hi hj; have e : (768 + j) / 128 = 6 := by omega
    simp only [yf, e]; try simp only [Nat.add_zero, Nat.zero_add]
  refine fit_cons 0 640 _ _ (reads_dq _ _ _ _ _ _ _ (reads_load h3 (reads_nat2 x3) 0 640 _) (reads_load h4 (reads_nat2 x4) 0 5 _)) ?_ ?_
  · intro i j hi hj; have e : (640 + j) / 128 = 5 := by omega
    simp only [yf, e]; try simp only [Nat.add_zero, Nat.zero_add]
  refine fit_cons 0 512 _ _ (reads_dq _ _ _ _ _ _ _ (reads_load h3 (reads_nat2 x3) 0 512 _) (reads_load h4 (reads_nat2 x4) 0 4 _)) ?_ ?_
  · intro i j hi hj; have e : (512 + j) / 128 = 4 := by omega
    simp only [yf, e]; try simp only [Nat.add_zero, Nat.zero_add]
  refine fit_cons 0 384 _ _ (reads_dq _ _ _ _ _ _ _ (reads_load h3 (reads_nat2 x3) 0 384 _) (reads_load h4 (reads_nat2 x4) 0 3 _)) ?_ ?_
  · intro i j hi hj; have e : (384 + j) / 128 = 3 := by omega
    simp only [yf, e]; try simp only [Nat.add_zero, Nat.zero_add]
  refine fit_cons 0 256 _ _ (reads_dq _ _ _ _ _ _ _ (reads_load h3 (reads_nat2 x3) 0 256 _) (reads_load h4 (reads_nat2 x4) 0 2 _)) ?_ ?_
  · intro i j hi hj; have e : (256 + j) / 128 = 2 := by omega
    simp only [yf, e]; try simp only [Nat.add_zero, Nat.zero_add]
  refine fit_cons 0 128 _ _ (reads_dq _ _ _ _ _ _ _ (reads_load h3 (reads_nat2 x3) 0 128 _) (reads_load h4 (reads_nat2 x4) 0 1 _)) ?_ ?_
  · intro i j hi hj; have e : (128 + j) / 128 = 1 := by omega
    simp only [yf, e]; try simp only [Nat.add_zero, Nat.zero_add]
  refine fit_cons 0 0 _ _ (reads_dq _ _ _ _ _ _ _ (reads_load h3 (reads_nat2 x3) 0 0 _) (reads_load h4 (reads_nat2 x4) 0 0 _)) ?_ ?_
  · intro i j hi hj; have e : (0 + j) / 128 = 0 := by omega
    simp only [yf, e]; try simp only [Nat.add_zero, Nat.zero_add]
  exact fit_nil _

theorem reads_xt : Reads (a := 1280) (b := 512) (View.canon (run.sl.H17_10 (F := Ideal) M1 h1 M2 h2 x1 x2)) (fun i j => xf x1 x2 j i) := by
  refine reads_canon (View.cover_of_tiled_head _ _ _ rfl) ?_
  refine fit_cons 1152 0 _ _ (reads_dqT _ _ _ _ _ _ _ _ (reads_load h1 (reads_nat2 x1) 0 1152 _) (reads_load h2 (reads_nat2 x2) 0 9 _)) ?_ ?_
  · intro i j hi hj; have e : (1152 + i) / 128 = 9 := by omega
    simp only [xf, e]; try simp only [Nat.add_zero, Nat.zero_add]
  refine fit_cons 1024 0 _ _ (reads_dqT _ _ _ _ _ _ _ _ (reads_load h1 (reads_nat2 x1) 0 1024 _) (reads_load h2 (reads_nat2 x2) 0 8 _)) ?_ ?_
  · intro i j hi hj; have e : (1024 + i) / 128 = 8 := by omega
    simp only [xf, e]; try simp only [Nat.add_zero, Nat.zero_add]
  refine fit_cons 896 0 _ _ (reads_dqT _ _ _ _ _ _ _ _ (reads_load h1 (reads_nat2 x1) 0 896 _) (reads_load h2 (reads_nat2 x2) 0 7 _)) ?_ ?_
  · intro i j hi hj; have e : (896 + i) / 128 = 7 := by omega
    simp only [xf, e]; try simp only [Nat.add_zero, Nat.zero_add]
  refine fit_cons 768 0 _ _ (reads_dqT _ _ _ _ _ _ _ _ (reads_load h1 (reads_nat2 x1) 0 768 _) (reads_load h2 (reads_nat2 x2) 0 6 _)) ?_ ?_
  · intro i j hi hj; have e : (768 + i) / 128 = 6 := by omega
    simp only [xf, e]; try simp only [Nat.add_zero, Nat.zero_add]
  refine fit_cons 640 0 _ _ (reads_dqT _ _ _ _ _ _ _ _ (reads_load h1 (reads_nat2 x1) 0 640 _) (reads_load h2 (reads_nat2 x2) 0 5 _)) ?_ ?_
  · intro i j hi hj; have e : (640 + i) / 128 = 5 := by omega
    simp only [xf, e]; try simp only [Nat.add_zero, Nat.zero_add]
  refine fit_cons 512 0 _ _ (reads_dqT _ _ _ _ _ _ _ _ (reads_load h1 (reads_nat2 x1) 0 512 _) (reads_load h2 (reads_nat2 x2) 0 4 _)) ?_ ?_
  · intro i j hi hj; have e : (512 + i) / 128 = 4 := by omega
    simp only [xf, e]; try simp only [Nat.add_zero, Nat.zero_add]
  refine fit_cons 384 0 _ _ (reads_dqT _ _ _ _ _ _ _ _ (reads_load h1 (reads_nat2 x1) 0 384 _) (reads_load h2 (reads_nat2 x2) 0 3 _)) ?_ ?_
  · intro i j hi hj; have e : (384 + i) / 128 = 3 := by omega
    simp only [xf, e]; try simp only [Nat.add_zero, Nat.zero_add]
  dsimp only [run.sl.H17_3, run.sl.r, run.sl.r_1, k3_pay16, k3_pay17, k3_pay18, k3_pay20]
  refine fit_cons 256 0 _ _ (reads_dqT _ _ _ _ _ _ _ _ (reads_load h1 (reads_nat2 x1) 0 256 _) (reads_load h2 (reads_nat2 x2) 0 2 _)) ?_ ?_
  · intro i j hi hj; have e : (256 + i) / 128 = 2 := by omega
    simp only [xf, e]; try simp only [Nat.add_zero, Nat.zero_add]
  refine fit_cons 128 0 _ _ (reads_dqT _ _ _ _ _ _ _ _ (reads_load h1 (reads_nat2 x1) 0 128 _) (reads_load h2 (reads_nat2 x2) 0 1 _)) ?_ ?_
  · intro i j hi hj; have e : (128 + i) / 128 = 1 := by omega
    simp only [xf, e]; try simp only [Nat.add_zero, Nat.zero_add]
  refine fit_cons 0 0 _ _ (reads_dqT _ _ _ _ _ _ _ _ (reads_load h1 (reads_nat2 x1) 0 0 _) (reads_load h2 (reads_nat2 x2) 0 0 _)) ?_ ?_
  · intro i j hi hj; have e : (0 + i) / 128 = 0 := by omega
    simp only [xf, e]; try simp only [Nat.add_zero, Nat.zero_add]
  exact fit_nil _

theorem reads_yt : Reads (a := 1280) (b := 512) (View.canon (run.sl.H18_10 (F := Ideal) M3 h3 M4 h4 x3 x4)) (fun i j => yf x3 x4 j i) := by
  refine reads_canon (View.cover_of_tiled_head _ _ _ rfl) ?_
  refine fit_cons 1152 0 _ _ (reads_dqT _ _ _ _ _ _ _ _ (reads_load h3 (reads_nat2 x3) 0 1152 _) (reads_load h4 (reads_nat2 x4) 0 9 _)) ?_ ?_
  · intro i j hi hj; have e : (1152 + i) / 128 = 9 := by omega
    simp only [yf, e]; try simp only [Nat.add_zero, Nat.zero_add]
  refine fit_cons 1024 0 _ _ (reads_dqT _ _ _ _ _ _ _ _ (reads_load h3 (reads_nat2 x3) 0 1024 _) (reads_load h4 (reads_nat2 x4) 0 8 _)) ?_ ?_
  · intro i j hi hj; have e : (1024 + i) / 128 = 8 := by omega
    simp only [yf, e]; try simp only [Nat.add_zero, Nat.zero_add]
  refine fit_cons 896 0 _ _ (reads_dqT _ _ _ _ _ _ _ _ (reads_load h3 (reads_nat2 x3) 0 896 _) (reads_load h4 (reads_nat2 x4) 0 7 _)) ?_ ?_
  · intro i j hi hj; have e : (896 + i) / 128 = 7 := by omega
    simp only [yf, e]; try simp only [Nat.add_zero, Nat.zero_add]
  refine fit_cons 768 0 _ _ (reads_dqT _ _ _ _ _ _ _ _ (reads_load h3 (reads_nat2 x3) 0 768 _) (reads_load h4 (reads_nat2 x4) 0 6 _)) ?_ ?_
  · intro i j hi hj; have e : (768 + i) / 128 = 6 := by omega
    simp only [yf, e]; try simp only [Nat.add_zero, Nat.zero_add]
  refine fit_cons 640 0 _ _ (reads_dqT _ _ _ _ _ _ _ _ (reads_load h3 (reads_nat2 x3) 0 640 _) (reads_load h4 (reads_nat2 x4) 0 5 _)) ?_ ?_
  · intro i j hi hj; have e : (640 + i) / 128 = 5 := by omega
    simp only [yf, e]; try simp only [Nat.add_zero, Nat.zero_add]
  refine fit_cons 512 0 _ _ (reads_dqT _ _ _ _ _ _ _ _ (reads_load h3 (reads_nat2 x3) 0 512 _) (reads_load h4 (reads_nat2 x4) 0 4 _)) ?_ ?_
  · intro i j hi hj; have e : (512 + i) / 128 = 4 := by omega
    simp only [yf, e]; try simp only [Nat.add_zero, Nat.zero_add]
  refine fit_cons 384 0 _ _ (reads_dqT _ _ _ _ _ _ _ _ (reads_load h3 (reads_nat2 x3) 0 384 _) (reads_load h4 (reads_nat2 x4) 0 3 _)) ?_ ?_
  · intro i j hi hj; have e : (384 + i) / 128 = 3 := by omega
    simp only [yf, e]; try simp only [Nat.add_zero, Nat.zero_add]
  refine fit_cons 256 0 _ _ (reads_dqT _ _ _ _ _ _ _ _ (reads_load h3 (reads_nat2 x3) 0 256 _) (reads_load h4 (reads_nat2 x4) 0 2 _)) ?_ ?_
  · intro i j hi hj; have e : (256 + i) / 128 = 2 := by omega
    simp only [yf, e]; try simp only [Nat.add_zero, Nat.zero_add]
  refine fit_cons 128 0 _ _ (reads_dqT _ _ _ _ _ _ _ _ (reads_load h3 (reads_nat2 x3) 0 128 _) (reads_load h4 (reads_nat2 x4) 0 1 _)) ?_ ?_
  · intro i j hi hj; have e : (128 + i) / 128 = 1 := by omega
    simp only [yf, e]; try simp only [Nat.add_zero, Nat.zero_add]
  refine fit_cons 0 0 _ _ (reads_dqT _ _ _ _ _ _ _ _ (reads_load h3 (reads_nat2 x3) 0 0 _) (reads_load h4 (reads_nat2 x4) 0 0 _)) ?_ ?_
  · intro i j hi hj; have e : (0 + i) / 128 = 0 := by omega
    simp only [yf, e]; try simp only [Nat.add_zero, Nat.zero_add]
  exact fit_nil _

theorem gu_0 : Reads (a := 512) (b := 512) (run.sl.r_9 (F := Ideal) M1 h1 M2 h2 M11 h11 M15 x1 x2 xG) (fun i j => S 1280 (xf x1 x2) (gf xG) i (0 + j)) :=
  reads_five mm_gu 0
    (reads_cov M15.view (reads_xb M1 h1 M2 h2 x1 x2) 0 0 _) (reads_load h11 (reads_nat2 xG) 0 0 _)
    (reads_cov M15.view (reads_xb M1 h1 M2 h2 x1 x2) 0 256 _) (reads_load h11 (reads_nat2 xG) 256 0 _)
    (reads_cov M15.view (reads_xb M1 h1 M2 h2 x1 x2) 0 512 _) (reads_load h11 (reads_nat2 xG) 512 0 _)
    (reads_cov M15.view (reads_xb M1 h1 M2 h2 x1 x2) 0 768 _) (reads_load h11 (reads_nat2 xG) 768 0 _)
    (reads_cov M15.view (reads_xb M1 h1 M2 h2 x1 x2) 0 1024 _) (reads_load h11 (reads_nat2 xG) 1024 0 _)

theorem dh_0 : Reads (a := 512) (b := 256) (run.sl.r_10 (F := Ideal) M3 h3 M4 h4 M12 h12 M16 x3 x4 xD) (fun i j => Point.T 1280 (yf x3 x4) (df xD) i (0 + j)) := by
  refine (reads_mmT (mm_dh _ _) (reads_cov M16.view (reads_yb M3 h3 M4 h4 x3 x4) 0 0 _) (reads_load h12 (reads_nat2 xD) 0 0 _)).congr ?_
  intro i j _ _
  simp only [Point.T, Nat.zero_add]

theorem gu_1 : Reads (a := 512) (b := 512) (run.sl.r_24 (F := Ideal) M1 h1 M2 h2 M11 h11 M15 x1 x2 xG) (fun i j => S 1280 (xf x1 x2) (gf xG) i (512 + j)) :=
  reads_five mm_gu 512
    (reads_cov M15.view (reads_xb M1 h1 M2 h2 x1 x2) 0 0 _) (reads_load h11 (reads_nat2 xG) 0 512 _)
    (reads_cov M15.view (reads_xb M1 h1 M2 h2 x1 x2) 0 256 _) (reads_load h11 (reads_nat2 xG) 256 512 _)
    (reads_cov M15.view (reads_xb M1 h1 M2 h2 x1 x2) 0 512 _) (reads_load h11 (reads_nat2 xG) 512 512 _)
    (reads_cov M15.view (reads_xb M1 h1 M2 h2 x1 x2) 0 768 _) (reads_load h11 (reads_nat2 xG) 768 512 _)
    (reads_cov M15.view (reads_xb M1 h1 M2 h2 x1 x2) 0 1024 _) (reads_load h11 (reads_nat2 xG) 1024 512 _)

theorem dh_1 : Reads (a := 512) (b := 256) (run.sl.r_25 (F := Ideal) M3 h3 M4 h4 M12 h12 M16 x3 x4 xD) (fun i j => Point.T 1280 (yf x3 x4) (df xD) i (256 + j)) := by
  refine (reads_mmT (mm_dh _ _) (reads_cov M16.view (reads_yb M3 h3 M4 h4 x3 x4) 0 0 _) (reads_load h12 (reads_nat2 xD) 256 0 _)).congr ?_
  intro i j _ _
  simp only [Point.T, Nat.zero_add]

theorem gu_2 : Reads (a := 512) (b := 512) (run.sl.r_34 (F := Ideal) M1 h1 M2 h2 M11 h11 M15 x1 x2 xG) (fun i j => S 1280 (xf x1 x2) (gf xG) i (1024 + j)) :=
  reads_five mm_gu 1024
    (reads_cov M15.view (reads_xb M1 h1 M2 h2 x1 x2) 0 0 _) (reads_load h11 (reads_nat2 xG) 0 1024 _)
    (reads_cov M15.view (reads_xb M1 h1 M2 h2 x1 x2) 0 256 _) (reads_load h11 (reads_nat2 xG) 256 1024 _)
    (reads_cov M15.view (reads_xb M1 h1 M2 h2 x1 x2) 0 512 _) (reads_load h11 (reads_nat2 xG) 512 1024 _)
    (reads_cov M15.view (reads_xb M1 h1 M2 h2 x1 x2) 0 768 _) (reads_load h11 (reads_nat2 xG) 768 1024 _)
    (reads_cov M15.view (reads_xb M1 h1 M2 h2 x1 x2) 0 1024 _) (reads_load h11 (reads_nat2 xG) 1024 1024 _)

theorem dh_2 : Reads (a := 512) (b := 256) (run.sl.r_35 (F := Ideal) M3 h3 M4 h4 M12 h12 M16 x3 x4 xD) (fun i j => Point.T 1280 (yf x3 x4) (df xD) i (512 + j)) := by
  refine (reads_mmT (mm_dh _ _) (reads_cov M16.view (reads_yb M3 h3 M4 h4 x3 x4) 0 0 _) (reads_load h12 (reads_nat2 xD) 512 0 _)).congr ?_
  intro i j _ _
  simp only [Point.T, Nat.zero_add]

theorem gu_3 : Reads (a := 512) (b := 256) (k3_pay147 (run.sl.r_42 (F := Ideal) M1 h1 M2 h2 M11 h11 M15 x1 x2 xG) (run.sl.r_43 (F := Ideal) M1 h1 M2 h2 M11 h11 M15 x1 x2 xG)) (fun i j => S 1280 (xf x1 x2) (gf xG) i (1536 + j)) :=
  reads_five mm_gu3 1536
    (reads_cov M15.view (reads_xb M1 h1 M2 h2 x1 x2) 0 0 _) (reads_load h11 (reads_nat2 xG) 0 1536 _)
    (reads_cov M15.view (reads_xb M1 h1 M2 h2 x1 x2) 0 256 _) (reads_load h11 (reads_nat2 xG) 256 1536 _)
    (reads_cov M15.view (reads_xb M1 h1 M2 h2 x1 x2) 0 512 _) (reads_load h11 (reads_nat2 xG) 512 1536 _)
    (reads_cov M15.view (reads_xb M1 h1 M2 h2 x1 x2) 0 768 _) (reads_load h11 (reads_nat2 xG) 768 1536 _)
    (reads_cov M15.view (reads_xb M1 h1 M2 h2 x1 x2) 0 1024 _) (reads_load h11 (reads_nat2 xG) 1024 1536 _)

theorem dh_3 : Reads (a := 512) (b := 128) (k3_pay148 (F := Ideal) (run.sl.v342 (F := Ideal) M3 h3 M4 h4 M16 x3 x4) (View.readAt (Elt Ideal) M12.view (Rect.unit (s := S896x1280) ![768, 0] S128x1280.size inb_S896x1280_S128x1280_768_0).toLoadRect (h12.unread xD))) (fun i j => Point.T 1280 (yf x3 x4) (df xD) i (768 + j)) := by
  refine (reads_mmT (mm_dh3 _ _) (reads_cov M16.view (reads_yb M3 h3 M4 h4 x3 x4) 0 0 _) (reads_load h12 (reads_nat2 xD) 768 0 _)).congr ?_
  intro i j _ _
  simp only [Point.T, Nat.zero_add]

theorem reads_hb : Reads (a := 512) (b := 896) (View.canon (run.sl.H19_7 (F := Ideal) M1 h1 M2 h2 M11 h11 M15 x1 x2 xG)) (hb (xf x1 x2) (gf xG)) := by
  refine reads_canon (View.cover_of_tiled_head _ _ _ rfl) ?_
  refine fit_cons 0 768 _ _ (reads_h _ _ (reads_slice 0 0 slices_S512x256_o0_0_S512x128 (gu_3 M1 h1 M2 h2 M11 h11 M15 x1 x2 xG)) (reads_slice 0 128 slices_S512x256_o0_128_S512x128 (gu_3 M1 h1 M2 h2 M11 h11 M15 x1 x2 xG))) ?_ ?_
  · intro i j hi hj
    have e : gam (768 + j) = 1536 + (0 + j) := by unfold gam; omega
    have e2 : gam (768 + j) + 128 = 1536 + (128 + j) := by omega
    unfold hb; rw [e2, e]
  refine fit_cons 0 640 _ _ (reads_h _ _ (reads_slice 0 256 slices_S512x512_o0_256_S512x128 (gu_2 M1 h1 M2 h2 M11 h11 M15 x1 x2 xG)) (reads_slice 0 384 slices_S512x512_o0_384_S512x128 (gu_2 M1 h1 M2 h2 M11 h11 M15 x1 x2 xG))) ?_ ?_
  · intro i j hi hj
    have e : gam (640 + j) = 1024 + (256 + j) := by unfold gam; omega
    have e2 : gam (640 + j) + 128 = 1024 + (384 + j) := by omega
    unfold hb; rw [e2, e]
  refine fit_cons 0 512 _ _ (reads_h _ _ (reads_slice 0 0 slices_S512x512_o0_0_S512x128 (gu_2 M1 h1 M2 h2 M11 h11 M15 x1 x2 xG)) (reads_slice 0 128 slices_S512x512_o0_128_S512x128 (gu_2 M1 h1 M2 h2 M11 h11 M15 x1 x2 xG))) ?_ ?_
  · intro i j hi hj
    have e : gam (512 + j) = 1024 + (0 + j) := by unfold gam; omega
    have e2 : gam (512 + j) + 128 = 1024 + (128 + j) := by omega
    unfold hb; rw [e2, e]
  refine fit_cons 0 384 _ _ (reads_h _ _ (reads_slice 0 256 slices_S512x512_o0_256_S512x128 (gu_1 M1 h1 M2 h2 M11 h11 M15 x1 x2 xG)) (reads_slice 0 384 slices_S512x512_o0_384_S512x128 (gu_1 M1 h1 M2 h2 M11 h11 M15 x1 x2 xG))) ?_ ?_
  · intro i j hi hj
    have e : gam (384 + j) = 512 + (256 + j) := by unfold gam; omega
    have e2 : gam (384 + j) + 128 = 512 + (384 + j) := by omega
    unfold hb; rw [e2, e]
  refine fit_cons 0 256 _ _ (reads_h _ _ (reads_slice 0 0 slices_S512x512_o0_0_S512x128 (gu_1 M1 h1 M2 h2 M11 h11 M15 x1 x2 xG)) (reads_slice 0 128 slices_S512x512_o0_128_S512x128 (gu_1 M1 h1 M2 h2 M11 h11 M15 x1 x2 xG))) ?_ ?_
  · intro i j hi hj
    have e : gam (256 + j) = 512 + (0 + j) := by unfold gam; omega
    have e2 : gam (256 + j) + 128 = 512 + (128 + j) := by omega
    unfold hb; rw [e2, e]
  refine fit_cons 0 128 _ _ (reads_h _ _ (reads_slice 0 256 slices_S512x512_o0_256_S512x128 (gu_0 M1 h1 M2 h2 M11 h11 M15 x1 x2 xG)) (reads_slice 0 384 slices_S512x512_o0_384_S512x128 (gu_0 M1 h1 M2 h2 M11 h11 M15 x1 x2 xG))) ?_ ?_
  · intro i j hi hj
    have e : gam (128 + j) = 0 + (256 + j) := by unfold gam; omega
    have e2 : gam (128 + j) + 128 = 0 + (384 + j) := by omega
    unfold hb; rw [e2, e]
  refine fit_cons 0 0 _ _ (reads_h _ _ (reads_slice 0 0 slices_S512x512_o0_0_S512x128 (gu_0 M1 h1 M2 h2 M11 h11 M15 x1 x2 xG)) (reads_slice 0 128 slices_S512x512_o0_128_S512x128 (gu_0 M1 h1 M2 h2 M11 h11 M15 x1 x2 xG))) ?_ ?_
  · intro i j hi hj
    have e : gam (0 + j) = 0 + (0 + j) := by unfold gam; omega
    have e2 : gam (0 + j) + 128 = 0 + (128 + j) := by omega
    unfold hb; rw [e2, e]
  exact fit_nil _

theorem reads_dgu : Reads (a := 512) (b := 1792) (View.canon (run.sl.H20_14 (F := Ideal) M1 h1 M2 h2 M3 h3 M4 h4 M11 h11 M12 h12 M15 M16 x1 x2 x3 x4 xG xD)) (dgu (xf x1 x2) (yf x3 x4) (gf xG) (df xD)) := by
  refine reads_canon (View.cover_of_tiled_head _ _ _ rfl) ?_
  refine fit_cons 0 1664 _ _ (reads_du _ _ (reads_slice 0 0 slices_S512x256_o0_0_S512x128 (gu_3 M1 h1 M2 h2 M11 h11 M15 x1 x2 xG)) (reads_slice 0 128 slices_S512x256_o0_128_S512x128 (gu_3 M1 h1 M2 h2 M11 h11 M15 x1 x2 xG)) (dh_3 M3 h3 M4 h4 M12 h12 M16 x3 x4 xD)) ?_ ?_
  · intro i j hi hj
    have e0 : fea (1664 + j) = 768 + j := by unfold fea; omega
    have e : gam (768 + j) = 1536 + (0 + j) := by unfold gam; omega
    have e2 : gam (768 + j) + 128 = 1536 + (128 + j) := by omega
    unfold dgu; rw [if_neg (show ¬ (1664 + j) % 256 < 128 by omega), e0, e2, e, Nat.zero_add]
  refine fit_cons 0 1536 _ _ (reads_dg _ _ (reads_slice 0 0 slices_S512x256_o0_0_S512x128 (gu_3 M1 h1 M2 h2 M11 h11 M15 x1 x2 xG)) (reads_slice 0 128 slices_S512x256_o0_128_S512x128 (gu_3 M1 h1 M2 h2 M11 h11 M15 x1 x2 xG)) (dh_3 M3 h3 M4 h4 M12 h12 M16 x3 x4 xD)) ?_ ?_
  · intro i j hi hj
    have e0 : fea (1536 + j) = 768 + j := by unfold fea; omega
    have e : gam (768 + j) = 1536 + (0 + j) := by unfold gam; omega
    have e2 : gam (768 + j) + 128 = 1536 + (128 + j) := by omega
    unfold dgu; rw [if_pos (show (1536 + j) % 256 < 128 by omega), e0, e2, e, Nat.zero_add]
  refine fit_cons 0 1408 _ _ (reads_du _ _ (reads_slice 0 256 slices_S512x512_o0_256_S512x128 (gu_2 M1 h1 M2 h2 M11 h11 M15 x1 x2 xG)) (reads_slice 0 384 slices_S512x512_o0_384_S512x128 (gu_2 M1 h1 M2 h2 M11 h11 M15 x1 x2 xG)) (reads_slice 0 128 slices_S512x256_o0_128_S512x128 (dh_2 M3 h3 M4 h4 M12 h12 M16 x3 x4 xD))) ?_ ?_
  · intro i j hi hj
    have e0 : fea (1408 + j) = 512 + (128 + j) := by unfold fea; omega
    have e : gam (512 + (128 + j)) = 1024 + (256 + j) := by unfold gam; omega
    have e2 : gam (512 + (128 + j)) + 128 = 1024 + (384 + j) := by omega
    unfold dgu; rw [if_neg (show ¬ (1408 + j) % 256 < 128 by omega), e0, e2, e, Nat.zero_add]
  refine fit_cons 0 1280 _ _ (reads_dg _ _ (reads_slice 0 256 slices_S512x512_o0_256_S512x128 (gu_2 M1 h1 M2 h2 M11 h11 M15 x1 x2 xG)) (reads_slice 0 384 slices_S512x512_o0_384_S512x128 (gu_2 M1 h1 M2 h2 M11 h11 M15 x1 x2 xG)) (reads_slice 0 128 slices_S512x256_o0_128_S512x128 (dh_2 M3 h3 M4 h4 M12 h12 M16 x3 x4 xD))) ?_ ?_
  · intro i j hi hj
    have e0 : fea (1280 + j) = 512 + (128 + j) := by unfold fea; omega
    have e : gam (512 + (128 + j)) = 1024 + (256 + j) := by unfold gam; omega
    have e2 : gam (512 + (128 + j)) + 128 = 1024 + (384 + j) := by omega
    unfold dgu; rw [if_pos (show (1280 + j) % 256 < 128 by omega), e0, e2, e, Nat.zero_add]
  refine fit_cons 0 1152 _ _ (reads_du _ _ (reads_slice 0 0 slices_S512x512_o0_0_S512x128 (gu_2 M1 h1 M2 h2 M11 h11 M15 x1 x2 xG)) (reads_slice 0 128 slices_S512x512_o0_128_S512x128 (gu_2 M1 h1 M2 h2 M11 h11 M15 x1 x2 xG)) (reads_slice 0 0 slices_S512x256_o0_0_S512x128 (dh_2 M3 h3 M4 h4 M12 h12 M16 x3 x4 xD))) ?_ ?_
  · intro i j hi hj
    have e0 : fea (1152 + j) = 512 + (0 + j) := by unfold fea; omega
    have e : gam (512 + (0 + j)) = 1024 + (0 + j) := by unfold gam; omega
    have e2 : gam (512 + (0 + j)) + 128 = 1024 + (128 + j) := by omega
    unfold dgu; rw [if_neg (show ¬ (1152 + j) % 256 < 128 by omega), e0, e2, e, Nat.zero_add]
  refine fit_cons 0 1024 _ _ (reads_dg _ _ (reads_slice 0 0 slices_S512x512_o0_0_S512x128 (gu_2 M1 h1 M2 h2 M11 h11 M15 x1 x2 xG)) (reads_slice 0 128 slices_S512x512_o0_128_S512x128 (gu_2 M1 h1 M2 h2 M11 h11 M15 x1 x2 xG)) (reads_slice 0 0 slices_S512x256_o0_0_S512x128 (dh_2 M3 h3 M4 h4 M12 h12 M16 x3 x4 xD))) ?_ ?_
  · intro i j hi hj
    have e0 : fea (1024 + j) = 512 + (0 + j) := by unfold fea; omega
    have e : gam (512 + (0 + j)) = 1024 + (0 + j) := by unfold gam; omega
    have e2 : gam (512 + (0 + j)) + 128 = 1024 + (128 + j) := by omega
    unfold dgu; rw [if_pos (show (1024 + j) % 256 < 128 by omega), e0, e2, e, Nat.zero_add]
  refine fit_cons 0 896 _ _ (reads_du _ _ (reads_slice 0 256 slices_S512x512_o0_256_S512x128 (gu_1 M1 h1 M2 h2 M11 h11 M15 x1 x2 xG)) (reads_slice 0 384 slices_S512x512_o0_384_S512x128 (gu_1 M1 h1 M2 h2 M11 h11 M15 x1 x2 xG)) (reads_slice 0 128 slices_S512x256_o0_128_S512x128 (dh_1 M3 h3 M4 h4 M12 h12 M16 x3 x4 xD))) ?_ ?_
  · intro i j hi hj
    have e0 : fea (896 + j) = 256 + (128 + j) := by unfold fea; omega
    have e : gam (256 + (128 + j)) = 512 + (256 + j) := by unfold gam; omega
    have e2 : gam (256 + (128 + j)) + 128 = 512 + (384 + j) := by omega
    unfold dgu; rw [if_neg (show ¬ (896 + j) % 256 < 128 by omega), e0, e2, e, Nat.zero_add]
  refine fit_cons 0 768 _ _ (reads_dg _ _ (reads_slice 0 256 slices_S512x512_o0_256_S512x128 (gu_1 M1 h1 M2 h2 M11 h11 M15 x1 x2 xG)) (reads_slice 0 384 slices_S512x512_o0_384_S512x128 (gu_1 M1 h1 M2 h2 M11 h11 M15 x1 x2 xG)) (reads_slice 0 128 slices_S512x256_o0_128_S512x128 (dh_1 M3 h3 M4 h4 M12 h12 M16 x3 x4 xD))) ?_ ?_
  · intro i j hi hj
    have e0 : fea (768 + j) = 256 + (128 + j) := by unfold fea; omega
    have e : gam (256 + (128 + j)) = 512 + (256 + j) := by unfold gam; omega
    have e2 : gam (256 + (128 + j)) + 128 = 512 + (384 + j) := by omega
    unfold dgu; rw [if_pos (show (768 + j) % 256 < 128 by omega), e0, e2, e, Nat.zero_add]
  refine fit_cons 0 640 _ _ (reads_du _ _ (reads_slice 0 0 slices_S512x512_o0_0_S512x128 (gu_1 M1 h1 M2 h2 M11 h11 M15 x1 x2 xG)) (reads_slice 0 128 slices_S512x512_o0_128_S512x128 (gu_1 M1 h1 M2 h2 M11 h11 M15 x1 x2 xG)) (reads_slice 0 0 slices_S512x256_o0_0_S512x128 (dh_1 M3 h3 M4 h4 M12 h12 M16 x3 x4 xD))) ?_ ?_
  · intro i j hi hj
    have e0 : fea (640 + j) = 256 + (0 + j) := by unfold fea; omega
    have e : gam (256 + (0 + j)) = 512 + (0 + j) := by unfold gam; omega
    have e2 : gam (256 + (0 + j)) + 128 = 512 + (128 + j) := by omega
    unfold dgu; rw [if_neg (show ¬ (640 + j) % 256 < 128 by omega), e0, e2, e, Nat.zero_add]
  refine fit_cons 0 512 _ _ (reads_dg _ _ (reads_slice 0 0 slices_S512x512_o0_0_S512x128 (gu_1 M1 h1 M2 h2 M11 h11 M15 x1 x2 xG)) (reads_slice 0 128 slices_S512x512_o0_128_S512x128 (gu_1 M1 h1 M2 h2 M11 h11 M15 x1 x2 xG)) (reads_slice 0 0 slices_S512x256_o0_0_S512x128 (dh_1 M3 h3 M4 h4 M12 h12 M16 x3 x4 xD))) ?_ ?_
  · intro i j hi hj
    have e0 : fea (512 + j) = 256 + (0 + j) := by unfold fea; omega
    have e : gam (256 + (0 + j)) = 512 + (0 + j) := by unfold gam; omega
    have e2 : gam (256 + (0 + j)) + 128 = 512 + (128 + j) := by omega
    unfold dgu; rw [if_pos (show (512 + j) % 256 < 128 by omega), e0, e2, e, Nat.zero_add]
  refine fit_cons 0 384 _ _ (reads_du _ _ (reads_slice 0 256 slices_S512x512_o0_256_S512x128 (gu_0 M1 h1 M2 h2 M11 h11 M15 x1 x2 xG)) (reads_slice 0 384 slices_S512x512_o0_384_S512x128 (gu_0 M1 h1 M2 h2 M11 h11 M15 x1 x2 xG)) (reads_slice 0 128 slices_S512x256_o0_128_S512x128 (dh_0 M3 h3 M4 h4 M12 h12 M16 x3 x4 xD))) ?_ ?_
  · intro i j hi hj
    have e0 : fea (384 + j) = 0 + (128 + j) := by unfold fea; omega
    have e : gam (0 + (128 + j)) = 0 + (256 + j) := by unfold gam; omega
    have e2 : gam (0 + (128 + j)) + 128 = 0 + (384 + j) := by omega
    unfold dgu; rw [if_neg (show ¬ (384 + j) % 256 < 128 by omega), e0, e2, e, Nat.zero_add]
  refine fit_cons 0 256 _ _ (reads_dg _ _ (reads_slice 0 256 slices_S512x512_o0_256_S512x128 (gu_0 M1 h1 M2 h2 M11 h11 M15 x1 x2 xG)) (reads_slice 0 384 slices_S512x512_o0_384_S512x128 (gu_0 M1 h1 M2 h2 M11 h11 M15 x1 x2 xG)) (reads_slice 0 128 slices_S512x256_o0_128_S512x128 (dh_0 M3 h3 M4 h4 M12 h12 M16 x3 x4 xD))) ?_ ?_
  · intro i j hi hj
    have e0 : fea (256 + j) = 0 + (128 + j) := by unfold fea; omega
    have e : gam (0 + (128 + j)) = 0 + (256 + j) := by unfold gam; omega
    have e2 : gam (0 + (128 + j)) + 128 = 0 + (384 + j) := by omega
    unfold dgu; rw [if_pos (show (256 + j) % 256 < 128 by omega), e0, e2, e, Nat.zero_add]
  refine fit_cons 0 128 _ _ (reads_du _ _ (reads_slice 0 0 slices_S512x512_o0_0_S512x128 (gu_0 M1 h1 M2 h2 M11 h11 M15 x1 x2 xG)) (reads_slice 0 128 slices_S512x512_o0_128_S512x128 (gu_0 M1 h1 M2 h2 M11 h11 M15 x1 x2 xG)) (reads_slice 0 0 slices_S512x256_o0_0_S512x128 (dh_0 M3 h3 M4 h4 M12 h12 M16 x3 x4 xD))) ?_ ?_
  · intro i j hi hj
    have e0 : fea (128 + j) = 0 + (0 + j) := by unfold fea; omega
    have e : gam (0 + (0 + j)) = 0 + (0 + j) := by unfold gam; omega
    have e2 : gam (0 + (0 + j)) + 128 = 0 + (128 + j) := by omega
    unfold dgu; rw [if_neg (show ¬ (128 + j) % 256 < 128 by omega), e0, e2, e, Nat.zero_add]
  refine fit_cons 0 0 _ _ (reads_dg _ _ (reads_slice 0 0 slices_S512x512_o0_0_S512x128 (gu_0 M1 h1 M2 h2 M11 h11 M15 x1 x2 xG)) (reads_slice 0 128 slices_S512x512_o0_128_S512x128 (gu_0 M1 h1 M2 h2 M11 h11 M15 x1 x2 xG)) (reads_slice 0 0 slices_S512x256_o0_0_S512x128 (dh_0 M3 h3 M4 h4 M12 h12 M16 x3 x4 xD))) ?_ ?_
  · intro i j hi hj
    have e0 : fea (0 + j) = 0 + (0 + j) := by unfold fea; omega
    have e : gam (0 + (0 + j)) = 0 + (0 + j) := by unfold gam; omega
    have e2 : gam (0 + (0 + j)) + 128 = 0 + (128 + j) := by omega
    unfold dgu; rw [if_pos (show (0 + j) % 256 < 128 by omega), e0, e2, e, Nat.zero_add]
  exact fit_nil _

/-- The result block. -/
theorem point_dx : Reads (a := 512) (b := 1280) ((run (F := Ideal) c M1 h1 M2 h2 M3 h3 M4 h4 M5 h5 M6 h6 M7 h7 M8 h8 M9 h9 M10 h10 M11 h11 M12 h12 M13 h13 M14 h14 M15 h15 M16 h16 M17 h17 M18 h18 M19 h19 M20 h20 x1 x2 x3 x4 x5).1.1 xG xD xA xB) (fun i j => Point.T 1792 (dgu (xf x1 x2) (yf x3 x4) (gf xG) (df xD)) (gf xG) i j + nat2 (a := 512) (b := 1280) x5 i j) := by
  refine Reads.congr (reads_add (reads_mmT (mm_dx _ _) (reads_cov M20.view (reads_dgu M1 h1 M2 h2 M3 h3 M4 h4 M11 h11 M12 h12 M15 M16 x1 x2 x3 x4 xG xD) 0 0 _) (reads_load h11 (reads_nat2 xG) 0 0 _)) (reads_cast _ (reads_load h5 (reads_nat2 x5) 0 0 _))) ?_
  intro i j _ _
  simp only [Point.T, Nat.zero_add]

/-- What the first accumulator holds after the point. -/
theorem point_agu : Reads (a := 1280) (b := 1792) ((run (F := Ideal) c M1 h1 M2 h2 M3 h3 M4 h4 M5 h5 M6 h6 M7 h7 M8 h8 M9 h9 M10 h10 M11 h11 M12 h12 M13 h13 M14 h14 M15 h15 M16 h16 M17 h17 M18 h18 M19 h19 M20 h20 x1 x2 x3 x4 x5).1.2.1 xG xD xA xB) (fun i j => nat2 (a := 1280) (b := 1792) xA i j + S 512 (fun h r => xf x1 x2 r h) (dgu (xf x1 x2) (yf x3 x4) (gf xG) (df xD)) i j) := by
  refine Reads.congr (reads_cast _ (reads_add (reads_load h13 (reads_nat2 xA) 0 0 _) (reads_mm (mm_ag _ _) (reads_cov M17.view (reads_xt M1 h1 M2 h2 x1 x2) 0 0 _) (reads_cov M20.view (reads_dgu M1 h1 M2 h2 M3 h3 M4 h4 M11 h11 M12 h12 M15 M16 x1 x2 x3 x4 xG xD) 0 0 _)))) ?_
  intro i j _ _
  simp only [S, Nat.zero_add]

/-- What the second accumulator holds after the point. -/
theorem point_adn : Reads (a := 1280) (b := 896) ((run (F := Ideal) c M1 h1 M2 h2 M3 h3 M4 h4 M5 h5 M6 h6 M7 h7 M8 h8 M9 h9 M10 h10 M11 h11 M12 h12 M13 h13 M14 h14 M15 h15 M16 h16 M17 h17 M18 h18 M19 h19 M20 h20 x1 x2 x3 x4 x5).1.2.2 xG xD xA xB) (fun i j => nat2 (a := 1280) (b := 896) xB i j + S 512 (fun h r => yf x3 x4 r h) (hb (xf x1 x2) (gf xG)) i j) := by
  refine Reads.congr (reads_cast _ (reads_add (reads_load h14 (reads_nat2 xB) 0 0 _) (reads_mm (mm_ad _ _) (reads_cov M18.view (reads_yt M3 h3 M4 h4 x3 x4) 0 0 _) (reads_cov M19.view (reads_hb M1 h1 M2 h2 M11 h11 M15 x1 x2 xG) 0 0 _)))) ?_
  intro i j _ _
  simp only [S, Nat.zero_add]

end Cert.KernelIdeal.Body3

end
-- ==== Proof.IdealVal3.lean ====
/-
  The fused pass over features 2560 to 3456, all rows together: the two accumulators and the result array it leaves, as
  functions of the whole arrays it reads.
-/
module

public import proofs.«01_k».proof.Proof.IdealRegion3
public import proofs.«01_k».proof.Proof.IdealPoint3
public import proofs.«01_k».proof.Proof.IdealGlobal
public import Idealize.ShloMosaic.Lib.Pipeline.ValueKit

@[expose] public section

set_option maxRecDepth 16384
set_option maxHeartbeats 2000000

noncomputable section

namespace Cert.KernelIdeal.Region3

open Cert.KernelIdeal Cert.KernelIdeal.Gen Cert.KernelIdeal.Body3 Cert.KernelIdeal.Point
open Idealize.ShloMosaic Idealize.ShloMosaic.TcCoe

variable (V : Dev nD → Valuation τ sig (Elt Ideal)) (c : Dev nD)

/-- The arrays the pass reads, by index. -/
def ax : Vec Ideal S262144x1280 .fp8e4m3 := (Memref.whole main_v0).view.read (Elt Ideal) (V c (Proc.devRef .tc main_v0))
def axs : Vec Ideal S262144x10 .f32 := (Memref.whole main_v2).view.read (Elt Ideal) (V c (Proc.devRef .tc main_v2))
def ay : Vec Ideal S262144x1280 .fp8e5m2 := (Memref.whole main_v1).view.read (Elt Ideal) (V c (Proc.devRef .tc main_v1))
def ays : Vec Ideal S262144x10 .f32 := (Memref.whole main_v3).view.read (Elt Ideal) (V c (Proc.devRef .tc main_v3))
def adx : Vec Ideal S262144x1280 .f32 := (Memref.whole main_v14_0).view.read (Elt Ideal) (V c (Proc.devRef .tc main_v14_0))

/-- The two operands with their scales, and the two weight arrays, as functions of row and column. -/
def gX : ℕ → ℕ → EReal := scaled (nat2 (a := 262144) (b := 1280) (ax V c)) (nat2 (a := 262144) (b := 10) (axs V c))
def gY : ℕ → ℕ → EReal := scaled (nat2 (a := 262144) (b := 1280) (ay V c)) (nat2 (a := 262144) (b := 10) (ays V c))
def gG : ℕ → ℕ → EReal := nat2 (a := 1280) (b := 6912) (wgu V c)
def gD : ℕ → ℕ → EReal := nat2 (a := 3456) (b := 1280) (wdn V c)
/-- The gradient at a row and a column of the packed weights. -/
def gdgu : ℕ → ℕ → EReal := dgu (gX V c) (gY V c) (gG V c) (gD V c)

theorem index_0 : ∀ t : Fin cfg3.N, win3_0.index t = ![(grid3.coords t 0).val, 0] := (by decide +kernel : ∀ t : Fin grid3.N, _)
theorem index_1 : ∀ t : Fin cfg3.N, win3_1.index t = ![(grid3.coords t 0).val, 0] := (by decide +kernel : ∀ t : Fin grid3.N, _)
theorem index_2 : ∀ t : Fin cfg3.N, win3_2.index t = ![(grid3.coords t 0).val, 0] := (by decide +kernel : ∀ t : Fin grid3.N, _)
theorem index_3 : ∀ t : Fin cfg3.N, win3_3.index t = ![(grid3.coords t 0).val, 0] := (by decide +kernel : ∀ t : Fin grid3.N, _)
theorem index_4 : ∀ t : Fin cfg3.N, win3_4.index t = ![(grid3.coords t 0).val, 0] := (by decide +kernel : ∀ t : Fin grid3.N, _)
theorem index_5 : ∀ t : Fin cfg3.N, win3_5.index t = ![(grid3.coords t 0).val, 0] := (by decide +kernel : ∀ t : Fin grid3.N, _)

theorem reads_blk0 (t : Fin cfg3.N) : Reads (a := 512) (b := 1280) (blk V c 0 t) (fun i j => nat2 (a := 262144) (b := 1280) (ax V c) (512 * t.val + i) j) := by
  intro i j
  have ht : t.val < 512 := N_eq ▸ t.isLt
  have hi := i.isLt
  refine Eq.trans ?_ (Reads.at (reads_nat2 (a := 262144) (b := 1280) (ax V c)) (ix2 ⟨512 * t.val + i.val, by omega⟩ j))
  unfold ax
  blk_simp [blk]
  refine congrArg (V c (Proc.devRef .tc main_v0)) ?_
  refine Shape.idx_ext₂ ?_ ?_
  · blk_simp [index_0, coord_val]; show t.val * 512 + i.val = 512 * t.val + i.val; omega
  · blk_simp [index_0, coord_val]

theorem reads_blk1 (t : Fin cfg3.N) : Reads (a := 512) (b := 10) (blk V c 1 t) (fun i j => nat2 (a := 262144) (b := 10) (axs V c) (512 * t.val + i) j) := by
  intro i j
  have ht : t.val < 512 := N_eq ▸ t.isLt
  have hi := i.isLt
  refine Eq.trans ?_ (Reads.at (reads_nat2 (a := 262144) (b := 10) (axs V c)) (ix2 ⟨512 * t.val + i.val, by omega⟩ j))
  unfold axs
  blk_simp [blk]
  refine congrArg (V c (Proc.devRef .tc main_v2)) ?_
  refine Shape.idx_ext₂ ?_ ?_
  · blk_simp [index_1, coord_val]; show t.val * 512 + i.val = 512 * t.val + i.val; omega
  · blk_simp [index_1, coord_val]

theorem reads_blk2 (t : Fin cfg3.N) : Reads (a := 512) (b := 1280) (blk V c 2 t) (fun i j => nat2 (a := 262144) (b := 1280) (ay V c) (512 * t.val + i) j) := by
  intro i j
  have ht : t.val < 512 := N_eq ▸ t.isLt
  have hi := i.isLt
  refine Eq.trans ?_ (Reads.at (reads_nat2 (a := 262144) (b := 1280) (ay V c)) (ix2 ⟨512 * t.val + i.val, by omega⟩ j))
  unfold ay
  blk_simp [blk]
  refine congrArg (V c (Proc.devRef .tc main_v1)) ?_
  refine Shape.idx_ext₂ ?_ ?_
  · blk_simp [index_2, coord_val]; show t.val * 512 + i.val = 512 * t.val + i.val; omega
  · blk_simp [index_2, coord_val]

theorem reads_blk3 (t : Fin cfg3.N) : Reads (a := 512) (b := 10) (blk V c 3 t) (fun i j => nat2 (a := 262144) (b := 10) (ays V c) (512 * t.val + i) j) := by
  intro i j
  have ht : t.val < 512 := N_eq ▸ t.isLt
  have hi := i.isLt
  refine Eq.trans ?_ (Reads.at (reads_nat2 (a := 262144) (b := 10) (ays V c)) (ix2 ⟨512 * t.val + i.val, by omega⟩ j))
  unfold ays
  blk_simp [blk]
  refine congrArg (V c (Proc.devRef .tc main_v3)) ?_
  refine Shape.idx_ext₂ ?_ ?_
  · blk_simp [index_3, coord_val]; show t.val * 512 + i.val = 512 * t.val + i.val; omega
  · blk_simp [index_3, coord_val]

theorem reads_blk4 (t : Fin cfg3.N) : Reads (a := 512) (b := 1280) (blk V c 4 t) (fun i j => nat2 (a := 262144) (b := 1280) (adx V c) (512 * t.val + i) j) := by
  intro i j
  have ht : t.val < 512 := N_eq ▸ t.isLt
  have hi := i.isLt
  refine Eq.trans ?_ (Reads.at (reads_nat2 (a := 262144) (b := 1280) (adx V c)) (ix2 ⟨512 * t.val + i.val, by omega⟩ j))
  unfold adx
  blk_simp [blk]
  refine congrArg (V c (Proc.devRef .tc main_v14_0)) ?_
  refine Shape.idx_ext₂ ?_ ?_
  · blk_simp [index_4, coord_val]; show t.val * 512 + i.val = 512 * t.val + i.val; omega
  · blk_simp [index_4, coord_val]

/-- What the point's body reads: its rows of the operands, and the weight slices. -/
def Xb (t : Fin cfg3.N) : ℕ → ℕ → EReal := xf (blk V c 0 t) (blk V c 1 t)
def Yb (t : Fin cfg3.N) : ℕ → ℕ → EReal := yf (blk V c 2 t) (blk V c 3 t)
def Gb : ℕ → ℕ → EReal := gf (wguS V c)
def Db : ℕ → ℕ → EReal := df (wdnS V c)

theorem xf_eq (t : Fin cfg3.N) {i h : ℕ} (hi : i < 512) (hh : h < 1280) : Xb V c t i h = gX V c (512 * t.val + i) h := by
  unfold Xb xf gX scaled
  rw [(reads_blk0 V c t).nat2_eq hi hh, (reads_blk1 V c t).nat2_eq hi (by omega)]

theorem yf_eq (t : Fin cfg3.N) {i h : ℕ} (hi : i < 512) (hh : h < 1280) : Yb V c t i h = gY V c (512 * t.val + i) h := by
  unfold Yb yf gY scaled
  rw [(reads_blk2 V c t).nat2_eq hi hh, (reads_blk3 V c t).nat2_eq hi (by omega)]

theorem gf_eq {h k : ℕ} (hh : h < 1280) (hk : k < 2 * 896) : Gb V c h k = gG V c h (2 * 2560 + k) := by
  unfold Gb gf gG
  have e := (reads_rect (a := 1280) (b := 1792) (reads_nat2 (a := 1280) (b := 6912) (wgu V c)) 0 5120 inb_S1280x6912_S1280x1792_0_5120).nat2_eq hh hk
  rw [Nat.zero_add h] at e
  exact e

theorem df_eq {f h : ℕ} (hf : f < 896) (hh : h < 1280) : Db V c f h = gD V c (2560 + f) h := by
  unfold Db df gD
  have e := (reads_rect (a := 896) (b := 1280) (reads_nat2 (a := 3456) (b := 1280) (wdn V c)) 2560 0 inb_S3456x1280_S896x1280_2560_0).nat2_eq hf hh
  rw [Nat.zero_add h] at e
  exact e

theorem dgu_eq (t : Fin cfg3.N) {i k : ℕ} (hi : i < 512) (hk : k < 2 * 896) :
    dgu (Xb V c t) (Yb V c t) (Gb V c) (Db V c) i k
      = gdgu V c (512 * t.val + i) (2 * 2560 + k) :=
  by
  have hX : ∀ h, h < 1280 → Xb V c t i h = gX V c (512 * t.val + i) h := fun h hh => xf_eq V c t hi hh
  have hY : ∀ h, h < 1280 → Yb V c t i h = gY V c (512 * t.val + i) h := fun h hh => yf_eq V c t hi hh
  have e := dgu_shift (X := Xb V c t) (Y := Yb V c t) (G := Gb V c) (D := Db V c) (X' := gX V c) (Y' := gY V c) (G' := gG V c) (D' := gD V c)
    i (512 * t.val + i) 2560 896 rfl rfl hX hY (fun h k hh hk => gf_eq V c hh hk) (fun f h hf hh => df_eq V c hf hh) hk
  rw [e]
  rfl

theorem hb_eq (t : Fin cfg3.N) {i f : ℕ} (hi : i < 512) (hf : f < 896) :
    hb (Xb V c t) (Gb V c) i f = hb (gX V c) (gG V c) (512 * t.val + i) (2560 + f) :=
  by
  have hX : ∀ h, h < 1280 → Xb V c t i h = gX V c (512 * t.val + i) h := fun h hh => xf_eq V c t hi hh
  exact hb_shift (X := Xb V c t) (G := Gb V c) (X' := gX V c) (G' := gG V c) i (512 * t.val + i) 2560 896 rfl rfl hX
    (fun h k hh hk => gf_eq V c hh hk) hf

/-- What the body at point `t` computes. -/
theorem pt_dx (t : Fin cfg3.N) (A : Vec Ideal S1280x1792 .f32) (B : Vec Ideal S1280x896 .f32) : Reads (a := 512) (b := 1280) ((step V c t).1.1 (wguS V c) (wdnS V c) A B)
    (fun i j => Point.T 1792 (dgu (Xb V c t) (Yb V c t) (Gb V c) (Db V c)) (Gb V c) i j + nat2 (a := 512) (b := 1280) (blk V c 4 t) i j) :=
  point_dx c (st3_0 t) (hstage3_0 ((cfg3.slots t 0).cast nbuf3_0)) (st3_1 t) (hstage3_1 ((cfg3.slots t 1).cast nbuf3_1)) (st3_2 t) (hstage3_2 ((cfg3.slots t 2).cast nbuf3_2)) (st3_3 t) (hstage3_3 ((cfg3.slots t 3).cast nbuf3_3)) (st3_4 t) (hstage3_4 ((cfg3.slots t 4).cast nbuf3_4)) (Memref.whole main_v12_0) (Memref.isWhole_whole _) (Memref.whole main_v12_1) (Memref.isWhole_whole _) (st3_5 t) (hstage3_5 ((cfg3.slots t 5).cast nbuf3_5)) (Memref.whole main_v15_1) (Memref.isWhole_whole _) (Memref.whole main_v15_2) (Memref.isWhole_whole _) (Memref.whole cc3_scratch0) (Memref.isWhole_whole _) (Memref.whole cc3_scratch1) (Memref.isWhole_whole _) (Memref.whole cc3_scratch2) (Memref.isWhole_whole _) (Memref.whole cc3_scratch3) (Memref.isWhole_whole _) (Memref.whole cc3_scratch4) (Memref.isWhole_whole _) (Memref.whole cc3_scratch5) (Memref.isWhole_whole _) (Memref.whole cc3_scratch6) (Memref.isWhole_whole _) (Memref.whole cc3_scratch7) (Memref.isWhole_whole _) (Memref.whole cc3_scratch8) (Memref.isWhole_whole _) (Memref.whole cc3_scratch9) (Memref.isWhole_whole _)  (blk V c 0 t) (blk V c 1 t) (blk V c 2 t) (blk V c 3 t) (blk V c 4 t) (wguS V c) (wdnS V c) A B

theorem pt_agu (t : Fin cfg3.N) (A : Vec Ideal S1280x1792 .f32) (B : Vec Ideal S1280x896 .f32) : Reads (a := 1280) (b := 1792) ((step V c t).1.2.1 (wguS V c) (wdnS V c) A B)
    (fun i j => nat2 (a := 1280) (b := 1792) A i j + S 512 (fun h r => Xb V c t r h) (dgu (Xb V c t) (Yb V c t) (Gb V c) (Db V c)) i j) :=
  point_agu c (st3_0 t) (hstage3_0 ((cfg3.slots t 0).cast nbuf3_0)) (st3_1 t) (hstage3_1 ((cfg3.slots t 1).cast nbuf3_1)) (st3_2 t) (hstage3_2 ((cfg3.slots t 2).cast nbuf3_2)) (st3_3 t) (hstage3_3 ((cfg3.slots t 3).cast nbuf3_3)) (st3_4 t) (hstage3_4 ((cfg3.slots t 4).cast nbuf3_4)) (Memref.whole main_v12_0) (Memref.isWhole_whole _) (Memref.whole main_v12_1) (Memref.isWhole_whole _) (st3_5 t) (hstage3_5 ((cfg3.slots t 5).cast nbuf3_5)) (Memref.whole main_v15_1) (Memref.isWhole_whole _) (Memref.whole main_v15_2) (Memref.isWhole_whole _) (Memref.whole cc3_scratch0) (Memref.isWhole_whole _) (Memref.whole cc3_scratch1) (Memref.isWhole_whole _) (Memref.whole cc3_scratch2) (Memref.isWhole_whole _) (Memref.whole cc3_scratch3) (Memref.isWhole_whole _) (Memref.whole cc3_scratch4) (Memref.isWhole_whole _) (Memref.whole cc3_scratch5) (Memref.isWhole_whole _) (Memref.whole cc3_scratch6) (Memref.isWhole_whole _) (Memref.whole cc3_scratch7) (Memref.isWhole_whole _) (Memref.whole cc3_scratch8) (Memref.isWhole_whole _) (Memref.whole cc3_scratch9) (Memref.isWhole_whole _)  (blk V c 0 t) (blk V c 1 t) (blk V c 2 t) (blk V c 3 t) (blk V c 4 t) (wguS V c) (wdnS V c) A B

theorem pt_adn (t : Fin cfg3.N) (A : Vec Ideal S1280x1792 .f32) (B : Vec Ideal S1280x896 .f32) : Reads (a := 1280) (b := 896) ((step V c t).1.2.2 (wguS V c) (wdnS V c) A B)
    (fun i j => nat2 (a := 1280) (b := 896) B i j + S 512 (fun h r => Yb V c t r h) (hb (Xb V c t) (Gb V c)) i j) :=
  point_adn c (st3_0 t) (hstage3_0 ((cfg3.slots t 0).cast nbuf3_0)) (st3_1 t) (hstage3_1 ((cfg3.slots t 1).cast nbuf3_1)) (st3_2 t) (hstage3_2 ((cfg3.slots t 2).cast nbuf3_2)) (st3_3 t) (hstage3_3 ((cfg3.slots t 3).cast nbuf3_3)) (st3_4 t) (hstage3_4 ((cfg3.slots t 4).cast nbuf3_4)) (Memref.whole main_v12_0) (Memref.isWhole_whole _) (Memref.whole main_v12_1) (Memref.isWhole_whole _) (st3_5 t) (hstage3_5 ((cfg3.slots t 5).cast nbuf3_5)) (Memref.whole main_v15_1) (Memref.isWhole_whole _) (Memref.whole main_v15_2) (Memref.isWhole_whole _) (Memref.whole cc3_scratch0) (Memref.isWhole_whole _) (Memref.whole cc3_scratch1) (Memref.isWhole_whole _) (Memref.whole cc3_scratch2) (Memref.isWhole_whole _) (Memref.whole cc3_scratch3) (Memref.isWhole_whole _) (Memref.whole cc3_scratch4) (Memref.isWhole_whole _) (Memref.whole cc3_scratch5) (Memref.isWhole_whole _) (Memref.whole cc3_scratch6) (Memref.isWhole_whole _) (Memref.whole cc3_scratch7) (Memref.isWhole_whole _) (Memref.whole cc3_scratch8) (Memref.isWhole_whole _) (Memref.whole cc3_scratch9) (Memref.isWhole_whole _)  (blk V c 0 t) (blk V c 1 t) (blk V c 2 t) (blk V c 3 t) (blk V c 4 t) (wguS V c) (wdnS V c) A B

theorem zero_1 : Reads (a := 1280) (b := 1792) (k3_pay2 (F := Ideal)) (fun _ _ => 0) := by
  intro i j
  unfold k3_pay2
  pointwise

theorem zero_2 : Reads (a := 1280) (b := 896) (k3_pay3 (F := Ideal)) (fun _ _ => 0) := by
  intro i j
  unfold k3_pay3
  pointwise

/-- The first accumulator after `n` points: the rows of the first `n` blocks are summed. -/
theorem reads_acc1 (n : ℕ) (hn : n ≤ 512) : Reads (a := 1280) (b := 1792) (acc V c n).1
    (fun h k => S (512 * n) (fun h m => gX V c m h) (fun m k => gdgu V c m (2 * 2560 + k)) h k) := by
  induction n with
  | zero =>
    rw [acc_zero]
    exact zero_1.congr fun i j _ _ => by simp [S]
  | succ n ih =>
    have hlt : n < cfg3.N := by rw [N_eq]; omega
    rw [show acc V c (n + 1) = _ from acc_succ V c ⟨n, hlt⟩]
    refine (pt_agu V c ⟨n, hlt⟩ (acc V c n).1 (acc V c n).2).congr ?_
    intro i j hi hj
    rw [(ih (by omega)).nat2_eq hi hj, ← S_succ]
    refine congrArg _ (S_congr (fun r hr => xf_eq V c ⟨n, hlt⟩ hr hi) fun r hr => dgu_eq V c ⟨n, hlt⟩ hr hj)

/-- The second accumulator after `n` points. -/
theorem reads_acc2 (n : ℕ) (hn : n ≤ 512) : Reads (a := 1280) (b := 896) (acc V c n).2
    (fun h f => S (512 * n) (fun h m => gY V c m h) (fun m f => hb (gX V c) (gG V c) m (2560 + f)) h f) := by
  induction n with
  | zero =>
    rw [acc_zero]
    exact zero_2.congr fun i j _ _ => by simp [S]
  | succ n ih =>
    have hlt : n < cfg3.N := by rw [N_eq]; omega
    rw [show acc V c (n + 1) = _ from acc_succ V c ⟨n, hlt⟩]
    refine (pt_adn V c ⟨n, hlt⟩ (acc V c n).1 (acc V c n).2).congr ?_
    intro i j hi hj
    rw [(ih (by omega)).nat2_eq hi hj, ← S_succ]
    refine congrArg _ (S_congr (fun r hr => yf_eq V c ⟨n, hlt⟩ hr hi) fun r hr => hb_eq V c ⟨n, hlt⟩ hr hj)

/-- The result at row `n` and column `h`. -/
def gdx (n h : ℕ) : EReal := (∑ k ∈ Finset.range 1792, gdgu V c n (2 * 2560 + k) * gG V c h (2 * 2560 + k)) + nat2 (a := 262144) (b := 1280) (adx V c) n h

theorem reads_dxo (t : Fin cfg3.N) : Reads (a := 512) (b := 1280) (dxo V c t) (fun i h => gdx V c (512 * t.val + i) h) := by
  unfold dxo
  refine (pt_dx V c t (acc V c t.val).1 (acc V c t.val).2).congr ?_
  intro i h hi hh
  unfold gdx
  refine congrArg₂ (· + ·) ?_ ((reads_blk4 V c t).nat2_eq hi hh)
  refine Finset.sum_congr rfl fun k hk => ?_
  have hk' := Finset.mem_range.mp hk
  exact congrArg₂ (· * ·) (dgu_eq V c t hi hk') (gf_eq V c hh hk')

/-- The result array after the pass. -/
theorem reads_leave : Reads (a := 262144) (b := 1280) ((Memref.whole main_v15_0).view.read (Elt Ideal) (leave V c (Proc.devRef .tc main_v15_0))) (gdx V c) := by
  intro n h
  rw [leave_0]
  have e : (dat V c).arrAt 5 cfg3.N = (fun y => gdx V c (y 0).val (y 1).val) := by
    refine (dat V c).arrAt_eq_of_covers 5 _ (by decide +kernel) fun t hf y => ?_
    blk_simp
    rw [after_5]
    refine ((reads_dxo V c t).at y).trans ?_
    refine congrArg₂ (gdx V c) ?_ ?_
    · blk_simp [index_5, coord_val]; omega
    · blk_simp [index_5, coord_val]
  rw [e]
  rfl

end Cert.KernelIdeal.Region3

end
-- ==== Proof.IdealFinal.lean ====
/-
  What the whole program leaves in its three result buffers, as the sums over the arguments: the host's reshapes before the
  first pass, the two weight arrays, the three passes over the tokens and the host's operations after them.
-/
module

public import proofs.«01_k».proof.Proof.IdealMath
public import proofs.«01_k».proof.Proof.IdealRun
public import proofs.«01_k».proof.Proof.IdealVal0
public import proofs.«01_k».proof.Proof.IdealVal1
public import proofs.«01_k».proof.Proof.IdealVal2
public import proofs.«01_k».proof.Proof.IdealVal3
public import Idealize.ShloMosaic.Lib.Pipeline.ValueKit

@[expose] public section

set_option maxRecDepth 16384
set_option maxHeartbeats 2000000

noncomputable section

namespace Cert.KernelIdeal.Run

open Cert.KernelIdeal Cert.KernelIdeal.Gen Cert.KernelIdeal.Point
open Idealize.ShloMosaic Idealize.ShloMosaic.TcCoe

variable (m : (ℓ : Loc nD τ sig) → Buf (Elt Ideal) ℓ) (c : Dev nD)

/-- The arguments in the memory at launch. -/
def inputs : Args where
  x := m ((c.tc : Thread nD τ).loc main_arg0)
  xs := m ((c.tc : Thread nD τ).loc main_arg1)
  y := m ((c.tc : Thread nD τ).loc main_arg2)
  ys := m ((c.tc : Thread nD τ).loc main_arg3)
  w := m ((c.tc : Thread nD τ).loc main_arg4)
  ws := m ((c.tc : Thread nD τ).loc main_arg5)
  d := m ((c.tc : Thread nD τ).loc main_arg6)
  ds := m ((c.tc : Thread nD τ).loc main_arg7)

/-! ## The host's reshapes and slices -/

theorem merge_rows {a b k n : ℕ} (h : (Sh3 a b k).ShapeCasts (Sh n k)) (x : (Sh3 a b k).Idx → EReal) (hb : 0 < b) (hn : n = a * b) :
    Reads (shapeCast (Sh n k) x h) (fun i j => nat3 x (i / b) (i % b) j) := by
  intro i j
  refine (shapeCast_apply x h (ix2 i j) (ix3 ⟨i.val / b, Nat.div_lt_of_lt_mul (lt_of_lt_of_eq i.isLt (hn.trans (Nat.mul_comm a b)))⟩ ⟨i.val % b, Nat.mod_lt _ hb⟩ j) ?_).trans (nat3_ix x _ _ _)
  rw [Shape.rowMajor_val_three, Shape.rowMajor_val_two]
  show (i.val / b * b + i.val % b) * k + j.val = i.val * k + j.val
  rw [Nat.div_add_mod']

theorem take_mid {a b k : ℕ} (o : ℕ) (ho : o < b) (hs : (Sh3 a b k).Slices ![0, o, 0] (Sh3 a 1 k)) (h : (Sh3 a 1 k).ShapeCasts (Sh a k))
    (x : (Sh3 a b k).Idx → EReal) :
    Reads (shapeCast (Sh a k) (extractStridedSlice (Sh3 a 1 k) ![0, o, 0] x hs) h) (fun i j => nat3 x i o j) := by
  intro i j
  refine (shapeCast_apply _ h (ix2 i j) (ix3 i (0 : Fin 1) j) ?_).trans ((extractStridedSlice_apply _ x hs _ (ix3 i ⟨o, ho⟩ j) ?_).trans (nat3_ix x i ⟨o, ho⟩ j))
  · rw [Shape.rowMajor_val_three, Shape.rowMajor_val_two]
    show (i.val * 1 + 0) * k + j.val = i.val * k + j.val
    rw [Nat.mul_one, Nat.add_zero]
  · intro y
    match y with
    | ⟨0, _⟩ => exact (Nat.zero_add _).symm
    | ⟨1, _⟩ => rfl
    | ⟨2, _⟩ => exact (Nat.zero_add _).symm

theorem W1_v0 : W1 m c (Proc.devRef .tc main_v0) = shapeCast S262144x1280 (inputs m c).x shapeCasts_S2x131072x1280_S262144x1280 := by
  unfold W1; after_results; rfl
theorem W1_v1 : W1 m c (Proc.devRef .tc main_v1) = shapeCast S262144x1280 (inputs m c).y shapeCasts_S2x131072x1280_S262144x1280 := by
  unfold W1; after_results; rfl
theorem W1_v2 : W1 m c (Proc.devRef .tc main_v2) = shapeCast S262144x10 (inputs m c).xs shapeCasts_S2x131072x10_S262144x10 := by
  unfold W1; after_results; rfl
theorem W1_v3 : W1 m c (Proc.devRef .tc main_v3) = shapeCast S262144x10 (inputs m c).ys shapeCasts_S2x131072x10_S262144x10 := by
  unfold W1; after_results; rfl
theorem W1_v5 : W1 m c (Proc.devRef .tc main_v5) = shapeCast S1280x3456 (extractStridedSlice S1280x1x3456 ![0, 0, 0] (inputs m c).w slices_S1280x2x3456_S1280x1x3456_0_0_0) shapeCasts_S1280x1x3456_S1280x3456 := by
  unfold W1; after_results; rfl
theorem W1_v7 : W1 m c (Proc.devRef .tc main_v7) = shapeCast S1280x3456 (extractStridedSlice S1280x1x3456 ![0, 1, 0] (inputs m c).w slices_S1280x2x3456_S1280x1x3456_0_1_0) shapeCasts_S1280x1x3456_S1280x3456 := by
  unfold W1; after_results; rfl
theorem W1_v9 : W1 m c (Proc.devRef .tc main_v9) = shapeCast S10x27 (extractStridedSlice S10x1x27 ![0, 0, 0] (inputs m c).ws slices_S10x2x27_S10x1x27_0_0_0) shapeCasts_S10x1x27_S10x27 := by
  unfold W1; after_results; rfl
theorem W1_v11 : W1 m c (Proc.devRef .tc main_v11) = shapeCast S10x27 (extractStridedSlice S10x1x27 ![0, 1, 0] (inputs m c).ws slices_S10x2x27_S10x1x27_0_1_0) shapeCasts_S10x1x27_S10x27 := by
  unfold W1; after_results; rfl

/-! ## The two weight arrays -/

theorem wG_eq {h k : ℕ} (hh : h < 1280) (hk : k < 6912) : Region0.wG (W1 m) c h k = (inputs m c).G h k := by
  unfold Region0.wG Args.G Args.R Region0.cg Region0.cu Region0.sg Region0.su
  rw [W1_v5, W1_v7, W1_v9, W1_v11]
  have r1 := (take_mid 0 (by omega) slices_S1280x2x3456_S1280x1x3456_0_0_0 shapeCasts_S1280x1x3456_S1280x3456 (inputs m c).w)
  have r2 := (take_mid 1 (by omega) slices_S1280x2x3456_S1280x1x3456_0_1_0 shapeCasts_S1280x1x3456_S1280x3456 (inputs m c).w)
  have r3 := (take_mid 0 (by omega) slices_S10x2x27_S10x1x27_0_0_0 shapeCasts_S10x1x27_S10x27 (inputs m c).ws)
  have r4 := (take_mid 1 (by omega) slices_S10x2x27_S10x1x27_0_1_0 shapeCasts_S10x1x27_S10x27 (inputs m c).ws)
  split
  · refine congrArg₂ (· * ·) (r1.nat2_eq hh (by omega)) ?_
    refine (r3.nat2_eq (by omega) (by omega)).trans ?_
    congr 1; omega
  · refine congrArg₂ (· * ·) (r2.nat2_eq hh (by omega)) ?_
    refine (r4.nat2_eq (by omega) (by omega)).trans ?_
    congr 1; omega

theorem wD_eq (f h : ℕ) : Region0.wD (W1 m) c f h = (inputs m c).D f h := by
  unfold Region0.wD Args.D Region0.cd Region0.sd
  rw [W1_of m c main_arg6 (by decide), W1_of m c main_arg7 (by decide)]
  rfl

theorem W2_v12_0 : W2 m c (Proc.devRef .tc main_v12_0) = (Region0.dat (W1 m) c).arrAt 6 cfg0.N :=
  Pipeline.afterRegion_arr (Region0.dat (W1 m) c) (W1 m c) launch0.win.arr_inj 6
theorem W2_v12_1 : W2 m c (Proc.devRef .tc main_v12_1) = (Region0.dat (W1 m) c).arrAt 7 cfg0.N :=
  Pipeline.afterRegion_arr (Region0.dat (W1 m) c) (W1 m c) launch0.win.arr_inj 7

/-! ## The operands of the three passes -/

theorem fits1 : Fits (Region1.gX (W2 m) c) (Region1.gY (W2 m) c) (Region1.gG (W2 m) c) (Region1.gD (W2 m) c) (inputs m c) where
  hX n h hn hh := by
    unfold Region1.gX scaled Region1.ax Region1.axs Args.X
    rw [W2_of m c main_v0 (by decide), W2_of m c main_v2 (by decide), W1_v0, W1_v2]
    exact congrArg₂ (· * ·) ((merge_rows (a := 2) (b := 131072) shapeCasts_S2x131072x1280_S262144x1280 (inputs m c).x (by omega) rfl).nat2_eq hn hh)
      ((merge_rows (a := 2) (b := 131072) shapeCasts_S2x131072x10_S262144x10 (inputs m c).xs (by omega) rfl).nat2_eq hn (by omega))
  hY n h hn hh := by
    unfold Region1.gY scaled Region1.ay Region1.ays Args.Y
    rw [W2_of m c main_v1 (by decide), W2_of m c main_v3 (by decide), W1_v1, W1_v3]
    exact congrArg₂ (· * ·) ((merge_rows (a := 2) (b := 131072) shapeCasts_S2x131072x1280_S262144x1280 (inputs m c).y (by omega) rfl).nat2_eq hn hh)
      ((merge_rows (a := 2) (b := 131072) shapeCasts_S2x131072x10_S262144x10 (inputs m c).ys (by omega) rfl).nat2_eq hn (by omega))
  hG h k hh hk := by
    unfold Region1.gG Region1.wgu
    rw [W2_v12_0]
    exact ((Region0.reads_arr1 (W1 m) c).nat2_eq hh hk).trans (wG_eq m c hh hk)
  hD f h hf hh := by
    unfold Region1.gD Region1.wdn
    rw [W2_v12_1]
    exact ((Region0.reads_arr2 (W1 m) c).nat2_eq hf hh).trans (wD_eq m c f h)

theorem W4_W2 (r : Ref sig .tc) (h3 : r ∉ [main_v13_0, main_v13_1, main_v13_2]) (h4 : r ∉ hostOps2_W) : W4 m c r = W2 m c r :=
  (W4_of m c r h4).trans (W3_of m c r h3)
theorem W5_W2 (r : Ref sig .tc) (h3 : r ∉ [main_v13_0, main_v13_1, main_v13_2]) (h4 : r ∉ hostOps2_W)
    (h5 : r ∉ [main_v14_0, main_v14_1, main_v14_2]) : W5 m c r = W2 m c r :=
  (W5_of m c r h5).trans (W4_W2 m c r h3 h4)

theorem fits2 : Fits (Region2.gX (W4 m) c) (Region2.gY (W4 m) c) (Region2.gG (W4 m) c) (Region2.gD (W4 m) c) (inputs m c) := by
  unfold Region2.gX Region2.gY Region2.gG Region2.gD Region2.ax Region2.axs Region2.ay Region2.ays Region2.wgu Region2.wdn
  rw [W4_W2 m c main_v0 (by decide) (by decide), W4_W2 m c main_v1 (by decide) (by decide), W4_W2 m c main_v2 (by decide) (by decide),
    W4_W2 m c main_v3 (by decide) (by decide), W4_W2 m c main_v12_0 (by decide) (by decide), W4_W2 m c main_v12_1 (by decide) (by decide)]
  exact fits1 m c

theorem fits3 : Fits (Region3.gX (W5 m) c) (Region3.gY (W5 m) c) (Region3.gG (W5 m) c) (Region3.gD (W5 m) c) (inputs m c) := by
  unfold Region3.gX Region3.gY Region3.gG Region3.gD Region3.ax Region3.axs Region3.ay Region3.ays Region3.wgu Region3.wdn
  rw [W5_W2 m c main_v0 (by decide) (by decide) (by decide), W5_W2 m c main_v1 (by decide) (by decide) (by decide),
    W5_W2 m c main_v2 (by decide) (by decide) (by decide), W5_W2 m c main_v3 (by decide) (by decide) (by decide),
    W5_W2 m c main_v12_0 (by decide) (by decide) (by decide), W5_W2 m c main_v12_1 (by decide) (by decide) (by decide)]
  exact fits1 m c

/-! ## The gradient of the operand -/

theorem read_whole {r : Ref sig .tc} (v : r.ty.Contents (Elt Ideal)) : (Memref.whole r).view.read (Elt Ideal) v = v := rfl

theorem reads_dx1 : Reads (α := EReal) (a := 262144) (b := 1280) (W3 m c (Proc.devRef .tc main_v13_0))
    (fun n h => ∑ k ∈ Finset.range 2560, (inputs m c).gr n (2 * 0 + k) * (inputs m c).G h (2 * 0 + k)) := by
  refine Reads.congr (Region1.reads_leave (W2 m) c) fun n h hn hh => ?_
  unfold Region1.gdx
  exact (fits1 m c).dx (2 * 0) 2560 hn hh (by omega)

theorem reads_dx2 : Reads (α := EReal) (a := 262144) (b := 1280) (W5 m c (Proc.devRef .tc main_v14_0))
    (fun n h => ∑ k ∈ Finset.range 2560, (inputs m c).gr n (2 * 1280 + k) * (inputs m c).G h (2 * 1280 + k)
        + ∑ k ∈ Finset.range 2560, (inputs m c).gr n (2 * 0 + k) * (inputs m c).G h (2 * 0 + k)) := by
  refine Reads.congr (Region2.reads_leave (W4 m) c) fun n h hn hh => ?_
  unfold Region2.gdx Region2.adx
  rw [W4_of m c main_v13_0 (by decide)]
  exact congrArg₂ (· + ·) ((fits2 m c).dx (2 * 1280) 2560 hn hh (by omega)) ((reads_dx1 m c).nat2_eq hn hh)

theorem reads_dx3 : Reads (α := EReal) (a := 262144) (b := 1280) (W6 m c (Proc.devRef .tc main_v15_0)) (inputs m c).dx := by
  refine Reads.congr (Region3.reads_leave (W5 m) c) fun n h hn hh => ?_
  unfold Region3.gdx Region3.adx
  rw [← Args.dx_split]
  exact congrArg₂ (· + ·) ((fits3 m c).dx (2 * 2560) 1792 hn hh (by omega)) ((reads_dx2 m c).nat2_eq hn hh)

theorem value_dx (b : Fin 2) (s : Fin 131072) (h : Fin 1280) :
    (W7 m c (Proc.devRef .tc main_v22) : (Sh3 2 131072 1280).Idx → EReal) (ix3 b s h) = (inputs m c).dx (131072 * b.val + s.val) h.val := by
  have e : W7 m c (Proc.devRef .tc main_v22) = shapeCast S2x131072x1280 (W6 m c (Proc.devRef .tc main_v15_0) : (Sh 262144 1280).Idx → EReal) shapeCasts_S262144x1280_S2x131072x1280 := by
    unfold W7; after_results; rfl
  rw [e]
  refine (shapeCast_apply _ _ (ix3 b s h) (ix2 (⟨131072 * b.val + s.val, by omega⟩ : Fin 262144) h) ?_).trans (reads_dx3 m c _ _)
  rw [Shape.rowMajor_val_three, Shape.rowMajor_val_two]
  show (131072 * b.val + s.val) * 1280 + h.val = (b.val * 131072 + s.val) * 1280 + h.val
  omega

/-! ## The gradients of the weights -/

theorem reads_cat {a n0 n1 n2 N : ℕ} (f0 : (Sh a n0).Idx → EReal) (f1 : (Sh a n1).Idx → EReal) (f2 : (Sh a n2).Idx → EReal)
    (h : Shape.Concatenates [Sh a n0, Sh a n1, Sh a n2] (Sh a N) 1) (hN : N = n0 + n1 + n2) {φ : ℕ → ℕ → EReal}
    (r0 : Reads f0 φ) (r1 : Reads f1 (fun i j => φ i (n0 + j))) (r2 : Reads f2 (fun i j => φ i (n0 + n1 + j))) :
    Reads (concatenate (Sh a N) 1 [⟨Sh a n0, f0⟩, ⟨Sh a n1, f1⟩, ⟨Sh a n2, f2⟩] h) φ := by
  intro i j
  have side : ∀ (k : ℕ) (l : Fin k) (b : Fin 2), b ≠ 1 → ((ix2 i l : (Sh a k).Idx) b).val = ((ix2 i j : (Sh a N).Idx) b).val := by
    intro k l b hb
    match b with
    | ⟨0, _⟩ => rfl
    | ⟨1, _⟩ => exact absurd rfl hb
  by_cases c0 : j.val < n0
  · exact (concatenate_apply_piece (t := Sh a N) 1 [⟨Sh a n0, f0⟩, ⟨Sh a n1, f1⟩, ⟨Sh a n2, f2⟩] h (ix2 i j) 0 (show 0 < 3 by omega) (Sh a n0) f0 rfl rfl 0 rfl (ix2 i ⟨j.val, c0⟩)
      (side n0 _) (Nat.zero_add _)).trans (r0 i ⟨j.val, c0⟩)
  · by_cases c1 : j.val < n0 + n1
    · refine (concatenate_apply_piece (t := Sh a N) 1 [⟨Sh a n0, f0⟩, ⟨Sh a n1, f1⟩, ⟨Sh a n2, f2⟩] h (ix2 i j) 1 (show 1 < 3 by omega) (Sh a n1) f1 rfl rfl n0 (Nat.add_zero _)
        (ix2 i ⟨j.val - n0, by omega⟩) (side n1 _) (show n0 + (j.val - n0) = j.val by omega)).trans ((r1 i _).trans ?_)
      exact congrArg (φ i.val) (show n0 + (j.val - n0) = j.val by omega)
    · refine (concatenate_apply_piece (t := Sh a N) 1 [⟨Sh a n0, f0⟩, ⟨Sh a n1, f1⟩, ⟨Sh a n2, f2⟩] h (ix2 i j) 2 (show 2 < 3 by omega) (Sh a n2) f2 rfl rfl (n0 + n1)
        (show n0 + (n1 + 0) = n0 + n1 by omega)
        (ix2 i ⟨j.val - (n0 + n1), by have := j.isLt; omega⟩) (side n2 _) (show n0 + n1 + (j.val - (n0 + n1)) = j.val by omega)).trans ((r2 i _).trans ?_)
      exact congrArg (φ i.val) (show n0 + n1 + (j.val - (n0 + n1)) = j.val by omega)

theorem unread_whole (r : Ref sig .tc) (X : r.ty.Contents (Elt Ideal)) : (Memref.isWhole_whole r).unread (Val := Elt Ideal) X = X :=
  (Memref.isWhole_whole r).read_unread X

theorem reads_g1 : Reads (α := EReal) (a := 1280) (b := 2560) (W6 m c (Proc.devRef .tc main_v13_1)) (inputs m c).agu := by
  rw [W6_of m c main_v13_1 (by decide), W5_of m c main_v13_1 (by decide), W4_of m c main_v13_1 (by decide)]
  unfold W3
  rw [(Region1.leave_1 (W2 m) c).trans (unread_whole main_v13_1 _)]
  refine Reads.congr (Region1.reads_acc1 (W2 m) c 512 (le_refl _)) fun h k hh hk => ?_
  refine ((fits1 m c).agu (2 * 0) hh (by omega)).trans ?_
  congr 1; omega

theorem reads_g2 : Reads (α := EReal) (a := 1280) (b := 2560) (W6 m c (Proc.devRef .tc main_v14_1)) (fun h k => (inputs m c).agu h (2560 + k)) := by
  rw [W6_of m c main_v14_1 (by decide)]
  unfold W5
  rw [(Region2.leave_1 (W4 m) c).trans (unread_whole main_v14_1 _)]
  refine Reads.congr (Region2.reads_acc1 (W4 m) c 512 (le_refl _)) fun h k hh hk => ?_
  exact (fits2 m c).agu (2 * 1280) hh (by omega)

theorem reads_g3 : Reads (α := EReal) (a := 1280) (b := 1792) (W6 m c (Proc.devRef .tc main_v15_1)) (fun h k => (inputs m c).agu h (2560 + 2560 + k)) := by
  unfold W6
  rw [(Region3.leave_1 (W5 m) c).trans (unread_whole main_v15_1 _)]
  refine Reads.congr (Region3.reads_acc1 (W5 m) c 512 (le_refl _)) fun h k hh hk => ?_
  exact (fits3 m c).agu (2 * 2560) hh (by omega)

theorem reads_d1 : Reads (α := EReal) (a := 1280) (b := 1280) (W6 m c (Proc.devRef .tc main_v13_2)) (inputs m c).adn := by
  rw [W6_of m c main_v13_2 (by decide), W5_of m c main_v13_2 (by decide), W4_of m c main_v13_2 (by decide)]
  unfold W3
  rw [(Region1.leave_2 (W2 m) c).trans (unread_whole main_v13_2 _)]
  refine Reads.congr (Region1.reads_acc2 (W2 m) c 512 (le_refl _)) fun h k hh hk => ?_
  refine ((fits1 m c).adn 0 hh (by omega)).trans ?_
  congr 1; omega

theorem reads_d2 : Reads (α := EReal) (a := 1280) (b := 1280) (W6 m c (Proc.devRef .tc main_v14_2)) (fun h k => (inputs m c).adn h (1280 + k)) := by
  rw [W6_of m c main_v14_2 (by decide)]
  unfold W5
  rw [(Region2.leave_2 (W4 m) c).trans (unread_whole main_v14_2 _)]
  refine Reads.congr (Region2.reads_acc2 (W4 m) c 512 (le_refl _)) fun h k hh hk => ?_
  exact (fits2 m c).adn 1280 hh (by omega)

theorem reads_d3 : Reads (α := EReal) (a := 1280) (b := 896) (W6 m c (Proc.devRef .tc main_v15_2)) (fun h k => (inputs m c).adn h (1280 + 1280 + k)) := by
  unfold W6
  rw [(Region3.leave_2 (W5 m) c).trans (unread_whole main_v15_2 _)]
  refine Reads.congr (Region3.reads_acc2 (W5 m) c 512 (le_refl _)) fun h k hh hk => ?_
  exact (fits3 m c).adn 2560 hh (by omega)

/-- The host's regrouping of the interleaved columns. -/
theorem unpack {x : (Sh 1280 6912).Idx → EReal} {φ : ℕ → ℕ → EReal} (r : Reads x φ) (h : Fin 1280) (j : Fin 2) (k : Fin 3456) :
    shapeCast S1280x2x3456 (transpose S1280x2x27x128 [0, 2, 1, 3] (shapeCast S1280x27x2x128 x shapeCasts_S1280x6912_S1280x27x2x128)
      transposes_S1280x27x2x128_S1280x2x27x128_0_2_1_3) shapeCasts_S1280x2x27x128_S1280x2x3456 (ix3 h j k)
      = φ h.val (256 * (k.val / 128) + 128 * j.val + k.val % 128) := by
  refine (shapeCast_apply _ _ (ix3 h j k) (ix4 h j (⟨k.val / 128, by omega⟩ : Fin 27) (⟨k.val % 128, by omega⟩ : Fin 128)) ?_).trans
    ((transpose_apply _ _ _ _ (ix4 h (⟨k.val / 128, by omega⟩ : Fin 27) j (⟨k.val % 128, by omega⟩ : Fin 128)) ?_).trans
      ((shapeCast_apply _ _ _ (ix2 h (⟨256 * (k.val / 128) + 128 * j.val + k.val % 128, by omega⟩ : Fin 6912)) ?_).trans (r _ _)))
  · rw [Shape.rowMajor_val_three, Shape.rowMajor_val_four]
    show ((h.val * 2 + j.val) * 27 + k.val / 128) * 128 + k.val % 128 = (h.val * 2 + j.val) * 3456 + k.val
    omega
  · intro b
    match b with
    | ⟨0, _⟩ => rfl
    | ⟨1, _⟩ => rfl
    | ⟨2, _⟩ => rfl
    | ⟨3, _⟩ => rfl
  · rw [Shape.rowMajor_val_two, Shape.rowMajor_val_four]
    show h.val * 6912 + (256 * (k.val / 128) + 128 * j.val + k.val % 128) = ((h.val * 27 + k.val / 128) * 2 + j.val) * 128 + k.val % 128
    omega

/-- An operation of three operands at its result. -/
theorem nary3_result {Val : EltTy → Type} {x a b y : Ref sig .tc}
    (f : ((k : Fin 3) → ((![x, a, b] : Fin 3 → Ref sig .tc) k).ty.Contents Val) → y.ty.Contents Val) (hxs hy)
    (V : Valuation τ sig Val) :
    (StableHlo.nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [StableHlo.nary_result]; congr 1; funext k; fin_cases k <;> rfl

theorem value_dw (h : Fin 1280) (j : Fin 2) (k : Fin 3456) :
    (W7 m c (Proc.devRef .tc main_v19) : (Sh3 1280 2 3456).Idx → EReal) (ix3 h j k)
      = (inputs m c).agu h.val (256 * (k.val / 128) + 128 * j.val + k.val % 128) := by
  have e : W7 m c (Proc.devRef .tc main_v19) = shapeCast S1280x2x3456 (transpose S1280x2x27x128 [0, 2, 1, 3] (shapeCast S1280x27x2x128
      (concatenate S1280x6912 1 [⟨S1280x2560, (W6 m c (Proc.devRef .tc main_v13_1) : (Sh 1280 2560).Idx → EReal)⟩,
        ⟨S1280x2560, (W6 m c (Proc.devRef .tc main_v14_1) : (Sh 1280 2560).Idx → EReal)⟩,
        ⟨S1280x1792, (W6 m c (Proc.devRef .tc main_v15_1) : (Sh 1280 1792).Idx → EReal)⟩] concatenates_S1280x2560_S1280x2560_S1280x1792_S1280x6912_d1) shapeCasts_S1280x6912_S1280x27x2x128)
      transposes_S1280x27x2x128_S1280x2x27x128_0_2_1_3) shapeCasts_S1280x2x27x128_S1280x2x3456 := by
    unfold W7
    simp only [StableHlo.after_cons, StableHlo.after_nil]
    repeat (first
      | rw [nary3_result] | rw [StableHlo.unary_result] | rw [StableHlo.reshape_result]
      | (rw [StableHlo.unary_result_ne]; rotate_left; decide)
      | (rw [StableHlo.reshape_result_ne]; rotate_left; decide)
      | (rw [StableHlo.nary_result_ne]; rotate_left; decide))
    rfl
  rw [e]
  exact unpack (reads_cat _ _ _ _ rfl (reads_g1 m c) (reads_g2 m c) (reads_g3 m c)) h j k

theorem value_dd (f : Fin 3456) (h : Fin 1280) :
    (W7 m c (Proc.devRef .tc main_v21) : (Sh 3456 1280).Idx → EReal) (ix2 f h) = (inputs m c).adn h.val f.val := by
  have e : W7 m c (Proc.devRef .tc main_v21) = transpose S3456x1280 [1, 0]
      (concatenate S1280x3456 1 [⟨S1280x1280, (W6 m c (Proc.devRef .tc main_v13_2) : (Sh 1280 1280).Idx → EReal)⟩,
        ⟨S1280x1280, (W6 m c (Proc.devRef .tc main_v14_2) : (Sh 1280 1280).Idx → EReal)⟩,
        ⟨S1280x896, (W6 m c (Proc.devRef .tc main_v15_2) : (Sh 1280 896).Idx → EReal)⟩] concatenates_S1280x1280_S1280x1280_S1280x896_S1280x3456_d1)
      transposes_S1280x3456_S3456x1280_1_0 := by
    unfold W7
    simp only [StableHlo.after_cons, StableHlo.after_nil]
    repeat (first
      | rw [nary3_result] | rw [StableHlo.unary_result] | rw [StableHlo.reshape_result]
      | (rw [StableHlo.unary_result_ne]; rotate_left; decide)
      | (rw [StableHlo.reshape_result_ne]; rotate_left; decide)
      | (rw [StableHlo.nary_result_ne]; rotate_left; decide))
    rfl
  rw [e]
  refine (transpose_apply _ _ _ _ (ix2 h f) ?_).trans (reads_cat _ _ _ _ rfl (reads_d1 m c) (reads_d2 m c) (reads_d3 m c) h f)
  intro b
  match b with
  | ⟨0, _⟩ => rfl
  | ⟨1, _⟩ => rfl

end Cert.KernelIdeal.Run
-- ==== Proof.RefVal1.lean ====
/-
  The reference, first part: the operands and weights with their scales, and the gate, up and hidden-gradient products, as
  functions of the arguments.
-/
module

public import proofs.«01_k».proof.Proof.IdealMath
public import proofs.«01_k».proof.Proof.Gen.ReferenceIdeal.Frame
public import Idealize.ShloMosaic.Lib.Pipeline.ValueKit
public import Idealize.ShloMosaic.Lib.IdealHost

@[expose] public section

set_option maxRecDepth 16384
set_option maxHeartbeats 2000000

noncomputable section

namespace Cert.ReferenceIdeal.Val

open Cert.ReferenceIdeal Cert.ReferenceIdeal.Gen
open Cert.KernelIdeal.Point (Args nat2 nat3 nat3_ix Reads reads_nat2 Sh Sh3 gam fea hval dgval duval)
open Idealize.ShloMosaic Idealize.ShloMosaic.TcCoe

variable (m : (ℓ : Loc nD τ sig) → Buf (Elt Ideal) ℓ) (c : Dev nD)

/-- The arguments in the memory at launch. -/
def inputs : Args where
  x := m ((c.tc : Thread nD τ).loc main_arg0)
  xs := m ((c.tc : Thread nD τ).loc main_arg1)
  y := m ((c.tc : Thread nD τ).loc main_arg2)
  ys := m ((c.tc : Thread nD τ).loc main_arg3)
  w := m ((c.tc : Thread nD τ).loc main_arg4)
  ws := m ((c.tc : Thread nD τ).loc main_arg5)
  d := m ((c.tc : Thread nD τ).loc main_arg6)
  ds := m ((c.tc : Thread nD τ).loc main_arg7)

/-! ## The buffers after each stretch -/

def U0 : Valuation τ sig (Elt Ideal) := Pipeline.withArrays (cfgs 0).spec c (V0 m c) fun w => (dats m 0 c).arrAt w (cfgs 0).N
def U1 : Valuation τ sig (Elt Ideal) := StableHlo.after hostOps1 (U0 m c)
def U2 : Valuation τ sig (Elt Ideal) := StableHlo.after hostOps1_1 (U1 m c)
def U3 : Valuation τ sig (Elt Ideal) := StableHlo.after hostOps1_2 (U2 m c)
def U4 : Valuation τ sig (Elt Ideal) := StableHlo.after hostOps1_3 (U3 m c)
def U5 : Valuation τ sig (Elt Ideal) := StableHlo.after hostOps1_4 (U4 m c)
def U6 : Valuation τ sig (Elt Ideal) := StableHlo.after hostOps1_5 (U5 m c)
def U7 : Valuation τ sig (Elt Ideal) := StableHlo.after hostOps1_6 (U6 m c)

theorem tail_eq (b : Ref sig .tc) :
    Pipeline.afterTail₀ cfgs (dats m) 0 (V0 m) [hostOps1, hostOps1_1, hostOps1_2, hostOps1_3, hostOps1_4, hostOps1_5, hostOps1_6] c b
      = U7 m c (Proc.devRef .tc b) := by
  unfold Pipeline.afterTail₀ U7 U6 U5 U4 U3 U2 U1 U0
  rw [List.flatten_cons, List.flatten_cons, List.flatten_cons, List.flatten_cons, List.flatten_cons, List.flatten_cons, List.flatten_cons,
    List.flatten_nil, List.append_nil, StableHlo.after_append, StableHlo.after_append, StableHlo.after_append, StableHlo.after_append,
    StableHlo.after_append, StableHlo.after_append]

/-! ## The widened operands -/

theorem zero3 : (![0, 0, 0] : Fin 3 → ℕ) = fun _ => 0 := by decide
theorem zero2 : (![0, 0] : Fin 2 → ℕ) = fun _ => 0 := by decide

theorem out_4 (x0 : Vec Ideal S2x131072x1280 .fp8e4m3) (x1 : Vec Ideal S2x131072x1280 .fp8e5m2) (x2 : Vec Ideal S1280x2x3456 .fp8e4m3)
    (x3 : Vec Ideal S3456x1280 .fp8e4m3) : out0_4 x0 x1 x2 x3 = x0 := by
  unfold out0_4 k0_pay1
  rw [View.canon_unit_zero zero3, View.ld_unit_zero zero3]; rfl
theorem out_5 (x0 : Vec Ideal S2x131072x1280 .fp8e4m3) (x1 : Vec Ideal S2x131072x1280 .fp8e5m2) (x2 : Vec Ideal S1280x2x3456 .fp8e4m3)
    (x3 : Vec Ideal S3456x1280 .fp8e4m3) : out0_5 x0 x1 x2 x3 = x1 := by
  unfold out0_5 k0_pay2
  rw [View.canon_unit_zero zero3, View.ld_unit_zero zero3]; rfl
theorem out_6 (x0 : Vec Ideal S2x131072x1280 .fp8e4m3) (x1 : Vec Ideal S2x131072x1280 .fp8e5m2) (x2 : Vec Ideal S1280x2x3456 .fp8e4m3)
    (x3 : Vec Ideal S3456x1280 .fp8e4m3) : out0_6 x0 x1 x2 x3 = x2 := by
  unfold out0_6 k0_pay3
  rw [View.canon_unit_zero zero3, View.ld_unit_zero zero3]; rfl
theorem out_7 (x0 : Vec Ideal S2x131072x1280 .fp8e4m3) (x1 : Vec Ideal S2x131072x1280 .fp8e5m2) (x2 : Vec Ideal S1280x2x3456 .fp8e4m3)
    (x3 : Vec Ideal S3456x1280 .fp8e4m3) : out0_7 x0 x1 x2 x3 = x3 := by
  unfold out0_7 k0_pay4
  rw [View.canon_unit_zero zero2, View.ld_unit_zero zero2]; rfl

theorem arr_4 : (dats m 0 c).arrAt 4 cfg0.N = (inputs m c).x := by
  refine (dats m 0 c).arrAt_eq_of_covers 4 _ (by decide +kernel) fun t hf y => ?_
  rw [after0_4, out_4]; rfl
theorem arr_5 : (dats m 0 c).arrAt 5 cfg0.N = (inputs m c).y := by
  refine (dats m 0 c).arrAt_eq_of_covers 5 _ (by decide +kernel) fun t hf y => ?_
  rw [after0_5, out_5]; rfl
theorem arr_6 : (dats m 0 c).arrAt 6 cfg0.N = (inputs m c).w := by
  refine (dats m 0 c).arrAt_eq_of_covers 6 _ (by decide +kernel) fun t hf y => ?_
  rw [after0_6, out_6]; rfl
theorem arr_7 : (dats m 0 c).arrAt 7 cfg0.N = (inputs m c).d := by
  refine (dats m 0 c).arrAt_eq_of_covers 7 _ (by decide +kernel) fun t hf y => ?_
  rw [after0_7, out_7]; rfl

theorem U0_v0_0 : U0 m c (Proc.devRef .tc main_v0_0) = (inputs m c).x :=
  (Pipeline.withArrays_arr spec0 launch0.win.arr_inj c (V0 m c) _ 4).trans (arr_4 m c)
theorem U0_v0_1 : U0 m c (Proc.devRef .tc main_v0_1) = (inputs m c).y :=
  (Pipeline.withArrays_arr spec0 launch0.win.arr_inj c (V0 m c) _ 5).trans (arr_5 m c)
theorem U0_v0_2 : U0 m c (Proc.devRef .tc main_v0_2) = (inputs m c).w :=
  (Pipeline.withArrays_arr spec0 launch0.win.arr_inj c (V0 m c) _ 6).trans (arr_6 m c)
theorem U0_v0_3 : U0 m c (Proc.devRef .tc main_v0_3) = (inputs m c).d :=
  (Pipeline.withArrays_arr spec0 launch0.win.arr_inj c (V0 m c) _ 7).trans (arr_7 m c)
theorem U0_arg1 : U0 m c (Proc.devRef .tc main_arg1) = (inputs m c).xs :=
  Pipeline.withArrays_of_ne _ c (V0 m c) _ main_arg1 (by exact (by decide : ∀ w, Pipeline.arrRef spec0 w ≠ main_arg1))
theorem U0_arg3 : U0 m c (Proc.devRef .tc main_arg3) = (inputs m c).ys :=
  Pipeline.withArrays_of_ne _ c (V0 m c) _ main_arg3 (by exact (by decide : ∀ w, Pipeline.arrRef spec0 w ≠ main_arg3))
theorem U0_arg5 : U0 m c (Proc.devRef .tc main_arg5) = (inputs m c).ws :=
  Pipeline.withArrays_of_ne _ c (V0 m c) _ main_arg5 (by exact (by decide : ∀ w, Pipeline.arrRef spec0 w ≠ main_arg5))
theorem U0_arg7 : U0 m c (Proc.devRef .tc main_arg7) = (inputs m c).ds :=
  Pipeline.withArrays_of_ne _ c (V0 m c) _ main_arg7 (by exact (by decide : ∀ w, Pipeline.arrRef spec0 w ≠ main_arg7))

/-! ## The scales multiplied in -/

theorem U1_v6 (h : Fin 1280) (j : Fin 2) (k : Fin 3456) :
    (U1 m c (Proc.devRef .tc main_v6) : (Sh3 1280 2 3456).Idx → EReal) (ix3 h j k) = (inputs m c).R h j k := by
  have e : U1 m c (Proc.devRef .tc main_v6) = shapeCast S1280x2x3456 (mulf (F := Ideal) (φ := .bf16)
      (shapeCast S10x128x2x27x128 (U0 m c (Proc.devRef .tc main_v0_2) : FVec Ideal S1280x2x3456 .bf16) shapeCasts_S1280x2x3456_S10x128x2x27x128)
      (broadcastInDim S10x128x2x27x128 ![0, 1, 2, 3, 4] bcast_S10x1x2x27x1_S10x128x2x27x128_0_1_2_3_4
        (broadcastInDim S10x1x2x27x1 ![0, 2, 3] bcast_S10x2x27_S10x1x2x27x1_0_2_3
          (truncf .bf16 (U0 m c (Proc.devRef .tc main_arg5) : FVec Ideal S10x2x27 .f32) bitsLt_bf16_f32)))) shapeCasts_S10x128x2x27x128_S1280x2x3456 := by
    unfold U1; after_results_simp; rfl
  rw [e, U0_v0_2, U0_arg5]
  unfold Args.R
  pointwise
  exact congrArg₂ (· * ·) (nat3_ix _ _ _ _) (nat3_ix (inputs m c).ws ⟨h.val / 128, by omega⟩ j ⟨k.val / 128, by omega⟩)

theorem U1_v12 : Reads (α := EReal) (a := 3456) (b := 1280) (U1 m c (Proc.devRef .tc main_v12)) (inputs m c).D := by
  intro f h
  have e : U1 m c (Proc.devRef .tc main_v12) = shapeCast S3456x1280 (mulf (F := Ideal) (φ := .bf16)
      (shapeCast S27x128x10x128 (U0 m c (Proc.devRef .tc main_v0_3) : FVec Ideal S3456x1280 .bf16) shapeCasts_S3456x1280_S27x128x10x128)
      (broadcastInDim S27x128x10x128 ![0, 1, 2, 3] bcast_S27x1x10x1_S27x128x10x128_0_1_2_3
        (broadcastInDim S27x1x10x1 ![0, 2] bcast_S27x10_S27x1x10x1_0_2
          (truncf .bf16 (U0 m c (Proc.devRef .tc main_arg7) : FVec Ideal S27x10 .f32) bitsLt_bf16_f32)))) shapeCasts_S27x128x10x128_S3456x1280 := by
    unfold U1; after_results_simp; rfl
  rw [e, U0_v0_3, U0_arg7]
  unfold Args.D
  pointwise
  exact congrArg₂ (· * ·) (reads_nat2 _ _ _) (reads_nat2 (inputs m c).ds ⟨f.val / 128, by omega⟩ ⟨h.val / 128, by omega⟩)

theorem U1_v19 : Reads (α := EReal) (a := 262144) (b := 1280) (U1 m c (Proc.devRef .tc main_v19)) (inputs m c).X := by
  intro n h
  have e : U1 m c (Proc.devRef .tc main_v19) = shapeCast S262144x1280 (mulf (F := Ideal) (φ := .bf16)
      (shapeCast S262144x10x128 (U0 m c (Proc.devRef .tc main_v0_0) : FVec Ideal S2x131072x1280 .bf16) shapeCasts_S2x131072x1280_S262144x10x128)
      (broadcastInDim S262144x10x128 ![0, 1, 2] bcast_S262144x10x1_S262144x10x128_0_1_2
        (broadcastInDim S262144x10x1 ![0, 1] bcast_S262144x10_S262144x10x1_0_1
          (truncf .bf16 (shapeCast S262144x10 (U0 m c (Proc.devRef .tc main_arg1) : FVec Ideal S2x131072x10 .f32) shapeCasts_S2x131072x10_S262144x10) bitsLt_bf16_f32))))
      shapeCasts_S262144x10x128_S262144x1280 := by
    unfold U1; after_results_simp; rfl
  rw [e, U0_v0_0, U0_arg1]
  unfold Args.X
  pointwise
  exact congrArg₂ (· * ·) (nat3_ix (inputs m c).x ⟨n.val / 131072, by omega⟩ ⟨n.val % 131072, by omega⟩ h)
    (nat3_ix (inputs m c).xs ⟨n.val / 131072, by omega⟩ ⟨n.val % 131072, by omega⟩ ⟨h.val / 128, by omega⟩)

theorem U1_v26 : Reads (α := EReal) (a := 262144) (b := 1280) (U1 m c (Proc.devRef .tc main_v26)) (inputs m c).Y := by
  intro n h
  have e : U1 m c (Proc.devRef .tc main_v26) = shapeCast S262144x1280 (mulf (F := Ideal) (φ := .bf16)
      (shapeCast S262144x10x128 (U0 m c (Proc.devRef .tc main_v0_1) : FVec Ideal S2x131072x1280 .bf16) shapeCasts_S2x131072x1280_S262144x10x128)
      (broadcastInDim S262144x10x128 ![0, 1, 2] bcast_S262144x10x1_S262144x10x128_0_1_2
        (broadcastInDim S262144x10x1 ![0, 1] bcast_S262144x10_S262144x10x1_0_1
          (truncf .bf16 (shapeCast S262144x10 (U0 m c (Proc.devRef .tc main_arg3) : FVec Ideal S2x131072x10 .f32) shapeCasts_S2x131072x10_S262144x10) bitsLt_bf16_f32))))
      shapeCasts_S262144x10x128_S262144x1280 := by
    unfold U1; after_results_simp; rfl
  rw [e, U0_v0_1, U0_arg3]
  unfold Args.Y
  pointwise
  exact congrArg₂ (· * ·) (nat3_ix (inputs m c).y ⟨n.val / 131072, by omega⟩ ⟨n.val % 131072, by omega⟩ h)
    (nat3_ix (inputs m c).ys ⟨n.val / 131072, by omega⟩ ⟨n.val % 131072, by omega⟩ ⟨h.val / 128, by omega⟩)

/-! ## The gate and up values -/

/-- A value of the first product. -/
def zz (A : Args) (n j k : ℕ) : EReal := ∑ h ∈ Finset.range 1280, A.X n h * A.R h j k

theorem dot27 {x : FVec Ideal S262144x1280 .bf16} {w : FVec Ideal S1280x2x3456 .bf16} {f : ℕ → ℕ → EReal} {r : ℕ → ℕ → ℕ → EReal}
    (hx : Reads (α := EReal) (a := 262144) (b := 1280) x f) (hw : ∀ h j k, (w : (Sh3 1280 2 3456).Idx → EReal) (ix3 h j k) = r h.val j.val k.val)
    (n : Fin 262144) (j : Fin 2) (k : Fin 3456) :
    (Host.dotGeneral dot_S262144x1280_S1280x2x3456_S262144x2x3456_1_0_0_12_n_n none x w : FVec Ideal S262144x2x3456 .f32) (ix3 n j k)
      = ∑ h ∈ Finset.range 1280, f n h * r h j k := by
  pointwise
  refine Eq.trans ?_ (Cert.KernelIdeal.Point.sum_fin 1280 fun h => f n h * r h j k)
  exact Finset.sum_congr rfl fun h _ => congrArg₂ (· * ·) (hx n h) (hw h j k)

theorem U1_v27 (n : Fin 262144) (j : Fin 2) (k : Fin 3456) :
    (U1 m c (Proc.devRef .tc main_v27) : (Sh3 262144 2 3456).Idx → EReal) (ix3 n j k) = zz (inputs m c) n j k := by
  have e : U1 m c (Proc.devRef .tc main_v27) = (Host.dotGeneral (φ₁ := .bf16) (φ₂ := .bf16) dot_S262144x1280_S1280x2x3456_S262144x2x3456_1_0_0_12_n_n none
      (U1 m c (Proc.devRef .tc main_v19) : FVec Ideal S262144x1280 .bf16) (U1 m c (Proc.devRef .tc main_v6) : FVec Ideal S1280x2x3456 .bf16) :
        FVec Ideal S262144x2x3456 .f32) := by
    unfold U1; after_results_simp
  rw [e]
  exact dot27 (U1_v19 m c) (U1_v6 m c) n j k

theorem U1_v29 (n : Fin 262144) (k : Fin 3456) :
    (U1 m c (Proc.devRef .tc main_v29) : (Sh 262144 3456).Idx → EReal) (ix2 n k) = zz (inputs m c) n 0 k := by
  have e : U1 m c (Proc.devRef .tc main_v29) = shapeCast S262144x3456 (extractStridedSlice S262144x1x3456 ![0, 0, 0]
      (U1 m c (Proc.devRef .tc main_v27) : FVec Ideal S262144x2x3456 .f32) slices_S262144x2x3456_S262144x1x3456_0_0_0) shapeCasts_S262144x1x3456_S262144x3456 := by
    unfold U1; after_results_simp; rfl
  rw [e]
  pointwise
  exact U1_v27 m c n 0 k

theorem U1_v31 (n : Fin 262144) (k : Fin 3456) :
    (U1 m c (Proc.devRef .tc main_v31) : (Sh 262144 3456).Idx → EReal) (ix2 n k) = zz (inputs m c) n 1 k := by
  have e : U1 m c (Proc.devRef .tc main_v31) = shapeCast S262144x3456 (extractStridedSlice S262144x1x3456 ![0, 1, 0]
      (U1 m c (Proc.devRef .tc main_v27) : FVec Ideal S262144x2x3456 .f32) slices_S262144x2x3456_S262144x1x3456_0_1_0) shapeCasts_S262144x1x3456_S262144x3456 := by
    unfold U1; after_results_simp; rfl
  rw [e]
  pointwise
  exact U1_v27 m c n 1 k

theorem U1_v33 : U1 m c (Proc.devRef .tc main_v33) = minimumf (F := Ideal) (φ := .f32) (U1 m c (Proc.devRef .tc main_v29))
      (broadcastInDim S262144x3456 ![] bcast_S_S262144x3456 (constant S_ .f32 0x40E00000#32)) := by
  unfold U1; after_results_simp

theorem U2_v34 : U2 m c (Proc.devRef .tc main_v34) = minimumf (F := Ideal) (φ := .f32)
      (broadcastInDim S262144x3456 ![] bcast_S_S262144x3456 (constant S_ .f32 0x40E00000#32))
      (maximumf (F := Ideal) (φ := .f32) (broadcastInDim S262144x3456 ![] bcast_S_S262144x3456 (constant S_ .f32 0xC0E00000#32))
        (U1 m c (Proc.devRef .tc main_v31))) := by
  have e0 : U1 m c (Proc.devRef .tc main_cst_0) = constant (F := Ideal) S_ .f32 0xC0E00000#32 := by
    unfold U1; after_results_simp
  have e1 : U1 m c (Proc.devRef .tc main_cst_1) = constant (F := Ideal) S_ .f32 0x40E00000#32 := by
    unfold U1; after_results_simp
  rw [← e0, ← e1]
  unfold U2; after_results_simp; rfl

end Cert.ReferenceIdeal.Val
-- ==== Proof.RefVal2.lean ====
/-
  The reference program's gradients of the hidden entries and its three results, as sums over the arguments.
-/
module

public import proofs.«01_k».proof.Proof.RefVal1

@[expose] public section

set_option maxRecDepth 16384
set_option maxHeartbeats 2000000

noncomputable section

namespace Cert.ReferenceIdeal.Val

open Cert.ReferenceIdeal Cert.ReferenceIdeal.Gen
open Cert.KernelIdeal.Point (Args nat2 nat3 nat3_ix Reads reads_nat2 Sh Sh3 gam fea hval dgval duval)
open Idealize.ShloMosaic Idealize.ShloMosaic.TcCoe

/-! ## One entry -/

/-- A block of one value. -/
abbrev kst (b : BitVec 32) : FVec Ideal S262144x3456 .f32 := broadcastInDim S262144x3456 ![] bcast_S_S262144x3456 (constant S_ .f32 b)
/-- The clipped gate values. -/
abbrev gcR (g : FVec Ideal S262144x3456 .f32) : FVec Ideal S262144x3456 .f32 := minimumf g (kst 0x40E00000#32)
/-- The clipped up values. -/
abbrev ucR (u : FVec Ideal S262144x3456 .f32) : FVec Ideal S262144x3456 .f32 := minimumf (kst 0x40E00000#32) (maximumf (kst 0xC0E00000#32) u)
/-- The logistic factor. -/
abbrev sgR (g : FVec Ideal S262144x3456 .f32) : FVec Ideal S262144x3456 .f32 :=
  Host.divf (kst 0x3F800000#32) (addf (kst 0x3F800000#32) (Host.exp (Host.negf (mulf (kst 0x3FD9DB23#32) (gcR g)))))
/-- The hidden values. -/
abbrev hR (g u : FVec Ideal S262144x3456 .f32) : FVec Ideal S262144x3456 .f32 := mulf (mulf (gcR g) (sgR g)) (addf (ucR u) (kst 0x3F800000#32))
/-- The gate gradients where the gate is not clipped. -/
abbrev dgR (g u d : FVec Ideal S262144x3456 .f32) : FVec Ideal S262144x3456 .f32 :=
  mulf (mulf (mulf d (addf (ucR u) (kst 0x3F800000#32))) (sgR g))
    (addf (kst 0x3F800000#32) (mulf (mulf (kst 0x3FD9DB23#32) (gcR g)) (subf (kst 0x3F800000#32) (sgR g))))

theorem hR_at (g u : FVec Ideal S262144x3456 .f32) (n : Fin 262144) (k : Fin 3456) : hR g u (ix2 n k) = hval (g (ix2 n k)) (u (ix2 n k)) := by
  unfold hval
  pointwise
  rfl

theorem dgR_at (g u d : FVec Ideal S262144x3456 .f32) (n : Fin 262144) (k : Fin 3456) :
    select (cmpf .olt g (kst 0x40E00000#32)) (dgR g u d) (kst 0x00000000#32) (ix2 n k) = dgval (g (ix2 n k)) (u (ix2 n k)) (d (ix2 n k)) := by
  unfold dgval
  pointwise
  rfl

theorem duR_at (g u d : FVec Ideal S262144x3456 .f32) (n : Fin 262144) (k : Fin 3456) :
    select (cmpf .olt (Host.absf u) (kst 0x40E00000#32)) (mulf (mulf d (gcR g)) (sgR g)) (kst 0x00000000#32) (ix2 n k)
      = duval (g (ix2 n k)) (u (ix2 n k)) (d (ix2 n k)) := by
  unfold duval
  pointwise
  rw [mul_assoc]
  rfl

/-! ## The products -/

theorem dot48 {y : FVec Ideal S262144x1280 .bf16} {w : FVec Ideal S3456x1280 .bf16} {f g : ℕ → ℕ → EReal}
    (hy : Reads (α := EReal) (a := 262144) (b := 1280) y f) (hw : Reads (α := EReal) (a := 3456) (b := 1280) w g) (n : Fin 262144) (k : Fin 3456) :
    (Host.dotGeneral dot_S262144x1280_S3456x1280_S262144x3456_1_1_0_0_n_n none y w : FVec Ideal S262144x3456 .f32) (ix2 n k)
      = Cert.KernelIdeal.Point.T 1280 f g n k := by
  pointwise
  refine Eq.trans ?_ (Cert.KernelIdeal.Point.sum_fin 1280 fun h => f n h * g k h)
  exact Finset.sum_congr rfl fun h _ => congrArg₂ (· * ·) (hy n h) (hw k h)

theorem dot77 {x : FVec Ideal S262144x3456 .bf16} {y : FVec Ideal S262144x1280 .bf16} {f g : ℕ → ℕ → EReal}
    (hx : Reads (α := EReal) (a := 262144) (b := 3456) x f) (hy : Reads (α := EReal) (a := 262144) (b := 1280) y g) (k : Fin 3456) (h : Fin 1280) :
    (Host.dotGeneral dot_S262144x3456_S262144x1280_S3456x1280_0_0_1_1_n_n none x y : FVec Ideal S3456x1280 .f32) (ix2 k h)
      = ∑ n ∈ Finset.range 262144, g n h * f n k := by
  pointwise
  refine Eq.trans ?_ (Cert.KernelIdeal.Point.sum_fin 262144 fun n => g n h * f n k)
  exact Finset.sum_congr rfl fun n _ => (congrArg₂ (· * ·) (hx n k) (hy n h)).trans (mul_comm _ _)

theorem dot76 {x : FVec Ideal S262144x1280 .bf16} {p : FVec Ideal S262144x2x3456 .bf16} {f : ℕ → ℕ → EReal} {r : ℕ → ℕ → ℕ → EReal}
    (hx : Reads (α := EReal) (a := 262144) (b := 1280) x f) (hp : ∀ n j k, (p : (Sh3 262144 2 3456).Idx → EReal) (ix3 n j k) = r n.val j.val k.val)
    (h : Fin 1280) (j : Fin 2) (k : Fin 3456) :
    (Host.dotGeneral dot_S262144x1280_S262144x2x3456_S1280x2x3456_0_0_1_12_n_n none x p : FVec Ideal S1280x2x3456 .f32) (ix3 h j k)
      = ∑ n ∈ Finset.range 262144, f n h * r n j k := by
  pointwise
  refine Eq.trans ?_ (Cert.KernelIdeal.Point.sum_fin 262144 fun n => f n h * r n j k)
  exact Finset.sum_congr rfl fun n _ => congrArg₂ (· * ·) (hx n h) (hp n j k)

theorem dot74 {p : FVec Ideal S262144x2x3456 .bf16} {w : FVec Ideal S1280x2x3456 .bf16} {q r : ℕ → ℕ → ℕ → EReal}
    (hp : ∀ n j k, (p : (Sh3 262144 2 3456).Idx → EReal) (ix3 n j k) = q n.val j.val k.val)
    (hw : ∀ h j k, (w : (Sh3 1280 2 3456).Idx → EReal) (ix3 h j k) = r h.val j.val k.val) (n : Fin 262144) (h : Fin 1280) :
    (Host.dotGeneral dot_S262144x2x3456_S1280x2x3456_S262144x1280_21_21_0_0_n_n none p w : FVec Ideal S262144x1280 .f32) (ix2 n h)
      = ∑ k ∈ Finset.range 3456, (q n 0 k * r h 0 k + q n 1 k * r h 1 k) := by
  pointwise
  refine Eq.trans ?_ (Cert.KernelIdeal.Point.sum_fin 3456 fun k => q n 0 k * r h 0 k + q n 1 k * r h 1 k)
  refine Finset.sum_congr rfl fun k _ => ?_
  rw [Fin.sum_univ_two]
  exact congrArg₂ (· + ·) (congrArg₂ (· * ·) (hp n 0 k) (hw h 0 k)) (congrArg₂ (· * ·) (hp n 1 k) (hw h 1 k))

/-! ## The stretches -/

variable (m : (ℓ : Loc nD τ sig) → Buf (Elt Ideal) ℓ) (c : Dev nD)

theorem keep2 {b : Ref sig .tc} (h : b ∉ hostOps1_1_W) : U2 m c (Proc.devRef .tc b) = U1 m c (Proc.devRef .tc b) :=
  StableHlo.after_of_writes_sub hostOps1_1 _ hostOps1_1_writes h
theorem keep3 {b : Ref sig .tc} (h : b ∉ hostOps1_2_W) : U3 m c (Proc.devRef .tc b) = U2 m c (Proc.devRef .tc b) :=
  StableHlo.after_of_writes_sub hostOps1_2 _ hostOps1_2_writes h
theorem keep4 {b : Ref sig .tc} (h : b ∉ hostOps1_3_W) : U4 m c (Proc.devRef .tc b) = U3 m c (Proc.devRef .tc b) :=
  StableHlo.after_of_writes_sub hostOps1_3 _ hostOps1_3_writes h
theorem keep5 {b : Ref sig .tc} (h : b ∉ hostOps1_4_W) : U5 m c (Proc.devRef .tc b) = U4 m c (Proc.devRef .tc b) :=
  StableHlo.after_of_writes_sub hostOps1_4 _ hostOps1_4_writes h
theorem keep6 {b : Ref sig .tc} (h : b ∉ hostOps1_5_W) : U6 m c (Proc.devRef .tc b) = U5 m c (Proc.devRef .tc b) :=
  StableHlo.after_of_writes_sub hostOps1_5 _ hostOps1_5_writes h

/-- The gate values. -/
def gv : FVec Ideal S262144x3456 .f32 := U1 m c (Proc.devRef .tc main_v29)
/-- The up values. -/
def uv : FVec Ideal S262144x3456 .f32 := U1 m c (Proc.devRef .tc main_v31)
/-- The gradients of the hidden values. -/
def dv : FVec Ideal S262144x3456 .f32 := Host.dotGeneral (φ₁ := .bf16) (φ₂ := .bf16) dot_S262144x1280_S3456x1280_S262144x3456_1_1_0_0_n_n none
  (U1 m c (Proc.devRef .tc main_v26) : FVec Ideal S262144x1280 .bf16) (U1 m c (Proc.devRef .tc main_v12) : FVec Ideal S3456x1280 .bf16)

theorem U2_v33 : U2 m c (Proc.devRef .tc main_v33) = gcR (gv m c) := (keep2 m c (by decide +kernel)).trans (U1_v33 m c)
theorem U2_ucR : U2 m c (Proc.devRef .tc main_v34) = ucR (uv m c) := U2_v34 m c
theorem U2_v29 : U2 m c (Proc.devRef .tc main_v29) = gv m c := keep2 m c (by decide +kernel)

theorem U3_v42 : U3 m c (Proc.devRef .tc main_v42) = sgR (gv m c) := by
  unfold sgR; rw [← U2_v33]; unfold U3; after_results_simp
theorem U3_v47 : U3 m c (Proc.devRef .tc main_v47) = truncf .bf16 (hR (gv m c) (uv m c)) bitsLt_bf16_f32 := by
  unfold hR sgR; rw [← U2_v33, ← U2_ucR]; unfold U3; after_results_simp
theorem U3_v48 : U3 m c (Proc.devRef .tc main_v48) = dv m c := by
  unfold dv; rw [← keep2 m c (b := main_v26) (by decide +kernel), ← keep2 m c (b := main_v12) (by decide +kernel)]
  unfold U3; after_results_simp
theorem U3_v50 : U3 m c (Proc.devRef .tc main_v50) = cmpf .olt (gv m c) (kst 0x40E00000#32) := by
  rw [← U2_v29]; unfold U3; after_results_simp
theorem U3_v62 : U3 m c (Proc.devRef .tc main_v62) = dgR (gv m c) (uv m c) (dv m c) := by
  unfold dgR sgR dv; rw [← U2_v33, ← U2_ucR, ← keep2 m c (b := main_v26) (by decide +kernel), ← keep2 m c (b := main_v12) (by decide +kernel)]
  unfold U3; after_results_simp
theorem U3_cst : U3 m c (Proc.devRef .tc main_cst_11) = constant (F := Ideal) S_ .f32 0x00000000#32 := by
  unfold U3; after_results_simp

theorem U4_v63 : U4 m c (Proc.devRef .tc main_v63)
    = select (cmpf .olt (gv m c) (kst 0x40E00000#32)) (dgR (gv m c) (uv m c) (dv m c)) (kst 0x00000000#32) := by
  rw [← U3_v50, ← U3_v62]; unfold kst; rw [← U3_cst m c]
  unfold U4; after_results_simp; rfl

theorem U4_v31 : U4 m c (Proc.devRef .tc main_v31) = uv m c :=
  (keep4 m c (by decide +kernel)).trans ((keep3 m c (by decide +kernel)).trans (keep2 m c (by decide +kernel)))
theorem U4_v33 : U4 m c (Proc.devRef .tc main_v33) = gcR (gv m c) :=
  (keep4 m c (by decide +kernel)).trans ((keep3 m c (by decide +kernel)).trans (U2_v33 m c))
theorem U4_v42 : U4 m c (Proc.devRef .tc main_v42) = sgR (gv m c) := (keep4 m c (by decide +kernel)).trans (U3_v42 m c)
theorem U4_v48 : U4 m c (Proc.devRef .tc main_v48) = dv m c := (keep4 m c (by decide +kernel)).trans (U3_v48 m c)

theorem U5_v66 : U5 m c (Proc.devRef .tc main_v66) = cmpf .olt (Host.absf (uv m c)) (kst 0x40E00000#32) := by
  rw [← U4_v31]; unfold U5; after_results_simp
theorem U5_v68 : U5 m c (Proc.devRef .tc main_v68) = mulf (mulf (dv m c) (gcR (gv m c))) (sgR (gv m c)) := by
  rw [← U4_v42, ← U4_v33, ← U4_v48]; unfold U5; after_results_simp
theorem U5_cst : U5 m c (Proc.devRef .tc main_cst_13) = constant (F := Ideal) S_ .f32 0x00000000#32 := by
  unfold U5; after_results_simp

theorem U6_v69 : U6 m c (Proc.devRef .tc main_v69) = select (cmpf .olt (Host.absf (uv m c)) (kst 0x40E00000#32))
    (mulf (mulf (dv m c) (gcR (gv m c))) (sgR (gv m c))) (kst 0x00000000#32) := by
  rw [← U5_v66, ← U5_v68]; unfold kst; rw [← U5_cst m c]
  unfold U6; after_results_simp; rfl

theorem U6_v63 : U6 m c (Proc.devRef .tc main_v63)
    = select (cmpf .olt (gv m c) (kst 0x40E00000#32)) (dgR (gv m c) (uv m c) (dv m c)) (kst 0x00000000#32) :=
  (keep6 m c (by decide +kernel)).trans ((keep5 m c (by decide +kernel)).trans (U4_v63 m c))

theorem keep62 {b : Ref sig .tc} (h2 : b ∉ hostOps1_1_W) (h3 : b ∉ hostOps1_2_W) (h4 : b ∉ hostOps1_3_W) (h5 : b ∉ hostOps1_4_W)
    (h6 : b ∉ hostOps1_5_W) : U6 m c (Proc.devRef .tc b) = U1 m c (Proc.devRef .tc b) :=
  (keep6 m c h6).trans ((keep5 m c h5).trans ((keep4 m c h4).trans ((keep3 m c h3).trans (keep2 m c h2))))

theorem U6_v47 : U6 m c (Proc.devRef .tc main_v47) = truncf .bf16 (hR (gv m c) (uv m c)) bitsLt_bf16_f32 :=
  (keep6 m c (by decide +kernel)).trans ((keep5 m c (by decide +kernel)).trans ((keep4 m c (by decide +kernel)).trans (U3_v47 m c)))

/-! ## The entries as functions of the arguments -/

theorem G_gam (A : Args) (h k : ℕ) : A.G h (gam k) = A.R h 0 k := by
  unfold Args.G gam
  rw [if_pos (by omega), show 128 * ((256 * (k / 128) + k % 128) / 256) + (256 * (k / 128) + k % 128) % 256 = k by omega]

theorem G_gam_up (A : Args) (h k : ℕ) : A.G h (gam k + 128) = A.R h 1 k := by
  unfold Args.G gam
  rw [if_neg (by omega), show 128 * ((256 * (k / 128) + k % 128 + 128) / 256) + ((256 * (k / 128) + k % 128 + 128) % 256 - 128) = k by omega]

theorem zz_gate (A : Args) (n k : ℕ) : zz A n 0 k = Cert.KernelIdeal.Point.S 1280 A.X A.G n (gam k) := by
  unfold zz Cert.KernelIdeal.Point.S
  exact Finset.sum_congr rfl fun h _ => by rw [G_gam]

theorem zz_up (A : Args) (n k : ℕ) : zz A n 1 k = Cert.KernelIdeal.Point.S 1280 A.X A.G n (gam k + 128) := by
  unfold zz Cert.KernelIdeal.Point.S
  exact Finset.sum_congr rfl fun h _ => by rw [G_gam_up]

/-- The gradient of a gate (`j = 0`) or up (`j = 1`) value. -/
def qq (A : Args) (n j k : ℕ) : EReal :=
  if j = 0 then dgval (zz A n 0 k) (zz A n 1 k) (Cert.KernelIdeal.Point.T 1280 A.Y A.D n k)
  else duval (zz A n 0 k) (zz A n 1 k) (Cert.KernelIdeal.Point.T 1280 A.Y A.D n k)

theorem qq_gate (A : Args) (n k : ℕ) : qq A n 0 k = A.gr n (gam k) := by
  unfold qq Args.gr Cert.KernelIdeal.Point.dgu
  have e : fea (gam k) = k := by unfold fea gam; omega
  rw [if_pos rfl, if_pos (by unfold gam; omega), e, zz_gate, zz_up]

theorem qq_up (A : Args) (n k : ℕ) : qq A n 1 k = A.gr n (gam k + 128) := by
  unfold qq Args.gr Cert.KernelIdeal.Point.dgu
  have e : fea (gam k + 128) = k := by unfold fea gam; omega
  rw [if_neg (by decide), if_neg (by unfold gam; omega), e, zz_gate, zz_up]

theorem qq_col (A : Args) (n j k : ℕ) (hj : j < 2) : qq A n j k = A.gr n (256 * (k / 128) + 128 * j + k % 128) := by
  rcases (show j = 0 ∨ j = 1 by omega) with rfl | rfl
  · rw [qq_gate]; unfold gam; rfl
  · rw [qq_up]; unfold gam
    rw [show 256 * (k / 128) + k % 128 + 128 = 256 * (k / 128) + 128 * 1 + k % 128 by omega]

theorem gv_at (n : Fin 262144) (k : Fin 3456) : (gv m c : (Sh 262144 3456).Idx → EReal) (ix2 n k) = zz (inputs m c) n 0 k := U1_v29 m c n k
theorem uv_at (n : Fin 262144) (k : Fin 3456) : (uv m c : (Sh 262144 3456).Idx → EReal) (ix2 n k) = zz (inputs m c) n 1 k := U1_v31 m c n k
theorem dv_at (n : Fin 262144) (k : Fin 3456) :
    (dv m c : (Sh 262144 3456).Idx → EReal) (ix2 n k) = Cert.KernelIdeal.Point.T 1280 (inputs m c).Y (inputs m c).D n k :=
  dot48 (U1_v26 m c) (U1_v12 m c) n k

theorem U6_hid : Reads (α := EReal) (a := 262144) (b := 3456) (U6 m c (Proc.devRef .tc main_v47)) (inputs m c).hid := by
  intro n k
  rw [U6_v47]
  refine (hR_at (gv m c) (uv m c) n k).trans ?_
  rw [gv_at, uv_at, zz_gate, zz_up]; rfl

theorem U6_dg (n : Fin 262144) (k : Fin 3456) :
    (U6 m c (Proc.devRef .tc main_v63) : (Sh 262144 3456).Idx → EReal) (ix2 n k) = qq (inputs m c) n 0 k := by
  rw [U6_v63]
  refine (dgR_at (gv m c) (uv m c) (dv m c) n k).trans ?_
  rw [gv_at, uv_at, dv_at]; rfl

theorem U6_du (n : Fin 262144) (k : Fin 3456) :
    (U6 m c (Proc.devRef .tc main_v69) : (Sh 262144 3456).Idx → EReal) (ix2 n k) = qq (inputs m c) n 1 k := by
  rw [U6_v69]
  refine (duR_at (gv m c) (uv m c) (dv m c) n k).trans ?_
  rw [gv_at, uv_at, dv_at]; rfl

theorem U7_v73 (n : Fin 262144) (j : Fin 2) (k : Fin 3456) :
    (U7 m c (Proc.devRef .tc main_v73) : (Sh3 262144 2 3456).Idx → EReal) (ix3 n j k) = qq (inputs m c) n j k := by
  have e : U7 m c (Proc.devRef .tc main_v73) = truncf .bf16 (concatenate (α := Ideal .f32) S262144x2x3456 1
      [⟨S262144x1x3456, broadcastInDim S262144x1x3456 ![0, 2] bcast_S262144x3456_S262144x1x3456_0_2 (U6 m c (Proc.devRef .tc main_v63) : FVec Ideal S262144x3456 .f32)⟩,
       ⟨S262144x1x3456, broadcastInDim S262144x1x3456 ![0, 2] bcast_S262144x3456_S262144x1x3456_0_2 (U6 m c (Proc.devRef .tc main_v69) : FVec Ideal S262144x3456 .f32)⟩]
      concatenates_S262144x1x3456_S262144x1x3456_S262144x2x3456_d1) bitsLt_bf16_f32 := by
    unfold U7
    simp only [StableHlo.after_cons, StableHlo.after_nil]
    repeat (first
      | rw [StableHlo.unary_result] | rw [StableHlo.binary_result] | rw [StableHlo.reshape_result]
      | (rw [StableHlo.unary_result_ne]; rotate_left; decide)
      | (rw [StableHlo.reshape_result_ne]; rotate_left; decide)
      | (rw [StableHlo.binary_result_ne]; rotate_left; decide))
    try rfl
  rw [e]
  pointwise
  rcases (show j = 0 ∨ j = 1 by fin_cases j; exacts [Or.inl rfl, Or.inr rfl]) with rfl | rfl
  · rw [dif_pos (by decide)]; exact U6_dg m c n k
  · rw [dif_neg (by decide)]; exact U6_du m c n k

/-! ## The results -/

theorem regroup (f : ℕ → EReal) : ∑ K ∈ Finset.range 6912, f K = ∑ k ∈ Finset.range 3456, (f (gam k) + f (gam k + 128)) := by
  rw [show 6912 = 27 * 256 from rfl, show 3456 = 27 * 128 from rfl, Finset.sum_range_mul_split, Finset.sum_range_mul_split]
  refine Finset.sum_congr rfl fun a _ => ?_
  rw [show 256 = 128 + 128 from rfl, Finset.sum_range_add, ← Finset.sum_add_distrib]
  refine Finset.sum_congr rfl fun b hb => ?_
  have hb := Finset.mem_range.mp hb
  have e : gam (a * 128 + b) = a * 256 + b := by unfold gam; omega
  rw [e, show a * 256 + (128 + b) = a * 256 + b + 128 by omega]

theorem U7_v74 (n : Fin 262144) (h : Fin 1280) :
    (U7 m c (Proc.devRef .tc main_v74) : (Sh 262144 1280).Idx → EReal) (ix2 n h) = (inputs m c).dx n h := by
  have e : U7 m c (Proc.devRef .tc main_v74) = (Host.dotGeneral (φ₁ := .bf16) (φ₂ := .bf16) dot_S262144x2x3456_S1280x2x3456_S262144x1280_21_21_0_0_n_n none
      (U7 m c (Proc.devRef .tc main_v73) : FVec Ideal S262144x2x3456 .bf16) (U6 m c (Proc.devRef .tc main_v6) : FVec Ideal S1280x2x3456 .bf16) : FVec Ideal S262144x1280 .f32) := by
    unfold U7; after_results_simp
  rw [e, keep62 m c (b := main_v6) (by decide +kernel) (by decide +kernel) (by decide +kernel) (by decide +kernel) (by decide +kernel)]
  refine (dot74 (U7_v73 m c) (U1_v6 m c) n h).trans ?_
  unfold Args.dx
  rw [regroup]
  exact Finset.sum_congr rfl fun k _ => by rw [qq_gate, qq_up, G_gam, G_gam_up]

theorem value_dx (b : Fin 2) (s : Fin 131072) (h : Fin 1280) :
    (U7 m c (Proc.devRef .tc main_v78) : (Sh3 2 131072 1280).Idx → EReal) (ix3 b s h) = (inputs m c).dx (131072 * b.val + s.val) h.val := by
  have e : U7 m c (Proc.devRef .tc main_v78) = shapeCast S2x131072x1280 (truncf (F := Ideal) .bf16
      (U7 m c (Proc.devRef .tc main_v74) : FVec Ideal S262144x1280 .f32) bitsLt_bf16_f32) shapeCasts_S262144x1280_S2x131072x1280 := by
    unfold U7; after_results_simp; rfl
  rw [e]
  pointwise
  refine (U7_v74 m c ⟨b.val * 131072 + s.val, by omega⟩ h).trans ?_
  rw [Nat.mul_comm 131072 b.val]

theorem value_dw (h : Fin 1280) (j : Fin 2) (k : Fin 3456) :
    (U7 m c (Proc.devRef .tc main_v76) : (Sh3 1280 2 3456).Idx → EReal) (ix3 h j k)
      = (inputs m c).agu h.val (256 * (k.val / 128) + 128 * j.val + k.val % 128) := by
  have e : U7 m c (Proc.devRef .tc main_v76) = (Host.dotGeneral (φ₁ := .bf16) (φ₂ := .bf16) dot_S262144x1280_S262144x2x3456_S1280x2x3456_0_0_1_12_n_n none
      (U6 m c (Proc.devRef .tc main_v19) : FVec Ideal S262144x1280 .bf16) (U7 m c (Proc.devRef .tc main_v73) : FVec Ideal S262144x2x3456 .bf16) : FVec Ideal S1280x2x3456 .f32) := by
    unfold U7; after_results_simp
  rw [e, keep62 m c (b := main_v19) (by decide +kernel) (by decide +kernel) (by decide +kernel) (by decide +kernel) (by decide +kernel)]
  refine (dot76 (U1_v19 m c) (U7_v73 m c) h j k).trans ?_
  unfold Args.agu
  exact Finset.sum_congr rfl fun n _ => congrArg ((inputs m c).X n h * ·) (qq_col (inputs m c) n j.val k.val j.isLt)

theorem value_dd (f : Fin 3456) (h : Fin 1280) :
    (U7 m c (Proc.devRef .tc main_v77) : (Sh 3456 1280).Idx → EReal) (ix2 f h) = (inputs m c).adn h.val f.val := by
  have e : U7 m c (Proc.devRef .tc main_v77) = (Host.dotGeneral (φ₁ := .bf16) (φ₂ := .bf16) dot_S262144x3456_S262144x1280_S3456x1280_0_0_1_1_n_n none
      (U6 m c (Proc.devRef .tc main_v47) : FVec Ideal S262144x3456 .bf16) (U6 m c (Proc.devRef .tc main_v26) : FVec Ideal S262144x1280 .bf16) : FVec Ideal S3456x1280 .f32) := by
    unfold U7; after_results_simp
  rw [e, keep62 m c (b := main_v26) (by decide +kernel) (by decide +kernel) (by decide +kernel) (by decide +kernel) (by decide +kernel)]
  exact dot77 (U6_hid m c) (U1_v26 m c) f h

end Cert.ReferenceIdeal.Val
-- ==== Proof.Value.lean ====
/-
  The two idealised programs' results are equal: both are the same three sums over the arguments.
-/
module

public import proofs.«01_k».proof.Defs
public import proofs.«01_k».proof.Proof.IdealFinal
public import proofs.«01_k».proof.Proof.RefVal2

@[expose] public section

set_option maxRecDepth 16384
set_option maxHeartbeats 2000000

noncomputable section

namespace Cert.ReferenceIdeal.Val

open Cert.ReferenceIdeal Cert.ReferenceIdeal.Gen
open Cert.KernelIdeal.Point (Args Sh Sh3)
open Idealize.ShloMosaic Idealize.ShloMosaic.TcCoe

theorem ext3 {a b c : ℕ} {f g : (Sh3 a b c).Idx → EReal} (h : ∀ i j k, f (ix3 i j k) = g (ix3 i j k)) : f = g :=
  funext fun i => by rw [eq_ix3 i]; exact h _ _ _
theorem ext2 {a b : ℕ} {f g : (Sh a b).Idx → EReal} (h : ∀ i j, f (ix2 i j) = g (ix2 i j)) : f = g :=
  funext fun i => by rw [eq_ix2 i]; exact h _ _

section
variable (m : (ℓ : Loc Cert.KernelIdeal.nD Cert.KernelIdeal.τ Cert.KernelIdeal.sig) → Buf (Elt Ideal) ℓ)
  (m' : (ℓ : Loc nD τ sig) → Buf (Elt Ideal) ℓ) (c : Dev nD)

theorem same_dx (h : inputs m' c = Cert.KernelIdeal.Run.inputs m c) :
    (U7 m' c (Proc.devRef .tc main_v78) : (Sh3 2 131072 1280).Idx → EReal)
      = Cert.KernelIdeal.Run.W7 m c (Proc.devRef .tc Cert.KernelIdeal.main_v22) :=
  ext3 fun i j k => (value_dx m' c i j k).trans ((congrArg (fun A : Args => A.dx (131072 * i.val + j.val) k.val) h).trans
    (Cert.KernelIdeal.Run.value_dx m c i j k).symm)

theorem same_dw (h : inputs m' c = Cert.KernelIdeal.Run.inputs m c) :
    (U7 m' c (Proc.devRef .tc main_v76) : (Sh3 1280 2 3456).Idx → EReal)
      = Cert.KernelIdeal.Run.W7 m c (Proc.devRef .tc Cert.KernelIdeal.main_v19) :=
  ext3 fun i j k => (value_dw m' c i j k).trans ((congrArg (fun A : Args => A.agu i.val (256 * (k.val / 128) + 128 * j.val + k.val % 128)) h).trans
    (Cert.KernelIdeal.Run.value_dw m c i j k).symm)

theorem same_dd (h : inputs m' c = Cert.KernelIdeal.Run.inputs m c) :
    (U7 m' c (Proc.devRef .tc main_v77) : (Sh 3456 1280).Idx → EReal)
      = Cert.KernelIdeal.Run.W7 m c (Proc.devRef .tc Cert.KernelIdeal.main_v21) :=
  ext2 fun i j => (value_dd m' c i j).trans ((congrArg (fun A : Args => A.adn j.val i.val) h).trans
    (Cert.KernelIdeal.Run.value_dd m c i j).symm)
end

variable (m : (ℓ : Loc nD τ sig) → Buf (Elt Ideal) ℓ) (ρ : Dev nD → PrngReg)

/-- The reference's run: the three results and the arguments. -/
theorem run_values : θ_run defs (onTc (τ := τ) (main (F := Ideal))) ⟨m, fun _ => 0, ρ⟩ (fun r => ∀ c : Dev nD,
      r.2.mem ((c.tc : Thread nD τ).loc main_v78) = U7 m c (Proc.devRef .tc main_v78)
      ∧ r.2.mem ((c.tc : Thread nD τ).loc main_v76) = U7 m c (Proc.devRef .tc main_v76)
      ∧ r.2.mem ((c.tc : Thread nD τ).loc main_v77) = U7 m c (Proc.devRef .tc main_v77)) :=
  (θ_run defs _ _).mono (fun _ h c =>
    ⟨((h c).2 main_v78 (Pipeline.mem_restRefs_of main_v78 (by decide) (by decide))).trans (tail_eq m c main_v78),
      ((h c).2 main_v76 (Pipeline.mem_restRefs_of main_v76 (by decide) (by decide))).trans (tail_eq m c main_v76),
      ((h c).2 main_v77 (Pipeline.mem_restRefs_of main_v77 (by decide) (by decide))).trans (tail_eq m c main_v77)⟩) (run_main m ρ)

end Cert.ReferenceIdeal.Val

namespace Cert.Proof

open Idealize.ShloMosaic Idealize.SL.Sem

/-- The idealised kernel and the idealised reference end with equal results. -/
theorem algebraic : Cert.algebraic_KernelIdeal_ReferenceIdeal (hKernelIdeal := Cert.KernelIdeal.Gen.facts) (hReferenceIdeal := Cert.ReferenceIdeal.Gen.facts) := by
  intro m g m' g' _ ha
  have hin : ∀ c, Cert.ReferenceIdeal.Val.inputs m' c = Cert.KernelIdeal.Run.inputs m c := fun c => by
    obtain ⟨h0, h1, h2, h3, h4, h5, h6, h7⟩ := ha c
    unfold Cert.ReferenceIdeal.Val.inputs Cert.KernelIdeal.Run.inputs
    congr 1
  refine ⟨fun c => Cert.KernelIdeal.Run.W7 m c (Proc.devRef .tc Cert.KernelIdeal.main_v22),
    fun c => Cert.KernelIdeal.Run.W7 m c (Proc.devRef .tc Cert.KernelIdeal.main_v19),
    fun c => Cert.KernelIdeal.Run.W7 m c (Proc.devRef .tc Cert.KernelIdeal.main_v21), ?_, ?_⟩
  · exact (θ_run _ _ _).mono (fun _ h c =>
      ⟨h.1 c (Proc.devRef .tc Cert.KernelIdeal.main_v22) (Finset.mem_filter.mpr ⟨StableHlo.devRef_mem_tcRefs Cert.KernelIdeal.main_v22, by decide⟩),
        h.1 c (Proc.devRef .tc Cert.KernelIdeal.main_v19) (Finset.mem_filter.mpr ⟨StableHlo.devRef_mem_tcRefs Cert.KernelIdeal.main_v19, by decide⟩),
        h.1 c (Proc.devRef .tc Cert.KernelIdeal.main_v21) (Finset.mem_filter.mpr ⟨StableHlo.devRef_mem_tcRefs Cert.KernelIdeal.main_v21, by decide⟩),
        Cert.KernelIdeal.Run.args m (h.1 c)⟩) (Cert.KernelIdeal.Run.run_main m g)
  · refine (θ_run _ _ _).mono (fun _ h c => ?_) (θ_run_and (Cert.ReferenceIdeal.Val.run_values m' g') (Cert.ReferenceIdeal.Gen.unchanged m' g'))
    obtain ⟨hv, hu⟩ := h
    obtain ⟨e0, e1, e2⟩ := hv c
    exact ⟨e0.trans (Cert.ReferenceIdeal.Val.same_dx m m' c (hin c)), e1.trans (Cert.ReferenceIdeal.Val.same_dw m m' c (hin c)),
      e2.trans (Cert.ReferenceIdeal.Val.same_dd m m' c (hin c)), hu c⟩

end Cert.Proof

end
-- ==== Proof.lean ====
/-
  The proof of the claim: the two printed kernels and the reference run and leave the machine quiescent with their
  arguments unchanged, the idealised kernel is the kernel's own text, and it computes what the idealised reference computes.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Frame
public import proofs.«01_k».proof.Proof.KernRun
public import proofs.«01_k».proof.Proof.IdealRun
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => (θ_run _ _ _).mono (fun _ h => ⟨fun c => Cert.Kernel.Run.args m (h.1 c), h.2⟩) (Cert.Kernel.Run.run_main m ρ),
  fun m ρ _ => (θ_run _ _ _).mono (fun _ h => ⟨fun c => Cert.KernelIdeal.Run.args m (h.1 c), h.2⟩) (Cert.KernelIdeal.Run.run_main m ρ),
  fun m ρ _ => Cert.ReferenceIdeal.Gen.frame m ρ,
  trivial,
  algebraic⟩

end Cert.Proof

end
